-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_finite [hPre_gate_finite : Cert.Pre_gate_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_finite [hPre_gate_finite : Cert.Pre_gate_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_scores_finite [hPre_scores_finite : Cert.Pre_scores_finite.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_scores_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).1 = (fun _ => 1#1)
    ∧ (Cert.Pre_scores_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.1 = (fun _ => 1#1)
    ∧ (Cert.Pre_scores_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2.1 = (fun _ => 1#1)
    ∧ (Cert.Pre_scores_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_scores_finite [hPre_scores_finite : Cert.Pre_scores_finite.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_scores_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).1 = (fun _ => 1#1)
    ∧ (Cert.Pre_scores_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.1 = (fun _ => 1#1)
    ∧ (Cert.Pre_scores_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2.1 = (fun _ => 1#1)
    ∧ (Cert.Pre_scores_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2.2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gate_finite [hKernelIdeal : Cert.KernelIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gate_finite [hReferenceIdeal : Cert.ReferenceIdeal.Facts] [hPre_gate_finite : Cert.Pre_gate_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Kernel15Ideal_pre_scores_finite [hKernel15Ideal : Cert.Kernel15Ideal.Facts] [hPre_scores_finite : Cert.Pre_scores_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_scores_finite m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Reference15Ideal_pre_scores_finite [hReference15Ideal : Cert.Reference15Ideal.Facts] [hPre_scores_finite : Cert.Pre_scores_finite.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_scores_finite m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def preserves_Kernel_KernelIdeal : Prop :=
  True

def algebraic_KernelIdeal_ReferenceIdeal_pre_gate_finite [hKernelIdeal : Cert.KernelIdeal.Facts] [hReferenceIdeal : Cert.ReferenceIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference3Ideal [hKernel4Ideal : Cert.Kernel4Ideal.Facts] [hReference3Ideal : Cert.Reference3Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel4Ideal m →
    (∀ c : Dev Cert.Kernel4Ideal.nD,
      m' ((c.tc : Thread Cert.Reference3Ideal.nD Cert.Reference3Ideal.τ).loc Cert.Reference3Ideal.main_arg0) = m ((c.tc : Thread Cert.Kernel4Ideal.nD Cert.Kernel4Ideal.τ).loc Cert.Kernel4Ideal.main_arg0)
      ∧ m' ((c.tc : Thread Cert.Reference3Ideal.nD Cert.Reference3Ideal.τ).loc Cert.Reference3Ideal.main_arg1) = m ((c.tc : Thread Cert.Kernel4Ideal.nD Cert.Kernel4Ideal.τ).loc Cert.Kernel4Ideal.main_arg1)
      ∧ m' ((c.tc : Thread Cert.Reference3Ideal.nD Cert.Reference3Ideal.τ).loc Cert.Reference3Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v17)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v42) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v20_0)) (v1 : (c : Dev Cert.Kernel6Ideal.nD) → Buf (Elt Ideal) ((c.tc : Thread Cert.Kernel6Ideal.nD Cert.Kernel6Ideal.τ).loc Cert.Kernel6Ideal.main_v20_1)) (v2 : (c : Dev Cert.Kernel6Ideal.nD) → Buf (Elt Ideal) ((c.tc : Thread Cert.Kernel6Ideal.nD Cert.Kernel6Ideal.τ).loc Cert.Kernel6Ideal.main_v20_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v20_0) = v0 c
          ∧ r.2.mem ((c.tc : Thread Cert.Kernel6Ideal.nD Cert.Kernel6Ideal.τ).loc Cert.Kernel6Ideal.main_v20_1) = v1 c
          ∧ r.2.mem ((c.tc : Thread Cert.Kernel6Ideal.nD Cert.Kernel6Ideal.τ).loc Cert.Kernel6Ideal.main_v20_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_v25) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_v2) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v15)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v15) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v15)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v15) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v7_0)) (v1 : (c : Dev Cert.Kernel14Ideal.nD) → Buf (Elt Ideal) ((c.tc : Thread Cert.Kernel14Ideal.nD Cert.Kernel14Ideal.τ).loc Cert.Kernel14Ideal.main_v7_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v7_0) = v0 c
          ∧ r.2.mem ((c.tc : Thread Cert.Kernel14Ideal.nD Cert.Kernel14Ideal.τ).loc Cert.Kernel14Ideal.main_v7_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v15) = v0 c
          ∧ r.2.mem ((c.tc : Thread Cert.Reference14Ideal.nD Cert.Reference14Ideal.τ).loc Cert.Reference14Ideal.main_v1) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  IdealRules.named_const.Statement Cert.Kernel15Ideal.κ "mask" .f32 0xF149F2CA#32 ⊥

def algebraic_Kernel15Ideal_Reference15Ideal_pre_scores_finite [hKernel15Ideal : Cert.Kernel15Ideal.Facts] [hReference15Ideal : Cert.Reference15Ideal.Facts] [hPre_scores_finite : Cert.Pre_scores_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_scores_finite m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v13_0)) (v1 : (c : Dev Cert.Kernel15Ideal.nD) → Buf (Elt Ideal) ((c.tc : Thread Cert.Kernel15Ideal.nD Cert.Kernel15Ideal.τ).loc Cert.Kernel15Ideal.main_v13_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v13_0) = v0 c
          ∧ r.2.mem ((c.tc : Thread Cert.Kernel15Ideal.nD Cert.Kernel15Ideal.τ).loc Cert.Kernel15Ideal.main_v13_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v29) = v0 c
          ∧ r.2.mem ((c.tc : Thread Cert.Reference15Ideal.nD Cert.Reference15Ideal.τ).loc Cert.Reference15Ideal.main_v27) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v12_0)) (v1 : (c : Dev Cert.Kernel16Ideal.nD) → Buf (Elt Ideal) ((c.tc : Thread Cert.Kernel16Ideal.nD Cert.Kernel16Ideal.τ).loc Cert.Kernel16Ideal.main_v12_1)) (v2 : (c : Dev Cert.Kernel16Ideal.nD) → Buf (Elt Ideal) ((c.tc : Thread Cert.Kernel16Ideal.nD Cert.Kernel16Ideal.τ).loc Cert.Kernel16Ideal.main_v12_2)) (v3 : (c : Dev Cert.Kernel16Ideal.nD) → Buf (Elt Ideal) ((c.tc : Thread Cert.Kernel16Ideal.nD Cert.Kernel16Ideal.τ).loc Cert.Kernel16Ideal.main_v12_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v12_0) = v0 c
          ∧ r.2.mem ((c.tc : Thread Cert.Kernel16Ideal.nD Cert.Kernel16Ideal.τ).loc Cert.Kernel16Ideal.main_v12_1) = v1 c
          ∧ r.2.mem ((c.tc : Thread Cert.Kernel16Ideal.nD Cert.Kernel16Ideal.τ).loc Cert.Kernel16Ideal.main_v12_2) = v2 c
          ∧ r.2.mem ((c.tc : Thread Cert.Kernel16Ideal.nD Cert.Kernel16Ideal.τ).loc Cert.Kernel16Ideal.main_v12_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v12_0)) (v1 : (c : Dev Cert.Kernel17Ideal.nD) → Buf (Elt Ideal) ((c.tc : Thread Cert.Kernel17Ideal.nD Cert.Kernel17Ideal.τ).loc Cert.Kernel17Ideal.main_v12_1)) (v2 : (c : Dev Cert.Kernel17Ideal.nD) → Buf (Elt Ideal) ((c.tc : Thread Cert.Kernel17Ideal.nD Cert.Kernel17Ideal.τ).loc Cert.Kernel17Ideal.main_v12_2)) (v3 : (c : Dev Cert.Kernel17Ideal.nD) → Buf (Elt Ideal) ((c.tc : Thread Cert.Kernel17Ideal.nD Cert.Kernel17Ideal.τ).loc Cert.Kernel17Ideal.main_v12_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v12_0) = v0 c
          ∧ r.2.mem ((c.tc : Thread Cert.Kernel17Ideal.nD Cert.Kernel17Ideal.τ).loc Cert.Kernel17Ideal.main_v12_1) = v1 c
          ∧ r.2.mem ((c.tc : Thread Cert.Kernel17Ideal.nD Cert.Kernel17Ideal.τ).loc Cert.Kernel17Ideal.main_v12_2) = v2 c
          ∧ r.2.mem ((c.tc : Thread Cert.Kernel17Ideal.nD Cert.Kernel17Ideal.τ).loc Cert.Kernel17Ideal.main_v12_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v5) = v2 c
          ∧ r.2.mem ((c.tc : Thread Cert.Reference17Ideal.nD Cert.Reference17Ideal.τ).loc Cert.Reference17Ideal.main_v11) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v12_0)) (v1 : (c : Dev Cert.Kernel18Ideal.nD) → Buf (Elt Ideal) ((c.tc : Thread Cert.Kernel18Ideal.nD Cert.Kernel18Ideal.τ).loc Cert.Kernel18Ideal.main_v12_1)) (v2 : (c : Dev Cert.Kernel18Ideal.nD) → Buf (Elt Ideal) ((c.tc : Thread Cert.Kernel18Ideal.nD Cert.Kernel18Ideal.τ).loc Cert.Kernel18Ideal.main_v12_2)) (v3 : (c : Dev Cert.Kernel18Ideal.nD) → Buf (Elt Ideal) ((c.tc : Thread Cert.Kernel18Ideal.nD Cert.Kernel18Ideal.τ).loc Cert.Kernel18Ideal.main_v12_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v12_0) = v0 c
          ∧ r.2.mem ((c.tc : Thread Cert.Kernel18Ideal.nD Cert.Kernel18Ideal.τ).loc Cert.Kernel18Ideal.main_v12_1) = v1 c
          ∧ r.2.mem ((c.tc : Thread Cert.Kernel18Ideal.nD Cert.Kernel18Ideal.τ).loc Cert.Kernel18Ideal.main_v12_2) = v2 c
          ∧ r.2.mem ((c.tc : Thread Cert.Kernel18Ideal.nD Cert.Kernel18Ideal.τ).loc Cert.Kernel18Ideal.main_v12_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v12_0)) (v1 : (c : Dev Cert.Kernel19Ideal.nD) → Buf (Elt Ideal) ((c.tc : Thread Cert.Kernel19Ideal.nD Cert.Kernel19Ideal.τ).loc Cert.Kernel19Ideal.main_v12_1)) (v2 : (c : Dev Cert.Kernel19Ideal.nD) → Buf (Elt Ideal) ((c.tc : Thread Cert.Kernel19Ideal.nD Cert.Kernel19Ideal.τ).loc Cert.Kernel19Ideal.main_v12_2)) (v3 : (c : Dev Cert.Kernel19Ideal.nD) → Buf (Elt Ideal) ((c.tc : Thread Cert.Kernel19Ideal.nD Cert.Kernel19Ideal.τ).loc Cert.Kernel19Ideal.main_v12_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v12_0) = v0 c
          ∧ r.2.mem ((c.tc : Thread Cert.Kernel19Ideal.nD Cert.Kernel19Ideal.τ).loc Cert.Kernel19Ideal.main_v12_1) = v1 c
          ∧ r.2.mem ((c.tc : Thread Cert.Kernel19Ideal.nD Cert.Kernel19Ideal.τ).loc Cert.Kernel19Ideal.main_v12_2) = v2 c
          ∧ r.2.mem ((c.tc : Thread Cert.Kernel19Ideal.nD Cert.Kernel19Ideal.τ).loc Cert.Kernel19Ideal.main_v12_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v12_0)) (v1 : (c : Dev Cert.Kernel20Ideal.nD) → Buf (Elt Ideal) ((c.tc : Thread Cert.Kernel20Ideal.nD Cert.Kernel20Ideal.τ).loc Cert.Kernel20Ideal.main_v12_1)) (v2 : (c : Dev Cert.Kernel20Ideal.nD) → Buf (Elt Ideal) ((c.tc : Thread Cert.Kernel20Ideal.nD Cert.Kernel20Ideal.τ).loc Cert.Kernel20Ideal.main_v12_2)) (v3 : (c : Dev Cert.Kernel20Ideal.nD) → Buf (Elt Ideal) ((c.tc : Thread Cert.Kernel20Ideal.nD Cert.Kernel20Ideal.τ).loc Cert.Kernel20Ideal.main_v12_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v12_0) = v0 c
          ∧ r.2.mem ((c.tc : Thread Cert.Kernel20Ideal.nD Cert.Kernel20Ideal.τ).loc Cert.Kernel20Ideal.main_v12_1) = v1 c
          ∧ r.2.mem ((c.tc : Thread Cert.Kernel20Ideal.nD Cert.Kernel20Ideal.τ).loc Cert.Kernel20Ideal.main_v12_2) = v2 c
          ∧ r.2.mem ((c.tc : Thread Cert.Kernel20Ideal.nD Cert.Kernel20Ideal.τ).loc Cert.Kernel20Ideal.main_v12_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v12_0)) (v1 : (c : Dev Cert.Kernel21Ideal.nD) → Buf (Elt Ideal) ((c.tc : Thread Cert.Kernel21Ideal.nD Cert.Kernel21Ideal.τ).loc Cert.Kernel21Ideal.main_v12_1)) (v2 : (c : Dev Cert.Kernel21Ideal.nD) → Buf (Elt Ideal) ((c.tc : Thread Cert.Kernel21Ideal.nD Cert.Kernel21Ideal.τ).loc Cert.Kernel21Ideal.main_v12_2)) (v3 : (c : Dev Cert.Kernel21Ideal.nD) → Buf (Elt Ideal) ((c.tc : Thread Cert.Kernel21Ideal.nD Cert.Kernel21Ideal.τ).loc Cert.Kernel21Ideal.main_v12_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v12_0) = v0 c
          ∧ r.2.mem ((c.tc : Thread Cert.Kernel21Ideal.nD Cert.Kernel21Ideal.τ).loc Cert.Kernel21Ideal.main_v12_1) = v1 c
          ∧ r.2.mem ((c.tc : Thread Cert.Kernel21Ideal.nD Cert.Kernel21Ideal.τ).loc Cert.Kernel21Ideal.main_v12_2) = v2 c
          ∧ r.2.mem ((c.tc : Thread Cert.Kernel21Ideal.nD Cert.Kernel21Ideal.τ).loc Cert.Kernel21Ideal.main_v12_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_arg0) = v0 c
          ∧ r.2.mem ((c.tc : Thread Cert.Reference22Ideal.nD Cert.Reference22Ideal.τ).loc Cert.Reference22Ideal.main_v23) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v10) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_gate_finite : Cert.Pre_gate_finite.Facts) (hPre_scores_finite : Cert.Pre_scores_finite.Facts),
    quiescent_Kernel (hKernel := hKernel)
    ∧ quiescent_KernelIdeal (hKernelIdeal := hKernelIdeal)
    ∧ quiescent_KernelIdeal_pre_gate_finite (hKernelIdeal := hKernelIdeal) (hPre_gate_finite := hPre_gate_finite)
    ∧ quiescent_ReferenceIdeal (hReferenceIdeal := hReferenceIdeal)
    ∧ quiescent_ReferenceIdeal_pre_gate_finite (hReferenceIdeal := hReferenceIdeal) (hPre_gate_finite := hPre_gate_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_scores_finite (hKernel15Ideal := hKernel15Ideal) (hPre_scores_finite := hPre_scores_finite)
    ∧ quiescent_Reference15Ideal (hReference15Ideal := hReference15Ideal)
    ∧ quiescent_Reference15Ideal_pre_scores_finite (hReference15Ideal := hReference15Ideal) (hPre_scores_finite := hPre_scores_finite)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_gate_finite (hKernelIdeal := hKernelIdeal) (hReferenceIdeal := hReferenceIdeal) (hPre_gate_finite := hPre_gate_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference3Ideal (hKernel4Ideal := hKernel4Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_scores_finite (hKernel15Ideal := hKernel15Ideal) (hReference15Ideal := hReference15Ideal) (hPre_scores_finite := hPre_scores_finite)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_gate_finite.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

class Facts : Prop where
  bcast_S_S8192x2048 : S_.BroadcastsInDim S8192x2048 (![] : Fin 0 → Fin S8192x2048.rank)
  bcast_S_S5632x2048 : S_.BroadcastsInDim S5632x2048 (![] : Fin 0 → Fin S5632x2048.rank)
  bcast_S_S8192x5632 : S_.BroadcastsInDim S8192x5632 (![] : Fin 0 → Fin S8192x5632.rank)

variable [Facts]

def fn {F : FTy → Type} [FloatOps F] (main_arg0 : FVec F S8192x2048 .f32) (main_arg1 : FVec F S5632x2048 .f32) (main_arg2 : FVec F S8192x5632 .f32) (main_arg3 : FVec F S8192x5632 .f32) : IVec S8192x2048 1 × IVec S5632x2048 1 × IVec S8192x5632 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S5632x2048 .f32 := Host.absf main_arg1
  let main_cst_0 : FVec F S_ .f32 := constant S_ .f32 0x7F800000#32
  let main_v4 : FVec F S5632x2048 .f32 := broadcastInDim S5632x2048 ![] bcast_S_S5632x2048 main_cst_0
  let main_v5 : IVec S5632x2048 1 := cmpf .olt main_v3 main_v4
  let main_v6 : FVec F S8192x5632 .f32 := Host.absf main_arg3
  let main_cst_1 : FVec F S_ .f32 := constant S_ .f32 0x7F800000#32
  let main_v7 : FVec F S8192x5632 .f32 := broadcastInDim S8192x5632 ![] bcast_S_S8192x5632 main_cst_1
  let main_v8 : IVec S8192x5632 1 := cmpf .olt main_v6 main_v7
  (main_v2, main_v5, main_v8)
-- ==== Pre_scores_finite.lean ====
abbrev S8192x8x128 : Shape := ⟨3, ![8192, 8, 128]⟩
abbrev S8192x8x64 : Shape := ⟨3, ![8192, 8, 64]⟩
abbrev S8192x64 : Shape := ⟨2, ![8192, 64]⟩
abbrev S_ : Shape := ⟨0, ![]⟩

class Facts : Prop where
  bcast_S_S8192x8x128 : S_.BroadcastsInDim S8192x8x128 (![] : Fin 0 → Fin S8192x8x128.rank)
  bcast_S_S8192x8x64 : S_.BroadcastsInDim S8192x8x64 (![] : Fin 0 → Fin S8192x8x64.rank)
  bcast_S_S8192x64 : S_.BroadcastsInDim S8192x64 (![] : Fin 0 → Fin S8192x64.rank)

variable [Facts]

def fn {F : FTy → Type} [FloatOps F] (main_arg0 : FVec F S8192x8x128 .f32) (main_arg1 : FVec F S8192x8x64 .f32) (main_arg2 : FVec F S8192x8x128 .f32) (main_arg3 : FVec F S8192x64 .f32) (main_arg4 : FVec F S8192x8x128 .f32) : IVec S8192x8x128 1 × IVec S8192x8x64 1 × IVec S8192x8x128 1 × IVec S8192x64 1 :=
  let main_v0 : FVec F S8192x8x128 .f32 := Host.absf main_arg0
  let main_cst : FVec F S_ .f32 := constant S_ .f32 0x7F800000#32
  let main_v1 : FVec F S8192x8x128 .f32 := broadcastInDim S8192x8x128 ![] bcast_S_S8192x8x128 main_cst
  let main_v2 : IVec S8192x8x128 1 := cmpf .olt main_v0 main_v1
  let main_v3 : FVec F S8192x8x64 .f32 := Host.absf main_arg1
  let main_cst_0 : FVec F S_ .f32 := constant S_ .f32 0x7F800000#32
  let main_v4 : FVec F S8192x8x64 .f32 := broadcastInDim S8192x8x64 ![] bcast_S_S8192x8x64 main_cst_0
  let main_v5 : IVec S8192x8x64 1 := cmpf .olt main_v3 main_v4
  let main_v6 : FVec F S8192x8x128 .f32 := Host.absf main_arg2
  let main_cst_1 : FVec F S_ .f32 := constant S_ .f32 0x7F800000#32
  let main_v7 : FVec F S8192x8x128 .f32 := broadcastInDim S8192x8x128 ![] bcast_S_S8192x8x128 main_cst_1
  let main_v8 : IVec S8192x8x128 1 := cmpf .olt main_v6 main_v7
  let main_v9 : FVec F S8192x64 .f32 := Host.absf main_arg3
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  (main_v2, main_v5, main_v8, main_v11)
-- ==== Kernel.lean ====
abbrev S8192x2048 : Shape := ⟨2, ![8192, 2048]⟩
abbrev S5632x2048 : Shape := ⟨2, ![5632, 2048]⟩
abbrev S8192x5632 : Shape := ⟨2, ![8192, 5632]⟩
abbrev S8x704x2048 : Shape := ⟨3, ![8, 704, 2048]⟩
abbrev S8192x8x704 : Shape := ⟨3, ![8192, 8, 704]⟩
abbrev S8x8192x704 : Shape := ⟨3, ![8, 8192, 704]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩

abbrev nBuf : Space → Nat
  | .hbm => 15
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S8192x5632, .f32⟩
  | .hbm, ⟨3, _⟩ => ⟨S8192x5632, .f32⟩
  | .hbm, ⟨4, _⟩ => ⟨S8192x2048, .bf16⟩
  | .hbm, ⟨5, _⟩ => ⟨S8x704x2048, .f32⟩
  | .hbm, ⟨6, _⟩ => ⟨S8x704x2048, .bf16⟩
  | .hbm, ⟨7, _⟩ => ⟨S8192x8x704, .f32⟩
  | .hbm, ⟨8, _⟩ => ⟨S8x8192x704, .f32⟩
  | .hbm, ⟨9, _⟩ => ⟨S8x8192x704, .bf16⟩
  | .hbm, ⟨10, _⟩ => ⟨S8192x8x704, .f32⟩
  | .hbm, ⟨11, _⟩ => ⟨S8x8192x704, .f32⟩
  | .hbm, ⟨12, _⟩ => ⟨S8x8192x704, .bf16⟩
  | .hbm, ⟨13, _⟩ => ⟨S8x8192x704, .bf16⟩
  | .hbm, ⟨14, _⟩ => ⟨S8x8192x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩
abbrev S8192x8x704 : Shape := ⟨3, ![8192, 8, 704]⟩
abbrev S8x8192x704 : Shape := ⟨3, ![8, 8192, 704]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S8192x5632, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x2048, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x8x704, .f32⟩
  | .hbm, ⟨27, _⟩ => ⟨S8x8192x704, .f32⟩
  | .hbm, ⟨28, _⟩ => ⟨S8x8192x704, .bf16⟩
  | .hbm, ⟨29, _⟩ => ⟨S8192x8x704, .f32⟩
  | .hbm, ⟨30, _⟩ => ⟨S8x8192x704, .f32⟩
  | .hbm, ⟨31, _⟩ => ⟨S8x8192x704, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel2.lean ====
abbrev S8192x5632 : Shape := ⟨2, ![8192, 5632]⟩
abbrev S8192x2048 : Shape := ⟨2, ![8192, 2048]⟩
abbrev S_ : Shape := ⟨0, ![]⟩
abbrev S8192x8x704 : Shape := ⟨3, ![8192, 8, 704]⟩
abbrev S8x8192x704 : Shape := ⟨3, ![8, 8192, 704]⟩
abbrev S8x704x2048 : Shape := ⟨3, ![8, 704, 2048]⟩
abbrev S1x2048x704 : Shape := ⟨3, ![1, 2048, 704]⟩
abbrev S2048x2048 : Shape := ⟨2, ![2048, 2048]⟩
abbrev S1x704x2048 : Shape := ⟨3, ![1, 704, 2048]⟩
abbrev S704x2048 : Shape := ⟨2, ![704, 2048]⟩
abbrev S2048x704 : Shape := ⟨2, ![2048, 704]⟩

abbrev nBuf : Space → Nat
  | .hbm => 18
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x2048, .f32⟩
  | .hbm, ⟨3, _⟩ => ⟨S8192x5632, .f32⟩
  | .hbm, ⟨4, _⟩ => ⟨S8192x5632, .f32⟩
  | .hbm, ⟨5, _⟩ => ⟨S_, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S8192x8x704, .f32⟩
  | .hbm, ⟨14, _⟩ => ⟨S8x8192x704, .f32⟩
  | .hbm, ⟨15, _⟩ => ⟨S8x8192x704, .bf16⟩
  | .hbm, ⟨16, _⟩ => ⟨S8192x2048, .bf16⟩
  | .hbm, ⟨17, _⟩ => ⟨S8x704x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x2048, .bf16⟩
  | .local _ .vmem, ⟨3, _⟩ => ⟨S2048x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S704x2048, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩
abbrev S8x704x2048 : Shape := ⟨3, ![8, 704, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x2048, .f32⟩
  | .hbm, ⟨3, _⟩ => ⟨S_, .f32⟩
  | .hbm, ⟨4, _⟩ => ⟨S5632x2048, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x2048, .f32⟩
  | .hbm, ⟨16, _⟩ => ⟨S2048x5632, .f32⟩
  | .hbm, ⟨17, _⟩ => ⟨S5632x2048, .f32⟩
  | .hbm, ⟨18, _⟩ => ⟨S8x704x2048, .f32⟩
  | .hbm, ⟨19, _⟩ => ⟨S8x704x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x8x704 : Shape := ⟨3, ![8192, 8, 704]⟩
abbrev S8x8192x704 : Shape := ⟨3, ![8, 8192, 704]⟩
abbrev S8x2048x704 : Shape := ⟨3, ![8, 2048, 704]⟩
abbrev S2048x2048 : Shape := ⟨2, ![2048, 2048]⟩
abbrev S1x2048x704 : Shape := ⟨3, ![1, 2048, 704]⟩
abbrev S2048x704 : Shape := ⟨2, ![2048, 704]⟩

abbrev nBuf : Space → Nat
  | .hbm => 24
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x5632, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | .hbm, ⟨20, _⟩ => ⟨S8192x8x704, .f32⟩
  | .hbm, ⟨21, _⟩ => ⟨S8x8192x704, .f32⟩
  | .hbm, ⟨22, _⟩ => ⟨S8x8192x704, .bf16⟩
  | .hbm, ⟨23, _⟩ => ⟨S8x2048x704, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S2048x704, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x2048 : Shape := ⟨2, ![8192, 2048]⟩
abbrev S2048 : Shape := ⟨1, ![2048]⟩
abbrev S8192x5632 : Shape := ⟨2, ![8192, 5632]⟩
abbrev S_ : Shape := ⟨0, ![]⟩
abbrev S2048x5632 : Shape := ⟨2, ![2048, 5632]⟩
abbrev S8192 : Shape := ⟨1, ![8192]⟩
abbrev S8192x1 : Shape := ⟨2, ![8192, 1]⟩
abbrev S1x2048 : Shape := ⟨2, ![1, 2048]⟩
abbrev S5632x2048 : Shape := ⟨2, ![5632, 2048]⟩
abbrev S2048x8x704 : Shape := ⟨3, ![2048, 8, 704]⟩
abbrev S8x2048x704 : Shape := ⟨3, ![8, 2048, 704]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x5632, .f32⟩
  | .hbm, ⟨3, _⟩ => ⟨S_, .f32⟩
  | .hbm, ⟨4, _⟩ => ⟨S2048x5632, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x5632, .f32⟩
  | .hbm, ⟨22, _⟩ => ⟨S5632x2048, .f32⟩
  | .hbm, ⟨23, _⟩ => ⟨S2048x5632, .f32⟩
  | .hbm, ⟨24, _⟩ => ⟨S2048x8x704, .f32⟩
  | .hbm, ⟨25, _⟩ => ⟨S8x2048x704, .f32⟩
  | .hbm, ⟨26, _⟩ => ⟨S8x2048x704, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x8x704 : Shape := ⟨3, ![8192, 8, 704]⟩
abbrev S8x8192x704 : Shape := ⟨3, ![8, 8192, 704]⟩
abbrev S8x2048x704 : Shape := ⟨3, ![8, 2048, 704]⟩
abbrev S2048x2048 : Shape := ⟨2, ![2048, 2048]⟩
abbrev S1x2048x704 : Shape := ⟨3, ![1, 2048, 704]⟩
abbrev S2048x704 : Shape := ⟨2, ![2048, 704]⟩

abbrev nBuf : Space → Nat
  | .hbm => 24
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x5632, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | .hbm, ⟨20, _⟩ => ⟨S8192x8x704, .f32⟩
  | .hbm, ⟨21, _⟩ => ⟨S8x8192x704, .f32⟩
  | .hbm, ⟨22, _⟩ => ⟨S8x8192x704, .bf16⟩
  | .hbm, ⟨23, _⟩ => ⟨S8x2048x704, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S2048x704, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Kernel5.lean ====
abbrev S8192x2048 : Shape := ⟨2, ![8192, 2048]⟩
abbrev S2048 : Shape := ⟨1, ![2048]⟩
abbrev S2048x5632 : Shape := ⟨2, ![2048, 5632]⟩
abbrev S8192x5632 : Shape := ⟨2, ![8192, 5632]⟩
abbrev S8192x8x704 : Shape := ⟨3, ![8192, 8, 704]⟩
abbrev S8x8192x704 : Shape := ⟨3, ![8, 8192, 704]⟩
abbrev S2048x8x704 : Shape := ⟨3, ![2048, 8, 704]⟩
abbrev S8x2048x704 : Shape := ⟨3, ![8, 2048, 704]⟩
abbrev S1x2048 : Shape := ⟨2, ![1, 2048]⟩
abbrev S1x512x704 : Shape := ⟨3, ![1, 512, 704]⟩
abbrev S1x2048x704 : Shape := ⟨3, ![1, 2048, 704]⟩
abbrev S512x2048 : Shape := ⟨2, ![512, 2048]⟩
abbrev S512x704 : Shape := ⟨2, ![512, 704]⟩
abbrev S2048x704 : Shape := ⟨2, ![2048, 704]⟩
abbrev S256x2048 : Shape := ⟨2, ![256, 2048]⟩
abbrev S256 : Shape := ⟨1, ![256]⟩
abbrev S256x1 : Shape := ⟨2, ![256, 1]⟩

abbrev nBuf : Space → Nat
  | .hbm => 22
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S8192x5632, .f32⟩
  | .hbm, ⟨5, _⟩ => ⟨S8192x5632, .f32⟩
  | .hbm, ⟨6, _⟩ => ⟨S8192x2048, .f32⟩
  | .hbm, ⟨7, _⟩ => ⟨S8192x8x704, .f32⟩
  | .hbm, ⟨8, _⟩ => ⟨S8x8192x704, .f32⟩
  | .hbm, ⟨9, _⟩ => ⟨S8x8192x704, .bf16⟩
  | .hbm, ⟨10, _⟩ => ⟨S8192x8x704, .f32⟩
  | .hbm, ⟨11, _⟩ => ⟨S8x8192x704, .f32⟩
  | .hbm, ⟨12, _⟩ => ⟨S8x8192x704, .bf16⟩
  | .hbm, ⟨13, _⟩ => ⟨S2048x8x704, .f32⟩
  | .hbm, ⟨14, _⟩ => ⟨S8x2048x704, .f32⟩
  | .hbm, ⟨15, _⟩ => ⟨S8x2048x704, .bf16⟩
  | .hbm, ⟨16, _⟩ => ⟨S2048x8x704, .f32⟩
  | .hbm, ⟨17, _⟩ => ⟨S8x2048x704, .f32⟩
  | .hbm, ⟨18, _⟩ => ⟨S8x2048x704, .bf16⟩
  | .hbm, ⟨19, _⟩ => ⟨S1x2048, .f32⟩
  | .hbm, ⟨20, _⟩ => ⟨S8192x2048, .f32⟩
  | .hbm, ⟨21, _⟩ => ⟨S1x2048, .f32⟩
  | .local _ .vmem, ⟨0, _⟩ => ⟨S1x512x704, .bf16⟩
  | .local _ .vmem, ⟨1, _⟩ => ⟨S1x512x704, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x512x704, .bf16⟩
  | .local _ .vmem, ⟨5, _⟩ => ⟨S1x512x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S1x2048, .f32⟩
  | .local _ .vmem, ⟨16, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![16, 8], ![false, false]⟩

def k0_cond3 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_15 : BitVec 32 := 0#32
  let v19 : BitVec 1 := Scalar.cmpi .ne v18 c0_i32_15
  v19

def k0_cond4 (i : grid0.Coords) : BitVec 1 :=
  let arg0 : BitVec 32 := BitVec.ofNat 32 (i 0).val
  let c0_i32_48 : BitVec 32 := 0#32
  let v95 : BitVec 1 := Scalar.cmpi .eq arg0 c0_i32_48
  let v96 : BitVec 32 := Scalar.extui v95
  let c0_i32_49 : BitVec 32 := 0#32
  let v97 : BitVec 1 := Scalar.cmpi .ne v96 c0_i32_49
  v97

def k0_cond5 (i : grid0.Coords) : BitVec 1 :=
  let arg0 : BitVec 32 := BitVec.ofNat 32 (i 0).val
  let c0_i32_50 : BitVec 32 := 0#32
  let v98 : BitVec 1 := Scalar.cmpi .sgt arg0 c0_i32_50
  let v99 : BitVec 32 := Scalar.extui v98
  let c0_i32_51 : BitVec 32 := 0#32
  let v100 : BitVec 1 := Scalar.cmpi .ne v99 c0_i32_51
  v100

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference5Ideal.lean ====
abbrev S8192x2048 : Shape := ⟨2, ![8192, 2048]⟩
abbrev S2048 : Shape := ⟨1, ![2048]⟩
abbrev S2048x5632 : Shape := ⟨2, ![2048, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S8192x5632, .f32⟩
  | .hbm, ⟨5, _⟩ => ⟨S8192x5632, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x5632, .f32⟩
  | .hbm, ⟨28, _⟩ => ⟨S8192x5632, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel6.lean ====
abbrev S8192x2048 : Shape := ⟨2, ![8192, 2048]⟩
abbrev S2048 : Shape := ⟨1, ![2048]⟩
abbrev S2048x5632 : Shape := ⟨2, ![2048, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x8x704 : Shape := ⟨3, ![2048, 8, 704]⟩
abbrev S8x2048x704 : Shape := ⟨3, ![8, 2048, 704]⟩
abbrev S8x8192x704 : Shape := ⟨3, ![8, 8192, 704]⟩
abbrev S1024x2048 : Shape := ⟨2, ![1024, 2048]⟩
abbrev S1x2048x704 : Shape := ⟨3, ![1, 2048, 704]⟩
abbrev S1x1024x704 : Shape := ⟨3, ![1, 1024, 704]⟩
abbrev S256x2048 : Shape := ⟨2, ![256, 2048]⟩
abbrev S2048x704 : Shape := ⟨2, ![2048, 704]⟩
abbrev S256x704 : Shape := ⟨2, ![256, 704]⟩
abbrev S1x256x704 : Shape := ⟨3, ![1, 256, 704]⟩

abbrev nBuf : Space → Nat
  | .hbm => 30
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | .hbm, ⟨21, _⟩ => ⟨S2048x8x704, .f32⟩
  | .hbm, ⟨22, _⟩ => ⟨S8x2048x704, .f32⟩
  | .hbm, ⟨23, _⟩ => ⟨S8x2048x704, .bf16⟩
  | .hbm, ⟨24, _⟩ => ⟨S2048x8x704, .f32⟩
  | .hbm, ⟨25, _⟩ => ⟨S8x2048x704, .f32⟩
  | .hbm, ⟨26, _⟩ => ⟨S8x2048x704, .bf16⟩
  | .hbm, ⟨27, _⟩ => ⟨S8x8192x704, .bf16⟩
  | .hbm, ⟨28, _⟩ => ⟨S8x8192x704, .bf16⟩
  | .hbm, ⟨29, _⟩ => ⟨S8x8192x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev main_v20_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x2048 : Shape := ⟨2, ![8192, 2048]⟩
abbrev S2048 : Shape := ⟨1, ![2048]⟩
abbrev S2048x5632 : Shape := ⟨2, ![2048, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩
abbrev S8192x8x704 : Shape := ⟨3, ![8192, 8, 704]⟩
abbrev S8x8192x704 : Shape := ⟨3, ![8, 8192, 704]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x5632, .f32⟩
  | .hbm, ⟨21, _⟩ => ⟨S8192x5632, .f32⟩
  | .hbm, ⟨22, _⟩ => ⟨S8192x8x704, .f32⟩
  | .hbm, ⟨23, _⟩ => ⟨S8x8192x704, .f32⟩
  | .hbm, ⟨24, _⟩ => ⟨S8x8192x704, .bf16⟩
  | .hbm, ⟨25, _⟩ => ⟨S8192x8x704, .f32⟩
  | .hbm, ⟨26, _⟩ => ⟨S8x8192x704, .f32⟩
  | .hbm, ⟨27, _⟩ => ⟨S8x8192x704, .bf16⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x8x704, .f32⟩
  | .hbm, ⟨39, _⟩ => ⟨S8x8192x704, .f32⟩
  | .hbm, ⟨40, _⟩ => ⟨S8x8192x704, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel7.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S_ : Shape := ⟨0, ![]⟩
abbrev S8192x8x704 : Shape := ⟨3, ![8192, 8, 704]⟩
abbrev S8x8192x704 : Shape := ⟨3, ![8, 8192, 704]⟩
abbrev S8x704x2048 : Shape := ⟨3, ![8, 704, 2048]⟩
abbrev S1x2048 : Shape := ⟨2, ![1, 2048]⟩
abbrev S1x512x704 : Shape := ⟨3, ![1, 512, 704]⟩
abbrev S1x704x2048 : Shape := ⟨3, ![1, 704, 2048]⟩
abbrev S512x2048 : Shape := ⟨2, ![512, 2048]⟩
abbrev S512x704 : Shape := ⟨2, ![512, 704]⟩
abbrev S704x2048 : Shape := ⟨2, ![704, 2048]⟩
abbrev S512 : Shape := ⟨1, ![512]⟩
abbrev S512x1 : Shape := ⟨2, ![512, 1]⟩

abbrev nBuf : Space → Nat
  | .hbm => 23
  | .vmem => 16
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .f32⟩
  | .hbm, ⟨3, _⟩ => ⟨S8192x2048, .f32⟩
  | .hbm, ⟨4, _⟩ => ⟨S2048, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x8x704, .f32⟩
  | .hbm, ⟨16, _⟩ => ⟨S8x8192x704, .f32⟩
  | .hbm, ⟨17, _⟩ => ⟨S8x8192x704, .bf16⟩
  | .hbm, ⟨18, _⟩ => ⟨S8x704x2048, .f32⟩
  | .hbm, ⟨19, _⟩ => ⟨S8x704x2048, .bf16⟩
  | .hbm, ⟨20, _⟩ => ⟨S1x2048, .f32⟩
  | .hbm, ⟨21, _⟩ => ⟨S8192x2048, .f32⟩
  | .hbm, ⟨22, _⟩ => ⟨S8192x2048, .f32⟩
  | .local _ .vmem, ⟨0, _⟩ => ⟨S1x512x704, .bf16⟩
  | .local _ .vmem, ⟨1, _⟩ => ⟨S1x512x704, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x512x704, .bf16⟩
  | .local _ .vmem, ⟨5, _⟩ => ⟨S1x512x704, .bf16⟩
  | .local _ .vmem, ⟨6, _⟩ => ⟨S1x704x2048, .bf16⟩
  | .local _ .vmem, ⟨7, _⟩ => ⟨S1x704x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_15 : BitVec 32 := 0#32
  let v19 : BitVec 1 := Scalar.cmpi .ne v18 c0_i32_15
  v19

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  ![v1.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![v1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference7Ideal.lean ====
abbrev S8192x5632 : Shape := ⟨2, ![8192, 5632]⟩
abbrev S5632x2048 : Shape := ⟨2, ![5632, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .f32⟩
  | .hbm, ⟨3, _⟩ => ⟨S8192x2048, .f32⟩
  | .hbm, ⟨4, _⟩ => ⟨S2048, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== Kernel8.lean ====
abbrev S8192x2048 : Shape := ⟨2, ![8192, 2048]⟩
abbrev S2048 : Shape := ⟨1, ![2048]⟩
abbrev S2048x4224 : Shape := ⟨2, ![2048, 4224]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4224 : Shape := ⟨2, ![8192, 4224]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 22
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4224, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | .hbm, ⟨20, _⟩ => ⟨S2048x4224, .bf16⟩
  | .hbm, ⟨21, _⟩ => ⟨S8192x4224, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x2048 : Shape := ⟨2, ![8192, 2048]⟩
abbrev S2048 : Shape := ⟨1, ![2048]⟩
abbrev S2048x4224 : Shape := ⟨2, ![2048, 4224]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4224 : Shape := ⟨2, ![8192, 4224]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4224, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x4224, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel9.lean ====
abbrev S8192x4224 : Shape := ⟨2, ![8192, 4224]⟩
abbrev S2048x4224 : Shape := ⟨2, ![2048, 4224]⟩
abbrev S8192x2048 : Shape := ⟨2, ![8192, 2048]⟩
abbrev S1024x1408 : Shape := ⟨2, ![1024, 1408]⟩
abbrev S2048x1408 : Shape := ⟨2, ![2048, 1408]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x4224, .f32⟩
  | .hbm, ⟨1, _⟩ => ⟨S2048x4224, .f32⟩
  | .hbm, ⟨2, _⟩ => ⟨S8192x4224, .bf16⟩
  | .hbm, ⟨3, _⟩ => ⟨S2048x4224, .bf16⟩
  | .hbm, ⟨4, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S2048x1408, .bf16⟩
  | .local _ .vmem, ⟨3, _⟩ => ⟨S2048x1408, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def k0_cond3 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S8192x4224 : Shape := ⟨2, ![8192, 4224]⟩
abbrev S2048x4224 : Shape := ⟨2, ![2048, 4224]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x4224, .f32⟩
  | .hbm, ⟨1, _⟩ => ⟨S2048x4224, .f32⟩
  | .hbm, ⟨2, _⟩ => ⟨S_, .f32⟩
  | .hbm, ⟨3, _⟩ => ⟨S8192x2048, .f32⟩
  | .hbm, ⟨4, _⟩ => ⟨S8192x4224, .f32⟩
  | .hbm, ⟨5, _⟩ => ⟨S8192x2048, .f32⟩
  | _, _ => ⟨S8192x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S8192x2048 : Shape := ⟨2, ![8192, 2048]⟩
abbrev S2048 : Shape := ⟨1, ![2048]⟩
abbrev S8192x4224 : Shape := ⟨2, ![8192, 4224]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x4224 : Shape := ⟨2, ![2048, 4224]⟩
abbrev S1024x2048 : Shape := ⟨2, ![1024, 2048]⟩
abbrev S1024x1408 : Shape := ⟨2, ![1024, 1408]⟩
abbrev S2048x1408 : Shape := ⟨2, ![2048, 1408]⟩

abbrev nBuf : Space → Nat
  | .hbm => 22
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x4224, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | .hbm, ⟨20, _⟩ => ⟨S8192x4224, .bf16⟩
  | .hbm, ⟨21, _⟩ => ⟨S2048x4224, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .bf16⟩
  | .local _ .vmem, ⟨5, _⟩ => ⟨S2048x1408, .bf16⟩
  | .local _ .vmem, ⟨6, _⟩ => ⟨S2048x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def k0_cond3 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S8192x2048 : Shape := ⟨2, ![8192, 2048]⟩
abbrev S2048 : Shape := ⟨1, ![2048]⟩
abbrev S8192x4224 : Shape := ⟨2, ![8192, 4224]⟩
abbrev S_ : Shape := ⟨0, ![]⟩
abbrev S2048x4224 : Shape := ⟨2, ![2048, 4224]⟩
abbrev S8192 : Shape := ⟨1, ![8192]⟩
abbrev S8192x1 : Shape := ⟨2, ![8192, 1]⟩
abbrev S1x2048 : Shape := ⟨2, ![1, 2048]⟩
abbrev S4224x2048 : Shape := ⟨2, ![4224, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x4224, .f32⟩
  | .hbm, ⟨3, _⟩ => ⟨S_, .f32⟩
  | .hbm, ⟨4, _⟩ => ⟨S2048x4224, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x4224, .f32⟩
  | .hbm, ⟨22, _⟩ => ⟨S4224x2048, .f32⟩
  | .hbm, ⟨23, _⟩ => ⟨S2048x4224, .f32⟩
  | .hbm, ⟨24, _⟩ => ⟨S2048x4224, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel11.lean ====
abbrev S8192x2048 : Shape := ⟨2, ![8192, 2048]⟩
abbrev S2048x2048 : Shape := ⟨2, ![2048, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S1024x2048, .f32⟩
  | .hbm, ⟨4, _⟩ => ⟨S1024x2048, .bf16⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S8192x2048 : Shape := ⟨2, ![8192, 2048]⟩
abbrev S2048x2048 : Shape := ⟨2, ![2048, 2048]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x1024, .f32⟩
  | .hbm, ⟨7, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S1024x2048, .f32⟩
  | .hbm, ⟨4, _⟩ => ⟨S1024x2048, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference12Ideal.lean ====
abbrev S8192x2048 : Shape := ⟨2, ![8192, 2048]⟩
abbrev S2048x2048 : Shape := ⟨2, ![2048, 2048]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8192x1024 : Shape := ⟨2, ![8192, 1024]⟩
abbrev S8192x2048 : Shape := ⟨2, ![8192, 2048]⟩
abbrev S1x8192x1024 : Shape := ⟨3, ![1, 8192, 1024]⟩
abbrev S2x8192x1024 : Shape := ⟨3, ![2, 8192, 1024]⟩
abbrev S2x1024x2048 : Shape := ⟨3, ![2, 1024, 2048]⟩
abbrev S1x2048x1024 : Shape := ⟨3, ![1, 2048, 1024]⟩
abbrev S2048x2048 : Shape := ⟨2, ![2048, 2048]⟩
abbrev S1x1024x2048 : Shape := ⟨3, ![1, 1024, 2048]⟩
abbrev S1024x2048 : Shape := ⟨2, ![1024, 2048]⟩
abbrev S2048x1024 : Shape := ⟨2, ![2048, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S1x8192x1024, .f32⟩
  | .hbm, ⟨4, _⟩ => ⟨S1x8192x1024, .f32⟩
  | .hbm, ⟨5, _⟩ => ⟨S2x8192x1024, .f32⟩
  | .hbm, ⟨6, _⟩ => ⟨S2x8192x1024, .bf16⟩
  | .hbm, ⟨7, _⟩ => ⟨S8192x2048, .bf16⟩
  | .hbm, ⟨8, _⟩ => ⟨S2x1024x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference13Ideal.lean ====
abbrev S8192x1024 : Shape := ⟨2, ![8192, 1024]⟩
abbrev S8192x2048 : Shape := ⟨2, ![8192, 2048]⟩
abbrev S_ : Shape := ⟨0, ![]⟩
abbrev S2048x2048 : Shape := ⟨2, ![2048, 2048]⟩
abbrev S2x1024x2048 : Shape := ⟨3, ![2, 1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S_, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2x1024x2048, .f32⟩
  | .hbm, ⟨10, _⟩ => ⟨S2x1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel14.lean ====
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S1x8192x1024 : Shape := ⟨3, ![1, 8192, 1024]⟩
abbrev S2x8192x1024 : Shape := ⟨3, ![2, 8192, 1024]⟩
abbrev S2x1024x2048 : Shape := ⟨3, ![2, 1024, 2048]⟩
abbrev S1x2048 : Shape := ⟨2, ![1, 2048]⟩
abbrev S1x512x1024 : Shape := ⟨3, ![1, 512, 1024]⟩
abbrev S1x1024x2048 : Shape := ⟨3, ![1, 1024, 2048]⟩
abbrev S512x2048 : Shape := ⟨2, ![512, 2048]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x2048, .f32⟩
  | .hbm, ⟨3, _⟩ => ⟨S8192x2048, .f32⟩
  | .hbm, ⟨4, _⟩ => ⟨S2048, .f32⟩
  | .hbm, ⟨5, _⟩ => ⟨S1x8192x1024, .f32⟩
  | .hbm, ⟨6, _⟩ => ⟨S1x8192x1024, .f32⟩
  | .hbm, ⟨7, _⟩ => ⟨S2x8192x1024, .f32⟩
  | .hbm, ⟨8, _⟩ => ⟨S2x8192x1024, .bf16⟩
  | .hbm, ⟨9, _⟩ => ⟨S2x1024x2048, .f32⟩
  | .hbm, ⟨10, _⟩ => ⟨S2x1024x2048, .bf16⟩
  | .hbm, ⟨11, _⟩ => ⟨S1x2048, .f32⟩
  | .hbm, ⟨12, _⟩ => ⟨S8192x2048, .f32⟩
  | .hbm, ⟨13, _⟩ => ⟨S8192x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x2048, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  ![v1.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![v1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference14Ideal.lean ====
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel15.lean ====
abbrev S8192x8x128 : Shape := ⟨3, ![8192, 8, 128]⟩
abbrev S8192x8x64 : Shape := ⟨3, ![8192, 8, 64]⟩
abbrev S8192x64 : Shape := ⟨2, ![8192, 64]⟩
abbrev S_ : Shape := ⟨0, ![]⟩
abbrev S8192x1x64 : Shape := ⟨3, ![8192, 1, 64]⟩
abbrev S8192x8x256 : Shape := ⟨3, ![8192, 8, 256]⟩
abbrev S8192x2048 : Shape := ⟨2, ![8192, 2048]⟩
abbrev S8192x1024 : Shape := ⟨2, ![8192, 1024]⟩
abbrev S8x8192x128 : Shape := ⟨3, ![8, 8192, 128]⟩
abbrev S512x512 : Shape := ⟨2, ![512, 512]⟩
abbrev S8192x512 : Shape := ⟨2, ![8192, 512]⟩
abbrev S8192x256 : Shape := ⟨2, ![8192, 256]⟩
abbrev S512x256 : Shape := ⟨2, ![512, 256]⟩
abbrev S2x512x128 : Shape := ⟨3, ![2, 512, 128]⟩
abbrev S512x1 : Shape := ⟨2, ![512, 1]⟩
abbrev S512x128 : Shape := ⟨2, ![512, 128]⟩
abbrev S512 : Shape := ⟨1, ![512]⟩
abbrev S1x512x128 : Shape := ⟨3, ![1, 512, 128]⟩

abbrev nBuf : Space → Nat
  | .hbm => 21
  | .vmem => 10
  | .smem => 0
  | _ => 0

abbrev bufTy : (tb : Table) → Fin (tcTables nBuf tb) → BufTy
  | .hbm, ⟨0, _⟩ => ⟨S8192x8x128, .f32⟩
  | .hbm, ⟨1, _⟩ => ⟨S8192x8x64, .f32⟩
  | .hbm, ⟨2, _⟩ => ⟨S8192x8x128, .f32⟩
  | .hbm, ⟨3, _⟩ => ⟨S8192x64, .f32⟩
  | .hbm, ⟨4, _⟩ => ⟨S8192x8x128, .f32⟩
  | .hbm, ⟨5, _⟩ => ⟨S_, .f32⟩
  | .hbm, ⟨6, _⟩ => ⟨S8192x8x64, .f32⟩
  | .hbm, ⟨7, _⟩ => ⟨S8192x1x64, .f32⟩
  | .hbm, ⟨8, _⟩ => ⟨S8192x8x64, .f32⟩
  | .hbm, ⟨9, _⟩ => ⟨S8192x8x256, .f32⟩
  | .hbm, ⟨10, _⟩ => ⟨S8192x2048, .f32⟩
  | .hbm, ⟨11, _⟩ => ⟨S8192x2048, .bf16⟩
  | .hbm, ⟨12, _⟩ => ⟨S8192x8x256, .f32⟩
  | .hbm, ⟨13, _⟩ => ⟨S8192x2048, .f32⟩
  | .hbm, ⟨14, _⟩ => ⟨S8192x2048, .bf16⟩
  | .hbm, ⟨15, _⟩ => ⟨S8192x1024, .f32⟩
  | .hbm, ⟨16, _⟩ => ⟨S8192x1024, .f32⟩
  | .hbm, ⟨17, _⟩ => ⟨S8192x2048, .f32⟩
  | .hbm, ⟨18, _⟩ => ⟨S8192x2048, .bf16⟩
  | .hbm, ⟨19, _⟩ => ⟨S8192x1024, .bf16⟩
  | .hbm, ⟨20, _⟩ => ⟨S8x8192x128, .f32⟩
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S8192x512, .bf16⟩
  | .local _ .vmem, ⟨4, _⟩ => ⟨S8192x256, .bf16⟩
  | .local _ .vmem, ⟨5, _⟩ => ⟨S8192x256, .bf16⟩
  | .local _ .vmem, ⟨6, _⟩ => ⟨S512x256, .bf16⟩
  | .local _ .vmem, ⟨7, _⟩ => ⟨S512x256, .bf16⟩
  | .local _ .vmem, ⟨8, _⟩ => ⟨S2x512x128, .f32⟩
  | .local _ .vmem, ⟨9, _⟩ => ⟨S2x512x128, .f32⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_10 : BitVec 32 := 0#32
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_12 : BitVec 32 := 1#32
  ⟨c0_i32_10, v28, c1_i32_12⟩
def k0_mult1 (i : grid0.Coords) (k0_t1 : Fin (k0_t1_loop i).trips) : BitVec 32 :=
  let c0_i32_10 : BitVec 32 := 0#32
  let c1_i32_12 : BitVec 32 := 1#32
  let arg7 : BitVec 32 := Scf.iv c0_i32_10 c1_i32_12 k0_t1
  let c512_i32_46 : BitVec 32 := 512#32
  let v132 : BitVec 32 := Scalar.muli arg7 c512_i32_46
  v132
def k0_off1 (i : grid0.Coords) (k0_t1 : Fin (k0_t1_loop i).trips) : Fin 2 → Nat :=
  let c0_i32_10 : BitVec 32 := 0#32
  let c1_i32_12 : BitVec 32 := 1#32
  let arg7 : BitVec 32 := Scf.iv c0_i32_10 c1_i32_12 k0_t1
  let c512_i32_46 : BitVec 32 := 512#32
  let v132 : BitVec 32 := Scalar.muli arg7 c512_i32_46
  let v133 : BitVec 32 := v132
  let v136 : Index := Scalar.indexCast v133
  let c0_49 : Index := 0#32
  ![v136.toNat, 0]
def k0_off2 (i : grid0.Coords) (k0_t1 : Fin (k0_t1_loop i).trips) : Fin 2 → Nat :=
  let c0_i32_10 : BitVec 32 := 0#32
  let c1_i32_12 : BitVec 32 := 1#32
  let arg7 : BitVec 32 := Scf.iv c0_i32_10 c1_i32_12 k0_t1
  let c512_i32_46 : BitVec 32 := 512#32
  let v132 : BitVec 32 := Scalar.muli arg7 c512_i32_46
  let v133 : BitVec 32 := v132
  let v157 : Index := Scalar.indexCast v133
  let c0_54 : Index := 0#32
  ![v157.toNat, 0]
def k0_off3 (i : grid0.Coords) (k0_t1 : Fin (k0_t1_loop i).trips) : Fin 2 → Nat :=
  let c0_i32_10 : BitVec 32 := 0#32
  let c1_i32_12 : BitVec 32 := 1#32
  let arg7 : BitVec 32 := Scf.iv c0_i32_10 c1_i32_12 k0_t1
  let c512_i32_46 : BitVec 32 := 512#32
  let v132 : BitVec 32 := Scalar.muli arg7 c512_i32_46
  let v133 : BitVec 32 := v132
  let v164 : Index := Scalar.indexCast v133
  let c256_58 : Index := 256#32
  ![v164.toNat, 256]
def k0_off4 (i : grid0.Coords) (k0_t1 : Fin (k0_t1_loop i).trips) : Fin 2 → Nat :=
  let c0_i32_10 : BitVec 32 := 0#32
  let c1_i32_12 : BitVec 32 := 1#32
  let arg7 : BitVec 32 := Scf.iv c0_i32_10 c1_i32_12 k0_t1
  let c512_i32_46 : BitVec 32 := 512#32
  let v132 : BitVec 32 := Scalar.muli arg7 c512_i32_46
  let v133 : BitVec 32 := v132
  let v185 : Index := Scalar.indexCast v133
  let c128_63 : Index := 128#32
  ![v185.toNat, 128]
@[reducible] def k0_t2_loop (i : grid0.Coords) : Scf.Loop 32 :=
  let c0_i32_10 : BitVec 32 := 0#32
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let v25 : BitVec 32 := Scalar.addi c0_i32_10 v24
  let c1_i32_13 : BitVec 32 := 1#32
  ⟨v28, v25, c1_i32_13⟩
def k0_mult2 (i : grid0.Coords) (k0_t2 : Fin (k0_t2_loop i).trips) : BitVec 32 :=
  let c0_i32_10 : BitVec 32 := 0#32
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg7 : BitVec 32 := Scf.iv v28 c1_i32_13 k0_t2
  let c512_i32_46 : BitVec 32 := 512#32
  let v132 : BitVec 32 := Scalar.muli arg7 c512_i32_46
  v132
def k0_off5 (i : grid0.Coords) (k0_t2 : Fin (k0_t2_loop i).trips) : Fin 2 → Nat :=
  let c0_i32_10 : BitVec 32 := 0#32
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg7 : BitVec 32 := Scf.iv v28 c1_i32_13 k0_t2
  let c512_i32_46 : BitVec 32 := 512#32
  let v132 : BitVec 32 := Scalar.muli arg7 c512_i32_46
  let v133 : BitVec 32 := v132
  let v136 : Index := Scalar.indexCast v133
  let c0_49 : Index := 0#32
  ![v136.toNat, 0]
def k0_off6 (i : grid0.Coords) (k0_t2 : Fin (k0_t2_loop i).trips) : Fin 2 → Nat :=
  let c0_i32_10 : BitVec 32 := 0#32
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg7 : BitVec 32 := Scf.iv v28 c1_i32_13 k0_t2
  let c512_i32_46 : BitVec 32 := 512#32
  let v132 : BitVec 32 := Scalar.muli arg7 c512_i32_46
  let v133 : BitVec 32 := v132
  let v157 : Index := Scalar.indexCast v133
  let c0_54 : Index := 0#32
  ![v157.toNat, 0]
def k0_off7 (i : grid0.Coords) (k0_t2 : Fin (k0_t2_loop i).trips) : Fin 2 → Nat :=
  let c0_i32_10 : BitVec 32 := 0#32
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg7 : BitVec 32 := Scf.iv v28 c1_i32_13 k0_t2
  let c512_i32_46 : BitVec 32 := 512#32
  let v132 : BitVec 32 := Scalar.muli arg7 c512_i32_46
  let v133 : BitVec 32 := v132
  let v164 : Index := Scalar.indexCast v133
  let c256_58 : Index := 256#32
  ![v164.toNat, 256]
def k0_off8 (i : grid0.Coords) (k0_t2 : Fin (k0_t2_loop i).trips) : Fin 2 → Nat :=
  let c0_i32_10 : BitVec 32 := 0#32
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let v24 : BitVec 32 := Scalar.subi v23 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg7 : BitVec 32 := Scf.iv v28 c1_i32_13 k0_t2
  let c512_i32_46 : BitVec 32 := 512#32
  let v132 : BitVec 32 := Scalar.muli arg7 c512_i32_46
  let v133 : BitVec 32 := v132
  let v185 : Index := Scalar.indexCast v133
  let c128_63 : Index := 128#32
  ![v185.toNat, 128]
def k0_mult3 (i : grid0.Coords) : BitVec 32 :=
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let c0_i32_14 : BitVec 32 := 0#32
  let v31 : BitVec 32 := Scalar.addi v23 c0_i32_14
  let c512_i32_15 : BitVec 32 := 512#32
  let v32 : BitVec 32 := Scalar.muli v31 c512_i32_15
  v32
def k0_off9 (i : grid0.Coords) : Fin 2 → Nat :=
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let c0_i32_14 : BitVec 32 := 0#32
  let v31 : BitVec 32 := Scalar.addi v23 c0_i32_14
  let c512_i32_15 : BitVec 32 := 512#32
  let v32 : BitVec 32 := Scalar.muli v31 c512_i32_15
  let v33 : BitVec 32 := v32
  let v36 : Index := Scalar.indexCast v33
  let c0_17 : Index := 0#32
  ![v36.toNat, 0]
def k0_off10 (i : grid0.Coords) : Fin 2 → Nat :=
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let c0_i32_14 : BitVec 32 := 0#32
  let v31 : BitVec 32 := Scalar.addi v23 c0_i32_14
  let c512_i32_15 : BitVec 32 := 512#32
  let v32 : BitVec 32 := Scalar.muli v31 c512_i32_15
  let v33 : BitVec 32 := v32
  let v67 : Index := Scalar.indexCast v33
  let c0_25 : Index := 0#32
  ![v67.toNat, 0]
def k0_off11 (i : grid0.Coords) : Fin 2 → Nat :=
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let c0_i32_14 : BitVec 32 := 0#32
  let v31 : BitVec 32 := Scalar.addi v23 c0_i32_14
  let c512_i32_15 : BitVec 32 := 512#32
  let v32 : BitVec 32 := Scalar.muli v31 c512_i32_15
  let v33 : BitVec 32 := v32
  let v74 : Index := Scalar.indexCast v33
  let c256_28 : Index := 256#32
  ![v74.toNat, 256]
def k0_off12 (i : grid0.Coords) : Fin 2 → Nat :=
  let arg1 : BitVec 32 := BitVec.ofNat 32 (i 1).val
  let c512_i32 : BitVec 32 := 512#32
  let v6 : BitVec 32 := Scalar.muli arg1 c512_i32
  let c0_i32 : BitVec 32 := 0#32
  let v8 : BitVec 1 := Scalar.cmpi .sgt v6 c0_i32
  let v9 : BitVec 32 := Scalar.extui v8
  let c0_i32_6 : BitVec 32 := 0#32
  let v10 : BitVec 1 := Scalar.cmpi .slt v6 c0_i32_6
  let v11 : BitVec 32 := Scalar.extui v10
  let v12 : BitVec 32 := Scalar.subi v9 v11
  let c512_i32_5 : BitVec 32 := 512#32
  let c0_i32_7 : BitVec 32 := 0#32
  let v13 : BitVec 1 := Scalar.cmpi .sgt c512_i32_5 c0_i32_7
  let v14 : BitVec 32 := Scalar.extui v13
  let c0_i32_8 : BitVec 32 := 0#32
  let v15 : BitVec 1 := Scalar.cmpi .slt c512_i32_5 c0_i32_8
  let v16 : BitVec 32 := Scalar.extui v15
  let v17 : BitVec 32 := Scalar.subi v14 v16
  let v18 : BitVec 1 := Scalar.cmpi .ne v12 v17
  let v19 : BitVec 32 := Scalar.remsi v6 c512_i32_5
  let c0_i32_9 : BitVec 32 := 0#32
  let v20 : BitVec 1 := Scalar.cmpi .ne v19 c0_i32_9
  let v21 : BitVec 1 := Scalar.andi v18 v20
  let v7 : BitVec 32 := Scalar.divsi v6 c512_i32_5
  let c1_i32 : BitVec 32 := 1#32
  let v22 : BitVec 32 := Scalar.subi v7 c1_i32
  let v23 : BitVec 32 := Scalar.select v21 v22 v7
  let c0_i32_14 : BitVec 32 := 0#32
  let v31 : BitVec 32 := Scalar.addi v23 c0_i32_14
  let c512_i32_15 : BitVec 32 := 512#32
  let v32 : BitVec 32 := Scalar.muli v31 c512_i32_15
  let v33 : BitVec 32 := v32
  let v105 : Index := Scalar.indexCast v33
  let c128 : Index := 128#32
  ![v105.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel15Ideal.lean ====
variable {F : FTy → Type} [FloatOps F] [Named F]
def κ : String → Option EReal := fun
  | "mask" => some ⊥
  | _ => none
-- ==== Reference15Ideal.lean ====
abbrev S8192x8x128 : Shape := ⟨3, ![8192, 8, 128]⟩
abbrev S8192x8x64 : Shape := ⟨3, ![8192, 8, 64]⟩
abbrev S8192x64 : Shape := ⟨2, ![8192, 64]⟩
abbrev S8x8192x8192 : Shape := ⟨3, ![8, 8192, 8192]⟩
abbrev S8192x8192x8 : Shape := ⟨3, ![8192, 8192, 8]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x128 : Shape := ⟨3, ![8, 8192, 128]⟩
abbrev S8192x1024 : Shape := ⟨2, ![8192, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x8x128, .f32⟩
  | .hbm, ⟨1, _⟩ => ⟨S8192x8x64, .f32⟩
  | .hbm, ⟨2, _⟩ => ⟨S8192x8x128, .f32⟩
  | .hbm, ⟨3, _⟩ => ⟨S8192x64, .f32⟩
  | .hbm, ⟨4, _⟩ => ⟨S8192x8x128, .f32⟩
  | .hbm, ⟨5, _⟩ => ⟨S8x8192x8192, .f32⟩
  | .hbm, ⟨6, _⟩ => ⟨S8192x8192x8, .f32⟩
  | .hbm, ⟨7, _⟩ => ⟨S8x8192x8192, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8192, .i32⟩
  | .hbm, ⟨13, _⟩ => ⟨S1x8192, .i32⟩
  | .hbm, ⟨14, _⟩ => ⟨S8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S_, .f32⟩
  | .hbm, ⟨21, _⟩ => ⟨S8x8192x8192, .i1⟩
  | .hbm, ⟨22, _⟩ => ⟨S8x8192x8192, .f32⟩
  | .hbm, ⟨23, _⟩ => ⟨S8x8192x8192, .f32⟩
  | .hbm, ⟨24, _⟩ => ⟨S_, .f32⟩
  | .hbm, ⟨25, _⟩ => ⟨S8x8192, .f32⟩
  | .hbm, ⟨26, _⟩ => ⟨S8x8192x1, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S_, .f32⟩
  | .hbm, ⟨31, _⟩ => ⟨S8x8192, .f32⟩
  | .hbm, ⟨32, _⟩ => ⟨S8x8192x1, .f32⟩
  | .hbm, ⟨33, _⟩ => ⟨S8x8192x8192, .f32⟩
  | .hbm, ⟨34, _⟩ => ⟨S8x8192x8192, .f32⟩
  | .hbm, ⟨35, _⟩ => ⟨S8x128x8192, .f32⟩
  | .hbm, ⟨36, _⟩ => ⟨S8192x8x128, .f32⟩
  | .hbm, ⟨37, _⟩ => ⟨S8x8192x1, .f32⟩
  | .hbm, ⟨38, _⟩ => ⟨S8x8192x1, .f32⟩
  | .hbm, ⟨39, _⟩ => ⟨S8x8192x128, .f32⟩
  | .hbm, ⟨40, _⟩ => ⟨S8192x1024, .f32⟩
  | .hbm, ⟨41, _⟩ => ⟨S8192x1024, .bf16⟩
  | _, _ => ⟨S8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel16.lean ====
abbrev S4x8x2048x704 : Shape := ⟨4, ![4, 8, 2048, 704]⟩
abbrev S4x2048x704 : Shape := ⟨3, ![4, 2048, 704]⟩
abbrev S1x8x2048x704 : Shape := ⟨4, ![1, 8, 2048, 704]⟩
abbrev S8x2048x704 : Shape := ⟨3, ![8, 2048, 704]⟩
abbrev S8x128x704 : Shape := ⟨3, ![8, 128, 704]⟩
abbrev S1x128x704 : Shape := ⟨3, ![1, 128, 704]⟩
abbrev S128x704 : Shape := ⟨2, ![128, 704]⟩

abbrev nBuf : Space → Nat
  | .hbm => 20
  | .vmem => 22
  | .smem => 0
  | _ => 0

abbrev bufTy : (tb : Table) → Fin (tcTables nBuf tb) → BufTy
  | .hbm, ⟨0, _⟩ => ⟨S4x8x2048x704, .f32⟩
  | .hbm, ⟨1, _⟩ => ⟨S4x2048x704, .f32⟩
  | .hbm, ⟨2, _⟩ => ⟨S4x2048x704, .f32⟩
  | .hbm, ⟨3, _⟩ => ⟨S4x2048x704, .f32⟩
  | .hbm, ⟨4, _⟩ => ⟨S1x8x2048x704, .f32⟩
  | .hbm, ⟨5, _⟩ => ⟨S8x2048x704, .f32⟩
  | .hbm, ⟨6, _⟩ => ⟨S1x8x2048x704, .f32⟩
  | .hbm, ⟨7, _⟩ => ⟨S8x2048x704, .f32⟩
  | .hbm, ⟨8, _⟩ => ⟨S1x8x2048x704, .f32⟩
  | .hbm, ⟨9, _⟩ => ⟨S8x2048x704, .f32⟩
  | .hbm, ⟨10, _⟩ => ⟨S1x8x2048x704, .f32⟩
  | .hbm, ⟨11, _⟩ => ⟨S8x2048x704, .f32⟩
  | .hbm, ⟨12, _⟩ => ⟨S8x2048x704, .bf16⟩
  | .hbm, ⟨13, _⟩ => ⟨S8x2048x704, .bf16⟩
  | .hbm, ⟨14, _⟩ => ⟨S8x2048x704, .bf16⟩
  | .hbm, ⟨15, _⟩ => ⟨S8x2048x704, .bf16⟩
  | .hbm, ⟨16, _⟩ => ⟨S4x2048x704, .f32⟩
  | .hbm, ⟨17, _⟩ => ⟨S4x2048x704, .f32⟩
  | .hbm, ⟨18, _⟩ => ⟨S4x2048x704, .f32⟩
  | .hbm, ⟨19, _⟩ => ⟨S4x2048x704, .f32⟩
  | .local _ .vmem, ⟨0, _⟩ => ⟨S8x128x704, .bf16⟩
  | .local _ .vmem, ⟨1, _⟩ => ⟨S8x128x704, .bf16⟩
  | .local _ .vmem, ⟨2, _⟩ => ⟨S8x128x704, .bf16⟩
  | .local _ .vmem, ⟨3, _⟩ => ⟨S8x128x704, .bf16⟩
  | .local _ .vmem, ⟨4, _⟩ => ⟨S8x128x704, .bf16⟩
  | .local _ .vmem, ⟨5, _⟩ => ⟨S8x128x704, .bf16⟩
  | .local _ .vmem, ⟨6, _⟩ => ⟨S8x128x704, .bf16⟩
  | .local _ .vmem, ⟨7, _⟩ => ⟨S8x128x704, .bf16⟩
  | .local _ .vmem, ⟨8, _⟩ => ⟨S1x128x704, .f32⟩
  | .local _ .vmem, ⟨9, _⟩ => ⟨S1x128x704, .f32⟩
  | .local _ .vmem, ⟨10, _⟩ => ⟨S1x128x704, .f32⟩
  | .local _ .vmem, ⟨11, _⟩ => ⟨S1x128x704, .f32⟩
  | .local _ .vmem, ⟨12, _⟩ => ⟨S1x128x704, .f32⟩
  | .local _ .vmem, ⟨13, _⟩ => ⟨S1x128x704, .f32⟩
  | .local _ .vmem, ⟨14, _⟩ => ⟨S1x128x704, .f32⟩
  | .local _ .vmem, ⟨15, _⟩ => ⟨S1x128x704, .f32⟩
  | .local _ .vmem, ⟨16, _⟩ => ⟨S1x128x704, .f32⟩
  | .local _ .vmem, ⟨17, _⟩ => ⟨S1x128x704, .f32⟩
  | .local _ .vmem, ⟨18, _⟩ => ⟨S1x128x704, .f32⟩
  | .local _ .vmem, ⟨19, _⟩ => ⟨S1x128x704, .f32⟩
  | .local _ .vmem, ⟨20, _⟩ => ⟨S1x128x704, .f32⟩
  | .local _ .vmem, ⟨21, _⟩ => ⟨S1x128x704, .f32⟩
  | _, _ => ⟨S4x8x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c15_i32 : BitVec 32 := 15#32
  let c0_i32_1 : BitVec 32 := 0#32
  let v2 : BitVec 32 := Scalar.select v1 c15_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c15_i32 : BitVec 32 := 15#32
  let c0_i32 : BitVec 32 := 0#32
  let v2 : BitVec 32 := Scalar.select v1 c15_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .sgt arg0 c2_i32_0
  let c15_i32 : BitVec 32 := 15#32
  let c0_i32 : BitVec 32 := 0#32
  let v2 : BitVec 32 := Scalar.select v1 c15_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .sgt arg0 c3_i32_0
  let c15_i32 : BitVec 32 := 15#32
  let c0_i32 : BitVec 32 := 0#32
  let v2 : BitVec 32 := Scalar.select v1 c15_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel16Ideal.lean ====
abbrev S4x8x2048x704 : Shape := ⟨4, ![4, 8, 2048, 704]⟩
abbrev S4x2048x704 : Shape := ⟨3, ![4, 2048, 704]⟩
abbrev S1x8x2048x704 : Shape := ⟨4, ![1, 8, 2048, 704]⟩
abbrev S8x2048x704 : Shape := ⟨3, ![8, 2048, 704]⟩
abbrev S8x128x704 : Shape := ⟨3, ![8, 128, 704]⟩
abbrev S1x128x704 : Shape := ⟨3, ![1, 128, 704]⟩
abbrev S128x704 : Shape := ⟨2, ![128, 704]⟩

abbrev nBuf : Space → Nat
  | .hbm => 20
  | .vmem => 22
  | .smem => 0
  | _ => 0

abbrev bufTy : (tb : Table) → Fin (tcTables nBuf tb) → BufTy
  | .hbm, ⟨0, _⟩ => ⟨S4x8x2048x704, .f32⟩
  | .hbm, ⟨1, _⟩ => ⟨S4x2048x704, .f32⟩
  | .hbm, ⟨2, _⟩ => ⟨S4x2048x704, .f32⟩
  | .hbm, ⟨3, _⟩ => ⟨S4x2048x704, .f32⟩
  | .hbm, ⟨4, _⟩ => ⟨S1x8x2048x704, .f32⟩
  | .hbm, ⟨5, _⟩ => ⟨S8x2048x704, .f32⟩
  | .hbm, ⟨6, _⟩ => ⟨S1x8x2048x704, .f32⟩
  | .hbm, ⟨7, _⟩ => ⟨S8x2048x704, .f32⟩
  | .hbm, ⟨8, _⟩ => ⟨S1x8x2048x704, .f32⟩
  | .hbm, ⟨9, _⟩ => ⟨S8x2048x704, .f32⟩
  | .hbm, ⟨10, _⟩ => ⟨S1x8x2048x704, .f32⟩
  | .hbm, ⟨11, _⟩ => ⟨S8x2048x704, .f32⟩
  | .hbm, ⟨12, _⟩ => ⟨S8x2048x704, .bf16⟩
  | .hbm, ⟨13, _⟩ => ⟨S8x2048x704, .bf16⟩
  | .hbm, ⟨14, _⟩ => ⟨S8x2048x704, .bf16⟩
  | .hbm, ⟨15, _⟩ => ⟨S8x2048x704, .bf16⟩
  | .hbm, ⟨16, _⟩ => ⟨S4x2048x704, .f32⟩
  | .hbm, ⟨17, _⟩ => ⟨S4x2048x704, .f32⟩
  | .hbm, ⟨18, _⟩ => ⟨S4x2048x704, .f32⟩
  | .hbm, ⟨19, _⟩ => ⟨S4x2048x704, .f32⟩
  | .local _ .vmem, ⟨0, _⟩ => ⟨S8x128x704, .bf16⟩
  | .local _ .vmem, ⟨1, _⟩ => ⟨S8x128x704, .bf16⟩
  | .local _ .vmem, ⟨2, _⟩ => ⟨S8x128x704, .bf16⟩
  | .local _ .vmem, ⟨3, _⟩ => ⟨S8x128x704, .bf16⟩
  | .local _ .vmem, ⟨4, _⟩ => ⟨S8x128x704, .bf16⟩
  | .local _ .vmem, ⟨5, _⟩ => ⟨S8x128x704, .bf16⟩
  | .local _ .vmem, ⟨6, _⟩ => ⟨S8x128x704, .bf16⟩
  | .local _ .vmem, ⟨7, _⟩ => ⟨S8x128x704, .bf16⟩
  | .local _ .vmem, ⟨8, _⟩ => ⟨S1x128x704, .f32⟩
  | .local _ .vmem, ⟨9, _⟩ => ⟨S1x128x704, .f32⟩
  | .local _ .vmem, ⟨10, _⟩ => ⟨S1x128x704, .f32⟩
  | .local _ .vmem, ⟨11, _⟩ => ⟨S1x128x704, .f32⟩
  | .local _ .vmem, ⟨12, _⟩ => ⟨S1x128x704, .f32⟩
  | .local _ .vmem, ⟨13, _⟩ => ⟨S1x128x704, .f32⟩
  | .local _ .vmem, ⟨14, _⟩ => ⟨S1x128x704, .f32⟩
  | .local _ .vmem, ⟨15, _⟩ => ⟨S1x128x704, .f32⟩
  | .local _ .vmem, ⟨16, _⟩ => ⟨S1x128x704, .f32⟩
  | .local _ .vmem, ⟨17, _⟩ => ⟨S1x128x704, .f32⟩
  | .local _ .vmem, ⟨18, _⟩ => ⟨S1x128x704, .f32⟩
  | .local _ .vmem, ⟨19, _⟩ => ⟨S1x128x704, .f32⟩
  | .local _ .vmem, ⟨20, _⟩ => ⟨S1x128x704, .f32⟩
  | .local _ .vmem, ⟨21, _⟩ => ⟨S1x128x704, .f32⟩
  | _, _ => ⟨S4x8x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c15_i32 : BitVec 32 := 15#32
  let c0_i32_1 : BitVec 32 := 0#32
  let v2 : BitVec 32 := Scalar.select v1 c15_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c15_i32 : BitVec 32 := 15#32
  let c0_i32 : BitVec 32 := 0#32
  let v2 : BitVec 32 := Scalar.select v1 c15_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .sgt arg0 c2_i32_0
  let c15_i32 : BitVec 32 := 15#32
  let c0_i32 : BitVec 32 := 0#32
  let v2 : BitVec 32 := Scalar.select v1 c15_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .sgt arg0 c3_i32_0
  let c15_i32 : BitVec 32 := 15#32
  let c0_i32 : BitVec 32 := 0#32
  let v2 : BitVec 32 := Scalar.select v1 c15_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference16Ideal.lean ====
abbrev S4x8x2048x704 : Shape := ⟨4, ![4, 8, 2048, 704]⟩
abbrev S4x2048x704 : Shape := ⟨3, ![4, 2048, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x8x2048x704, .f32⟩
  | .hbm, ⟨1, _⟩ => ⟨S4x2048x704, .f32⟩
  | .hbm, ⟨2, _⟩ => ⟨S4x2048x704, .f32⟩
  | .hbm, ⟨3, _⟩ => ⟨S4x2048x704, .f32⟩
  | .hbm, ⟨4, _⟩ => ⟨S_, .f32⟩
  | .hbm, ⟨5, _⟩ => ⟨S4x2048x704, .f32⟩
  | .hbm, ⟨6, _⟩ => ⟨S_, .f32⟩
  | .hbm, ⟨7, _⟩ => ⟨S4x2048x704, .f32⟩
  | .hbm, ⟨8, _⟩ => ⟨S4x2048x704, .f32⟩
  | .hbm, ⟨9, _⟩ => ⟨S_, .f32⟩
  | .hbm, ⟨10, _⟩ => ⟨S4x2048x704, .f32⟩
  | .hbm, ⟨11, _⟩ => ⟨S4x2048x704, .f32⟩
  | .hbm, ⟨12, _⟩ => ⟨S4x2048x704, .f32⟩
  | .hbm, ⟨13, _⟩ => ⟨S_, .f32⟩
  | .hbm, ⟨14, _⟩ => ⟨S4x2048x704, .f32⟩
  | .hbm, ⟨15, _⟩ => ⟨S4x2048x704, .f32⟩
  | .hbm, ⟨16, _⟩ => ⟨S4x2048x704, .f32⟩
  | .hbm, ⟨17, _⟩ => ⟨S_, .f32⟩
  | .hbm, ⟨18, _⟩ => ⟨S4x2048x704, .f32⟩
  | .hbm, ⟨19, _⟩ => ⟨S4x2048x704, .f32⟩
  | .hbm, ⟨20, _⟩ => ⟨S4x2048x704, .f32⟩
  | .hbm, ⟨21, _⟩ => ⟨S_, .f32⟩
  | .hbm, ⟨22, _⟩ => ⟨S4x2048x704, .f32⟩
  | .hbm, ⟨23, _⟩ => ⟨S4x2048x704, .f32⟩
  | .hbm, ⟨24, _⟩ => ⟨S_, .f32⟩
  | .hbm, ⟨25, _⟩ => ⟨S4x2048x704, .f32⟩
  | .hbm, ⟨26, _⟩ => ⟨S4x2048x704, .f32⟩
  | .hbm, ⟨27, _⟩ => ⟨S4x2048x704, .f32⟩
  | .hbm, ⟨28, _⟩ => ⟨S_, .f32⟩
  | .hbm, ⟨29, _⟩ => ⟨S4x2048x704, .f32⟩
  | .hbm, ⟨30, _⟩ => ⟨S4x2048x704, .f32⟩
  | .hbm, ⟨31, _⟩ => ⟨S4x2048x704, .f32⟩
  | .hbm, ⟨32, _⟩ => ⟨S_, .f32⟩
  | .hbm, ⟨33, _⟩ => ⟨S4x2048x704, .f32⟩
  | .hbm, ⟨34, _⟩ => ⟨S4x2048x704, .f32⟩
  | .hbm, ⟨35, _⟩ => ⟨S4x2048x704, .f32⟩
  | .hbm, ⟨36, _⟩ => ⟨S_, .f32⟩
  | .hbm, ⟨37, _⟩ => ⟨S4x2048x704, .f32⟩
  | .hbm, ⟨38, _⟩ => ⟨S4x2048x704, .f32⟩
  | _, _ => ⟨S4x8x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel17.lean ====
abbrev S4x8x704x2048 : Shape := ⟨4, ![4, 8, 704, 2048]⟩
abbrev S4x704x2048 : Shape := ⟨3, ![4, 704, 2048]⟩
abbrev S1x8x704x2048 : Shape := ⟨4, ![1, 8, 704, 2048]⟩
abbrev S8x704x2048 : Shape := ⟨3, ![8, 704, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 20
  | .vmem => 22
  | .smem => 0
  | _ => 0

abbrev bufTy : (tb : Table) → Fin (tcTables nBuf tb) → BufTy
  | .hbm, ⟨0, _⟩ => ⟨S4x8x704x2048, .f32⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S1x8x704x2048, .f32⟩
  | .hbm, ⟨5, _⟩ => ⟨S8x704x2048, .f32⟩
  | .hbm, ⟨6, _⟩ => ⟨S1x8x704x2048, .f32⟩
  | .hbm, ⟨7, _⟩ => ⟨S8x704x2048, .f32⟩
  | .hbm, ⟨8, _⟩ => ⟨S1x8x704x2048, .f32⟩
  | .hbm, ⟨9, _⟩ => ⟨S8x704x2048, .f32⟩
  | .hbm, ⟨10, _⟩ => ⟨S1x8x704x2048, .f32⟩
  | .hbm, ⟨11, _⟩ => ⟨S8x704x2048, .f32⟩
  | .hbm, ⟨12, _⟩ => ⟨S8x704x2048, .bf16⟩
  | .hbm, ⟨13, _⟩ => ⟨S8x704x2048, .bf16⟩
  | .hbm, ⟨14, _⟩ => ⟨S8x704x2048, .bf16⟩
  | .hbm, ⟨15, _⟩ => ⟨S8x704x2048, .bf16⟩
  | .hbm, ⟨16, _⟩ => ⟨S4x704x2048, .f32⟩
  | .hbm, ⟨17, _⟩ => ⟨S4x704x2048, .f32⟩
  | .hbm, ⟨18, _⟩ => ⟨S4x704x2048, .f32⟩
  | .hbm, ⟨19, _⟩ => ⟨S4x704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S8x64x2048, .bf16⟩
  | .local _ .vmem, ⟨3, _⟩ => ⟨S8x64x2048, .bf16⟩
  | .local _ .vmem, ⟨4, _⟩ => ⟨S8x64x2048, .bf16⟩
  | .local _ .vmem, ⟨5, _⟩ => ⟨S8x64x2048, .bf16⟩
  | .local _ .vmem, ⟨6, _⟩ => ⟨S8x64x2048, .bf16⟩
  | .local _ .vmem, ⟨7, _⟩ => ⟨S8x64x2048, .bf16⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | _, _ => ⟨S4x8x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c10_i32 : BitVec 32 := 10#32
  let c0_i32_1 : BitVec 32 := 0#32
  let v2 : BitVec 32 := Scalar.select v1 c10_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c10_i32 : BitVec 32 := 10#32
  let c0_i32 : BitVec 32 := 0#32
  let v2 : BitVec 32 := Scalar.select v1 c10_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .sgt arg0 c2_i32_0
  let c10_i32 : BitVec 32 := 10#32
  let c0_i32 : BitVec 32 := 0#32
  let v2 : BitVec 32 := Scalar.select v1 c10_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .sgt arg0 c3_i32_0
  let c10_i32 : BitVec 32 := 10#32
  let c0_i32 : BitVec 32 := 0#32
  let v2 : BitVec 32 := Scalar.select v1 c10_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel17Ideal.lean ====
abbrev S4x8x704x2048 : Shape := ⟨4, ![4, 8, 704, 2048]⟩
abbrev S4x704x2048 : Shape := ⟨3, ![4, 704, 2048]⟩
abbrev S1x8x704x2048 : Shape := ⟨4, ![1, 8, 704, 2048]⟩
abbrev S8x704x2048 : Shape := ⟨3, ![8, 704, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 20
  | .vmem => 22
  | .smem => 0
  | _ => 0

abbrev bufTy : (tb : Table) → Fin (tcTables nBuf tb) → BufTy
  | .hbm, ⟨0, _⟩ => ⟨S4x8x704x2048, .f32⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S1x8x704x2048, .f32⟩
  | .hbm, ⟨5, _⟩ => ⟨S8x704x2048, .f32⟩
  | .hbm, ⟨6, _⟩ => ⟨S1x8x704x2048, .f32⟩
  | .hbm, ⟨7, _⟩ => ⟨S8x704x2048, .f32⟩
  | .hbm, ⟨8, _⟩ => ⟨S1x8x704x2048, .f32⟩
  | .hbm, ⟨9, _⟩ => ⟨S8x704x2048, .f32⟩
  | .hbm, ⟨10, _⟩ => ⟨S1x8x704x2048, .f32⟩
  | .hbm, ⟨11, _⟩ => ⟨S8x704x2048, .f32⟩
  | .hbm, ⟨12, _⟩ => ⟨S8x704x2048, .bf16⟩
  | .hbm, ⟨13, _⟩ => ⟨S8x704x2048, .bf16⟩
  | .hbm, ⟨14, _⟩ => ⟨S8x704x2048, .bf16⟩
  | .hbm, ⟨15, _⟩ => ⟨S8x704x2048, .bf16⟩
  | .hbm, ⟨16, _⟩ => ⟨S4x704x2048, .f32⟩
  | .hbm, ⟨17, _⟩ => ⟨S4x704x2048, .f32⟩
  | .hbm, ⟨18, _⟩ => ⟨S4x704x2048, .f32⟩
  | .hbm, ⟨19, _⟩ => ⟨S4x704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S8x64x2048, .bf16⟩
  | .local _ .vmem, ⟨3, _⟩ => ⟨S8x64x2048, .bf16⟩
  | .local _ .vmem, ⟨4, _⟩ => ⟨S8x64x2048, .bf16⟩
  | .local _ .vmem, ⟨5, _⟩ => ⟨S8x64x2048, .bf16⟩
  | .local _ .vmem, ⟨6, _⟩ => ⟨S8x64x2048, .bf16⟩
  | .local _ .vmem, ⟨7, _⟩ => ⟨S8x64x2048, .bf16⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | _, _ => ⟨S4x8x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c10_i32 : BitVec 32 := 10#32
  let c0_i32_1 : BitVec 32 := 0#32
  let v2 : BitVec 32 := Scalar.select v1 c10_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c10_i32 : BitVec 32 := 10#32
  let c0_i32 : BitVec 32 := 0#32
  let v2 : BitVec 32 := Scalar.select v1 c10_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .sgt arg0 c2_i32_0
  let c10_i32 : BitVec 32 := 10#32
  let c0_i32 : BitVec 32 := 0#32
  let v2 : BitVec 32 := Scalar.select v1 c10_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .sgt arg0 c3_i32_0
  let c10_i32 : BitVec 32 := 10#32
  let c0_i32 : BitVec 32 := 0#32
  let v2 : BitVec 32 := Scalar.select v1 c10_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference17Ideal.lean ====
abbrev S4x8x704x2048 : Shape := ⟨4, ![4, 8, 704, 2048]⟩
abbrev S4x704x2048 : Shape := ⟨3, ![4, 704, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x8x704x2048, .f32⟩
  | .hbm, ⟨1, _⟩ => ⟨S4x704x2048, .f32⟩
  | .hbm, ⟨2, _⟩ => ⟨S4x704x2048, .f32⟩
  | .hbm, ⟨3, _⟩ => ⟨S4x704x2048, .f32⟩
  | .hbm, ⟨4, _⟩ => ⟨S_, .f32⟩
  | .hbm, ⟨5, _⟩ => ⟨S4x704x2048, .f32⟩
  | .hbm, ⟨6, _⟩ => ⟨S_, .f32⟩
  | .hbm, ⟨7, _⟩ => ⟨S4x704x2048, .f32⟩
  | .hbm, ⟨8, _⟩ => ⟨S4x704x2048, .f32⟩
  | .hbm, ⟨9, _⟩ => ⟨S_, .f32⟩
  | .hbm, ⟨10, _⟩ => ⟨S4x704x2048, .f32⟩
  | .hbm, ⟨11, _⟩ => ⟨S4x704x2048, .f32⟩
  | .hbm, ⟨12, _⟩ => ⟨S4x704x2048, .f32⟩
  | .hbm, ⟨13, _⟩ => ⟨S_, .f32⟩
  | .hbm, ⟨14, _⟩ => ⟨S4x704x2048, .f32⟩
  | .hbm, ⟨15, _⟩ => ⟨S4x704x2048, .f32⟩
  | .hbm, ⟨16, _⟩ => ⟨S4x704x2048, .f32⟩
  | .hbm, ⟨17, _⟩ => ⟨S_, .f32⟩
  | .hbm, ⟨18, _⟩ => ⟨S4x704x2048, .f32⟩
  | .hbm, ⟨19, _⟩ => ⟨S4x704x2048, .f32⟩
  | .hbm, ⟨20, _⟩ => ⟨S4x704x2048, .f32⟩
  | .hbm, ⟨21, _⟩ => ⟨S_, .f32⟩
  | .hbm, ⟨22, _⟩ => ⟨S4x704x2048, .f32⟩
  | .hbm, ⟨23, _⟩ => ⟨S4x704x2048, .f32⟩
  | .hbm, ⟨24, _⟩ => ⟨S_, .f32⟩
  | .hbm, ⟨25, _⟩ => ⟨S4x704x2048, .f32⟩
  | .hbm, ⟨26, _⟩ => ⟨S4x704x2048, .f32⟩
  | .hbm, ⟨27, _⟩ => ⟨S4x704x2048, .f32⟩
  | .hbm, ⟨28, _⟩ => ⟨S_, .f32⟩
  | .hbm, ⟨29, _⟩ => ⟨S4x704x2048, .f32⟩
  | .hbm, ⟨30, _⟩ => ⟨S4x704x2048, .f32⟩
  | .hbm, ⟨31, _⟩ => ⟨S4x704x2048, .f32⟩
  | .hbm, ⟨32, _⟩ => ⟨S_, .f32⟩
  | .hbm, ⟨33, _⟩ => ⟨S4x704x2048, .f32⟩
  | .hbm, ⟨34, _⟩ => ⟨S4x704x2048, .f32⟩
  | .hbm, ⟨35, _⟩ => ⟨S4x704x2048, .f32⟩
  | .hbm, ⟨36, _⟩ => ⟨S_, .f32⟩
  | .hbm, ⟨37, _⟩ => ⟨S4x704x2048, .f32⟩
  | .hbm, ⟨38, _⟩ => ⟨S4x704x2048, .f32⟩
  | _, _ => ⟨S4x8x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel18.lean ====
abbrev S4x8x2048x520 : Shape := ⟨4, ![4, 8, 2048, 520]⟩
abbrev S4x2048x520 : Shape := ⟨3, ![4, 2048, 520]⟩
abbrev S1x8x2048x520 : Shape := ⟨4, ![1, 8, 2048, 520]⟩
abbrev S8x2048x520 : Shape := ⟨3, ![8, 2048, 520]⟩
abbrev S8x128x520 : Shape := ⟨3, ![8, 128, 520]⟩
abbrev S1x128x520 : Shape := ⟨3, ![1, 128, 520]⟩
abbrev S128x520 : Shape := ⟨2, ![128, 520]⟩

abbrev nBuf : Space → Nat
  | .hbm => 20
  | .vmem => 22
  | .smem => 0
  | _ => 0

abbrev bufTy : (tb : Table) → Fin (tcTables nBuf tb) → BufTy
  | .hbm, ⟨0, _⟩ => ⟨S4x8x2048x520, .f32⟩
  | .hbm, ⟨1, _⟩ => ⟨S4x2048x520, .f32⟩
  | .hbm, ⟨2, _⟩ => ⟨S4x2048x520, .f32⟩
  | .hbm, ⟨3, _⟩ => ⟨S4x2048x520, .f32⟩
  | .hbm, ⟨4, _⟩ => ⟨S1x8x2048x520, .f32⟩
  | .hbm, ⟨5, _⟩ => ⟨S8x2048x520, .f32⟩
  | .hbm, ⟨6, _⟩ => ⟨S1x8x2048x520, .f32⟩
  | .hbm, ⟨7, _⟩ => ⟨S8x2048x520, .f32⟩
  | .hbm, ⟨8, _⟩ => ⟨S1x8x2048x520, .f32⟩
  | .hbm, ⟨9, _⟩ => ⟨S8x2048x520, .f32⟩
  | .hbm, ⟨10, _⟩ => ⟨S1x8x2048x520, .f32⟩
  | .hbm, ⟨11, _⟩ => ⟨S8x2048x520, .f32⟩
  | .hbm, ⟨12, _⟩ => ⟨S8x2048x520, .bf16⟩
  | .hbm, ⟨13, _⟩ => ⟨S8x2048x520, .bf16⟩
  | .hbm, ⟨14, _⟩ => ⟨S8x2048x520, .bf16⟩
  | .hbm, ⟨15, _⟩ => ⟨S8x2048x520, .bf16⟩
  | .hbm, ⟨16, _⟩ => ⟨S4x2048x520, .f32⟩
  | .hbm, ⟨17, _⟩ => ⟨S4x2048x520, .f32⟩
  | .hbm, ⟨18, _⟩ => ⟨S4x2048x520, .f32⟩
  | .hbm, ⟨19, _⟩ => ⟨S4x2048x520, .f32⟩
  | .local _ .vmem, ⟨0, _⟩ => ⟨S8x128x520, .bf16⟩
  | .local _ .vmem, ⟨1, _⟩ => ⟨S8x128x520, .bf16⟩
  | .local _ .vmem, ⟨2, _⟩ => ⟨S8x128x520, .bf16⟩
  | .local _ .vmem, ⟨3, _⟩ => ⟨S8x128x520, .bf16⟩
  | .local _ .vmem, ⟨4, _⟩ => ⟨S8x128x520, .bf16⟩
  | .local _ .vmem, ⟨5, _⟩ => ⟨S8x128x520, .bf16⟩
  | .local _ .vmem, ⟨6, _⟩ => ⟨S8x128x520, .bf16⟩
  | .local _ .vmem, ⟨7, _⟩ => ⟨S8x128x520, .bf16⟩
  | .local _ .vmem, ⟨8, _⟩ => ⟨S1x128x520, .f32⟩
  | .local _ .vmem, ⟨9, _⟩ => ⟨S1x128x520, .f32⟩
  | .local _ .vmem, ⟨10, _⟩ => ⟨S1x128x520, .f32⟩
  | .local _ .vmem, ⟨11, _⟩ => ⟨S1x128x520, .f32⟩
  | .local _ .vmem, ⟨12, _⟩ => ⟨S1x128x520, .f32⟩
  | .local _ .vmem, ⟨13, _⟩ => ⟨S1x128x520, .f32⟩
  | .local _ .vmem, ⟨14, _⟩ => ⟨S1x128x520, .f32⟩
  | .local _ .vmem, ⟨15, _⟩ => ⟨S1x128x520, .f32⟩
  | .local _ .vmem, ⟨16, _⟩ => ⟨S1x128x520, .f32⟩
  | .local _ .vmem, ⟨17, _⟩ => ⟨S1x128x520, .f32⟩
  | .local _ .vmem, ⟨18, _⟩ => ⟨S1x128x520, .f32⟩
  | .local _ .vmem, ⟨19, _⟩ => ⟨S1x128x520, .f32⟩
  | .local _ .vmem, ⟨20, _⟩ => ⟨S1x128x520, .f32⟩
  | .local _ .vmem, ⟨21, _⟩ => ⟨S1x128x520, .f32⟩
  | _, _ => ⟨S4x8x2048x520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c15_i32 : BitVec 32 := 15#32
  let c0_i32_1 : BitVec 32 := 0#32
  let v2 : BitVec 32 := Scalar.select v1 c15_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c15_i32 : BitVec 32 := 15#32
  let c0_i32 : BitVec 32 := 0#32
  let v2 : BitVec 32 := Scalar.select v1 c15_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .sgt arg0 c2_i32_0
  let c15_i32 : BitVec 32 := 15#32
  let c0_i32 : BitVec 32 := 0#32
  let v2 : BitVec 32 := Scalar.select v1 c15_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .sgt arg0 c3_i32_0
  let c15_i32 : BitVec 32 := 15#32
  let c0_i32 : BitVec 32 := 0#32
  let v2 : BitVec 32 := Scalar.select v1 c15_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x520 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x520 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x520 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x520 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x520 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x520 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x520 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x520 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x520 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x520 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x520 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel18Ideal.lean ====
abbrev S4x8x2048x520 : Shape := ⟨4, ![4, 8, 2048, 520]⟩
abbrev S4x2048x520 : Shape := ⟨3, ![4, 2048, 520]⟩
abbrev S1x8x2048x520 : Shape := ⟨4, ![1, 8, 2048, 520]⟩
abbrev S8x2048x520 : Shape := ⟨3, ![8, 2048, 520]⟩
abbrev S8x128x520 : Shape := ⟨3, ![8, 128, 520]⟩
abbrev S1x128x520 : Shape := ⟨3, ![1, 128, 520]⟩
abbrev S128x520 : Shape := ⟨2, ![128, 520]⟩

abbrev nBuf : Space → Nat
  | .hbm => 20
  | .vmem => 22
  | .smem => 0
  | _ => 0

abbrev bufTy : (tb : Table) → Fin (tcTables nBuf tb) → BufTy
  | .hbm, ⟨0, _⟩ => ⟨S4x8x2048x520, .f32⟩
  | .hbm, ⟨1, _⟩ => ⟨S4x2048x520, .f32⟩
  | .hbm, ⟨2, _⟩ => ⟨S4x2048x520, .f32⟩
  | .hbm, ⟨3, _⟩ => ⟨S4x2048x520, .f32⟩
  | .hbm, ⟨4, _⟩ => ⟨S1x8x2048x520, .f32⟩
  | .hbm, ⟨5, _⟩ => ⟨S8x2048x520, .f32⟩
  | .hbm, ⟨6, _⟩ => ⟨S1x8x2048x520, .f32⟩
  | .hbm, ⟨7, _⟩ => ⟨S8x2048x520, .f32⟩
  | .hbm, ⟨8, _⟩ => ⟨S1x8x2048x520, .f32⟩
  | .hbm, ⟨9, _⟩ => ⟨S8x2048x520, .f32⟩
  | .hbm, ⟨10, _⟩ => ⟨S1x8x2048x520, .f32⟩
  | .hbm, ⟨11, _⟩ => ⟨S8x2048x520, .f32⟩
  | .hbm, ⟨12, _⟩ => ⟨S8x2048x520, .bf16⟩
  | .hbm, ⟨13, _⟩ => ⟨S8x2048x520, .bf16⟩
  | .hbm, ⟨14, _⟩ => ⟨S8x2048x520, .bf16⟩
  | .hbm, ⟨15, _⟩ => ⟨S8x2048x520, .bf16⟩
  | .hbm, ⟨16, _⟩ => ⟨S4x2048x520, .f32⟩
  | .hbm, ⟨17, _⟩ => ⟨S4x2048x520, .f32⟩
  | .hbm, ⟨18, _⟩ => ⟨S4x2048x520, .f32⟩
  | .hbm, ⟨19, _⟩ => ⟨S4x2048x520, .f32⟩
  | .local _ .vmem, ⟨0, _⟩ => ⟨S8x128x520, .bf16⟩
  | .local _ .vmem, ⟨1, _⟩ => ⟨S8x128x520, .bf16⟩
  | .local _ .vmem, ⟨2, _⟩ => ⟨S8x128x520, .bf16⟩
  | .local _ .vmem, ⟨3, _⟩ => ⟨S8x128x520, .bf16⟩
  | .local _ .vmem, ⟨4, _⟩ => ⟨S8x128x520, .bf16⟩
  | .local _ .vmem, ⟨5, _⟩ => ⟨S8x128x520, .bf16⟩
  | .local _ .vmem, ⟨6, _⟩ => ⟨S8x128x520, .bf16⟩
  | .local _ .vmem, ⟨7, _⟩ => ⟨S8x128x520, .bf16⟩
  | .local _ .vmem, ⟨8, _⟩ => ⟨S1x128x520, .f32⟩
  | .local _ .vmem, ⟨9, _⟩ => ⟨S1x128x520, .f32⟩
  | .local _ .vmem, ⟨10, _⟩ => ⟨S1x128x520, .f32⟩
  | .local _ .vmem, ⟨11, _⟩ => ⟨S1x128x520, .f32⟩
  | .local _ .vmem, ⟨12, _⟩ => ⟨S1x128x520, .f32⟩
  | .local _ .vmem, ⟨13, _⟩ => ⟨S1x128x520, .f32⟩
  | .local _ .vmem, ⟨14, _⟩ => ⟨S1x128x520, .f32⟩
  | .local _ .vmem, ⟨15, _⟩ => ⟨S1x128x520, .f32⟩
  | .local _ .vmem, ⟨16, _⟩ => ⟨S1x128x520, .f32⟩
  | .local _ .vmem, ⟨17, _⟩ => ⟨S1x128x520, .f32⟩
  | .local _ .vmem, ⟨18, _⟩ => ⟨S1x128x520, .f32⟩
  | .local _ .vmem, ⟨19, _⟩ => ⟨S1x128x520, .f32⟩
  | .local _ .vmem, ⟨20, _⟩ => ⟨S1x128x520, .f32⟩
  | .local _ .vmem, ⟨21, _⟩ => ⟨S1x128x520, .f32⟩
  | _, _ => ⟨S4x8x2048x520, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c15_i32 : BitVec 32 := 15#32
  let c0_i32_1 : BitVec 32 := 0#32
  let v2 : BitVec 32 := Scalar.select v1 c15_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c15_i32 : BitVec 32 := 15#32
  let c0_i32 : BitVec 32 := 0#32
  let v2 : BitVec 32 := Scalar.select v1 c15_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .sgt arg0 c2_i32_0
  let c15_i32 : BitVec 32 := 15#32
  let c0_i32 : BitVec 32 := 0#32
  let v2 : BitVec 32 := Scalar.select v1 c15_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .sgt arg0 c3_i32_0
  let c15_i32 : BitVec 32 := 15#32
  let c0_i32 : BitVec 32 := 0#32
  let v2 : BitVec 32 := Scalar.select v1 c15_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x520 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x520 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x520 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x520 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x520 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x520 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x520 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x520 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x520 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x520 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x520 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference18Ideal.lean ====
abbrev S4x8x2048x520 : Shape := ⟨4, ![4, 8, 2048, 520]⟩
abbrev S4x2048x520 : Shape := ⟨3, ![4, 2048, 520]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x8x2048x520, .f32⟩
  | .hbm, ⟨1, _⟩ => ⟨S4x2048x520, .f32⟩
  | .hbm, ⟨2, _⟩ => ⟨S4x2048x520, .f32⟩
  | .hbm, ⟨3, _⟩ => ⟨S4x2048x520, .f32⟩
  | .hbm, ⟨4, _⟩ => ⟨S_, .f32⟩
  | .hbm, ⟨5, _⟩ => ⟨S4x2048x520, .f32⟩
  | .hbm, ⟨6, _⟩ => ⟨S_, .f32⟩
  | .hbm, ⟨7, _⟩ => ⟨S4x2048x520, .f32⟩
  | .hbm, ⟨8, _⟩ => ⟨S4x2048x520, .f32⟩
  | .hbm, ⟨9, _⟩ => ⟨S_, .f32⟩
  | .hbm, ⟨10, _⟩ => ⟨S4x2048x520, .f32⟩
  | .hbm, ⟨11, _⟩ => ⟨S4x2048x520, .f32⟩
  | .hbm, ⟨12, _⟩ => ⟨S4x2048x520, .f32⟩
  | .hbm, ⟨13, _⟩ => ⟨S_, .f32⟩
  | .hbm, ⟨14, _⟩ => ⟨S4x2048x520, .f32⟩
  | .hbm, ⟨15, _⟩ => ⟨S4x2048x520, .f32⟩
  | .hbm, ⟨16, _⟩ => ⟨S4x2048x520, .f32⟩
  | .hbm, ⟨17, _⟩ => ⟨S_, .f32⟩
  | .hbm, ⟨18, _⟩ => ⟨S4x2048x520, .f32⟩
  | .hbm, ⟨19, _⟩ => ⟨S4x2048x520, .f32⟩
  | .hbm, ⟨20, _⟩ => ⟨S4x2048x520, .f32⟩
  | .hbm, ⟨21, _⟩ => ⟨S_, .f32⟩
  | .hbm, ⟨22, _⟩ => ⟨S4x2048x520, .f32⟩
  | .hbm, ⟨23, _⟩ => ⟨S4x2048x520, .f32⟩
  | .hbm, ⟨24, _⟩ => ⟨S_, .f32⟩
  | .hbm, ⟨25, _⟩ => ⟨S4x2048x520, .f32⟩
  | .hbm, ⟨26, _⟩ => ⟨S4x2048x520, .f32⟩
  | .hbm, ⟨27, _⟩ => ⟨S4x2048x520, .f32⟩
  | .hbm, ⟨28, _⟩ => ⟨S_, .f32⟩
  | .hbm, ⟨29, _⟩ => ⟨S4x2048x520, .f32⟩
  | .hbm, ⟨30, _⟩ => ⟨S4x2048x520, .f32⟩
  | .hbm, ⟨31, _⟩ => ⟨S4x2048x520, .f32⟩
  | .hbm, ⟨32, _⟩ => ⟨S_, .f32⟩
  | .hbm, ⟨33, _⟩ => ⟨S4x2048x520, .f32⟩
  | .hbm, ⟨34, _⟩ => ⟨S4x2048x520, .f32⟩
  | .hbm, ⟨35, _⟩ => ⟨S4x2048x520, .f32⟩
  | .hbm, ⟨36, _⟩ => ⟨S_, .f32⟩
  | .hbm, ⟨37, _⟩ => ⟨S4x2048x520, .f32⟩
  | .hbm, ⟨38, _⟩ => ⟨S4x2048x520, .f32⟩
  | _, _ => ⟨S4x8x2048x520, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S4x8x512x192 : Shape := ⟨4, ![4, 8, 512, 192]⟩
abbrev S4x512x192 : Shape := ⟨3, ![4, 512, 192]⟩
abbrev S1x8x512x192 : Shape := ⟨4, ![1, 8, 512, 192]⟩
abbrev S8x512x192 : Shape := ⟨3, ![8, 512, 192]⟩
abbrev S1x512x192 : Shape := ⟨3, ![1, 512, 192]⟩
abbrev S512x192 : Shape := ⟨2, ![512, 192]⟩

abbrev nBuf : Space → Nat
  | .hbm => 20
  | .vmem => 22
  | .smem => 0
  | _ => 0

abbrev bufTy : (tb : Table) → Fin (tcTables nBuf tb) → BufTy
  | .hbm, ⟨0, _⟩ => ⟨S4x8x512x192, .f32⟩
  | .hbm, ⟨1, _⟩ => ⟨S4x512x192, .f32⟩
  | .hbm, ⟨2, _⟩ => ⟨S4x512x192, .f32⟩
  | .hbm, ⟨3, _⟩ => ⟨S4x512x192, .f32⟩
  | .hbm, ⟨4, _⟩ => ⟨S1x8x512x192, .f32⟩
  | .hbm, ⟨5, _⟩ => ⟨S8x512x192, .f32⟩
  | .hbm, ⟨6, _⟩ => ⟨S1x8x512x192, .f32⟩
  | .hbm, ⟨7, _⟩ => ⟨S8x512x192, .f32⟩
  | .hbm, ⟨8, _⟩ => ⟨S1x8x512x192, .f32⟩
  | .hbm, ⟨9, _⟩ => ⟨S8x512x192, .f32⟩
  | .hbm, ⟨10, _⟩ => ⟨S1x8x512x192, .f32⟩
  | .hbm, ⟨11, _⟩ => ⟨S8x512x192, .f32⟩
  | .hbm, ⟨12, _⟩ => ⟨S8x512x192, .bf16⟩
  | .hbm, ⟨13, _⟩ => ⟨S8x512x192, .bf16⟩
  | .hbm, ⟨14, _⟩ => ⟨S8x512x192, .bf16⟩
  | .hbm, ⟨15, _⟩ => ⟨S8x512x192, .bf16⟩
  | .hbm, ⟨16, _⟩ => ⟨S4x512x192, .f32⟩
  | .hbm, ⟨17, _⟩ => ⟨S4x512x192, .f32⟩
  | .hbm, ⟨18, _⟩ => ⟨S4x512x192, .f32⟩
  | .hbm, ⟨19, _⟩ => ⟨S4x512x192, .f32⟩
  | .local _ .vmem, ⟨0, _⟩ => ⟨S8x512x192, .bf16⟩
  | .local _ .vmem, ⟨1, _⟩ => ⟨S8x512x192, .bf16⟩
  | .local _ .vmem, ⟨2, _⟩ => ⟨S8x512x192, .bf16⟩
  | .local _ .vmem, ⟨3, _⟩ => ⟨S8x512x192, .bf16⟩
  | .local _ .vmem, ⟨4, _⟩ => ⟨S8x512x192, .bf16⟩
  | .local _ .vmem, ⟨5, _⟩ => ⟨S8x512x192, .bf16⟩
  | .local _ .vmem, ⟨6, _⟩ => ⟨S8x512x192, .bf16⟩
  | .local _ .vmem, ⟨7, _⟩ => ⟨S8x512x192, .bf16⟩
  | .local _ .vmem, ⟨8, _⟩ => ⟨S1x512x192, .f32⟩
  | .local _ .vmem, ⟨9, _⟩ => ⟨S1x512x192, .f32⟩
  | .local _ .vmem, ⟨10, _⟩ => ⟨S1x512x192, .f32⟩
  | .local _ .vmem, ⟨11, _⟩ => ⟨S1x512x192, .f32⟩
  | .local _ .vmem, ⟨12, _⟩ => ⟨S1x512x192, .f32⟩
  | .local _ .vmem, ⟨13, _⟩ => ⟨S1x512x192, .f32⟩
  | .local _ .vmem, ⟨14, _⟩ => ⟨S1x512x192, .f32⟩
  | .local _ .vmem, ⟨15, _⟩ => ⟨S1x512x192, .f32⟩
  | .local _ .vmem, ⟨16, _⟩ => ⟨S1x512x192, .f32⟩
  | .local _ .vmem, ⟨17, _⟩ => ⟨S1x512x192, .f32⟩
  | .local _ .vmem, ⟨18, _⟩ => ⟨S1x512x192, .f32⟩
  | .local _ .vmem, ⟨19, _⟩ => ⟨S1x512x192, .f32⟩
  | .local _ .vmem, ⟨20, _⟩ => ⟨S1x512x192, .f32⟩
  | .local _ .vmem, ⟨21, _⟩ => ⟨S1x512x192, .f32⟩
  | _, _ => ⟨S4x8x512x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .sgt arg0 c2_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .sgt arg0 c3_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512x192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel19Ideal.lean ====
abbrev S4x8x512x192 : Shape := ⟨4, ![4, 8, 512, 192]⟩
abbrev S4x512x192 : Shape := ⟨3, ![4, 512, 192]⟩
abbrev S1x8x512x192 : Shape := ⟨4, ![1, 8, 512, 192]⟩
abbrev S8x512x192 : Shape := ⟨3, ![8, 512, 192]⟩
abbrev S1x512x192 : Shape := ⟨3, ![1, 512, 192]⟩
abbrev S512x192 : Shape := ⟨2, ![512, 192]⟩

abbrev nBuf : Space → Nat
  | .hbm => 20
  | .vmem => 22
  | .smem => 0
  | _ => 0

abbrev bufTy : (tb : Table) → Fin (tcTables nBuf tb) → BufTy
  | .hbm, ⟨0, _⟩ => ⟨S4x8x512x192, .f32⟩
  | .hbm, ⟨1, _⟩ => ⟨S4x512x192, .f32⟩
  | .hbm, ⟨2, _⟩ => ⟨S4x512x192, .f32⟩
  | .hbm, ⟨3, _⟩ => ⟨S4x512x192, .f32⟩
  | .hbm, ⟨4, _⟩ => ⟨S1x8x512x192, .f32⟩
  | .hbm, ⟨5, _⟩ => ⟨S8x512x192, .f32⟩
  | .hbm, ⟨6, _⟩ => ⟨S1x8x512x192, .f32⟩
  | .hbm, ⟨7, _⟩ => ⟨S8x512x192, .f32⟩
  | .hbm, ⟨8, _⟩ => ⟨S1x8x512x192, .f32⟩
  | .hbm, ⟨9, _⟩ => ⟨S8x512x192, .f32⟩
  | .hbm, ⟨10, _⟩ => ⟨S1x8x512x192, .f32⟩
  | .hbm, ⟨11, _⟩ => ⟨S8x512x192, .f32⟩
  | .hbm, ⟨12, _⟩ => ⟨S8x512x192, .bf16⟩
  | .hbm, ⟨13, _⟩ => ⟨S8x512x192, .bf16⟩
  | .hbm, ⟨14, _⟩ => ⟨S8x512x192, .bf16⟩
  | .hbm, ⟨15, _⟩ => ⟨S8x512x192, .bf16⟩
  | .hbm, ⟨16, _⟩ => ⟨S4x512x192, .f32⟩
  | .hbm, ⟨17, _⟩ => ⟨S4x512x192, .f32⟩
  | .hbm, ⟨18, _⟩ => ⟨S4x512x192, .f32⟩
  | .hbm, ⟨19, _⟩ => ⟨S4x512x192, .f32⟩
  | .local _ .vmem, ⟨0, _⟩ => ⟨S8x512x192, .bf16⟩
  | .local _ .vmem, ⟨1, _⟩ => ⟨S8x512x192, .bf16⟩
  | .local _ .vmem, ⟨2, _⟩ => ⟨S8x512x192, .bf16⟩
  | .local _ .vmem, ⟨3, _⟩ => ⟨S8x512x192, .bf16⟩
  | .local _ .vmem, ⟨4, _⟩ => ⟨S8x512x192, .bf16⟩
  | .local _ .vmem, ⟨5, _⟩ => ⟨S8x512x192, .bf16⟩
  | .local _ .vmem, ⟨6, _⟩ => ⟨S8x512x192, .bf16⟩
  | .local _ .vmem, ⟨7, _⟩ => ⟨S8x512x192, .bf16⟩
  | .local _ .vmem, ⟨8, _⟩ => ⟨S1x512x192, .f32⟩
  | .local _ .vmem, ⟨9, _⟩ => ⟨S1x512x192, .f32⟩
  | .local _ .vmem, ⟨10, _⟩ => ⟨S1x512x192, .f32⟩
  | .local _ .vmem, ⟨11, _⟩ => ⟨S1x512x192, .f32⟩
  | .local _ .vmem, ⟨12, _⟩ => ⟨S1x512x192, .f32⟩
  | .local _ .vmem, ⟨13, _⟩ => ⟨S1x512x192, .f32⟩
  | .local _ .vmem, ⟨14, _⟩ => ⟨S1x512x192, .f32⟩
  | .local _ .vmem, ⟨15, _⟩ => ⟨S1x512x192, .f32⟩
  | .local _ .vmem, ⟨16, _⟩ => ⟨S1x512x192, .f32⟩
  | .local _ .vmem, ⟨17, _⟩ => ⟨S1x512x192, .f32⟩
  | .local _ .vmem, ⟨18, _⟩ => ⟨S1x512x192, .f32⟩
  | .local _ .vmem, ⟨19, _⟩ => ⟨S1x512x192, .f32⟩
  | .local _ .vmem, ⟨20, _⟩ => ⟨S1x512x192, .f32⟩
  | .local _ .vmem, ⟨21, _⟩ => ⟨S1x512x192, .f32⟩
  | _, _ => ⟨S4x8x512x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .sgt arg0 c2_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .sgt arg0 c3_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512x192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference19Ideal.lean ====
abbrev S4x8x512x192 : Shape := ⟨4, ![4, 8, 512, 192]⟩
abbrev S4x512x192 : Shape := ⟨3, ![4, 512, 192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x8x512x192, .f32⟩
  | .hbm, ⟨1, _⟩ => ⟨S4x512x192, .f32⟩
  | .hbm, ⟨2, _⟩ => ⟨S4x512x192, .f32⟩
  | .hbm, ⟨3, _⟩ => ⟨S4x512x192, .f32⟩
  | .hbm, ⟨4, _⟩ => ⟨S_, .f32⟩
  | .hbm, ⟨5, _⟩ => ⟨S4x512x192, .f32⟩
  | .hbm, ⟨6, _⟩ => ⟨S_, .f32⟩
  | .hbm, ⟨7, _⟩ => ⟨S4x512x192, .f32⟩
  | .hbm, ⟨8, _⟩ => ⟨S4x512x192, .f32⟩
  | .hbm, ⟨9, _⟩ => ⟨S_, .f32⟩
  | .hbm, ⟨10, _⟩ => ⟨S4x512x192, .f32⟩
  | .hbm, ⟨11, _⟩ => ⟨S4x512x192, .f32⟩
  | .hbm, ⟨12, _⟩ => ⟨S4x512x192, .f32⟩
  | .hbm, ⟨13, _⟩ => ⟨S_, .f32⟩
  | .hbm, ⟨14, _⟩ => ⟨S4x512x192, .f32⟩
  | .hbm, ⟨15, _⟩ => ⟨S4x512x192, .f32⟩
  | .hbm, ⟨16, _⟩ => ⟨S4x512x192, .f32⟩
  | .hbm, ⟨17, _⟩ => ⟨S_, .f32⟩
  | .hbm, ⟨18, _⟩ => ⟨S4x512x192, .f32⟩
  | .hbm, ⟨19, _⟩ => ⟨S4x512x192, .f32⟩
  | .hbm, ⟨20, _⟩ => ⟨S4x512x192, .f32⟩
  | .hbm, ⟨21, _⟩ => ⟨S_, .f32⟩
  | .hbm, ⟨22, _⟩ => ⟨S4x512x192, .f32⟩
  | .hbm, ⟨23, _⟩ => ⟨S4x512x192, .f32⟩
  | .hbm, ⟨24, _⟩ => ⟨S_, .f32⟩
  | .hbm, ⟨25, _⟩ => ⟨S4x512x192, .f32⟩
  | .hbm, ⟨26, _⟩ => ⟨S4x512x192, .f32⟩
  | .hbm, ⟨27, _⟩ => ⟨S4x512x192, .f32⟩
  | .hbm, ⟨28, _⟩ => ⟨S_, .f32⟩
  | .hbm, ⟨29, _⟩ => ⟨S4x512x192, .f32⟩
  | .hbm, ⟨30, _⟩ => ⟨S4x512x192, .f32⟩
  | .hbm, ⟨31, _⟩ => ⟨S4x512x192, .f32⟩
  | .hbm, ⟨32, _⟩ => ⟨S_, .f32⟩
  | .hbm, ⟨33, _⟩ => ⟨S4x512x192, .f32⟩
  | .hbm, ⟨34, _⟩ => ⟨S4x512x192, .f32⟩
  | .hbm, ⟨35, _⟩ => ⟨S4x512x192, .f32⟩
  | .hbm, ⟨36, _⟩ => ⟨S_, .f32⟩
  | .hbm, ⟨37, _⟩ => ⟨S4x512x192, .f32⟩
  | .hbm, ⟨38, _⟩ => ⟨S4x512x192, .f32⟩
  | _, _ => ⟨S4x8x512x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel20.lean ====
abbrev S4x8x512x256 : Shape := ⟨4, ![4, 8, 512, 256]⟩
abbrev S4x512x256 : Shape := ⟨3, ![4, 512, 256]⟩
abbrev S1x8x512x256 : Shape := ⟨4, ![1, 8, 512, 256]⟩
abbrev S8x512x256 : Shape := ⟨3, ![8, 512, 256]⟩
abbrev S1x512x256 : Shape := ⟨3, ![1, 512, 256]⟩
abbrev S512x256 : Shape := ⟨2, ![512, 256]⟩

abbrev nBuf : Space → Nat
  | .hbm => 20
  | .vmem => 22
  | .smem => 0
  | _ => 0

abbrev bufTy : (tb : Table) → Fin (tcTables nBuf tb) → BufTy
  | .hbm, ⟨0, _⟩ => ⟨S4x8x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S1x8x512x256, .f32⟩
  | .hbm, ⟨5, _⟩ => ⟨S8x512x256, .f32⟩
  | .hbm, ⟨6, _⟩ => ⟨S1x8x512x256, .f32⟩
  | .hbm, ⟨7, _⟩ => ⟨S8x512x256, .f32⟩
  | .hbm, ⟨8, _⟩ => ⟨S1x8x512x256, .f32⟩
  | .hbm, ⟨9, _⟩ => ⟨S8x512x256, .f32⟩
  | .hbm, ⟨10, _⟩ => ⟨S1x8x512x256, .f32⟩
  | .hbm, ⟨11, _⟩ => ⟨S8x512x256, .f32⟩
  | .hbm, ⟨12, _⟩ => ⟨S8x512x256, .bf16⟩
  | .hbm, ⟨13, _⟩ => ⟨S8x512x256, .bf16⟩
  | .hbm, ⟨14, _⟩ => ⟨S8x512x256, .bf16⟩
  | .hbm, ⟨15, _⟩ => ⟨S8x512x256, .bf16⟩
  | .hbm, ⟨16, _⟩ => ⟨S4x512x256, .f32⟩
  | .hbm, ⟨17, _⟩ => ⟨S4x512x256, .f32⟩
  | .hbm, ⟨18, _⟩ => ⟨S4x512x256, .f32⟩
  | .hbm, ⟨19, _⟩ => ⟨S4x512x256, .f32⟩
  | .local _ .vmem, ⟨0, _⟩ => ⟨S8x512x256, .bf16⟩
  | .local _ .vmem, ⟨1, _⟩ => ⟨S8x512x256, .bf16⟩
  | .local _ .vmem, ⟨2, _⟩ => ⟨S8x512x256, .bf16⟩
  | .local _ .vmem, ⟨3, _⟩ => ⟨S8x512x256, .bf16⟩
  | .local _ .vmem, ⟨4, _⟩ => ⟨S8x512x256, .bf16⟩
  | .local _ .vmem, ⟨5, _⟩ => ⟨S8x512x256, .bf16⟩
  | .local _ .vmem, ⟨6, _⟩ => ⟨S8x512x256, .bf16⟩
  | .local _ .vmem, ⟨7, _⟩ => ⟨S8x512x256, .bf16⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | _, _ => ⟨S4x8x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .sgt arg0 c2_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .sgt arg0 c3_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel20Ideal.lean ====
abbrev S4x8x512x256 : Shape := ⟨4, ![4, 8, 512, 256]⟩
abbrev S4x512x256 : Shape := ⟨3, ![4, 512, 256]⟩
abbrev S1x8x512x256 : Shape := ⟨4, ![1, 8, 512, 256]⟩
abbrev S8x512x256 : Shape := ⟨3, ![8, 512, 256]⟩
abbrev S1x512x256 : Shape := ⟨3, ![1, 512, 256]⟩
abbrev S512x256 : Shape := ⟨2, ![512, 256]⟩

abbrev nBuf : Space → Nat
  | .hbm => 20
  | .vmem => 22
  | .smem => 0
  | _ => 0

abbrev bufTy : (tb : Table) → Fin (tcTables nBuf tb) → BufTy
  | .hbm, ⟨0, _⟩ => ⟨S4x8x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S1x8x512x256, .f32⟩
  | .hbm, ⟨5, _⟩ => ⟨S8x512x256, .f32⟩
  | .hbm, ⟨6, _⟩ => ⟨S1x8x512x256, .f32⟩
  | .hbm, ⟨7, _⟩ => ⟨S8x512x256, .f32⟩
  | .hbm, ⟨8, _⟩ => ⟨S1x8x512x256, .f32⟩
  | .hbm, ⟨9, _⟩ => ⟨S8x512x256, .f32⟩
  | .hbm, ⟨10, _⟩ => ⟨S1x8x512x256, .f32⟩
  | .hbm, ⟨11, _⟩ => ⟨S8x512x256, .f32⟩
  | .hbm, ⟨12, _⟩ => ⟨S8x512x256, .bf16⟩
  | .hbm, ⟨13, _⟩ => ⟨S8x512x256, .bf16⟩
  | .hbm, ⟨14, _⟩ => ⟨S8x512x256, .bf16⟩
  | .hbm, ⟨15, _⟩ => ⟨S8x512x256, .bf16⟩
  | .hbm, ⟨16, _⟩ => ⟨S4x512x256, .f32⟩
  | .hbm, ⟨17, _⟩ => ⟨S4x512x256, .f32⟩
  | .hbm, ⟨18, _⟩ => ⟨S4x512x256, .f32⟩
  | .hbm, ⟨19, _⟩ => ⟨S4x512x256, .f32⟩
  | .local _ .vmem, ⟨0, _⟩ => ⟨S8x512x256, .bf16⟩
  | .local _ .vmem, ⟨1, _⟩ => ⟨S8x512x256, .bf16⟩
  | .local _ .vmem, ⟨2, _⟩ => ⟨S8x512x256, .bf16⟩
  | .local _ .vmem, ⟨3, _⟩ => ⟨S8x512x256, .bf16⟩
  | .local _ .vmem, ⟨4, _⟩ => ⟨S8x512x256, .bf16⟩
  | .local _ .vmem, ⟨5, _⟩ => ⟨S8x512x256, .bf16⟩
  | .local _ .vmem, ⟨6, _⟩ => ⟨S8x512x256, .bf16⟩
  | .local _ .vmem, ⟨7, _⟩ => ⟨S8x512x256, .bf16⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | _, _ => ⟨S4x8x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .sgt arg0 c2_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .sgt arg0 c3_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference20Ideal.lean ====
abbrev S4x8x512x256 : Shape := ⟨4, ![4, 8, 512, 256]⟩
abbrev S4x512x256 : Shape := ⟨3, ![4, 512, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x8x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S_, .f32⟩
  | .hbm, ⟨5, _⟩ => ⟨S4x512x256, .f32⟩
  | .hbm, ⟨6, _⟩ => ⟨S_, .f32⟩
  | .hbm, ⟨7, _⟩ => ⟨S4x512x256, .f32⟩
  | .hbm, ⟨8, _⟩ => ⟨S4x512x256, .f32⟩
  | .hbm, ⟨9, _⟩ => ⟨S_, .f32⟩
  | .hbm, ⟨10, _⟩ => ⟨S4x512x256, .f32⟩
  | .hbm, ⟨11, _⟩ => ⟨S4x512x256, .f32⟩
  | .hbm, ⟨12, _⟩ => ⟨S4x512x256, .f32⟩
  | .hbm, ⟨13, _⟩ => ⟨S_, .f32⟩
  | .hbm, ⟨14, _⟩ => ⟨S4x512x256, .f32⟩
  | .hbm, ⟨15, _⟩ => ⟨S4x512x256, .f32⟩
  | .hbm, ⟨16, _⟩ => ⟨S4x512x256, .f32⟩
  | .hbm, ⟨17, _⟩ => ⟨S_, .f32⟩
  | .hbm, ⟨18, _⟩ => ⟨S4x512x256, .f32⟩
  | .hbm, ⟨19, _⟩ => ⟨S4x512x256, .f32⟩
  | .hbm, ⟨20, _⟩ => ⟨S4x512x256, .f32⟩
  | .hbm, ⟨21, _⟩ => ⟨S_, .f32⟩
  | .hbm, ⟨22, _⟩ => ⟨S4x512x256, .f32⟩
  | .hbm, ⟨23, _⟩ => ⟨S4x512x256, .f32⟩
  | .hbm, ⟨24, _⟩ => ⟨S_, .f32⟩
  | .hbm, ⟨25, _⟩ => ⟨S4x512x256, .f32⟩
  | .hbm, ⟨26, _⟩ => ⟨S4x512x256, .f32⟩
  | .hbm, ⟨27, _⟩ => ⟨S4x512x256, .f32⟩
  | .hbm, ⟨28, _⟩ => ⟨S_, .f32⟩
  | .hbm, ⟨29, _⟩ => ⟨S4x512x256, .f32⟩
  | .hbm, ⟨30, _⟩ => ⟨S4x512x256, .f32⟩
  | .hbm, ⟨31, _⟩ => ⟨S4x512x256, .f32⟩
  | .hbm, ⟨32, _⟩ => ⟨S_, .f32⟩
  | .hbm, ⟨33, _⟩ => ⟨S4x512x256, .f32⟩
  | .hbm, ⟨34, _⟩ => ⟨S4x512x256, .f32⟩
  | .hbm, ⟨35, _⟩ => ⟨S4x512x256, .f32⟩
  | .hbm, ⟨36, _⟩ => ⟨S_, .f32⟩
  | .hbm, ⟨37, _⟩ => ⟨S4x512x256, .f32⟩
  | .hbm, ⟨38, _⟩ => ⟨S4x512x256, .f32⟩
  | _, _ => ⟨S4x8x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S4x8x256x2048 : Shape := ⟨4, ![4, 8, 256, 2048]⟩
abbrev S4x256x2048 : Shape := ⟨3, ![4, 256, 2048]⟩
abbrev S1x8x256x2048 : Shape := ⟨4, ![1, 8, 256, 2048]⟩
abbrev S8x256x2048 : Shape := ⟨3, ![8, 256, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 20
  | .vmem => 22
  | .smem => 0
  | _ => 0

abbrev bufTy : (tb : Table) → Fin (tcTables nBuf tb) → BufTy
  | .hbm, ⟨0, _⟩ => ⟨S4x8x256x2048, .f32⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S1x8x256x2048, .f32⟩
  | .hbm, ⟨5, _⟩ => ⟨S8x256x2048, .f32⟩
  | .hbm, ⟨6, _⟩ => ⟨S1x8x256x2048, .f32⟩
  | .hbm, ⟨7, _⟩ => ⟨S8x256x2048, .f32⟩
  | .hbm, ⟨8, _⟩ => ⟨S1x8x256x2048, .f32⟩
  | .hbm, ⟨9, _⟩ => ⟨S8x256x2048, .f32⟩
  | .hbm, ⟨10, _⟩ => ⟨S1x8x256x2048, .f32⟩
  | .hbm, ⟨11, _⟩ => ⟨S8x256x2048, .f32⟩
  | .hbm, ⟨12, _⟩ => ⟨S8x256x2048, .bf16⟩
  | .hbm, ⟨13, _⟩ => ⟨S8x256x2048, .bf16⟩
  | .hbm, ⟨14, _⟩ => ⟨S8x256x2048, .bf16⟩
  | .hbm, ⟨15, _⟩ => ⟨S8x256x2048, .bf16⟩
  | .hbm, ⟨16, _⟩ => ⟨S4x256x2048, .f32⟩
  | .hbm, ⟨17, _⟩ => ⟨S4x256x2048, .f32⟩
  | .hbm, ⟨18, _⟩ => ⟨S4x256x2048, .f32⟩
  | .hbm, ⟨19, _⟩ => ⟨S4x256x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S8x64x2048, .bf16⟩
  | .local _ .vmem, ⟨3, _⟩ => ⟨S8x64x2048, .bf16⟩
  | .local _ .vmem, ⟨4, _⟩ => ⟨S8x64x2048, .bf16⟩
  | .local _ .vmem, ⟨5, _⟩ => ⟨S8x64x2048, .bf16⟩
  | .local _ .vmem, ⟨6, _⟩ => ⟨S8x64x2048, .bf16⟩
  | .local _ .vmem, ⟨7, _⟩ => ⟨S8x64x2048, .bf16⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | _, _ => ⟨S4x8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c3_i32 : BitVec 32 := 3#32
  let c0_i32_1 : BitVec 32 := 0#32
  let v2 : BitVec 32 := Scalar.select v1 c3_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .sgt arg0 c1_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .sgt arg0 c2_i32_0
  let c3_i32 : BitVec 32 := 3#32
  let c0_i32 : BitVec 32 := 0#32
  let v2 : BitVec 32 := Scalar.select v1 c3_i32 c0_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .sgt arg0 c3_i32_0
  let c3_i32_1 : BitVec 32 := 3#32
  let c0_i32 : BitVec 32 := 0#32
  let v2 : BitVec 32 := Scalar.select v1 c3_i32_1 c0_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference21Ideal.lean ====
abbrev S4x8x256x2048 : Shape := ⟨4, ![4, 8, 256, 2048]⟩
abbrev S4x256x2048 : Shape := ⟨3, ![4, 256, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x8x256x2048, .f32⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S_, .f32⟩
  | .hbm, ⟨5, _⟩ => ⟨S4x256x2048, .f32⟩
  | .hbm, ⟨6, _⟩ => ⟨S_, .f32⟩
  | .hbm, ⟨7, _⟩ => ⟨S4x256x2048, .f32⟩
  | .hbm, ⟨8, _⟩ => ⟨S4x256x2048, .f32⟩
  | .hbm, ⟨9, _⟩ => ⟨S_, .f32⟩
  | .hbm, ⟨10, _⟩ => ⟨S4x256x2048, .f32⟩
  | .hbm, ⟨11, _⟩ => ⟨S4x256x2048, .f32⟩
  | .hbm, ⟨12, _⟩ => ⟨S4x256x2048, .f32⟩
  | .hbm, ⟨13, _⟩ => ⟨S_, .f32⟩
  | .hbm, ⟨14, _⟩ => ⟨S4x256x2048, .f32⟩
  | .hbm, ⟨15, _⟩ => ⟨S4x256x2048, .f32⟩
  | .hbm, ⟨16, _⟩ => ⟨S4x256x2048, .f32⟩
  | .hbm, ⟨17, _⟩ => ⟨S_, .f32⟩
  | .hbm, ⟨18, _⟩ => ⟨S4x256x2048, .f32⟩
  | .hbm, ⟨19, _⟩ => ⟨S4x256x2048, .f32⟩
  | .hbm, ⟨20, _⟩ => ⟨S4x256x2048, .f32⟩
  | .hbm, ⟨21, _⟩ => ⟨S_, .f32⟩
  | .hbm, ⟨22, _⟩ => ⟨S4x256x2048, .f32⟩
  | .hbm, ⟨23, _⟩ => ⟨S4x256x2048, .f32⟩
  | .hbm, ⟨24, _⟩ => ⟨S_, .f32⟩
  | .hbm, ⟨25, _⟩ => ⟨S4x256x2048, .f32⟩
  | .hbm, ⟨26, _⟩ => ⟨S4x256x2048, .f32⟩
  | .hbm, ⟨27, _⟩ => ⟨S4x256x2048, .f32⟩
  | .hbm, ⟨28, _⟩ => ⟨S_, .f32⟩
  | .hbm, ⟨29, _⟩ => ⟨S4x256x2048, .f32⟩
  | .hbm, ⟨30, _⟩ => ⟨S4x256x2048, .f32⟩
  | .hbm, ⟨31, _⟩ => ⟨S4x256x2048, .f32⟩
  | .hbm, ⟨32, _⟩ => ⟨S_, .f32⟩
  | .hbm, ⟨33, _⟩ => ⟨S4x256x2048, .f32⟩
  | .hbm, ⟨34, _⟩ => ⟨S4x256x2048, .f32⟩
  | .hbm, ⟨35, _⟩ => ⟨S4x256x2048, .f32⟩
  | .hbm, ⟨36, _⟩ => ⟨S_, .f32⟩
  | .hbm, ⟨37, _⟩ => ⟨S4x256x2048, .f32⟩
  | .hbm, ⟨38, _⟩ => ⟨S4x256x2048, .f32⟩
  | _, _ => ⟨S4x8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S1x32x2048 : Shape := ⟨3, ![1, 32, 2048]⟩
abbrev S32x2048 : Shape := ⟨2, ![32, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x32x2048, .f32⟩
  | .hbm, ⟨1, _⟩ => ⟨S1x32x2048, .f32⟩
  | .hbm, ⟨2, _⟩ => ⟨S1x32x2048, .f32⟩
  | .hbm, ⟨3, _⟩ => ⟨S1x32x2048, .f32⟩
  | .hbm, ⟨4, _⟩ => ⟨S1x32x2048, .f32⟩
  | .hbm, ⟨5, _⟩ => ⟨S1x32x2048, .f32⟩
  | .hbm, ⟨6, _⟩ => ⟨S1x32x2048, .f32⟩
  | .hbm, ⟨7, _⟩ => ⟨S1x32x2048, .f32⟩
  | .local _ .vmem, ⟨0, _⟩ => ⟨S1x32x2048, .f32⟩
  | .local _ .vmem, ⟨1, _⟩ => ⟨S1x32x2048, .f32⟩
  | .local _ .vmem, ⟨2, _⟩ => ⟨S1x32x2048, .f32⟩
  | .local _ .vmem, ⟨3, _⟩ => ⟨S1x32x2048, .f32⟩
  | .local _ .vmem, ⟨4, _⟩ => ⟨S1x32x2048, .f32⟩
  | .local _ .vmem, ⟨5, _⟩ => ⟨S1x32x2048, .f32⟩
  | .local _ .vmem, ⟨6, _⟩ => ⟨S1x32x2048, .f32⟩
  | .local _ .vmem, ⟨7, _⟩ => ⟨S1x32x2048, .f32⟩
  | _, _ => ⟨S1x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .sgt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x32x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x32x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference22Ideal.lean ====
abbrev S1x32x2048 : Shape := ⟨3, ![1, 32, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x32x2048, .f32⟩
  | .hbm, ⟨1, _⟩ => ⟨S1x32x2048, .f32⟩
  | .hbm, ⟨2, _⟩ => ⟨S1x32x2048, .f32⟩
  | .hbm, ⟨3, _⟩ => ⟨S1x32x2048, .f32⟩
  | .hbm, ⟨4, _⟩ => ⟨S_, .f32⟩
  | .hbm, ⟨5, _⟩ => ⟨S1x32x2048, .f32⟩
  | .hbm, ⟨6, _⟩ => ⟨S1x32x2048, .f32⟩
  | .hbm, ⟨7, _⟩ => ⟨S_, .f32⟩
  | .hbm, ⟨8, _⟩ => ⟨S1x32x2048, .f32⟩
  | .hbm, ⟨9, _⟩ => ⟨S1x32x2048, .f32⟩
  | .hbm, ⟨10, _⟩ => ⟨S1x32x2048, .f32⟩
  | .hbm, ⟨11, _⟩ => ⟨S_, .f32⟩
  | .hbm, ⟨12, _⟩ => ⟨S1x32x2048, .f32⟩
  | .hbm, ⟨13, _⟩ => ⟨S1x32x2048, .f32⟩
  | .hbm, ⟨14, _⟩ => ⟨S1x32x2048, .f32⟩
  | .hbm, ⟨15, _⟩ => ⟨S_, .f32⟩
  | .hbm, ⟨16, _⟩ => ⟨S1x32x2048, .f32⟩
  | .hbm, ⟨17, _⟩ => ⟨S1x32x2048, .f32⟩
  | .hbm, ⟨18, _⟩ => ⟨S1x32x2048, .f32⟩
  | .hbm, ⟨19, _⟩ => ⟨S_, .f32⟩
  | .hbm, ⟨20, _⟩ => ⟨S1x32x2048, .f32⟩
  | .hbm, ⟨21, _⟩ => ⟨S1x32x2048, .f32⟩
  | .hbm, ⟨22, _⟩ => ⟨S_, .f32⟩
  | .hbm, ⟨23, _⟩ => ⟨S1x32x2048, .f32⟩
  | .hbm, ⟨24, _⟩ => ⟨S1x32x2048, .f32⟩
  | .hbm, ⟨25, _⟩ => ⟨S1x32x2048, .f32⟩
  | .hbm, ⟨26, _⟩ => ⟨S_, .f32⟩
  | .hbm, ⟨27, _⟩ => ⟨S1x32x2048, .f32⟩
  | .hbm, ⟨28, _⟩ => ⟨S1x32x2048, .f32⟩
  | .hbm, ⟨29, _⟩ => ⟨S1x32x2048, .f32⟩
  | .hbm, ⟨30, _⟩ => ⟨S_, .f32⟩
  | .hbm, ⟨31, _⟩ => ⟨S1x32x2048, .f32⟩
  | .hbm, ⟨32, _⟩ => ⟨S1x32x2048, .f32⟩
  | .hbm, ⟨33, _⟩ => ⟨S1x32x2048, .f32⟩
  | .hbm, ⟨34, _⟩ => ⟨S_, .f32⟩
  | .hbm, ⟨35, _⟩ => ⟨S1x32x2048, .f32⟩
  | .hbm, ⟨36, _⟩ => ⟨S1x32x2048, .f32⟩
  | _, _ => ⟨S1x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Gate.lean ====
/- The gate's gradient as the kernel `ffn_da` leaves it, index by index (at `Ideal`): the two result arrays as functions of
   the argument arrays. Each grid point writes one block of 1024 rows and 704 columns of each result; a block's element is
   one product over the model's 2048 columns put through the derivative of the gated activation. -/
module

public import proofs.«01_k».proof.Proof.Gen.KernelIdeal.Value
public import Idealize.ShloMosaic.Lib.Pointwise

@[expose] public section

set_option maxRecDepth 16384

noncomputable section

namespace Cert.Proof.Gate

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The derivative of the loss in the activation, at row `r` and feed-forward column `f`. -/
def da (dy : Vec Ideal S8192x2048 .f32) (w : Vec Ideal S5632x2048 .f32) (r : Fin 8192) (f : Fin 5632) : EReal :=
  ∑ k : Fin 2048, dy (ix2 r k) * w (ix2 f k)

/-- Column `s` of chunk `c`. -/
def col (c : Fin 8) (s : Fin 704) : Fin 5632 := ⟨c.val * 704 + s.val, by omega⟩

/-- The gate's derivative, by chunk, row and column of the chunk. -/
def dgate (dy : Vec Ideal S8192x2048 .f32) (w : Vec Ideal S5632x2048 .f32) (g u : Vec Ideal S8192x5632 .f32) :
    Vec Ideal S8x8192x704 .bf16 := fun i =>
  let gi : EReal := g (ix2 (i 1) (col (i 0) (i 2)))
  (da dy w (i 1) (col (i 0) (i 2)) * u (ix2 (i 1) (col (i 0) (i 2))))
    * (Ideal.logistic gi * (1 + gi * (1 - Ideal.logistic gi)))

/-- The up-projection's derivative, likewise. -/
def dup (dy : Vec Ideal S8192x2048 .f32) (w : Vec Ideal S5632x2048 .f32) (g : Vec Ideal S8192x5632 .f32) :
    Vec Ideal S8x8192x704 .bf16 := fun i =>
  let gi : EReal := g (ix2 (i 1) (col (i 0) (i 2)))
  da dy w (i 1) (col (i 0) (i 2)) * (gi * Ideal.logistic gi)

/-! ## What the host lines hand to the call -/

theorem entry_dy (c : Dev nD) : (V m c main_v0 : Vec Ideal S8192x2048 .bf16)
    = fun i => (m ((c : Thread nD τ).loc main_arg0) : Vec Ideal S8192x2048 .f32) i := by
  unfold_abbrev_sides; after_results; rfl

theorem entry_w (c : Dev nD) (i : Fin 8) (j : Fin 704) (k : Fin 2048) : (V m c main_v2 : Vec Ideal S8x704x2048 .bf16) (ix3 i j k)
    = (m ((c : Thread nD τ).loc main_arg1) : Vec Ideal S5632x2048 .f32) (ix2 (col i j) k) := by
  have h : @Eq (Vec Ideal S8x704x2048 .bf16) (V m c main_v2) (truncf (F := Ideal) .bf16 (shapeCast S8x704x2048 (m ((c : Thread nD τ).loc main_arg1) : FVec Ideal S5632x2048 .f32) shapeCasts_S5632x2048_S8x704x2048) bitsLt_bf16_f32) := by
    unfold_abbrev_sides; after_results; rfl
  rw [h]
  refine shapeCast_apply _ _ (ix3 i j k) (ix2 (col i j) k) ?_
  rw [Shape.rowMajor_val_two, Shape.rowMajor_val_three]
  show (i.val * 704 + j.val) * 2048 + k.val = (i.val * 704 + j.val) * 2048 + k.val
  rfl

theorem entry_g (c : Dev nD) (i : Fin 8) (j : Fin 8192) (k : Fin 704) : (V m c main_v5 : Vec Ideal S8x8192x704 .bf16) (ix3 i j k)
    = (m ((c : Thread nD τ).loc main_arg2) : Vec Ideal S8192x5632 .f32) (ix2 j (col i k)) := by
  have h : @Eq (Vec Ideal S8x8192x704 .bf16) (V m c main_v5) (truncf (F := Ideal) .bf16 (transpose S8x8192x704 [1, 0, 2] (shapeCast S8192x8x704 (m ((c : Thread nD τ).loc main_arg2) : FVec Ideal S8192x5632 .f32) shapeCasts_S8192x5632_S8192x8x704) transposes_S8192x8x704_S8x8192x704_1_0_2) bitsLt_bf16_f32) := by
    unfold_abbrev_sides; after_results; rfl
  rw [h]
  pointwise
  rfl

theorem entry_u (c : Dev nD) (i : Fin 8) (j : Fin 8192) (k : Fin 704) : (V m c main_v8 : Vec Ideal S8x8192x704 .bf16) (ix3 i j k)
    = (m ((c : Thread nD τ).loc main_arg3) : Vec Ideal S8192x5632 .f32) (ix2 j (col i k)) := by
  have h : @Eq (Vec Ideal S8x8192x704 .bf16) (V m c main_v8) (truncf (F := Ideal) .bf16 (transpose S8x8192x704 [1, 0, 2] (shapeCast S8192x8x704 (m ((c : Thread nD τ).loc main_arg3) : FVec Ideal S8192x5632 .f32) shapeCasts_S8192x5632_S8192x8x704) transposes_S8192x8x704_S8x8192x704_1_0_2) bitsLt_bf16_f32) := by
    unfold_abbrev_sides; after_results; rfl
  rw [h]
  pointwise
  rfl

/-! ## Where a block's element lies in its array -/

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 3) = t.val / 8 ∧ win0_1.index t (1 : Fin 3) = 0
    ∧ win0_1.index t (2 : Fin 3) = 0 := (by decide +kernel : ∀ t : Fin grid0.N, _)
theorem idx2 : ∀ t : Fin cfg0.N, win0_2.index t (0 : Fin 3) = t.val / 8 ∧ win0_2.index t (1 : Fin 3) = t.val % 8
    ∧ win0_2.index t (2 : Fin 3) = 0 := (by decide +kernel : ∀ t : Fin grid0.N, _)
theorem idx3 : ∀ t : Fin cfg0.N, win0_3.index t (0 : Fin 3) = t.val / 8 ∧ win0_3.index t (1 : Fin 3) = t.val % 8
    ∧ win0_3.index t (2 : Fin 3) = 0 := (by decide +kernel : ∀ t : Fin grid0.N, _)
theorem idx4 : ∀ t : Fin cfg0.N, win0_4.index t (0 : Fin 3) = t.val / 8 ∧ win0_4.index t (1 : Fin 3) = t.val % 8
    ∧ win0_4.index t (2 : Fin 3) = 0 := (by decide +kernel : ∀ t : Fin grid0.N, _)
theorem idx5 : ∀ t : Fin cfg0.N, win0_5.index t (0 : Fin 3) = t.val / 8 ∧ win0_5.index t (1 : Fin 3) = t.val % 8
    ∧ win0_5.index t (2 : Fin 3) = 0 := (by decide +kernel : ∀ t : Fin grid0.N, _)

/-- The chunk of point `t`. -/
def chunk (t : Fin cfg0.N) : Fin 8 := ⟨t.val / 8, by have h : t.val < 64 := t.isLt; omega⟩
/-- Row `r` of point `t`'s block of rows. -/
def row (t : Fin cfg0.N) (r : Fin 1024) : Fin 8192 := ⟨t.val % 8 * 1024 + r.val, by omega⟩

theorem emb0 (t : Fin cfg0.N) (r : Fin 1024) (k : Fin 2048) :
    ((cfg0.win 0).blk t).view.emb (ix2 r k : S1024x2048.Idx) = (ix2 (row t r) k : S8192x2048.Idx) := by
  obtain ⟨e0, e1⟩ := idx0 t
  funext a; apply Fin.ext
  match a with
  | ⟨0, _⟩ => show win0_0.index t (0 : Fin 2) * 1024 + 1 * r.val = t.val % 8 * 1024 + r.val; omega
  | ⟨1, _⟩ => show win0_0.index t (1 : Fin 2) * 2048 + 1 * k.val = k.val; omega

theorem emb1 (t : Fin cfg0.N) (z : Fin 1) (s : Fin 704) (k : Fin 2048) :
    ((cfg0.win 1).blk t).view.emb (ix3 z s k : S1x704x2048.Idx) = (ix3 (chunk t) s k : S8x704x2048.Idx) := by
  obtain ⟨e0, e1, e2⟩ := idx1 t
  funext a; apply Fin.ext
  match a with
  | ⟨0, _⟩ => show win0_1.index t (0 : Fin 3) * 1 + 1 * z.val = t.val / 8; omega
  | ⟨1, _⟩ => show win0_1.index t (1 : Fin 3) * 704 + 1 * s.val = s.val; omega
  | ⟨2, _⟩ => show win0_1.index t (2 : Fin 3) * 2048 + 1 * k.val = k.val; omega

theorem emb2 (t : Fin cfg0.N) (z : Fin 1) (r : Fin 1024) (s : Fin 704) :
    ((cfg0.win 2).blk t).view.emb (ix3 z r s : S1x1024x704.Idx) = (ix3 (chunk t) (row t r) s : S8x8192x704.Idx) := by
  obtain ⟨e0, e1, e2⟩ := idx2 t
  funext a; apply Fin.ext
  match a with
  | ⟨0, _⟩ => show win0_2.index t (0 : Fin 3) * 1 + 1 * z.val = t.val / 8; omega
  | ⟨1, _⟩ => show win0_2.index t (1 : Fin 3) * 1024 + 1 * r.val = t.val % 8 * 1024 + r.val; omega
  | ⟨2, _⟩ => show win0_2.index t (2 : Fin 3) * 704 + 1 * s.val = s.val; omega

theorem emb3 (t : Fin cfg0.N) (z : Fin 1) (r : Fin 1024) (s : Fin 704) :
    ((cfg0.win 3).blk t).view.emb (ix3 z r s : S1x1024x704.Idx) = (ix3 (chunk t) (row t r) s : S8x8192x704.Idx) := by
  obtain ⟨e0, e1, e2⟩ := idx3 t
  funext a; apply Fin.ext
  match a with
  | ⟨0, _⟩ => show win0_3.index t (0 : Fin 3) * 1 + 1 * z.val = t.val / 8; omega
  | ⟨1, _⟩ => show win0_3.index t (1 : Fin 3) * 1024 + 1 * r.val = t.val % 8 * 1024 + r.val; omega
  | ⟨2, _⟩ => show win0_3.index t (2 : Fin 3) * 704 + 1 * s.val = s.val; omega

theorem emb4 (t : Fin cfg0.N) (z : Fin 1) (r : Fin 1024) (s : Fin 704) :
    ((cfg0.win 4).blk t).view.emb (ix3 z r s : S1x1024x704.Idx) = (ix3 (chunk t) (row t r) s : S8x8192x704.Idx) := by
  obtain ⟨e0, e1, e2⟩ := idx4 t
  funext a; apply Fin.ext
  match a with
  | ⟨0, _⟩ => show win0_4.index t (0 : Fin 3) * 1 + 1 * z.val = t.val / 8; omega
  | ⟨1, _⟩ => show win0_4.index t (1 : Fin 3) * 1024 + 1 * r.val = t.val % 8 * 1024 + r.val; omega
  | ⟨2, _⟩ => show win0_4.index t (2 : Fin 3) * 704 + 1 * s.val = s.val; omega

theorem emb5 (t : Fin cfg0.N) (z : Fin 1) (r : Fin 1024) (s : Fin 704) :
    ((cfg0.win 5).blk t).view.emb (ix3 z r s : S1x1024x704.Idx) = (ix3 (chunk t) (row t r) s : S8x8192x704.Idx) := by
  obtain ⟨e0, e1, e2⟩ := idx5 t
  funext a; apply Fin.ext
  match a with
  | ⟨0, _⟩ => show win0_5.index t (0 : Fin 3) * 1 + 1 * z.val = t.val / 8; omega
  | ⟨1, _⟩ => show win0_5.index t (1 : Fin 3) * 1024 + 1 * r.val = t.val % 8 * 1024 + r.val; omega
  | ⟨2, _⟩ => show win0_5.index t (2 : Fin 3) * 704 + 1 * s.val = s.val; omega

/-! ## What each point writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- The block that a point leaves for the gate's derivative, from the four blocks it reads. -/
theorem block4 (x0 : Vec Ideal S1024x2048 .bf16) (x1 : Vec Ideal S1x704x2048 .bf16) (x2 x3 : Vec Ideal S1x1024x704 .bf16)
    (z : Fin 1) (r : Fin 1024) (s : Fin 704) : out0_4 x0 x1 x2 x3 (ix3 z r s)
    = ((∑ k : Fin 2048, x0 (ix2 r k) * x1 (ix3 0 s k) : EReal) * x3 (ix3 0 r s))
      * (Ideal.logistic (x2 (ix3 0 r s)) * (1 + x2 (ix3 0 r s) * (1 - Ideal.logistic (x2 (ix3 0 r s))))) := by
  unfold out0_4 r0_0 r0_1 r0_2
  rw [View.canon_unit_zero hz3, View.ld_unit_zero hz2, View.ld_unit_zero hz3, View.ld_unit_zero hz3, View.ld_unit_zero hz3]
  unfold_payloads
  pointwise

/-- The block that a point leaves for the up-projection's derivative, likewise. -/
theorem block5 (x0 : Vec Ideal S1024x2048 .bf16) (x1 : Vec Ideal S1x704x2048 .bf16) (x2 x3 : Vec Ideal S1x1024x704 .bf16)
    (z : Fin 1) (r : Fin 1024) (s : Fin 704) : out0_5 x0 x1 x2 x3 (ix3 z r s)
    = (∑ k : Fin 2048, x0 (ix2 r k) * x1 (ix3 0 s k) : EReal)
      * (x2 (ix3 0 r s) * Ideal.logistic (x2 (ix3 0 r s))) := by
  unfold out0_5 r0_0 r0_1 r0_2
  rw [View.canon_unit_zero hz3, View.ld_unit_zero hz2, View.ld_unit_zero hz3, View.ld_unit_zero hz3]
  unfold_payloads
  pointwise

theorem iblk0 (c : Dev nD) (t : Fin cfg0.N) (r : Fin 1024) (k : Fin 2048) : (iblk m c 0 t : Vec Ideal S1024x2048 .bf16) (ix2 r k)
    = (m ((c : Thread nD τ).loc main_arg0) : Vec Ideal S8192x2048 .f32) (ix2 (row t r) k) := by
  show (V m c main_v0 : Vec Ideal S8192x2048 .bf16) (((cfg0.win 0).blk t).view.emb (ix2 r k : S1024x2048.Idx)) = _
  rw [emb0, entry_dy]

theorem iblk1 (c : Dev nD) (t : Fin cfg0.N) (z : Fin 1) (s : Fin 704) (k : Fin 2048) :
    (iblk m c 1 t : Vec Ideal S1x704x2048 .bf16) (ix3 z s k)
    = (m ((c : Thread nD τ).loc main_arg1) : Vec Ideal S5632x2048 .f32) (ix2 (col (chunk t) s) k) := by
  show (V m c main_v2 : Vec Ideal S8x704x2048 .bf16) (((cfg0.win 1).blk t).view.emb (ix3 z s k : S1x704x2048.Idx)) = _
  rw [emb1, entry_w]

theorem iblk2 (c : Dev nD) (t : Fin cfg0.N) (z : Fin 1) (r : Fin 1024) (s : Fin 704) :
    (iblk m c 2 t : Vec Ideal S1x1024x704 .bf16) (ix3 z r s)
    = (m ((c : Thread nD τ).loc main_arg2) : Vec Ideal S8192x5632 .f32) (ix2 (row t r) (col (chunk t) s)) := by
  show (V m c main_v5 : Vec Ideal S8x8192x704 .bf16) (((cfg0.win 2).blk t).view.emb (ix3 z r s : S1x1024x704.Idx)) = _
  rw [emb2, entry_g]

theorem iblk3 (c : Dev nD) (t : Fin cfg0.N) (z : Fin 1) (r : Fin 1024) (s : Fin 704) :
    (iblk m c 3 t : Vec Ideal S1x1024x704 .bf16) (ix3 z r s)
    = (m ((c : Thread nD τ).loc main_arg3) : Vec Ideal S8192x5632 .f32) (ix2 (row t r) (col (chunk t) s)) := by
  show (V m c main_v8 : Vec Ideal S8x8192x704 .bf16) (((cfg0.win 3).blk t).view.emb (ix3 z r s : S1x1024x704.Idx)) = _
  rw [emb3, entry_u]

/-- The gate's derivative as a function of the launched arguments. -/
def G4 (c : Dev nD) : Vec Ideal S8x8192x704 .bf16 :=
  dgate (m ((c : Thread nD τ).loc main_arg0)) (m ((c : Thread nD τ).loc main_arg1)) (m ((c : Thread nD τ).loc main_arg2))
    (m ((c : Thread nD τ).loc main_arg3))

/-- The up-projection's derivative as a function of the launched arguments. -/
def G5 (c : Dev nD) : Vec Ideal S8x8192x704 .bf16 :=
  dup (m ((c : Thread nD τ).loc main_arg0)) (m ((c : Thread nD τ).loc main_arg1)) (m ((c : Thread nD τ).loc main_arg2))

/-- What a point writes back of the gate's derivative is its block of `G4`. -/
theorem flushed4_eq (c : Dev nD) (t : Fin cfg0.N) :
    (dats m 0 c).flushed 4 t = ((cfg0.win 4).blk t).view.read (Elt Ideal) (G4 m c) := by
  rw [Value.flushed4]
  funext y
  obtain ⟨z, r, s, rfl⟩ : ∃ (z : Fin 1) (r : Fin 1024) (s : Fin 704), y = (ix3 z r s : S1x1024x704.Idx) :=
    ⟨y 0, y 1, y 2, by funext a; match a with | ⟨0, _⟩ => rfl | ⟨1, _⟩ => rfl | ⟨2, _⟩ => rfl⟩
  show out0_4 (iblk m c 0 t) (iblk m c 1 t) (iblk m c 2 t) (iblk m c 3 t) (ix3 z r s)
    = G4 m c (((cfg0.win 4).blk t).view.emb (ix3 z r s : S1x1024x704.Idx))
  rw [emb4, block4]
  simp only [iblk0, iblk1, iblk2, iblk3]
  rfl

/-- What a point writes back of the up-projection's derivative is its block of `G5`. -/
theorem flushed5_eq (c : Dev nD) (t : Fin cfg0.N) :
    (dats m 0 c).flushed 5 t = ((cfg0.win 5).blk t).view.read (Elt Ideal) (G5 m c) := by
  rw [Value.flushed5]
  funext y
  obtain ⟨z, r, s, rfl⟩ : ∃ (z : Fin 1) (r : Fin 1024) (s : Fin 704), y = (ix3 z r s : S1x1024x704.Idx) :=
    ⟨y 0, y 1, y 2, by funext a; match a with | ⟨0, _⟩ => rfl | ⟨1, _⟩ => rfl | ⟨2, _⟩ => rfl⟩
  show out0_5 (iblk m c 0 t) (iblk m c 1 t) (iblk m c 2 t) (iblk m c 3 t) (ix3 z r s)
    = G5 m c (((cfg0.win 5).blk t).view.emb (ix3 z r s : S1x1024x704.Idx))
  rw [emb5, block5]
  simp only [iblk0, iblk1, iblk2]
  rfl

/-- Every index lies in the block of one point: chunk by chunk, and in a chunk 1024 rows a point. -/
theorem covered4 (i : S8x8192x704.Idx) :
    ∃ t : Fin cfg0.N, (cfg0.win 4).flush t = true ∧ i ∈ ((cfg0.win 4).blk t).view.set := by
  have h0 : (i 0).val < 8 := (i 0).isLt
  have h1 : (i 1).val < 8192 := (i 1).isLt
  let t : Fin cfg0.N := ⟨(i 0).val * 8 + (i 1).val / 1024, by show _ < 64; omega⟩
  let r : Fin 1024 := ⟨(i 1).val % 1024, by omega⟩
  have e : i = (ix3 (chunk t) (row t r) (i 2) : S8x8192x704.Idx) := by
    funext a; apply Fin.ext
    match a with
    | ⟨0, _⟩ => show (i 0).val = ((i 0).val * 8 + (i 1).val / 1024) / 8; omega
    | ⟨1, _⟩ => show (i 1).val = ((i 0).val * 8 + (i 1).val / 1024) % 8 * 1024 + (i 1).val % 1024; omega
    | ⟨2, _⟩ => rfl
  refine ⟨t, flush0_4 t, ?_⟩
  rw [e, ← emb4 t 0 r (i 2)]
  exact ((cfg0.win 4).blk t).view.emb_mem_set _

theorem covered5 (i : S8x8192x704.Idx) :
    ∃ t : Fin cfg0.N, (cfg0.win 5).flush t = true ∧ i ∈ ((cfg0.win 5).blk t).view.set := by
  have h0 : (i 0).val < 8 := (i 0).isLt
  have h1 : (i 1).val < 8192 := (i 1).isLt
  let t : Fin cfg0.N := ⟨(i 0).val * 8 + (i 1).val / 1024, by show _ < 64; omega⟩
  let r : Fin 1024 := ⟨(i 1).val % 1024, by omega⟩
  have e : i = (ix3 (chunk t) (row t r) (i 2) : S8x8192x704.Idx) := by
    funext a; apply Fin.ext
    match a with
    | ⟨0, _⟩ => show (i 0).val = ((i 0).val * 8 + (i 1).val / 1024) / 8; omega
    | ⟨1, _⟩ => show (i 1).val = ((i 0).val * 8 + (i 1).val / 1024) % 8 * 1024 + (i 1).val % 1024; omega
    | ⟨2, _⟩ => rfl
  refine ⟨t, flush0_5 t, ?_⟩
  rw [e, ← emb5 t 0 r (i 2)]
  exact ((cfg0.win 5).blk t).view.emb_mem_set _

/-- The run with both results at their functions of the arguments. -/
theorem run : θ_run defs (onTc (τ := τ) (main (F := Ideal))) ⟨m, fun _ => 0, ρ⟩ fun r => ∀ c : Dev nD,
      r.2.mem ((c : Thread nD τ).loc main_v9_0) = G4 m c
      ∧ r.2.mem ((c : Thread nD τ).loc main_v9_1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨(h c).1.trans ((dats m 0 c).arrAt_eq_of_cover 4 (G4 m c) (fun t _ => flushed4_eq m c t) covered4),
      (h c).2.1.trans ((dats m 0 c).arrAt_eq_of_cover 5 (G5 m c) (fun t _ => flushed5_eq m c t) covered5), (h c).2.2⟩)
    (Value.run_blocks m ρ)

end Cert.Proof.Gate

end
-- ==== Proof.Reals.lean ====
/- Arithmetic of the extended reals that the gradients need: values that are real numbers, and the derivative of the gated
   activation in its two spellings. -/
module

public import Idealize.ShloMosaic.PureOps.Ideal
public import Idealize.ShloMosaic.Lib.Pointwise

@[expose] public section

noncomputable section

namespace Cert.Proof.Reals

open Idealize.ShloMosaic

/-- `x` is a real number. -/
def Real' (x : EReal) : Prop := ∃ r : ℝ, x = (r : EReal)

theorem Real'.mul {x y : EReal} (hx : Real' x) (hy : Real' y) : Real' (x * y) := by
  obtain ⟨a, rfl⟩ := hx; obtain ⟨b, rfl⟩ := hy; exact ⟨a * b, by norm_cast⟩

theorem Real'.add {x y : EReal} (hx : Real' x) (hy : Real' y) : Real' (x + y) := by
  obtain ⟨a, rfl⟩ := hx; obtain ⟨b, rfl⟩ := hy; exact ⟨a + b, by norm_cast⟩

/-- A finite sum of real numbers is one, and so is the sum of their real values. -/
theorem coe_sum {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih]; norm_cast

theorem Real'.sum {ι : Type*} (s : Finset ι) (f : ι → EReal) (h : ∀ k, Real' (f k)) : Real' (∑ k ∈ s, f k) := by
  choose r hr using h
  refine ⟨∑ k ∈ s, r k, ?_⟩
  rw [← coe_sum]
  exact Finset.sum_congr rfl fun k _ => hr k

/-- An extended real whose absolute value is below infinity is a real number. -/
theorem real_of_abs_lt (x : EReal) (h : max x (-x) < ⊤) : Real' x := by
  induction x using EReal.rec with
  | bot => simp at h
  | top => simp at h
  | coe r => exact ⟨r, rfl⟩

/-- The comparison "absolute value below infinity" that is one says that the value is a real number. -/
theorem real_of_cmp (x : EReal) (h : Ideal.cmp .olt (max x (-x)) (Ideal.ofBits .f32 0x7F800000#32) = 1#1) : Real' x := by
  have htop : Ideal.ofBits .f32 0x7F800000#32 = ⊤ := by
    simp [Ideal.ofBits, Ideal.ieee]
  refine real_of_abs_lt x ?_
  rw [htop] at h
  by_contra hc
  have : Ideal.cmp .olt (max x (-x)) ⊤ = 0#1 := by
    unfold Ideal.cmp; simp only [hc, decide_false]; rfl
  rw [this] at h
  exact absurd h (by decide)

/-- The gate's derivative: with the incoming derivative `X` a real number, the factored form and the sum of the two
    products of the product rule agree, whatever the gate `g` is (also at the infinities). -/
theorem gate_rule (X g : EReal) (hX : Real' X) :
    X * (Ideal.logistic g * (1 + g * (1 - Ideal.logistic g)))
      = X * Ideal.logistic g + (g * X) * (Ideal.logistic g * (1 - Ideal.logistic g)) := by
  obtain ⟨a, rfl⟩ := hX
  induction g using EReal.rec with
  | bot => simp
  | top =>
    have h1 : (1 : EReal) - 1 = 0 := by
      rw [show (1 : EReal) = ((1 : ℝ) : EReal) from rfl]; norm_cast
    simp [h1]
  | coe g =>
    rw [Ideal.logistic_coe]
    generalize (1 + Real.exp (-g))⁻¹ = s
    norm_cast
    ring_nf

end Cert.Proof.Reals

end
-- ==== Proof.GateRef.lean ====
/- The gate's gradient: the reference's two results index by index, and their equality with the kernel's. -/
module

public import proofs.«01_k».proof.Proof.Gate
public import proofs.«01_k».proof.Proof.Reals
public import proofs.«01_k».proof.Proof.Gen.ReferenceIdeal.Run
public import proofs.«01_k».proof.Proof.Gen.ReferenceIdeal.Read
public import proofs.«01_k».proof.Proof.Gen.Pre_gate_finite
public import proofs.«01_k».proof.Defs

@[expose] public section

set_option maxRecDepth 16384

noncomputable section

namespace Cert.Proof.Gate

open Idealize.ShloMosaic Idealize.ShloMosaic.TcCoe Idealize.SL.Sem
open Cert.ReferenceIdeal Cert.ReferenceIdeal.Gen Cert.ReferenceIdeal.Value Cert.Proof.Reals

/-- The reference's logistic function is the ideal one. -/
theorem ref_sig (x2 : Vec Ideal S8192x5632 .f32) (i : S8192x5632.Idx) :
    (Read.val_main_v0_2 (F := Ideal) x2 i : EReal) = Ideal.logistic (x2 i) := by
  unfold Read.val_main_v0_2 Read.val_main_call0_v3 Read.val_main_call0_v4 Read.val_main_call0_v2 Read.val_main_call0_v1
    Read.val_main_call0_v0 Read.val_main_call0_cst Read.val_main_call0_cst_0
  pointwise
  rfl

/-- One less the logistic function, times the logistic function. -/
theorem ref_dsig (x2 : Vec Ideal S8192x5632 .f32) (i : S8192x5632.Idx) :
    (Read.val_main_v0_1 (F := Ideal) x2 i : EReal) = Ideal.logistic (x2 i) * (1 - Ideal.logistic (x2 i)) := by
  rw [← ref_sig]
  unfold Read.val_main_v0_1 Read.val_main_call0_v7 Read.val_main_call0_v6 Read.val_main_call0_cst_1
  pointwise

/-- The reference's derivative in the activation. -/
theorem ref_da (x0 : Vec Ideal S8192x2048 .f32) (x1 : Vec Ideal S5632x2048 .f32) (r : Fin 8192) (f : Fin 5632) :
    (Read.val_main_v3 (F := Ideal) x0 x1 (ix2 r f) : EReal) = da x0 x1 r f := by
  rw [Read.val_main_v3_apply]
  refine Finset.sum_congr rfl fun k _ => ?_
  have e0 : Read.lidx_main_v3 (ix2 r f) k = ix2 r k := by
    funext a; match a with | ⟨0, _⟩ => rfl | ⟨1, _⟩ => rfl
  have e1 : Read.ridx_main_v3 (ix2 r f) k = ix2 f k := by
    funext a; match a with | ⟨0, _⟩ => rfl | ⟨1, _⟩ => rfl
  rw [e0, e1]

/-- Where the reference's chunked result reads its matrix. -/
theorem ref_idx (c : Fin 8) (r : Fin 8192) (s : Fin 704) :
    Read.idx_main_v7 (Read.idx_main_v8 (ix3 c r s)) = ix2 r (col c s) := by
  funext a; apply Fin.ext
  match a with
  | ⟨0, _⟩ => show ((r.val * 8 + c.val) * 704 + s.val) / 5632 = r.val; omega
  | ⟨1, _⟩ => show ((r.val * 8 + c.val) * 704 + s.val) % 5632 = c.val * 704 + s.val; omega

/-- The reference's derivative of the gate at chunk `c`, row `r`, column `s`: the product rule on the activation. -/
theorem ref_dgate (x0 : Vec Ideal S8192x2048 .f32) (x1 : Vec Ideal S5632x2048 .f32) (x2 x3 : Vec Ideal S8192x5632 .f32)
    (c : Fin 8) (r : Fin 8192) (s : Fin 704) : (Read.val_main_v9 (F := Ideal) x0 x1 x2 x3 (ix3 c r s) : EReal)
    = (da x0 x1 r (col c s) * x3 (ix2 r (col c s))) * Ideal.logistic (x2 (ix2 r (col c s)))
      + (x2 (ix2 r (col c s)) * (da x0 x1 r (col c s) * x3 (ix2 r (col c s))))
        * (Ideal.logistic (x2 (ix2 r (col c s))) * (1 - Ideal.logistic (x2 (ix2 r (col c s))))) := by
  rw [← ref_dsig, ← ref_sig, ← ref_da]
  show Read.val_main_v8 (F := Ideal) x0 x1 x2 x3 (ix3 c r s) = _
  rw [Read.val_main_v8_apply, Read.val_main_v7_apply, ref_idx]
  rfl

/-- The reference's derivative of the up-projection likewise. -/
theorem ref_dup (x0 : Vec Ideal S8192x2048 .f32) (x1 : Vec Ideal S5632x2048 .f32) (x2 : Vec Ideal S8192x5632 .f32)
    (c : Fin 8) (r : Fin 8192) (s : Fin 704) : (Read.val_main_v12 (F := Ideal) x0 x1 x2 (ix3 c r s) : EReal)
    = (x2 (ix2 r (col c s)) * Ideal.logistic (x2 (ix2 r (col c s)))) * da x0 x1 r (col c s) := by
  rw [← ref_sig, ← ref_da]
  show Read.val_main_v11 (F := Ideal) x0 x1 x2 (ix3 c r s) = _
  rw [Read.val_main_v11_apply, Read.val_main_v10_apply]
  exact congrArg (Read.val_main_v4 (F := Ideal) x0 x1 x2) (ref_idx c r s)

variable (x0 : Vec Ideal S8192x2048 .f32) (x1 : Vec Ideal S5632x2048 .f32) (x2 x3 : Vec Ideal S8192x5632 .f32)

theorem idx3_eq (i : S8x8192x704.Idx) : ∃ (c : Fin 8) (r : Fin 8192) (s : Fin 704), i = ix3 c r s :=
  ⟨i 0, i 1, i 2, by funext a; match a with | ⟨0, _⟩ => rfl | ⟨1, _⟩ => rfl | ⟨2, _⟩ => rfl⟩

/-- Where the incoming derivative, the weight and the up-projection are real numbers, the two derivatives of the gate agree. -/
theorem dgate_eq (h0 : ∀ i, Real' (x0 i)) (h1 : ∀ i, Real' (x1 i)) (h3 : ∀ i, Real' (x3 i)) :
    Read.val_main_v9 (F := Ideal) x0 x1 x2 x3 = dgate x0 x1 x2 x3 := by
  funext i
  obtain ⟨c, r, s, rfl⟩ := idx3_eq i
  rw [ref_dgate]
  exact (gate_rule _ _ ((Real'.sum _ _ fun k => (h0 _).mul (h1 _)).mul (h3 _))).symm

/-- The two derivatives of the up-projection agree everywhere. -/
theorem dup_eq : Read.val_main_v12 (F := Ideal) x0 x1 x2 = dup x0 x1 x2 := by
  funext i
  obtain ⟨c, r, s, rfl⟩ := idx3_eq i
  rw [ref_dup]
  exact mul_comm _ _

/-- What the precondition says: the three arrays hold real numbers. -/
theorem pre_real (h : (Cert.Pre_gate_finite.fn (F := Ideal) x0 x1 x2 x3).1 = (fun _ => 1#1)
      ∧ (Cert.Pre_gate_finite.fn (F := Ideal) x0 x1 x2 x3).2.1 = (fun _ => 1#1)
      ∧ (Cert.Pre_gate_finite.fn (F := Ideal) x0 x1 x2 x3).2.2 = (fun _ => 1#1)) :
    (∀ i, Real' (x0 i)) ∧ (∀ i, Real' (x1 i)) ∧ (∀ i, Real' (x3 i)) :=
  ⟨fun i => real_of_cmp _ (congrFun h.1 i), fun i => real_of_cmp _ (congrFun h.2.1 i), fun i => real_of_cmp _ (congrFun h.2.2 i)⟩

/-- The gate's gradient by the kernel and by the reference: equal results on equal arguments, the arguments kept. -/
theorem algebraic : Cert.algebraic_KernelIdeal_ReferenceIdeal_pre_gate_finite := by
  intro m g m' g' hpre hargs
  refine ⟨fun c => G4 m c, fun c => G5 m c, run m g, ?_⟩
  refine (θ_run _ _ _).mono (fun r h c => ?_) (Cert.ReferenceIdeal.Value.run m' g')
  obtain ⟨e9, e12, ek⟩ := h c
  obtain ⟨a0, a1, a2, a3⟩ := hargs c
  obtain ⟨f0, f1, f3⟩ := pre_real _ _ _ _ (hpre c)
  refine ⟨e9.trans ?_, e12.trans ?_, ek⟩
  · rw [a0, a1, a2, a3, Read.val_main_v9_eq]
    exact dgate_eq _ _ _ _ f0 f1 f3
  · rw [a0, a1, a2, Read.val_main_v12_eq]
    exact dup_eq _ _ _

end Cert.Proof.Gate

end
-- ==== Proof.Chunks.lean ====
/- Sums taken in steps: how the partial sums add up, that four steps of 2048 rows are the sum over all 8192 rows, and that
   the eight chunks of 704 columns, taken one or two a step, are the sum over all 5632 columns. -/
module

public import Idealize.ShloMosaic.Lib.Pointwise

@[expose] public section

namespace Cert.Proof.Chunks

/-- Column `s` of chunk `c`. -/
def col (c : Fin 8) (s : Fin 704) : Fin 5632 := ⟨c.val * 704 + s.val, by omega⟩

/-- The chunk that step `n` works on. -/
def chunk (n : ℕ) : Fin 8 := ⟨n / 4 % 8, by omega⟩

/-- Row `r` of the 2048 rows that step `n` works on. -/
def row (n : ℕ) (r : Fin 2048) : Fin 8192 := ⟨n % 4 * 2048 + r.val, by omega⟩

/-- A value that is set at every fourth step and added to at the others is the sum over the steps since it was set. -/
theorem chain {N : ℕ} (a : (n : ℕ) → n < N → EReal) (M : ℕ → EReal)
    (h0 : ∀ n h, n % 4 = 0 → a n h = M n)
    (hs : ∀ n (h : n < N), n % 4 ≠ 0 → a n h = a (n - 1) (by omega) + M n) :
    ∀ n h, a n h = ∑ j ∈ Finset.range (n % 4 + 1), M (4 * (n / 4) + j) := by
  intro n
  induction n using Nat.strong_induction_on with
  | _ n ih =>
    intro h
    by_cases hn : n % 4 = 0
    · rw [h0 n h hn, hn, Finset.sum_range_one]
      congr 1; omega
    · have e1 : (n - 1) % 4 + 1 = n % 4 := by omega
      have e2 : 4 * ((n - 1) / 4) = 4 * (n / 4) := by omega
      have e3 : 4 * (n / 4) + n % 4 = n := by omega
      rw [hs n h hn, ih (n - 1) (by omega) (by omega), e1, e2, Finset.sum_range_succ, e3]

/-- The four steps of one chunk run over all rows. -/
theorem sum_rows (f : Fin 8192 → EReal) (q : ℕ) :
    ∑ j ∈ Finset.range 4, ∑ r : Fin 2048, f (row (4 * q + j) r) = ∑ r : Fin 8192, f r := by
  rw [Finset.sum_range, ← Equiv.sum_comp (finProdFinEquiv (m := 4) (n := 2048)), Fintype.sum_prod_type]
  refine Finset.sum_congr rfl fun j _ => Finset.sum_congr rfl fun r _ => congrArg f (Fin.ext ?_)
  show (4 * q + j.val) % 4 * 2048 + r.val = r.val + 2048 * j.val
  have := j.isLt
  omega

/-- A value that is set at every eighth step and added to at the others is the sum over the steps since it was set. -/
theorem chain8 {N : ℕ} (a : (n : ℕ) → n < N → EReal) (M : ℕ → EReal)
    (h0 : ∀ n h, n % 8 = 0 → a n h = M n)
    (hs : ∀ n (h : n < N), n % 8 ≠ 0 → a n h = a (n - 1) (by omega) + M n) :
    ∀ n h, a n h = ∑ j ∈ Finset.range (n % 8 + 1), M (8 * (n / 8) + j) := by
  intro n
  induction n using Nat.strong_induction_on with
  | _ n ih =>
    intro h
    by_cases hn : n % 8 = 0
    · rw [h0 n h hn, hn, Finset.sum_range_one]
      congr 1; omega
    · have e1 : (n - 1) % 8 + 1 = n % 8 := by omega
      have e2 : 8 * ((n - 1) / 8) = 8 * (n / 8) := by omega
      have e3 : 8 * (n / 8) + n % 8 = n := by omega
      rw [hs n h hn, ih (n - 1) (by omega) (by omega), e1, e2, Finset.sum_range_succ, e3]

/-- The eight chunks run over all columns. -/
theorem sum_chunks (f : Fin 5632 → EReal) : ∑ c : Fin 8, ∑ s : Fin 704, f (col c s) = ∑ i : Fin 5632, f i := by
  rw [← Equiv.sum_comp (finProdFinEquiv (m := 8) (n := 704)), Fintype.sum_prod_type]
  refine Finset.sum_congr rfl fun c _ => Finset.sum_congr rfl fun s _ => congrArg f (Fin.ext ?_)
  show c.val * 704 + s.val = s.val + 704 * c.val
  omega

/-- The first and the second of the two chunks that step `n` of four works on. -/
def even (n : ℕ) : Fin 8 := ⟨2 * (n % 4), by omega⟩
def odd (n : ℕ) : Fin 8 := ⟨2 * (n % 4) + 1, by omega⟩

/-- Four steps of two chunks run over all columns. -/
theorem sum_pairs (f : Fin 5632 → EReal) (q : ℕ) :
    ∑ j ∈ Finset.range 4, (∑ s : Fin 704, f (col (even (4 * q + j)) s) + ∑ s : Fin 704, f (col (odd (4 * q + j)) s))
    = ∑ i : Fin 5632, f i := by
  rw [← sum_chunks, ← Equiv.sum_comp (finProdFinEquiv (m := 4) (n := 2)), Fintype.sum_prod_type, Finset.sum_range]
  refine Finset.sum_congr rfl fun j _ => ?_
  rw [Fin.sum_univ_two]
  have hj := j.isLt
  have e0 : even (4 * q + j.val) = finProdFinEquiv (m := 4) (n := 2) (j, 0) := Fin.ext (by
    show 2 * ((4 * q + j.val) % 4) = 0 + 2 * j.val; omega)
  have e1 : odd (4 * q + j.val) = finProdFinEquiv (m := 4) (n := 2) (j, 1) := Fin.ext (by
    show 2 * ((4 * q + j.val) % 4) + 1 = 1 + 2 * j.val; omega)
  rw [e0, e1]

/-- The one chunk that step `n` of eight works on. -/
def each (n : ℕ) : Fin 8 := ⟨n % 8, by omega⟩

/-- Eight steps of one chunk run over all columns. -/
theorem sum_each (f : Fin 5632 → EReal) (q : ℕ) :
    ∑ j ∈ Finset.range 8, ∑ s : Fin 704, f (col (each (8 * q + j)) s) = ∑ i : Fin 5632, f i := by
  rw [← sum_chunks, Finset.sum_range]
  refine Finset.sum_congr rfl fun j _ => ?_
  have e : each (8 * q + j.val) = j := Fin.ext (by show (8 * q + j.val) % 8 = j.val; omega)
  rw [e]

end Cert.Proof.Chunks

end
-- ==== Proof.Down.lean ====
/- The gradient of the down projection as the kernel `ffn_dwd` leaves it (at `Ideal`): for every chunk of 704 feed-forward
   columns the product of the activation with the derivative of the output, summed over the 8192 rows in four steps in a
   scratch buffer and written back after the fourth. -/
module

public import proofs.«01_k».proof.Proof.Gen.Kernel2Ideal.Value
public import proofs.«01_k».proof.Proof.Chunks

@[expose] public section

set_option maxRecDepth 16384

noncomputable section

namespace Cert.Proof.Down

open Cert.Kernel2Ideal Cert.Kernel2Ideal.Gen Idealize.ShloMosaic Idealize.ShloMosaic.TcCoe Idealize.SL.Sem Cert.Proof.Chunks

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The activation, in the host's operations. -/
def act (g u : Vec Ideal S8192x5632 .f32) : FVec Ideal S8192x5632 .f32 :=
  mulf (mulf g (Host.divf (broadcastInDim S8192x5632 ![] bcast_S_S8192x5632 (constant S_ .f32 0x3F800000#32))
    (addf (broadcastInDim S8192x5632 ![] bcast_S_S8192x5632 (constant S_ .f32 0x3F800000#32)) (Host.exp (Host.negf g))))) u

/-- The gradient of the down projection, by chunk, column of the chunk and model column. -/
def dw (g u : Vec Ideal S8192x5632 .f32) (dy : Vec Ideal S8192x2048 .f32) : Vec Ideal S8x704x2048 .bf16 := fun i =>
  (∑ r : Fin 8192, act g u (ix2 r (col (i 0) (i 1))) * dy (ix2 r (i 2)) : EReal)

/-! ## What the host lines hand to the call -/

theorem entry_dy (c : Dev nD) : (V m c main_v5 : Vec Ideal S8192x2048 .bf16)
    = fun i => (m ((c : Thread nD τ).loc main_arg2) : Vec Ideal S8192x2048 .f32) i := by
  have h : @Eq (Vec Ideal S8192x2048 .bf16) (V m c main_v5) (truncf (F := Ideal) .bf16 (m ((c : Thread nD τ).loc main_arg2) : FVec Ideal S8192x2048 .f32) bitsLt_bf16_f32) := by
    unfold_abbrev_sides; rfl
  rw [h]
  rfl

theorem entry_act (c : Dev nD) (i : Fin 8) (j : Fin 8192) (k : Fin 704) : (V m c main_v4 : Vec Ideal S8x8192x704 .bf16) (ix3 i j k)
    = act (m ((c : Thread nD τ).loc main_arg0)) (m ((c : Thread nD τ).loc main_arg1)) (ix2 j (col i k)) := by
  have h : @Eq (Vec Ideal S8x8192x704 .bf16) (V m c main_v4) (truncf (F := Ideal) .bf16 (transpose S8x8192x704 [1, 0, 2] (shapeCast S8192x8x704 (act (m ((c : Thread nD τ).loc main_arg0)) (m ((c : Thread nD τ).loc main_arg1)) : FVec Ideal S8192x5632 .f32) shapeCasts_S8192x5632_S8192x8x704) transposes_S8192x8x704_S8x8192x704_1_0_2) bitsLt_bf16_f32) := by
    unfold act; unfold_abbrev_sides; after_results; rfl
  rw [h]
  generalize act (m ((c : Thread nD τ).loc main_arg0)) (m ((c : Thread nD τ).loc main_arg1)) = y
  pointwise
  rfl

/-! ## Where a block's element lies in its array -/

theorem idx0 : ∀ t : Fin cfg0.N, win0_0.index t (0 : Fin 3) = t.val / 4 % 8 ∧ win0_0.index t (1 : Fin 3) = t.val % 4
    ∧ win0_0.index t (2 : Fin 3) = 0 := (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)
theorem idx2 : ∀ t : Fin cfg0.N, win0_2.index t (0 : Fin 3) = t.val / 4 % 8 ∧ win0_2.index t (1 : Fin 3) = 0
    ∧ win0_2.index t (2 : Fin 3) = 0 := (by decide +kernel : ∀ t : Fin grid0.N, _)

theorem emb0 (t : Fin cfg0.N) (z : Fin 1) (r : Fin 2048) (s : Fin 704) :
    ((cfg0.win 0).blk t).view.emb (ix3 z r s : S1x2048x704.Idx) = (ix3 (chunk t.val) (row t.val r) s : S8x8192x704.Idx) := by
  obtain ⟨e0, e1, e2⟩ := idx0 t
  funext a; apply Fin.ext
  match a with
  | ⟨0, _⟩ => show win0_0.index t (0 : Fin 3) * 1 + 1 * z.val = t.val / 4 % 8; omega
  | ⟨1, _⟩ => show win0_0.index t (1 : Fin 3) * 2048 + 1 * r.val = t.val % 4 * 2048 + r.val; omega
  | ⟨2, _⟩ => show win0_0.index t (2 : Fin 3) * 704 + 1 * s.val = s.val; omega

theorem emb1 (t : Fin cfg0.N) (r k : Fin 2048) :
    ((cfg0.win 1).blk t).view.emb (ix2 r k : S2048x2048.Idx) = (ix2 (row t.val r) k : S8192x2048.Idx) := by
  obtain ⟨e0, e1⟩ := idx1 t
  funext a; apply Fin.ext
  match a with
  | ⟨0, _⟩ => show win0_1.index t (0 : Fin 2) * 2048 + 1 * r.val = t.val % 4 * 2048 + r.val; omega
  | ⟨1, _⟩ => show win0_1.index t (1 : Fin 2) * 2048 + 1 * k.val = k.val; omega

theorem emb2 (t : Fin cfg0.N) (z : Fin 1) (s : Fin 704) (k : Fin 2048) :
    ((cfg0.win 2).blk t).view.emb (ix3 z s k : S1x704x2048.Idx) = (ix3 (chunk t.val) s k : S8x704x2048.Idx) := by
  obtain ⟨e0, e1, e2⟩ := idx2 t
  funext a; apply Fin.ext
  match a with
  | ⟨0, _⟩ => show win0_2.index t (0 : Fin 3) * 1 + 1 * z.val = t.val / 4 % 8; omega
  | ⟨1, _⟩ => show win0_2.index t (1 : Fin 3) * 704 + 1 * s.val = s.val; omega
  | ⟨2, _⟩ => show win0_2.index t (2 : Fin 3) * 2048 + 1 * k.val = k.val; omega

theorem iblk0 (c : Dev nD) (t : Fin cfg0.N) (z : Fin 1) (r : Fin 2048) (s : Fin 704) :
    (iblk m c 0 t : Vec Ideal S1x2048x704 .bf16) (ix3 z r s)
    = act (m ((c : Thread nD τ).loc main_arg0)) (m ((c : Thread nD τ).loc main_arg1)) (ix2 (row t.val r) (col (chunk t.val) s)) := by
  show (V m c main_v4 : Vec Ideal S8x8192x704 .bf16) (((cfg0.win 0).blk t).view.emb (ix3 z r s : S1x2048x704.Idx)) = _
  rw [emb0, entry_act]

theorem iblk1 (c : Dev nD) (t : Fin cfg0.N) (r k : Fin 2048) : (iblk m c 1 t : Vec Ideal S2048x2048 .bf16) (ix2 r k)
    = (m ((c : Thread nD τ).loc main_arg2) : Vec Ideal S8192x2048 .f32) (ix2 (row t.val r) k) := by
  show (V m c main_v5 : Vec Ideal S8192x2048 .bf16) (((cfg0.win 1).blk t).view.emb (ix2 r k : S2048x2048.Idx)) = _
  rw [emb1, entry_dy]

/-! ## The body's stores -/

/-- The product of the two blocks a step reads, at one index. -/
def prod (x0 : Vec Ideal S1x2048x704 .bf16) (x1 : Vec Ideal S2048x2048 .bf16) (s : Fin 704) (k : Fin 2048) : EReal :=
  ∑ r : Fin 2048, x0 (ix3 0 r s) * x1 (ix2 r k)

/-- The first step stores that product. -/
theorem pay2 (x0 : Vec Ideal S1x2048x704 .bf16) (x1 : Vec Ideal S2048x2048 .bf16) (s : Fin 704) (k : Fin 2048) :
    k0_pay2 (F := Ideal) x0 x1 (ix2 s k) = prod x0 x1 s k := by
  unfold prod
  unfold_payloads
  pointwise

/-- A later step adds its product to what the scratch holds. -/
theorem pay3 (x0 : Vec Ideal S1x2048x704 .bf16) (x1 : Vec Ideal S2048x2048 .bf16) (xs : Vec Ideal S704x2048 .f32)
    (s : Fin 704) (k : Fin 2048) :
    k0_pay3 (F := Ideal) x0 x1 xs (ix2 s k) = (xs (ix2 s k) + prod x0 x1 s k : EReal) := by
  unfold prod
  unfold_payloads
  pointwise

/-- The last step writes the scratch out. -/
theorem pay4 (xs : Vec Ideal S704x2048 .f32) (z : Fin 1) (s : Fin 704) (k : Fin 2048) :
    k0_pay4 (F := Ideal) xs (ix3 z s k) = xs (ix2 s k) := by
  unfold_payloads
  pointwise

section Terms
variable (c : Dev nD) (i : grid0.Coords) (a2 : Memref sig .tc .vmem S1x2048x704 .bf16) (h2 : a2.IsWhole)
  (a3 : Memref sig .tc .vmem S2048x2048 .bf16) (h3 : a3.IsWhole) (a4 : Memref sig .tc .vmem S1x704x2048 .bf16) (h4 : a4.IsWhole)
  (a5 : Memref sig .tc .vmem S704x2048 .f32) (h5 : a5.IsWhole)
  (x0 : Vec Ideal S1x2048x704 .bf16) (x1 : Vec Ideal S2048x2048 .bf16) (xs : Vec Ideal S704x2048 .f32)

/-- The first step of a chunk leaves its product in the scratch. -/
theorem first (hc0 : cond0_0 i) (hc1 : ¬cond0_1 i) (hc2 : ¬cond0_2 i) :
    sout0_A_0 (F := Ideal) c i a2 h2 a3 h3 a4 h4 a5 h5 hc0 hc1 hc2 x0 x1 = k0_pay2 x0 x1 := by
  unfold sout0_A_0
  rw [View.read_writes_eq_canon _ _ _ (scover0_A_0 c i a2 h2 a3 h3 a4 h4 a5 h5 hc0 hc1 hc2 x0 x1)]
  unfold kernelRun0_A
  dsimp only
  rw [View.canon_unit_zero hz2]
  simp only [View.readAt_eq_ld, h2.read_unread, h3.read_unread, View.ld_unit_zero (S := S1x2048x704) hz3,
    View.ld_unit_zero (S := S2048x2048) hz2]

/-- A middle step leaves the scratch with its product added. -/
theorem middle (hc0 : ¬cond0_0 i) (hc1 : cond0_1 i) (hc2 : ¬cond0_2 i) :
    sout0_B_0 (F := Ideal) c i a2 h2 a3 h3 a4 h4 a5 h5 hc0 hc1 hc2 x0 x1 xs = k0_pay3 x0 x1 xs := by
  unfold sout0_B_0
  rw [View.read_writes_eq_canon _ _ _ (scover0_B_0 c i a2 h2 a3 h3 a4 h4 a5 h5 hc0 hc1 hc2 x0 x1 xs)]
  unfold kernelRun0_B
  dsimp only
  rw [View.canon_unit_zero hz2]
  simp only [View.readAt_eq_ld, h2.read_unread, h3.read_unread, h5.read_unread, View.ld_unit_zero (S := S1x2048x704) hz3,
    View.ld_unit_zero (S := S2048x2048) hz2, View.ld_unit_zero (S := S704x2048) hz2]

/-- So does the last step. -/
theorem last_acc (hc0 : ¬cond0_0 i) (hc1 : cond0_1 i) (hc2 : cond0_2 i) :
    sout0_C_0 (F := Ideal) c i a2 h2 a3 h3 a4 h4 a5 h5 hc0 hc1 hc2 x0 x1 xs = k0_pay3 x0 x1 xs := by
  unfold sout0_C_0
  rw [View.read_writes_eq_canon _ _ _ (scover0_C_0 c i a2 h2 a3 h3 a4 h4 a5 h5 hc0 hc1 hc2 x0 x1 xs)]
  unfold kernelRun0_C
  dsimp only
  sl_unfold_words
  rw [View.canon_unit_zero hz2]
  simp only [View.readAt_eq_ld, h2.read_unread, h3.read_unread, h5.read_unread, View.ld_unit_zero (S := S1x2048x704) hz3,
    View.ld_unit_zero (S := S2048x2048) hz2, View.ld_unit_zero (S := S704x2048) hz2]

/-- The last step's output block is what it leaves in the scratch. -/
theorem last_out (hc0 : ¬cond0_0 i) (hc1 : cond0_1 i) (hc2 : cond0_2 i) :
    out0_C_2 (F := Ideal) c i a2 h2 a3 h3 a4 h4 a5 h5 hc0 hc1 hc2 x0 x1 xs = k0_pay4 (k0_pay3 x0 x1 xs) := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz3]
  rw [View.readCov_unit_zero (S := S704x2048) _ hz2]
  simp only [View.readAt_eq_ld, h2.read_unread, h3.read_unread, h5.read_unread, View.ld_unit_zero (S := S1x2048x704) hz3,
    View.ld_unit_zero (S := S2048x2048) hz2, View.ld_unit_zero (S := S704x2048) hz2]

end Terms

/-! ## What the scratch holds after each point -/

/-- One row's share of the gradient, at chunk `q`, column `s` of the chunk and model column `k`. -/
def term (c : Dev nD) (q : Fin 8) (s : Fin 704) (k : Fin 2048) (p : Fin 8192) : EReal :=
  act (m ((c : Thread nD τ).loc main_arg0)) (m ((c : Thread nD τ).loc main_arg1)) (ix2 p (col q s))
    * (m ((c : Thread nD τ).loc main_arg2) : Vec Ideal S8192x2048 .f32) (ix2 p k)

/-- The product that step `n` takes. -/
def part (c : Dev nD) (s : Fin 704) (k : Fin 2048) (n : ℕ) : EReal :=
  ∑ r : Fin 2048, term m c (chunk n) s k (row n r)

theorem part_eq (c : Dev nD) (t : Fin cfg0.N) (s : Fin 704) (k : Fin 2048) :
    prod (iblk m c 0 t) (iblk m c 1 t) s k = part m c s k t.val := by
  unfold prod part term
  refine Finset.sum_congr rfl fun r _ => ?_
  rw [iblk0, iblk1]

/-- After point `n` the scratch holds the sum of its chunk's products up to `n`. -/
theorem scratch (c : Dev nD) (s : Fin 704) (k : Fin 2048) (n : ℕ) (hn : n < cfg0.N) :
    ((outsAt0 m c n hn).2 (ix2 s k) : EReal) = ∑ j ∈ Finset.range (n % 4 + 1), part m c s k (4 * (n / 4) + j) := by
  refine chain (fun n hn => ((outsAt0 m c n hn).2 (ix2 s k) : EReal)) (part m c s k) ?_ ?_ n hn
  · intro n h hn
    have e := outsAt0_A m c ⟨n, h⟩ hn (by show ¬1 ≤ n % 4; omega) (by show ¬n % 4 = 3; omega)
    show ((outsAt0 m c n h).2 (ix2 s k) : EReal) = _
    rw [show outsAt0 m c n h = _ from e]
    dsimp only
    rw [first, pay2]
    exact part_eq m c ⟨n, h⟩ s k
  · intro n h hn
    show ((outsAt0 m c n h).2 (ix2 s k) : EReal) = _
    by_cases h3 : n % 4 = 3
    · have e := outsAt0_C m c ⟨n, h⟩ hn (by show 1 ≤ n % 4; omega) h3
      rw [show outsAt0 m c n h = _ from e]
      dsimp only
      rw [last_acc, pay3]
      exact congrArg _ (part_eq m c ⟨n, h⟩ s k)
    · have e := outsAt0_B m c ⟨n, h⟩ hn (by show 1 ≤ n % 4; omega) h3
      rw [show outsAt0 m c n h = _ from e]
      dsimp only
      rw [middle, pay3]
      exact congrArg _ (part_eq m c ⟨n, h⟩ s k)

/-- The four products of a chunk are the sum over all rows. -/
theorem total (c : Dev nD) (s : Fin 704) (k : Fin 2048) (n : ℕ) (h : n % 4 = 3) :
    (∑ j ∈ Finset.range (n % 4 + 1), part m c s k (4 * (n / 4) + j))
    = dw (m ((c : Thread nD τ).loc main_arg0)) (m ((c : Thread nD τ).loc main_arg1)) (m ((c : Thread nD τ).loc main_arg2))
        (ix3 (chunk n) s k : S8x704x2048.Idx) := by
  rw [h]
  refine (Finset.sum_congr rfl fun j hj => ?_).trans (sum_rows (term m c (chunk n) s k) (n / 4))
  have hj' : j < 4 := Finset.mem_range.mp hj
  have e : chunk (4 * (n / 4) + j) = chunk n := Fin.ext (by show (4 * (n / 4) + j) / 4 % 8 = n / 4 % 8; omega)
  unfold part
  rw [e]

/-! ## The result -/

/-- The gradient as a function of the launched arguments. -/
def G (c : Dev nD) : Vec Ideal S8x704x2048 .bf16 :=
  dw (m ((c : Thread nD τ).loc main_arg0)) (m ((c : Thread nD τ).loc main_arg1)) (m ((c : Thread nD τ).loc main_arg2))

/-- What a chunk's last point writes back is its block of `G`. -/
theorem flushed_eq (c : Dev nD) (t : Fin cfg0.N) (hf : (cfg0.win 2).flush t = true) :
    (dats m 0 c).flushed 2 t = ((cfg0.win 2).blk t).view.read (Elt Ideal) (G m c) := by
  have h3 : t.val % 4 = 3 := (flush0_2 t).mp hf
  rw [Value.flushed2_C m c t (by omega) (by omega) h3]
  funext y
  obtain ⟨z, s, k, rfl⟩ : ∃ (z : Fin 1) (s : Fin 704) (k : Fin 2048), y = (ix3 z s k : S1x704x2048.Idx) :=
    ⟨y 0, y 1, y 2, by funext a; match a with | ⟨0, _⟩ => rfl | ⟨1, _⟩ => rfl | ⟨2, _⟩ => rfl⟩
  rw [last_out]
  show k0_pay4 (F := Ideal) (k0_pay3 (iblk m c 0 t) (iblk m c 1 t) _) (ix3 z s k)
    = G m c (((cfg0.win 2).blk t).view.emb (ix3 z s k : S1x704x2048.Idx))
  rw [emb2, pay4, pay3, part_eq]
  have e := scratch m c s k t.val t.isLt
  rw [outsAt0_C m c t (by omega) (by omega) h3] at e
  dsimp only at e
  rw [last_acc, pay3, part_eq] at e
  rw [e, total m c s k t.val h3]
  rfl

/-- Every index lies in the block that its chunk's last point writes back. -/
theorem covered (i : S8x704x2048.Idx) :
    ∃ t : Fin cfg0.N, (cfg0.win 2).flush t = true ∧ i ∈ ((cfg0.win 2).blk t).view.set := by
  have h0 : (i 0).val < 8 := (i 0).isLt
  let t : Fin cfg0.N := ⟨(i 0).val * 4 + 3, by show _ < 32; omega⟩
  have e : i = (ix3 (chunk t.val) (i 1) (i 2) : S8x704x2048.Idx) := by
    funext a; apply Fin.ext
    match a with
    | ⟨0, _⟩ => show (i 0).val = ((i 0).val * 4 + 3) / 4 % 8; omega
    | ⟨1, _⟩ => rfl
    | ⟨2, _⟩ => rfl
  refine ⟨t, (flush0_2 t).mpr (by show ((i 0).val * 4 + 3) % 4 = 3; omega), ?_⟩
  rw [e, ← emb2 t 0 (i 1) (i 2)]
  exact ((cfg0.win 2).blk t).view.emb_mem_set _

/-- The run with the result at its function of the arguments. -/
theorem run : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(h c).1.trans ((dats m 0 c).arrAt_eq_of_cover 2 (G m c) (fun t hf => flushed_eq m c t hf) covered), (h c).2⟩)
    (Value.run_blocks m ρ)

end Cert.Proof.Down

end
-- ==== Proof.DownRef.lean ====
/- The gradient of the down projection: the reference's result index by index, and its equality with the kernel's. -/
module

public import proofs.«01_k».proof.Proof.Down
public import proofs.«01_k».proof.Proof.Gen.Reference2Ideal.Run
public import proofs.«01_k».proof.Proof.Gen.Reference2Ideal.Read
public import proofs.«01_k».proof.Defs

@[expose] public section

set_option maxRecDepth 16384

noncomputable section

namespace Cert.Proof.Down

open Idealize.ShloMosaic Idealize.ShloMosaic.TcCoe Idealize.SL.Sem
open Cert.Reference2Ideal Cert.Reference2Ideal.Gen Cert.Reference2Ideal.Value Cert.Proof.Chunks

/-- Where the reference's chunked result reads its matrix. -/
theorem ref_idx (c : Fin 8) (s : Fin 704) (k : Fin 2048) :
    Read.idx_main_v5 (Read.idx_main_v6 (ix3 c s k)) = ix2 k (col c s) := by
  funext a; apply Fin.ext
  match a with
  | ⟨0, _⟩ => show ((c.val * 704 + s.val) * 2048 + k.val) % 2048 = k.val; omega
  | ⟨1, _⟩ => show ((c.val * 704 + s.val) * 2048 + k.val) / 2048 = c.val * 704 + s.val; omega

/-- The reference's activation is the one that the kernel is handed. -/
theorem ref_act (x0 x1 : Vec Ideal S8192x5632 .f32) : Read.val_main_v2 (F := Ideal) x0 x1 = act x0 x1 := rfl

/-- The reference's gradient is the kernel's. -/
theorem ref_eq (x0 x1 : Vec Ideal S8192x5632 .f32) (x2 : Vec Ideal S8192x2048 .f32) :
    Read.val_main_v7 (F := Ideal) x0 x1 x2 = dw x0 x1 x2 := by
  funext i
  obtain ⟨c, s, k, rfl⟩ : ∃ (c : Fin 8) (s : Fin 704) (k : Fin 2048), i = (ix3 c s k : S8x704x2048.Idx) :=
    ⟨i 0, i 1, i 2, by funext a; match a with | ⟨0, _⟩ => rfl | ⟨1, _⟩ => rfl | ⟨2, _⟩ => rfl⟩
  rw [Read.val_main_v7_apply]
  show (Read.val_main_v6 (F := Ideal) x0 x1 x2 (ix3 c s k) : EReal) = _
  rw [Read.val_main_v6_apply, Read.val_main_v5_apply, ref_idx, Read.val_main_v4_apply]
  refine Finset.sum_congr rfl fun r _ => ?_
  have e0 : Read.lidx_main_v4 (ix2 k (col c s)) r = ix2 r k := by
    funext a; match a with | ⟨0, _⟩ => rfl | ⟨1, _⟩ => rfl
  have e1 : Read.ridx_main_v4 (ix2 k (col c s)) r = ix2 r (col c s) := by
    funext a; match a with | ⟨0, _⟩ => rfl | ⟨1, _⟩ => rfl
  rw [e0, e1, ref_act]
  exact mul_comm (x2 (ix2 r k) : EReal) (act x0 x1 (ix2 r (col c s)))

/-- The kernel and the reference end with equal results, at the reals with their infinities. -/
theorem algebraic : Cert.algebraic_Kernel2Ideal_Reference2Ideal := by
  intro m g m' g' _ hargs
  refine ⟨fun c => G m c, run m g, ?_⟩
  refine (θ_run _ _ _).mono (fun r h c => ?_) (Cert.Reference2Ideal.Value.run m' g')
  obtain ⟨e, ek⟩ := h c
  obtain ⟨a0, a1, a2⟩ := hargs c
  refine ⟨e.trans ?_, ek⟩
  rw [a0, a1, a2, Read.val_main_v7_eq]
  exact ref_eq _ _ _

end Cert.Proof.Down

end
-- ==== Proof.Wide.lean ====
/- The gradient of the gate's projection as the kernel `ffn_dwg` leaves it (at `Ideal`): for every chunk of 704 feed-forward
   columns the product of the normed input with the derivative of the gate, summed over the 8192 rows in four steps in a
   scratch buffer and written back after the fourth. -/
module

public import proofs.«01_k».proof.Proof.Gen.Kernel3Ideal.Value
public import proofs.«01_k».proof.Proof.Chunks

@[expose] public section

set_option maxRecDepth 16384

noncomputable section

namespace Cert.Proof.Wide

open Cert.Kernel3Ideal Cert.Kernel3Ideal.Gen Idealize.ShloMosaic Idealize.ShloMosaic.TcCoe Idealize.SL.Sem Cert.Proof.Chunks

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The normed input, in the host's operations. -/
def normed (x : Vec Ideal S8192x2048 .f32) (g : Vec Ideal S2048 .f32) : FVec Ideal S8192x2048 .f32 :=
  mulf (mulf x (broadcastInDim S8192x2048 ![0, 1] bcast_S8192x1_S8192x2048_0_1 (Host.rsqrt (addf
    (Host.divf (broadcastInDim S8192x1 ![0] bcast_S8192_S8192x1_0
      (Host.reduceAdd (mulf x x) (constant S_ .f32 0x00000000#32) reducesTo_S8192x2048_S8192_d1 h_S_))
      (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- The gradient of the projection, by chunk, model column and column of the chunk. -/
def dw (x : Vec Ideal S8192x2048 .f32) (g : Vec Ideal S2048 .f32) (d : Vec Ideal S8192x5632 .f32) : Vec Ideal S8x2048x704 .bf16 := fun i =>
  (∑ r : Fin 8192, normed x g (ix2 r (i 1)) * d (ix2 r (col (i 0) (i 2))) : EReal)

/-! ## What the host lines hand to the call -/

theorem entry_x (c : Dev nD) : (V m c main_v13 : Vec Ideal S8192x2048 .bf16)
    = fun i => normed (m ((c : Thread nD τ).loc main_arg0)) (m ((c : Thread nD τ).loc main_arg1)) i := by
  have h : @Eq (Vec Ideal S8192x2048 .bf16) (V m c main_v13) (truncf (F := Ideal) .bf16 (normed (m ((c : Thread nD τ).loc main_arg0)) (m ((c : Thread nD τ).loc main_arg1)) : FVec Ideal S8192x2048 .f32) bitsLt_bf16_f32) := by
    unfold normed; unfold_abbrev_sides; after_results
  rw [h]
  rfl

theorem entry_d (c : Dev nD) (i : Fin 8) (j : Fin 8192) (k : Fin 704) : (V m c main_v16 : Vec Ideal S8x8192x704 .bf16) (ix3 i j k)
    = (m ((c : Thread nD τ).loc main_arg2) : Vec Ideal S8192x5632 .f32) (ix2 j (col i k)) := by
  have h : @Eq (Vec Ideal S8x8192x704 .bf16) (V m c main_v16) (truncf (F := Ideal) .bf16 (transpose S8x8192x704 [1, 0, 2] (shapeCast S8192x8x704 (m ((c : Thread nD τ).loc main_arg2) : FVec Ideal S8192x5632 .f32) shapeCasts_S8192x5632_S8192x8x704) transposes_S8192x8x704_S8x8192x704_1_0_2) bitsLt_bf16_f32) := by
    unfold_abbrev_sides; after_results; rfl
  rw [h]
  pointwise
  rfl

/-! ## Where a block's element lies in its array -/

theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, win0_1.index t (0 : Fin 3) = t.val / 4 % 8 ∧ win0_1.index t (1 : Fin 3) = t.val % 4
    ∧ win0_1.index t (2 : Fin 3) = 0 := (by decide +kernel : ∀ t : Fin grid0.N, _)
theorem idx2 : ∀ t : Fin cfg0.N, win0_2.index t (0 : Fin 3) = t.val / 4 % 8 ∧ win0_2.index t (1 : Fin 3) = 0
    ∧ win0_2.index t (2 : Fin 3) = 0 := (by decide +kernel : ∀ t : Fin grid0.N, _)

theorem emb0 (t : Fin cfg0.N) (r k : Fin 2048) :
    ((cfg0.win 0).blk t).view.emb (ix2 r k : S2048x2048.Idx) = (ix2 (row t.val r) k : S8192x2048.Idx) := by
  obtain ⟨e0, e1⟩ := idx0 t
  funext a; apply Fin.ext
  match a with
  | ⟨0, _⟩ => show win0_0.index t (0 : Fin 2) * 2048 + 1 * r.val = t.val % 4 * 2048 + r.val; omega
  | ⟨1, _⟩ => show win0_0.index t (1 : Fin 2) * 2048 + 1 * k.val = k.val; omega

theorem emb1 (t : Fin cfg0.N) (z : Fin 1) (r : Fin 2048) (s : Fin 704) :
    ((cfg0.win 1).blk t).view.emb (ix3 z r s : S1x2048x704.Idx) = (ix3 (chunk t.val) (row t.val r) s : S8x8192x704.Idx) := by
  obtain ⟨e0, e1, e2⟩ := idx1 t
  funext a; apply Fin.ext
  match a with
  | ⟨0, _⟩ => show win0_1.index t (0 : Fin 3) * 1 + 1 * z.val = t.val / 4 % 8; omega
  | ⟨1, _⟩ => show win0_1.index t (1 : Fin 3) * 2048 + 1 * r.val = t.val % 4 * 2048 + r.val; omega
  | ⟨2, _⟩ => show win0_1.index t (2 : Fin 3) * 704 + 1 * s.val = s.val; omega

theorem emb2 (t : Fin cfg0.N) (z : Fin 1) (k : Fin 2048) (s : Fin 704) :
    ((cfg0.win 2).blk t).view.emb (ix3 z k s : S1x2048x704.Idx) = (ix3 (chunk t.val) k s : S8x2048x704.Idx) := by
  obtain ⟨e0, e1, e2⟩ := idx2 t
  funext a; apply Fin.ext
  match a with
  | ⟨0, _⟩ => show win0_2.index t (0 : Fin 3) * 1 + 1 * z.val = t.val / 4 % 8; omega
  | ⟨1, _⟩ => show win0_2.index t (1 : Fin 3) * 2048 + 1 * k.val = k.val; omega
  | ⟨2, _⟩ => show win0_2.index t (2 : Fin 3) * 704 + 1 * s.val = s.val; omega

theorem iblk0 (c : Dev nD) (t : Fin cfg0.N) (r k : Fin 2048) : (iblk m c 0 t : Vec Ideal S2048x2048 .bf16) (ix2 r k)
    = normed (m ((c : Thread nD τ).loc main_arg0)) (m ((c : Thread nD τ).loc main_arg1)) (ix2 (row t.val r) k) := by
  show (V m c main_v13 : Vec Ideal S8192x2048 .bf16) (((cfg0.win 0).blk t).view.emb (ix2 r k : S2048x2048.Idx)) = _
  rw [emb0, entry_x]

theorem iblk1 (c : Dev nD) (t : Fin cfg0.N) (z : Fin 1) (r : Fin 2048) (s : Fin 704) :
    (iblk m c 1 t : Vec Ideal S1x2048x704 .bf16) (ix3 z r s)
    = (m ((c : Thread nD τ).loc main_arg2) : Vec Ideal S8192x5632 .f32) (ix2 (row t.val r) (col (chunk t.val) s)) := by
  show (V m c main_v16 : Vec Ideal S8x8192x704 .bf16) (((cfg0.win 1).blk t).view.emb (ix3 z r s : S1x2048x704.Idx)) = _
  rw [emb1, entry_d]

/-! ## The body's stores -/

/-- The product of the two blocks a step reads, at one index. -/
def prod (x0 : Vec Ideal S2048x2048 .bf16) (x1 : Vec Ideal S1x2048x704 .bf16) (k : Fin 2048) (s : Fin 704) : EReal :=
  ∑ r : Fin 2048, x0 (ix2 r k) * x1 (ix3 0 r s)

/-- The first step stores that product. -/
theorem pay2 (x0 : Vec Ideal S2048x2048 .bf16) (x1 : Vec Ideal S1x2048x704 .bf16) (k : Fin 2048) (s : Fin 704) :
    k0_pay2 (F := Ideal) x0 x1 (ix2 k s) = prod x0 x1 k s := by
  unfold prod
  unfold_payloads
  pointwise

/-- A later step adds its product to what the scratch holds. -/
theorem pay3 (x0 : Vec Ideal S2048x2048 .bf16) (x1 : Vec Ideal S1x2048x704 .bf16) (xs : Vec Ideal S2048x704 .f32)
    (k : Fin 2048) (s : Fin 704) :
    k0_pay3 (F := Ideal) x0 x1 xs (ix2 k s) = (xs (ix2 k s) + prod x0 x1 k s : EReal) := by
  unfold prod
  unfold_payloads
  pointwise

/-- The last step writes the scratch out. -/
theorem pay4 (xs : Vec Ideal S2048x704 .f32) (z : Fin 1) (k : Fin 2048) (s : Fin 704) :
    k0_pay4 (F := Ideal) xs (ix3 z k s) = xs (ix2 k s) := by
  unfold_payloads
  pointwise

section Terms
variable (c : Dev nD) (i : grid0.Coords) (a2 : Memref sig .tc .vmem S2048x2048 .bf16) (h2 : a2.IsWhole)
  (a3 : Memref sig .tc .vmem S1x2048x704 .bf16) (h3 : a3.IsWhole) (a4 : Memref sig .tc .vmem S1x2048x704 .bf16) (h4 : a4.IsWhole)
  (a5 : Memref sig .tc .vmem S2048x704 .f32) (h5 : a5.IsWhole)
  (x0 : Vec Ideal S2048x2048 .bf16) (x1 : Vec Ideal S1x2048x704 .bf16) (xs : Vec Ideal S2048x704 .f32)

/-- The first step of a chunk leaves its product in the scratch. -/
theorem first (hc0 : cond0_0 i) (hc1 : ¬cond0_1 i) (hc2 : ¬cond0_2 i) :
    sout0_A_0 (F := Ideal) c i a2 h2 a3 h3 a4 h4 a5 h5 hc0 hc1 hc2 x0 x1 = k0_pay2 x0 x1 := by
  unfold sout0_A_0
  rw [View.read_writes_eq_canon _ _ _ (scover0_A_0 c i a2 h2 a3 h3 a4 h4 a5 h5 hc0 hc1 hc2 x0 x1)]
  unfold kernelRun0_A
  dsimp only
  rw [View.canon_unit_zero hz2]
  simp only [View.readAt_eq_ld, h2.read_unread, h3.read_unread, View.ld_unit_zero (S := S1x2048x704) hz3,
    View.ld_unit_zero (S := S2048x2048) hz2]

/-- A middle step leaves the scratch with its product added. -/
theorem middle (hc0 : ¬cond0_0 i) (hc1 : cond0_1 i) (hc2 : ¬cond0_2 i) :
    sout0_B_0 (F := Ideal) c i a2 h2 a3 h3 a4 h4 a5 h5 hc0 hc1 hc2 x0 x1 xs = k0_pay3 x0 x1 xs := by
  unfold sout0_B_0
  rw [View.read_writes_eq_canon _ _ _ (scover0_B_0 c i a2 h2 a3 h3 a4 h4 a5 h5 hc0 hc1 hc2 x0 x1 xs)]
  unfold kernelRun0_B
  dsimp only
  rw [View.canon_unit_zero hz2]
  simp only [View.readAt_eq_ld, h2.read_unread, h3.read_unread, h5.read_unread, View.ld_unit_zero (S := S1x2048x704) hz3,
    View.ld_unit_zero (S := S2048x2048) hz2, View.ld_unit_zero (S := S2048x704) hz2]

/-- So does the last step. -/
theorem last_acc (hc0 : ¬cond0_0 i) (hc1 : cond0_1 i) (hc2 : cond0_2 i) :
    sout0_C_0 (F := Ideal) c i a2 h2 a3 h3 a4 h4 a5 h5 hc0 hc1 hc2 x0 x1 xs = k0_pay3 x0 x1 xs := by
  unfold sout0_C_0
  rw [View.read_writes_eq_canon _ _ _ (scover0_C_0 c i a2 h2 a3 h3 a4 h4 a5 h5 hc0 hc1 hc2 x0 x1 xs)]
  unfold kernelRun0_C
  dsimp only
  sl_unfold_words
  rw [View.canon_unit_zero hz2]
  simp only [View.readAt_eq_ld, h2.read_unread, h3.read_unread, h5.read_unread, View.ld_unit_zero (S := S1x2048x704) hz3,
    View.ld_unit_zero (S := S2048x2048) hz2, View.ld_unit_zero (S := S2048x704) hz2]

/-- The last step's output block is what it leaves in the scratch. -/
theorem last_out (hc0 : ¬cond0_0 i) (hc1 : cond0_1 i) (hc2 : cond0_2 i) :
    out0_C_2 (F := Ideal) c i a2 h2 a3 h3 a4 h4 a5 h5 hc0 hc1 hc2 x0 x1 xs = k0_pay4 (k0_pay3 x0 x1 xs) := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz3]
  rw [View.readCov_unit_zero (S := S2048x704) _ hz2]
  simp only [View.readAt_eq_ld, h2.read_unread, h3.read_unread, h5.read_unread, View.ld_unit_zero (S := S1x2048x704) hz3,
    View.ld_unit_zero (S := S2048x2048) hz2, View.ld_unit_zero (S := S2048x704) hz2]

end Terms

/-! ## What the scratch holds after each point -/

/-- One row's share of the gradient, at chunk `q`, model column `k` and column `s` of the chunk. -/
def term (c : Dev nD) (q : Fin 8) (k : Fin 2048) (s : Fin 704) (p : Fin 8192) : EReal :=
  normed (m ((c : Thread nD τ).loc main_arg0)) (m ((c : Thread nD τ).loc main_arg1)) (ix2 p k)
    * (m ((c : Thread nD τ).loc main_arg2) : Vec Ideal S8192x5632 .f32) (ix2 p (col q s))

/-- The product that step `n` takes. -/
def part (c : Dev nD) (k : Fin 2048) (s : Fin 704) (n : ℕ) : EReal :=
  ∑ r : Fin 2048, term m c (chunk n) k s (row n r)

theorem part_eq (c : Dev nD) (t : Fin cfg0.N) (k : Fin 2048) (s : Fin 704) :
    prod (iblk m c 0 t) (iblk m c 1 t) k s = part m c k s t.val := by
  unfold prod part term
  refine Finset.sum_congr rfl fun r _ => ?_
  rw [iblk0, iblk1]

/-- After point `n` the scratch holds the sum of its chunk's products up to `n`. -/
theorem scratch (c : Dev nD) (k : Fin 2048) (s : Fin 704) (n : ℕ) (hn : n < cfg0.N) :
    ((outsAt0 m c n hn).2 (ix2 k s) : EReal) = ∑ j ∈ Finset.range (n % 4 + 1), part m c k s (4 * (n / 4) + j) := by
  refine chain (fun n hn => ((outsAt0 m c n hn).2 (ix2 k s) : EReal)) (part m c k s) ?_ ?_ n hn
  · intro n h hn
    have e := outsAt0_A m c ⟨n, h⟩ hn (by show ¬1 ≤ n % 4; omega) (by show ¬n % 4 = 3; omega)
    show ((outsAt0 m c n h).2 (ix2 k s) : EReal) = _
    rw [show outsAt0 m c n h = _ from e]
    dsimp only
    rw [first, pay2]
    exact part_eq m c ⟨n, h⟩ k s
  · intro n h hn
    show ((outsAt0 m c n h).2 (ix2 k s) : EReal) = _
    by_cases h3 : n % 4 = 3
    · have e := outsAt0_C m c ⟨n, h⟩ hn (by show 1 ≤ n % 4; omega) h3
      rw [show outsAt0 m c n h = _ from e]
      dsimp only
      rw [last_acc, pay3]
      exact congrArg _ (part_eq m c ⟨n, h⟩ k s)
    · have e := outsAt0_B m c ⟨n, h⟩ hn (by show 1 ≤ n % 4; omega) h3
      rw [show outsAt0 m c n h = _ from e]
      dsimp only
      rw [middle, pay3]
      exact congrArg _ (part_eq m c ⟨n, h⟩ k s)

/-- The four products of a chunk are the sum over all rows. -/
theorem total (c : Dev nD) (k : Fin 2048) (s : Fin 704) (n : ℕ) (h : n % 4 = 3) :
    (∑ j ∈ Finset.range (n % 4 + 1), part m c k s (4 * (n / 4) + j))
    = dw (m ((c : Thread nD τ).loc main_arg0)) (m ((c : Thread nD τ).loc main_arg1)) (m ((c : Thread nD τ).loc main_arg2))
        (ix3 (chunk n) k s : S8x2048x704.Idx) := by
  rw [h]
  refine (Finset.sum_congr rfl fun j hj => ?_).trans (sum_rows (term m c (chunk n) k s) (n / 4))
  have hj' : j < 4 := Finset.mem_range.mp hj
  have e : chunk (4 * (n / 4) + j) = chunk n := Fin.ext (by show (4 * (n / 4) + j) / 4 % 8 = n / 4 % 8; omega)
  unfold part
  rw [e]

/-! ## The result -/

/-- The gradient as a function of the launched arguments. -/
def G (c : Dev nD) : Vec Ideal S8x2048x704 .bf16 :=
  dw (m ((c : Thread nD τ).loc main_arg0)) (m ((c : Thread nD τ).loc main_arg1)) (m ((c : Thread nD τ).loc main_arg2))

/-- What a chunk's last point writes back is its block of `G`. -/
theorem flushed_eq (c : Dev nD) (t : Fin cfg0.N) (hf : (cfg0.win 2).flush t = true) :
    (dats m 0 c).flushed 2 t = ((cfg0.win 2).blk t).view.read (Elt Ideal) (G m c) := by
  have h3 : t.val % 4 = 3 := (flush0_2 t).mp hf
  rw [Value.flushed2_C m c t (by omega) (by omega) h3]
  funext y
  obtain ⟨z, k, s, rfl⟩ : ∃ (z : Fin 1) (k : Fin 2048) (s : Fin 704), y = (ix3 z k s : S1x2048x704.Idx) :=
    ⟨y 0, y 1, y 2, by funext a; match a with | ⟨0, _⟩ => rfl | ⟨1, _⟩ => rfl | ⟨2, _⟩ => rfl⟩
  rw [last_out]
  show k0_pay4 (F := Ideal) (k0_pay3 (iblk m c 0 t) (iblk m c 1 t) _) (ix3 z k s)
    = G m c (((cfg0.win 2).blk t).view.emb (ix3 z k s : S1x2048x704.Idx))
  rw [emb2, pay4, pay3, part_eq]
  have e := scratch m c k s t.val t.isLt
  rw [outsAt0_C m c t (by omega) (by omega) h3] at e
  dsimp only at e
  rw [last_acc, pay3, part_eq] at e
  rw [e, total m c k s t.val h3]
  rfl

/-- Every index lies in the block that its chunk's last point writes back. -/
theorem covered (i : S8x2048x704.Idx) :
    ∃ t : Fin cfg0.N, (cfg0.win 2).flush t = true ∧ i ∈ ((cfg0.win 2).blk t).view.set := by
  have h0 : (i 0).val < 8 := (i 0).isLt
  let t : Fin cfg0.N := ⟨(i 0).val * 4 + 3, by show _ < 32; omega⟩
  have e : i = (ix3 (chunk t.val) (i 1) (i 2) : S8x2048x704.Idx) := by
    funext a; apply Fin.ext
    match a with
    | ⟨0, _⟩ => show (i 0).val = ((i 0).val * 4 + 3) / 4 % 8; omega
    | ⟨1, _⟩ => rfl
    | ⟨2, _⟩ => rfl
  refine ⟨t, (flush0_2 t).mpr (by show ((i 0).val * 4 + 3) % 4 = 3; omega), ?_⟩
  rw [e, ← emb2 t 0 (i 1) (i 2)]
  exact ((cfg0.win 2).blk t).view.emb_mem_set _

/-- The run with the result at its function of the arguments. -/
theorem run : θ_run defs (onTc (τ := τ) (main (F := Ideal))) ⟨m, fun _ => 0, ρ⟩ fun r => ∀ c : Dev nD,
      r.2.mem ((c : Thread nD τ).loc main_v17) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(h c).1.trans ((dats m 0 c).arrAt_eq_of_cover 2 (G m c) (fun t hf => flushed_eq m c t hf) covered), (h c).2⟩)
    (Value.run_blocks m ρ)

end Cert.Proof.Wide

end
-- ==== Proof.WideRef.lean ====
/- The gradient of the gate's projection: the reference's result index by index, and its equality with the kernel's. -/
module

public import proofs.«01_k».proof.Proof.Wide
public import proofs.«01_k».proof.Proof.Gen.Reference3Ideal.Run
public import proofs.«01_k».proof.Proof.Gen.Reference3Ideal.Read
public import proofs.«01_k».proof.Defs

@[expose] public section

set_option maxRecDepth 16384

noncomputable section

namespace Cert.Proof.Wide

open Idealize.ShloMosaic Idealize.ShloMosaic.TcCoe Idealize.SL.Sem
open Cert.Reference3Ideal Cert.Reference3Ideal.Gen Cert.Reference3Ideal.Value Cert.Proof.Chunks

/-- Where the reference's chunked result reads its matrix. -/
theorem ref_idx (c : Fin 8) (k : Fin 2048) (s : Fin 704) :
    Read.idx_main_v16 (Read.idx_main_v17 (Read.idx_main_v18 (ix3 c k s))) = ix2 (col c s) k := by
  funext a; apply Fin.ext
  match a with
  | ⟨0, _⟩ => show ((k.val * 8 + c.val) * 704 + s.val) % 5632 = c.val * 704 + s.val; omega
  | ⟨1, _⟩ => show ((k.val * 8 + c.val) * 704 + s.val) / 5632 = k.val; omega

/-- The reference's normed input is the one that the kernel is handed. -/
theorem ref_normed (x0 : Vec Ideal S8192x2048 .f32) (x1 : Vec Ideal S2048 .f32) :
    Read.val_main_v13 (F := Ideal) x0 x1 = normed x0 x1 := rfl

/-- The reference's gradient is the kernel's. -/
theorem ref_eq (x0 : Vec Ideal S8192x2048 .f32) (x1 : Vec Ideal S2048 .f32) (x2 : Vec Ideal S8192x5632 .f32) :
    Read.val_main_v19 (F := Ideal) x0 x1 x2 = dw x0 x1 x2 := by
  funext i
  obtain ⟨c, k, s, rfl⟩ : ∃ (c : Fin 8) (k : Fin 2048) (s : Fin 704), i = (ix3 c k s : S8x2048x704.Idx) :=
    ⟨i 0, i 1, i 2, by funext a; match a with | ⟨0, _⟩ => rfl | ⟨1, _⟩ => rfl | ⟨2, _⟩ => rfl⟩
  rw [Read.val_main_v19_apply]
  show (Read.val_main_v18 (F := Ideal) x0 x1 x2 (ix3 c k s) : EReal) = _
  rw [Read.val_main_v18_apply, Read.val_main_v17_apply, Read.val_main_v16_apply, ref_idx, Read.val_main_v15_apply]
  refine Finset.sum_congr rfl fun r _ => ?_
  have e0 : Read.lidx_main_v15 (ix2 (col c s) k) r = ix2 r (col c s) := by
    funext a; match a with | ⟨0, _⟩ => rfl | ⟨1, _⟩ => rfl
  have e1 : Read.ridx_main_v15 (ix2 (col c s) k) r = ix2 r k := by
    funext a; match a with | ⟨0, _⟩ => rfl | ⟨1, _⟩ => rfl
  rw [e0, e1, ref_normed]
  exact mul_comm (x2 (ix2 r (col c s)) : EReal) (normed x0 x1 (ix2 r k))

/-- The kernel and the reference end with equal results, at the reals with their infinities. -/
theorem algebraic : Cert.algebraic_Kernel3Ideal_Reference3Ideal := by
  intro m g m' g' _ hargs
  refine ⟨fun c => G m c, run m g, ?_⟩
  refine (θ_run _ _ _).mono (fun r h c => ?_) (Cert.Reference3Ideal.Value.run m' g')
  obtain ⟨e, ek⟩ := h c
  obtain ⟨a0, a1, a2⟩ := hargs c
  refine ⟨e.trans ?_, ek⟩
  rw [a0, a1, a2, Read.val_main_v19_eq]
  exact ref_eq _ _ _

end Cert.Proof.Wide

end
-- ==== Proof.Up.lean ====
/- The gradient of the up-projection as the kernel `ffn_dwu` leaves it (at `Ideal`): for every chunk of 704 feed-forward
   columns the product of the normed input with the derivative of the up-projection, summed over the 8192 rows in four steps in a
   scratch buffer and written back after the fourth. -/
module

public import proofs.«01_k».proof.Proof.Gen.Kernel4Ideal.Value
public import proofs.«01_k».proof.Proof.Chunks

@[expose] public section

set_option maxRecDepth 16384

noncomputable section

namespace Cert.Proof.Up

open Cert.Kernel4Ideal Cert.Kernel4Ideal.Gen Idealize.ShloMosaic Idealize.ShloMosaic.TcCoe Idealize.SL.Sem Cert.Proof.Chunks

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The normed input, in the host's operations. -/
def normed (x : Vec Ideal S8192x2048 .f32) (g : Vec Ideal S2048 .f32) : FVec Ideal S8192x2048 .f32 :=
  mulf (mulf x (broadcastInDim S8192x2048 ![0, 1] bcast_S8192x1_S8192x2048_0_1 (Host.rsqrt (addf
    (Host.divf (broadcastInDim S8192x1 ![0] bcast_S8192_S8192x1_0
      (Host.reduceAdd (mulf x x) (constant S_ .f32 0x00000000#32) reducesTo_S8192x2048_S8192_d1 h_S_))
      (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- The gradient of the projection, by chunk, model column and column of the chunk. -/
def dw (x : Vec Ideal S8192x2048 .f32) (g : Vec Ideal S2048 .f32) (d : Vec Ideal S8192x5632 .f32) : Vec Ideal S8x2048x704 .bf16 := fun i =>
  (∑ r : Fin 8192, normed x g (ix2 r (i 1)) * d (ix2 r (col (i 0) (i 2))) : EReal)

/-! ## What the host lines hand to the call -/

theorem entry_x (c : Dev nD) : (V m c main_v13 : Vec Ideal S8192x2048 .bf16)
    = fun i => normed (m ((c : Thread nD τ).loc main_arg0)) (m ((c : Thread nD τ).loc main_arg1)) i := by
  have h : @Eq (Vec Ideal S8192x2048 .bf16) (V m c main_v13) (truncf (F := Ideal) .bf16 (normed (m ((c : Thread nD τ).loc main_arg0)) (m ((c : Thread nD τ).loc main_arg1)) : FVec Ideal S8192x2048 .f32) bitsLt_bf16_f32) := by
    unfold normed; unfold_abbrev_sides; after_results
  rw [h]
  rfl

theorem entry_d (c : Dev nD) (i : Fin 8) (j : Fin 8192) (k : Fin 704) : (V m c main_v16 : Vec Ideal S8x8192x704 .bf16) (ix3 i j k)
    = (m ((c : Thread nD τ).loc main_arg2) : Vec Ideal S8192x5632 .f32) (ix2 j (col i k)) := by
  have h : @Eq (Vec Ideal S8x8192x704 .bf16) (V m c main_v16) (truncf (F := Ideal) .bf16 (transpose S8x8192x704 [1, 0, 2] (shapeCast S8192x8x704 (m ((c : Thread nD τ).loc main_arg2) : FVec Ideal S8192x5632 .f32) shapeCasts_S8192x5632_S8192x8x704) transposes_S8192x8x704_S8x8192x704_1_0_2) bitsLt_bf16_f32) := by
    unfold_abbrev_sides; after_results; rfl
  rw [h]
  pointwise
  rfl

/-! ## Where a block's element lies in its array -/

theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, win0_1.index t (0 : Fin 3) = t.val / 4 % 8 ∧ win0_1.index t (1 : Fin 3) = t.val % 4
    ∧ win0_1.index t (2 : Fin 3) = 0 := (by decide +kernel : ∀ t : Fin grid0.N, _)
theorem idx2 : ∀ t : Fin cfg0.N, win0_2.index t (0 : Fin 3) = t.val / 4 % 8 ∧ win0_2.index t (1 : Fin 3) = 0
    ∧ win0_2.index t (2 : Fin 3) = 0 := (by decide +kernel : ∀ t : Fin grid0.N, _)

theorem emb0 (t : Fin cfg0.N) (r k : Fin 2048) :
    ((cfg0.win 0).blk t).view.emb (ix2 r k : S2048x2048.Idx) = (ix2 (row t.val r) k : S8192x2048.Idx) := by
  obtain ⟨e0, e1⟩ := idx0 t
  funext a; apply Fin.ext
  match a with
  | ⟨0, _⟩ => show win0_0.index t (0 : Fin 2) * 2048 + 1 * r.val = t.val % 4 * 2048 + r.val; omega
  | ⟨1, _⟩ => show win0_0.index t (1 : Fin 2) * 2048 + 1 * k.val = k.val; omega

theorem emb1 (t : Fin cfg0.N) (z : Fin 1) (r : Fin 2048) (s : Fin 704) :
    ((cfg0.win 1).blk t).view.emb (ix3 z r s : S1x2048x704.Idx) = (ix3 (chunk t.val) (row t.val r) s : S8x8192x704.Idx) := by
  obtain ⟨e0, e1, e2⟩ := idx1 t
  funext a; apply Fin.ext
  match a with
  | ⟨0, _⟩ => show win0_1.index t (0 : Fin 3) * 1 + 1 * z.val = t.val / 4 % 8; omega
  | ⟨1, _⟩ => show win0_1.index t (1 : Fin 3) * 2048 + 1 * r.val = t.val % 4 * 2048 + r.val; omega
  | ⟨2, _⟩ => show win0_1.index t (2 : Fin 3) * 704 + 1 * s.val = s.val; omega

theorem emb2 (t : Fin cfg0.N) (z : Fin 1) (k : Fin 2048) (s : Fin 704) :
    ((cfg0.win 2).blk t).view.emb (ix3 z k s : S1x2048x704.Idx) = (ix3 (chunk t.val) k s : S8x2048x704.Idx) := by
  obtain ⟨e0, e1, e2⟩ := idx2 t
  funext a; apply Fin.ext
  match a with
  | ⟨0, _⟩ => show win0_2.index t (0 : Fin 3) * 1 + 1 * z.val = t.val / 4 % 8; omega
  | ⟨1, _⟩ => show win0_2.index t (1 : Fin 3) * 2048 + 1 * k.val = k.val; omega
  | ⟨2, _⟩ => show win0_2.index t (2 : Fin 3) * 704 + 1 * s.val = s.val; omega

theorem iblk0 (c : Dev nD) (t : Fin cfg0.N) (r k : Fin 2048) : (iblk m c 0 t : Vec Ideal S2048x2048 .bf16) (ix2 r k)
    = normed (m ((c : Thread nD τ).loc main_arg0)) (m ((c : Thread nD τ).loc main_arg1)) (ix2 (row t.val r) k) := by
  show (V m c main_v13 : Vec Ideal S8192x2048 .bf16) (((cfg0.win 0).blk t).view.emb (ix2 r k : S2048x2048.Idx)) = _
  rw [emb0, entry_x]

theorem iblk1 (c : Dev nD) (t : Fin cfg0.N) (z : Fin 1) (r : Fin 2048) (s : Fin 704) :
    (iblk m c 1 t : Vec Ideal S1x2048x704 .bf16) (ix3 z r s)
    = (m ((c : Thread nD τ).loc main_arg2) : Vec Ideal S8192x5632 .f32) (ix2 (row t.val r) (col (chunk t.val) s)) := by
  show (V m c main_v16 : Vec Ideal S8x8192x704 .bf16) (((cfg0.win 1).blk t).view.emb (ix3 z r s : S1x2048x704.Idx)) = _
  rw [emb1, entry_d]

/-! ## The body's stores -/

/-- The product of the two blocks a step reads, at one index. -/
def prod (x0 : Vec Ideal S2048x2048 .bf16) (x1 : Vec Ideal S1x2048x704 .bf16) (k : Fin 2048) (s : Fin 704) : EReal :=
  ∑ r : Fin 2048, x0 (ix2 r k) * x1 (ix3 0 r s)

/-- The first step stores that product. -/
theorem pay2 (x0 : Vec Ideal S2048x2048 .bf16) (x1 : Vec Ideal S1x2048x704 .bf16) (k : Fin 2048) (s : Fin 704) :
    k0_pay2 (F := Ideal) x0 x1 (ix2 k s) = prod x0 x1 k s := by
  unfold prod
  unfold_payloads
  pointwise

/-- A later step adds its product to what the scratch holds. -/
theorem pay3 (x0 : Vec Ideal S2048x2048 .bf16) (x1 : Vec Ideal S1x2048x704 .bf16) (xs : Vec Ideal S2048x704 .f32)
    (k : Fin 2048) (s : Fin 704) :
    k0_pay3 (F := Ideal) x0 x1 xs (ix2 k s) = (xs (ix2 k s) + prod x0 x1 k s : EReal) := by
  unfold prod
  unfold_payloads
  pointwise

/-- The last step writes the scratch out. -/
theorem pay4 (xs : Vec Ideal S2048x704 .f32) (z : Fin 1) (k : Fin 2048) (s : Fin 704) :
    k0_pay4 (F := Ideal) xs (ix3 z k s) = xs (ix2 k s) := by
  unfold_payloads
  pointwise

section Terms
variable (c : Dev nD) (i : grid0.Coords) (a2 : Memref sig .tc .vmem S2048x2048 .bf16) (h2 : a2.IsWhole)
  (a3 : Memref sig .tc .vmem S1x2048x704 .bf16) (h3 : a3.IsWhole) (a4 : Memref sig .tc .vmem S1x2048x704 .bf16) (h4 : a4.IsWhole)
  (a5 : Memref sig .tc .vmem S2048x704 .f32) (h5 : a5.IsWhole)
  (x0 : Vec Ideal S2048x2048 .bf16) (x1 : Vec Ideal S1x2048x704 .bf16) (xs : Vec Ideal S2048x704 .f32)

/-- The first step of a chunk leaves its product in the scratch. -/
theorem first (hc0 : cond0_0 i) (hc1 : ¬cond0_1 i) (hc2 : ¬cond0_2 i) :
    sout0_A_0 (F := Ideal) c i a2 h2 a3 h3 a4 h4 a5 h5 hc0 hc1 hc2 x0 x1 = k0_pay2 x0 x1 := by
  unfold sout0_A_0
  rw [View.read_writes_eq_canon _ _ _ (scover0_A_0 c i a2 h2 a3 h3 a4 h4 a5 h5 hc0 hc1 hc2 x0 x1)]
  unfold kernelRun0_A
  dsimp only
  rw [View.canon_unit_zero hz2]
  simp only [View.readAt_eq_ld, h2.read_unread, h3.read_unread, View.ld_unit_zero (S := S1x2048x704) hz3,
    View.ld_unit_zero (S := S2048x2048) hz2]

/-- A middle step leaves the scratch with its product added. -/
theorem middle (hc0 : ¬cond0_0 i) (hc1 : cond0_1 i) (hc2 : ¬cond0_2 i) :
    sout0_B_0 (F := Ideal) c i a2 h2 a3 h3 a4 h4 a5 h5 hc0 hc1 hc2 x0 x1 xs = k0_pay3 x0 x1 xs := by
  unfold sout0_B_0
  rw [View.read_writes_eq_canon _ _ _ (scover0_B_0 c i a2 h2 a3 h3 a4 h4 a5 h5 hc0 hc1 hc2 x0 x1 xs)]
  unfold kernelRun0_B
  dsimp only
  rw [View.canon_unit_zero hz2]
  simp only [View.readAt_eq_ld, h2.read_unread, h3.read_unread, h5.read_unread, View.ld_unit_zero (S := S1x2048x704) hz3,
    View.ld_unit_zero (S := S2048x2048) hz2, View.ld_unit_zero (S := S2048x704) hz2]

/-- So does the last step. -/
theorem last_acc (hc0 : ¬cond0_0 i) (hc1 : cond0_1 i) (hc2 : cond0_2 i) :
    sout0_C_0 (F := Ideal) c i a2 h2 a3 h3 a4 h4 a5 h5 hc0 hc1 hc2 x0 x1 xs = k0_pay3 x0 x1 xs := by
  unfold sout0_C_0
  rw [View.read_writes_eq_canon _ _ _ (scover0_C_0 c i a2 h2 a3 h3 a4 h4 a5 h5 hc0 hc1 hc2 x0 x1 xs)]
  unfold kernelRun0_C
  dsimp only
  sl_unfold_words
  rw [View.canon_unit_zero hz2]
  simp only [View.readAt_eq_ld, h2.read_unread, h3.read_unread, h5.read_unread, View.ld_unit_zero (S := S1x2048x704) hz3,
    View.ld_unit_zero (S := S2048x2048) hz2, View.ld_unit_zero (S := S2048x704) hz2]

/-- The last step's output block is what it leaves in the scratch. -/
theorem last_out (hc0 : ¬cond0_0 i) (hc1 : cond0_1 i) (hc2 : cond0_2 i) :
    out0_C_2 (F := Ideal) c i a2 h2 a3 h3 a4 h4 a5 h5 hc0 hc1 hc2 x0 x1 xs = k0_pay4 (k0_pay3 x0 x1 xs) := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz3]
  rw [View.readCov_unit_zero (S := S2048x704) _ hz2]
  simp only [View.readAt_eq_ld, h2.read_unread, h3.read_unread, h5.read_unread, View.ld_unit_zero (S := S1x2048x704) hz3,
    View.ld_unit_zero (S := S2048x2048) hz2, View.ld_unit_zero (S := S2048x704) hz2]

end Terms

/-! ## What the scratch holds after each point -/

/-- One row's share of the gradient, at chunk `q`, model column `k` and column `s` of the chunk. -/
def term (c : Dev nD) (q : Fin 8) (k : Fin 2048) (s : Fin 704) (p : Fin 8192) : EReal :=
  normed (m ((c : Thread nD τ).loc main_arg0)) (m ((c : Thread nD τ).loc main_arg1)) (ix2 p k)
    * (m ((c : Thread nD τ).loc main_arg2) : Vec Ideal S8192x5632 .f32) (ix2 p (col q s))

/-- The product that step `n` takes. -/
def part (c : Dev nD) (k : Fin 2048) (s : Fin 704) (n : ℕ) : EReal :=
  ∑ r : Fin 2048, term m c (chunk n) k s (row n r)

theorem part_eq (c : Dev nD) (t : Fin cfg0.N) (k : Fin 2048) (s : Fin 704) :
    prod (iblk m c 0 t) (iblk m c 1 t) k s = part m c k s t.val := by
  unfold prod part term
  refine Finset.sum_congr rfl fun r _ => ?_
  rw [iblk0, iblk1]

/-- After point `n` the scratch holds the sum of its chunk's products up to `n`. -/
theorem scratch (c : Dev nD) (k : Fin 2048) (s : Fin 704) (n : ℕ) (hn : n < cfg0.N) :
    ((outsAt0 m c n hn).2 (ix2 k s) : EReal) = ∑ j ∈ Finset.range (n % 4 + 1), part m c k s (4 * (n / 4) + j) := by
  refine chain (fun n hn => ((outsAt0 m c n hn).2 (ix2 k s) : EReal)) (part m c k s) ?_ ?_ n hn
  · intro n h hn
    have e := outsAt0_A m c ⟨n, h⟩ hn (by show ¬1 ≤ n % 4; omega) (by show ¬n % 4 = 3; omega)
    show ((outsAt0 m c n h).2 (ix2 k s) : EReal) = _
    rw [show outsAt0 m c n h = _ from e]
    dsimp only
    rw [first, pay2]
    exact part_eq m c ⟨n, h⟩ k s
  · intro n h hn
    show ((outsAt0 m c n h).2 (ix2 k s) : EReal) = _
    by_cases h3 : n % 4 = 3
    · have e := outsAt0_C m c ⟨n, h⟩ hn (by show 1 ≤ n % 4; omega) h3
      rw [show outsAt0 m c n h = _ from e]
      dsimp only
      rw [last_acc, pay3]
      exact congrArg _ (part_eq m c ⟨n, h⟩ k s)
    · have e := outsAt0_B m c ⟨n, h⟩ hn (by show 1 ≤ n % 4; omega) h3
      rw [show outsAt0 m c n h = _ from e]
      dsimp only
      rw [middle, pay3]
      exact congrArg _ (part_eq m c ⟨n, h⟩ k s)

/-- The four products of a chunk are the sum over all rows. -/
theorem total (c : Dev nD) (k : Fin 2048) (s : Fin 704) (n : ℕ) (h : n % 4 = 3) :
    (∑ j ∈ Finset.range (n % 4 + 1), part m c k s (4 * (n / 4) + j))
    = dw (m ((c : Thread nD τ).loc main_arg0)) (m ((c : Thread nD τ).loc main_arg1)) (m ((c : Thread nD τ).loc main_arg2))
        (ix3 (chunk n) k s : S8x2048x704.Idx) := by
  rw [h]
  refine (Finset.sum_congr rfl fun j hj => ?_).trans (sum_rows (term m c (chunk n) k s) (n / 4))
  have hj' : j < 4 := Finset.mem_range.mp hj
  have e : chunk (4 * (n / 4) + j) = chunk n := Fin.ext (by show (4 * (n / 4) + j) / 4 % 8 = n / 4 % 8; omega)
  unfold part
  rw [e]

/-! ## The result -/

/-- The gradient as a function of the launched arguments. -/
def G (c : Dev nD) : Vec Ideal S8x2048x704 .bf16 :=
  dw (m ((c : Thread nD τ).loc main_arg0)) (m ((c : Thread nD τ).loc main_arg1)) (m ((c : Thread nD τ).loc main_arg2))

/-- What a chunk's last point writes back is its block of `G`. -/
theorem flushed_eq (c : Dev nD) (t : Fin cfg0.N) (hf : (cfg0.win 2).flush t = true) :
    (dats m 0 c).flushed 2 t = ((cfg0.win 2).blk t).view.read (Elt Ideal) (G m c) := by
  have h3 : t.val % 4 = 3 := (flush0_2 t).mp hf
  rw [Value.flushed2_C m c t (by omega) (by omega) h3]
  funext y
  obtain ⟨z, k, s, rfl⟩ : ∃ (z : Fin 1) (k : Fin 2048) (s : Fin 704), y = (ix3 z k s : S1x2048x704.Idx) :=
    ⟨y 0, y 1, y 2, by funext a; match a with | ⟨0, _⟩ => rfl | ⟨1, _⟩ => rfl | ⟨2, _⟩ => rfl⟩
  rw [last_out]
  show k0_pay4 (F := Ideal) (k0_pay3 (iblk m c 0 t) (iblk m c 1 t) _) (ix3 z k s)
    = G m c (((cfg0.win 2).blk t).view.emb (ix3 z k s : S1x2048x704.Idx))
  rw [emb2, pay4, pay3, part_eq]
  have e := scratch m c k s t.val t.isLt
  rw [outsAt0_C m c t (by omega) (by omega) h3] at e
  dsimp only at e
  rw [last_acc, pay3, part_eq] at e
  rw [e, total m c k s t.val h3]
  rfl

/-- Every index lies in the block that its chunk's last point writes back. -/
theorem covered (i : S8x2048x704.Idx) :
    ∃ t : Fin cfg0.N, (cfg0.win 2).flush t = true ∧ i ∈ ((cfg0.win 2).blk t).view.set := by
  have h0 : (i 0).val < 8 := (i 0).isLt
  let t : Fin cfg0.N := ⟨(i 0).val * 4 + 3, by show _ < 32; omega⟩
  have e : i = (ix3 (chunk t.val) (i 1) (i 2) : S8x2048x704.Idx) := by
    funext a; apply Fin.ext
    match a with
    | ⟨0, _⟩ => show (i 0).val = ((i 0).val * 4 + 3) / 4 % 8; omega
    | ⟨1, _⟩ => rfl
    | ⟨2, _⟩ => rfl
  refine ⟨t, (flush0_2 t).mpr (by show ((i 0).val * 4 + 3) % 4 = 3; omega), ?_⟩
  rw [e, ← emb2 t 0 (i 1) (i 2)]
  exact ((cfg0.win 2).blk t).view.emb_mem_set _

/-- The run with the result at its function of the arguments. -/
theorem run : θ_run defs (onTc (τ := τ) (main (F := Ideal))) ⟨m, fun _ => 0, ρ⟩ fun r => ∀ c : Dev nD,
      r.2.mem ((c : Thread nD τ).loc main_v17) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(h c).1.trans ((dats m 0 c).arrAt_eq_of_cover 2 (G m c) (fun t hf => flushed_eq m c t hf) covered), (h c).2⟩)
    (Value.run_blocks m ρ)

end Cert.Proof.Up

end
-- ==== Proof.UpRef.lean ====
/- The gradient of the up-projection: the reference's result index by index, and its equality with the kernel's. -/
module

public import proofs.«01_k».proof.Proof.Up
public import proofs.«01_k».proof.Proof.Gen.Reference3Ideal.Run
public import proofs.«01_k».proof.Proof.Gen.Reference3Ideal.Read
public import proofs.«01_k».proof.Defs

@[expose] public section

set_option maxRecDepth 16384

noncomputable section

namespace Cert.Proof.Up

open Idealize.ShloMosaic Idealize.ShloMosaic.TcCoe Idealize.SL.Sem
open Cert.Reference3Ideal Cert.Reference3Ideal.Gen Cert.Reference3Ideal.Value Cert.Proof.Chunks

/-- Where the reference's chunked result reads its matrix. -/
theorem ref_idx (c : Fin 8) (k : Fin 2048) (s : Fin 704) :
    Read.idx_main_v16 (Read.idx_main_v17 (Read.idx_main_v18 (ix3 c k s))) = ix2 (col c s) k := by
  funext a; apply Fin.ext
  match a with
  | ⟨0, _⟩ => show ((k.val * 8 + c.val) * 704 + s.val) % 5632 = c.val * 704 + s.val; omega
  | ⟨1, _⟩ => show ((k.val * 8 + c.val) * 704 + s.val) / 5632 = k.val; omega

/-- The reference's normed input is the one that the kernel is handed. -/
theorem ref_normed (x0 : Vec Ideal S8192x2048 .f32) (x1 : Vec Ideal S2048 .f32) :
    Read.val_main_v13 (F := Ideal) x0 x1 = normed x0 x1 := rfl

/-- The reference's gradient is the kernel's. -/
theorem ref_eq (x0 : Vec Ideal S8192x2048 .f32) (x1 : Vec Ideal S2048 .f32) (x2 : Vec Ideal S8192x5632 .f32) :
    Read.val_main_v19 (F := Ideal) x0 x1 x2 = dw x0 x1 x2 := by
  funext i
  obtain ⟨c, k, s, rfl⟩ : ∃ (c : Fin 8) (k : Fin 2048) (s : Fin 704), i = (ix3 c k s : S8x2048x704.Idx) :=
    ⟨i 0, i 1, i 2, by funext a; match a with | ⟨0, _⟩ => rfl | ⟨1, _⟩ => rfl | ⟨2, _⟩ => rfl⟩
  rw [Read.val_main_v19_apply]
  show (Read.val_main_v18 (F := Ideal) x0 x1 x2 (ix3 c k s) : EReal) = _
  rw [Read.val_main_v18_apply, Read.val_main_v17_apply, Read.val_main_v16_apply, ref_idx, Read.val_main_v15_apply]
  refine Finset.sum_congr rfl fun r _ => ?_
  have e0 : Read.lidx_main_v15 (ix2 (col c s) k) r = ix2 r (col c s) := by
    funext a; match a with | ⟨0, _⟩ => rfl | ⟨1, _⟩ => rfl
  have e1 : Read.ridx_main_v15 (ix2 (col c s) k) r = ix2 r k := by
    funext a; match a with | ⟨0, _⟩ => rfl | ⟨1, _⟩ => rfl
  rw [e0, e1, ref_normed]
  exact mul_comm (x2 (ix2 r (col c s)) : EReal) (normed x0 x1 (ix2 r k))

/-- The kernel and the reference end with equal results, at the reals with their infinities. -/
theorem algebraic : Cert.algebraic_Kernel4Ideal_Reference3Ideal := by
  intro m g m' g' _ hargs
  refine ⟨fun c => G m c, run m g, ?_⟩
  refine (θ_run _ _ _).mono (fun r h c => ?_) (Cert.Reference3Ideal.Value.run m' g')
  obtain ⟨e, ek⟩ := h c
  obtain ⟨a0, a1, a2⟩ := hargs c
  refine ⟨e.trans ?_, ek⟩
  rw [a0, a1, a2, Read.val_main_v19_eq]
  exact ref_eq _ _ _

end Cert.Proof.Up

end
-- ==== Proof.Pieces.lean ====
/- A block that a point stores in pieces of rows: the pieces put together. -/
module

public import Idealize.ShloMosaic.Lib.Pipeline.ReadBack
public import Idealize.ShloMosaic.Lib.Pipeline.ValueKit.Tiles
public import Idealize.ShloMosaic.Lib.Pointwise

@[expose] public section

namespace Cert.Proof.Pieces

open Idealize.ShloMosaic

/-- Stores that are pieces of one array leave that array wherever one of them reaches. -/
theorem canon_pieces {Val : EltTy → Type} {s : Shape} {e : EltTy} [∀ e, Nonempty (Val e)] (G : s.Idx → Val e)
    (L : List (View.Piece Val s e)) (h : View.PiecesOf G L) (y : s.Idx) (hc : ∃ p ∈ L, y ∈ p.1.set) : View.canon L y = G y := by
  have e := View.canon_append_of_piecesOf G [] L h y hc
  rwa [List.append_nil] at e

theorem idx2_eq {a b : ℕ} (i : (⟨2, ![a, b]⟩ : Shape).Idx) : ∃ (p : Fin a) (q : Fin b), i = ix2 p q :=
  ⟨i 0, i 1, by funext d; match d with | ⟨0, _⟩ => rfl | ⟨1, _⟩ => rfl⟩

theorem idx3_eq {a b c : ℕ} (i : (⟨3, ![a, b, c]⟩ : Shape).Idx) : ∃ (p : Fin a) (q : Fin b) (r : Fin c), i = ix3 p q r :=
  ⟨i 0, i 1, i 2, by funext d; match d with | ⟨0, _⟩ => rfl | ⟨1, _⟩ => rfl | ⟨2, _⟩ => rfl⟩

end Cert.Proof.Pieces

end
-- ==== Proof.Input.lean ====
/- The gradients of the feed-forward layer's input and of its norm's gain as the kernel `ffn_dh` leaves them (at `Ideal`): for
   every block of 512 rows the two products with the transposed up projections, summed over the 5632 feed-forward columns in
   eight steps of one chunk in a scratch buffer. The last step turns the sum into the gradient of the normed rows, 256 rows at
   a time, and adds the rows' share of the gain's gradient to what the row blocks before have left. -/
module

public import proofs.«01_k».proof.Proof.Gen.Kernel5Ideal.Value
public import proofs.«01_k».proof.Proof.Chunks
public import proofs.«01_k».proof.Proof.Pieces

@[expose] public section

set_option maxRecDepth 16384

noncomputable section

namespace Cert.Proof.Input

open Cert.Kernel5Ideal Cert.Kernel5Ideal.Gen Idealize.ShloMosaic Idealize.ShloMosaic.TcCoe Idealize.SL.Sem
open Cert.Proof.Chunks (col chain8 each sum_each)
open Cert.Proof.Pieces

variable (m : (ℓ : Loc nD τ sig) → Buf (Elt Ideal) ℓ) (ρ : Dev nD → PrngReg)

/-- Row `r` of half `b` of the 512 rows of row block `q`. -/
def half (q : ℕ) (b : Fin 2) (r : Fin 256) : Fin 8192 := ⟨q % 16 * 512 + b.val * 256 + r.val, by omega⟩

/-- Sixteen row blocks of two halves run over all rows. -/
theorem sum_halves (f : Fin 8192 → EReal) :
    ∑ q ∈ Finset.range 16, (∑ r : Fin 256, f (half q 0 r) + ∑ r : Fin 256, f (half q 1 r)) = ∑ p : Fin 8192, f p := by
  rw [← Equiv.sum_comp (finProdFinEquiv (m := 32) (n := 256)), Fintype.sum_prod_type,
    ← Equiv.sum_comp (finProdFinEquiv (m := 16) (n := 2)), Fintype.sum_prod_type, Finset.sum_range]
  refine Finset.sum_congr rfl fun q _ => ?_
  rw [Fin.sum_univ_two]
  have hq := q.isLt
  refine congrArg₂ (fun a b : EReal => a + b) (Finset.sum_congr rfl fun r _ => congrArg f (Fin.ext ?_))
    (Finset.sum_congr rfl fun r _ => congrArg f (Fin.ext ?_))
  · show q.val % 16 * 512 + 0 * 256 + r.val = r.val + 256 * (0 + 2 * q.val); omega
  · show q.val % 16 * 512 + 1 * 256 + r.val = r.val + 256 * (1 + 2 * q.val); omega

theorem hz2 : (![0, 0] : Fin 2 → Nat) = fun _ => 0 := funext fun a => by fin_cases a <;> rfl
theorem hz3 : (![0, 0, 0] : Fin 3 → Nat) = fun _ => 0 := funext fun a => by fin_cases a <;> rfl

/-- A row's factor in the norm: one over the root of its mean square. -/
def scale (x : Fin 2048 → EReal) : EReal :=
  Ideal.rsqrt (Ideal.div (∑ j : Fin 2048, x j * x j) (Ideal.ofBits .f32 0x45000000#32) + Ideal.ofBits .f32 0x358637BD#32)

/-- One element of the input's gradient: the gradient `d` that has reached the input by the residual, and what the norm's
    derivative makes of the gradient `a` of the scaled row, for the row `x` and the gain `g`. -/
def back (a x g : Fin 2048 → EReal) (d : EReal) (k : Fin 2048) : EReal :=
  d + (scale x * (a k * g k) - x k * (scale x * scale x * scale x)
    * Ideal.div (∑ j : Fin 2048, a j * g j * x j) (Ideal.ofBits .f32 0x45000000#32))

/-- One row's share of the gain's gradient. -/
def share (a x : Fin 2048 → EReal) (k : Fin 2048) : EReal := a k * x k * scale x

theorem share_congr {a a' x x' : Fin 2048 → EReal} (ha : ∀ j, a j = a' j) (hx : ∀ j, x j = x' j) (k : Fin 2048) :
    share a x k = share a' x' k := by rw [funext ha, funext hx]

theorem back_congr {a a' x x' : Fin 2048 → EReal} {d d' : EReal} (ha : ∀ j, a j = a' j) (hx : ∀ j, x j = x' j) (hd : d = d')
    (g : Fin 2048 → EReal) (k : Fin 2048) : back a x g d k = back a' x' g d' k := by rw [funext ha, funext hx, hd]

/-- The gradient of the normed rows: both up projections' gradients, each times its transposed matrix. -/
def wide (wg wu : Vec Ideal S2048x5632 .f32) (dg du : Vec Ideal S8192x5632 .f32) (p : Fin 8192) (k : Fin 2048) : EReal :=
  ∑ f : Fin 5632, (dg (ix2 p f) * wg (ix2 k f) + du (ix2 p f) * wu (ix2 k f))

/-- The gradient of the input. -/
def input (x : Vec Ideal S8192x2048 .f32) (g : Vec Ideal S2048 .f32) (wg wu : Vec Ideal S2048x5632 .f32)
    (dg du : Vec Ideal S8192x5632 .f32) (d : Vec Ideal S8192x2048 .f32) : Vec Ideal S8192x2048 .f32 := fun i =>
  back (wide wg wu dg du (i 0)) (fun j => x (ix2 (i 0) j)) (fun j => g (ix1 j)) (d (ix2 (i 0) (i 1))) (i 1)

/-- The gradient of the gain. -/
def gain (x : Vec Ideal S8192x2048 .f32) (wg wu : Vec Ideal S2048x5632 .f32)
    (dg du : Vec Ideal S8192x5632 .f32) : Vec Ideal S1x2048 .f32 := fun i =>
  (∑ p : Fin 8192, share (wide wg wu dg du p) (fun j => x (ix2 p j)) (i 1) : EReal)

/-! ## What the host lines hand to the call -/

theorem entry_dg (c : Dev nD) (i : Fin 8) (j : Fin 8192) (k : Fin 704) : (V m c main_v2 : Vec Ideal S8x8192x704 .bf16) (ix3 i j k)
    = (m ((c : Thread nD τ).loc main_arg4) : Vec Ideal S8192x5632 .f32) (ix2 j (col i k)) := by
  have h : @Eq (Vec Ideal S8x8192x704 .bf16) (V m c main_v2) (truncf (F := Ideal) .bf16 (transpose S8x8192x704 [1, 0, 2] (shapeCast S8192x8x704 (m ((c : Thread nD τ).loc main_arg4) : FVec Ideal S8192x5632 .f32) shapeCasts_S8192x5632_S8192x8x704) transposes_S8192x8x704_S8x8192x704_1_0_2) bitsLt_bf16_f32) := by
    unfold_abbrev_sides; after_results; rfl
  rw [h]
  pointwise
  rfl

theorem entry_du (c : Dev nD) (i : Fin 8) (j : Fin 8192) (k : Fin 704) : (V m c main_v5 : Vec Ideal S8x8192x704 .bf16) (ix3 i j k)
    = (m ((c : Thread nD τ).loc main_arg5) : Vec Ideal S8192x5632 .f32) (ix2 j (col i k)) := by
  have h : @Eq (Vec Ideal S8x8192x704 .bf16) (V m c main_v5) (truncf (F := Ideal) .bf16 (transpose S8x8192x704 [1, 0, 2] (shapeCast S8192x8x704 (m ((c : Thread nD τ).loc main_arg5) : FVec Ideal S8192x5632 .f32) shapeCasts_S8192x5632_S8192x8x704) transposes_S8192x8x704_S8x8192x704_1_0_2) bitsLt_bf16_f32) := by
    unfold_abbrev_sides; after_results; rfl
  rw [h]
  pointwise
  rfl

theorem entry_wg (c : Dev nD) (i : Fin 8) (j : Fin 2048) (k : Fin 704) : (V m c main_v8 : Vec Ideal S8x2048x704 .bf16) (ix3 i j k)
    = (m ((c : Thread nD τ).loc main_arg2) : Vec Ideal S2048x5632 .f32) (ix2 j (col i k)) := by
  have h : @Eq (Vec Ideal S8x2048x704 .bf16) (V m c main_v8) (truncf (F := Ideal) .bf16 (transpose S8x2048x704 [1, 0, 2] (shapeCast S2048x8x704 (m ((c : Thread nD τ).loc main_arg2) : FVec Ideal S2048x5632 .f32) shapeCasts_S2048x5632_S2048x8x704) transposes_S2048x8x704_S8x2048x704_1_0_2) bitsLt_bf16_f32) := by
    unfold_abbrev_sides; after_results; rfl
  rw [h]
  pointwise
  rfl

theorem entry_wu (c : Dev nD) (i : Fin 8) (j : Fin 2048) (k : Fin 704) : (V m c main_v11 : Vec Ideal S8x2048x704 .bf16) (ix3 i j k)
    = (m ((c : Thread nD τ).loc main_arg3) : Vec Ideal S2048x5632 .f32) (ix2 j (col i k)) := by
  have h : @Eq (Vec Ideal S8x2048x704 .bf16) (V m c main_v11) (truncf (F := Ideal) .bf16 (transpose S8x2048x704 [1, 0, 2] (shapeCast S2048x8x704 (m ((c : Thread nD τ).loc main_arg3) : FVec Ideal S2048x5632 .f32) shapeCasts_S2048x5632_S2048x8x704) transposes_S2048x8x704_S8x2048x704_1_0_2) bitsLt_bf16_f32) := by
    unfold_abbrev_sides; after_results; rfl
  rw [h]
  pointwise
  rfl

theorem entry_gain (c : Dev nD) (z : Fin 1) (k : Fin 2048) : (V m c main_v12 : Vec Ideal S1x2048 .f32) (ix2 z k)
    = (m ((c : Thread nD τ).loc main_arg1) : Vec Ideal S2048 .f32) (ix1 k) := by
  have h : @Eq (Vec Ideal S1x2048 .f32) (V m c main_v12) (shapeCast S1x2048 (m ((c : Thread nD τ).loc main_arg1) : FVec Ideal S2048 .f32) shapeCasts_S2048_S1x2048) := by
    unfold_abbrev_sides; rfl
  rw [h]
  pointwise

/-! ## Where a block's element lies in its array -/

theorem idx0 : ∀ t : Fin cfg0.N, win0_0.index t (0 : Fin 3) = t.val % 8 ∧ win0_0.index t (1 : Fin 3) = t.val / 8
    ∧ win0_0.index t (2 : Fin 3) = 0 := (by decide +kernel : ∀ t : Fin grid0.N, _)
theorem idx2 : ∀ t : Fin cfg0.N, win0_2.index t (0 : Fin 3) = t.val % 8 ∧ win0_2.index t (1 : Fin 3) = t.val / 8
    ∧ win0_2.index t (2 : Fin 3) = 0 := (by decide +kernel : ∀ t : Fin grid0.N, _)
theorem idx1 : ∀ t : Fin cfg0.N, win0_1.index t (0 : Fin 3) = t.val % 8 ∧ win0_1.index t (1 : Fin 3) = 0
    ∧ win0_1.index t (2 : Fin 3) = 0 := (by decide +kernel : ∀ t : Fin grid0.N, _)
theorem idx3 : ∀ t : Fin cfg0.N, win0_3.index t (0 : Fin 3) = t.val % 8 ∧ win0_3.index t (1 : Fin 3) = 0
    ∧ win0_3.index t (2 : Fin 3) = 0 := (by decide +kernel : ∀ t : Fin grid0.N, _)
theorem idx4 : ∀ t : Fin cfg0.N, win0_4.index t (0 : Fin 2) = t.val / 8 ∧ win0_4.index t (1 : Fin 2) = 0 :=
  (by decide +kernel : ∀ t : Fin grid0.N, _)
theorem idx6 : ∀ t : Fin cfg0.N, win0_6.index t (0 : Fin 2) = t.val / 8 ∧ win0_6.index t (1 : Fin 2) = 0 :=
  (by decide +kernel : ∀ t : Fin grid0.N, _)
theorem idx7 : ∀ t : Fin cfg0.N, win0_7.index t (0 : Fin 2) = t.val / 8 ∧ win0_7.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)

/-- Row `r` of the 512 rows that step `n` works on. -/
def row (n : ℕ) (r : Fin 512) : Fin 8192 := ⟨n / 8 % 16 * 512 + r.val, by omega⟩

theorem emb0 (t : Fin cfg0.N) (z : Fin 1) (r : Fin 512) (s : Fin 704) :
    ((cfg0.win 0).blk t).view.emb (ix3 z r s : S1x512x704.Idx) = (ix3 (each t.val) (row t.val r) s : S8x8192x704.Idx) := by
  obtain ⟨e0, e1, e2⟩ := idx0 t
  have ht : t.val < 128 := t.isLt
  funext a; apply Fin.ext
  match a with
  | ⟨0, _⟩ => show win0_0.index t (0 : Fin 3) * 1 + 1 * z.val = t.val % 8; omega
  | ⟨1, _⟩ => show win0_0.index t (1 : Fin 3) * 512 + 1 * r.val = t.val / 8 % 16 * 512 + r.val; omega
  | ⟨2, _⟩ => show win0_0.index t (2 : Fin 3) * 704 + 1 * s.val = s.val; omega

theorem emb2 (t : Fin cfg0.N) (z : Fin 1) (r : Fin 512) (s : Fin 704) :
    ((cfg0.win 2).blk t).view.emb (ix3 z r s : S1x512x704.Idx) = (ix3 (each t.val) (row t.val r) s : S8x8192x704.Idx) := by
  obtain ⟨e0, e1, e2⟩ := idx2 t
  have ht : t.val < 128 := t.isLt
  funext a; apply Fin.ext
  match a with
  | ⟨0, _⟩ => show win0_2.index t (0 : Fin 3) * 1 + 1 * z.val = t.val % 8; omega
  | ⟨1, _⟩ => show win0_2.index t (1 : Fin 3) * 512 + 1 * r.val = t.val / 8 % 16 * 512 + r.val; omega
  | ⟨2, _⟩ => show win0_2.index t (2 : Fin 3) * 704 + 1 * s.val = s.val; omega

theorem emb1 (t : Fin cfg0.N) (z : Fin 1) (k : Fin 2048) (s : Fin 704) :
    ((cfg0.win 1).blk t).view.emb (ix3 z k s : S1x2048x704.Idx) = (ix3 (each t.val) k s : S8x2048x704.Idx) := by
  obtain ⟨e0, e1, e2⟩ := idx1 t
  funext a; apply Fin.ext
  match a with
  | ⟨0, _⟩ => show win0_1.index t (0 : Fin 3) * 1 + 1 * z.val = t.val % 8; omega
  | ⟨1, _⟩ => show win0_1.index t (1 : Fin 3) * 2048 + 1 * k.val = k.val; omega
  | ⟨2, _⟩ => show win0_1.index t (2 : Fin 3) * 704 + 1 * s.val = s.val; omega

theorem emb3 (t : Fin cfg0.N) (z : Fin 1) (k : Fin 2048) (s : Fin 704) :
    ((cfg0.win 3).blk t).view.emb (ix3 z k s : S1x2048x704.Idx) = (ix3 (each t.val) k s : S8x2048x704.Idx) := by
  obtain ⟨e0, e1, e2⟩ := idx3 t
  funext a; apply Fin.ext
  match a with
  | ⟨0, _⟩ => show win0_3.index t (0 : Fin 3) * 1 + 1 * z.val = t.val % 8; omega
  | ⟨1, _⟩ => show win0_3.index t (1 : Fin 3) * 2048 + 1 * k.val = k.val; omega
  | ⟨2, _⟩ => show win0_3.index t (2 : Fin 3) * 704 + 1 * s.val = s.val; omega

theorem emb4 (t : Fin cfg0.N) (r : Fin 512) (k : Fin 2048) :
    ((cfg0.win 4).blk t).view.emb (ix2 r k : S512x2048.Idx) = (ix2 (row t.val r) k : S8192x2048.Idx) := by
  obtain ⟨e0, e1⟩ := idx4 t
  have ht : t.val < 128 := t.isLt
  funext a; apply Fin.ext
  match a with
  | ⟨0, _⟩ => show win0_4.index t (0 : Fin 2) * 512 + 1 * r.val = t.val / 8 % 16 * 512 + r.val; omega
  | ⟨1, _⟩ => show win0_4.index t (1 : Fin 2) * 2048 + 1 * k.val = k.val; omega

theorem emb6 (t : Fin cfg0.N) (r : Fin 512) (k : Fin 2048) :
    ((cfg0.win 6).blk t).view.emb (ix2 r k : S512x2048.Idx) = (ix2 (row t.val r) k : S8192x2048.Idx) := by
  obtain ⟨e0, e1⟩ := idx6 t
  have ht : t.val < 128 := t.isLt
  funext a; apply Fin.ext
  match a with
  | ⟨0, _⟩ => show win0_6.index t (0 : Fin 2) * 512 + 1 * r.val = t.val / 8 % 16 * 512 + r.val; omega
  | ⟨1, _⟩ => show win0_6.index t (1 : Fin 2) * 2048 + 1 * k.val = k.val; omega

theorem emb7 (t : Fin cfg0.N) (r : Fin 512) (k : Fin 2048) :
    ((cfg0.win 7).blk t).view.emb (ix2 r k : S512x2048.Idx) = (ix2 (row t.val r) k : S8192x2048.Idx) := by
  obtain ⟨e0, e1⟩ := idx7 t
  have ht : t.val < 128 := t.isLt
  funext a; apply Fin.ext
  match a with
  | ⟨0, _⟩ => show win0_7.index t (0 : Fin 2) * 512 + 1 * r.val = t.val / 8 % 16 * 512 + r.val; omega
  | ⟨1, _⟩ => show win0_7.index t (1 : Fin 2) * 2048 + 1 * k.val = k.val; omega

theorem emb5 (t : Fin cfg0.N) (z : Fin 1) (k : Fin 2048) :
    ((cfg0.win 5).blk t).view.emb (ix2 z k : S1x2048.Idx) = (ix2 z k : S1x2048.Idx) := by
  obtain ⟨e0, e1⟩ := idx5 t
  funext a; apply Fin.ext
  match a with
  | ⟨0, _⟩ => show win0_5.index t (0 : Fin 2) * 1 + 1 * z.val = z.val; omega
  | ⟨1, _⟩ => show win0_5.index t (1 : Fin 2) * 2048 + 1 * k.val = k.val; omega

theorem emb8 (t : Fin cfg0.N) (z : Fin 1) (k : Fin 2048) :
    ((cfg0.win 8).blk t).view.emb (ix2 z k : S1x2048.Idx) = (ix2 z k : S1x2048.Idx) := by
  obtain ⟨e0, e1⟩ := idx8 t
  funext a; apply Fin.ext
  match a with
  | ⟨0, _⟩ => show win0_8.index t (0 : Fin 2) * 1 + 1 * z.val = z.val; omega
  | ⟨1, _⟩ => show win0_8.index t (1 : Fin 2) * 2048 + 1 * k.val = k.val; omega

theorem iblk0 (c : Dev nD) (t : Fin cfg0.N) (z : Fin 1) (r : Fin 512) (s : Fin 704) :
    (iblk m c 0 t : Vec Ideal S1x512x704 .bf16) (ix3 z r s)
    = (m ((c : Thread nD τ).loc main_arg4) : Vec Ideal S8192x5632 .f32) (ix2 (row t.val r) (col (each t.val) s)) := by
  show (V m c main_v2 : Vec Ideal S8x8192x704 .bf16) (((cfg0.win 0).blk t).view.emb (ix3 z r s : S1x512x704.Idx)) = _
  rw [emb0, entry_dg]

theorem iblk2 (c : Dev nD) (t : Fin cfg0.N) (z : Fin 1) (r : Fin 512) (s : Fin 704) :
    (iblk m c 2 t : Vec Ideal S1x512x704 .bf16) (ix3 z r s)
    = (m ((c : Thread nD τ).loc main_arg5) : Vec Ideal S8192x5632 .f32) (ix2 (row t.val r) (col (each t.val) s)) := by
  show (V m c main_v5 : Vec Ideal S8x8192x704 .bf16) (((cfg0.win 2).blk t).view.emb (ix3 z r s : S1x512x704.Idx)) = _
  rw [emb2, entry_du]

theorem iblk1 (c : Dev nD) (t : Fin cfg0.N) (z : Fin 1) (k : Fin 2048) (s : Fin 704) :
    (iblk m c 1 t : Vec Ideal S1x2048x704 .bf16) (ix3 z k s)
    = (m ((c : Thread nD τ).loc main_arg2) : Vec Ideal S2048x5632 .f32) (ix2 k (col (each t.val) s)) := by
  show (V m c main_v8 : Vec Ideal S8x2048x704 .bf16) (((cfg0.win 1).blk t).view.emb (ix3 z k s : S1x2048x704.Idx)) = _
  rw [emb1, entry_wg]

theorem iblk3 (c : Dev nD) (t : Fin cfg0.N) (z : Fin 1) (k : Fin 2048) (s : Fin 704) :
    (iblk m c 3 t : Vec Ideal S1x2048x704 .bf16) (ix3 z k s)
    = (m ((c : Thread nD τ).loc main_arg3) : Vec Ideal S2048x5632 .f32) (ix2 k (col (each t.val) s)) := by
  show (V m c main_v11 : Vec Ideal S8x2048x704 .bf16) (((cfg0.win 3).blk t).view.emb (ix3 z k s : S1x2048x704.Idx)) = _
  rw [emb3, entry_wu]

theorem iblk4 (c : Dev nD) (t : Fin cfg0.N) (r : Fin 512) (k : Fin 2048) : (iblk m c 4 t : Vec Ideal S512x2048 .f32) (ix2 r k)
    = (m ((c : Thread nD τ).loc main_arg0) : Vec Ideal S8192x2048 .f32) (ix2 (row t.val r) k) := by
  have e : (V m c main_arg0 : Vec Ideal S8192x2048 .f32) = m ((c : Thread nD τ).loc main_arg0) := by
    unfold_abbrev_sides; rfl
  show (V m c main_arg0 : Vec Ideal S8192x2048 .f32) (((cfg0.win 4).blk t).view.emb (ix2 r k : S512x2048.Idx)) = _
  rw [emb4, e]

theorem iblk6 (c : Dev nD) (t : Fin cfg0.N) (r : Fin 512) (k : Fin 2048) : (iblk m c 6 t : Vec Ideal S512x2048 .f32) (ix2 r k)
    = (m ((c : Thread nD τ).loc main_arg6) : Vec Ideal S8192x2048 .f32) (ix2 (row t.val r) k) := by
  have e : (V m c main_arg6 : Vec Ideal S8192x2048 .f32) = m ((c : Thread nD τ).loc main_arg6) := by
    unfold_abbrev_sides; rfl
  show (V m c main_arg6 : Vec Ideal S8192x2048 .f32) (((cfg0.win 6).blk t).view.emb (ix2 r k : S512x2048.Idx)) = _
  rw [emb6, e]

theorem iblk5 (c : Dev nD) (t : Fin cfg0.N) (z : Fin 1) (k : Fin 2048) : (iblk m c 5 t : Vec Ideal S1x2048 .f32) (ix2 z k)
    = (m ((c : Thread nD τ).loc main_arg1) : Vec Ideal S2048 .f32) (ix1 k) := by
  show (V m c main_v12 : Vec Ideal S1x2048 .f32) (((cfg0.win 5).blk t).view.emb (ix2 z k : S1x2048.Idx)) = _
  rw [emb5, entry_gain]

/-! ## The body's stores -/

/-- The product of a block of rows with a transposed block of a matrix, at one index. -/
def prod (x0 : Vec Ideal S1x512x704 .bf16) (x1 : Vec Ideal S1x2048x704 .bf16) (r : Fin 512) (k : Fin 2048) : EReal :=
  ∑ s : Fin 704, x0 (ix3 0 r s) * x1 (ix3 0 k s)

/-- The first step stores the sum of its two products. -/
theorem pay2 (x0 : Vec Ideal S1x512x704 .bf16) (x1 : Vec Ideal S1x2048x704 .bf16) (x2 : Vec Ideal S1x512x704 .bf16)
    (x3 : Vec Ideal S1x2048x704 .bf16) (r : Fin 512) (k : Fin 2048) :
    k0_pay2 (F := Ideal) x0 x1 x2 x3 (ix2 r k) = prod x0 x1 r k + prod x2 x3 r k := by
  unfold prod
  unfold_payloads
  pointwise

/-- A later step adds them to what the scratch holds. -/
theorem pay3 (x0 : Vec Ideal S1x512x704 .bf16) (x1 : Vec Ideal S1x2048x704 .bf16) (x2 : Vec Ideal S1x512x704 .bf16)
    (x3 : Vec Ideal S1x2048x704 .bf16) (xs : Vec Ideal S512x2048 .f32) (r : Fin 512) (k : Fin 2048) :
    k0_pay3 (F := Ideal) x0 x1 x2 x3 xs (ix2 r k) = (xs (ix2 r k) + (prod x0 x1 r k + prod x2 x3 r k) : EReal) := by
  unfold prod
  unfold_payloads
  pointwise

/-- The last step's first 256 rows of the input's gradient. -/
theorem pay6 (x : Vec Ideal S256x2048 .f32) (g : Vec Ideal S1x2048 .f32) (a d : Vec Ideal S256x2048 .f32) (r : Fin 256) (k : Fin 2048) :
    k0_pay6 (F := Ideal) x g a d (ix2 r k)
    = back (fun j => a (ix2 r j)) (fun j => x (ix2 r j)) (fun j => g (ix2 0 j)) (d (ix2 r k)) k := by
  unfold back scale
  unfold_payloads
  pointwise

/-- Its second 256 rows. -/
theorem pay9 (x : Vec Ideal S256x2048 .f32) (g : Vec Ideal S1x2048 .f32) (a d : Vec Ideal S256x2048 .f32) (r : Fin 256) (k : Fin 2048) :
    k0_pay9 (F := Ideal) x g a d (ix2 r k)
    = back (fun j => a (ix2 r j)) (fun j => x (ix2 r j)) (fun j => g (ix2 0 j)) (d (ix2 r k)) k := by
  unfold back scale
  unfold_payloads
  pointwise

/-- The first 256 rows' share of the gain's gradient. -/
theorem pay7 (x a : Vec Ideal S256x2048 .f32) (z : Fin 1) (k : Fin 2048) :
    k0_pay7 (F := Ideal) x a (ix2 z k) = (∑ r : Fin 256, share (fun j => a (ix2 r j)) (fun j => x (ix2 r j)) k : EReal) := by
  unfold share scale
  unfold_payloads
  pointwise

/-- The second 256 rows' share is added to it. -/
theorem pay10 (v : FVec Ideal S1x2048 .f32) (x a : Vec Ideal S256x2048 .f32) (z : Fin 1) (k : Fin 2048) :
    k0_pay10 (F := Ideal) v x a (ix2 z k)
    = (v (ix2 z k) + ∑ r : Fin 256, share (fun j => a (ix2 r j)) (fun j => x (ix2 r j)) k : EReal) := by
  unfold share scale
  unfold_payloads
  pointwise

/-- A later row block adds its share to what the blocks before have left. -/
theorem pay4 (v w : Vec Ideal S1x2048 .f32) (z : Fin 1) (k : Fin 2048) :
    k0_pay4 (F := Ideal) v w (ix2 z k) = (w (ix2 z k) + v (ix2 z k) : EReal) := by
  unfold_payloads
  pointwise

/-- Row `r` of the piece that starts at row `o`. -/
def sub (o : ℕ) (h : o ≤ 256) (r : Fin 256) : Fin 512 := ⟨o + r.val, by omega⟩

/-- A piece's rows, read out of the block. -/
theorem ld_sub (X : Vec Ideal S512x2048 .f32) (o : ℕ) (h : o ≤ 256)
    (inb : ∀ a, (![o, 0] : Fin 2 → ℕ) a + S256x2048.size a ≤ S512x2048.size a) (r : Fin 256) (k : Fin 2048) :
    (View.ld (Val := Elt Ideal) (e' := .f32) X (Rect.unit (s := S512x2048) ![o, 0] S256x2048.size inb) : Vec Ideal S256x2048 .f32) (ix2 r k)
    = X (ix2 (sub o h r) k) := by
  refine View.ld_unit_apply_of (Val := Elt Ideal) X _ _ inb (ix2 r k : S256x2048.Idx) (ix2 (sub o h r) k) fun a => ?_
  match a with
  | ⟨0, _⟩ => rfl
  | ⟨1, _⟩ => exact (Nat.zero_add _).symm

/-- Where a piece's element lies in the block. -/
theorem piece_emb (o : ℕ) (h : o ≤ 256) (inb : ∀ a, (![o, 0] : Fin 2 → ℕ) a + S256x2048.size a ≤ S512x2048.size a)
    (r : Fin 256) (k : Fin 2048) :
    (Rect.unit (s := S512x2048) ![o, 0] S256x2048.size inb).emb (ix2 r k : S256x2048.Idx) = (ix2 (sub o h r) k : S512x2048.Idx) := by
  funext a; apply Fin.ext
  match a with
  | ⟨0, _⟩ => show o + 1 * r.val = o + r.val; omega
  | ⟨1, _⟩ => show 0 + 1 * k.val = k.val; omega

/-- A block of the input's gradient from the rows' gradient `a`, the input, the gain and the residual's gradient. -/
def blockX (a x : Vec Ideal S512x2048 .f32) (g : Vec Ideal S1x2048 .f32) (d : Vec Ideal S512x2048 .f32) : Vec Ideal S512x2048 .f32 :=
  fun y => back (fun j => a (ix2 (y 0) j)) (fun j => x (ix2 (y 0) j)) (fun j => g (ix2 0 j)) (d (ix2 (y 0) (y 1))) (y 1)

/-- A block's share of the gain's gradient. -/
def blockG (a x : Vec Ideal S512x2048 .f32) (k : Fin 2048) : EReal :=
  ∑ r : Fin 256, share (fun j => a (ix2 (sub 0 (by omega) r) j)) (fun j => x (ix2 (sub 0 (by omega) r) j)) k
  + ∑ r : Fin 256, share (fun j => a (ix2 (sub 256 (by omega) r) j)) (fun j => x (ix2 (sub 256 (by omega) r) j)) k

/-- Both pieces of the gain's share, one after the other. -/
theorem pay_gain (a x : Vec Ideal S512x2048 .f32) (inb0 : ∀ a, (![0, 0] : Fin 2 → ℕ) a + S256x2048.size a ≤ S512x2048.size a)
    (inb1 : ∀ a, (![256, 0] : Fin 2 → ℕ) a + S256x2048.size a ≤ S512x2048.size a) (z : Fin 1) (k : Fin 2048) :
    k0_pay10 (F := Ideal) (k0_pay7 (View.ld (Val := Elt Ideal) (e' := .f32) x (Rect.unit (s := S512x2048) ![0, 0] S256x2048.size inb0))
      (View.ld (Val := Elt Ideal) (e' := .f32) a (Rect.unit (s := S512x2048) ![0, 0] S256x2048.size inb0)))
      (View.ld (Val := Elt Ideal) (e' := .f32) x (Rect.unit (s := S512x2048) ![256, 0] S256x2048.size inb1))
      (View.ld (Val := Elt Ideal) (e' := .f32) a (Rect.unit (s := S512x2048) ![256, 0] S256x2048.size inb1)) (ix2 z k) = blockG a x k := by
  rw [pay10, pay7]
  refine congrArg₂ (fun a b : EReal => a + b) (Finset.sum_congr rfl fun r _ => ?_) (Finset.sum_congr rfl fun r _ => ?_)
  · exact share_congr (fun j => ld_sub a 0 (by omega) inb0 r j) (fun j => ld_sub x 0 (by omega) inb0 r j) k
  · exact share_congr (fun j => ld_sub a 256 (by omega) inb1 r j) (fun j => ld_sub x 256 (by omega) inb1 r j) k

section Terms
variable (c : Dev nD) (i : grid0.Coords)
  (a0 : Memref sig .tc .vmem S1x512x704 .bf16) (ha0 : a0.IsWhole)
  (a1 : Memref sig .tc .vmem S1x2048x704 .bf16) (ha1 : a1.IsWhole)
  (a2 : Memref sig .tc .vmem S1x512x704 .bf16) (ha2 : a2.IsWhole)
  (a3 : Memref sig .tc .vmem S1x2048x704 .bf16) (ha3 : a3.IsWhole)
  (a4 : Memref sig .tc .vmem S512x2048 .f32) (ha4 : a4.IsWhole)
  (a5 : Memref sig .tc .vmem S1x2048 .f32) (ha5 : a5.IsWhole)
  (a6 : Memref sig .tc .vmem S512x2048 .f32) (ha6 : a6.IsWhole)
  (a7 : Memref sig .tc .vmem S512x2048 .f32) (ha7 : a7.IsWhole)
  (a8 : Memref sig .tc .vmem S1x2048 .f32) (ha8 : a8.IsWhole)
  (sc : Memref sig .tc .vmem S512x2048 .f32) (hsc : sc.IsWhole)
  (x0 : Vec Ideal S1x512x704 .bf16) (x1 : Vec Ideal S1x2048x704 .bf16) (x2 : Vec Ideal S1x512x704 .bf16)
  (x3 : Vec Ideal S1x2048x704 .bf16) (x4 : Vec Ideal S512x2048 .f32) (x5 : Vec Ideal S1x2048 .f32) (x6 : Vec Ideal S512x2048 .f32)
  (xo : Vec Ideal S1x2048 .f32) (xs : Vec Ideal S512x2048 .f32)

/-- The first step of a row block leaves its products in the scratch. -/
theorem first (hc0 : cond0_0 i) (hc1 : ¬cond0_1 i) (hc2 : ¬cond0_2 i) :
    sout0_A_0 (F := Ideal) c i a0 ha0 a1 ha1 a2 ha2 a3 ha3 a4 ha4 a5 ha5 a6 ha6 a7 ha7 a8 ha8 sc hsc hc0 hc1 hc2 x0 x1 x2 x3 x4 x5 x6 = k0_pay2 x0 x1 x2 x3 := by
  unfold sout0_A_0
  rw [View.read_writes_eq_canon _ _ _ (scover0_A_0 c i a0 ha0 a1 ha1 a2 ha2 a3 ha3 a4 ha4 a5 ha5 a6 ha6 a7 ha7 a8 ha8 sc hsc hc0 hc1 hc2 x0 x1 x2 x3 x4 x5 x6)]
  unfold kernelRun0_A
  dsimp only
  rw [View.canon_unit_zero hz2]
  simp only [View.readAt_eq_ld, ha0.read_unread, ha1.read_unread, ha2.read_unread, ha3.read_unread, ha4.read_unread, ha5.read_unread,
    ha6.read_unread, ha8.read_unread, hsc.read_unread,
    View.ld_unit_zero (S := S1x512x704) hz3, View.ld_unit_zero (S := S1x2048x704) hz3, View.ld_unit_zero (S := S512x2048) hz2,
    View.ld_unit_zero (S := S1x2048) hz2]

/-- A middle step leaves the scratch with its products added. -/
theorem middle (hc0 : ¬cond0_0 i) (hc1 : cond0_1 i) (hc2 : ¬cond0_2 i) :
    sout0_B_0 (F := Ideal) c i a0 ha0 a1 ha1 a2 ha2 a3 ha3 a4 ha4 a5 ha5 a6 ha6 a7 ha7 a8 ha8 sc hsc hc0 hc1 hc2 x0 x1 x2 x3 x4 x5 x6 xs = k0_pay3 x0 x1 x2 x3 xs := by
  unfold sout0_B_0
  rw [View.read_writes_eq_canon _ _ _ (scover0_B_0 c i a0 ha0 a1 ha1 a2 ha2 a3 ha3 a4 ha4 a5 ha5 a6 ha6 a7 ha7 a8 ha8 sc hsc hc0 hc1 hc2 x0 x1 x2 x3 x4 x5 x6 xs)]
  unfold kernelRun0_B
  dsimp only
  rw [View.canon_unit_zero hz2]
  simp only [View.readAt_eq_ld, ha0.read_unread, ha1.read_unread, ha2.read_unread, ha3.read_unread, ha4.read_unread, ha5.read_unread,
    ha6.read_unread, ha8.read_unread, hsc.read_unread,
    View.ld_unit_zero (S := S1x512x704) hz3, View.ld_unit_zero (S := S1x2048x704) hz3, View.ld_unit_zero (S := S512x2048) hz2,
    View.ld_unit_zero (S := S1x2048) hz2]

/-- So does the last step of the first row block. -/
theorem last_acc0 (hc0 : ¬cond0_0 i) (hc1 : cond0_1 i) (hc2 : cond0_2 i) (hc3 : cond0_3 i) (hc4 : ¬cond0_4 i) :
    sout0_C_0 (F := Ideal) c i a0 ha0 a1 ha1 a2 ha2 a3 ha3 a4 ha4 a5 ha5 a6 ha6 a7 ha7 a8 ha8 sc hsc hc0 hc1 hc2 hc3 hc4 x0 x1 x2 x3 x4 x5 x6 xs = k0_pay3 x0 x1 x2 x3 xs := by
  unfold sout0_C_0
  rw [View.read_writes_eq_canon _ _ _ (scover0_C_0 c i a0 ha0 a1 ha1 a2 ha2 a3 ha3 a4 ha4 a5 ha5 a6 ha6 a7 ha7 a8 ha8 sc hsc hc0 hc1 hc2 hc3 hc4 x0 x1 x2 x3 x4 x5 x6 xs)]
  unfold kernelRun0_C
  dsimp only
  sl_unfold_words
  rw [View.canon_unit_zero hz2]
  simp only [View.readAt_eq_ld, ha0.read_unread, ha1.read_unread, ha2.read_unread, ha3.read_unread, ha4.read_unread, ha5.read_unread,
    ha6.read_unread, ha8.read_unread, hsc.read_unread,
    View.ld_unit_zero (S := S1x512x704) hz3, View.ld_unit_zero (S := S1x2048x704) hz3, View.ld_unit_zero (S := S512x2048) hz2,
    View.ld_unit_zero (S := S1x2048) hz2]

/-- So does the last step of a later row block. -/
theorem last_acc (hc0 : ¬cond0_0 i) (hc1 : cond0_1 i) (hc2 : cond0_2 i) (hc3 : ¬cond0_3 i) (hc4 : cond0_4 i) :
    sout0_D_0 (F := Ideal) c i a0 ha0 a1 ha1 a2 ha2 a3 ha3 a4 ha4 a5 ha5 a6 ha6 a7 ha7 a8 ha8 sc hsc hc0 hc1 hc2 hc3 hc4 x0 x1 x2 x3 x4 x5 x6 xo xs = k0_pay3 x0 x1 x2 x3 xs := by
  unfold sout0_D_0
  rw [View.read_writes_eq_canon _ _ _ (scover0_D_0 c i a0 ha0 a1 ha1 a2 ha2 a3 ha3 a4 ha4 a5 ha5 a6 ha6 a7 ha7 a8 ha8 sc hsc hc0 hc1 hc2 hc3 hc4 x0 x1 x2 x3 x4 x5 x6 xo xs)]
  unfold kernelRun0_D
  dsimp only
  sl_unfold_words
  rw [View.canon_unit_zero hz2]
  simp only [View.readAt_eq_ld, ha0.read_unread, ha1.read_unread, ha2.read_unread, ha3.read_unread, ha4.read_unread, ha5.read_unread,
    ha6.read_unread, ha8.read_unread, hsc.read_unread,
    View.ld_unit_zero (S := S1x512x704) hz3, View.ld_unit_zero (S := S1x2048x704) hz3, View.ld_unit_zero (S := S512x2048) hz2,
    View.ld_unit_zero (S := S1x2048) hz2]

/-- The last step of the first row block writes its block of the input's gradient, in two pieces of 256 rows. -/
theorem last_dx0 (hc0 : ¬cond0_0 i) (hc1 : cond0_1 i) (hc2 : cond0_2 i) (hc3 : cond0_3 i) (hc4 : ¬cond0_4 i) :
    out0_C_7 (F := Ideal) c i a0 ha0 a1 ha1 a2 ha2 a3 ha3 a4 ha4 a5 ha5 a6 ha6 a7 ha7 a8 ha8 sc hsc hc0 hc1 hc2 hc3 hc4 x0 x1 x2 x3 x4 x5 x6 xs = blockX (k0_pay3 x0 x1 x2 x3 xs) x4 x5 x6 := by
  funext y
  unfold out0_C_7
  rw [View.read_writes_eq_canon _ _ _ (cover0_C_7 c i a0 ha0 a1 ha1 a2 ha2 a3 ha3 a4 ha4 a5 ha5 a6 ha6 a7 ha7 a8 ha8 sc hsc hc0 hc1 hc2 hc3 hc4 x0 x1 x2 x3 x4 x5 x6 xs)]
  refine canon_pieces (Val := Elt Ideal) (blockX (k0_pay3 x0 x1 x2 x3 xs) x4 x5 x6) _ ?_ y (cover0_C_7 c i a0 ha0 a1 ha1 a2 ha2 a3 ha3 a4 ha4 a5 ha5 a6 ha6 a7 ha7 a8 ha8 sc hsc hc0 hc1 hc2 hc3 hc4 x0 x1 x2 x3 x4 x5 x6 xs y)
  unfold kernelRun0_C
  dsimp only
  sl_unfold_words
  simp (disch := decide) only [View.readCov_fill]
  simp only [View.readAt_eq_ld, ha0.read_unread, ha1.read_unread, ha2.read_unread, ha3.read_unread, ha4.read_unread, ha5.read_unread,
    ha6.read_unread, ha8.read_unread, hsc.read_unread,
    View.ld_unit_zero (S := S1x512x704) hz3, View.ld_unit_zero (S := S1x2048x704) hz3, View.ld_unit_zero (S := S512x2048) hz2,
    View.ld_unit_zero (S := S1x2048) hz2]
  generalize k0_pay3 x0 x1 x2 x3 xs = acc
  refine ⟨fun x => ?_, fun x => ?_, trivial⟩
  · obtain ⟨r, k, rfl⟩ := idx2_eq (a := 256) (b := 2048) x
    dsimp only
    rw [piece_emb 256 (by omega)]
    refine (pay9 _ _ _ _ r k).trans ?_
    exact back_congr (fun j => ld_sub acc 256 (by omega) _ r j) (fun j => ld_sub x4 256 (by omega) _ r j)
      (ld_sub x6 256 (by omega) _ r k) _ k
  · obtain ⟨r, k, rfl⟩ := idx2_eq (a := 256) (b := 2048) x
    dsimp only
    rw [piece_emb 0 (by omega)]
    refine (pay6 _ _ _ _ r k).trans ?_
    exact back_congr (fun j => ld_sub acc 0 (by omega) _ r j) (fun j => ld_sub x4 0 (by omega) _ r j)
      (ld_sub x6 0 (by omega) _ r k) _ k

/-- The last step of a later row block writes its block of the input's gradient, in two pieces of 256 rows. -/
theorem last_dx (hc0 : ¬cond0_0 i) (hc1 : cond0_1 i) (hc2 : cond0_2 i) (hc3 : ¬cond0_3 i) (hc4 : cond0_4 i) :
    out0_D_7 (F := Ideal) c i a0 ha0 a1 ha1 a2 ha2 a3 ha3 a4 ha4 a5 ha5 a6 ha6 a7 ha7 a8 ha8 sc hsc hc0 hc1 hc2 hc3 hc4 x0 x1 x2 x3 x4 x5 x6 xo xs = blockX (k0_pay3 x0 x1 x2 x3 xs) x4 x5 x6 := by
  funext y
  unfold out0_D_7
  rw [View.read_writes_eq_canon _ _ _ (cover0_D_7 c i a0 ha0 a1 ha1 a2 ha2 a3 ha3 a4 ha4 a5 ha5 a6 ha6 a7 ha7 a8 ha8 sc hsc hc0 hc1 hc2 hc3 hc4 x0 x1 x2 x3 x4 x5 x6 xo xs)]
  refine canon_pieces (Val := Elt Ideal) (blockX (k0_pay3 x0 x1 x2 x3 xs) x4 x5 x6) _ ?_ y (cover0_D_7 c i a0 ha0 a1 ha1 a2 ha2 a3 ha3 a4 ha4 a5 ha5 a6 ha6 a7 ha7 a8 ha8 sc hsc hc0 hc1 hc2 hc3 hc4 x0 x1 x2 x3 x4 x5 x6 xo xs y)
  unfold kernelRun0_D
  dsimp only
  sl_unfold_words
  simp (disch := decide) only [View.readCov_fill]
  simp only [View.readAt_eq_ld, ha0.read_unread, ha1.read_unread, ha2.read_unread, ha3.read_unread, ha4.read_unread, ha5.read_unread,
    ha6.read_unread, ha8.read_unread, hsc.read_unread,
    View.ld_unit_zero (S := S1x512x704) hz3, View.ld_unit_zero (S := S1x2048x704) hz3, View.ld_unit_zero (S := S512x2048) hz2,
    View.ld_unit_zero (S := S1x2048) hz2]
  generalize k0_pay3 x0 x1 x2 x3 xs = acc
  refine ⟨fun x => ?_, fun x => ?_, trivial⟩
  · obtain ⟨r, k, rfl⟩ := idx2_eq (a := 256) (b := 2048) x
    dsimp only
    rw [piece_emb 256 (by omega)]
    refine (pay9 _ _ _ _ r k).trans ?_
    exact back_congr (fun j => ld_sub acc 256 (by omega) _ r j) (fun j => ld_sub x4 256 (by omega) _ r j)
      (ld_sub x6 256 (by omega) _ r k) _ k
  · obtain ⟨r, k, rfl⟩ := idx2_eq (a := 256) (b := 2048) x
    dsimp only
    rw [piece_emb 0 (by omega)]
    refine (pay6 _ _ _ _ r k).trans ?_
    exact back_congr (fun j => ld_sub acc 0 (by omega) _ r j) (fun j => ld_sub x4 0 (by omega) _ r j)
      (ld_sub x6 0 (by omega) _ r k) _ k

/-- The last step of the first row block stores its share of the gain's gradient. -/
theorem last_gain0 (hc0 : ¬cond0_0 i) (hc1 : cond0_1 i) (hc2 : cond0_2 i) (hc3 : cond0_3 i) (hc4 : ¬cond0_4 i) (z : Fin 1) (k : Fin 2048) :
    (out0_C_8 (F := Ideal) c i a0 ha0 a1 ha1 a2 ha2 a3 ha3 a4 ha4 a5 ha5 a6 ha6 a7 ha7 a8 ha8 sc hsc hc0 hc1 hc2 hc3 hc4 x0 x1 x2 x3 x4 x5 x6 xs : Vec Ideal S1x2048 .f32) (ix2 z k)
    = blockG (k0_pay3 x0 x1 x2 x3 xs) x4 k := by
  unfold out0_C_8
  rw [View.read_writes_eq_canon _ _ _ (cover0_C_8 c i a0 ha0 a1 ha1 a2 ha2 a3 ha3 a4 ha4 a5 ha5 a6 ha6 a7 ha7 a8 ha8 sc hsc hc0 hc1 hc2 hc3 hc4 x0 x1 x2 x3 x4 x5 x6 xs)]
  unfold kernelRun0_C
  dsimp only
  sl_unfold_words
  rw [View.canon_unit_zero hz2]
  simp (disch := decide) only [View.readCov_fill]
  simp only [View.readAt_eq_ld, ha0.read_unread, ha1.read_unread, ha2.read_unread, ha3.read_unread, ha4.read_unread, ha5.read_unread,
    ha6.read_unread, ha8.read_unread, hsc.read_unread,
    View.ld_unit_zero (S := S1x512x704) hz3, View.ld_unit_zero (S := S1x2048x704) hz3, View.ld_unit_zero (S := S512x2048) hz2,
    View.ld_unit_zero (S := S1x2048) hz2]
  generalize k0_pay3 x0 x1 x2 x3 xs = acc
  rw [pay_gain]

/-- The last step of a later row block adds its share to what is there. -/
theorem last_gain (hc0 : ¬cond0_0 i) (hc1 : cond0_1 i) (hc2 : cond0_2 i) (hc3 : ¬cond0_3 i) (hc4 : cond0_4 i) (z : Fin 1) (k : Fin 2048) :
    (out0_D_8 (F := Ideal) c i a0 ha0 a1 ha1 a2 ha2 a3 ha3 a4 ha4 a5 ha5 a6 ha6 a7 ha7 a8 ha8 sc hsc hc0 hc1 hc2 hc3 hc4 x0 x1 x2 x3 x4 x5 x6 xo xs : Vec Ideal S1x2048 .f32) (ix2 z k)
    = (xo (ix2 z k) + blockG (k0_pay3 x0 x1 x2 x3 xs) x4 k : EReal) := by
  unfold out0_D_8
  rw [View.read_writes_eq_canon _ _ _ (cover0_D_8 c i a0 ha0 a1 ha1 a2 ha2 a3 ha3 a4 ha4 a5 ha5 a6 ha6 a7 ha7 a8 ha8 sc hsc hc0 hc1 hc2 hc3 hc4 x0 x1 x2 x3 x4 x5 x6 xo xs)]
  unfold kernelRun0_D
  dsimp only
  sl_unfold_words
  rw [View.canon_unit_zero hz2]
  simp (disch := decide) only [View.readCov_fill]
  simp only [View.readAt_eq_ld, ha0.read_unread, ha1.read_unread, ha2.read_unread, ha3.read_unread, ha4.read_unread, ha5.read_unread,
    ha6.read_unread, ha8.read_unread, hsc.read_unread,
    View.ld_unit_zero (S := S1x512x704) hz3, View.ld_unit_zero (S := S1x2048x704) hz3, View.ld_unit_zero (S := S512x2048) hz2,
    View.ld_unit_zero (S := S1x2048) hz2]
  generalize k0_pay3 x0 x1 x2 x3 xs = acc
  rw [pay4, pay_gain]

end Terms
/-! ## What the scratch holds after each point -/

/-- One feed-forward column's two products, at row `p` and model column `k`. -/
def wideTerm (wg wu : Vec Ideal S2048x5632 .f32) (dg du : Vec Ideal S8192x5632 .f32) (p : Fin 8192) (k : Fin 2048) (f : Fin 5632) : EReal :=
  dg (ix2 p f) * wg (ix2 k f) + du (ix2 p f) * wu (ix2 k f)

/-- The same of the launched arguments. -/
def term (c : Dev nD) (p : Fin 8192) (k : Fin 2048) (f : Fin 5632) : EReal :=
  wideTerm (m ((c : Thread nD τ).loc main_arg2)) (m ((c : Thread nD τ).loc main_arg3)) (m ((c : Thread nD τ).loc main_arg4))
    (m ((c : Thread nD τ).loc main_arg5)) p k f

/-- The products that step `n` takes. -/
def part (c : Dev nD) (r : Fin 512) (k : Fin 2048) (n : ℕ) : EReal :=
  ∑ s : Fin 704, term m c (row n r) k (col (each n) s)

theorem part_eq (c : Dev nD) (t : Fin cfg0.N) (r : Fin 512) (k : Fin 2048) :
    prod (iblk m c 0 t) (iblk m c 1 t) r k + prod (iblk m c 2 t) (iblk m c 3 t) r k = part m c r k t.val := by
  unfold prod part term wideTerm
  rw [← Finset.sum_add_distrib]
  refine Finset.sum_congr rfl fun s _ => ?_
  rw [iblk0, iblk1, iblk2, iblk3]

/-- After point `n` the scratch holds the sum of its row block's products up to `n`. -/
theorem scratch (c : Dev nD) (r : Fin 512) (k : Fin 2048) (n : ℕ) (hn : n < cfg0.N) :
    ((outsAt0 m c n hn).2.2 (ix2 r k) : EReal) = ∑ j ∈ Finset.range (n % 8 + 1), part m c r k (8 * (n / 8) + j) := by
  refine chain8 (fun n hn => ((outsAt0 m c n hn).2.2 (ix2 r k) : EReal)) (part m c r k) ?_ ?_ n hn
  · intro n h hn
    have e := outsAt0_A m c ⟨n, h⟩ hn (by show ¬1 ≤ n % 8; omega) (by show ¬n % 8 = 7; omega)
    show ((outsAt0 m c n h).2.2 (ix2 r k) : EReal) = _
    rw [show outsAt0 m c n h = _ from e]
    dsimp only
    rw [first, pay2]
    exact part_eq m c ⟨n, h⟩ r k
  · intro n h hn
    show ((outsAt0 m c n h).2.2 (ix2 r k) : EReal) = _
    by_cases h7 : n % 8 = 7
    · by_cases h8 : n < 8
      · have e := outsAt0_C m c ⟨n, h⟩ hn (by show 1 ≤ n % 8; omega) h7 h8 (by show ¬8 ≤ n; omega)
        rw [show outsAt0 m c n h = _ from e]
        dsimp only
        rw [last_acc0, pay3]
        exact congrArg _ (part_eq m c ⟨n, h⟩ r k)
      · have e := outsAt0_D m c ⟨n, h⟩ hn (by show 1 ≤ n % 8; omega) h7 h8 (by show 8 ≤ n; omega)
        rw [show outsAt0 m c n h = _ from e]
        dsimp only
        rw [last_acc, pay3]
        exact congrArg _ (part_eq m c ⟨n, h⟩ r k)
    · have e := outsAt0_B m c ⟨n, h⟩ hn (by show 1 ≤ n % 8; omega) h7
      rw [show outsAt0 m c n h = _ from e]
      dsimp only
      rw [middle, pay3]
      exact congrArg _ (part_eq m c ⟨n, h⟩ r k)

/-- The gradient of the normed rows as a function of the launched arguments. -/
def GW (c : Dev nD) (p : Fin 8192) (k : Fin 2048) : EReal :=
  wide (m ((c : Thread nD τ).loc main_arg2)) (m ((c : Thread nD τ).loc main_arg3)) (m ((c : Thread nD τ).loc main_arg4))
    (m ((c : Thread nD τ).loc main_arg5)) p k

/-- The gradient of the input as a function of the launched arguments. -/
def GX (c : Dev nD) : Vec Ideal S8192x2048 .f32 :=
  input (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The gradient of the gain as a function of the launched arguments. -/
def GG (c : Dev nD) : Vec Ideal S1x2048 .f32 :=
  gain (m ((c : Thread nD τ).loc main_arg0)) (m ((c : Thread nD τ).loc main_arg2)) (m ((c : Thread nD τ).loc main_arg3))
    (m ((c : Thread nD τ).loc main_arg4)) (m ((c : Thread nD τ).loc main_arg5))

/-- The eight steps of a row block are the sum over all feed-forward columns. -/
theorem total (c : Dev nD) (r : Fin 512) (k : Fin 2048) (n : ℕ) (h : n % 8 = 7) :
    (∑ j ∈ Finset.range (n % 8 + 1), part m c r k (8 * (n / 8) + j)) = GW m c (row n r) k := by
  rw [h]
  refine (Finset.sum_congr rfl fun j hj => ?_).trans (sum_each (term m c (row n r) k) (n / 8))
  have hj' : j < 8 := Finset.mem_range.mp hj
  have e : row (8 * (n / 8) + j) r = row n r := Fin.ext (by show (8 * (n / 8) + j) / 8 % 16 * 512 + r.val = n / 8 % 16 * 512 + r.val; omega)
  unfold part
  rw [e]

/-- What the last step of a row block leaves in the scratch is its rows of the gradient of the normed rows. -/
theorem acc_eq (c : Dev nD) (t : Fin cfg0.N) (h7 : t.val % 8 = 7) (r : Fin 512) (k : Fin 2048) :
    (k0_pay3 (F := Ideal) (iblk m c 0 t) (iblk m c 1 t) (iblk m c 2 t) (iblk m c 3 t)
      (outsAt0 m c (t.val - 1) (Nat.lt_of_le_of_lt (Nat.sub_le _ _) t.isLt)).2.2 (ix2 r k) : EReal)
    = GW m c (row t.val r) k := by
  have e := scratch m c r k t.val t.isLt
  rw [total m c r k t.val h7] at e
  by_cases h8 : t.val < 8
  · rw [outsAt0_C m c t (by omega) (by omega) h7 h8 (by omega)] at e
    dsimp only at e
    rw [last_acc0] at e
    exact e
  · rw [outsAt0_D m c t (by omega) (by omega) h7 h8 (by omega)] at e
    dsimp only at e
    rw [last_acc] at e
    exact e

/-! ## The gain's gradient over the row blocks -/

/-- A row's share of the gain's gradient. -/
def rowShare (c : Dev nD) (k : Fin 2048) (p : Fin 8192) : EReal :=
  share (GW m c p) (fun j => (m ((c : Thread nD τ).loc main_arg0) : Vec Ideal S8192x2048 .f32) (ix2 p j)) k

/-- A row block's share. -/
def blockShare (c : Dev nD) (k : Fin 2048) (q : ℕ) : EReal :=
  ∑ r : Fin 256, rowShare m c k (half q 0 r) + ∑ r : Fin 256, rowShare m c k (half q 1 r)

/-- What the last step of a row block makes of the scratch is the block's share. -/
theorem block_eq (c : Dev nD) (t : Fin cfg0.N) (h7 : t.val % 8 = 7) (k : Fin 2048) :
    blockG (k0_pay3 (F := Ideal) (iblk m c 0 t) (iblk m c 1 t) (iblk m c 2 t) (iblk m c 3 t)
      (outsAt0 m c (t.val - 1) (Nat.lt_of_le_of_lt (Nat.sub_le _ _) t.isLt)).2.2) (iblk m c 4 t) k
    = blockShare m c k (t.val / 8) := by
  unfold blockG blockShare rowShare
  simp only [acc_eq m c t h7, iblk4]
  refine congrArg₂ (fun a b : EReal => a + b) (Finset.sum_congr rfl fun r _ => ?_) (Finset.sum_congr rfl fun r _ => ?_)
  · have e : row t.val (sub 0 (by omega) r) = half (t.val / 8) 0 r := Fin.ext (by
      show t.val / 8 % 16 * 512 + (0 + r.val) = t.val / 8 % 16 * 512 + 0 * 256 + r.val; omega)
    rw [e]
  · have e : row t.val (sub 256 (by omega) r) = half (t.val / 8) 1 r := Fin.ext (by
      show t.val / 8 % 16 * 512 + (256 + r.val) = t.val / 8 % 16 * 512 + 1 * 256 + r.val; omega)
    rw [e]

/-- After a point the second output holds the shares of the row blocks that are done. -/
theorem gains (c : Dev nD) (z : Fin 1) (k : Fin 2048) : ∀ (n : ℕ) (hn : n < cfg0.N), 7 ≤ n →
    ((outsAt0 m c n hn).2.1 (ix2 z k) : EReal) = ∑ q ∈ Finset.range ((n + 1) / 8), blockShare m c k q := by
  intro n
  induction n with
  | zero => intro _ h; omega
  | succ n ih =>
    intro hn h
    have hp : n < cfg0.N := Nat.lt_of_succ_lt hn
    by_cases h7 : (n + 1) % 8 = 7
    · by_cases h8 : n + 1 < 8
      · have e := outsAt0_C m c ⟨n + 1, hn⟩ (by show ¬(n + 1) % 8 = 0; omega) (by show 1 ≤ (n + 1) % 8; omega) h7 h8
          (by show ¬8 ≤ n + 1; omega)
        rw [show outsAt0 m c (n + 1) hn = _ from e]
        dsimp only
        rw [last_gain0, block_eq m c ⟨n + 1, hn⟩ h7, show (n + 1 + 1) / 8 = 1 by omega, Finset.sum_range_one]
        exact congrArg _ (show (n + 1) / 8 = 0 by omega)
      · have e := outsAt0_D m c ⟨n + 1, hn⟩ (by show ¬(n + 1) % 8 = 0; omega) (by show 1 ≤ (n + 1) % 8; omega) h7 h8
          (by show 8 ≤ n + 1; omega)
        rw [show outsAt0 m c (n + 1) hn = _ from e]
        dsimp only
        rw [last_gain, block_eq m c ⟨n + 1, hn⟩ h7, show (n + 1 + 1) / 8 = (n + 1) / 8 + 1 by omega, Finset.sum_range_succ]
        exact congrArg (fun a : EReal => a + blockShare m c k ((n + 1) / 8)) (ih hp (by omega))
    · have hq : (n + 1 + 1) / 8 = (n + 1) / 8 := by omega
      rw [hq, ← ih hp (by omega)]
      by_cases h0 : (n + 1) % 8 = 0
      · have e := outsAt0_A m c ⟨n + 1, hn⟩ h0 (by show ¬1 ≤ (n + 1) % 8; omega) h7
        rw [show outsAt0 m c (n + 1) hn = _ from e]
        rfl
      · have e := outsAt0_B m c ⟨n + 1, hn⟩ h0 (by show 1 ≤ (n + 1) % 8; omega) h7
        rw [show outsAt0 m c (n + 1) hn = _ from e]
        rfl

/-- After the last point it holds the sum over all rows. -/
theorem gain_eq (c : Dev nD) (t : Fin cfg0.N) (ht : t.val = 127) (z : Fin 1) (k : Fin 2048) :
    ((outsAt0 m c t.val t.isLt).2.1 (ix2 z k) : EReal) = GG m c (ix2 z k : S1x2048.Idx) := by
  rw [gains m c z k t.val t.isLt (by omega), ht]
  exact sum_halves (rowShare m c k)

/-! ## The results -/

/-- What a row block's last step leaves of the first output is its block of `GX`. -/
theorem blockX_eq (c : Dev nD) (t : Fin cfg0.N) (h7 : t.val % 8 = 7) (r : Fin 512) (k : Fin 2048) :
    blockX (k0_pay3 (F := Ideal) (iblk m c 0 t) (iblk m c 1 t) (iblk m c 2 t) (iblk m c 3 t)
      (outsAt0 m c (t.val - 1) (Nat.lt_of_le_of_lt (Nat.sub_le _ _) t.isLt)).2.2) (iblk m c 4 t) (iblk m c 5 t) (iblk m c 6 t) (ix2 r k)
    = GX m c (ix2 (row t.val r) k : S8192x2048.Idx) := by
  unfold blockX
  show back (fun j => k0_pay3 (F := Ideal) _ _ _ _ _ (ix2 r j)) (fun j => (iblk m c 4 t : Vec Ideal S512x2048 .f32) (ix2 r j))
    (fun j => (iblk m c 5 t : Vec Ideal S1x2048 .f32) (ix2 0 j)) ((iblk m c 6 t : Vec Ideal S512x2048 .f32) (ix2 r k)) k = _
  simp only [acc_eq m c t h7, iblk4, iblk5, iblk6]
  rfl

theorem flushed7_eq (c : Dev nD) (t : Fin cfg0.N) (hf : (cfg0.win 7).flush t = true) :
    (dats m 0 c).flushed 7 t = ((cfg0.win 7).blk t).view.read (Elt Ideal) (GX m c) := by
  have h7 : t.val % 8 = 7 := (flush0_7 t).mp hf
  by_cases h8 : t.val < 8
  · rw [Value.flushed7_C m c t (by omega) (by omega) h7 h8 (by omega)]
    funext y
    obtain ⟨r, k, rfl⟩ := idx2_eq (a := 512) (b := 2048) y
    rw [last_dx0]
    show _ = GX m c (((cfg0.win 7).blk t).view.emb (ix2 r k : S512x2048.Idx))
    rw [emb7]
    exact blockX_eq m c t h7 r k
  · rw [Value.flushed7_D m c t (by omega) (by omega) h7 h8 (by omega)]
    funext y
    obtain ⟨r, k, rfl⟩ := idx2_eq (a := 512) (b := 2048) y
    rw [last_dx]
    show _ = GX m c (((cfg0.win 7).blk t).view.emb (ix2 r k : S512x2048.Idx))
    rw [emb7]
    exact blockX_eq m c t h7 r k

theorem flushed8_eq (c : Dev nD) (t : Fin cfg0.N) (hf : (cfg0.win 8).flush t = true) :
    (dats m 0 c).flushed 8 t = ((cfg0.win 8).blk t).view.read (Elt Ideal) (GG m c) := by
  have hm : t.val % 128 = 127 := (flush0_8 t).mp hf
  have hl : t.val < 128 := t.isLt
  have ht : t.val = 127 := by omega
  rw [Value.flushed8_D m c t (by omega) (by omega) (by omega) (by omega) (by omega)]
  funext y
  obtain ⟨z, k, rfl⟩ := idx2_eq (a := 1) (b := 2048) y
  show _ = GG m c (((cfg0.win 8).blk t).view.emb (ix2 z k : S1x2048.Idx))
  rw [emb8, ← gain_eq m c t ht z k,
    outsAt0_D m c t (by omega) (by omega) (by omega) (by omega) (by omega)]
  dsimp only
  generalize out0_D_8 (F := Ideal) _ _ _ _ _ _ _ _ _ _ _ _ _ _ _ _ _ _ _ _ _ _ _ _ _ _ _ _ _ _ _ _ _ _ _ _ = v
  rfl

/-! Every index lies in a block that is written back. -/

theorem covered7 (i : S8192x2048.Idx) :
    ∃ t : Fin cfg0.N, (cfg0.win 7).flush t = true ∧ i ∈ ((cfg0.win 7).blk t).view.set := by
  have h0 : (i 0).val < 8192 := (i 0).isLt
  let t : Fin cfg0.N := ⟨(i 0).val / 512 * 8 + 7, by show _ < 128; omega⟩
  let r : Fin 512 := ⟨(i 0).val % 512, by omega⟩
  have e : i = (ix2 (row t.val r) (i 1) : S8192x2048.Idx) := by
    funext a; apply Fin.ext
    match a with
    | ⟨0, _⟩ => show (i 0).val = ((i 0).val / 512 * 8 + 7) / 8 % 16 * 512 + (i 0).val % 512; omega
    | ⟨1, _⟩ => rfl
  refine ⟨t, (flush0_7 t).mpr (by show ((i 0).val / 512 * 8 + 7) % 8 = 7; omega), ?_⟩
  rw [e, ← emb7 t r (i 1)]
  exact ((cfg0.win 7).blk t).view.emb_mem_set _

theorem covered8 (i : S1x2048.Idx) :
    ∃ t : Fin cfg0.N, (cfg0.win 8).flush t = true ∧ i ∈ ((cfg0.win 8).blk t).view.set := by
  let t : Fin cfg0.N := ⟨127, by show _ < 128; omega⟩
  obtain ⟨z, k, rfl⟩ := idx2_eq (a := 1) (b := 2048) i
  refine ⟨t, (flush0_8 t).mpr rfl, ?_⟩
  rw [← emb8 t z k]
  exact ((cfg0.win 8).blk t).view.emb_mem_set _

/-- The run with the two results at their functions of the arguments. -/
theorem run : θ_run defs (onTc (τ := τ) (main (F := Ideal))) ⟨m, fun _ => 0, ρ⟩ fun r => ∀ c : Dev nD,
      r.2.mem ((c : Thread nD τ).loc main_v13_0) = GX m c
      ∧ r.2.mem ((c : Thread nD τ).loc main_v13_1) = GG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨(h c).1.trans ((dats m 0 c).arrAt_eq_of_cover 7 (GX m c) (fun t hf => flushed7_eq m c t hf) covered7),
      (h c).2.1.trans ((dats m 0 c).arrAt_eq_of_cover 8 (GG m c) (fun t hf => flushed8_eq m c t hf) covered8), (h c).2.2⟩)
    (Value.run_blocks m ρ)

end Cert.Proof.Input

end
-- ==== Proof.InputRef.lean ====
/- The gradients of the feed-forward layer's input and of its norm's gain: the reference's two results index by index, and
   their equality with the kernel's. -/
module

public import proofs.«01_k».proof.Proof.Input
public import proofs.«01_k».proof.Proof.Gen.Reference5Ideal.Run
public import proofs.«01_k».proof.Proof.Gen.Reference5Ideal.Read
public import proofs.«01_k».proof.Defs

@[expose] public section

set_option maxRecDepth 16384

noncomputable section

namespace Cert.Proof.Input

open Idealize.ShloMosaic Idealize.ShloMosaic.TcCoe Idealize.SL.Sem
open Cert.Reference5Ideal Cert.Reference5Ideal.Gen Cert.Reference5Ideal.Value
open Cert.Proof.Pieces

/-! ## The norm's derivative in two spellings -/

/-- A row's mean square with the norm's small number added. -/
def power (x : Fin 2048 → EReal) : EReal :=
  Ideal.div (∑ j : Fin 2048, x j * x j) (Ideal.ofBits .f32 0x45000000#32) + Ideal.ofBits .f32 0x358637BD#32

/-- What the mean square's gradient sends back to a row, per element and for one of the square's two factors. -/
def pull (a x g : Fin 2048 → EReal) : EReal :=
  Ideal.div ((∑ j : Fin 2048, x j * (a j * g j)) * (Ideal.ofBits .f32 0xBF000000#32 * Ideal.div (scale x) (power x)))
    (Ideal.ofBits .f32 0x45000000#32)

theorem width : Ideal.ofBits .f32 0x45000000#32 = ((2048 : ℝ) : EReal) := by
  simp [Ideal.ofBits, Ideal.ieee]
  norm_num
  rw [← EReal.coe_mul]
  norm_num

theorem minus_half : Ideal.ofBits .f32 0xBF000000#32 = ((-(1 / 2) : ℝ) : EReal) := by
  simp [Ideal.ofBits, Ideal.ieee]
  norm_num
  rw [← EReal.coe_mul]
  norm_num

theorem small : ∃ e : ℝ, 0 < e ∧ Ideal.ofBits .f32 0x358637BD#32 = (e : EReal) := by
  have h : Ideal.ofBits .f32 0x358637BD#32 = ((8796093 / 8796093022208 : ℝ) : EReal) := by
    simp [Ideal.ofBits, Ideal.ieee]
    norm_num
    rw [← EReal.coe_mul]
    norm_num
  exact ⟨_, by norm_num, h⟩

/-- A row's mean square with the small number added is positive, and it may be infinite. -/
theorem power_pos (x : Fin 2048 → EReal) : power x = ⊤ ∨ ∃ t : ℝ, 0 < t ∧ power x = (t : EReal) := by
  obtain ⟨e, he, h⟩ := small
  have hs : (0 : EReal) ≤ ∑ j : Fin 2048, x j * x j := Finset.sum_nonneg fun j _ => by
    rcases le_total 0 (x j) with hx | hx
    · exact mul_nonneg hx hx
    · have hn : 0 ≤ -x j := by simpa using EReal.neg_le_neg_iff.mpr hx
      simpa using mul_nonneg hn hn
  have hd : (0 : EReal) ≤ Ideal.div (∑ j : Fin 2048, x j * x j) (Ideal.ofBits .f32 0x45000000#32) := by
    rw [width, Ideal.div_coe (by norm_num)]
    exact mul_nonneg hs (by exact_mod_cast (by norm_num : (0 : ℝ) ≤ 1 / 2048))
  have hp : (e : EReal) ≤ power x := by
    unfold power
    rw [h]
    calc (e : EReal) = 0 + e := (zero_add _).symm
      _ ≤ _ := add_le_add_left hd _
  generalize power x = v at hp ⊢
  induction v with
  | bot => exact absurd hp (by simp)
  | top => exact Or.inl rfl
  | coe t => exact Or.inr ⟨t, lt_of_lt_of_le he (EReal.coe_le_coe_iff.mp hp), rfl⟩

/-- Twice the same multiple by a negative number is the multiple by twice the number. -/
theorem twice (y : EReal) (q : ℝ) (hq : q < 0) : y * (q : EReal) + y * (q : EReal) = y * ((q + q : ℝ) : EReal) := by
  have hqq : q + q < 0 := by linarith
  induction y with
  | bot => rw [EReal.bot_mul_coe_of_neg hq, EReal.bot_mul_coe_of_neg hqq]; rfl
  | top => rw [EReal.top_mul_coe_of_neg hq, EReal.top_mul_coe_of_neg hqq]; rfl
  | coe y => norm_cast; ring

/-- The derivative of the norm as it comes from the derivatives of its operations is the one that the kernel takes. -/
theorem back_eq (a x g : Fin 2048 → EReal) (d : EReal) (k : Fin 2048) :
    d + a k * g k * scale x + x k * pull a x g + pull a x g * x k = back a x g d k := by
  have hS : (∑ j : Fin 2048, x j * (a j * g j)) = ∑ j : Fin 2048, a j * g j * x j :=
    Finset.sum_congr rfl fun j _ => mul_comm _ _
  have hsc : scale x = Ideal.rsqrt (power x) := rfl
  unfold back pull
  rw [hS, hsc, width, minus_half, Ideal.div_coe (by norm_num), Ideal.div_coe (by norm_num)]
  generalize (∑ j : Fin 2048, a j * g j * x j) = S
  generalize a k * g k = A
  generalize x k = X
  rcases power_pos x with h | ⟨t, ht, h⟩
  · rw [h]
    have ht : Ideal.rsqrt ⊤ = 0 := rfl
    rw [ht]
    simp [Ideal.div]
  · rw [h, Ideal.rsqrt_coe, if_neg (by linarith), if_neg (by linarith), Ideal.div_coe (by linarith)]
    have hr : (0 : ℝ) < (√t)⁻¹ := by positivity
    have h3 : (√t)⁻¹ * (1 / t) = (√t)⁻¹ * (√t)⁻¹ * (√t)⁻¹ := by
      have hq : √t * √t = t := Real.mul_self_sqrt ht.le
      rw [mul_assoc, ← mul_inv, hq, one_div]
    generalize (√t)⁻¹ = ρ at hr h3
    rw [← EReal.coe_mul, h3, ← EReal.coe_mul, ← EReal.coe_mul, ← EReal.coe_mul, mul_assoc S, ← EReal.coe_mul,
      mul_comm _ X, ← mul_assoc X, mul_mul_mul_comm X, ← EReal.coe_mul]
    generalize X * S = y
    have hc : 0 < ρ * ρ * ρ := by positivity
    rw [add_assoc, twice y _ (by nlinarith), mul_comm A, sub_eq_add_neg, ← add_assoc, ← mul_neg, ← EReal.coe_neg]
    congr 4
    ring

/-! ## The reference -/

variable (x0 : Vec Ideal S8192x2048 .f32) (x1 : Vec Ideal S2048 .f32) (x2 x3 : Vec Ideal S2048x5632 .f32)
  (x4 x5 : Vec Ideal S8192x5632 .f32) (x6 : Vec Ideal S8192x2048 .f32)

/-- The reference's gradient of the normed rows is the kernel's. -/
theorem ref_wide (p : Fin 8192) (k : Fin 2048) : Read.val_main_v20 (F := Ideal) x2 x3 x4 x5 (ix2 p k) = wide x2 x3 x4 x5 p k := by
  rw [Read.val_main_v20_apply, Read.val_main_v18_apply, Read.val_main_v19_apply]
  have e0 : ∀ f, Read.lidx_main_v18 (ix2 p k) f = ix2 p f := fun f => by
    funext a; match a with | ⟨0, _⟩ => rfl | ⟨1, _⟩ => rfl
  have e1 : ∀ f, Read.ridx_main_v18 (ix2 p k) f = ix2 k f := fun f => by
    funext a; match a with | ⟨0, _⟩ => rfl | ⟨1, _⟩ => rfl
  have e2 : ∀ f, Read.lidx_main_v19 (ix2 p k) f = ix2 p f := fun f => by
    funext a; match a with | ⟨0, _⟩ => rfl | ⟨1, _⟩ => rfl
  have e3 : ∀ f, Read.ridx_main_v19 (ix2 p k) f = ix2 k f := fun f => by
    funext a; match a with | ⟨0, _⟩ => rfl | ⟨1, _⟩ => rfl
  simp only [e0, e1, e2, e3]
  unfold wide
  rw [Finset.sum_add_distrib]
  exact add_comm _ _

/-- The reference's gradient of the input at one element, in its own spelling. -/
theorem ref_back (p : Fin 8192) (k : Fin 2048) : (Read.val_main_v41 (F := Ideal) x0 x1 x2 x3 x4 x5 x6 (ix2 p k) : EReal)
    = x6 (ix2 p k) + wide x2 x3 x4 x5 p k * x1 (ix1 k) * scale (fun j => x0 (ix2 p j))
      + x0 (ix2 p k) * pull (wide x2 x3 x4 x5 p) (fun j => x0 (ix2 p j)) (fun j => x1 (ix1 j))
      + pull (wide x2 x3 x4 x5 p) (fun j => x0 (ix2 p j)) (fun j => x1 (ix1 j)) * x0 (ix2 p k) := by
  have hw : ∀ j, wide x2 x3 x4 x5 p j = Read.val_main_v20 (F := Ideal) x2 x3 x4 x5 (ix2 p j) := fun j => (ref_wide x2 x3 x4 x5 p j).symm
  unfold pull scale power
  simp only [hw]
  unfold Read.val_main_v41 Read.val_main_v40 Read.val_main_v39 Read.val_main_v38 Read.val_main_v37 Read.val_main_v36 Read.val_main_v35
    Read.val_main_v34 Read.val_main_v33 Read.val_main_v32 Read.val_main_v31 Read.val_main_v30 Read.val_main_v29 Read.val_main_v28
    Read.val_main_v27 Read.val_main_v25 Read.val_main_v24 Read.val_main_v13 Read.val_main_v10 Read.val_main_v9 Read.val_main_v8
    Read.val_main_v7 Read.val_main_v6 Read.val_main_v5 Read.val_main_v4 Read.val_main_v3 Read.val_main_v2 Read.val_main_v1
    Read.val_main_v0 Read.val_main_cst Read.val_main_cst_0 Read.val_main_cst_1 Read.val_main_cst_2 Read.val_main_cst_5
    Read.val_main_cst_6 Read.val_main_cst_7
  generalize Read.val_main_v20 (F := Ideal) x2 x3 x4 x5 = w
  pointwise
  simp only [Finset.univ_unique, Finset.sum_singleton]

/-- The reference's gradient of the input is the kernel's. -/
theorem ref_input : Read.val_main_v41 (F := Ideal) x0 x1 x2 x3 x4 x5 x6 = input x0 x1 x2 x3 x4 x5 x6 := by
  funext i
  obtain ⟨p, k, rfl⟩ := idx2_eq (a := 8192) (b := 2048) i
  refine (ref_back x0 x1 x2 x3 x4 x5 x6 p k).trans ?_
  exact back_eq (wide x2 x3 x4 x5 p) (fun j => x0 (ix2 p j)) (fun j => x1 (ix1 j)) (x6 (ix2 p k)) k

/-- The reference's gradient of the gain is the kernel's. -/
theorem ref_gain : Read.val_main_v42 (F := Ideal) x0 x2 x3 x4 x5 = gain x0 x2 x3 x4 x5 := by
  funext i
  obtain ⟨z, k, rfl⟩ := idx2_eq (a := 1) (b := 2048) i
  show _ = (∑ p : Fin 8192, share (wide x2 x3 x4 x5 p) (fun j => x0 (ix2 p j)) k : EReal)
  unfold share scale
  simp only [← ref_wide]
  unfold Read.val_main_v42 Read.val_main_v26 Read.val_main_v23 Read.val_main_v22 Read.val_main_v21 Read.val_main_v12 Read.val_main_v11
    Read.val_main_v7 Read.val_main_v6 Read.val_main_v5 Read.val_main_v4 Read.val_main_v3 Read.val_main_v2 Read.val_main_v1
    Read.val_main_v0 Read.val_main_cst Read.val_main_cst_0 Read.val_main_cst_1 Read.val_main_cst_3 Read.val_main_cst_4
  generalize Read.val_main_v20 (F := Ideal) x2 x3 x4 x5 = w
  pointwise
  simp only [Finset.univ_unique, Finset.sum_singleton]
  exact Finset.sum_congr rfl fun p _ => (mul_comm _ _).trans (mul_assoc _ _ _).symm

/-- The gradients of the layer's input and gain by the kernel and by the reference: equal results on equal arguments, the
    arguments kept. -/
theorem algebraic : Cert.algebraic_Kernel5Ideal_Reference5Ideal := by
  intro m g m' g' _ hargs
  refine ⟨fun c => GX m c, fun c => GG m c, run m g, ?_⟩
  refine (θ_run _ _ _).mono (fun r h c => ?_) (Cert.Reference5Ideal.Value.run m' g')
  obtain ⟨e1, e2, ek⟩ := h c
  obtain ⟨a0, a1, a2, a3, a4, a5, a6⟩ := hargs c
  refine ⟨e1.trans ?_, e2.trans ?_, ek⟩
  · rw [Read.val_main_v41_eq, a0, a1, a2, a3, a4, a5, a6]
    exact ref_input _ _ _ _ _ _ _
  · rw [a0, a2, a3, a4, a5, Read.val_main_v42_eq]
    exact ref_gain _ _ _ _ _

end Cert.Proof.Input

end
-- ==== Proof.Front.lean ====
/- The forward half of the feed-forward layer as the kernel `ffn_up` leaves it, index by index (at `Ideal`): the gate, the
   up-projection and their gated product as functions of the argument arrays. Each grid point writes one block of 1024 rows
   and 704 columns of each result, in four pieces of 256 rows; an element is one product over the model's 2048 columns, or the
   gated product of two of them. -/
module

public import proofs.«01_k».proof.Proof.Gen.Kernel6Ideal.Value
public import proofs.«01_k».proof.Proof.Chunks
public import proofs.«01_k».proof.Proof.Pieces

@[expose] public section

set_option maxRecDepth 16384

noncomputable section

namespace Cert.Proof.Front

open Cert.Kernel6Ideal Cert.Kernel6Ideal.Gen Idealize.ShloMosaic Idealize.ShloMosaic.TcCoe Idealize.SL.Sem
open Cert.Proof.Chunks (col)
open Cert.Proof.Pieces

variable (m : (ℓ : Loc nD τ sig) → Buf (Elt Ideal) ℓ) (ρ : Dev nD → PrngReg)

/-- The normed input, in the host's operations. -/
def normed (x : Vec Ideal S8192x2048 .f32) (g : Vec Ideal S2048 .f32) : FVec Ideal S8192x2048 .f32 :=
  mulf (mulf x (broadcastInDim S8192x2048 ![0, 1] bcast_S8192x1_S8192x2048_0_1 (Host.rsqrt (addf
    (Host.divf (broadcastInDim S8192x1 ![0] bcast_S8192_S8192x1_0
      (Host.reduceAdd (mulf x x) (constant S_ .f32 0x00000000#32) reducesTo_S8192x2048_S8192_d1 h_S_))
      (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- The normed input times a weight, at row `r` and feed-forward column `f`. -/
def proj (x : Vec Ideal S8192x2048 .f32) (g : Vec Ideal S2048 .f32) (w : Vec Ideal S2048x5632 .f32) (r : Fin 8192) (f : Fin 5632) :
    EReal := ∑ k : Fin 2048, normed x g (ix2 r k) * w (ix2 k f)

/-- The gated product of two numbers. -/
def gated (a b : EReal) : EReal := a * Ideal.logistic a * b

/-- One projection, by chunk, row and column of the chunk. -/
def front (x : Vec Ideal S8192x2048 .f32) (g : Vec Ideal S2048 .f32) (w : Vec Ideal S2048x5632 .f32) : Vec Ideal S8x8192x704 .bf16 :=
  fun i => proj x g w (i 1) (col (i 0) (i 2))

/-- The gated product of the two projections, likewise. -/
def active (x : Vec Ideal S8192x2048 .f32) (g : Vec Ideal S2048 .f32) (wg wu : Vec Ideal S2048x5632 .f32) : Vec Ideal S8x8192x704 .bf16 :=
  fun i => gated (proj x g wg (i 1) (col (i 0) (i 2))) (proj x g wu (i 1) (col (i 0) (i 2)))

/-! ## What the host lines hand to the call -/

theorem entry_x (c : Dev nD) : (V m c main_v13 : Vec Ideal S8192x2048 .bf16)
    = fun i => normed (m ((c : Thread nD τ).loc main_arg0)) (m ((c : Thread nD τ).loc main_arg1)) i := by
  have h : @Eq (Vec Ideal S8192x2048 .bf16) (V m c main_v13) (truncf (F := Ideal) .bf16 (normed (m ((c : Thread nD τ).loc main_arg0)) (m ((c : Thread nD τ).loc main_arg1)) : FVec Ideal S8192x2048 .f32) bitsLt_bf16_f32) := by
    unfold normed; unfold_abbrev_sides; after_results
  rw [h]
  rfl

theorem entry_g (c : Dev nD) (i : Fin 8) (j : Fin 2048) (k : Fin 704) : (V m c main_v16 : Vec Ideal S8x2048x704 .bf16) (ix3 i j k)
    = (m ((c : Thread nD τ).loc main_arg2) : Vec Ideal S2048x5632 .f32) (ix2 j (col i k)) := by
  have h : @Eq (Vec Ideal S8x2048x704 .bf16) (V m c main_v16) (truncf (F := Ideal) .bf16 (transpose S8x2048x704 [1, 0, 2] (shapeCast S2048x8x704 (m ((c : Thread nD τ).loc main_arg2) : FVec Ideal S2048x5632 .f32) shapeCasts_S2048x5632_S2048x8x704) transposes_S2048x8x704_S8x2048x704_1_0_2) bitsLt_bf16_f32) := by
    unfold_abbrev_sides; after_results; rfl
  rw [h]
  pointwise
  rfl

theorem entry_u (c : Dev nD) (i : Fin 8) (j : Fin 2048) (k : Fin 704) : (V m c main_v19 : Vec Ideal S8x2048x704 .bf16) (ix3 i j k)
    = (m ((c : Thread nD τ).loc main_arg3) : Vec Ideal S2048x5632 .f32) (ix2 j (col i k)) := by
  have h : @Eq (Vec Ideal S8x2048x704 .bf16) (V m c main_v19) (truncf (F := Ideal) .bf16 (transpose S8x2048x704 [1, 0, 2] (shapeCast S2048x8x704 (m ((c : Thread nD τ).loc main_arg3) : FVec Ideal S2048x5632 .f32) shapeCasts_S2048x5632_S2048x8x704) transposes_S2048x8x704_S8x2048x704_1_0_2) bitsLt_bf16_f32) := by
    unfold_abbrev_sides; after_results; rfl
  rw [h]
  pointwise
  rfl

/-! ## Where a block's element lies in its array -/

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 3) = t.val / 8 ∧ win0_1.index t (1 : Fin 3) = 0
    ∧ win0_1.index t (2 : Fin 3) = 0 := (by decide +kernel : ∀ t : Fin grid0.N, _)
theorem idx2 : ∀ t : Fin cfg0.N, win0_2.index t (0 : Fin 3) = t.val / 8 ∧ win0_2.index t (1 : Fin 3) = 0
    ∧ win0_2.index t (2 : Fin 3) = 0 := (by decide +kernel : ∀ t : Fin grid0.N, _)
theorem idx3 : ∀ t : Fin cfg0.N, win0_3.index t (0 : Fin 3) = t.val / 8 ∧ win0_3.index t (1 : Fin 3) = t.val % 8
    ∧ win0_3.index t (2 : Fin 3) = 0 := (by decide +kernel : ∀ t : Fin grid0.N, _)
theorem idx4 : ∀ t : Fin cfg0.N, win0_4.index t (0 : Fin 3) = t.val / 8 ∧ win0_4.index t (1 : Fin 3) = t.val % 8
    ∧ win0_4.index t (2 : Fin 3) = 0 := (by decide +kernel : ∀ t : Fin grid0.N, _)
theorem idx5 : ∀ t : Fin cfg0.N, win0_5.index t (0 : Fin 3) = t.val / 8 ∧ win0_5.index t (1 : Fin 3) = t.val % 8
    ∧ win0_5.index t (2 : Fin 3) = 0 := (by decide +kernel : ∀ t : Fin grid0.N, _)

/-- The chunk of point `t`. -/
def chunk (t : Fin cfg0.N) : Fin 8 := ⟨t.val / 8, by have h : t.val < 64 := t.isLt; omega⟩
/-- Row `r` of point `t`'s block of rows. -/
def row (t : Fin cfg0.N) (r : Fin 1024) : Fin 8192 := ⟨t.val % 8 * 1024 + r.val, by omega⟩

theorem emb0 (t : Fin cfg0.N) (r : Fin 1024) (k : Fin 2048) :
    ((cfg0.win 0).blk t).view.emb (ix2 r k : S1024x2048.Idx) = (ix2 (row t r) k : S8192x2048.Idx) := by
  obtain ⟨e0, e1⟩ := idx0 t
  funext a; apply Fin.ext
  match a with
  | ⟨0, _⟩ => show win0_0.index t (0 : Fin 2) * 1024 + 1 * r.val = t.val % 8 * 1024 + r.val; omega
  | ⟨1, _⟩ => show win0_0.index t (1 : Fin 2) * 2048 + 1 * k.val = k.val; omega

theorem emb1 (t : Fin cfg0.N) (z : Fin 1) (k : Fin 2048) (s : Fin 704) :
    ((cfg0.win 1).blk t).view.emb (ix3 z k s : S1x2048x704.Idx) = (ix3 (chunk t) k s : S8x2048x704.Idx) := by
  obtain ⟨e0, e1, e2⟩ := idx1 t
  funext a; apply Fin.ext
  match a with
  | ⟨0, _⟩ => show win0_1.index t (0 : Fin 3) * 1 + 1 * z.val = t.val / 8; omega
  | ⟨1, _⟩ => show win0_1.index t (1 : Fin 3) * 2048 + 1 * k.val = k.val; omega
  | ⟨2, _⟩ => show win0_1.index t (2 : Fin 3) * 704 + 1 * s.val = s.val; omega

theorem emb2 (t : Fin cfg0.N) (z : Fin 1) (k : Fin 2048) (s : Fin 704) :
    ((cfg0.win 2).blk t).view.emb (ix3 z k s : S1x2048x704.Idx) = (ix3 (chunk t) k s : S8x2048x704.Idx) := by
  obtain ⟨e0, e1, e2⟩ := idx2 t
  funext a; apply Fin.ext
  match a with
  | ⟨0, _⟩ => show win0_2.index t (0 : Fin 3) * 1 + 1 * z.val = t.val / 8; omega
  | ⟨1, _⟩ => show win0_2.index t (1 : Fin 3) * 2048 + 1 * k.val = k.val; omega
  | ⟨2, _⟩ => show win0_2.index t (2 : Fin 3) * 704 + 1 * s.val = s.val; omega

theorem emb3 (t : Fin cfg0.N) (z : Fin 1) (r : Fin 1024) (s : Fin 704) :
    ((cfg0.win 3).blk t).view.emb (ix3 z r s : S1x1024x704.Idx) = (ix3 (chunk t) (row t r) s : S8x8192x704.Idx) := by
  obtain ⟨e0, e1, e2⟩ := idx3 t
  funext a; apply Fin.ext
  match a with
  | ⟨0, _⟩ => show win0_3.index t (0 : Fin 3) * 1 + 1 * z.val = t.val / 8; omega
  | ⟨1, _⟩ => show win0_3.index t (1 : Fin 3) * 1024 + 1 * r.val = t.val % 8 * 1024 + r.val; omega
  | ⟨2, _⟩ => show win0_3.index t (2 : Fin 3) * 704 + 1 * s.val = s.val; omega

theorem emb4 (t : Fin cfg0.N) (z : Fin 1) (r : Fin 1024) (s : Fin 704) :
    ((cfg0.win 4).blk t).view.emb (ix3 z r s : S1x1024x704.Idx) = (ix3 (chunk t) (row t r) s : S8x8192x704.Idx) := by
  obtain ⟨e0, e1, e2⟩ := idx4 t
  funext a; apply Fin.ext
  match a with
  | ⟨0, _⟩ => show win0_4.index t (0 : Fin 3) * 1 + 1 * z.val = t.val / 8; omega
  | ⟨1, _⟩ => show win0_4.index t (1 : Fin 3) * 1024 + 1 * r.val = t.val % 8 * 1024 + r.val; omega
  | ⟨2, _⟩ => show win0_4.index t (2 : Fin 3) * 704 + 1 * s.val = s.val; omega

theorem emb5 (t : Fin cfg0.N) (z : Fin 1) (r : Fin 1024) (s : Fin 704) :
    ((cfg0.win 5).blk t).view.emb (ix3 z r s : S1x1024x704.Idx) = (ix3 (chunk t) (row t r) s : S8x8192x704.Idx) := by
  obtain ⟨e0, e1, e2⟩ := idx5 t
  funext a; apply Fin.ext
  match a with
  | ⟨0, _⟩ => show win0_5.index t (0 : Fin 3) * 1 + 1 * z.val = t.val / 8; omega
  | ⟨1, _⟩ => show win0_5.index t (1 : Fin 3) * 1024 + 1 * r.val = t.val % 8 * 1024 + r.val; omega
  | ⟨2, _⟩ => show win0_5.index t (2 : Fin 3) * 704 + 1 * s.val = s.val; omega

/-! ## What each point writes back -/

theorem hz3 : (![0, 0, 0] : Fin 3 → Nat) = fun _ => 0 := funext fun a => by fin_cases a <;> rfl

/-- A row of 2048 numbers times a column of a weight's block. -/
def dot {n : ℕ} (x0 : (⟨2, ![n, 2048]⟩ : Shape).Idx → EReal) (w : Vec Ideal S1x2048x704 .bf16) (r : Fin n) (s : Fin 704) : EReal :=
  ∑ k : Fin 2048, x0 (ix2 r k) * w (ix3 0 k s)

/-- One piece of a projection's block. -/
theorem pay5 (v0 : Vec Ideal S256x2048 .bf16) (w : Vec Ideal S1x2048x704 .bf16) (z : Fin 1) (r : Fin 256) (s : Fin 704) :
    k0_pay5 (F := Ideal) v0 w (ix3 z r s) = dot v0 w r s := by
  unfold dot
  unfold_payloads
  pointwise

theorem pay6 (v0 : Vec Ideal S256x2048 .bf16) (w : Vec Ideal S1x2048x704 .bf16) (z : Fin 1) (r : Fin 256) (s : Fin 704) :
    k0_pay6 (F := Ideal) v0 w (ix3 z r s) = dot v0 w r s := by
  unfold dot
  unfold_payloads
  pointwise

/-- One piece of the gated product's block. -/
theorem pay7 (v0 : Vec Ideal S256x2048 .bf16) (w w' : Vec Ideal S1x2048x704 .bf16) (z : Fin 1) (r : Fin 256) (s : Fin 704) :
    k0_pay7 (F := Ideal) v0 w w' (ix3 z r s) = gated (dot v0 w r s) (dot v0 w' r s) := by
  unfold dot gated
  unfold_payloads
  pointwise

/-- Row `r` of the piece that starts at row `o`. -/
def sub (o : ℕ) (h : o ≤ 768) (r : Fin 256) : Fin 1024 := ⟨o + r.val, by omega⟩

/-- A piece's rows, read out of the block. -/
theorem dot_ld (x0 : Vec Ideal S1024x2048 .bf16) (w : Vec Ideal S1x2048x704 .bf16) (o : ℕ) (h : o ≤ 768)
    (inb : ∀ a, (![o, 0] : Fin 2 → ℕ) a + S256x2048.size a ≤ S1024x2048.size a) (r : Fin 256) (s : Fin 704) :
    dot (View.ld (Val := Elt Ideal) (e' := .bf16) x0 (Rect.unit (s := S1024x2048) ![o, 0] S256x2048.size inb)) w r s = dot x0 w (sub o h r) s := by
  unfold dot
  refine Finset.sum_congr rfl fun k _ => ?_
  refine congrArg (fun y : EReal => y * w (ix3 0 k s)) ?_
  refine View.ld_unit_apply_of (Val := Elt Ideal) x0 _ _ inb (ix2 r k : S256x2048.Idx) (ix2 (sub o h r) k) fun a => ?_
  match a with
  | ⟨0, _⟩ => rfl
  | ⟨1, _⟩ => exact (Nat.zero_add _).symm

/-- Where a piece's element lies in the block. -/
theorem piece_emb (o : ℕ) (h : o ≤ 768) (inb : ∀ a, (![0, o, 0] : Fin 3 → ℕ) a + S1x256x704.size a ≤ S1x1024x704.size a)
    (z : Fin 1) (r : Fin 256) (s : Fin 704) :
    (Rect.unit (s := S1x1024x704) ![0, o, 0] S1x256x704.size inb).emb (ix3 z r s : S1x256x704.Idx) = (ix3 z (sub o h r) s : S1x1024x704.Idx) := by
  funext a; apply Fin.ext
  match a with
  | ⟨0, _⟩ => show 0 + 1 * z.val = z.val; omega
  | ⟨1, _⟩ => show o + 1 * r.val = o + r.val; omega
  | ⟨2, _⟩ => show 0 + 1 * s.val = s.val; omega

/-- A block of a projection, as a function of the two blocks read. -/
def B (x0 : Vec Ideal S1024x2048 .bf16) (w : Vec Ideal S1x2048x704 .bf16) : Vec Ideal S1x1024x704 .bf16 :=
  fun y => dot x0 w (y 1) (y 2)

/-- A block of the gated product, as a function of the three blocks read. -/
def B' (x0 : Vec Ideal S1024x2048 .bf16) (w w' : Vec Ideal S1x2048x704 .bf16) : Vec Ideal S1x1024x704 .bf16 :=
  fun y => gated (dot x0 w (y 1) (y 2)) (dot x0 w' (y 1) (y 2))

/-- The block that a point leaves in output 0: its four pieces put together. -/
theorem block3 (x0 : Vec Ideal S1024x2048 .bf16) (x1 x2 : Vec Ideal S1x2048x704 .bf16) : out0_3 (F := Ideal) x0 x1 x2 = B x0 x1 := by
  unfold out0_3 k0_pay28 r0_1
  simp only [View.ld_unit_zero (S := S1x2048x704) hz3]
  funext y
  refine canon_pieces (Val := Elt Ideal) (B x0 x1) _ ?_ y (cover0_3 _ _ _ _ y)
  refine ⟨fun x => ?_, fun x => ?_, fun x => ?_, fun x => ?_, trivial⟩
  · obtain ⟨z, r, s, rfl⟩ := idx3_eq (a := 1) (b := 256) (c := 704) x
    show k0_pay5 (F := Ideal) (View.ld x0 r0_7) x1 (ix3 z r s) = B x0 x1 (r0_8.emb (ix3 z r s : S1x256x704.Idx))
    rw [piece_emb 768 (by omega), pay5]
    exact dot_ld x0 _ 768 (by omega) _ r s
  · obtain ⟨z, r, s, rfl⟩ := idx3_eq (a := 1) (b := 256) (c := 704) x
    show k0_pay5 (F := Ideal) (View.ld x0 r0_5) x1 (ix3 z r s) = B x0 x1 (r0_6.emb (ix3 z r s : S1x256x704.Idx))
    rw [piece_emb 512 (by omega), pay5]
    exact dot_ld x0 _ 512 (by omega) _ r s
  · obtain ⟨z, r, s, rfl⟩ := idx3_eq (a := 1) (b := 256) (c := 704) x
    show k0_pay5 (F := Ideal) (View.ld x0 r0_3) x1 (ix3 z r s) = B x0 x1 (r0_4.emb (ix3 z r s : S1x256x704.Idx))
    rw [piece_emb 256 (by omega), pay5]
    exact dot_ld x0 _ 256 (by omega) _ r s
  · obtain ⟨z, r, s, rfl⟩ := idx3_eq (a := 1) (b := 256) (c := 704) x
    show k0_pay5 (F := Ideal) (View.ld x0 r0_0) x1 (ix3 z r s) = B x0 x1 (r0_2.emb (ix3 z r s : S1x256x704.Idx))
    rw [piece_emb 0 (by omega), pay5]
    exact dot_ld x0 _ 0 (by omega) _ r s

/-- The block that a point leaves in output 1: its four pieces put together. -/
theorem block4 (x0 : Vec Ideal S1024x2048 .bf16) (x1 x2 : Vec Ideal S1x2048x704 .bf16) : out0_4 (F := Ideal) x0 x1 x2 = B x0 x2 := by
  unfold out0_4 k0_pay27 r0_1
  simp only [View.ld_unit_zero (S := S1x2048x704) hz3]
  funext y
  refine canon_pieces (Val := Elt Ideal) (B x0 x2) _ ?_ y (cover0_4 _ _ _ _ y)
  refine ⟨fun x => ?_, fun x => ?_, fun x => ?_, fun x => ?_, trivial⟩
  · obtain ⟨z, r, s, rfl⟩ := idx3_eq (a := 1) (b := 256) (c := 704) x
    show k0_pay6 (F := Ideal) (View.ld x0 r0_7) x2 (ix3 z r s) = B x0 x2 (r0_8.emb (ix3 z r s : S1x256x704.Idx))
    rw [piece_emb 768 (by omega), pay6]
    exact dot_ld x0 _ 768 (by omega) _ r s
  · obtain ⟨z, r, s, rfl⟩ := idx3_eq (a := 1) (b := 256) (c := 704) x
    show k0_pay6 (F := Ideal) (View.ld x0 r0_5) x2 (ix3 z r s) = B x0 x2 (r0_6.emb (ix3 z r s : S1x256x704.Idx))
    rw [piece_emb 512 (by omega), pay6]
    exact dot_ld x0 _ 512 (by omega) _ r s
  · obtain ⟨z, r, s, rfl⟩ := idx3_eq (a := 1) (b := 256) (c := 704) x
    show k0_pay6 (F := Ideal) (View.ld x0 r0_3) x2 (ix3 z r s) = B x0 x2 (r0_4.emb (ix3 z r s : S1x256x704.Idx))
    rw [piece_emb 256 (by omega), pay6]
    exact dot_ld x0 _ 256 (by omega) _ r s
  · obtain ⟨z, r, s, rfl⟩ := idx3_eq (a := 1) (b := 256) (c := 704) x
    show k0_pay6 (F := Ideal) (View.ld x0 r0_0) x2 (ix3 z r s) = B x0 x2 (r0_2.emb (ix3 z r s : S1x256x704.Idx))
    rw [piece_emb 0 (by omega), pay6]
    exact dot_ld x0 _ 0 (by omega) _ r s

/-- The block that a point leaves in output 2: its four pieces put together. -/
theorem block5 (x0 : Vec Ideal S1024x2048 .bf16) (x1 x2 : Vec Ideal S1x2048x704 .bf16) : out0_5 (F := Ideal) x0 x1 x2 = B' x0 x1 x2 := by
  unfold out0_5 k0_pay27 k0_pay28 r0_1
  simp only [View.ld_unit_zero (S := S1x2048x704) hz3]
  funext y
  refine canon_pieces (Val := Elt Ideal) (B' x0 x1 x2) _ ?_ y (cover0_5 _ _ _ _ y)
  refine ⟨fun x => ?_, fun x => ?_, fun x => ?_, fun x => ?_, trivial⟩
  · obtain ⟨z, r, s, rfl⟩ := idx3_eq (a := 1) (b := 256) (c := 704) x
    show k0_pay7 (F := Ideal) (View.ld x0 r0_7) x1 x2 (ix3 z r s) = B' x0 x1 x2 (r0_8.emb (ix3 z r s : S1x256x704.Idx))
    rw [piece_emb 768 (by omega), pay7]
    exact congrArg₂ gated (dot_ld x0 _ 768 (by omega) _ r s) (dot_ld x0 _ 768 (by omega) _ r s)
  · obtain ⟨z, r, s, rfl⟩ := idx3_eq (a := 1) (b := 256) (c := 704) x
    show k0_pay7 (F := Ideal) (View.ld x0 r0_5) x1 x2 (ix3 z r s) = B' x0 x1 x2 (r0_6.emb (ix3 z r s : S1x256x704.Idx))
    rw [piece_emb 512 (by omega), pay7]
    exact congrArg₂ gated (dot_ld x0 _ 512 (by omega) _ r s) (dot_ld x0 _ 512 (by omega) _ r s)
  · obtain ⟨z, r, s, rfl⟩ := idx3_eq (a := 1) (b := 256) (c := 704) x
    show k0_pay7 (F := Ideal) (View.ld x0 r0_3) x1 x2 (ix3 z r s) = B' x0 x1 x2 (r0_4.emb (ix3 z r s : S1x256x704.Idx))
    rw [piece_emb 256 (by omega), pay7]
    exact congrArg₂ gated (dot_ld x0 _ 256 (by omega) _ r s) (dot_ld x0 _ 256 (by omega) _ r s)
  · obtain ⟨z, r, s, rfl⟩ := idx3_eq (a := 1) (b := 256) (c := 704) x
    show k0_pay7 (F := Ideal) (View.ld x0 r0_0) x1 x2 (ix3 z r s) = B' x0 x1 x2 (r0_2.emb (ix3 z r s : S1x256x704.Idx))
    rw [piece_emb 0 (by omega), pay7]
    exact congrArg₂ gated (dot_ld x0 _ 0 (by omega) _ r s) (dot_ld x0 _ 0 (by omega) _ r s)

theorem iblk0 (c : Dev nD) (t : Fin cfg0.N) (r : Fin 1024) (k : Fin 2048) : (iblk m c 0 t : Vec Ideal S1024x2048 .bf16) (ix2 r k)
    = normed (m ((c : Thread nD τ).loc main_arg0)) (m ((c : Thread nD τ).loc main_arg1)) (ix2 (row t r) k) := by
  show (V m c main_v13 : Vec Ideal S8192x2048 .bf16) (((cfg0.win 0).blk t).view.emb (ix2 r k : S1024x2048.Idx)) = _
  rw [emb0, entry_x]

theorem iblk1 (c : Dev nD) (t : Fin cfg0.N) (z : Fin 1) (k : Fin 2048) (s : Fin 704) :
    (iblk m c 1 t : Vec Ideal S1x2048x704 .bf16) (ix3 z k s)
    = (m ((c : Thread nD τ).loc main_arg2) : Vec Ideal S2048x5632 .f32) (ix2 k (col (chunk t) s)) := by
  show (V m c main_v16 : Vec Ideal S8x2048x704 .bf16) (((cfg0.win 1).blk t).view.emb (ix3 z k s : S1x2048x704.Idx)) = _
  rw [emb1, entry_g]

/-- A block's product is the projection at the block's place. -/
theorem dot1 (c : Dev nD) (t : Fin cfg0.N) (r : Fin 1024) (s : Fin 704) :
    dot (n := 1024) (iblk m c 0 t : Vec Ideal S1024x2048 .bf16) (iblk m c 1 t) r s
    = proj (m ((c : Thread nD τ).loc main_arg0)) (m ((c : Thread nD τ).loc main_arg1)) (m ((c : Thread nD τ).loc main_arg2)) (row t r) (col (chunk t) s) := by
  unfold dot proj
  refine Finset.sum_congr rfl fun k _ => ?_
  rw [iblk0, iblk1]

theorem iblk2 (c : Dev nD) (t : Fin cfg0.N) (z : Fin 1) (k : Fin 2048) (s : Fin 704) :
    (iblk m c 2 t : Vec Ideal S1x2048x704 .bf16) (ix3 z k s)
    = (m ((c : Thread nD τ).loc main_arg3) : Vec Ideal S2048x5632 .f32) (ix2 k (col (chunk t) s)) := by
  show (V m c main_v19 : Vec Ideal S8x2048x704 .bf16) (((cfg0.win 2).blk t).view.emb (ix3 z k s : S1x2048x704.Idx)) = _
  rw [emb2, entry_u]

/-- A block's product is the projection at the block's place. -/
theorem dot2 (c : Dev nD) (t : Fin cfg0.N) (r : Fin 1024) (s : Fin 704) :
    dot (n := 1024) (iblk m c 0 t : Vec Ideal S1024x2048 .bf16) (iblk m c 2 t) r s
    = proj (m ((c : Thread nD τ).loc main_arg0)) (m ((c : Thread nD τ).loc main_arg1)) (m ((c : Thread nD τ).loc main_arg3)) (row t r) (col (chunk t) s) := by
  unfold dot proj
  refine Finset.sum_congr rfl fun k _ => ?_
  rw [iblk0, iblk2]

/-- The gate as a function of the launched arguments. -/
def G3 (c : Dev nD) : Vec Ideal S8x8192x704 .bf16 :=
  front (m ((c : Thread nD τ).loc main_arg0)) (m ((c : Thread nD τ).loc main_arg1)) (m ((c : Thread nD τ).loc main_arg2))

/-- The up-projection as a function of the launched arguments. -/
def G4 (c : Dev nD) : Vec Ideal S8x8192x704 .bf16 :=
  front (m ((c : Thread nD τ).loc main_arg0)) (m ((c : Thread nD τ).loc main_arg1)) (m ((c : Thread nD τ).loc main_arg3))

/-- The gated product as a function of the launched arguments. -/
def G5 (c : Dev nD) : Vec Ideal S8x8192x704 .bf16 :=
  active (m ((c : Thread nD τ).loc main_arg0)) (m ((c : Thread nD τ).loc main_arg1)) (m ((c : Thread nD τ).loc main_arg2)) (m ((c : Thread nD τ).loc main_arg3))

/-- What a point writes back of output 0 is its block of `G3`. -/
theorem flushed3_eq (c : Dev nD) (t : Fin cfg0.N) :
    (dats m 0 c).flushed 3 t = ((cfg0.win 3).blk t).view.read (Elt Ideal) (G3 m c) := by
  rw [Value.flushed3, block3]
  funext y
  obtain ⟨z, r, s, rfl⟩ := idx3_eq (a := 1) (b := 1024) (c := 704) y
  show _ = G3 m c (((cfg0.win 3).blk t).view.emb (ix3 z r s : S1x1024x704.Idx))
  rw [emb3]
  exact dot1 m c t r s

/-- What a point writes back of output 1 is its block of `G4`. -/
theorem flushed4_eq (c : Dev nD) (t : Fin cfg0.N) :
    (dats m 0 c).flushed 4 t = ((cfg0.win 4).blk t).view.read (Elt Ideal) (G4 m c) := by
  rw [Value.flushed4, block4]
  funext y
  obtain ⟨z, r, s, rfl⟩ := idx3_eq (a := 1) (b := 1024) (c := 704) y
  show _ = G4 m c (((cfg0.win 4).blk t).view.emb (ix3 z r s : S1x1024x704.Idx))
  rw [emb4]
  exact dot2 m c t r s

/-- What a point writes back of output 2 is its block of `G5`. -/
theorem flushed5_eq (c : Dev nD) (t : Fin cfg0.N) :
    (dats m 0 c).flushed 5 t = ((cfg0.win 5).blk t).view.read (Elt Ideal) (G5 m c) := by
  rw [Value.flushed5, block5]
  funext y
  obtain ⟨z, r, s, rfl⟩ := idx3_eq (a := 1) (b := 1024) (c := 704) y
  show _ = G5 m c (((cfg0.win 5).blk t).view.emb (ix3 z r s : S1x1024x704.Idx))
  rw [emb5]
  exact congrArg₂ gated (dot1 m c t r s) (dot2 m c t r s)

/-! Every index lies in the block of one point: chunk by chunk, and in a chunk 1024 rows a point. -/

theorem covered3 (i : S8x8192x704.Idx) :
    ∃ t : Fin cfg0.N, (cfg0.win 3).flush t = true ∧ i ∈ ((cfg0.win 3).blk t).view.set := by
  have h0 : (i 0).val < 8 := (i 0).isLt
  have h1 : (i 1).val < 8192 := (i 1).isLt
  let t : Fin cfg0.N := ⟨(i 0).val * 8 + (i 1).val / 1024, by show _ < 64; omega⟩
  let r : Fin 1024 := ⟨(i 1).val % 1024, by omega⟩
  have e : i = (ix3 (chunk t) (row t r) (i 2) : S8x8192x704.Idx) := by
    funext a; apply Fin.ext
    match a with
    | ⟨0, _⟩ => show (i 0).val = ((i 0).val * 8 + (i 1).val / 1024) / 8; omega
    | ⟨1, _⟩ => show (i 1).val = ((i 0).val * 8 + (i 1).val / 1024) % 8 * 1024 + (i 1).val % 1024; omega
    | ⟨2, _⟩ => rfl
  refine ⟨t, flush0_3 t, ?_⟩
  rw [e, ← emb3 t 0 r (i 2)]
  exact ((cfg0.win 3).blk t).view.emb_mem_set _

theorem covered4 (i : S8x8192x704.Idx) :
    ∃ t : Fin cfg0.N, (cfg0.win 4).flush t = true ∧ i ∈ ((cfg0.win 4).blk t).view.set := by
  have h0 : (i 0).val < 8 := (i 0).isLt
  have h1 : (i 1).val < 8192 := (i 1).isLt
  let t : Fin cfg0.N := ⟨(i 0).val * 8 + (i 1).val / 1024, by show _ < 64; omega⟩
  let r : Fin 1024 := ⟨(i 1).val % 1024, by omega⟩
  have e : i = (ix3 (chunk t) (row t r) (i 2) : S8x8192x704.Idx) := by
    funext a; apply Fin.ext
    match a with
    | ⟨0, _⟩ => show (i 0).val = ((i 0).val * 8 + (i 1).val / 1024) / 8; omega
    | ⟨1, _⟩ => show (i 1).val = ((i 0).val * 8 + (i 1).val / 1024) % 8 * 1024 + (i 1).val % 1024; omega
    | ⟨2, _⟩ => rfl
  refine ⟨t, flush0_4 t, ?_⟩
  rw [e, ← emb4 t 0 r (i 2)]
  exact ((cfg0.win 4).blk t).view.emb_mem_set _

theorem covered5 (i : S8x8192x704.Idx) :
    ∃ t : Fin cfg0.N, (cfg0.win 5).flush t = true ∧ i ∈ ((cfg0.win 5).blk t).view.set := by
  have h0 : (i 0).val < 8 := (i 0).isLt
  have h1 : (i 1).val < 8192 := (i 1).isLt
  let t : Fin cfg0.N := ⟨(i 0).val * 8 + (i 1).val / 1024, by show _ < 64; omega⟩
  let r : Fin 1024 := ⟨(i 1).val % 1024, by omega⟩
  have e : i = (ix3 (chunk t) (row t r) (i 2) : S8x8192x704.Idx) := by
    funext a; apply Fin.ext
    match a with
    | ⟨0, _⟩ => show (i 0).val = ((i 0).val * 8 + (i 1).val / 1024) / 8; omega
    | ⟨1, _⟩ => show (i 1).val = ((i 0).val * 8 + (i 1).val / 1024) % 8 * 1024 + (i 1).val % 1024; omega
    | ⟨2, _⟩ => rfl
  refine ⟨t, flush0_5 t, ?_⟩
  rw [e, ← emb5 t 0 r (i 2)]
  exact ((cfg0.win 5).blk t).view.emb_mem_set _

/-- The run with the three results at their functions of the arguments. -/
theorem run : θ_run defs (onTc (τ := τ) (main (F := Ideal))) ⟨m, fun _ => 0, ρ⟩ fun r => ∀ c : Dev nD,
      r.2.mem ((c : Thread nD τ).loc main_v20_0) = G3 m c
      ∧ r.2.mem ((c : Thread nD τ).loc main_v20_1) = G4 m c
      ∧ r.2.mem ((c : Thread nD τ).loc main_v20_2) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨(h c).1.trans ((dats m 0 c).arrAt_eq_of_cover 3 (G3 m c) (fun t _ => flushed3_eq m c t) covered3),
      (h c).2.1.trans ((dats m 0 c).arrAt_eq_of_cover 4 (G4 m c) (fun t _ => flushed4_eq m c t) covered4),
      (h c).2.2.1.trans ((dats m 0 c).arrAt_eq_of_cover 5 (G5 m c) (fun t _ => flushed5_eq m c t) covered5), (h c).2.2.2⟩)
    (Value.run_blocks m ρ)

end Cert.Proof.Front

end
-- ==== Proof.FrontRef.lean ====
/- The forward half of the feed-forward layer: the reference's three results index by index, and their equality with the
   kernel's. -/
module

public import proofs.«01_k».proof.Proof.Front
public import proofs.«01_k».proof.Proof.Gen.Reference6Ideal.Run
public import proofs.«01_k».proof.Proof.Gen.Reference6Ideal.Read
public import proofs.«01_k».proof.Defs

@[expose] public section

set_option maxRecDepth 16384

noncomputable section

namespace Cert.Proof.Front

open Idealize.ShloMosaic Idealize.ShloMosaic.TcCoe Idealize.SL.Sem
open Cert.Reference6Ideal Cert.Reference6Ideal.Gen Cert.Reference6Ideal.Value
open Cert.Proof.Chunks (col)
open Cert.Proof.Pieces

variable (x0 : Vec Ideal S8192x2048 .f32) (x1 : Vec Ideal S2048 .f32) (x2 x3 : Vec Ideal S2048x5632 .f32)

/-- The reference's normed input is the one that the kernel is handed. -/
theorem ref_normed : Read.val_main_v12 (F := Ideal) x0 x1 = normed x0 x1 := rfl

/-- One of the reference's two projections. -/
theorem ref_proj13 (r : Fin 8192) (f : Fin 5632) : (Read.val_main_v13 (F := Ideal) x0 x1 x2 (ix2 r f) : EReal) = proj x0 x1 x2 r f := by
  rw [Read.val_main_v13_apply, ref_normed]
  refine Finset.sum_congr rfl fun k _ => ?_
  have e0 : Read.lidx_main_v13 (ix2 r f) k = ix2 r k := by
    funext a; match a with | ⟨0, _⟩ => rfl | ⟨1, _⟩ => rfl
  have e1 : Read.ridx_main_v13 (ix2 r f) k = ix2 k f := by
    funext a; match a with | ⟨0, _⟩ => rfl | ⟨1, _⟩ => rfl
  rw [e0, e1]

/-- One of the reference's two projections. -/
theorem ref_proj14 (r : Fin 8192) (f : Fin 5632) : (Read.val_main_v14 (F := Ideal) x0 x1 x3 (ix2 r f) : EReal) = proj x0 x1 x3 r f := by
  rw [Read.val_main_v14_apply, ref_normed]
  refine Finset.sum_congr rfl fun k _ => ?_
  have e0 : Read.lidx_main_v14 (ix2 r f) k = ix2 r k := by
    funext a; match a with | ⟨0, _⟩ => rfl | ⟨1, _⟩ => rfl
  have e1 : Read.ridx_main_v14 (ix2 r f) k = ix2 k f := by
    funext a; match a with | ⟨0, _⟩ => rfl | ⟨1, _⟩ => rfl
  rw [e0, e1]

/-- The logistic function, as the reference spells it. -/
theorem ref_sig (i : S8192x5632.Idx) :
    (Read.val_main_call0_v5 (F := Ideal) x0 x1 x2 i : EReal) = Ideal.logistic (Read.val_main_v13 (F := Ideal) x0 x1 x2 i) := by
  unfold Read.val_main_call0_v5 Read.val_main_call0_v4 Read.val_main_call0_v3 Read.val_main_call0_v2 Read.val_main_call0_v1
    Read.val_main_call0_v0 Read.val_main_call0_cst Read.val_main_call0_cst_0
  generalize Read.val_main_v13 (F := Ideal) x0 x1 x2 = y
  pointwise
  rfl

/-- The reference's gated product. -/
theorem ref_act (r : Fin 8192) (f : Fin 5632) :
    (Read.val_main_v22 (F := Ideal) x0 x1 x2 x3 (ix2 r f) : EReal) = gated (proj x0 x1 x2 r f) (proj x0 x1 x3 r f) := by
  rw [← ref_proj13, ← ref_proj14]
  unfold gated
  rw [← ref_sig]
  rfl

theorem ref_idx15 (c : Fin 8) (r : Fin 8192) (s : Fin 704) :
    Read.idx_main_v15 (Read.idx_main_v16 (ix3 c r s)) = ix2 r (col c s) := by
  funext a; apply Fin.ext
  match a with
  | ⟨0, _⟩ => show ((r.val * 8 + c.val) * 704 + s.val) / 5632 = r.val; omega
  | ⟨1, _⟩ => show ((r.val * 8 + c.val) * 704 + s.val) % 5632 = c.val * 704 + s.val; omega

theorem ref_idx18 (c : Fin 8) (r : Fin 8192) (s : Fin 704) :
    Read.idx_main_v18 (Read.idx_main_v19 (ix3 c r s)) = ix2 r (col c s) := by
  funext a; apply Fin.ext
  match a with
  | ⟨0, _⟩ => show ((r.val * 8 + c.val) * 704 + s.val) / 5632 = r.val; omega
  | ⟨1, _⟩ => show ((r.val * 8 + c.val) * 704 + s.val) % 5632 = c.val * 704 + s.val; omega

theorem ref_idx23 (c : Fin 8) (r : Fin 8192) (s : Fin 704) :
    Read.idx_main_v23 (Read.idx_main_v24 (ix3 c r s)) = ix2 r (col c s) := by
  funext a; apply Fin.ext
  match a with
  | ⟨0, _⟩ => show ((r.val * 8 + c.val) * 704 + s.val) / 5632 = r.val; omega
  | ⟨1, _⟩ => show ((r.val * 8 + c.val) * 704 + s.val) % 5632 = c.val * 704 + s.val; omega

theorem ref_eq17 : Read.val_main_v17 (F := Ideal) x0 x1 x2 = front x0 x1 x2 := by
  funext i
  obtain ⟨c, r, s, rfl⟩ := idx3_eq (a := 8) (b := 8192) (c := 704) i
  rw [Read.val_main_v17_apply]
  show (Read.val_main_v16 (F := Ideal) x0 x1 x2 (ix3 c r s) : EReal) = _
  rw [Read.val_main_v16_apply, Read.val_main_v15_apply, ref_idx15]
  exact ref_proj13 _ _ _ r (col c s)

theorem ref_eq20 : Read.val_main_v20 (F := Ideal) x0 x1 x3 = front x0 x1 x3 := by
  funext i
  obtain ⟨c, r, s, rfl⟩ := idx3_eq (a := 8) (b := 8192) (c := 704) i
  rw [Read.val_main_v20_apply]
  show (Read.val_main_v19 (F := Ideal) x0 x1 x3 (ix3 c r s) : EReal) = _
  rw [Read.val_main_v19_apply, Read.val_main_v18_apply, ref_idx18]
  exact ref_proj14 _ _ _ r (col c s)

theorem ref_eq25 : Read.val_main_v25 (F := Ideal) x0 x1 x2 x3 = active x0 x1 x2 x3 := by
  funext i
  obtain ⟨c, r, s, rfl⟩ := idx3_eq (a := 8) (b := 8192) (c := 704) i
  rw [Read.val_main_v25_apply]
  show (Read.val_main_v24 (F := Ideal) x0 x1 x2 x3 (ix3 c r s) : EReal) = _
  rw [Read.val_main_v24_apply, Read.val_main_v23_apply, ref_idx23]
  exact ref_act _ _ _ _ r (col c s)

/-- The forward half by the kernel and by the reference: equal results on equal arguments, the arguments kept. -/
theorem algebraic : Cert.algebraic_Kernel6Ideal_Reference6Ideal := by
  intro m g m' g' _ hargs
  refine ⟨fun c => G3 m c, fun c => G4 m c, fun c => G5 m c, run m g, ?_⟩
  refine (θ_run _ _ _).mono (fun r h c => ?_) (Cert.Reference6Ideal.Value.run m' g')
  obtain ⟨e1, e2, e3, ek⟩ := h c
  obtain ⟨a0, a1, a2, a3⟩ := hargs c
  refine ⟨e1.trans ?_, e2.trans ?_, e3.trans ?_, ek⟩
  · rw [a0, a1, a2, Read.val_main_v17_eq]
    exact ref_eq17 _ _ _
  · rw [a0, a1, a3, Read.val_main_v20_eq]
    exact ref_eq20 _ _ _
  · rw [a0, a1, a2, a3, Read.val_main_v25_eq]
    exact ref_eq25 _ _ _ _

end Cert.Proof.Front

end
-- ==== Proof.Back.lean ====
/- The second half of the feed-forward layer as the kernel `ffn_down` leaves it (at `Ideal`): for every block of 512 rows the
   product of the activation with the down projection, summed over the 5632 feed-forward columns in four steps of two chunks
   in a scratch buffer; the last step normalises the rows, scales them by the gain and adds half of that to the residual. -/
module

public import proofs.«01_k».proof.Proof.Gen.Kernel7Ideal.Value
public import proofs.«01_k».proof.Proof.Chunks
public import proofs.«01_k».proof.Proof.Pieces

@[expose] public section

set_option maxRecDepth 16384

noncomputable section

namespace Cert.Proof.Back

open Cert.Kernel7Ideal Cert.Kernel7Ideal.Gen Idealize.ShloMosaic Idealize.ShloMosaic.TcCoe Idealize.SL.Sem
open Cert.Proof.Chunks (col chain even odd sum_pairs)
open Cert.Proof.Pieces

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The activation, in the host's operations. -/
def act (g u : Vec Ideal S8192x5632 .f32) : FVec Ideal S8192x5632 .f32 :=
  mulf (mulf g (Host.divf (broadcastInDim S8192x5632 ![] bcast_S_S8192x5632 (constant S_ .f32 0x3F800000#32))
    (addf (broadcastInDim S8192x5632 ![] bcast_S_S8192x5632 (constant S_ .f32 0x3F800000#32)) (Host.exp (Host.negf g))))) u

/-- The activation times the down projection. -/
def down (g u : Vec Ideal S8192x5632 .f32) (w : Vec Ideal S5632x2048 .f32) : Vec Ideal S8192x2048 .f32 := fun i =>
  (∑ f : Fin 5632, act g u (ix2 (i 0) f) * w (ix2 f (i 1)) : EReal)

/-- One element of the layer's output: the residual `x` and half of the normed row `y` scaled by the gain `g`. -/
def post (y : Fin 2048 → EReal) (x g : EReal) (k : Fin 2048) : EReal :=
  x + Ideal.ofBits .f32 0x3F000000#32 * (y k * Ideal.rsqrt (Ideal.div (∑ j : Fin 2048, y j * y j) (Ideal.ofBits .f32 0x45000000#32)
    + Ideal.ofBits .f32 0x358637BD#32) * g)

/-- The layer's output. -/
def outp (y x : Vec Ideal S8192x2048 .f32) (g : Vec Ideal S2048 .f32) : Vec Ideal S8192x2048 .f32 := fun i =>
  post (fun j => y (ix2 (i 0) j)) (x (ix2 (i 0) (i 1))) (g (ix1 (i 1))) (i 1)

/-! ## What the host lines hand to the call -/

theorem entry_act (c : Dev nD) (i : Fin 8) (j : Fin 8192) (k : Fin 704) : (V m c main_v4 : Vec Ideal S8x8192x704 .bf16) (ix3 i j k)
    = act (m ((c : Thread nD τ).loc main_arg0)) (m ((c : Thread nD τ).loc main_arg1)) (ix2 j (col i k)) := by
  have h : @Eq (Vec Ideal S8x8192x704 .bf16) (V m c main_v4) (truncf (F := Ideal) .bf16 (transpose S8x8192x704 [1, 0, 2] (shapeCast S8192x8x704 (act (m ((c : Thread nD τ).loc main_arg0)) (m ((c : Thread nD τ).loc main_arg1)) : FVec Ideal S8192x5632 .f32) shapeCasts_S8192x5632_S8192x8x704) transposes_S8192x8x704_S8x8192x704_1_0_2) bitsLt_bf16_f32) := by
    unfold act; unfold_abbrev_sides; after_results; rfl
  rw [h]
  generalize act (m ((c : Thread nD τ).loc main_arg0)) (m ((c : Thread nD τ).loc main_arg1)) = y
  pointwise
  rfl

theorem entry_w (c : Dev nD) (i : Fin 8) (j : Fin 704) (k : Fin 2048) : (V m c main_v6 : Vec Ideal S8x704x2048 .bf16) (ix3 i j k)
    = (m ((c : Thread nD τ).loc main_arg2) : Vec Ideal S5632x2048 .f32) (ix2 (col i j) k) := by
  have h : @Eq (Vec Ideal S8x704x2048 .bf16) (V m c main_v6) (truncf (F := Ideal) .bf16 (shapeCast S8x704x2048 (m ((c : Thread nD τ).loc main_arg2) : FVec Ideal S5632x2048 .f32) shapeCasts_S5632x2048_S8x704x2048) bitsLt_bf16_f32) := by
    unfold_abbrev_sides; rfl
  rw [h]
  show shapeCast S8x704x2048 (m ((c : Thread nD τ).loc main_arg2) : FVec Ideal S5632x2048 .f32) shapeCasts_S5632x2048_S8x704x2048 (ix3 i j k) = _
  refine shapeCast_apply _ _ _ (ix2 (col i j) k) ?_
  rw [Shape.rowMajor_val_two, Shape.rowMajor_val_three]
  rfl

theorem entry_gain (c : Dev nD) (z : Fin 1) (k : Fin 2048) : (V m c main_v7 : Vec Ideal S1x2048 .f32) (ix2 z k)
    = (m ((c : Thread nD τ).loc main_arg4) : Vec Ideal S2048 .f32) (ix1 k) := by
  have h : @Eq (Vec Ideal S1x2048 .f32) (V m c main_v7) (shapeCast S1x2048 (m ((c : Thread nD τ).loc main_arg4) : FVec Ideal S2048 .f32) shapeCasts_S2048_S1x2048) := by
    unfold_abbrev_sides; rfl
  rw [h]
  pointwise

/-! ## Where a block's element lies in its array -/

theorem idx0 : ∀ t : Fin cfg0.N, win0_0.index t (0 : Fin 3) = 2 * (t.val % 4) ∧ win0_0.index t (1 : Fin 3) = t.val / 4
    ∧ win0_0.index t (2 : Fin 3) = 0 := (by decide +kernel : ∀ t : Fin grid0.N, _)
theorem idx1 : ∀ t : Fin cfg0.N, win0_1.index t (0 : Fin 3) = 2 * (t.val % 4) ∧ win0_1.index t (1 : Fin 3) = 0
    ∧ win0_1.index t (2 : Fin 3) = 0 := (by decide +kernel : ∀ t : Fin grid0.N, _)
theorem idx2 : ∀ t : Fin cfg0.N, win0_2.index t (0 : Fin 3) = 2 * (t.val % 4) + 1 ∧ win0_2.index t (1 : Fin 3) = t.val / 4
    ∧ win0_2.index t (2 : Fin 3) = 0 := (by decide +kernel : ∀ t : Fin grid0.N, _)
theorem idx3 : ∀ t : Fin cfg0.N, win0_3.index t (0 : Fin 3) = 2 * (t.val % 4) + 1 ∧ win0_3.index t (1 : Fin 3) = 0
    ∧ win0_3.index t (2 : Fin 3) = 0 := (by decide +kernel : ∀ t : Fin grid0.N, _)
theorem idx4 : ∀ t : Fin cfg0.N, win0_4.index t (0 : Fin 2) = t.val / 4 ∧ win0_4.index t (1 : Fin 2) = 0 :=
  (by decide +kernel : ∀ t : Fin grid0.N, _)
theorem idx6 : ∀ t : Fin cfg0.N, win0_6.index t (0 : Fin 2) = t.val / 4 ∧ win0_6.index t (1 : Fin 2) = 0 :=
  (by decide +kernel : ∀ t : Fin grid0.N, _)
theorem idx7 : ∀ t : Fin cfg0.N, win0_7.index t (0 : Fin 2) = t.val / 4 ∧ win0_7.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-- Row `r` of the 512 rows that step `n` works on. -/
def row (n : ℕ) (r : Fin 512) : Fin 8192 := ⟨n / 4 % 16 * 512 + r.val, by omega⟩

theorem emb0 (t : Fin cfg0.N) (z : Fin 1) (r : Fin 512) (s : Fin 704) :
    ((cfg0.win 0).blk t).view.emb (ix3 z r s : S1x512x704.Idx) = (ix3 (even t.val) (row t.val r) s : S8x8192x704.Idx) := by
  obtain ⟨e0, e1, e2⟩ := idx0 t
  have ht : t.val < 64 := t.isLt
  funext a; apply Fin.ext
  match a with
  | ⟨0, _⟩ => show win0_0.index t (0 : Fin 3) * 1 + 1 * z.val = 2 * (t.val % 4); omega
  | ⟨1, _⟩ => show win0_0.index t (1 : Fin 3) * 512 + 1 * r.val = t.val / 4 % 16 * 512 + r.val; omega
  | ⟨2, _⟩ => show win0_0.index t (2 : Fin 3) * 704 + 1 * s.val = s.val; omega

theorem emb2 (t : Fin cfg0.N) (z : Fin 1) (r : Fin 512) (s : Fin 704) :
    ((cfg0.win 2).blk t).view.emb (ix3 z r s : S1x512x704.Idx) = (ix3 (odd t.val) (row t.val r) s : S8x8192x704.Idx) := by
  obtain ⟨e0, e1, e2⟩ := idx2 t
  have ht : t.val < 64 := t.isLt
  funext a; apply Fin.ext
  match a with
  | ⟨0, _⟩ => show win0_2.index t (0 : Fin 3) * 1 + 1 * z.val = 2 * (t.val % 4) + 1; omega
  | ⟨1, _⟩ => show win0_2.index t (1 : Fin 3) * 512 + 1 * r.val = t.val / 4 % 16 * 512 + r.val; omega
  | ⟨2, _⟩ => show win0_2.index t (2 : Fin 3) * 704 + 1 * s.val = s.val; omega

theorem emb1 (t : Fin cfg0.N) (z : Fin 1) (s : Fin 704) (k : Fin 2048) :
    ((cfg0.win 1).blk t).view.emb (ix3 z s k : S1x704x2048.Idx) = (ix3 (even t.val) s k : S8x704x2048.Idx) := by
  obtain ⟨e0, e1, e2⟩ := idx1 t
  funext a; apply Fin.ext
  match a with
  | ⟨0, _⟩ => show win0_1.index t (0 : Fin 3) * 1 + 1 * z.val = 2 * (t.val % 4); omega
  | ⟨1, _⟩ => show win0_1.index t (1 : Fin 3) * 704 + 1 * s.val = s.val; omega
  | ⟨2, _⟩ => show win0_1.index t (2 : Fin 3) * 2048 + 1 * k.val = k.val; omega

theorem emb3 (t : Fin cfg0.N) (z : Fin 1) (s : Fin 704) (k : Fin 2048) :
    ((cfg0.win 3).blk t).view.emb (ix3 z s k : S1x704x2048.Idx) = (ix3 (odd t.val) s k : S8x704x2048.Idx) := by
  obtain ⟨e0, e1, e2⟩ := idx3 t
  funext a; apply Fin.ext
  match a with
  | ⟨0, _⟩ => show win0_3.index t (0 : Fin 3) * 1 + 1 * z.val = 2 * (t.val % 4) + 1; omega
  | ⟨1, _⟩ => show win0_3.index t (1 : Fin 3) * 704 + 1 * s.val = s.val; omega
  | ⟨2, _⟩ => show win0_3.index t (2 : Fin 3) * 2048 + 1 * k.val = k.val; omega

theorem emb4 (t : Fin cfg0.N) (r : Fin 512) (k : Fin 2048) :
    ((cfg0.win 4).blk t).view.emb (ix2 r k : S512x2048.Idx) = (ix2 (row t.val r) k : S8192x2048.Idx) := by
  obtain ⟨e0, e1⟩ := idx4 t
  have ht : t.val < 64 := t.isLt
  funext a; apply Fin.ext
  match a with
  | ⟨0, _⟩ => show win0_4.index t (0 : Fin 2) * 512 + 1 * r.val = t.val / 4 % 16 * 512 + r.val; omega
  | ⟨1, _⟩ => show win0_4.index t (1 : Fin 2) * 2048 + 1 * k.val = k.val; omega

theorem emb6 (t : Fin cfg0.N) (r : Fin 512) (k : Fin 2048) :
    ((cfg0.win 6).blk t).view.emb (ix2 r k : S512x2048.Idx) = (ix2 (row t.val r) k : S8192x2048.Idx) := by
  obtain ⟨e0, e1⟩ := idx6 t
  have ht : t.val < 64 := t.isLt
  funext a; apply Fin.ext
  match a with
  | ⟨0, _⟩ => show win0_6.index t (0 : Fin 2) * 512 + 1 * r.val = t.val / 4 % 16 * 512 + r.val; omega
  | ⟨1, _⟩ => show win0_6.index t (1 : Fin 2) * 2048 + 1 * k.val = k.val; omega

theorem emb7 (t : Fin cfg0.N) (r : Fin 512) (k : Fin 2048) :
    ((cfg0.win 7).blk t).view.emb (ix2 r k : S512x2048.Idx) = (ix2 (row t.val r) k : S8192x2048.Idx) := by
  obtain ⟨e0, e1⟩ := idx7 t
  have ht : t.val < 64 := t.isLt
  funext a; apply Fin.ext
  match a with
  | ⟨0, _⟩ => show win0_7.index t (0 : Fin 2) * 512 + 1 * r.val = t.val / 4 % 16 * 512 + r.val; omega
  | ⟨1, _⟩ => show win0_7.index t (1 : Fin 2) * 2048 + 1 * k.val = k.val; omega

theorem emb5 (t : Fin cfg0.N) (z : Fin 1) (k : Fin 2048) :
    ((cfg0.win 5).blk t).view.emb (ix2 z k : S1x2048.Idx) = (ix2 z k : S1x2048.Idx) := by
  obtain ⟨e0, e1⟩ := idx5 t
  funext a; apply Fin.ext
  match a with
  | ⟨0, _⟩ => show win0_5.index t (0 : Fin 2) * 1 + 1 * z.val = z.val; omega
  | ⟨1, _⟩ => show win0_5.index t (1 : Fin 2) * 2048 + 1 * k.val = k.val; omega

theorem iblk0 (c : Dev nD) (t : Fin cfg0.N) (z : Fin 1) (r : Fin 512) (s : Fin 704) :
    (iblk m c 0 t : Vec Ideal S1x512x704 .bf16) (ix3 z r s)
    = act (m ((c : Thread nD τ).loc main_arg0)) (m ((c : Thread nD τ).loc main_arg1)) (ix2 (row t.val r) (col (even t.val) s)) := by
  show (V m c main_v4 : Vec Ideal S8x8192x704 .bf16) (((cfg0.win 0).blk t).view.emb (ix3 z r s : S1x512x704.Idx)) = _
  rw [emb0, entry_act]

theorem iblk1 (c : Dev nD) (t : Fin cfg0.N) (z : Fin 1) (s : Fin 704) (k : Fin 2048) :
    (iblk m c 1 t : Vec Ideal S1x704x2048 .bf16) (ix3 z s k)
    = (m ((c : Thread nD τ).loc main_arg2) : Vec Ideal S5632x2048 .f32) (ix2 (col (even t.val) s) k) := by
  show (V m c main_v6 : Vec Ideal S8x704x2048 .bf16) (((cfg0.win 1).blk t).view.emb (ix3 z s k : S1x704x2048.Idx)) = _
  rw [emb1, entry_w]

theorem iblk2 (c : Dev nD) (t : Fin cfg0.N) (z : Fin 1) (r : Fin 512) (s : Fin 704) :
    (iblk m c 2 t : Vec Ideal S1x512x704 .bf16) (ix3 z r s)
    = act (m ((c : Thread nD τ).loc main_arg0)) (m ((c : Thread nD τ).loc main_arg1)) (ix2 (row t.val r) (col (odd t.val) s)) := by
  show (V m c main_v4 : Vec Ideal S8x8192x704 .bf16) (((cfg0.win 2).blk t).view.emb (ix3 z r s : S1x512x704.Idx)) = _
  rw [emb2, entry_act]

theorem iblk3 (c : Dev nD) (t : Fin cfg0.N) (z : Fin 1) (s : Fin 704) (k : Fin 2048) :
    (iblk m c 3 t : Vec Ideal S1x704x2048 .bf16) (ix3 z s k)
    = (m ((c : Thread nD τ).loc main_arg2) : Vec Ideal S5632x2048 .f32) (ix2 (col (odd t.val) s) k) := by
  show (V m c main_v6 : Vec Ideal S8x704x2048 .bf16) (((cfg0.win 3).blk t).view.emb (ix3 z s k : S1x704x2048.Idx)) = _
  rw [emb3, entry_w]

theorem iblk4 (c : Dev nD) (t : Fin cfg0.N) (r : Fin 512) (k : Fin 2048) : (iblk m c 4 t : Vec Ideal S512x2048 .f32) (ix2 r k)
    = (m ((c : Thread nD τ).loc main_arg3) : Vec Ideal S8192x2048 .f32) (ix2 (row t.val r) k) := by
  have e : (V m c main_arg3 : Vec Ideal S8192x2048 .f32) = m ((c : Thread nD τ).loc main_arg3) := by
    unfold_abbrev_sides; rfl
  show (V m c main_arg3 : Vec Ideal S8192x2048 .f32) (((cfg0.win 4).blk t).view.emb (ix2 r k : S512x2048.Idx)) = _
  rw [emb4, e]

theorem iblk5 (c : Dev nD) (t : Fin cfg0.N) (z : Fin 1) (k : Fin 2048) : (iblk m c 5 t : Vec Ideal S1x2048 .f32) (ix2 z k)
    = (m ((c : Thread nD τ).loc main_arg4) : Vec Ideal S2048 .f32) (ix1 k) := by
  show (V m c main_v7 : Vec Ideal S1x2048 .f32) (((cfg0.win 5).blk t).view.emb (ix2 z k : S1x2048.Idx)) = _
  rw [emb5, entry_gain]

/-! ## The body's stores -/

/-- The product of two blocks that a step reads, at one index. -/
def prod (x0 : Vec Ideal S1x512x704 .bf16) (x1 : Vec Ideal S1x704x2048 .bf16) (r : Fin 512) (k : Fin 2048) : EReal :=
  ∑ s : Fin 704, x0 (ix3 0 r s) * x1 (ix3 0 s k)

/-- The first step stores the sum of its two products. -/
theorem pay2 (x0 : Vec Ideal S1x512x704 .bf16) (x1 : Vec Ideal S1x704x2048 .bf16) (x2 : Vec Ideal S1x512x704 .bf16)
    (x3 : Vec Ideal S1x704x2048 .bf16) (r : Fin 512) (k : Fin 2048) :
    k0_pay2 (F := Ideal) x0 x1 x2 x3 (ix2 r k) = prod x0 x1 r k + prod x2 x3 r k := by
  unfold prod
  unfold_payloads
  pointwise

/-- A later step adds them to what the scratch holds. -/
theorem pay3 (x0 : Vec Ideal S1x512x704 .bf16) (x1 : Vec Ideal S1x704x2048 .bf16) (x2 : Vec Ideal S1x512x704 .bf16)
    (x3 : Vec Ideal S1x704x2048 .bf16) (xs : Vec Ideal S512x2048 .f32) (r : Fin 512) (k : Fin 2048) :
    k0_pay3 (F := Ideal) x0 x1 x2 x3 xs (ix2 r k) = (xs (ix2 r k) + (prod x0 x1 r k + prod x2 x3 r k) : EReal) := by
  unfold prod
  unfold_payloads
  pointwise

/-- The last step's output, from the scratch, the residual and the gain. -/
theorem pay4 (y x : Vec Ideal S512x2048 .f32) (g : Vec Ideal S1x2048 .f32) (r : Fin 512) (k : Fin 2048) :
    k0_pay4 (F := Ideal) y x g (ix2 r k) = post (fun j => y (ix2 r j)) (x (ix2 r k)) (g (ix2 0 k)) k := by
  unfold post
  unfold_payloads
  pointwise

section Terms
variable (c : Dev nD) (i : grid0.Coords)
  (a0 : Memref sig .tc .vmem S1x512x704 .bf16) (ha0 : a0.IsWhole)
  (a1 : Memref sig .tc .vmem S1x704x2048 .bf16) (ha1 : a1.IsWhole)
  (a2 : Memref sig .tc .vmem S1x512x704 .bf16) (ha2 : a2.IsWhole)
  (a3 : Memref sig .tc .vmem S1x704x2048 .bf16) (ha3 : a3.IsWhole)
  (a4 : Memref sig .tc .vmem S512x2048 .f32) (ha4 : a4.IsWhole)
  (a5 : Memref sig .tc .vmem S1x2048 .f32) (ha5 : a5.IsWhole)
  (a6 : Memref sig .tc .vmem S512x2048 .f32) (ha6 : a6.IsWhole)
  (a7 : Memref sig .tc .vmem S512x2048 .f32) (ha7 : a7.IsWhole)
  (sc : Memref sig .tc .vmem S512x2048 .f32) (hsc : sc.IsWhole)
  (x0 : Vec Ideal S1x512x704 .bf16) (x1 : Vec Ideal S1x704x2048 .bf16) (x2 : Vec Ideal S1x512x704 .bf16)
  (x3 : Vec Ideal S1x704x2048 .bf16) (x4 : Vec Ideal S512x2048 .f32) (x5 : Vec Ideal S1x2048 .f32) (xs : Vec Ideal S512x2048 .f32)

/-- The first step of a row block leaves its products in the scratch. -/
theorem first (hc0 : cond0_0 i) (hc1 : ¬cond0_1 i) (hc2 : ¬cond0_2 i) :
    sout0_A_0 (F := Ideal) c i a0 ha0 a1 ha1 a2 ha2 a3 ha3 a4 ha4 a5 ha5 a6 ha6 a7 ha7 sc hsc hc0 hc1 hc2 x0 x1 x2 x3 x4 x5 = k0_pay2 x0 x1 x2 x3 := by
  unfold sout0_A_0
  rw [View.read_writes_eq_canon _ _ _ (scover0_A_0 c i a0 ha0 a1 ha1 a2 ha2 a3 ha3 a4 ha4 a5 ha5 a6 ha6 a7 ha7 sc hsc hc0 hc1 hc2 x0 x1 x2 x3 x4 x5)]
  unfold kernelRun0_A
  dsimp only
  rw [View.canon_unit_zero hz2]
  simp only [View.readAt_eq_ld, ha0.read_unread, ha1.read_unread, ha2.read_unread, ha3.read_unread, ha4.read_unread, ha5.read_unread, hsc.read_unread,
    View.ld_unit_zero (S := S1x512x704) hz3, View.ld_unit_zero (S := S1x704x2048) hz3, View.ld_unit_zero (S := S512x2048) hz2,
    View.ld_unit_zero (S := S1x2048) hz2]

/-- A middle step leaves the scratch with its products added. -/
theorem middle (hc0 : ¬cond0_0 i) (hc1 : cond0_1 i) (hc2 : ¬cond0_2 i) :
    sout0_B_0 (F := Ideal) c i a0 ha0 a1 ha1 a2 ha2 a3 ha3 a4 ha4 a5 ha5 a6 ha6 a7 ha7 sc hsc hc0 hc1 hc2 x0 x1 x2 x3 x4 x5 xs = k0_pay3 x0 x1 x2 x3 xs := by
  unfold sout0_B_0
  rw [View.read_writes_eq_canon _ _ _ (scover0_B_0 c i a0 ha0 a1 ha1 a2 ha2 a3 ha3 a4 ha4 a5 ha5 a6 ha6 a7 ha7 sc hsc hc0 hc1 hc2 x0 x1 x2 x3 x4 x5 xs)]
  unfold kernelRun0_B
  dsimp only
  rw [View.canon_unit_zero hz2]
  simp only [View.readAt_eq_ld, ha0.read_unread, ha1.read_unread, ha2.read_unread, ha3.read_unread, ha4.read_unread, ha5.read_unread, hsc.read_unread,
    View.ld_unit_zero (S := S1x512x704) hz3, View.ld_unit_zero (S := S1x704x2048) hz3, View.ld_unit_zero (S := S512x2048) hz2,
    View.ld_unit_zero (S := S1x2048) hz2]

/-- So does the last step. -/
theorem last_acc (hc0 : ¬cond0_0 i) (hc1 : cond0_1 i) (hc2 : cond0_2 i) :
    sout0_C_0 (F := Ideal) c i a0 ha0 a1 ha1 a2 ha2 a3 ha3 a4 ha4 a5 ha5 a6 ha6 a7 ha7 sc hsc hc0 hc1 hc2 x0 x1 x2 x3 x4 x5 xs = k0_pay3 x0 x1 x2 x3 xs := by
  unfold sout0_C_0
  rw [View.read_writes_eq_canon _ _ _ (scover0_C_0 c i a0 ha0 a1 ha1 a2 ha2 a3 ha3 a4 ha4 a5 ha5 a6 ha6 a7 ha7 sc hsc hc0 hc1 hc2 x0 x1 x2 x3 x4 x5 xs)]
  unfold kernelRun0_C
  dsimp only
  sl_unfold_words
  rw [View.canon_unit_zero hz2]
  simp only [View.readAt_eq_ld, ha0.read_unread, ha1.read_unread, ha2.read_unread, ha3.read_unread, ha4.read_unread, ha5.read_unread, hsc.read_unread,
    View.ld_unit_zero (S := S1x512x704) hz3, View.ld_unit_zero (S := S1x704x2048) hz3, View.ld_unit_zero (S := S512x2048) hz2,
    View.ld_unit_zero (S := S1x2048) hz2]

/-- The last step writes the residual output from what it leaves in the scratch. -/
theorem last_out (hc0 : ¬cond0_0 i) (hc1 : cond0_1 i) (hc2 : cond0_2 i) :
    out0_C_6 (F := Ideal) c i a0 ha0 a1 ha1 a2 ha2 a3 ha3 a4 ha4 a5 ha5 a6 ha6 a7 ha7 sc hsc hc0 hc1 hc2 x0 x1 x2 x3 x4 x5 xs = k0_pay4 (k0_pay3 x0 x1 x2 x3 xs) x4 x5 := by
  unfold out0_C_6
  rw [View.read_writes_eq_canon _ _ _ (cover0_C_6 c i a0 ha0 a1 ha1 a2 ha2 a3 ha3 a4 ha4 a5 ha5 a6 ha6 a7 ha7 sc hsc hc0 hc1 hc2 x0 x1 x2 x3 x4 x5 xs)]
  unfold kernelRun0_C
  dsimp only
  sl_unfold_words
  rw [View.canon_unit_zero hz2]
  rw [View.readCov_unit_zero (S := S512x2048) _ hz2]
  simp only [View.readAt_eq_ld, ha0.read_unread, ha1.read_unread, ha2.read_unread, ha3.read_unread, ha4.read_unread, ha5.read_unread, hsc.read_unread,
    View.ld_unit_zero (S := S1x512x704) hz3, View.ld_unit_zero (S := S1x704x2048) hz3, View.ld_unit_zero (S := S512x2048) hz2,
    View.ld_unit_zero (S := S1x2048) hz2]

/-- It writes the scratch itself as the second output. -/
theorem last_y (hc0 : ¬cond0_0 i) (hc1 : cond0_1 i) (hc2 : cond0_2 i) :
    out0_C_7 (F := Ideal) c i a0 ha0 a1 ha1 a2 ha2 a3 ha3 a4 ha4 a5 ha5 a6 ha6 a7 ha7 sc hsc hc0 hc1 hc2 x0 x1 x2 x3 x4 x5 xs = k0_pay3 x0 x1 x2 x3 xs := by
  unfold out0_C_7
  rw [View.read_writes_eq_canon _ _ _ (cover0_C_7 c i a0 ha0 a1 ha1 a2 ha2 a3 ha3 a4 ha4 a5 ha5 a6 ha6 a7 ha7 sc hsc hc0 hc1 hc2 x0 x1 x2 x3 x4 x5 xs)]
  unfold kernelRun0_C
  dsimp only
  sl_unfold_words
  rw [View.canon_unit_zero hz2]
  rw [View.readCov_unit_zero (S := S512x2048) _ hz2]
  simp only [View.readAt_eq_ld, ha0.read_unread, ha1.read_unread, ha2.read_unread, ha3.read_unread, ha4.read_unread, ha5.read_unread, hsc.read_unread,
    View.ld_unit_zero (S := S1x512x704) hz3, View.ld_unit_zero (S := S1x704x2048) hz3, View.ld_unit_zero (S := S512x2048) hz2,
    View.ld_unit_zero (S := S1x2048) hz2]

end Terms

/-! ## What the scratch holds after each point -/

/-- One feed-forward column's share of the product, at row `p` and model column `k`. -/
def term (c : Dev nD) (p : Fin 8192) (k : Fin 2048) (f : Fin 5632) : EReal :=
  act (m ((c : Thread nD τ).loc main_arg0)) (m ((c : Thread nD τ).loc main_arg1)) (ix2 p f)
    * (m ((c : Thread nD τ).loc main_arg2) : Vec Ideal S5632x2048 .f32) (ix2 f k)

/-- The products that step `n` takes. -/
def part (c : Dev nD) (r : Fin 512) (k : Fin 2048) (n : ℕ) : EReal :=
  ∑ s : Fin 704, term m c (row n r) k (col (even n) s) + ∑ s : Fin 704, term m c (row n r) k (col (odd n) s)

theorem part_eq (c : Dev nD) (t : Fin cfg0.N) (r : Fin 512) (k : Fin 2048) :
    prod (iblk m c 0 t) (iblk m c 1 t) r k + prod (iblk m c 2 t) (iblk m c 3 t) r k = part m c r k t.val := by
  unfold prod part term
  refine congrArg₂ (fun a b : EReal => a + b) (Finset.sum_congr rfl fun s _ => ?_) (Finset.sum_congr rfl fun s _ => ?_)
  · rw [iblk0, iblk1]
  · rw [iblk2, iblk3]

/-- After point `n` the scratch holds the sum of its row block's products up to `n`. -/
theorem scratch (c : Dev nD) (r : Fin 512) (k : Fin 2048) (n : ℕ) (hn : n < cfg0.N) :
    ((outsAt0 m c n hn).2.2 (ix2 r k) : EReal) = ∑ j ∈ Finset.range (n % 4 + 1), part m c r k (4 * (n / 4) + j) := by
  refine chain (fun n hn => ((outsAt0 m c n hn).2.2 (ix2 r k) : EReal)) (part m c r k) ?_ ?_ n hn
  · intro n h hn
    have e := outsAt0_A m c ⟨n, h⟩ hn (by show ¬1 ≤ n % 4; omega) (by show ¬n % 4 = 3; omega)
    show ((outsAt0 m c n h).2.2 (ix2 r k) : EReal) = _
    rw [show outsAt0 m c n h = _ from e]
    dsimp only
    rw [first, pay2]
    exact part_eq m c ⟨n, h⟩ r k
  · intro n h hn
    show ((outsAt0 m c n h).2.2 (ix2 r k) : EReal) = _
    by_cases h3 : n % 4 = 3
    · have e := outsAt0_C m c ⟨n, h⟩ hn (by show 1 ≤ n % 4; omega) h3
      rw [show outsAt0 m c n h = _ from e]
      dsimp only
      rw [last_acc, pay3]
      exact congrArg _ (part_eq m c ⟨n, h⟩ r k)
    · have e := outsAt0_B m c ⟨n, h⟩ hn (by show 1 ≤ n % 4; omega) h3
      rw [show outsAt0 m c n h = _ from e]
      dsimp only
      rw [middle, pay3]
      exact congrArg _ (part_eq m c ⟨n, h⟩ r k)

/-- The product as a function of the launched arguments. -/
def GY (c : Dev nD) : Vec Ideal S8192x2048 .f32 :=
  down (m ((c : Thread nD τ).loc main_arg0)) (m ((c : Thread nD τ).loc main_arg1)) (m ((c : Thread nD τ).loc main_arg2))

/-- The layer's output as a function of the launched arguments. -/
def GO (c : Dev nD) : Vec Ideal S8192x2048 .f32 :=
  outp (GY m c) (m ((c : Thread nD τ).loc main_arg3)) (m ((c : Thread nD τ).loc main_arg4))

/-- The four steps of a row block are the sum over all feed-forward columns. -/
theorem total (c : Dev nD) (r : Fin 512) (k : Fin 2048) (n : ℕ) (h : n % 4 = 3) :
    (∑ j ∈ Finset.range (n % 4 + 1), part m c r k (4 * (n / 4) + j)) = GY m c (ix2 (row n r) k : S8192x2048.Idx) := by
  rw [h]
  refine (Finset.sum_congr rfl fun j hj => ?_).trans (sum_pairs (term m c (row n r) k) (n / 4))
  have hj' : j < 4 := Finset.mem_range.mp hj
  have e : row (4 * (n / 4) + j) r = row n r := Fin.ext (by show (4 * (n / 4) + j) / 4 % 16 * 512 + r.val = n / 4 % 16 * 512 + r.val; omega)
  unfold part
  rw [e]

/-! ## The results -/

/-- What the last step of a row block leaves in the scratch is its rows of the product. -/
theorem acc_eq (c : Dev nD) (t : Fin cfg0.N) (h3 : t.val % 4 = 3) (r : Fin 512) (k : Fin 2048) :
    (k0_pay3 (F := Ideal) (iblk m c 0 t) (iblk m c 1 t) (iblk m c 2 t) (iblk m c 3 t)
      (outsAt0 m c (t.val - 1) (Nat.lt_of_le_of_lt (Nat.sub_le _ _) t.isLt)).2.2 (ix2 r k) : EReal)
    = GY m c (ix2 (row t.val r) k : S8192x2048.Idx) := by
  have e := scratch m c r k t.val t.isLt
  rw [outsAt0_C m c t (by omega) (by omega) h3] at e
  dsimp only at e
  rw [last_acc] at e
  rw [e, total m c r k t.val h3]

/-- What a row block's last point writes back of the first output is its block of `GO`. -/
theorem flushed6_eq (c : Dev nD) (t : Fin cfg0.N) (hf : (cfg0.win 6).flush t = true) :
    (dats m 0 c).flushed 6 t = ((cfg0.win 6).blk t).view.read (Elt Ideal) (GO m c) := by
  have h3 : t.val % 4 = 3 := (flush0_6 t).mp hf
  rw [Value.flushed6_C m c t (by omega) (by omega) h3]
  funext y
  obtain ⟨r, k, rfl⟩ := idx2_eq (a := 512) (b := 2048) y
  rw [last_out]
  show k0_pay4 (F := Ideal) (k0_pay3 (iblk m c 0 t) (iblk m c 1 t) (iblk m c 2 t) (iblk m c 3 t) _) (iblk m c 4 t) (iblk m c 5 t) (ix2 r k)
    = GO m c (((cfg0.win 6).blk t).view.emb (ix2 r k : S512x2048.Idx))
  rw [emb6, pay4, iblk4, iblk5]
  simp only [acc_eq m c t h3]
  rfl

/-- What a row block's last point writes back of the second output is its block of `GY`. -/
theorem flushed7_eq (c : Dev nD) (t : Fin cfg0.N) (hf : (cfg0.win 7).flush t = true) :
    (dats m 0 c).flushed 7 t = ((cfg0.win 7).blk t).view.read (Elt Ideal) (GY m c) := by
  have h3 : t.val % 4 = 3 := (flush0_7 t).mp hf
  rw [Value.flushed7_C m c t (by omega) (by omega) h3]
  funext y
  obtain ⟨r, k, rfl⟩ := idx2_eq (a := 512) (b := 2048) y
  rw [last_y]
  show k0_pay3 (F := Ideal) (iblk m c 0 t) (iblk m c 1 t) (iblk m c 2 t) (iblk m c 3 t) _ (ix2 r k)
    = GY m c (((cfg0.win 7).blk t).view.emb (ix2 r k : S512x2048.Idx))
  rw [emb7]
  exact acc_eq m c t h3 r k

/-! Every index lies in the block that its row block's last point writes back. -/

theorem covered6 (i : S8192x2048.Idx) :
    ∃ t : Fin cfg0.N, (cfg0.win 6).flush t = true ∧ i ∈ ((cfg0.win 6).blk t).view.set := by
  have h0 : (i 0).val < 8192 := (i 0).isLt
  let t : Fin cfg0.N := ⟨(i 0).val / 512 * 4 + 3, by show _ < 64; omega⟩
  let r : Fin 512 := ⟨(i 0).val % 512, by omega⟩
  have e : i = (ix2 (row t.val r) (i 1) : S8192x2048.Idx) := by
    funext a; apply Fin.ext
    match a with
    | ⟨0, _⟩ => show (i 0).val = ((i 0).val / 512 * 4 + 3) / 4 % 16 * 512 + (i 0).val % 512; omega
    | ⟨1, _⟩ => rfl
  refine ⟨t, (flush0_6 t).mpr (by show ((i 0).val / 512 * 4 + 3) % 4 = 3; omega), ?_⟩
  rw [e, ← emb6 t r (i 1)]
  exact ((cfg0.win 6).blk t).view.emb_mem_set _

theorem covered7 (i : S8192x2048.Idx) :
    ∃ t : Fin cfg0.N, (cfg0.win 7).flush t = true ∧ i ∈ ((cfg0.win 7).blk t).view.set := by
  have h0 : (i 0).val < 8192 := (i 0).isLt
  let t : Fin cfg0.N := ⟨(i 0).val / 512 * 4 + 3, by show _ < 64; omega⟩
  let r : Fin 512 := ⟨(i 0).val % 512, by omega⟩
  have e : i = (ix2 (row t.val r) (i 1) : S8192x2048.Idx) := by
    funext a; apply Fin.ext
    match a with
    | ⟨0, _⟩ => show (i 0).val = ((i 0).val / 512 * 4 + 3) / 4 % 16 * 512 + (i 0).val % 512; omega
    | ⟨1, _⟩ => rfl
  refine ⟨t, (flush0_7 t).mpr (by show ((i 0).val / 512 * 4 + 3) % 4 = 3; omega), ?_⟩
  rw [e, ← emb7 t r (i 1)]
  exact ((cfg0.win 7).blk t).view.emb_mem_set _

/-- The run with the two results at their functions of the arguments. -/
theorem run : θ_run defs (onTc (τ := τ) (main (F := Ideal))) ⟨m, fun _ => 0, ρ⟩ fun r => ∀ c : Dev nD,
      r.2.mem ((c : Thread nD τ).loc main_v8_0) = GO m c
      ∧ r.2.mem ((c : Thread nD τ).loc main_v8_1) = GY m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨(h c).1.trans ((dats m 0 c).arrAt_eq_of_cover 6 (GO m c) (fun t hf => flushed6_eq m c t hf) covered6),
      (h c).2.1.trans ((dats m 0 c).arrAt_eq_of_cover 7 (GY m c) (fun t hf => flushed7_eq m c t hf) covered7), (h c).2.2⟩)
    (Value.run_blocks m ρ)

end Cert.Proof.Back

end
-- ==== Proof.BackRef.lean ====
/- The second half of the feed-forward layer: the reference's two results index by index, and their equality with the
   kernel's. -/
module

public import proofs.«01_k».proof.Proof.Back
public import proofs.«01_k».proof.Proof.Gen.Reference7Ideal.Run
public import proofs.«01_k».proof.Proof.Gen.Reference7Ideal.Read
public import proofs.«01_k».proof.Defs

@[expose] public section

set_option maxRecDepth 16384

noncomputable section

namespace Cert.Proof.Back

open Idealize.ShloMosaic Idealize.ShloMosaic.TcCoe Idealize.SL.Sem
open Cert.Reference7Ideal Cert.Reference7Ideal.Gen Cert.Reference7Ideal.Value
open Cert.Proof.Pieces

variable (x0 x1 : Vec Ideal S8192x5632 .f32) (x2 : Vec Ideal S5632x2048 .f32) (x3 : Vec Ideal S8192x2048 .f32) (x4 : Vec Ideal S2048 .f32)

/-- The reference's activation is the one that the kernel is handed. -/
theorem ref_act : Read.val_main_v1 (F := Ideal) x0 x1 = act x0 x1 := rfl

/-- The reference's product is the kernel's. -/
theorem ref_down : Read.val_main_v2 (F := Ideal) x0 x1 x2 = down x0 x1 x2 := by
  funext i
  obtain ⟨r, k, rfl⟩ := idx2_eq (a := 8192) (b := 2048) i
  rw [Read.val_main_v2_apply]
  refine Finset.sum_congr rfl fun f _ => ?_
  have e0 : Read.lidx_main_v2 (ix2 r k) f = ix2 r f := by
    funext a; match a with | ⟨0, _⟩ => rfl | ⟨1, _⟩ => rfl
  have e1 : Read.ridx_main_v2 (ix2 r k) f = ix2 f k := by
    funext a; match a with | ⟨0, _⟩ => rfl | ⟨1, _⟩ => rfl
  rw [e0, e1, ref_act]
  rfl

/-- The reference's output is the kernel's. -/
theorem ref_out : Read.val_main_v18 (F := Ideal) x0 x1 x2 x3 x4 = outp (down x0 x1 x2) x3 x4 := by
  funext i
  obtain ⟨r, k, rfl⟩ := idx2_eq (a := 8192) (b := 2048) i
  unfold Read.val_main_v18 Read.val_main_v17 Read.val_main_v16 Read.val_main_v15 Read.val_main_v14 Read.val_main_v13
    Read.val_main_v12 Read.val_main_v11 Read.val_main_v10 Read.val_main_v9 Read.val_main_v8 Read.val_main_v7 Read.val_main_v6
    Read.val_main_v5 Read.val_main_v4 Read.val_main_v3 Read.val_main_cst Read.val_main_cst_0 Read.val_main_cst_1 Read.val_main_cst_2
  rw [ref_down]
  generalize down x0 x1 x2 = y
  unfold outp post
  pointwise

/-- The layer's second half by the kernel and by the reference: equal results on equal arguments, the arguments kept. -/
theorem algebraic : Cert.algebraic_Kernel7Ideal_Reference7Ideal := by
  intro m g m' g' _ hargs
  refine ⟨fun c => GO m c, fun c => GY m c, run m g, ?_⟩
  refine (θ_run _ _ _).mono (fun r h c => ?_) (Cert.Reference7Ideal.Value.run m' g')
  obtain ⟨e1, e2, ek⟩ := h c
  obtain ⟨a0, a1, a2, a3, a4⟩ := hargs c
  refine ⟨e1.trans ?_, e2.trans ?_, ek⟩
  · rw [a0, a1, a2, a3, a4, Read.val_main_v18_eq]
    exact ref_out _ _ _ _ _
  · rw [a0, a1, a2, Read.val_main_v2_eq]
    exact ref_down _ _ _

end Cert.Proof.Back

end
-- ==== Proof.MixProj.lean ====
/- The mixing layer's input projection as the kernel `mix_proj` leaves it (at `Ideal`): for every block of 1024 rows and 1408
   columns the product of the normed input with the weight, in one step. -/
module

public import proofs.«01_k».proof.Proof.Gen.Kernel8Ideal.Value
public import proofs.«01_k».proof.Proof.Pieces
public import proofs.«01_k».proof.Proof.Wide

@[expose] public section

set_option maxRecDepth 16384

noncomputable section

namespace Cert.Proof.MixProj

open Cert.Kernel8Ideal Cert.Kernel8Ideal.Gen Idealize.ShloMosaic Idealize.ShloMosaic.TcCoe Idealize.SL.Sem
open Cert.Proof.Pieces

variable (m : (ℓ : Loc nD τ sig) → Buf (Elt Ideal) ℓ) (ρ : Dev nD → PrngReg)

theorem hz2 : (![0, 0] : Fin 2 → Nat) = fun _ => 0 := funext fun a => by fin_cases a <;> rfl

/-- Row `r` of the 1024 rows, and column `s` of the 1408 columns, that step `n` works on. -/
def row (n : ℕ) (r : Fin 1024) : Fin 8192 := ⟨n % 8 * 1024 + r.val, by omega⟩
def colp (n : ℕ) (s : Fin 1408) : Fin 4224 := ⟨n / 8 % 3 * 1408 + s.val, by omega⟩

/-- The projection. -/
def total (x : Vec Ideal S8192x2048 .f32) (g : Vec Ideal S2048 .f32) (w : Vec Ideal S2048x4224 .f32) : Vec Ideal S8192x4224 .f32 := fun i =>
  (∑ k : Fin 2048, Wide.normed x g (ix2 (i 0) k) * w (ix2 k (i 1)) : EReal)

/-! ## What the host lines hand to the call -/

theorem entry_a (c : Dev nD) : (V m c main_v13 : Vec Ideal S8192x2048 .bf16)
    = fun i => Wide.normed (m ((c : Thread nD τ).loc main_arg0)) (m ((c : Thread nD τ).loc main_arg1)) i := by
  have h : @Eq (Vec Ideal S8192x2048 .bf16) (V m c main_v13) (truncf (F := Ideal) .bf16 (Wide.normed (m ((c : Thread nD τ).loc main_arg0)) (m ((c : Thread nD τ).loc main_arg1)) : FVec Ideal S8192x2048 .f32) bitsLt_bf16_f32) := by
    unfold Wide.normed; unfold_abbrev_sides; after_results
  rw [h]
  rfl

theorem entry_b (c : Dev nD) (i : Fin 2048) (j : Fin 4224) : (V m c main_v14 : Vec Ideal S2048x4224 .bf16) (ix2 i j)
    = ((m ((c : Thread nD τ).loc main_arg2)) : Vec Ideal S2048x4224 .f32) (ix2 i j) := by
  have h : @Eq (Vec Ideal S2048x4224 .bf16) (V m c main_v14) (truncf (F := Ideal) .bf16 ((m ((c : Thread nD τ).loc main_arg2)) : FVec Ideal S2048x4224 .f32) bitsLt_bf16_f32) := by
    unfold_abbrev_sides; after_results
  rw [h]
  rfl

/-! ## Where a block's element lies in its array -/

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val / 8 % 3 :=
  (by decide +kernel : ∀ t : Fin grid0.N, _)
theorem idx2 : ∀ t : Fin cfg0.N, win0_2.index t (0 : Fin 2) = t.val % 8 ∧ win0_2.index t (1 : Fin 2) = t.val / 8 % 3 :=
  (by decide +kernel : ∀ t : Fin grid0.N, _)

theorem emb0 (t : Fin cfg0.N) (r : Fin 1024) (k : Fin 2048) :
    ((cfg0.win 0).blk t).view.emb (ix2 r k : S1024x2048.Idx) = (ix2 (row t.val r) k : S8192x2048.Idx) := by
  obtain ⟨e0, e1⟩ := idx0 t
  funext a; apply Fin.ext
  match a with
  | ⟨0, _⟩ => show win0_0.index t (0 : Fin 2) * 1024 + 1 * r.val = t.val % 8 * 1024 + r.val; omega
  | ⟨1, _⟩ => show win0_0.index t (1 : Fin 2) * 2048 + 1 * k.val = k.val; omega

theorem emb1 (t : Fin cfg0.N) (k : Fin 2048) (s : Fin 1408) :
    ((cfg0.win 1).blk t).view.emb (ix2 k s : S2048x1408.Idx) = (ix2 k (colp t.val s) : S2048x4224.Idx) := by
  obtain ⟨e0, e1⟩ := idx1 t
  funext a; apply Fin.ext
  match a with
  | ⟨0, _⟩ => show win0_1.index t (0 : Fin 2) * 2048 + 1 * k.val = k.val; omega
  | ⟨1, _⟩ => show win0_1.index t (1 : Fin 2) * 1408 + 1 * s.val = t.val / 8 % 3 * 1408 + s.val; omega

theorem emb2 (t : Fin cfg0.N) (r : Fin 1024) (s : Fin 1408) :
    ((cfg0.win 2).blk t).view.emb (ix2 r s : S1024x1408.Idx) = (ix2 (row t.val r) (colp t.val s) : S8192x4224.Idx) := by
  obtain ⟨e0, e1⟩ := idx2 t
  funext a; apply Fin.ext
  match a with
  | ⟨0, _⟩ => show win0_2.index t (0 : Fin 2) * 1024 + 1 * r.val = t.val % 8 * 1024 + r.val; omega
  | ⟨1, _⟩ => show win0_2.index t (1 : Fin 2) * 1408 + 1 * s.val = t.val / 8 % 3 * 1408 + s.val; omega

theorem iblk0 (c : Dev nD) (t : Fin cfg0.N) (r : Fin 1024) (k : Fin 2048) : (iblk m c 0 t : Vec Ideal S1024x2048 .bf16) (ix2 r k)
    = Wide.normed (m ((c : Thread nD τ).loc main_arg0)) (m ((c : Thread nD τ).loc main_arg1)) (ix2 (row t.val r) k) := by
  show (V m c main_v13 : Vec Ideal S8192x2048 .bf16) (((cfg0.win 0).blk t).view.emb (ix2 r k : S1024x2048.Idx)) = _
  rw [emb0, entry_a]

theorem iblk1 (c : Dev nD) (t : Fin cfg0.N) (k : Fin 2048) (s : Fin 1408) : (iblk m c 1 t : Vec Ideal S2048x1408 .bf16) (ix2 k s)
    = ((m ((c : Thread nD τ).loc main_arg2)) : Vec Ideal S2048x4224 .f32) (ix2 k (colp t.val s)) := by
  show (V m c main_v14 : Vec Ideal S2048x4224 .bf16) (((cfg0.win 1).blk t).view.emb (ix2 k s : S2048x1408.Idx)) = _
  rw [emb1, entry_b]

/-! ## The body's store -/

/-- A step stores the product of its two blocks. -/
theorem pay1 (x0 : Vec Ideal S1024x2048 .bf16) (x1 : Vec Ideal S2048x1408 .bf16) (r : Fin 1024) (s : Fin 1408) :
    k0_pay1 (F := Ideal) x0 x1 (ix2 r s) = (∑ k : Fin 2048, x0 (ix2 r k) * x1 (ix2 k s) : EReal) := by
  unfold_payloads
  pointwise

/-- What a step leaves in its output block. -/
theorem out_eq (x0 : Vec Ideal S1024x2048 .bf16) (x1 : Vec Ideal S2048x1408 .bf16) :
    out0_2 (F := Ideal) x0 x1 = k0_pay1 x0 x1 := by
  unfold out0_2 r0_0 r0_1 r0_2
  rw [View.canon_unit_zero hz2, View.ld_unit_zero (S := S1024x2048) hz2, View.ld_unit_zero (S := S2048x1408) hz2]

/-! ## The result -/

/-- The result as a function of the launched arguments. -/
def G (c : Dev nD) : Vec Ideal S8192x4224 .f32 :=
  total (m ((c : Thread nD τ).loc main_arg0)) (m ((c : Thread nD τ).loc main_arg1)) (m ((c : Thread nD τ).loc main_arg2))

/-- What a point writes back is its block of `G`. -/
theorem flushed_eq (c : Dev nD) (t : Fin cfg0.N) :
    (dats m 0 c).flushed 2 t = ((cfg0.win 2).blk t).view.read (Elt Ideal) (G m c) := by
  rw [Value.flushed2 m c t]
  funext y
  obtain ⟨r, s, rfl⟩ := idx2_eq (a := 1024) (b := 1408) y
  rw [out_eq]
  show k0_pay1 (F := Ideal) (iblk m c 0 t) (iblk m c 1 t) (ix2 r s)
    = G m c (((cfg0.win 2).blk t).view.emb (ix2 r s : S1024x1408.Idx))
  rw [emb2, pay1]
  simp only [iblk0, iblk1]
  rfl

/-- Every index lies in the block that its point writes back. -/
theorem covered (i : S8192x4224.Idx) :
    ∃ t : Fin cfg0.N, (cfg0.win 2).flush t = true ∧ i ∈ ((cfg0.win 2).blk t).view.set := by
  have h0 : (i 0).val < 8192 := (i 0).isLt
  have h1 : (i 1).val < 4224 := (i 1).isLt
  let t : Fin cfg0.N := ⟨(i 1).val / 1408 * 8 + (i 0).val / 1024, by show _ < 24; omega⟩
  have e : i = (ix2 (row t.val ⟨(i 0).val % 1024, by omega⟩) (colp t.val ⟨(i 1).val % 1408, by omega⟩) : S8192x4224.Idx) := by
    funext a; apply Fin.ext
    match a with
    | ⟨0, _⟩ => show (i 0).val = ((i 1).val / 1408 * 8 + (i 0).val / 1024) % 8 * 1024 + (i 0).val % 1024; omega
    | ⟨1, _⟩ => show (i 1).val = ((i 1).val / 1408 * 8 + (i 0).val / 1024) / 8 % 3 * 1408 + (i 1).val % 1408; omega
  refine ⟨t, flush0_2 t, ?_⟩
  rw [e, ← emb2 t ⟨(i 0).val % 1024, by omega⟩ ⟨(i 1).val % 1408, by omega⟩]
  exact ((cfg0.win 2).blk t).view.emb_mem_set _

/-- The run with the result at its function of the arguments. -/
theorem run : θ_run defs (onTc (τ := τ) (main (F := Ideal))) ⟨m, fun _ => 0, ρ⟩ fun r => ∀ c : Dev nD,
      r.2.mem ((c : Thread nD τ).loc main_v15) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(h c).1.trans ((dats m 0 c).arrAt_eq_of_cover 2 (G m c) (fun t _ => flushed_eq m c t) covered), (h c).2⟩)
    (Value.run_blocks m ρ)

end Cert.Proof.MixProj

end
-- ==== Proof.MixProjRef.lean ====
/- The mixing layer's input projection: the reference's result index by index, and its equality with the kernel's. -/
module

public import proofs.«01_k».proof.Proof.MixProj
public import proofs.«01_k».proof.Proof.Gen.Reference8Ideal.Run
public import proofs.«01_k».proof.Proof.Gen.Reference8Ideal.Read
public import proofs.«01_k».proof.Defs

@[expose] public section

set_option maxRecDepth 16384

noncomputable section

namespace Cert.Proof.MixProj

open Idealize.ShloMosaic Idealize.ShloMosaic.TcCoe Idealize.SL.Sem
open Cert.Reference8Ideal Cert.Reference8Ideal.Gen Cert.Reference8Ideal.Value

/-- The reference's normed input is the one that the kernel is handed. -/
theorem ref_normed (x0 : Vec Ideal S8192x2048 .f32) (x1 : Vec Ideal S2048 .f32) :
    Read.val_main_v12 (F := Ideal) x0 x1 = Wide.normed x0 x1 := rfl

/-- The reference's projection is the kernel's. -/
theorem ref_eq (x0 : Vec Ideal S8192x2048 .f32) (x1 : Vec Ideal S2048 .f32) (x2 : Vec Ideal S2048x4224 .f32) :
    Read.val_main_v13 (F := Ideal) x0 x1 x2 = total x0 x1 x2 := by
  funext i
  obtain ⟨u, v, rfl⟩ := Pieces.idx2_eq (a := 8192) (b := 4224) i
  rw [Read.val_main_v13_apply]
  refine Finset.sum_congr rfl fun k _ => ?_
  have e0 : Read.lidx_main_v13 (ix2 u v) k = ix2 u k := by
    funext a; match a with | ⟨0, _⟩ => rfl | ⟨1, _⟩ => rfl
  have e1 : Read.ridx_main_v13 (ix2 u v) k = ix2 k v := by
    funext a; match a with | ⟨0, _⟩ => rfl | ⟨1, _⟩ => rfl
  rw [e0, e1, ref_normed]
  rfl

/-- The kernel and the reference end with equal results, at the reals with their infinities. -/
theorem algebraic : Cert.algebraic_Kernel8Ideal_Reference8Ideal := by
  intro m g m' g' _ hargs
  refine ⟨fun c => G m c, run m g, ?_⟩
  refine (θ_run _ _ _).mono (fun r h c => ?_) (Cert.Reference8Ideal.Value.run m' g')
  obtain ⟨e, ek⟩ := h c
  obtain ⟨a0, a1, a2⟩ := hargs c
  refine ⟨e.trans ?_, ek⟩
  rw [a0, a1, a2, Read.val_main_v13_eq]
  exact ref_eq _ _ _

end Cert.Proof.MixProj

end
-- ==== Proof.Steps.lean ====
/- Sums taken in steps, for any number of steps: how the partial sums add up, and that the steps together run over the whole
   axis. -/
module

public import Idealize.ShloMosaic.Lib.Pointwise

@[expose] public section

namespace Cert.Proof.Steps

/-- A value that is set at every `p`-th step and added to at the others is the sum over the steps since it was set. -/
theorem chain {N : ℕ} (p : ℕ) (hp : 0 < p) (a : (n : ℕ) → n < N → EReal) (M : ℕ → EReal)
    (h0 : ∀ n h, n % p = 0 → a n h = M n)
    (hs : ∀ n (h : n < N), n % p ≠ 0 → a n h = a (n - 1) (by omega) + M n) :
    ∀ n h, a n h = ∑ j ∈ Finset.range (n % p + 1), M (p * (n / p) + j) := by
  have key : ∀ q r, r < p → ∀ h : p * q + r < N, a (p * q + r) h = ∑ j ∈ Finset.range (r + 1), M (p * q + j) := by
    intro q r
    induction r with
    | zero =>
      intro _ h
      rw [h0 _ h (by simp), Finset.sum_range_one]
    | succ r ih =>
      intro hr h
      have e : (p * q + (r + 1)) % p = r + 1 := by rw [Nat.mul_add_mod, Nat.mod_eq_of_lt hr]
      rw [hs _ h (by omega), Finset.sum_range_succ]
      exact congrArg (· + _) (ih (by omega) (by omega))
  intro n h
  have e : p * (n / p) + n % p = n := Nat.div_add_mod n p
  have k := key (n / p) (n % p) (Nat.mod_lt n hp) (by omega)
  rw [← k]
  congr 1
  exact e.symm

/-- `p` steps of `b` elements each, the step `j` of a round at the elements from `j * b` on, run over all `N = p * b`. -/
theorem sum_steps {N : ℕ} (p b : ℕ) (hN : N = p * b) (f : Fin N → EReal) (e : ℕ → Fin b → Fin N) (q : ℕ)
    (he : ∀ j, j < p → ∀ r : Fin b, (e (p * q + j) r).val = r.val + b * j) :
    ∑ j ∈ Finset.range p, ∑ r : Fin b, f (e (p * q + j) r) = ∑ i : Fin N, f i := by
  subst hN
  rw [Finset.sum_range, ← Equiv.sum_comp (finProdFinEquiv (m := p) (n := b)), Fintype.sum_prod_type]
  exact Finset.sum_congr rfl fun j _ => Finset.sum_congr rfl fun r _ => congrArg f (Fin.ext (he j.val j.isLt r))

end Cert.Proof.Steps

end
-- ==== Proof.MixInput.lean ====
/- The gradient of the mixing layer's normed input as the kernel `mix_dh` leaves it (at `Ideal`): for every block of 1024 rows the
   product of the derivative of the projection with the transposed weight, summed over the 4224 columns in three steps in a
   scratch buffer and written back after the third. -/
module

public import proofs.«01_k».proof.Proof.Gen.Kernel9Ideal.Value
public import proofs.«01_k».proof.Proof.Steps

@[expose] public section

set_option maxRecDepth 16384

noncomputable section

namespace Cert.Proof.MixInput

open Cert.Kernel9Ideal Cert.Kernel9Ideal.Gen Idealize.ShloMosaic Idealize.ShloMosaic.TcCoe Idealize.SL.Sem Cert.Proof.Steps

variable (m : (ℓ : Loc nD τ sig) → Buf (Elt Ideal) ℓ) (ρ : Dev nD → PrngReg)

theorem hz2 : (![0, 0] : Fin 2 → Nat) = fun _ => 0 := funext fun a => by fin_cases a <;> rfl

/-- The place in the summed axis of the `r`-th element that step `n` works on, and in the axis that the rounds of steps run over. -/
def stp (n : ℕ) (r : Fin 1408) : Fin 4224 := ⟨n % 3 * 1408 + r.val, by omega⟩
def outer (n : ℕ) (r : Fin 1024) : Fin 8192 := ⟨n / 3 % 8 * 1024 + r.val, by omega⟩

/-- The share of one place of the summed axis in the result at `(u, v)`. -/
def share (d : Vec Ideal S8192x4224 .f32) (w : Vec Ideal S2048x4224 .f32) (u : Fin 8192) (v : Fin 2048) (r : Fin 4224) : EReal :=
  d (ix2 u r) * w (ix2 v r)

/-- The gradient of the normed input. -/
def total (d : Vec Ideal S8192x4224 .f32) (w : Vec Ideal S2048x4224 .f32) : Vec Ideal S8192x2048 .f32 := fun i => (∑ r : Fin 4224, share d w (i 0) (i 1) r : EReal)

/-! ## What the host lines hand to the call -/

theorem entry_a (c : Dev nD) (i : Fin 8192) (j : Fin 4224) : (V m c main_v0 : Vec Ideal S8192x4224 .bf16) (ix2 i j)
    = ((m ((c : Thread nD τ).loc main_arg0)) : Vec Ideal S8192x4224 .f32) (ix2 i j) := by
  have h : @Eq (Vec Ideal S8192x4224 .bf16) (V m c main_v0) (truncf (F := Ideal) .bf16 ((m ((c : Thread nD τ).loc main_arg0)) : FVec Ideal S8192x4224 .f32) bitsLt_bf16_f32) := by
    unfold_abbrev_sides; after_results
  rw [h]
  rfl

theorem entry_b (c : Dev nD) (i : Fin 2048) (j : Fin 4224) : (V m c main_v1 : Vec Ideal S2048x4224 .bf16) (ix2 i j)
    = ((m ((c : Thread nD τ).loc main_arg1)) : Vec Ideal S2048x4224 .f32) (ix2 i j) := by
  have h : @Eq (Vec Ideal S2048x4224 .bf16) (V m c main_v1) (truncf (F := Ideal) .bf16 ((m ((c : Thread nD τ).loc main_arg1)) : FVec Ideal S2048x4224 .f32) bitsLt_bf16_f32) := by
    unfold_abbrev_sides; after_results
  rw [h]
  rfl

/-! ## Where a block's element lies in its array -/

theorem idx0 : ∀ t : Fin cfg0.N, win0_0.index t (0 : Fin 2) = t.val / 3 % 8 ∧ win0_0.index t (1 : Fin 2) = t.val % 3 :=
  (by decide +kernel : ∀ t : Fin grid0.N, _)
theorem idx1 : ∀ t : Fin cfg0.N, win0_1.index t (0 : Fin 2) = 0 ∧ win0_1.index t (1 : Fin 2) = t.val % 3 :=
  (by decide +kernel : ∀ t : Fin grid0.N, _)
theorem idx2 : ∀ t : Fin cfg0.N, win0_2.index t (0 : Fin 2) = t.val / 3 % 8 ∧ win0_2.index t (1 : Fin 2) = 0 :=
  (by decide +kernel : ∀ t : Fin grid0.N, _)

theorem emb0 (t : Fin cfg0.N) (u : Fin 1024) (v : Fin 1408) :
    ((cfg0.win 0).blk t).view.emb (ix2 u v : S1024x1408.Idx) = (ix2 (outer t.val u) (stp t.val v) : S8192x4224.Idx) := by
  obtain ⟨e0, e1⟩ := idx0 t
  funext a; apply Fin.ext
  match a with
  | ⟨0, _⟩ => show win0_0.index t (0 : Fin 2) * 1024 + 1 * u.val = t.val / 3 % 8 * 1024 + u.val; omega
  | ⟨1, _⟩ => show win0_0.index t (1 : Fin 2) * 1408 + 1 * v.val = t.val % 3 * 1408 + v.val; omega

theorem emb1 (t : Fin cfg0.N) (u : Fin 2048) (v : Fin 1408) :
    ((cfg0.win 1).blk t).view.emb (ix2 u v : S2048x1408.Idx) = (ix2 u (stp t.val v) : S2048x4224.Idx) := by
  obtain ⟨e0, e1⟩ := idx1 t
  funext a; apply Fin.ext
  match a with
  | ⟨0, _⟩ => show win0_1.index t (0 : Fin 2) * 2048 + 1 * u.val = u.val; omega
  | ⟨1, _⟩ => show win0_1.index t (1 : Fin 2) * 1408 + 1 * v.val = t.val % 3 * 1408 + v.val; omega

theorem emb2 (t : Fin cfg0.N) (u : Fin 1024) (v : Fin 2048) :
    ((cfg0.win 2).blk t).view.emb (ix2 u v : S1024x2048.Idx) = (ix2 (outer t.val u) v : S8192x2048.Idx) := by
  obtain ⟨e0, e1⟩ := idx2 t
  funext a; apply Fin.ext
  match a with
  | ⟨0, _⟩ => show win0_2.index t (0 : Fin 2) * 1024 + 1 * u.val = t.val / 3 % 8 * 1024 + u.val; omega
  | ⟨1, _⟩ => show win0_2.index t (1 : Fin 2) * 2048 + 1 * v.val = v.val; omega

theorem iblk0 (c : Dev nD) (t : Fin cfg0.N) (u : Fin 1024) (v : Fin 1408) : (iblk m c 0 t : Vec Ideal S1024x1408 .bf16) (ix2 u v)
    = ((m ((c : Thread nD τ).loc main_arg0)) : Vec Ideal S8192x4224 .f32) (ix2 (outer t.val u) (stp t.val v)) := by
  show (V m c main_v0 : Vec Ideal S8192x4224 .bf16) (((cfg0.win 0).blk t).view.emb (ix2 u v : S1024x1408.Idx)) = _
  rw [emb0, entry_a]

theorem iblk1 (c : Dev nD) (t : Fin cfg0.N) (u : Fin 2048) (v : Fin 1408) : (iblk m c 1 t : Vec Ideal S2048x1408 .bf16) (ix2 u v)
    = ((m ((c : Thread nD τ).loc main_arg1)) : Vec Ideal S2048x4224 .f32) (ix2 u (stp t.val v)) := by
  show (V m c main_v1 : Vec Ideal S2048x4224 .bf16) (((cfg0.win 1).blk t).view.emb (ix2 u v : S2048x1408.Idx)) = _
  rw [emb1, entry_b]

/-! ## The body's stores -/

/-- The product of the two blocks a step reads, at one index. -/
def prod (x0 : Vec Ideal S1024x1408 .bf16) (x1 : Vec Ideal S2048x1408 .bf16) (u : Fin 1024) (v : Fin 2048) : EReal :=
  ∑ r : Fin 1408, x0 (ix2 u r) * x1 (ix2 v r)

/-- The first step stores that product. -/
theorem pay2 (x0 : Vec Ideal S1024x1408 .bf16) (x1 : Vec Ideal S2048x1408 .bf16) (u : Fin 1024) (v : Fin 2048) :
    k0_pay2 (F := Ideal) x0 x1 (ix2 u v) = prod x0 x1 u v := by
  unfold prod
  unfold_payloads
  pointwise

/-- A later step adds its product to what the scratch holds. -/
theorem pay3 (x0 : Vec Ideal S1024x1408 .bf16) (x1 : Vec Ideal S2048x1408 .bf16) (xs : Vec Ideal S1024x2048 .f32) (u : Fin 1024) (v : Fin 2048) :
    k0_pay3 (F := Ideal) x0 x1 xs (ix2 u v) = (xs (ix2 u v) + prod x0 x1 u v : EReal) := by
  unfold prod
  unfold_payloads
  pointwise

section Terms
variable (c : Dev nD) (i : grid0.Coords) (a2 : Memref sig .tc .vmem S1024x1408 .bf16) (h2 : a2.IsWhole)
  (a3 : Memref sig .tc .vmem S2048x1408 .bf16) (h3 : a3.IsWhole) (a4 : Memref sig .tc .vmem S1024x2048 .f32) (h4 : a4.IsWhole)
  (a5 : Memref sig .tc .vmem S1024x2048 .f32) (h5 : a5.IsWhole)
  (x0 : Vec Ideal S1024x1408 .bf16) (x1 : Vec Ideal S2048x1408 .bf16) (xs : Vec Ideal S1024x2048 .f32)

/-- The first step of a round leaves its product in the scratch. -/
theorem first (hc0 : cond0_0 i) (hc1 : ¬cond0_1 i) (hc2 : ¬cond0_2 i) :
    sout0_A_0 (F := Ideal) c i a2 h2 a3 h3 a4 h4 a5 h5 hc0 hc1 hc2 x0 x1 = k0_pay2 x0 x1 := by
  unfold sout0_A_0
  rw [View.read_writes_eq_canon _ _ _ (scover0_A_0 c i a2 h2 a3 h3 a4 h4 a5 h5 hc0 hc1 hc2 x0 x1)]
  unfold kernelRun0_A
  dsimp only
  rw [View.canon_unit_zero hz2]
  simp only [View.readAt_eq_ld, h2.read_unread, h3.read_unread, View.ld_unit_zero (S := S1024x1408) hz2, View.ld_unit_zero (S := S2048x1408) hz2]

/-- A middle step leaves the scratch with its product added. -/
theorem middle (hc0 : ¬cond0_0 i) (hc1 : cond0_1 i) (hc2 : ¬cond0_2 i) :
    sout0_B_0 (F := Ideal) c i a2 h2 a3 h3 a4 h4 a5 h5 hc0 hc1 hc2 x0 x1 xs = k0_pay3 x0 x1 xs := by
  unfold sout0_B_0
  rw [View.read_writes_eq_canon _ _ _ (scover0_B_0 c i a2 h2 a3 h3 a4 h4 a5 h5 hc0 hc1 hc2 x0 x1 xs)]
  unfold kernelRun0_B
  dsimp only
  rw [View.canon_unit_zero hz2]
  simp only [View.readAt_eq_ld, h2.read_unread, h3.read_unread, h5.read_unread, View.ld_unit_zero (S := S1024x1408) hz2, View.ld_unit_zero (S := S2048x1408) hz2, View.ld_unit_zero (S := S1024x2048) hz2]

/-- So does the last step. -/
theorem last_acc (hc0 : ¬cond0_0 i) (hc1 : cond0_1 i) (hc2 : cond0_2 i) :
    sout0_C_0 (F := Ideal) c i a2 h2 a3 h3 a4 h4 a5 h5 hc0 hc1 hc2 x0 x1 xs = k0_pay3 x0 x1 xs := by
  unfold sout0_C_0
  rw [View.read_writes_eq_canon _ _ _ (scover0_C_0 c i a2 h2 a3 h3 a4 h4 a5 h5 hc0 hc1 hc2 x0 x1 xs)]
  unfold kernelRun0_C
  dsimp only
  sl_unfold_words
  rw [View.canon_unit_zero hz2]
  simp only [View.readAt_eq_ld, h2.read_unread, h3.read_unread, h5.read_unread, View.ld_unit_zero (S := S1024x1408) hz2, View.ld_unit_zero (S := S2048x1408) hz2, View.ld_unit_zero (S := S1024x2048) hz2]

/-- The last step's output block is what it leaves in the scratch. -/
theorem last_out (hc0 : ¬cond0_0 i) (hc1 : cond0_1 i) (hc2 : cond0_2 i) :
    out0_C_2 (F := Ideal) c i a2 h2 a3 h3 a4 h4 a5 h5 hc0 hc1 hc2 x0 x1 xs = k0_pay3 x0 x1 xs := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz2]
  rw [View.readCov_unit_zero (S := S1024x2048) _ hz2]
  simp only [View.readAt_eq_ld, h2.read_unread, h3.read_unread, h5.read_unread, View.ld_unit_zero (S := S1024x1408) hz2, View.ld_unit_zero (S := S2048x1408) hz2, View.ld_unit_zero (S := S1024x2048) hz2]

end Terms

/-! ## What the scratch holds after each point -/

/-- The same share, of the launched arguments. -/
def term (c : Dev nD) (u : Fin 8192) (v : Fin 2048) (r : Fin 4224) : EReal :=
  share (m ((c : Thread nD τ).loc main_arg0)) (m ((c : Thread nD τ).loc main_arg1)) u v r

/-- The product that step `n` takes. -/
def part (c : Dev nD) (u : Fin 1024) (v : Fin 2048) (n : ℕ) : EReal :=
  ∑ r : Fin 1408, term m c (outer n u) v (stp n r)

theorem part_eq (c : Dev nD) (t : Fin cfg0.N) (u : Fin 1024) (v : Fin 2048) :
    prod (iblk m c 0 t) (iblk m c 1 t) u v = part m c u v t.val := by
  unfold prod part term share
  refine Finset.sum_congr rfl fun r _ => ?_
  rw [iblk0, iblk1]

/-- After point `n` the scratch holds the sum of its round's products up to `n`. -/
theorem scratch (c : Dev nD) (u : Fin 1024) (v : Fin 2048) (n : ℕ) (hn : n < cfg0.N) :
    ((outsAt0 m c n hn).2 (ix2 u v) : EReal) = ∑ j ∈ Finset.range (n % 3 + 1), part m c u v (3 * (n / 3) + j) := by
  refine chain 3 (by norm_num) (fun n hn => ((outsAt0 m c n hn).2 (ix2 u v) : EReal)) (part m c u v) ?_ ?_ n hn
  · intro n h hn
    have e := outsAt0_A m c ⟨n, h⟩ hn (by show ¬1 ≤ n % 3; omega) (by show ¬n % 3 = 2; omega)
    show ((outsAt0 m c n h).2 (ix2 u v) : EReal) = _
    rw [show outsAt0 m c n h = _ from e]
    dsimp only
    rw [first, pay2]
    exact part_eq m c ⟨n, h⟩ u v
  · intro n h hn
    show ((outsAt0 m c n h).2 (ix2 u v) : EReal) = _
    by_cases h3 : n % 3 = 2
    · have e := outsAt0_C m c ⟨n, h⟩ hn (by show 1 ≤ n % 3; omega) h3
      rw [show outsAt0 m c n h = _ from e]
      dsimp only
      rw [last_acc, pay3]
      exact congrArg _ (part_eq m c ⟨n, h⟩ u v)
    · have e := outsAt0_B m c ⟨n, h⟩ hn (by show 1 ≤ n % 3; omega) h3
      rw [show outsAt0 m c n h = _ from e]
      dsimp only
      rw [middle, pay3]
      exact congrArg _ (part_eq m c ⟨n, h⟩ u v)

/-- The products of a round are the sum over the whole axis. -/
theorem round (c : Dev nD) (u : Fin 1024) (v : Fin 2048) (n : ℕ) (h : n % 3 = 2) :
    (∑ j ∈ Finset.range (n % 3 + 1), part m c u v (3 * (n / 3) + j))
    = total (m ((c : Thread nD τ).loc main_arg0)) (m ((c : Thread nD τ).loc main_arg1)) (ix2 (outer n u) v : S8192x2048.Idx) := by
  rw [h]
  refine (Finset.sum_congr rfl fun j hj => ?_).trans
    (sum_steps 3 1408 rfl (term m c (outer n u) v) stp (n / 3) fun j hj r => by
      show (3 * (n / 3) + j) % 3 * 1408 + r.val = r.val + 1408 * j; omega)
  have hj' : j < 3 := Finset.mem_range.mp hj
  have e : ∀ x, outer (3 * (n / 3) + j) x = outer n x := fun x => Fin.ext (by
    show (3 * (n / 3) + j) / 3 % 8 * 1024 + x.val = n / 3 % 8 * 1024 + x.val; omega)
  unfold part
  rw [e]

/-! ## The result -/

/-- The result as a function of the launched arguments. -/
def G (c : Dev nD) : Vec Ideal S8192x2048 .f32 := total (m ((c : Thread nD τ).loc main_arg0)) (m ((c : Thread nD τ).loc main_arg1))

/-- What a round's last point writes back is its block of `G`. -/
theorem flushed_eq (c : Dev nD) (t : Fin cfg0.N) (hf : (cfg0.win 2).flush t = true) :
    (dats m 0 c).flushed 2 t = ((cfg0.win 2).blk t).view.read (Elt Ideal) (G m c) := by
  have h3 : t.val % 3 = 2 := (flush0_2 t).mp hf
  rw [Value.flushed2_C m c t (by omega) (by omega) h3]
  funext y
  obtain ⟨u, v, rfl⟩ : ∃ (u : Fin 1024) (v : Fin 2048), y = (ix2 u v : S1024x2048.Idx) :=
    ⟨y 0, y 1, by funext a; match a with | ⟨0, _⟩ => rfl | ⟨1, _⟩ => rfl⟩
  rw [last_out]
  show k0_pay3 (F := Ideal) (iblk m c 0 t) (iblk m c 1 t) _ (ix2 u v)
    = G m c (((cfg0.win 2).blk t).view.emb (ix2 u v : S1024x2048.Idx))
  rw [emb2, pay3, part_eq]
  have e := scratch m c u v t.val t.isLt
  rw [outsAt0_C m c t (by omega) (by omega) h3] at e
  dsimp only at e
  rw [last_acc, pay3, part_eq] at e
  rw [e, round m c u v t.val h3]
  rfl

/-- Every index lies in the block that its round's last point writes back. -/
theorem covered (i : S8192x2048.Idx) :
    ∃ t : Fin cfg0.N, (cfg0.win 2).flush t = true ∧ i ∈ ((cfg0.win 2).blk t).view.set := by
  have h0 : (i 0).val < 8192 := (i 0).isLt
  let t : Fin cfg0.N := ⟨(i 0).val / 1024 * 3 + 2, by show _ < 24; omega⟩
  have e : i = (ix2 (outer t.val ⟨(i 0).val % 1024, by omega⟩) (i 1) : S8192x2048.Idx) := by
    funext a; apply Fin.ext
    match a with
    | ⟨0, _⟩ => show (i 0).val = ((i 0).val / 1024 * 3 + 2) / 3 % 8 * 1024 + (i 0).val % 1024; omega
    | ⟨1, _⟩ => rfl
  refine ⟨t, (flush0_2 t).mpr (by show ((i 0).val / 1024 * 3 + 2) % 3 = 2; omega), ?_⟩
  rw [e, ← emb2 t ⟨(i 0).val % 1024, by omega⟩ (i 1)]
  exact ((cfg0.win 2).blk t).view.emb_mem_set _

/-- The run with the result at its function of the arguments. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨(h c).1.trans ((dats m 0 c).arrAt_eq_of_cover 2 (G m c) (fun t hf => flushed_eq m c t hf) covered), (h c).2⟩)
    (Value.run_blocks m ρ)

end Cert.Proof.MixInput

end
-- ==== Proof.MixInputRef.lean ====
/- The gradient of the mixing layer's normed input: the reference's result index by index, and its equality with the kernel's. -/
module

public import proofs.«01_k».proof.Proof.MixInput
public import proofs.«01_k».proof.Proof.Gen.Reference9Ideal.Run
public import proofs.«01_k».proof.Proof.Gen.Reference9Ideal.Read
public import proofs.«01_k».proof.Defs

@[expose] public section

set_option maxRecDepth 16384

noncomputable section

namespace Cert.Proof.MixInput

open Idealize.ShloMosaic Idealize.ShloMosaic.TcCoe Idealize.SL.Sem
open Cert.Reference9Ideal Cert.Reference9Ideal.Gen Cert.Reference9Ideal.Value

/-- The reference's gradient is the kernel's. -/
theorem ref_eq (x0 : Vec Ideal S8192x4224 .f32) (x1 : Vec Ideal S2048x4224 .f32) :
    Read.val_main_v2 (F := Ideal) x0 x1 = total x0 x1 := by
  funext i
  obtain ⟨u, v, rfl⟩ : ∃ (u : Fin 8192) (v : Fin 2048), i = (ix2 u v : S8192x2048.Idx) :=
    ⟨i 0, i 1, by funext a; match a with | ⟨0, _⟩ => rfl | ⟨1, _⟩ => rfl⟩
  rw [Read.val_main_v2_apply]
  refine Finset.sum_congr rfl fun r _ => ?_
  have e0 : Read.lidx_main_v2 (ix2 u v) r = ix2 u r := by
    funext a; match a with | ⟨0, _⟩ => rfl | ⟨1, _⟩ => rfl
  have e1 : Read.ridx_main_v2 (ix2 u v) r = ix2 v r := by
    funext a; match a with | ⟨0, _⟩ => rfl | ⟨1, _⟩ => rfl
  rw [e0, e1]
  rfl

/-- The kernel and the reference end with equal results, at the reals with their infinities. -/
theorem algebraic : Cert.algebraic_Kernel9Ideal_Reference9Ideal := by
  intro m g m' g' _ hargs
  refine ⟨fun c => G m c, run m g, ?_⟩
  refine (θ_run _ _ _).mono (fun r h c => ?_) (Cert.Reference9Ideal.Value.run m' g')
  obtain ⟨e, ek⟩ := h c
  obtain ⟨a0, a1⟩ := hargs c
  refine ⟨e.trans ?_, ek⟩
  rw [a0, a1, Read.val_main_v2_eq]
  exact ref_eq _ _

end Cert.Proof.MixInput

end
-- ==== Proof.MixWeight.lean ====
/- The gradient of the mixing layer's input projection as the kernel `mix_dwin` leaves it (at `Ideal`): for every block of 1408
   columns the product of the normed input with the derivative of the projection, summed over the 8192 rows in eight steps in
   a scratch buffer and written back after the eighth. -/
module

public import proofs.«01_k».proof.Proof.Gen.Kernel10Ideal.Value
public import proofs.«01_k».proof.Proof.Steps
public import proofs.«01_k».proof.Proof.Wide

@[expose] public section

set_option maxRecDepth 16384

noncomputable section

namespace Cert.Proof.MixWeight

open Cert.Kernel10Ideal Cert.Kernel10Ideal.Gen Idealize.ShloMosaic Idealize.ShloMosaic.TcCoe Idealize.SL.Sem Cert.Proof.Steps

variable (m : (ℓ : Loc nD τ sig) → Buf (Elt Ideal) ℓ) (ρ : Dev nD → PrngReg)

theorem hz2 : (![0, 0] : Fin 2 → Nat) = fun _ => 0 := funext fun a => by fin_cases a <;> rfl

/-- The place in the summed axis of the `r`-th element that step `n` works on, and in the axis that the rounds of steps run over. -/
def stp (n : ℕ) (r : Fin 1024) : Fin 8192 := ⟨n % 8 * 1024 + r.val, by omega⟩
def outer (n : ℕ) (r : Fin 1408) : Fin 4224 := ⟨n / 8 % 3 * 1408 + r.val, by omega⟩

/-- The share of one place of the summed axis in the result at `(u, v)`. -/
def share (x : Vec Ideal S8192x2048 .f32) (g : Vec Ideal S2048 .f32) (d : Vec Ideal S8192x4224 .f32) (u : Fin 2048) (v : Fin 4224) (r : Fin 8192) : EReal :=
  Wide.normed x g (ix2 r u) * d (ix2 r v)

/-- The gradient of the projection. -/
def total (x : Vec Ideal S8192x2048 .f32) (g : Vec Ideal S2048 .f32) (d : Vec Ideal S8192x4224 .f32) : Vec Ideal S2048x4224 .bf16 := fun i => (∑ r : Fin 8192, share x g d (i 0) (i 1) r : EReal)

/-! ## What the host lines hand to the call -/

theorem entry_a (c : Dev nD) : (V m c main_v13 : Vec Ideal S8192x2048 .bf16)
    = fun i => Wide.normed (m ((c : Thread nD τ).loc main_arg0)) (m ((c : Thread nD τ).loc main_arg1)) i := by
  have h : @Eq (Vec Ideal S8192x2048 .bf16) (V m c main_v13) (truncf (F := Ideal) .bf16 (Wide.normed (m ((c : Thread nD τ).loc main_arg0)) (m ((c : Thread nD τ).loc main_arg1)) : FVec Ideal S8192x2048 .f32) bitsLt_bf16_f32) := by
    unfold Wide.normed; unfold_abbrev_sides; after_results
  rw [h]
  rfl

theorem entry_b (c : Dev nD) (i : Fin 8192) (j : Fin 4224) : (V m c main_v14 : Vec Ideal S8192x4224 .bf16) (ix2 i j)
    = ((m ((c : Thread nD τ).loc main_arg2)) : Vec Ideal S8192x4224 .f32) (ix2 i j) := by
  have h : @Eq (Vec Ideal S8192x4224 .bf16) (V m c main_v14) (truncf (F := Ideal) .bf16 ((m ((c : Thread nD τ).loc main_arg2)) : FVec Ideal S8192x4224 .f32) bitsLt_bf16_f32) := by
    unfold_abbrev_sides; after_results
  rw [h]
  rfl

/-! ## Where a block's element lies in its array -/

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 2) = t.val % 8 ∧ win0_1.index t (1 : Fin 2) = t.val / 8 % 3 :=
  (by decide +kernel : ∀ t : Fin grid0.N, _)
theorem idx2 : ∀ t : Fin cfg0.N, win0_2.index t (0 : Fin 2) = 0 ∧ win0_2.index t (1 : Fin 2) = t.val / 8 % 3 :=
  (by decide +kernel : ∀ t : Fin grid0.N, _)

theorem emb0 (t : Fin cfg0.N) (u : Fin 1024) (v : Fin 2048) :
    ((cfg0.win 0).blk t).view.emb (ix2 u v : S1024x2048.Idx) = (ix2 (stp t.val u) v : S8192x2048.Idx) := by
  obtain ⟨e0, e1⟩ := idx0 t
  funext a; apply Fin.ext
  match a with
  | ⟨0, _⟩ => show win0_0.index t (0 : Fin 2) * 1024 + 1 * u.val = t.val % 8 * 1024 + u.val; omega
  | ⟨1, _⟩ => show win0_0.index t (1 : Fin 2) * 2048 + 1 * v.val = v.val; omega

theorem emb1 (t : Fin cfg0.N) (u : Fin 1024) (v : Fin 1408) :
    ((cfg0.win 1).blk t).view.emb (ix2 u v : S1024x1408.Idx) = (ix2 (stp t.val u) (outer t.val v) : S8192x4224.Idx) := by
  obtain ⟨e0, e1⟩ := idx1 t
  funext a; apply Fin.ext
  match a with
  | ⟨0, _⟩ => show win0_1.index t (0 : Fin 2) * 1024 + 1 * u.val = t.val % 8 * 1024 + u.val; omega
  | ⟨1, _⟩ => show win0_1.index t (1 : Fin 2) * 1408 + 1 * v.val = t.val / 8 % 3 * 1408 + v.val; omega

theorem emb2 (t : Fin cfg0.N) (u : Fin 2048) (v : Fin 1408) :
    ((cfg0.win 2).blk t).view.emb (ix2 u v : S2048x1408.Idx) = (ix2 u (outer t.val v) : S2048x4224.Idx) := by
  obtain ⟨e0, e1⟩ := idx2 t
  funext a; apply Fin.ext
  match a with
  | ⟨0, _⟩ => show win0_2.index t (0 : Fin 2) * 2048 + 1 * u.val = u.val; omega
  | ⟨1, _⟩ => show win0_2.index t (1 : Fin 2) * 1408 + 1 * v.val = t.val / 8 % 3 * 1408 + v.val; omega

theorem iblk0 (c : Dev nD) (t : Fin cfg0.N) (u : Fin 1024) (v : Fin 2048) : (iblk m c 0 t : Vec Ideal S1024x2048 .bf16) (ix2 u v)
    = Wide.normed (m ((c : Thread nD τ).loc main_arg0)) (m ((c : Thread nD τ).loc main_arg1)) (ix2 (stp t.val u) v) := by
  show (V m c main_v13 : Vec Ideal S8192x2048 .bf16) (((cfg0.win 0).blk t).view.emb (ix2 u v : S1024x2048.Idx)) = _
  rw [emb0, entry_a]

theorem iblk1 (c : Dev nD) (t : Fin cfg0.N) (u : Fin 1024) (v : Fin 1408) : (iblk m c 1 t : Vec Ideal S1024x1408 .bf16) (ix2 u v)
    = ((m ((c : Thread nD τ).loc main_arg2)) : Vec Ideal S8192x4224 .f32) (ix2 (stp t.val u) (outer t.val v)) := by
  show (V m c main_v14 : Vec Ideal S8192x4224 .bf16) (((cfg0.win 1).blk t).view.emb (ix2 u v : S1024x1408.Idx)) = _
  rw [emb1, entry_b]

/-! ## The body's stores -/

/-- The product of the two blocks a step reads, at one index. -/
def prod (x0 : Vec Ideal S1024x2048 .bf16) (x1 : Vec Ideal S1024x1408 .bf16) (u : Fin 2048) (v : Fin 1408) : EReal :=
  ∑ r : Fin 1024, x0 (ix2 r u) * x1 (ix2 r v)

/-- The first step stores that product. -/
theorem pay2 (x0 : Vec Ideal S1024x2048 .bf16) (x1 : Vec Ideal S1024x1408 .bf16) (u : Fin 2048) (v : Fin 1408) :
    k0_pay2 (F := Ideal) x0 x1 (ix2 u v) = prod x0 x1 u v := by
  unfold prod
  unfold_payloads
  pointwise

/-- A later step adds its product to what the scratch holds. -/
theorem pay3 (x0 : Vec Ideal S1024x2048 .bf16) (x1 : Vec Ideal S1024x1408 .bf16) (xs : Vec Ideal S2048x1408 .f32) (u : Fin 2048) (v : Fin 1408) :
    k0_pay3 (F := Ideal) x0 x1 xs (ix2 u v) = (xs (ix2 u v) + prod x0 x1 u v : EReal) := by
  unfold prod
  unfold_payloads
  pointwise

/-- The last step writes the scratch out. -/
theorem pay4 (xs : Vec Ideal S2048x1408 .f32) (u : Fin 2048) (v : Fin 1408) :
    k0_pay4 (F := Ideal) xs (ix2 u v) = xs (ix2 u v) := by
  unfold_payloads
  pointwise

section Terms
variable (c : Dev nD) (i : grid0.Coords) (a2 : Memref sig .tc .vmem S1024x2048 .bf16) (h2 : a2.IsWhole)
  (a3 : Memref sig .tc .vmem S1024x1408 .bf16) (h3 : a3.IsWhole) (a4 : Memref sig .tc .vmem S2048x1408 .bf16) (h4 : a4.IsWhole)
  (a5 : Memref sig .tc .vmem S2048x1408 .f32) (h5 : a5.IsWhole)
  (x0 : Vec Ideal S1024x2048 .bf16) (x1 : Vec Ideal S1024x1408 .bf16) (xs : Vec Ideal S2048x1408 .f32)

/-- The first step of a round leaves its product in the scratch. -/
theorem first (hc0 : cond0_0 i) (hc1 : ¬cond0_1 i) (hc2 : ¬cond0_2 i) :
    sout0_A_0 (F := Ideal) c i a2 h2 a3 h3 a4 h4 a5 h5 hc0 hc1 hc2 x0 x1 = k0_pay2 x0 x1 := by
  unfold sout0_A_0
  rw [View.read_writes_eq_canon _ _ _ (scover0_A_0 c i a2 h2 a3 h3 a4 h4 a5 h5 hc0 hc1 hc2 x0 x1)]
  unfold kernelRun0_A
  dsimp only
  rw [View.canon_unit_zero hz2]
  simp only [View.readAt_eq_ld, h2.read_unread, h3.read_unread, View.ld_unit_zero (S := S1024x2048) hz2, View.ld_unit_zero (S := S1024x1408) hz2]

/-- A middle step leaves the scratch with its product added. -/
theorem middle (hc0 : ¬cond0_0 i) (hc1 : cond0_1 i) (hc2 : ¬cond0_2 i) :
    sout0_B_0 (F := Ideal) c i a2 h2 a3 h3 a4 h4 a5 h5 hc0 hc1 hc2 x0 x1 xs = k0_pay3 x0 x1 xs := by
  unfold sout0_B_0
  rw [View.read_writes_eq_canon _ _ _ (scover0_B_0 c i a2 h2 a3 h3 a4 h4 a5 h5 hc0 hc1 hc2 x0 x1 xs)]
  unfold kernelRun0_B
  dsimp only
  rw [View.canon_unit_zero hz2]
  simp only [View.readAt_eq_ld, h2.read_unread, h3.read_unread, h5.read_unread, View.ld_unit_zero (S := S1024x2048) hz2, View.ld_unit_zero (S := S1024x1408) hz2, View.ld_unit_zero (S := S2048x1408) hz2]

/-- So does the last step. -/
theorem last_acc (hc0 : ¬cond0_0 i) (hc1 : cond0_1 i) (hc2 : cond0_2 i) :
    sout0_C_0 (F := Ideal) c i a2 h2 a3 h3 a4 h4 a5 h5 hc0 hc1 hc2 x0 x1 xs = k0_pay3 x0 x1 xs := by
  unfold sout0_C_0
  rw [View.read_writes_eq_canon _ _ _ (scover0_C_0 c i a2 h2 a3 h3 a4 h4 a5 h5 hc0 hc1 hc2 x0 x1 xs)]
  unfold kernelRun0_C
  dsimp only
  sl_unfold_words
  rw [View.canon_unit_zero hz2]
  simp only [View.readAt_eq_ld, h2.read_unread, h3.read_unread, h5.read_unread, View.ld_unit_zero (S := S1024x2048) hz2, View.ld_unit_zero (S := S1024x1408) hz2, View.ld_unit_zero (S := S2048x1408) hz2]

/-- The last step's output block is what it leaves in the scratch. -/
theorem last_out (hc0 : ¬cond0_0 i) (hc1 : cond0_1 i) (hc2 : cond0_2 i) :
    out0_C_2 (F := Ideal) c i a2 h2 a3 h3 a4 h4 a5 h5 hc0 hc1 hc2 x0 x1 xs = k0_pay4 (k0_pay3 x0 x1 xs) := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz2]
  rw [View.readCov_unit_zero (S := S2048x1408) _ hz2]
  simp only [View.readAt_eq_ld, h2.read_unread, h3.read_unread, h5.read_unread, View.ld_unit_zero (S := S1024x2048) hz2, View.ld_unit_zero (S := S1024x1408) hz2, View.ld_unit_zero (S := S2048x1408) hz2]

end Terms

/-! ## What the scratch holds after each point -/

/-- The same share, of the launched arguments. -/
def term (c : Dev nD) (u : Fin 2048) (v : Fin 4224) (r : Fin 8192) : EReal :=
  share (m ((c : Thread nD τ).loc main_arg0)) (m ((c : Thread nD τ).loc main_arg1)) (m ((c : Thread nD τ).loc main_arg2)) u v r

/-- The product that step `n` takes. -/
def part (c : Dev nD) (u : Fin 2048) (v : Fin 1408) (n : ℕ) : EReal :=
  ∑ r : Fin 1024, term m c u (outer n v) (stp n r)

theorem part_eq (c : Dev nD) (t : Fin cfg0.N) (u : Fin 2048) (v : Fin 1408) :
    prod (iblk m c 0 t) (iblk m c 1 t) u v = part m c u v t.val := by
  unfold prod part term share
  refine Finset.sum_congr rfl fun r _ => ?_
  rw [iblk0, iblk1]

/-- After point `n` the scratch holds the sum of its round's products up to `n`. -/
theorem scratch (c : Dev nD) (u : Fin 2048) (v : Fin 1408) (n : ℕ) (hn : n < cfg0.N) :
    ((outsAt0 m c n hn).2 (ix2 u v) : EReal) = ∑ j ∈ Finset.range (n % 8 + 1), part m c u v (8 * (n / 8) + j) := by
  refine chain 8 (by norm_num) (fun n hn => ((outsAt0 m c n hn).2 (ix2 u v) : EReal)) (part m c u v) ?_ ?_ n hn
  · intro n h hn
    have e := outsAt0_A m c ⟨n, h⟩ hn (by show ¬1 ≤ n % 8; omega) (by show ¬n % 8 = 7; omega)
    show ((outsAt0 m c n h).2 (ix2 u v) : EReal) = _
    rw [show outsAt0 m c n h = _ from e]
    dsimp only
    rw [first, pay2]
    exact part_eq m c ⟨n, h⟩ u v
  · intro n h hn
    show ((outsAt0 m c n h).2 (ix2 u v) : EReal) = _
    by_cases h3 : n % 8 = 7
    · have e := outsAt0_C m c ⟨n, h⟩ hn (by show 1 ≤ n % 8; omega) h3
      rw [show outsAt0 m c n h = _ from e]
      dsimp only
      rw [last_acc, pay3]
      exact congrArg _ (part_eq m c ⟨n, h⟩ u v)
    · have e := outsAt0_B m c ⟨n, h⟩ hn (by show 1 ≤ n % 8; omega) h3
      rw [show outsAt0 m c n h = _ from e]
      dsimp only
      rw [middle, pay3]
      exact congrArg _ (part_eq m c ⟨n, h⟩ u v)

/-- The products of a round are the sum over the whole axis. -/
theorem round (c : Dev nD) (u : Fin 2048) (v : Fin 1408) (n : ℕ) (h : n % 8 = 7) :
    (∑ j ∈ Finset.range (n % 8 + 1), part m c u v (8 * (n / 8) + j))
    = total (m ((c : Thread nD τ).loc main_arg0)) (m ((c : Thread nD τ).loc main_arg1)) (m ((c : Thread nD τ).loc main_arg2)) (ix2 u (outer n v) : S2048x4224.Idx) := by
  rw [h]
  refine (Finset.sum_congr rfl fun j hj => ?_).trans
    (sum_steps 8 1024 rfl (term m c u (outer n v)) stp (n / 8) fun j hj r => by
      show (8 * (n / 8) + j) % 8 * 1024 + r.val = r.val + 1024 * j; omega)
  have hj' : j < 8 := Finset.mem_range.mp hj
  have e : ∀ x, outer (8 * (n / 8) + j) x = outer n x := fun x => Fin.ext (by
    show (8 * (n / 8) + j) / 8 % 3 * 1408 + x.val = n / 8 % 3 * 1408 + x.val; omega)
  unfold part
  rw [e]

/-! ## The result -/

/-- The result as a function of the launched arguments. -/
def G (c : Dev nD) : Vec Ideal S2048x4224 .bf16 := total (m ((c : Thread nD τ).loc main_arg0)) (m ((c : Thread nD τ).loc main_arg1)) (m ((c : Thread nD τ).loc main_arg2))

/-- What a round's last point writes back is its block of `G`. -/
theorem flushed_eq (c : Dev nD) (t : Fin cfg0.N) (hf : (cfg0.win 2).flush t = true) :
    (dats m 0 c).flushed 2 t = ((cfg0.win 2).blk t).view.read (Elt Ideal) (G m c) := by
  have h3 : t.val % 8 = 7 := (flush0_2 t).mp hf
  rw [Value.flushed2_C m c t (by omega) (by omega) h3]
  funext y
  obtain ⟨u, v, rfl⟩ : ∃ (u : Fin 2048) (v : Fin 1408), y = (ix2 u v : S2048x1408.Idx) :=
    ⟨y 0, y 1, by funext a; match a with | ⟨0, _⟩ => rfl | ⟨1, _⟩ => rfl⟩
  rw [last_out]
  show k0_pay4 (F := Ideal) (k0_pay3 (iblk m c 0 t) (iblk m c 1 t) _) (ix2 u v)
    = G m c (((cfg0.win 2).blk t).view.emb (ix2 u v : S2048x1408.Idx))
  rw [emb2, pay4, pay3, part_eq]
  have e := scratch m c u v t.val t.isLt
  rw [outsAt0_C m c t (by omega) (by omega) h3] at e
  dsimp only at e
  rw [last_acc, pay3, part_eq] at e
  rw [e, round m c u v t.val h3]
  rfl

/-- Every index lies in the block that its round's last point writes back. -/
theorem covered (i : S2048x4224.Idx) :
    ∃ t : Fin cfg0.N, (cfg0.win 2).flush t = true ∧ i ∈ ((cfg0.win 2).blk t).view.set := by
  have h0 : (i 1).val < 4224 := (i 1).isLt
  let t : Fin cfg0.N := ⟨(i 1).val / 1408 * 8 + 7, by show _ < 24; omega⟩
  have e : i = (ix2 (i 0) (outer t.val ⟨(i 1).val % 1408, by omega⟩) : S2048x4224.Idx) := by
    funext a; apply Fin.ext
    match a with
    | ⟨0, _⟩ => rfl
    | ⟨1, _⟩ => show (i 1).val = ((i 1).val / 1408 * 8 + 7) / 8 % 3 * 1408 + (i 1).val % 1408; omega
  refine ⟨t, (flush0_2 t).mpr (by show ((i 1).val / 1408 * 8 + 7) % 8 = 7; omega), ?_⟩
  rw [e, ← emb2 t (i 0) ⟨(i 1).val % 1408, by omega⟩]
  exact ((cfg0.win 2).blk t).view.emb_mem_set _

/-- The run with the result at its function of the arguments. -/
theorem run : θ_run defs (onTc (τ := τ) (main (F := Ideal))) ⟨m, fun _ => 0, ρ⟩ fun r => ∀ c : Dev nD,
      r.2.mem ((c : Thread nD τ).loc main_v15) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(h c).1.trans ((dats m 0 c).arrAt_eq_of_cover 2 (G m c) (fun t hf => flushed_eq m c t hf) covered), (h c).2⟩)
    (Value.run_blocks m ρ)

end Cert.Proof.MixWeight

end
-- ==== Proof.MixWeightRef.lean ====
/- The gradient of the mixing layer's input projection: the reference's result index by index, and its equality with the kernel's. -/
module

public import proofs.«01_k».proof.Proof.MixWeight
public import proofs.«01_k».proof.Proof.Gen.Reference10Ideal.Run
public import proofs.«01_k».proof.Proof.Gen.Reference10Ideal.Read
public import proofs.«01_k».proof.Defs

@[expose] public section

set_option maxRecDepth 16384

noncomputable section

namespace Cert.Proof.MixWeight

open Idealize.ShloMosaic Idealize.ShloMosaic.TcCoe Idealize.SL.Sem
open Cert.Reference10Ideal Cert.Reference10Ideal.Gen Cert.Reference10Ideal.Value

/-- The reference's normed input is the one that the kernel is handed. -/
theorem ref_normed (x0 : Vec Ideal S8192x2048 .f32) (x1 : Vec Ideal S2048 .f32) :
    Read.val_main_v13 (F := Ideal) x0 x1 = Wide.normed x0 x1 := rfl

/-- The reference's gradient is the kernel's. -/
theorem ref_eq (x0 : Vec Ideal S8192x2048 .f32) (x1 : Vec Ideal S2048 .f32) (x2 : Vec Ideal S8192x4224 .f32) :
    Read.val_main_v17 (F := Ideal) x0 x1 x2 = total x0 x1 x2 := by
  funext i
  obtain ⟨u, v, rfl⟩ : ∃ (u : Fin 2048) (v : Fin 4224), i = (ix2 u v : S2048x4224.Idx) :=
    ⟨i 0, i 1, by funext a; match a with | ⟨0, _⟩ => rfl | ⟨1, _⟩ => rfl⟩
  rw [Read.val_main_v17_apply]
  show (Read.val_main_v16 (F := Ideal) x0 x1 x2 (ix2 u v) : EReal) = _
  rw [Read.val_main_v16_apply, Read.val_main_v15_apply]
  refine Finset.sum_congr rfl fun r _ => ?_
  have e0 : Read.lidx_main_v15 (Read.idx_main_v16 (ix2 u v)) r = ix2 r v := by
    funext a; match a with | ⟨0, _⟩ => rfl | ⟨1, _⟩ => rfl
  have e1 : Read.ridx_main_v15 (Read.idx_main_v16 (ix2 u v)) r = ix2 r u := by
    funext a; match a with | ⟨0, _⟩ => rfl | ⟨1, _⟩ => rfl
  rw [e0, e1, ref_normed]
  exact mul_comm (x2 (ix2 r v) : EReal) (Wide.normed x0 x1 (ix2 r u))

/-- The kernel and the reference end with equal results, at the reals with their infinities. -/
theorem algebraic : Cert.algebraic_Kernel10Ideal_Reference10Ideal := by
  intro m g m' g' _ hargs
  refine ⟨fun c => G m c, run m g, ?_⟩
  refine (θ_run _ _ _).mono (fun r h c => ?_) (Cert.Reference10Ideal.Value.run m' g')
  obtain ⟨e, ek⟩ := h c
  obtain ⟨a0, a1, a2⟩ := hargs c
  refine ⟨e.trans ?_, ek⟩
  rw [a0, a1, a2, Read.val_main_v17_eq]
  exact ref_eq _ _ _

end Cert.Proof.MixWeight

end
-- ==== Proof.HeadUpper.lean ====
/- The gradient of one half of the heads' outputs as the kernel `mix_do_a` leaves it (at `Ideal`): for every block of 1024 rows
   the product of the layer's derivative with the transposed upper half of the weight, summed over the 2048 columns in two
   steps in a scratch buffer and written back after the second. -/
module

public import proofs.«01_k».proof.Proof.Gen.Kernel11Ideal.Value
public import proofs.«01_k».proof.Proof.Steps

@[expose] public section

set_option maxRecDepth 16384

noncomputable section

namespace Cert.Proof.HeadUpper

open Cert.Kernel11Ideal Cert.Kernel11Ideal.Gen Idealize.ShloMosaic Idealize.ShloMosaic.TcCoe Idealize.SL.Sem Cert.Proof.Steps

variable (m : (ℓ : Loc nD τ sig) → Buf (Elt Ideal) ℓ) (ρ : Dev nD → PrngReg)

theorem hz2 : (![0, 0] : Fin 2 → Nat) = fun _ => 0 := funext fun a => by fin_cases a <;> rfl

/-- The place in the summed axis of the `r`-th element that step `n` works on, and in the axis that the rounds of steps run over. -/
def stp (n : ℕ) (r : Fin 1024) : Fin 2048 := ⟨n % 2 * 1024 + r.val, by omega⟩
def outer (n : ℕ) (r : Fin 1024) : Fin 8192 := ⟨n / 2 % 8 * 1024 + r.val, by omega⟩

/-- The row of the weight that belongs to column `k` of the upper half of the heads' outputs. -/
def half (k : Fin 1024) : Fin 2048 := ⟨k.val, by omega⟩

/-- The share of one place of the summed axis in the result at `(u, v)`. -/
def share (d : Vec Ideal S8192x2048 .f32) (w : Vec Ideal S2048x2048 .f32) (u : Fin 8192) (v : Fin 1024) (r : Fin 2048) : EReal :=
  d (ix2 u r) * w (ix2 (half v) r)

/-- The gradient of these heads' outputs. -/
def total (d : Vec Ideal S8192x2048 .f32) (w : Vec Ideal S2048x2048 .f32) : Vec Ideal S8192x1024 .bf16 := fun i => (∑ r : Fin 2048, share d w (i 0) (i 1) r : EReal)

/-! ## What the host lines hand to the call -/

theorem entry_a (c : Dev nD) (i : Fin 8192) (j : Fin 2048) : (V m c main_v0 : Vec Ideal S8192x2048 .bf16) (ix2 i j)
    = ((m ((c : Thread nD τ).loc main_arg0)) : Vec Ideal S8192x2048 .f32) (ix2 i j) := by
  have h : @Eq (Vec Ideal S8192x2048 .bf16) (V m c main_v0) (truncf (F := Ideal) .bf16 ((m ((c : Thread nD τ).loc main_arg0)) : FVec Ideal S8192x2048 .f32) bitsLt_bf16_f32) := by
    unfold_abbrev_sides; after_results
  rw [h]
  rfl

theorem entry_b (c : Dev nD) (i : Fin 1024) (j : Fin 2048) : (V m c main_v2 : Vec Ideal S1024x2048 .bf16) (ix2 i j)
    = ((m ((c : Thread nD τ).loc main_arg1)) : Vec Ideal S2048x2048 .f32) (ix2 (half i) j) := by
  have h : @Eq (Vec Ideal S1024x2048 .bf16) (V m c main_v2) (truncf (F := Ideal) .bf16 (extractStridedSlice S1024x2048 ![0, 0] ((m ((c : Thread nD τ).loc main_arg1)) : FVec Ideal S2048x2048 .f32) slices_S2048x2048_S1024x2048_0_0) bitsLt_bf16_f32) := by
    unfold_abbrev_sides; after_results
  rw [h]
  pointwise
  rfl

/-! ## Where a block's element lies in its array -/

theorem idx0 : ∀ t : Fin cfg0.N, win0_0.index t (0 : Fin 2) = t.val / 2 % 8 ∧ win0_0.index t (1 : Fin 2) = t.val % 2 :=
  (by decide +kernel : ∀ t : Fin grid0.N, _)
theorem idx1 : ∀ t : Fin cfg0.N, win0_1.index t (0 : Fin 2) = 0 ∧ win0_1.index t (1 : Fin 2) = t.val % 2 :=
  (by decide +kernel : ∀ t : Fin grid0.N, _)
theorem idx2 : ∀ t : Fin cfg0.N, win0_2.index t (0 : Fin 2) = t.val / 2 % 8 ∧ win0_2.index t (1 : Fin 2) = 0 :=
  (by decide +kernel : ∀ t : Fin grid0.N, _)

theorem emb0 (t : Fin cfg0.N) (u : Fin 1024) (v : Fin 1024) :
    ((cfg0.win 0).blk t).view.emb (ix2 u v : S1024x1024.Idx) = (ix2 (outer t.val u) (stp t.val v) : S8192x2048.Idx) := by
  obtain ⟨e0, e1⟩ := idx0 t
  funext a; apply Fin.ext
  match a with
  | ⟨0, _⟩ => show win0_0.index t (0 : Fin 2) * 1024 + 1 * u.val = t.val / 2 % 8 * 1024 + u.val; omega
  | ⟨1, _⟩ => show win0_0.index t (1 : Fin 2) * 1024 + 1 * v.val = t.val % 2 * 1024 + v.val; omega

theorem emb1 (t : Fin cfg0.N) (u : Fin 1024) (v : Fin 1024) :
    ((cfg0.win 1).blk t).view.emb (ix2 u v : S1024x1024.Idx) = (ix2 u (stp t.val v) : S1024x2048.Idx) := by
  obtain ⟨e0, e1⟩ := idx1 t
  funext a; apply Fin.ext
  match a with
  | ⟨0, _⟩ => show win0_1.index t (0 : Fin 2) * 1024 + 1 * u.val = u.val; omega
  | ⟨1, _⟩ => show win0_1.index t (1 : Fin 2) * 1024 + 1 * v.val = t.val % 2 * 1024 + v.val; omega

theorem emb2 (t : Fin cfg0.N) (u : Fin 1024) (v : Fin 1024) :
    ((cfg0.win 2).blk t).view.emb (ix2 u v : S1024x1024.Idx) = (ix2 (outer t.val u) v : S8192x1024.Idx) := by
  obtain ⟨e0, e1⟩ := idx2 t
  funext a; apply Fin.ext
  match a with
  | ⟨0, _⟩ => show win0_2.index t (0 : Fin 2) * 1024 + 1 * u.val = t.val / 2 % 8 * 1024 + u.val; omega
  | ⟨1, _⟩ => show win0_2.index t (1 : Fin 2) * 1024 + 1 * v.val = v.val; omega

theorem iblk0 (c : Dev nD) (t : Fin cfg0.N) (u : Fin 1024) (v : Fin 1024) : (iblk m c 0 t : Vec Ideal S1024x1024 .bf16) (ix2 u v)
    = ((m ((c : Thread nD τ).loc main_arg0)) : Vec Ideal S8192x2048 .f32) (ix2 (outer t.val u) (stp t.val v)) := by
  show (V m c main_v0 : Vec Ideal S8192x2048 .bf16) (((cfg0.win 0).blk t).view.emb (ix2 u v : S1024x1024.Idx)) = _
  rw [emb0, entry_a]

theorem iblk1 (c : Dev nD) (t : Fin cfg0.N) (u : Fin 1024) (v : Fin 1024) : (iblk m c 1 t : Vec Ideal S1024x1024 .bf16) (ix2 u v)
    = ((m ((c : Thread nD τ).loc main_arg1)) : Vec Ideal S2048x2048 .f32) (ix2 (half u) (stp t.val v)) := by
  show (V m c main_v2 : Vec Ideal S1024x2048 .bf16) (((cfg0.win 1).blk t).view.emb (ix2 u v : S1024x1024.Idx)) = _
  rw [emb1, entry_b]

/-! ## The body's stores -/

/-- The product of the two blocks a step reads, at one index. -/
def prod (x0 : Vec Ideal S1024x1024 .bf16) (x1 : Vec Ideal S1024x1024 .bf16) (u : Fin 1024) (v : Fin 1024) : EReal :=
  ∑ r : Fin 1024, x0 (ix2 u r) * x1 (ix2 v r)

/-- The first step stores that product. -/
theorem pay2 (x0 : Vec Ideal S1024x1024 .bf16) (x1 : Vec Ideal S1024x1024 .bf16) (u : Fin 1024) (v : Fin 1024) :
    k0_pay2 (F := Ideal) x0 x1 (ix2 u v) = prod x0 x1 u v := by
  unfold prod
  unfold_payloads
  pointwise

/-- A later step adds its product to what the scratch holds. -/
theorem pay3 (x0 : Vec Ideal S1024x1024 .bf16) (x1 : Vec Ideal S1024x1024 .bf16) (xs : Vec Ideal S1024x1024 .f32) (u : Fin 1024) (v : Fin 1024) :
    k0_pay3 (F := Ideal) x0 x1 xs (ix2 u v) = (xs (ix2 u v) + prod x0 x1 u v : EReal) := by
  unfold prod
  unfold_payloads
  pointwise

/-- The last step writes the scratch out. -/
theorem pay4 (xs : Vec Ideal S1024x1024 .f32) (u : Fin 1024) (v : Fin 1024) :
    k0_pay4 (F := Ideal) xs (ix2 u v) = xs (ix2 u v) := by
  unfold_payloads
  pointwise

section Terms
variable (c : Dev nD) (i : grid0.Coords) (a2 : Memref sig .tc .vmem S1024x1024 .bf16) (h2 : a2.IsWhole)
  (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole)
  (x0 : Vec Ideal S1024x1024 .bf16) (x1 : Vec Ideal S1024x1024 .bf16) (xs : Vec Ideal S1024x1024 .f32)

/-- The first step of a round leaves its product in the scratch. -/
theorem first (hc0 : cond0_0 i) (hc1 : ¬cond0_1 i) (hc2 : ¬cond0_2 i) :
    sout0_A_0 (F := Ideal) c i a2 h2 a3 h3 a4 h4 a5 h5 hc0 hc1 hc2 x0 x1 = k0_pay2 x0 x1 := by
  unfold sout0_A_0
  rw [View.read_writes_eq_canon _ _ _ (scover0_A_0 c i a2 h2 a3 h3 a4 h4 a5 h5 hc0 hc1 hc2 x0 x1)]
  unfold kernelRun0_A
  dsimp only
  rw [View.canon_unit_zero hz2]
  simp only [View.readAt_eq_ld, h2.read_unread, h3.read_unread, View.ld_unit_zero (S := S1024x1024) hz2]

/-- The last step leaves the scratch with its product added. -/
theorem last_acc (hc0 : ¬cond0_0 i) (hc1 : cond0_1 i) (hc2 : cond0_2 i) :
    sout0_B_0 (F := Ideal) c i a2 h2 a3 h3 a4 h4 a5 h5 hc0 hc1 hc2 x0 x1 xs = k0_pay3 x0 x1 xs := by
  unfold sout0_B_0
  rw [View.read_writes_eq_canon _ _ _ (scover0_B_0 c i a2 h2 a3 h3 a4 h4 a5 h5 hc0 hc1 hc2 x0 x1 xs)]
  unfold kernelRun0_B
  dsimp only
  sl_unfold_words
  rw [View.canon_unit_zero hz2]
  simp only [View.readAt_eq_ld, h2.read_unread, h3.read_unread, h5.read_unread, View.ld_unit_zero (S := S1024x1024) hz2]

/-- The last step's output block is what it leaves in the scratch. -/
theorem last_out (hc0 : ¬cond0_0 i) (hc1 : cond0_1 i) (hc2 : cond0_2 i) :
    out0_B_2 (F := Ideal) c i a2 h2 a3 h3 a4 h4 a5 h5 hc0 hc1 hc2 x0 x1 xs = k0_pay4 (k0_pay3 x0 x1 xs) := by
  unfold out0_B_2
  rw [View.read_writes_eq_canon _ _ _ (cover0_B_2 c i a2 h2 a3 h3 a4 h4 a5 h5 hc0 hc1 hc2 x0 x1 xs)]
  unfold kernelRun0_B
  dsimp only
  sl_unfold_words
  rw [View.canon_unit_zero hz2]
  rw [View.readCov_unit_zero (S := S1024x1024) _ hz2]
  simp only [View.readAt_eq_ld, h2.read_unread, h3.read_unread, h5.read_unread, View.ld_unit_zero (S := S1024x1024) hz2]

end Terms

/-! ## What the scratch holds after each point -/

/-- The same share, of the launched arguments. -/
def term (c : Dev nD) (u : Fin 8192) (v : Fin 1024) (r : Fin 2048) : EReal :=
  share (m ((c : Thread nD τ).loc main_arg0)) (m ((c : Thread nD τ).loc main_arg1)) u v r

/-- The product that step `n` takes. -/
def part (c : Dev nD) (u : Fin 1024) (v : Fin 1024) (n : ℕ) : EReal :=
  ∑ r : Fin 1024, term m c (outer n u) v (stp n r)

theorem part_eq (c : Dev nD) (t : Fin cfg0.N) (u : Fin 1024) (v : Fin 1024) :
    prod (iblk m c 0 t) (iblk m c 1 t) u v = part m c u v t.val := by
  unfold prod part term share
  refine Finset.sum_congr rfl fun r _ => ?_
  rw [iblk0, iblk1]

/-- After point `n` the scratch holds the sum of its round's products up to `n`. -/
theorem scratch (c : Dev nD) (u : Fin 1024) (v : Fin 1024) (n : ℕ) (hn : n < cfg0.N) :
    ((outsAt0 m c n hn).2 (ix2 u v) : EReal) = ∑ j ∈ Finset.range (n % 2 + 1), part m c u v (2 * (n / 2) + j) := by
  refine chain 2 (by norm_num) (fun n hn => ((outsAt0 m c n hn).2 (ix2 u v) : EReal)) (part m c u v) ?_ ?_ n hn
  · intro n h hn
    have e := outsAt0_A m c ⟨n, h⟩ hn (by show ¬n % 2 = 1; omega) (by show ¬n % 2 = 1; omega)
    show ((outsAt0 m c n h).2 (ix2 u v) : EReal) = _
    rw [show outsAt0 m c n h = _ from e]
    dsimp only
    rw [first, pay2]
    exact part_eq m c ⟨n, h⟩ u v
  · intro n h hn
    show ((outsAt0 m c n h).2 (ix2 u v) : EReal) = _
    have e := outsAt0_B m c ⟨n, h⟩ hn (by show n % 2 = 1; omega) (by show n % 2 = 1; omega)
    rw [show outsAt0 m c n h = _ from e]
    dsimp only
    rw [last_acc, pay3]
    exact congrArg _ (part_eq m c ⟨n, h⟩ u v)

/-- The products of a round are the sum over the whole axis. -/
theorem round (c : Dev nD) (u : Fin 1024) (v : Fin 1024) (n : ℕ) (h : n % 2 = 1) :
    (∑ j ∈ Finset.range (n % 2 + 1), part m c u v (2 * (n / 2) + j))
    = total (m ((c : Thread nD τ).loc main_arg0)) (m ((c : Thread nD τ).loc main_arg1)) (ix2 (outer n u) v : S8192x1024.Idx) := by
  rw [h]
  refine (Finset.sum_congr rfl fun j hj => ?_).trans
    (sum_steps 2 1024 rfl (term m c (outer n u) v) stp (n / 2) fun j hj r => by
      show (2 * (n / 2) + j) % 2 * 1024 + r.val = r.val + 1024 * j; omega)
  have hj' : j < 2 := Finset.mem_range.mp hj
  have e : ∀ x, outer (2 * (n / 2) + j) x = outer n x := fun x => Fin.ext (by
    show (2 * (n / 2) + j) / 2 % 8 * 1024 + x.val = n / 2 % 8 * 1024 + x.val; omega)
  unfold part
  rw [e]

/-! ## The result -/

/-- The result as a function of the launched arguments. -/
def G (c : Dev nD) : Vec Ideal S8192x1024 .bf16 := total (m ((c : Thread nD τ).loc main_arg0)) (m ((c : Thread nD τ).loc main_arg1))

/-- What a round's last point writes back is its block of `G`. -/
theorem flushed_eq (c : Dev nD) (t : Fin cfg0.N) (hf : (cfg0.win 2).flush t = true) :
    (dats m 0 c).flushed 2 t = ((cfg0.win 2).blk t).view.read (Elt Ideal) (G m c) := by
  have h3 : t.val % 2 = 1 := (flush0_2 t).mp hf
  rw [Value.flushed2_B m c t (by omega) h3 h3]
  funext y
  obtain ⟨u, v, rfl⟩ : ∃ (u : Fin 1024) (v : Fin 1024), y = (ix2 u v : S1024x1024.Idx) :=
    ⟨y 0, y 1, by funext a; match a with | ⟨0, _⟩ => rfl | ⟨1, _⟩ => rfl⟩
  rw [last_out]
  show k0_pay4 (F := Ideal) (k0_pay3 (iblk m c 0 t) (iblk m c 1 t) _) (ix2 u v)
    = G m c (((cfg0.win 2).blk t).view.emb (ix2 u v : S1024x1024.Idx))
  rw [emb2, pay4, pay3, part_eq]
  have e := scratch m c u v t.val t.isLt
  rw [outsAt0_B m c t (by omega) h3 h3] at e
  dsimp only at e
  rw [last_acc, pay3, part_eq] at e
  rw [e, round m c u v t.val h3]
  rfl

/-- Every index lies in the block that its round's last point writes back. -/
theorem covered (i : S8192x1024.Idx) :
    ∃ t : Fin cfg0.N, (cfg0.win 2).flush t = true ∧ i ∈ ((cfg0.win 2).blk t).view.set := by
  have h0 : (i 0).val < 8192 := (i 0).isLt
  let t : Fin cfg0.N := ⟨(i 0).val / 1024 * 2 + 1, by show _ < 16; omega⟩
  have e : i = (ix2 (outer t.val ⟨(i 0).val % 1024, by omega⟩) (i 1) : S8192x1024.Idx) := by
    funext a; apply Fin.ext
    match a with
    | ⟨0, _⟩ => show (i 0).val = ((i 0).val / 1024 * 2 + 1) / 2 % 8 * 1024 + (i 0).val % 1024; omega
    | ⟨1, _⟩ => rfl
  refine ⟨t, (flush0_2 t).mpr (by show ((i 0).val / 1024 * 2 + 1) % 2 = 1; omega), ?_⟩
  rw [e, ← emb2 t ⟨(i 0).val % 1024, by omega⟩ (i 1)]
  exact ((cfg0.win 2).blk t).view.emb_mem_set _

/-- The run with the result at its function of the arguments. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨(h c).1.trans ((dats m 0 c).arrAt_eq_of_cover 2 (G m c) (fun t hf => flushed_eq m c t hf) covered), (h c).2⟩)
    (Value.run_blocks m ρ)

end Cert.Proof.HeadUpper

end
-- ==== Proof.HeadUpperRef.lean ====
/- The gradient of one half of the heads' outputs: the reference's result index by index, and its equality with the kernel's. -/
module

public import proofs.«01_k».proof.Proof.HeadUpper
public import proofs.«01_k».proof.Proof.Gen.Reference11Ideal.Run
public import proofs.«01_k».proof.Proof.Gen.Reference11Ideal.Read
public import proofs.«01_k».proof.Defs

@[expose] public section

set_option maxRecDepth 16384

noncomputable section

namespace Cert.Proof.HeadUpper

open Idealize.ShloMosaic Idealize.ShloMosaic.TcCoe Idealize.SL.Sem
open Cert.Reference11Ideal Cert.Reference11Ideal.Gen Cert.Reference11Ideal.Value

/-- The reference's gradient is the kernel's. -/
theorem ref_eq (x0 : Vec Ideal S8192x2048 .f32) (x1 : Vec Ideal S2048x2048 .f32) :
    Read.val_main_v4 (F := Ideal) x0 x1 = total x0 x1 := by
  funext i
  obtain ⟨u, v, rfl⟩ : ∃ (u : Fin 8192) (v : Fin 1024), i = (ix2 u v : S8192x1024.Idx) :=
    ⟨i 0, i 1, by funext a; match a with | ⟨0, _⟩ => rfl | ⟨1, _⟩ => rfl⟩
  rw [Read.val_main_v4_apply]
  show (Read.val_main_v3 (F := Ideal) x0 x1 (ix2 u v) : EReal) = _
  rw [Read.val_main_v3_apply, Read.val_main_v2_apply]
  refine Finset.sum_congr rfl fun r _ => ?_
  have e0 : Read.lidx_main_v2 (Read.idx_main_v3 (ix2 u v)) r = ix2 u r := by
    funext a; match a with | ⟨0, _⟩ => rfl | ⟨1, _⟩ => rfl
  have e1 : Read.ridx_main_v2 (Read.idx_main_v3 (ix2 u v)) r = ix2 (half v) r := by
    funext a; match a with | ⟨0, _⟩ => rfl | ⟨1, _⟩ => rfl
  rw [e0, e1]
  rfl

/-- The kernel and the reference end with equal results, at the reals with their infinities. -/
theorem algebraic : Cert.algebraic_Kernel11Ideal_Reference11Ideal := by
  intro m g m' g' _ hargs
  refine ⟨fun c => G m c, run m g, ?_⟩
  refine (θ_run _ _ _).mono (fun r h c => ?_) (Cert.Reference11Ideal.Value.run m' g')
  obtain ⟨e, ek⟩ := h c
  obtain ⟨a0, a1⟩ := hargs c
  refine ⟨e.trans ?_, ek⟩
  rw [a0, a1, Read.val_main_v4_eq]
  exact ref_eq _ _

end Cert.Proof.HeadUpper

end
-- ==== Proof.HeadLower.lean ====
/- The gradient of one half of the heads' outputs as the kernel `mix_do_b` leaves it (at `Ideal`): for every block of 1024 rows
   the product of the layer's derivative with the transposed lower half of the weight, summed over the 2048 columns in two
   steps in a scratch buffer and written back after the second. -/
module

public import proofs.«01_k».proof.Proof.Gen.Kernel12Ideal.Value
public import proofs.«01_k».proof.Proof.Steps

@[expose] public section

set_option maxRecDepth 16384

noncomputable section

namespace Cert.Proof.HeadLower

open Cert.Kernel12Ideal Cert.Kernel12Ideal.Gen Idealize.ShloMosaic Idealize.ShloMosaic.TcCoe Idealize.SL.Sem Cert.Proof.Steps

variable (m : (ℓ : Loc nD τ sig) → Buf (Elt Ideal) ℓ) (ρ : Dev nD → PrngReg)

theorem hz2 : (![0, 0] : Fin 2 → Nat) = fun _ => 0 := funext fun a => by fin_cases a <;> rfl

/-- The place in the summed axis of the `r`-th element that step `n` works on, and in the axis that the rounds of steps run over. -/
def stp (n : ℕ) (r : Fin 1024) : Fin 2048 := ⟨n % 2 * 1024 + r.val, by omega⟩
def outer (n : ℕ) (r : Fin 1024) : Fin 8192 := ⟨n / 2 % 8 * 1024 + r.val, by omega⟩

/-- The row of the weight that belongs to column `k` of the lower half of the heads' outputs. -/
def half (k : Fin 1024) : Fin 2048 := ⟨1024 + k.val, by omega⟩

/-- The share of one place of the summed axis in the result at `(u, v)`. -/
def share (d : Vec Ideal S8192x2048 .f32) (w : Vec Ideal S2048x2048 .f32) (u : Fin 8192) (v : Fin 1024) (r : Fin 2048) : EReal :=
  d (ix2 u r) * w (ix2 (half v) r)

/-- The gradient of these heads' outputs. -/
def total (d : Vec Ideal S8192x2048 .f32) (w : Vec Ideal S2048x2048 .f32) : Vec Ideal S8192x1024 .f32 := fun i => (∑ r : Fin 2048, share d w (i 0) (i 1) r : EReal)

/-! ## What the host lines hand to the call -/

theorem entry_a (c : Dev nD) (i : Fin 8192) (j : Fin 2048) : (V m c main_v0 : Vec Ideal S8192x2048 .bf16) (ix2 i j)
    = ((m ((c : Thread nD τ).loc main_arg0)) : Vec Ideal S8192x2048 .f32) (ix2 i j) := by
  have h : @Eq (Vec Ideal S8192x2048 .bf16) (V m c main_v0) (truncf (F := Ideal) .bf16 ((m ((c : Thread nD τ).loc main_arg0)) : FVec Ideal S8192x2048 .f32) bitsLt_bf16_f32) := by
    unfold_abbrev_sides; after_results
  rw [h]
  rfl

theorem entry_b (c : Dev nD) (i : Fin 1024) (j : Fin 2048) : (V m c main_v2 : Vec Ideal S1024x2048 .bf16) (ix2 i j)
    = ((m ((c : Thread nD τ).loc main_arg1)) : Vec Ideal S2048x2048 .f32) (ix2 (half i) j) := by
  have h : @Eq (Vec Ideal S1024x2048 .bf16) (V m c main_v2) (truncf (F := Ideal) .bf16 (extractStridedSlice S1024x2048 ![1024, 0] ((m ((c : Thread nD τ).loc main_arg1)) : FVec Ideal S2048x2048 .f32) slices_S2048x2048_S1024x2048_1024_0) bitsLt_bf16_f32) := by
    unfold_abbrev_sides; after_results
  rw [h]
  pointwise
  rfl

/-! ## Where a block's element lies in its array -/

theorem idx0 : ∀ t : Fin cfg0.N, win0_0.index t (0 : Fin 2) = t.val / 2 % 8 ∧ win0_0.index t (1 : Fin 2) = t.val % 2 :=
  (by decide +kernel : ∀ t : Fin grid0.N, _)
theorem idx1 : ∀ t : Fin cfg0.N, win0_1.index t (0 : Fin 2) = 0 ∧ win0_1.index t (1 : Fin 2) = t.val % 2 :=
  (by decide +kernel : ∀ t : Fin grid0.N, _)
theorem idx2 : ∀ t : Fin cfg0.N, win0_2.index t (0 : Fin 2) = t.val / 2 % 8 ∧ win0_2.index t (1 : Fin 2) = 0 :=
  (by decide +kernel : ∀ t : Fin grid0.N, _)

theorem emb0 (t : Fin cfg0.N) (u : Fin 1024) (v : Fin 1024) :
    ((cfg0.win 0).blk t).view.emb (ix2 u v : S1024x1024.Idx) = (ix2 (outer t.val u) (stp t.val v) : S8192x2048.Idx) := by
  obtain ⟨e0, e1⟩ := idx0 t
  funext a; apply Fin.ext
  match a with
  | ⟨0, _⟩ => show win0_0.index t (0 : Fin 2) * 1024 + 1 * u.val = t.val / 2 % 8 * 1024 + u.val; omega
  | ⟨1, _⟩ => show win0_0.index t (1 : Fin 2) * 1024 + 1 * v.val = t.val % 2 * 1024 + v.val; omega

theorem emb1 (t : Fin cfg0.N) (u : Fin 1024) (v : Fin 1024) :
    ((cfg0.win 1).blk t).view.emb (ix2 u v : S1024x1024.Idx) = (ix2 u (stp t.val v) : S1024x2048.Idx) := by
  obtain ⟨e0, e1⟩ := idx1 t
  funext a; apply Fin.ext
  match a with
  | ⟨0, _⟩ => show win0_1.index t (0 : Fin 2) * 1024 + 1 * u.val = u.val; omega
  | ⟨1, _⟩ => show win0_1.index t (1 : Fin 2) * 1024 + 1 * v.val = t.val % 2 * 1024 + v.val; omega

theorem emb2 (t : Fin cfg0.N) (u : Fin 1024) (v : Fin 1024) :
    ((cfg0.win 2).blk t).view.emb (ix2 u v : S1024x1024.Idx) = (ix2 (outer t.val u) v : S8192x1024.Idx) := by
  obtain ⟨e0, e1⟩ := idx2 t
  funext a; apply Fin.ext
  match a with
  | ⟨0, _⟩ => show win0_2.index t (0 : Fin 2) * 1024 + 1 * u.val = t.val / 2 % 8 * 1024 + u.val; omega
  | ⟨1, _⟩ => show win0_2.index t (1 : Fin 2) * 1024 + 1 * v.val = v.val; omega

theorem iblk0 (c : Dev nD) (t : Fin cfg0.N) (u : Fin 1024) (v : Fin 1024) : (iblk m c 0 t : Vec Ideal S1024x1024 .bf16) (ix2 u v)
    = ((m ((c : Thread nD τ).loc main_arg0)) : Vec Ideal S8192x2048 .f32) (ix2 (outer t.val u) (stp t.val v)) := by
  show (V m c main_v0 : Vec Ideal S8192x2048 .bf16) (((cfg0.win 0).blk t).view.emb (ix2 u v : S1024x1024.Idx)) = _
  rw [emb0, entry_a]

theorem iblk1 (c : Dev nD) (t : Fin cfg0.N) (u : Fin 1024) (v : Fin 1024) : (iblk m c 1 t : Vec Ideal S1024x1024 .bf16) (ix2 u v)
    = ((m ((c : Thread nD τ).loc main_arg1)) : Vec Ideal S2048x2048 .f32) (ix2 (half u) (stp t.val v)) := by
  show (V m c main_v2 : Vec Ideal S1024x2048 .bf16) (((cfg0.win 1).blk t).view.emb (ix2 u v : S1024x1024.Idx)) = _
  rw [emb1, entry_b]

/-! ## The body's stores -/

/-- The product of the two blocks a step reads, at one index. -/
def prod (x0 : Vec Ideal S1024x1024 .bf16) (x1 : Vec Ideal S1024x1024 .bf16) (u : Fin 1024) (v : Fin 1024) : EReal :=
  ∑ r : Fin 1024, x0 (ix2 u r) * x1 (ix2 v r)

/-- The first step stores that product. -/
theorem pay2 (x0 : Vec Ideal S1024x1024 .bf16) (x1 : Vec Ideal S1024x1024 .bf16) (u : Fin 1024) (v : Fin 1024) :
    k0_pay2 (F := Ideal) x0 x1 (ix2 u v) = prod x0 x1 u v := by
  unfold prod
  unfold_payloads
  pointwise

/-- A later step adds its product to what the scratch holds. -/
theorem pay3 (x0 : Vec Ideal S1024x1024 .bf16) (x1 : Vec Ideal S1024x1024 .bf16) (xs : Vec Ideal S1024x1024 .f32) (u : Fin 1024) (v : Fin 1024) :
    k0_pay3 (F := Ideal) x0 x1 xs (ix2 u v) = (xs (ix2 u v) + prod x0 x1 u v : EReal) := by
  unfold prod
  unfold_payloads
  pointwise

section Terms
variable (c : Dev nD) (i : grid0.Coords) (a2 : Memref sig .tc .vmem S1024x1024 .bf16) (h2 : a2.IsWhole)
  (a3 : Memref sig .tc .vmem S1024x1024 .bf16) (h3 : a3.IsWhole) (a4 : Memref sig .tc .vmem S1024x1024 .f32) (h4 : a4.IsWhole)
  (a5 : Memref sig .tc .vmem S1024x1024 .f32) (h5 : a5.IsWhole)
  (x0 : Vec Ideal S1024x1024 .bf16) (x1 : Vec Ideal S1024x1024 .bf16) (xs : Vec Ideal S1024x1024 .f32)

/-- The first step of a round leaves its product in the scratch. -/
theorem first (hc0 : cond0_0 i) (hc1 : ¬cond0_1 i) (hc2 : ¬cond0_2 i) :
    sout0_A_0 (F := Ideal) c i a2 h2 a3 h3 a4 h4 a5 h5 hc0 hc1 hc2 x0 x1 = k0_pay2 x0 x1 := by
  unfold sout0_A_0
  rw [View.read_writes_eq_canon _ _ _ (scover0_A_0 c i a2 h2 a3 h3 a4 h4 a5 h5 hc0 hc1 hc2 x0 x1)]
  unfold kernelRun0_A
  dsimp only
  rw [View.canon_unit_zero hz2]
  simp only [View.readAt_eq_ld, h2.read_unread, h3.read_unread, View.ld_unit_zero (S := S1024x1024) hz2]

/-- The last step leaves the scratch with its product added. -/
theorem last_acc (hc0 : ¬cond0_0 i) (hc1 : cond0_1 i) (hc2 : cond0_2 i) :
    sout0_B_0 (F := Ideal) c i a2 h2 a3 h3 a4 h4 a5 h5 hc0 hc1 hc2 x0 x1 xs = k0_pay3 x0 x1 xs := by
  unfold sout0_B_0
  rw [View.read_writes_eq_canon _ _ _ (scover0_B_0 c i a2 h2 a3 h3 a4 h4 a5 h5 hc0 hc1 hc2 x0 x1 xs)]
  unfold kernelRun0_B
  dsimp only
  sl_unfold_words
  rw [View.canon_unit_zero hz2]
  simp only [View.readAt_eq_ld, h2.read_unread, h3.read_unread, h5.read_unread, View.ld_unit_zero (S := S1024x1024) hz2]

/-- The last step's output block is what it leaves in the scratch. -/
theorem last_out (hc0 : ¬cond0_0 i) (hc1 : cond0_1 i) (hc2 : cond0_2 i) :
    out0_B_2 (F := Ideal) c i a2 h2 a3 h3 a4 h4 a5 h5 hc0 hc1 hc2 x0 x1 xs = k0_pay3 x0 x1 xs := by
  unfold out0_B_2
  rw [View.read_writes_eq_canon _ _ _ (cover0_B_2 c i a2 h2 a3 h3 a4 h4 a5 h5 hc0 hc1 hc2 x0 x1 xs)]
  unfold kernelRun0_B
  dsimp only
  sl_unfold_words
  rw [View.canon_unit_zero hz2]
  rw [View.readCov_unit_zero (S := S1024x1024) _ hz2]
  simp only [View.readAt_eq_ld, h2.read_unread, h3.read_unread, h5.read_unread, View.ld_unit_zero (S := S1024x1024) hz2]

end Terms

/-! ## What the scratch holds after each point -/

/-- The same share, of the launched arguments. -/
def term (c : Dev nD) (u : Fin 8192) (v : Fin 1024) (r : Fin 2048) : EReal :=
  share (m ((c : Thread nD τ).loc main_arg0)) (m ((c : Thread nD τ).loc main_arg1)) u v r

/-- The product that step `n` takes. -/
def part (c : Dev nD) (u : Fin 1024) (v : Fin 1024) (n : ℕ) : EReal :=
  ∑ r : Fin 1024, term m c (outer n u) v (stp n r)

theorem part_eq (c : Dev nD) (t : Fin cfg0.N) (u : Fin 1024) (v : Fin 1024) :
    prod (iblk m c 0 t) (iblk m c 1 t) u v = part m c u v t.val := by
  unfold prod part term share
  refine Finset.sum_congr rfl fun r _ => ?_
  rw [iblk0, iblk1]

/-- After point `n` the scratch holds the sum of its round's products up to `n`. -/
theorem scratch (c : Dev nD) (u : Fin 1024) (v : Fin 1024) (n : ℕ) (hn : n < cfg0.N) :
    ((outsAt0 m c n hn).2 (ix2 u v) : EReal) = ∑ j ∈ Finset.range (n % 2 + 1), part m c u v (2 * (n / 2) + j) := by
  refine chain 2 (by norm_num) (fun n hn => ((outsAt0 m c n hn).2 (ix2 u v) : EReal)) (part m c u v) ?_ ?_ n hn
  · intro n h hn
    have e := outsAt0_A m c ⟨n, h⟩ hn (by show ¬n % 2 = 1; omega) (by show ¬n % 2 = 1; omega)
    show ((outsAt0 m c n h).2 (ix2 u v) : EReal) = _
    rw [show outsAt0 m c n h = _ from e]
    dsimp only
    rw [first, pay2]
    exact part_eq m c ⟨n, h⟩ u v
  · intro n h hn
    show ((outsAt0 m c n h).2 (ix2 u v) : EReal) = _
    have e := outsAt0_B m c ⟨n, h⟩ hn (by show n % 2 = 1; omega) (by show n % 2 = 1; omega)
    rw [show outsAt0 m c n h = _ from e]
    dsimp only
    rw [last_acc, pay3]
    exact congrArg _ (part_eq m c ⟨n, h⟩ u v)

/-- The products of a round are the sum over the whole axis. -/
theorem round (c : Dev nD) (u : Fin 1024) (v : Fin 1024) (n : ℕ) (h : n % 2 = 1) :
    (∑ j ∈ Finset.range (n % 2 + 1), part m c u v (2 * (n / 2) + j))
    = total (m ((c : Thread nD τ).loc main_arg0)) (m ((c : Thread nD τ).loc main_arg1)) (ix2 (outer n u) v : S8192x1024.Idx) := by
  rw [h]
  refine (Finset.sum_congr rfl fun j hj => ?_).trans
    (sum_steps 2 1024 rfl (term m c (outer n u) v) stp (n / 2) fun j hj r => by
      show (2 * (n / 2) + j) % 2 * 1024 + r.val = r.val + 1024 * j; omega)
  have hj' : j < 2 := Finset.mem_range.mp hj
  have e : ∀ x, outer (2 * (n / 2) + j) x = outer n x := fun x => Fin.ext (by
    show (2 * (n / 2) + j) / 2 % 8 * 1024 + x.val = n / 2 % 8 * 1024 + x.val; omega)
  unfold part
  rw [e]

/-! ## The result -/

/-- The result as a function of the launched arguments. -/
def G (c : Dev nD) : Vec Ideal S8192x1024 .f32 := total (m ((c : Thread nD τ).loc main_arg0)) (m ((c : Thread nD τ).loc main_arg1))

/-- What a round's last point writes back is its block of `G`. -/
theorem flushed_eq (c : Dev nD) (t : Fin cfg0.N) (hf : (cfg0.win 2).flush t = true) :
    (dats m 0 c).flushed 2 t = ((cfg0.win 2).blk t).view.read (Elt Ideal) (G m c) := by
  have h3 : t.val % 2 = 1 := (flush0_2 t).mp hf
  rw [Value.flushed2_B m c t (by omega) h3 h3]
  funext y
  obtain ⟨u, v, rfl⟩ : ∃ (u : Fin 1024) (v : Fin 1024), y = (ix2 u v : S1024x1024.Idx) :=
    ⟨y 0, y 1, by funext a; match a with | ⟨0, _⟩ => rfl | ⟨1, _⟩ => rfl⟩
  rw [last_out]
  show k0_pay3 (F := Ideal) (iblk m c 0 t) (iblk m c 1 t) _ (ix2 u v)
    = G m c (((cfg0.win 2).blk t).view.emb (ix2 u v : S1024x1024.Idx))
  rw [emb2, pay3, part_eq]
  have e := scratch m c u v t.val t.isLt
  rw [outsAt0_B m c t (by omega) h3 h3] at e
  dsimp only at e
  rw [last_acc, pay3, part_eq] at e
  rw [e, round m c u v t.val h3]
  rfl

/-- Every index lies in the block that its round's last point writes back. -/
theorem covered (i : S8192x1024.Idx) :
    ∃ t : Fin cfg0.N, (cfg0.win 2).flush t = true ∧ i ∈ ((cfg0.win 2).blk t).view.set := by
  have h0 : (i 0).val < 8192 := (i 0).isLt
  let t : Fin cfg0.N := ⟨(i 0).val / 1024 * 2 + 1, by show _ < 16; omega⟩
  have e : i = (ix2 (outer t.val ⟨(i 0).val % 1024, by omega⟩) (i 1) : S8192x1024.Idx) := by
    funext a; apply Fin.ext
    match a with
    | ⟨0, _⟩ => show (i 0).val = ((i 0).val / 1024 * 2 + 1) / 2 % 8 * 1024 + (i 0).val % 1024; omega
    | ⟨1, _⟩ => rfl
  refine ⟨t, (flush0_2 t).mpr (by show ((i 0).val / 1024 * 2 + 1) % 2 = 1; omega), ?_⟩
  rw [e, ← emb2 t ⟨(i 0).val % 1024, by omega⟩ (i 1)]
  exact ((cfg0.win 2).blk t).view.emb_mem_set _

/-- The run with the result at its function of the arguments. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨(h c).1.trans ((dats m 0 c).arrAt_eq_of_cover 2 (G m c) (fun t hf => flushed_eq m c t hf) covered), (h c).2⟩)
    (Value.run_blocks m ρ)

end Cert.Proof.HeadLower

end
-- ==== Proof.HeadLowerRef.lean ====
/- The gradient of one half of the heads' outputs: the reference's result index by index, and its equality with the kernel's. -/
module

public import proofs.«01_k».proof.Proof.HeadLower
public import proofs.«01_k».proof.Proof.Gen.Reference12Ideal.Run
public import proofs.«01_k».proof.Proof.Gen.Reference12Ideal.Read
public import proofs.«01_k».proof.Defs

@[expose] public section

set_option maxRecDepth 16384

noncomputable section

namespace Cert.Proof.HeadLower

open Idealize.ShloMosaic Idealize.ShloMosaic.TcCoe Idealize.SL.Sem
open Cert.Reference12Ideal Cert.Reference12Ideal.Gen Cert.Reference12Ideal.Value

/-- The reference's gradient is the kernel's. -/
theorem ref_eq (x0 : Vec Ideal S8192x2048 .f32) (x1 : Vec Ideal S2048x2048 .f32) :
    Read.val_main_v3 (F := Ideal) x0 x1 = total x0 x1 := by
  funext i
  obtain ⟨u, v, rfl⟩ : ∃ (u : Fin 8192) (v : Fin 1024), i = (ix2 u v : S8192x1024.Idx) :=
    ⟨i 0, i 1, by funext a; match a with | ⟨0, _⟩ => rfl | ⟨1, _⟩ => rfl⟩
  rw [Read.val_main_v3_apply, Read.val_main_v2_apply]
  refine Finset.sum_congr rfl fun r _ => ?_
  have e0 : Read.lidx_main_v2 (Read.idx_main_v3 (ix2 u v)) r = ix2 u r := by
    funext a; match a with | ⟨0, _⟩ => rfl | ⟨1, _⟩ => rfl
  have e1 : Read.ridx_main_v2 (Read.idx_main_v3 (ix2 u v)) r = ix2 (half v) r := by
    funext a; match a with | ⟨0, _⟩ => rfl | ⟨1, _⟩ => rfl
  rw [e0, e1]
  rfl

/-- The kernel and the reference end with equal results, at the reals with their infinities. -/
theorem algebraic : Cert.algebraic_Kernel12Ideal_Reference12Ideal := by
  intro m g m' g' _ hargs
  refine ⟨fun c => G m c, run m g, ?_⟩
  refine (θ_run _ _ _).mono (fun r h c => ?_) (Cert.Reference12Ideal.Value.run m' g')
  obtain ⟨e, ek⟩ := h c
  obtain ⟨a0, a1⟩ := hargs c
  refine ⟨e.trans ?_, ek⟩
  rw [a0, a1, Read.val_main_v3_eq]
  exact ref_eq _ _

end Cert.Proof.HeadLower

end
-- ==== Proof.Heads.lean ====
/- The two groups of heads' outputs as one matrix of 2048 columns: how the kernel's stacked array and the reference's joined
   matrix read it. -/
module

public import proofs.«01_k».proof.Proof.Gen.Kernel13Ideal
public import proofs.«01_k».proof.Proof.Pieces
public import Idealize.ShloMosaic.Lib.Pipeline.Value
public import Idealize.ShloMosaic.PureOps.Ideal.Laws

@[expose] public section

set_option maxRecDepth 16384

noncomputable section

namespace Cert.Proof.Heads

open Cert.Kernel13Ideal Cert.Kernel13Ideal.Gen Idealize.ShloMosaic Idealize.ShloMosaic.TcCoe

variable (a b : Vec Ideal S8192x1024 .f32)

/-- The matrix of all heads' outputs: the first 1024 columns from one group, the rest from the other. -/
def both (r : Fin 8192) (k : Fin 2048) : EReal :=
  if h : k.val < 1024 then a (ix2 r ⟨k.val, h⟩) else b (ix2 r ⟨k.val - 1024, by omega⟩)

/-- Column `k` of group `j`, in that matrix. -/
def hcol (j : Fin 2) (k : Fin 1024) : Fin 2048 := ⟨j.val * 1024 + k.val, by omega⟩

/-- The two groups stacked. -/
def stack : FVec Ideal S2x8192x1024 .f32 :=
  concatenate S2x8192x1024 0 [⟨S1x8192x1024, (broadcastInDim S1x8192x1024 ![1, 2] bcast_S8192x1024_S1x8192x1024_1_2 a)⟩,
    ⟨S1x8192x1024, (broadcastInDim S1x8192x1024 ![1, 2] bcast_S8192x1024_S1x8192x1024_1_2 b)⟩] concatenates_S1x8192x1024_S1x8192x1024_S2x8192x1024_d0

theorem bcast_eq (z : Fin 1) (r : Fin 8192) (k : Fin 1024) :
    (broadcastInDim S1x8192x1024 ![1, 2] bcast_S8192x1024_S1x8192x1024_1_2 a : FVec Ideal S1x8192x1024 .f32) (ix3 z r k) = a (ix2 r k) := by
  pointwise

/-- An element of the stack. -/
theorem stack_eq (j : Fin 2) (r : Fin 8192) (k : Fin 1024) : (stack a b (ix3 j r k) : EReal) = both a b r (hcol j k) := by
  unfold stack both
  match j with
  | ⟨0, hj⟩ =>
    rw [dif_pos (by show 0 * 1024 + k.val < 1024; omega)]
    refine (concatenate_pair_apply_left (s₁ := S1x8192x1024) (t := S2x8192x1024) 0 _ _ _ _ rfl (ix3 0 r k) (fun d => match d with | ⟨0, _⟩ => rfl | ⟨1, _⟩ => rfl | ⟨2, _⟩ => rfl)).trans ?_
    rw [bcast_eq]
    exact congrArg a (congrArg (ix2 r) (Fin.ext (by show k.val = 0 * 1024 + k.val; omega)))
  | ⟨1, hj⟩ =>
    rw [dif_neg (by show ¬1 * 1024 + k.val < 1024; omega)]
    refine (concatenate_pair_apply_right (s₁ := S1x8192x1024) (s₂ := S1x8192x1024) (t := S2x8192x1024) 0 _ _ _ _ rfl rfl (ix3 0 r k)
        (fun d h => match d with | ⟨0, _⟩ => absurd rfl h | ⟨1, _⟩ => rfl | ⟨2, _⟩ => rfl) rfl).trans ?_
    rw [bcast_eq]
    exact congrArg b (congrArg (ix2 r) (Fin.ext (by show k.val = 1 * 1024 + k.val - 1024; omega)))

/-- An element of the joined matrix. -/
theorem cat_eq (hc : Shape.Concatenates [S8192x1024, S8192x1024] S8192x2048 1) (r : Fin 8192) (k : Fin 2048) :
    (concatenate S8192x2048 1 [⟨S8192x1024, a⟩, ⟨S8192x1024, b⟩] hc (ix2 r k) : EReal) = both a b r k := by
  unfold both
  by_cases h : k.val < 1024
  · rw [dif_pos h]
    exact concatenate_pair_apply_left (s₁ := S8192x1024) (t := S8192x2048) 1 _ _ _ _ rfl (ix2 r ⟨k.val, h⟩)
      (fun d => match d with | ⟨0, _⟩ => rfl | ⟨1, _⟩ => rfl)
  · rw [dif_neg h]
    exact concatenate_pair_apply_right (s₁ := S8192x1024) (s₂ := S8192x1024) (t := S8192x2048) 1 _ _ _ _ rfl rfl (ix2 r ⟨k.val - 1024, by omega⟩)
      (fun d h => match d with | ⟨0, _⟩ => rfl | ⟨1, _⟩ => absurd rfl h) (by show k.val - 1024 + 1024 = k.val; omega)

end Cert.Proof.Heads

end
-- ==== Proof.OutWeight.lean ====
/- The gradient of the mixing layer's output projection as the kernel `mix_dwo` leaves it (at `Ideal`): for each of the two
   groups of heads the product of its transposed outputs with the layer's derivative, summed over the 8192 rows in four steps
   in a scratch buffer and written back after the fourth. -/
module

public import proofs.«01_k».proof.Proof.Gen.Kernel13Ideal.Value
public import proofs.«01_k».proof.Proof.Steps
public import proofs.«01_k».proof.Proof.Heads

@[expose] public section

set_option maxRecDepth 16384

noncomputable section

namespace Cert.Proof.OutWeight

open Cert.Kernel13Ideal Cert.Kernel13Ideal.Gen Idealize.ShloMosaic Idealize.ShloMosaic.TcCoe Idealize.SL.Sem
open Cert.Proof.Steps Cert.Proof.Heads Cert.Proof.Pieces

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The row that the `r`-th row of step `n` is, and the group of heads that the step works on. -/
def stp (n : ℕ) (r : Fin 2048) : Fin 8192 := ⟨n % 4 * 2048 + r.val, by omega⟩
def grp (n : ℕ) : Fin 2 := ⟨n / 4 % 2, by omega⟩

/-- One row's share of the gradient. -/
def share (a b : Vec Ideal S8192x1024 .f32) (d : Vec Ideal S8192x2048 .f32) (k v : Fin 2048) (r : Fin 8192) : EReal :=
  both a b r k * d (ix2 r v)

/-- The gradient of the projection, by group, column of the group and model column. -/
def total (a b : Vec Ideal S8192x1024 .f32) (d : Vec Ideal S8192x2048 .f32) : Vec Ideal S2x1024x2048 .bf16 := fun i =>
  (∑ r : Fin 8192, share a b d (hcol (i 0) (i 1)) (i 2) r : EReal)

/-! ## What the host lines hand to the call -/

theorem entry_a (c : Dev nD) (j : Fin 2) (r : Fin 8192) (k : Fin 1024) : (V m c main_v3 : Vec Ideal S2x8192x1024 .bf16) (ix3 j r k)
    = both (m ((c : Thread nD τ).loc main_arg0)) (m ((c : Thread nD τ).loc main_arg1)) r (hcol j k) := by
  have h : @Eq (Vec Ideal S2x8192x1024 .bf16) (V m c main_v3) (truncf (F := Ideal) .bf16 (stack (m ((c : Thread nD τ).loc main_arg0)) (m ((c : Thread nD τ).loc main_arg1)) : FVec Ideal S2x8192x1024 .f32) bitsLt_bf16_f32) := by
    unfold stack; unfold_abbrev_sides; after_results
  rw [h]
  exact stack_eq _ _ j r k

theorem entry_b (c : Dev nD) (i : Fin 8192) (j : Fin 2048) : (V m c main_v4 : Vec Ideal S8192x2048 .bf16) (ix2 i j)
    = ((m ((c : Thread nD τ).loc main_arg2)) : Vec Ideal S8192x2048 .f32) (ix2 i j) := by
  have h : @Eq (Vec Ideal S8192x2048 .bf16) (V m c main_v4) (truncf (F := Ideal) .bf16 ((m ((c : Thread nD τ).loc main_arg2)) : FVec Ideal S8192x2048 .f32) bitsLt_bf16_f32) := by
    unfold_abbrev_sides; after_results
  rw [h]
  rfl

/-! ## Where a block's element lies in its array -/

theorem idx0 : ∀ t : Fin cfg0.N, win0_0.index t (0 : Fin 3) = t.val / 4 % 2 ∧ win0_0.index t (1 : Fin 3) = t.val % 4
    ∧ win0_0.index t (2 : Fin 3) = 0 := (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)
theorem idx2 : ∀ t : Fin cfg0.N, win0_2.index t (0 : Fin 3) = t.val / 4 % 2 ∧ win0_2.index t (1 : Fin 3) = 0
    ∧ win0_2.index t (2 : Fin 3) = 0 := (by decide +kernel : ∀ t : Fin grid0.N, _)

theorem emb0 (t : Fin cfg0.N) (z : Fin 1) (r : Fin 2048) (u : Fin 1024) :
    ((cfg0.win 0).blk t).view.emb (ix3 z r u : S1x2048x1024.Idx) = (ix3 (grp t.val) (stp t.val r) u : S2x8192x1024.Idx) := by
  obtain ⟨e0, e1, e2⟩ := idx0 t
  funext a; apply Fin.ext
  match a with
  | ⟨0, _⟩ => show win0_0.index t (0 : Fin 3) * 1 + 1 * z.val = t.val / 4 % 2; omega
  | ⟨1, _⟩ => show win0_0.index t (1 : Fin 3) * 2048 + 1 * r.val = t.val % 4 * 2048 + r.val; omega
  | ⟨2, _⟩ => show win0_0.index t (2 : Fin 3) * 1024 + 1 * u.val = u.val; omega

theorem emb1 (t : Fin cfg0.N) (r : Fin 2048) (v : Fin 2048) :
    ((cfg0.win 1).blk t).view.emb (ix2 r v : S2048x2048.Idx) = (ix2 (stp t.val r) v : S8192x2048.Idx) := by
  obtain ⟨e0, e1⟩ := idx1 t
  funext a; apply Fin.ext
  match a with
  | ⟨0, _⟩ => show win0_1.index t (0 : Fin 2) * 2048 + 1 * r.val = t.val % 4 * 2048 + r.val; omega
  | ⟨1, _⟩ => show win0_1.index t (1 : Fin 2) * 2048 + 1 * v.val = v.val; omega

theorem emb2 (t : Fin cfg0.N) (z : Fin 1) (u : Fin 1024) (v : Fin 2048) :
    ((cfg0.win 2).blk t).view.emb (ix3 z u v : S1x1024x2048.Idx) = (ix3 (grp t.val) u v : S2x1024x2048.Idx) := by
  obtain ⟨e0, e1, e2⟩ := idx2 t
  funext a; apply Fin.ext
  match a with
  | ⟨0, _⟩ => show win0_2.index t (0 : Fin 3) * 1 + 1 * z.val = t.val / 4 % 2; omega
  | ⟨1, _⟩ => show win0_2.index t (1 : Fin 3) * 1024 + 1 * u.val = u.val; omega
  | ⟨2, _⟩ => show win0_2.index t (2 : Fin 3) * 2048 + 1 * v.val = v.val; omega

theorem iblk0 (c : Dev nD) (t : Fin cfg0.N) (z : Fin 1) (r : Fin 2048) (u : Fin 1024) : (iblk m c 0 t : Vec Ideal S1x2048x1024 .bf16) (ix3 z r u)
    = both (m ((c : Thread nD τ).loc main_arg0)) (m ((c : Thread nD τ).loc main_arg1)) (stp t.val r) (hcol (grp t.val) u) := by
  show (V m c main_v3 : Vec Ideal S2x8192x1024 .bf16) (((cfg0.win 0).blk t).view.emb (ix3 z r u : S1x2048x1024.Idx)) = _
  rw [emb0, entry_a]

theorem iblk1 (c : Dev nD) (t : Fin cfg0.N) (r : Fin 2048) (v : Fin 2048) : (iblk m c 1 t : Vec Ideal S2048x2048 .bf16) (ix2 r v)
    = ((m ((c : Thread nD τ).loc main_arg2)) : Vec Ideal S8192x2048 .f32) (ix2 (stp t.val r) v) := by
  show (V m c main_v4 : Vec Ideal S8192x2048 .bf16) (((cfg0.win 1).blk t).view.emb (ix2 r v : S2048x2048.Idx)) = _
  rw [emb1, entry_b]

/-! ## The body's stores -/

/-- The product of the two blocks a step reads, at one index. -/
def prod (x0 : Vec Ideal S1x2048x1024 .bf16) (x1 : Vec Ideal S2048x2048 .bf16) (u : Fin 1024) (v : Fin 2048) : EReal :=
  ∑ r : Fin 2048, x0 (ix3 0 r u) * x1 (ix2 r v)

/-- The first step stores that product. -/
theorem pay2 (x0 : Vec Ideal S1x2048x1024 .bf16) (x1 : Vec Ideal S2048x2048 .bf16) (u : Fin 1024) (v : Fin 2048) :
    k0_pay2 (F := Ideal) x0 x1 (ix2 u v) = prod x0 x1 u v := by
  unfold prod
  unfold_payloads
  pointwise

/-- A later step adds its product to what the scratch holds. -/
theorem pay3 (x0 : Vec Ideal S1x2048x1024 .bf16) (x1 : Vec Ideal S2048x2048 .bf16) (xs : Vec Ideal S1024x2048 .f32) (u : Fin 1024) (v : Fin 2048) :
    k0_pay3 (F := Ideal) x0 x1 xs (ix2 u v) = (xs (ix2 u v) + prod x0 x1 u v : EReal) := by
  unfold prod
  unfold_payloads
  pointwise

/-- The last step writes the scratch out. -/
theorem pay4 (xs : Vec Ideal S1024x2048 .f32) (z : Fin 1) (u : Fin 1024) (v : Fin 2048) :
    k0_pay4 (F := Ideal) xs (ix3 z u v) = xs (ix2 u v) := by
  unfold_payloads
  pointwise

section Terms
variable (c : Dev nD) (i : grid0.Coords) (a2 : Memref sig .tc .vmem S1x2048x1024 .bf16) (h2 : a2.IsWhole)
  (a3 : Memref sig .tc .vmem S2048x2048 .bf16) (h3 : a3.IsWhole) (a4 : Memref sig .tc .vmem S1x1024x2048 .bf16) (h4 : a4.IsWhole)
  (a5 : Memref sig .tc .vmem S1024x2048 .f32) (h5 : a5.IsWhole)
  (x0 : Vec Ideal S1x2048x1024 .bf16) (x1 : Vec Ideal S2048x2048 .bf16) (xs : Vec Ideal S1024x2048 .f32)

/-- The first step of a round leaves its product in the scratch. -/
theorem first (hc0 : cond0_0 i) (hc1 : ¬cond0_1 i) (hc2 : ¬cond0_2 i) :
    sout0_A_0 (F := Ideal) c i a2 h2 a3 h3 a4 h4 a5 h5 hc0 hc1 hc2 x0 x1 = k0_pay2 x0 x1 := by
  unfold sout0_A_0
  rw [View.read_writes_eq_canon _ _ _ (scover0_A_0 c i a2 h2 a3 h3 a4 h4 a5 h5 hc0 hc1 hc2 x0 x1)]
  unfold kernelRun0_A
  dsimp only
  rw [View.canon_unit_zero hz2]
  simp only [View.readAt_eq_ld, h2.read_unread, h3.read_unread, View.ld_unit_zero (S := S1x2048x1024) hz3, View.ld_unit_zero (S := S2048x2048) hz2]

/-- A middle step leaves the scratch with its product added. -/
theorem middle (hc0 : ¬cond0_0 i) (hc1 : cond0_1 i) (hc2 : ¬cond0_2 i) :
    sout0_B_0 (F := Ideal) c i a2 h2 a3 h3 a4 h4 a5 h5 hc0 hc1 hc2 x0 x1 xs = k0_pay3 x0 x1 xs := by
  unfold sout0_B_0
  rw [View.read_writes_eq_canon _ _ _ (scover0_B_0 c i a2 h2 a3 h3 a4 h4 a5 h5 hc0 hc1 hc2 x0 x1 xs)]
  unfold kernelRun0_B
  dsimp only
  rw [View.canon_unit_zero hz2]
  simp only [View.readAt_eq_ld, h2.read_unread, h3.read_unread, h5.read_unread, View.ld_unit_zero (S := S1x2048x1024) hz3, View.ld_unit_zero (S := S2048x2048) hz2, View.ld_unit_zero (S := S1024x2048) hz2]

/-- So does the last step. -/
theorem last_acc (hc0 : ¬cond0_0 i) (hc1 : cond0_1 i) (hc2 : cond0_2 i) :
    sout0_C_0 (F := Ideal) c i a2 h2 a3 h3 a4 h4 a5 h5 hc0 hc1 hc2 x0 x1 xs = k0_pay3 x0 x1 xs := by
  unfold sout0_C_0
  rw [View.read_writes_eq_canon _ _ _ (scover0_C_0 c i a2 h2 a3 h3 a4 h4 a5 h5 hc0 hc1 hc2 x0 x1 xs)]
  unfold kernelRun0_C
  dsimp only
  sl_unfold_words
  rw [View.canon_unit_zero hz2]
  simp only [View.readAt_eq_ld, h2.read_unread, h3.read_unread, h5.read_unread, View.ld_unit_zero (S := S1x2048x1024) hz3, View.ld_unit_zero (S := S2048x2048) hz2, View.ld_unit_zero (S := S1024x2048) hz2]

/-- The last step's output block is what it leaves in the scratch. -/
theorem last_out (hc0 : ¬cond0_0 i) (hc1 : cond0_1 i) (hc2 : cond0_2 i) :
    out0_C_2 (F := Ideal) c i a2 h2 a3 h3 a4 h4 a5 h5 hc0 hc1 hc2 x0 x1 xs = k0_pay4 (k0_pay3 x0 x1 xs) := by
  unfold out0_C_2
  rw [View.read_writes_eq_canon _ _ _ (cover0_C_2 c i a2 h2 a3 h3 a4 h4 a5 h5 hc0 hc1 hc2 x0 x1 xs)]
  unfold kernelRun0_C
  dsimp only
  sl_unfold_words
  rw [View.canon_unit_zero hz3]
  rw [View.readCov_unit_zero (S := S1024x2048) _ hz2]
  simp only [View.readAt_eq_ld, h2.read_unread, h3.read_unread, h5.read_unread, View.ld_unit_zero (S := S1x2048x1024) hz3, View.ld_unit_zero (S := S2048x2048) hz2, View.ld_unit_zero (S := S1024x2048) hz2]

end Terms

/-! ## What the scratch holds after each point -/

/-- The same share, of the launched arguments. -/
def term (c : Dev nD) (k v : Fin 2048) (r : Fin 8192) : EReal := share (m ((c : Thread nD τ).loc main_arg0)) (m ((c : Thread nD τ).loc main_arg1)) (m ((c : Thread nD τ).loc main_arg2)) k v r

/-- The product that step `n` takes. -/
def part (c : Dev nD) (u : Fin 1024) (v : Fin 2048) (n : ℕ) : EReal :=
  ∑ r : Fin 2048, term m c (hcol (grp n) u) v (stp n r)

theorem part_eq (c : Dev nD) (t : Fin cfg0.N) (u : Fin 1024) (v : Fin 2048) :
    prod (iblk m c 0 t) (iblk m c 1 t) u v = part m c u v t.val := by
  unfold prod part term share
  refine Finset.sum_congr rfl fun r _ => ?_
  rw [iblk0, iblk1]

/-- After point `n` the scratch holds the sum of its round's products up to `n`. -/
theorem scratch (c : Dev nD) (u : Fin 1024) (v : Fin 2048) (n : ℕ) (hn : n < cfg0.N) :
    ((outsAt0 m c n hn).2 (ix2 u v) : EReal) = ∑ j ∈ Finset.range (n % 4 + 1), part m c u v (4 * (n / 4) + j) := by
  refine chain 4 (by norm_num) (fun n hn => ((outsAt0 m c n hn).2 (ix2 u v) : EReal)) (part m c u v) ?_ ?_ n hn
  · intro n h hn
    have e := outsAt0_A m c ⟨n, h⟩ hn (by show ¬1 ≤ n % 4; omega) (by show ¬n % 4 = 3; omega)
    show ((outsAt0 m c n h).2 (ix2 u v) : EReal) = _
    rw [show outsAt0 m c n h = _ from e]
    dsimp only
    rw [first, pay2]
    exact part_eq m c ⟨n, h⟩ u v
  · intro n h hn
    show ((outsAt0 m c n h).2 (ix2 u v) : EReal) = _
    by_cases h3 : n % 4 = 3
    · have e := outsAt0_C m c ⟨n, h⟩ hn (by show 1 ≤ n % 4; omega) h3
      rw [show outsAt0 m c n h = _ from e]
      dsimp only
      rw [last_acc, pay3]
      exact congrArg _ (part_eq m c ⟨n, h⟩ u v)
    · have e := outsAt0_B m c ⟨n, h⟩ hn (by show 1 ≤ n % 4; omega) h3
      rw [show outsAt0 m c n h = _ from e]
      dsimp only
      rw [middle, pay3]
      exact congrArg _ (part_eq m c ⟨n, h⟩ u v)

/-- The products of a round are the sum over all rows. -/
theorem round (c : Dev nD) (u : Fin 1024) (v : Fin 2048) (n : ℕ) (h : n % 4 = 3) :
    (∑ j ∈ Finset.range (n % 4 + 1), part m c u v (4 * (n / 4) + j))
    = total (m ((c : Thread nD τ).loc main_arg0)) (m ((c : Thread nD τ).loc main_arg1)) (m ((c : Thread nD τ).loc main_arg2)) (ix3 (grp n) u v : S2x1024x2048.Idx) := by
  rw [h]
  refine (Finset.sum_congr rfl fun j hj => ?_).trans
    (sum_steps 4 2048 rfl (term m c (hcol (grp n) u) v) stp (n / 4) fun j hj r => by
      show (4 * (n / 4) + j) % 4 * 2048 + r.val = r.val + 2048 * j; omega)
  have hj' : j < 4 := Finset.mem_range.mp hj
  have e : grp (4 * (n / 4) + j) = grp n := Fin.ext (by show (4 * (n / 4) + j) / 4 % 2 = n / 4 % 2; omega)
  unfold part
  rw [e]

/-! ## The result -/

/-- The result as a function of the launched arguments. -/
def G (c : Dev nD) : Vec Ideal S2x1024x2048 .bf16 := total (m ((c : Thread nD τ).loc main_arg0)) (m ((c : Thread nD τ).loc main_arg1)) (m ((c : Thread nD τ).loc main_arg2))

/-- What a round's last point writes back is its block of `G`. -/
theorem flushed_eq (c : Dev nD) (t : Fin cfg0.N) (hf : (cfg0.win 2).flush t = true) :
    (dats m 0 c).flushed 2 t = ((cfg0.win 2).blk t).view.read (Elt Ideal) (G m c) := by
  have h3 : t.val % 4 = 3 := (flush0_2 t).mp hf
  rw [Value.flushed2_C m c t (by omega) (by omega) h3]
  funext y
  obtain ⟨z, u, v, rfl⟩ := idx3_eq (a := 1) (b := 1024) (c := 2048) y
  rw [last_out]
  show k0_pay4 (F := Ideal) (k0_pay3 (iblk m c 0 t) (iblk m c 1 t) _) (ix3 z u v)
    = G m c (((cfg0.win 2).blk t).view.emb (ix3 z u v : S1x1024x2048.Idx))
  rw [emb2, pay4, pay3, part_eq]
  have e := scratch m c u v t.val t.isLt
  rw [outsAt0_C m c t (by omega) (by omega) h3] at e
  dsimp only at e
  rw [last_acc, pay3, part_eq] at e
  rw [e, round m c u v t.val h3]
  rfl

/-- Every index lies in the block that its round's last point writes back. -/
theorem covered (i : S2x1024x2048.Idx) :
    ∃ t : Fin cfg0.N, (cfg0.win 2).flush t = true ∧ i ∈ ((cfg0.win 2).blk t).view.set := by
  obtain ⟨g, u, v, rfl⟩ := idx3_eq (a := 2) (b := 1024) (c := 2048) i
  let t : Fin cfg0.N := ⟨g.val * 4 + 3, by show _ < 8; omega⟩
  have e : (ix3 g u v : S2x1024x2048.Idx) = ix3 (grp t.val) u v := by
    funext a; apply Fin.ext
    match a with
    | ⟨0, _⟩ => show g.val = (g.val * 4 + 3) / 4 % 2; omega
    | ⟨1, _⟩ => rfl
    | ⟨2, _⟩ => rfl
  refine ⟨t, (flush0_2 t).mpr (by show (g.val * 4 + 3) % 4 = 3; omega), ?_⟩
  rw [e, ← emb2 t 0 u v]
  exact ((cfg0.win 2).blk t).view.emb_mem_set _

/-- The run with the result at its function of the arguments. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(h c).1.trans ((dats m 0 c).arrAt_eq_of_cover 2 (G m c) (fun t hf => flushed_eq m c t hf) covered), (h c).2⟩)
    (Value.run_blocks m ρ)

end Cert.Proof.OutWeight

end
-- ==== Proof.OutWeightRef.lean ====
/- The gradient of the mixing layer's output projection: the reference's result index by index, and its equality with the kernel's. -/
module

public import proofs.«01_k».proof.Proof.OutWeight
public import proofs.«01_k».proof.Proof.Gen.Reference13Ideal.Run
public import proofs.«01_k».proof.Proof.Gen.Reference13Ideal.Read
public import proofs.«01_k».proof.Defs

@[expose] public section

set_option maxRecDepth 16384

noncomputable section

namespace Cert.Proof.OutWeight

open Idealize.ShloMosaic Idealize.ShloMosaic.TcCoe Idealize.SL.Sem
open Cert.Reference13Ideal Cert.Reference13Ideal.Gen Cert.Reference13Ideal.Value
open Cert.Proof.Heads Cert.Proof.Pieces

variable (x0 x1 : Vec Ideal S8192x1024 .f32) (x2 : Vec Ideal S8192x2048 .f32)

/-- Where the reference's result, by group, reads its matrix. -/
theorem ref_idx (j : Fin 2) (u : Fin 1024) (v : Fin 2048) :
    Read.idx_main_v4 (Read.idx_main_v5 (ix3 j u v)) = ix2 v (hcol j u) := by
  funext a; apply Fin.ext
  match a with
  | ⟨0, _⟩ => show ((j.val * 1024 + u.val) * 2048 + v.val) % 2048 = v.val; omega
  | ⟨1, _⟩ => show ((j.val * 1024 + u.val) * 2048 + v.val) / 2048 = j.val * 1024 + u.val; omega

/-- The reference's gradient is the kernel's. -/
theorem ref_eq : Read.val_main_v6 (F := Ideal) x0 x1 x2 = total x0 x1 x2 := by
  funext i
  obtain ⟨j, u, v, rfl⟩ := idx3_eq (a := 2) (b := 1024) (c := 2048) i
  rw [Read.val_main_v6_apply]
  show (Read.val_main_v5 (F := Ideal) x0 x1 x2 (ix3 j u v) : EReal) = _
  rw [Read.val_main_v5_apply, Read.val_main_v4_apply, ref_idx, Read.val_main_v3_apply]
  refine Finset.sum_congr rfl fun r _ => ?_
  have e0 : Read.lidx_main_v3 (ix2 v (hcol j u)) r = ix2 r v := by
    funext a; match a with | ⟨0, _⟩ => rfl | ⟨1, _⟩ => rfl
  have e1 : Read.ridx_main_v3 (ix2 v (hcol j u)) r = ix2 r (hcol j u) := by
    funext a; match a with | ⟨0, _⟩ => rfl | ⟨1, _⟩ => rfl
  have e2 : (Read.val_main_v1 (F := Ideal) x0 x1 (ix2 r (hcol j u)) : EReal) = both x0 x1 r (hcol j u) := cat_eq x0 x1 _ r _
  rw [e0, e1]
  exact (congrArg (fun y : EReal => (x2 (ix2 r v) : EReal) * y) e2).trans (mul_comm (x2 (ix2 r v) : EReal) _)

/-- The kernel and the reference end with equal results, at the reals with their infinities. -/
theorem algebraic : Cert.algebraic_Kernel13Ideal_Reference13Ideal := by
  intro m g m' g' _ hargs
  refine ⟨fun c => G m c, run m g, ?_⟩
  refine (θ_run _ _ _).mono (fun r h c => ?_) (Cert.Reference13Ideal.Value.run m' g')
  obtain ⟨e, ek⟩ := h c
  obtain ⟨a0, a1, a2⟩ := hargs c
  refine ⟨e.trans ?_, ek⟩
  rw [a0, a1, a2, Read.val_main_v6_eq]
  exact ref_eq _ _ _

end Cert.Proof.OutWeight

end
-- ==== Proof.MixOutput.lean ====
/- The mixing layer's output projection as the kernel `mix_out` leaves it (at `Ideal`): for every block of 512 rows the product
   of all heads' outputs with the weight, one group of heads at a time, and the residual plus that product's normed rows
   scaled by the gain. -/
module

public import proofs.«01_k».proof.Proof.Gen.Kernel14Ideal.Value
public import proofs.«01_k».proof.Proof.Steps
public import proofs.«01_k».proof.Proof.Heads
public import Idealize.ShloMosaic.Lib.IdealHost

@[expose] public section

set_option maxRecDepth 16384

noncomputable section

namespace Cert.Proof.MixOutput

open Cert.Kernel14Ideal Cert.Kernel14Ideal.Gen Idealize.ShloMosaic Idealize.ShloMosaic.TcCoe Idealize.SL.Sem
open Cert.Proof.Steps Cert.Proof.Heads Cert.Proof.Pieces

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- One column's share of the product, at row `p` and model column `k`. -/
def share (a b : Vec Ideal S8192x1024 .f32) (w : Vec Ideal S2048x2048 .f32) (p : Fin 8192) (k f : Fin 2048) : EReal :=
  both a b p f * w (ix2 f k)

/-- All heads' outputs times the weight. -/
def proj (a b : Vec Ideal S8192x1024 .f32) (w : Vec Ideal S2048x2048 .f32) : Vec Ideal S8192x2048 .f32 := fun i =>
  (∑ f : Fin 2048, share a b w (i 0) (i 1) f : EReal)

/-- One element of the layer's output: the residual `x` and the normed row `y` scaled by the gain `g`. -/
def post (y : Fin 2048 → EReal) (x g : EReal) (k : Fin 2048) : EReal :=
  x + y k * Ideal.rsqrt (Ideal.div (∑ j : Fin 2048, y j * y j) (Ideal.ofBits .f32 0x45000000#32)
    + Ideal.ofBits .f32 0x358637BD#32) * g

/-- The layer's output. -/
def outp (y x : Vec Ideal S8192x2048 .f32) (g : Vec Ideal S2048 .f32) : Vec Ideal S8192x2048 .f32 := fun i =>
  post (fun j => y (ix2 (i 0) j)) (x (ix2 (i 0) (i 1))) (g (ix1 (i 1))) (i 1)

/-! ## What the host lines hand to the call -/

theorem entry_a (c : Dev nD) (j : Fin 2) (r : Fin 8192) (k : Fin 1024) : (V m c main_v3 : Vec Ideal S2x8192x1024 .bf16) (ix3 j r k)
    = both (m ((c : Thread nD τ).loc main_arg0)) (m ((c : Thread nD τ).loc main_arg1)) r (hcol j k) := by
  have h : @Eq (Vec Ideal S2x8192x1024 .bf16) (V m c main_v3) (truncf (F := Ideal) .bf16 (stack (m ((c : Thread nD τ).loc main_arg0)) (m ((c : Thread nD τ).loc main_arg1)) : FVec Ideal S2x8192x1024 .f32) bitsLt_bf16_f32) := by
    unfold stack; unfold_abbrev_sides; after_results
  rw [h]
  exact stack_eq _ _ j r k

theorem entry_w (c : Dev nD) (i : Fin 2) (j : Fin 1024) (k : Fin 2048) : (V m c main_v5 : Vec Ideal S2x1024x2048 .bf16) (ix3 i j k)
    = ((m ((c : Thread nD τ).loc main_arg2)) : Vec Ideal S2048x2048 .f32) (ix2 (hcol i j) k) := by
  have h : @Eq (Vec Ideal S2x1024x2048 .bf16) (V m c main_v5) (truncf (F := Ideal) .bf16 (shapeCast S2x1024x2048 ((m ((c : Thread nD τ).loc main_arg2)) : FVec Ideal S2048x2048 .f32) shapeCasts_S2048x2048_S2x1024x2048) bitsLt_bf16_f32) := by
    unfold_abbrev_sides; rfl
  rw [h]
  show shapeCast S2x1024x2048 ((m ((c : Thread nD τ).loc main_arg2)) : FVec Ideal S2048x2048 .f32) shapeCasts_S2048x2048_S2x1024x2048 (ix3 i j k) = _
  refine shapeCast_apply _ _ _ (ix2 (hcol i j) k) ?_
  rw [Shape.rowMajor_val_two, Shape.rowMajor_val_three]
  rfl

theorem entry_gain (c : Dev nD) (z : Fin 1) (k : Fin 2048) : (V m c main_v6 : Vec Ideal S1x2048 .f32) (ix2 z k)
    = ((m ((c : Thread nD τ).loc main_arg4)) : Vec Ideal S2048 .f32) (ix1 k) := by
  have h : @Eq (Vec Ideal S1x2048 .f32) (V m c main_v6) (shapeCast S1x2048 ((m ((c : Thread nD τ).loc main_arg4)) : FVec Ideal S2048 .f32) shapeCasts_S2048_S1x2048) := by
    unfold_abbrev_sides; rfl
  rw [h]
  pointwise

/-! ## Where a block's element lies in its array -/

/-- Row `r` of the 512 rows that step `n` works on. -/
def row (n : ℕ) (r : Fin 512) : Fin 8192 := ⟨n % 16 * 512 + r.val, by omega⟩

theorem idx0 : ∀ t : Fin cfg0.N, win0_0.index t (0 : Fin 3) = 0 ∧ win0_0.index t (1 : Fin 3) = t.val % 16 ∧ win0_0.index t (2 : Fin 3) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 3) = 1 ∧ win0_2.index t (1 : Fin 3) = t.val % 16 ∧ win0_2.index t (2 : Fin 3) = 0 :=
  (by decide +kernel : ∀ t : Fin grid0.N, _)
theorem idx3 : ∀ t : Fin cfg0.N, win0_3.index t (0 : Fin 3) = 1 ∧ win0_3.index t (1 : Fin 3) = 0 ∧ win0_3.index t (2 : Fin 3) = 0 :=
  (by decide +kernel : ∀ t : Fin grid0.N, _)
theorem idx4 : ∀ t : Fin cfg0.N, win0_4.index t (0 : Fin 2) = t.val % 16 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val % 16 ∧ win0_6.index t (1 : Fin 2) = 0 :=
  (by decide +kernel : ∀ t : Fin grid0.N, _)
theorem idx7 : ∀ t : Fin cfg0.N, win0_7.index t (0 : Fin 2) = t.val % 16 ∧ win0_7.index t (1 : Fin 2) = 0 :=
  (by decide +kernel : ∀ t : Fin grid0.N, _)

theorem emb0 (t : Fin cfg0.N) (z : Fin 1) (r : Fin 512) (s : Fin 1024) :
    ((cfg0.win 0).blk t).view.emb (ix3 z r s : S1x512x1024.Idx) = (ix3 0 (row t.val r) s : S2x8192x1024.Idx) := by
  obtain ⟨e0, e1, e2⟩ := idx0 t
  funext a; apply Fin.ext
  match a with
  | ⟨0, _⟩ => show win0_0.index t (0 : Fin 3) * 1 + 1 * z.val = 0; omega
  | ⟨1, _⟩ => show win0_0.index t (1 : Fin 3) * 512 + 1 * r.val = t.val % 16 * 512 + r.val; omega
  | ⟨2, _⟩ => show win0_0.index t (2 : Fin 3) * 1024 + 1 * s.val = s.val; omega

theorem emb2 (t : Fin cfg0.N) (z : Fin 1) (r : Fin 512) (s : Fin 1024) :
    ((cfg0.win 2).blk t).view.emb (ix3 z r s : S1x512x1024.Idx) = (ix3 1 (row t.val r) s : S2x8192x1024.Idx) := by
  obtain ⟨e0, e1, e2⟩ := idx2 t
  funext a; apply Fin.ext
  match a with
  | ⟨0, _⟩ => show win0_2.index t (0 : Fin 3) * 1 + 1 * z.val = 1; omega
  | ⟨1, _⟩ => show win0_2.index t (1 : Fin 3) * 512 + 1 * r.val = t.val % 16 * 512 + r.val; omega
  | ⟨2, _⟩ => show win0_2.index t (2 : Fin 3) * 1024 + 1 * s.val = s.val; omega

theorem emb1 (t : Fin cfg0.N) (z : Fin 1) (s : Fin 1024) (k : Fin 2048) :
    ((cfg0.win 1).blk t).view.emb (ix3 z s k : S1x1024x2048.Idx) = (ix3 0 s k : S2x1024x2048.Idx) := by
  obtain ⟨e0, e1, e2⟩ := idx1 t
  funext a; apply Fin.ext
  match a with
  | ⟨0, _⟩ => show win0_1.index t (0 : Fin 3) * 1 + 1 * z.val = 0; omega
  | ⟨1, _⟩ => show win0_1.index t (1 : Fin 3) * 1024 + 1 * s.val = s.val; omega
  | ⟨2, _⟩ => show win0_1.index t (2 : Fin 3) * 2048 + 1 * k.val = k.val; omega

theorem emb3 (t : Fin cfg0.N) (z : Fin 1) (s : Fin 1024) (k : Fin 2048) :
    ((cfg0.win 3).blk t).view.emb (ix3 z s k : S1x1024x2048.Idx) = (ix3 1 s k : S2x1024x2048.Idx) := by
  obtain ⟨e0, e1, e2⟩ := idx3 t
  funext a; apply Fin.ext
  match a with
  | ⟨0, _⟩ => show win0_3.index t (0 : Fin 3) * 1 + 1 * z.val = 1; omega
  | ⟨1, _⟩ => show win0_3.index t (1 : Fin 3) * 1024 + 1 * s.val = s.val; omega
  | ⟨2, _⟩ => show win0_3.index t (2 : Fin 3) * 2048 + 1 * k.val = k.val; omega

theorem emb4 (t : Fin cfg0.N) (r : Fin 512) (k : Fin 2048) :
    ((cfg0.win 4).blk t).view.emb (ix2 r k : S512x2048.Idx) = (ix2 (row t.val r) k : S8192x2048.Idx) := by
  obtain ⟨e0, e1⟩ := idx4 t
  funext a; apply Fin.ext
  match a with
  | ⟨0, _⟩ => show win0_4.index t (0 : Fin 2) * 512 + 1 * r.val = t.val % 16 * 512 + r.val; omega
  | ⟨1, _⟩ => show win0_4.index t (1 : Fin 2) * 2048 + 1 * k.val = k.val; omega

theorem emb6 (t : Fin cfg0.N) (r : Fin 512) (k : Fin 2048) :
    ((cfg0.win 6).blk t).view.emb (ix2 r k : S512x2048.Idx) = (ix2 (row t.val r) k : S8192x2048.Idx) := by
  obtain ⟨e0, e1⟩ := idx6 t
  funext a; apply Fin.ext
  match a with
  | ⟨0, _⟩ => show win0_6.index t (0 : Fin 2) * 512 + 1 * r.val = t.val % 16 * 512 + r.val; omega
  | ⟨1, _⟩ => show win0_6.index t (1 : Fin 2) * 2048 + 1 * k.val = k.val; omega

theorem emb7 (t : Fin cfg0.N) (r : Fin 512) (k : Fin 2048) :
    ((cfg0.win 7).blk t).view.emb (ix2 r k : S512x2048.Idx) = (ix2 (row t.val r) k : S8192x2048.Idx) := by
  obtain ⟨e0, e1⟩ := idx7 t
  funext a; apply Fin.ext
  match a with
  | ⟨0, _⟩ => show win0_7.index t (0 : Fin 2) * 512 + 1 * r.val = t.val % 16 * 512 + r.val; omega
  | ⟨1, _⟩ => show win0_7.index t (1 : Fin 2) * 2048 + 1 * k.val = k.val; omega

theorem emb5 (t : Fin cfg0.N) (z : Fin 1) (k : Fin 2048) :
    ((cfg0.win 5).blk t).view.emb (ix2 z k : S1x2048.Idx) = (ix2 z k : S1x2048.Idx) := by
  obtain ⟨e0, e1⟩ := idx5 t
  funext a; apply Fin.ext
  match a with
  | ⟨0, _⟩ => show win0_5.index t (0 : Fin 2) * 1 + 1 * z.val = z.val; omega
  | ⟨1, _⟩ => show win0_5.index t (1 : Fin 2) * 2048 + 1 * k.val = k.val; omega

theorem iblk0 (c : Dev nD) (t : Fin cfg0.N) (z : Fin 1) (r : Fin 512) (s : Fin 1024) :
    (iblk m c 0 t : Vec Ideal S1x512x1024 .bf16) (ix3 z r s)
    = both (m ((c : Thread nD τ).loc main_arg0)) (m ((c : Thread nD τ).loc main_arg1)) (row t.val r) (hcol 0 s) := by
  show (V m c main_v3 : Vec Ideal S2x8192x1024 .bf16) (((cfg0.win 0).blk t).view.emb (ix3 z r s : S1x512x1024.Idx)) = _
  rw [emb0, entry_a]

theorem iblk2 (c : Dev nD) (t : Fin cfg0.N) (z : Fin 1) (r : Fin 512) (s : Fin 1024) :
    (iblk m c 2 t : Vec Ideal S1x512x1024 .bf16) (ix3 z r s)
    = both (m ((c : Thread nD τ).loc main_arg0)) (m ((c : Thread nD τ).loc main_arg1)) (row t.val r) (hcol 1 s) := by
  show (V m c main_v3 : Vec Ideal S2x8192x1024 .bf16) (((cfg0.win 2).blk t).view.emb (ix3 z r s : S1x512x1024.Idx)) = _
  rw [emb2, entry_a]

theorem iblk1 (c : Dev nD) (t : Fin cfg0.N) (z : Fin 1) (s : Fin 1024) (k : Fin 2048) :
    (iblk m c 1 t : Vec Ideal S1x1024x2048 .bf16) (ix3 z s k)
    = ((m ((c : Thread nD τ).loc main_arg2)) : Vec Ideal S2048x2048 .f32) (ix2 (hcol 0 s) k) := by
  show (V m c main_v5 : Vec Ideal S2x1024x2048 .bf16) (((cfg0.win 1).blk t).view.emb (ix3 z s k : S1x1024x2048.Idx)) = _
  rw [emb1, entry_w]

theorem iblk3 (c : Dev nD) (t : Fin cfg0.N) (z : Fin 1) (s : Fin 1024) (k : Fin 2048) :
    (iblk m c 3 t : Vec Ideal S1x1024x2048 .bf16) (ix3 z s k)
    = ((m ((c : Thread nD τ).loc main_arg2)) : Vec Ideal S2048x2048 .f32) (ix2 (hcol 1 s) k) := by
  show (V m c main_v5 : Vec Ideal S2x1024x2048 .bf16) (((cfg0.win 3).blk t).view.emb (ix3 z s k : S1x1024x2048.Idx)) = _
  rw [emb3, entry_w]

theorem iblk4 (c : Dev nD) (t : Fin cfg0.N) (r : Fin 512) (k : Fin 2048) : (iblk m c 4 t : Vec Ideal S512x2048 .f32) (ix2 r k)
    = ((m ((c : Thread nD τ).loc main_arg3)) : Vec Ideal S8192x2048 .f32) (ix2 (row t.val r) k) := by
  have e : (V m c main_arg3 : Vec Ideal S8192x2048 .f32) = m ((c : Thread nD τ).loc main_arg3) := by
    unfold_abbrev_sides; rfl
  show (V m c main_arg3 : Vec Ideal S8192x2048 .f32) (((cfg0.win 4).blk t).view.emb (ix2 r k : S512x2048.Idx)) = _
  rw [emb4, e]

theorem iblk5 (c : Dev nD) (t : Fin cfg0.N) (z : Fin 1) (k : Fin 2048) : (iblk m c 5 t : Vec Ideal S1x2048 .f32) (ix2 z k)
    = ((m ((c : Thread nD τ).loc main_arg4)) : Vec Ideal S2048 .f32) (ix1 k) := by
  show (V m c main_v6 : Vec Ideal S1x2048 .f32) (((cfg0.win 5).blk t).view.emb (ix2 z k : S1x2048.Idx)) = _
  rw [emb5, entry_gain]

/-! ## The body's stores -/

/-- The product of two blocks that a step reads, at one index. -/
def prod (x0 : Vec Ideal S1x512x1024 .bf16) (x1 : Vec Ideal S1x1024x2048 .bf16) (r : Fin 512) (k : Fin 2048) : EReal :=
  ∑ s : Fin 1024, x0 (ix3 0 r s) * x1 (ix3 0 s k)

section Terms
variable (x0 : Vec Ideal S1x512x1024 .bf16) (x1 : Vec Ideal S1x1024x2048 .bf16) (x2 : Vec Ideal S1x512x1024 .bf16)
  (x3 : Vec Ideal S1x1024x2048 .bf16) (x4 : Vec Ideal S512x2048 .f32) (x5 : Vec Ideal S1x2048 .f32)

/-- The second output is the sum of the step's two products. -/
theorem pay1 (r : Fin 512) (k : Fin 2048) :
    k0_pay1 (F := Ideal) x0 x1 x2 x3 (ix2 r k) = prod x0 x1 r k + prod x2 x3 r k := by
  unfold prod
  unfold_payloads
  pointwise

/-- The first output, from that sum, the residual and the gain. -/
theorem pay2 (r : Fin 512) (k : Fin 2048) :
    k0_pay2 (F := Ideal) x0 x1 x2 x3 x4 x5 (ix2 r k)
    = post (fun j => k0_pay1 (F := Ideal) x0 x1 x2 x3 (ix2 r j)) (x4 (ix2 r k)) (x5 (ix2 0 k)) k := by
  unfold k0_pay2
  generalize k0_pay1 (F := Ideal) x0 x1 x2 x3 = y
  unfold post
  pointwise

theorem out6_eq : out0_6 (F := Ideal) x0 x1 x2 x3 x4 x5 = k0_pay2 x0 x1 x2 x3 x4 x5 := by
  unfold out0_6 r0_0 r0_1 r0_2 r0_3
  rw [View.canon_unit_zero hz2]
  simp only [View.ld_unit_zero (S := S1x512x1024) hz3, View.ld_unit_zero (S := S1x1024x2048) hz3, View.ld_unit_zero (S := S512x2048) hz2,
    View.ld_unit_zero (S := S1x2048) hz2]

theorem out7_eq : out0_7 (F := Ideal) x0 x1 x2 x3 x4 x5 = k0_pay1 x0 x1 x2 x3 := by
  unfold out0_7 r0_0 r0_1 r0_2
  rw [View.canon_unit_zero hz2]
  simp only [View.ld_unit_zero (S := S1x512x1024) hz3, View.ld_unit_zero (S := S1x1024x2048) hz3]

end Terms

/-! ## The results -/

/-- The product as a function of the launched arguments. -/
def GY (c : Dev nD) : Vec Ideal S8192x2048 .f32 := proj (m ((c : Thread nD τ).loc main_arg0)) (m ((c : Thread nD τ).loc main_arg1)) (m ((c : Thread nD τ).loc main_arg2))

/-- The layer's output as a function of the launched arguments. -/
def GO (c : Dev nD) : Vec Ideal S8192x2048 .f32 := outp (GY m c) (m ((c : Thread nD τ).loc main_arg3)) (m ((c : Thread nD τ).loc main_arg4))

/-- One column's share, of the launched arguments. -/
def term (c : Dev nD) (p : Fin 8192) (k f : Fin 2048) : EReal := share (m ((c : Thread nD τ).loc main_arg0)) (m ((c : Thread nD τ).loc main_arg1)) (m ((c : Thread nD τ).loc main_arg2)) p k f

/-- The two products of a step are its rows of the product. -/
theorem acc_eq (c : Dev nD) (t : Fin cfg0.N) (r : Fin 512) (k : Fin 2048) :
    (k0_pay1 (F := Ideal) (iblk m c 0 t) (iblk m c 1 t) (iblk m c 2 t) (iblk m c 3 t) (ix2 r k) : EReal)
    = GY m c (ix2 (row t.val r) k : S8192x2048.Idx) := by
  rw [pay1]
  have e0 : prod (iblk m c 0 t) (iblk m c 1 t) r k = ∑ s : Fin 1024, term m c (row t.val r) k (hcol 0 s) := by
    unfold prod term share
    refine Finset.sum_congr rfl fun s _ => ?_
    rw [iblk0, iblk1]
  have e1 : prod (iblk m c 2 t) (iblk m c 3 t) r k = ∑ s : Fin 1024, term m c (row t.val r) k (hcol 1 s) := by
    unfold prod term share
    refine Finset.sum_congr rfl fun s _ => ?_
    rw [iblk2, iblk3]
  rw [e0, e1]
  have e := sum_steps 2 1024 rfl (term m c (row t.val r) k) (fun n s => hcol ⟨n % 2, by omega⟩ s) 0
    fun j hj s => by show (2 * 0 + j) % 2 * 1024 + s.val = s.val + 1024 * j; omega
  rw [Finset.sum_range_succ, Finset.sum_range_one] at e
  exact e

/-- What a point writes back of the first output is its block of `GO`. -/
theorem flushed6_eq (c : Dev nD) (t : Fin cfg0.N) :
    (dats m 0 c).flushed 6 t = ((cfg0.win 6).blk t).view.read (Elt Ideal) (GO m c) := by
  rw [Value.flushed6 m c t]
  funext y
  obtain ⟨r, k, rfl⟩ := idx2_eq (a := 512) (b := 2048) y
  rw [out6_eq]
  show k0_pay2 (F := Ideal) (iblk m c 0 t) (iblk m c 1 t) (iblk m c 2 t) (iblk m c 3 t) (iblk m c 4 t) (iblk m c 5 t) (ix2 r k)
    = GO m c (((cfg0.win 6).blk t).view.emb (ix2 r k : S512x2048.Idx))
  rw [emb6, pay2, iblk4, iblk5]
  simp only [acc_eq m c t]
  rfl

/-- What a point writes back of the second output is its block of `GY`. -/
theorem flushed7_eq (c : Dev nD) (t : Fin cfg0.N) :
    (dats m 0 c).flushed 7 t = ((cfg0.win 7).blk t).view.read (Elt Ideal) (GY m c) := by
  rw [Value.flushed7 m c t]
  funext y
  obtain ⟨r, k, rfl⟩ := idx2_eq (a := 512) (b := 2048) y
  rw [out7_eq]
  show k0_pay1 (F := Ideal) (iblk m c 0 t) (iblk m c 1 t) (iblk m c 2 t) (iblk m c 3 t) (ix2 r k)
    = GY m c (((cfg0.win 7).blk t).view.emb (ix2 r k : S512x2048.Idx))
  rw [emb7]
  exact acc_eq m c t r k

/-! Every index lies in the block that its point writes back. -/

theorem covered6 (i : S8192x2048.Idx) :
    ∃ t : Fin cfg0.N, (cfg0.win 6).flush t = true ∧ i ∈ ((cfg0.win 6).blk t).view.set := by
  obtain ⟨p, k, rfl⟩ := idx2_eq (a := 8192) (b := 2048) i
  let t : Fin cfg0.N := ⟨p.val / 512, by show _ < 16; omega⟩
  let r : Fin 512 := ⟨p.val % 512, by omega⟩
  have e : (ix2 p k : S8192x2048.Idx) = ix2 (row t.val r) k :=
    congrArg (fun q => ix2 q k) (Fin.ext (by show p.val = p.val / 512 % 16 * 512 + p.val % 512; omega))
  refine ⟨t, flush0_6 t, ?_⟩
  rw [e, ← emb6 t r k]
  exact ((cfg0.win 6).blk t).view.emb_mem_set _

theorem covered7 (i : S8192x2048.Idx) :
    ∃ t : Fin cfg0.N, (cfg0.win 7).flush t = true ∧ i ∈ ((cfg0.win 7).blk t).view.set := by
  obtain ⟨p, k, rfl⟩ := idx2_eq (a := 8192) (b := 2048) i
  let t : Fin cfg0.N := ⟨p.val / 512, by show _ < 16; omega⟩
  let r : Fin 512 := ⟨p.val % 512, by omega⟩
  have e : (ix2 p k : S8192x2048.Idx) = ix2 (row t.val r) k :=
    congrArg (fun q => ix2 q k) (Fin.ext (by show p.val = p.val / 512 % 16 * 512 + p.val % 512; omega))
  refine ⟨t, flush0_7 t, ?_⟩
  rw [e, ← emb7 t r k]
  exact ((cfg0.win 7).blk t).view.emb_mem_set _

/-- The run with the two results at their functions of the arguments. -/
theorem run : θ_run defs (onTc (τ := τ) (main (F := Ideal))) ⟨m, fun _ => 0, ρ⟩ fun r => ∀ c : Dev nD,
      r.2.mem ((c : Thread nD τ).loc main_v7_0) = GO m c
      ∧ r.2.mem ((c : Thread nD τ).loc main_v7_1) = GY m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨(h c).1.trans ((dats m 0 c).arrAt_eq_of_cover 6 (GO m c) (fun t _ => flushed6_eq m c t) covered6),
      (h c).2.1.trans ((dats m 0 c).arrAt_eq_of_cover 7 (GY m c) (fun t _ => flushed7_eq m c t) covered7), (h c).2.2⟩)
    (Value.run_blocks m ρ)

end Cert.Proof.MixOutput

end
-- ==== Proof.MixOutputRef.lean ====
/- The mixing layer's output projection: the reference's results index by index, and their equality with the kernel's. -/
module

public import proofs.«01_k».proof.Proof.MixOutput
public import proofs.«01_k».proof.Proof.Gen.Reference14Ideal.Run
public import proofs.«01_k».proof.Proof.Gen.Reference14Ideal.Read
public import proofs.«01_k».proof.Defs

@[expose] public section

set_option maxRecDepth 16384

noncomputable section

namespace Cert.Proof.MixOutput

open Idealize.ShloMosaic Idealize.ShloMosaic.TcCoe Idealize.SL.Sem
open Cert.Reference14Ideal Cert.Reference14Ideal.Gen Cert.Reference14Ideal.Value
open Cert.Proof.Heads Cert.Proof.Pieces

variable (x0 x1 : Vec Ideal S8192x1024 .f32) (x2 : Vec Ideal S2048x2048 .f32) (x3 : Vec Ideal S8192x2048 .f32) (x4 : Vec Ideal S2048 .f32)

/-- The reference's product is the kernel's. -/
theorem ref_proj : Read.val_main_v1 (F := Ideal) x0 x1 x2 = proj x0 x1 x2 := by
  funext i
  obtain ⟨r, k, rfl⟩ := idx2_eq (a := 8192) (b := 2048) i
  rw [Read.val_main_v1_apply]
  refine Finset.sum_congr rfl fun f _ => ?_
  have e0 : Read.lidx_main_v1 (ix2 r k) f = ix2 r f := by
    funext a; match a with | ⟨0, _⟩ => rfl | ⟨1, _⟩ => rfl
  have e1 : Read.ridx_main_v1 (ix2 r k) f = ix2 f k := by
    funext a; match a with | ⟨0, _⟩ => rfl | ⟨1, _⟩ => rfl
  have e2 : (Read.val_main_v0 (F := Ideal) x0 x1 (ix2 r f) : EReal) = both x0 x1 r f := cat_eq x0 x1 _ r f
  rw [e0, e1]
  exact congrArg (fun y : EReal => y * (x2 (ix2 f k) : EReal)) e2

/-- The reference's output is the kernel's. -/
theorem ref_out : Read.val_main_v15 (F := Ideal) x0 x1 x2 x3 x4 = outp (proj x0 x1 x2) x3 x4 := by
  funext i
  obtain ⟨r, k, rfl⟩ := idx2_eq (a := 8192) (b := 2048) i
  unfold Read.val_main_v15 Read.val_main_v14 Read.val_main_v13
    Read.val_main_v12 Read.val_main_v11 Read.val_main_v10 Read.val_main_v9 Read.val_main_v8 Read.val_main_v7 Read.val_main_v6
    Read.val_main_v5 Read.val_main_v4 Read.val_main_v3 Read.val_main_v2 Read.val_main_cst Read.val_main_cst_0 Read.val_main_cst_1
  rw [ref_proj]
  generalize proj x0 x1 x2 = y
  unfold outp post
  pointwise

/-- The output projection by the kernel and by the reference: equal results on equal arguments, the arguments kept. -/
theorem algebraic : Cert.algebraic_Kernel14Ideal_Reference14Ideal := by
  intro m g m' g' _ hargs
  refine ⟨fun c => GO m c, fun c => GY m c, run m g, ?_⟩
  refine (θ_run _ _ _).mono (fun r h c => ?_) (Cert.Reference14Ideal.Value.run m' g')
  obtain ⟨e1, e2, ek⟩ := h c
  obtain ⟨a0, a1, a2, a3, a4⟩ := hargs c
  refine ⟨e1.trans ?_, e2.trans ?_, ek⟩
  · rw [a0, a1, a2, a3, a4, Read.val_main_v15_eq]
    exact ref_out _ _ _ _ _
  · rw [a0, a1, a2, Read.val_main_v1_eq]
    exact ref_proj _ _ _

end Cert.Proof.MixOutput

end
-- ==== Proof.Online.lean ====
/- A softmax taken in steps over the extended reals: how a maximum, the sum of the exponentials below it and a sum weighted by
   them are carried from one block of entries to the next. An entry that is left out is `⊥`. -/
module

public import Idealize.ShloMosaic.Lib.Pointwise

@[expose] public section

namespace Cert.Proof.Online

open Idealize.ShloMosaic

/-- The maximum of the entries in `A`, `⊥` of none. -/
noncomputable def top {ι : Type} (A : Finset ι) (t : ι → EReal) : EReal := A.sup t

/-- The sum of the exponentials of the entries in `A` below `M`. -/
noncomputable def mass {ι : Type} (A : Finset ι) (t : ι → EReal) (M : EReal) : EReal := ∑ j ∈ A, Ideal.exp (t j - M)

/-- The sum of `v` over `A`, each entry times its exponential. -/
noncomputable def blend {ι : Type} (A : Finset ι) (t v : ι → EReal) (M : EReal) : EReal := ∑ j ∈ A, Ideal.exp (t j - M) * v j

/-- The exponential is never negative. -/
theorem exp_nonneg (x : EReal) : 0 ≤ Ideal.exp x := by
  induction x with
  | bot => simp
  | top => simp
  | coe r => rw [Ideal.exp_coe]; exact_mod_cast (Real.exp_pos r).le

/-- Moving the reference point from `m` up to `M`: the entry below `m`, times the exponential of the step. -/
theorem exp_shift {t m M : EReal} (h : t ≤ m) (h' : m ≤ M) : Ideal.exp (m - M) * Ideal.exp (t - m) = Ideal.exp (t - M) := by
  induction M with
  | top => simp [sub_eq_add_neg]
  | bot =>
    obtain rfl : m = ⊥ := le_bot_iff.mp h'
    obtain rfl : t = ⊥ := le_bot_iff.mp h
    simp [sub_eq_add_neg]
  | coe M =>
    induction m with
    | top => exact absurd h' (by simp)
    | bot =>
      obtain rfl : t = ⊥ := le_bot_iff.mp h
      simp [sub_eq_add_neg]
    | coe m =>
      induction t with
      | top => exact absurd h (by simp)
      | bot => simp [sub_eq_add_neg]
      | coe t =>
        rw [← EReal.coe_sub, ← EReal.coe_sub, ← EReal.coe_sub, Ideal.exp_coe, Ideal.exp_coe, Ideal.exp_coe, ← EReal.coe_mul,
          ← Real.exp_add]
        congr 2
        ring

/-- The exponential of a step upwards is not infinite. -/
theorem exp_step_ne_top {m M : EReal} (h' : m ≤ M) : Ideal.exp (m - M) ≠ ⊤ := by
  induction M with
  | top => simp [sub_eq_add_neg]
  | bot => obtain rfl : m = ⊥ := le_bot_iff.mp h'; simp [sub_eq_add_neg]
  | coe M =>
    induction m with
    | top => exact absurd h' (by simp)
    | bot => simp [sub_eq_add_neg]
    | coe m => rw [← EReal.coe_sub, Ideal.exp_coe]; exact EReal.coe_ne_top _

/-- A factor that is neither negative nor infinite goes into a sum. -/
theorem mul_sum {ι : Type} (A : Finset ι) (a : EReal) (h : 0 ≤ a) (h' : a ≠ ⊤) (f : ι → EReal) :
    a * ∑ j ∈ A, f j = ∑ j ∈ A, a * f j := by
  classical
  induction A using Finset.induction_on with
  | empty => simp
  | insert x A hx ih => rw [Finset.sum_insert hx, Finset.sum_insert hx, EReal.left_distrib_of_nonneg_of_ne_top h h', ih]

/-- One step of the sum of exponentials: the old sum scaled to the new maximum, and the new block's. -/
theorem mass_step {ι : Type} [DecidableEq ι] {A B : Finset ι} (hd : Disjoint A B) (t : ι → EReal) (M : EReal)
    (hM : top A t ≤ M) :
    Ideal.exp (top A t - M) * mass A t (top A t) + mass B t M = mass (A ∪ B) t M := by
  unfold mass
  rw [Finset.sum_union hd, mul_sum A _ (exp_nonneg _) (exp_step_ne_top hM)]
  congr 1
  exact Finset.sum_congr rfl fun j hj => exp_shift (Finset.le_sup (f := t) hj) hM

/-- One step of the weighted sum. -/
theorem blend_step {ι : Type} [DecidableEq ι] {A B : Finset ι} (hd : Disjoint A B) (t v : ι → EReal) (M : EReal)
    (hM : top A t ≤ M) :
    Ideal.exp (top A t - M) * blend A t v (top A t) + blend B t v M = blend (A ∪ B) t v M := by
  unfold blend
  rw [Finset.sum_union hd, mul_sum A _ (exp_nonneg _) (exp_step_ne_top hM)]
  congr 1
  refine Finset.sum_congr rfl fun j hj => ?_
  rw [← mul_assoc]
  exact congrArg (· * v j) (exp_shift (Finset.le_sup (f := t) hj) hM)

/-- One step of the maximum. -/
theorem top_step {ι : Type} [DecidableEq ι] (A B : Finset ι) (t : ι → EReal) : max (top A t) (top B t) = top (A ∪ B) t :=
  Finset.sup_union.symm

/-- Entries that are left out change nothing: the maximum, -/
theorem top_mono {ι : Type} {A B : Finset ι} (h : A ⊆ B) (t : ι → EReal) (h' : ∀ j ∈ B, j ∉ A → t j = ⊥) : top A t = top B t := by
  refine le_antisymm (Finset.sup_mono h) (Finset.sup_le fun j hj => ?_)
  by_cases hA : j ∈ A
  · exact Finset.le_sup hA
  · rw [h' j hj hA]; exact bot_le

/-- … the sum of the exponentials, -/
theorem mass_mono {ι : Type} {A B : Finset ι} (h : A ⊆ B) (t : ι → EReal) (M : EReal) (h' : ∀ j ∈ B, j ∉ A → t j = ⊥) :
    mass A t M = mass B t M :=
  Finset.sum_subset h fun j hj hA => by rw [h' j hj hA]; simp [sub_eq_add_neg]

/-- … and the weighted sum. -/
theorem blend_mono {ι : Type} {A B : Finset ι} (h : A ⊆ B) (t v : ι → EReal) (M : EReal) (h' : ∀ j ∈ B, j ∉ A → t j = ⊥) :
    blend A t v M = blend B t v M :=
  Finset.sum_subset h fun j hj hA => by rw [h' j hj hA]; simp [sub_eq_add_neg]

/-- Where the maximum is a real number, the sum of the exponentials is a positive real. -/
theorem mass_real {ι : Type} {A : Finset ι} (t : ι → EReal) (h : ∀ j ∈ A, t j ≠ ⊤) (h' : ∃ j ∈ A, t j ≠ ⊥) :
    ∃ r : ℝ, 0 < r ∧ mass A t (top A t) = (r : EReal) := by
  obtain ⟨j₀, hj₀, hne⟩ := h'
  have hM : ∃ M : ℝ, top A t = (M : EReal) := by
    obtain ⟨i, hi, e⟩ := Finset.exists_mem_eq_sup A ⟨j₀, hj₀⟩ t
    refine ⟨(t i).toReal, ?_⟩
    unfold top
    rw [e, EReal.coe_toReal (h i hi)]
    intro hb
    exact hne (le_bot_iff.mp ((Finset.le_sup (f := t) hj₀).trans (by rw [e, hb])))
  obtain ⟨M, hM⟩ := hM
  have hr : ∀ j ∈ A, ∃ x : ℝ, 0 ≤ x ∧ (t j ≠ ⊥ → 0 < x) ∧ Ideal.exp (t j - top A t) = (x : EReal) := by
    intro j hj
    rw [hM]
    rcases eq_or_ne (t j) ⊥ with hb | hb
    · exact ⟨0, le_rfl, fun h => absurd hb h, by rw [hb]; simp [sub_eq_add_neg]⟩
    · refine ⟨Real.exp ((t j).toReal - M), (Real.exp_pos _).le, fun _ => Real.exp_pos _, ?_⟩
      conv_lhs => rw [← EReal.coe_toReal (h j hj) hb]
      rw [← EReal.coe_sub, Ideal.exp_coe]
  choose! x hx0 hxp hx using hr
  refine ⟨∑ j ∈ A, x j, ?_, ?_⟩
  · exact Finset.sum_pos' hx0 ⟨j₀, hj₀, hxp j₀ hj₀ hne⟩
  · unfold mass
    rw [Finset.sum_congr rfl hx]
    exact (map_sum (⟨⟨Real.toEReal, EReal.coe_zero⟩, EReal.coe_add⟩ : ℝ →+ EReal) x A).symm

/-- Dividing the weighted sum by the whole at its end is weighting by the shares. -/
theorem blend_div {ι : Type} (A : Finset ι) (t v : ι → EReal) (M : EReal) {L : EReal} {r : ℝ} (hr : 0 < r) (hL : L = (r : EReal)) :
    Ideal.div (blend A t v M) L = ∑ j ∈ A, Ideal.div (Ideal.exp (t j - M)) L * v j := by
  subst hL
  unfold blend
  rw [Ideal.div_coe hr.ne', mul_comm, mul_sum A _ (by exact_mod_cast (by positivity : (0:ℝ) ≤ 1 / r)) (EReal.coe_ne_top _)]
  refine Finset.sum_congr rfl fun j _ => ?_
  rw [Ideal.div_coe hr.ne', ← mul_assoc, mul_comm ((1 / r : ℝ) : EReal)]

end Cert.Proof.Online

end
-- ==== Proof.Attend.lean ====
/- The attention of the forward step as the kernel `mla_fwd` leaves it (at `Ideal`): for a pair of heads and a block of 512
   queries, the scores of one block of 512 keys after another, with the running maximum, the running sum of exponentials and the
   running weighted sum of the values; the last block is masked above the diagonal. -/
module

public import proofs.«01_k».proof.Proof.Gen.Kernel15Ideal.Value
public import proofs.«01_k».proof.Proof.Online
public import proofs.«01_k».proof.Proof.Pieces
public import Idealize.ShloMosaic.Lib.KernelVsHost

@[expose] public section

set_option maxRecDepth 16384

noncomputable section

namespace Cert.Proof.Attend

open Cert.Kernel15Ideal Cert.Kernel15Ideal.Gen Idealize.ShloMosaic Idealize.ShloMosaic.TcCoe Idealize.SL.Sem
open Cert.Proof.Online Cert.Proof.Pieces

/-! ## One block of keys -/

/-- The running maximum after a block of scores. -/
def newM (s : FVec Ideal S512x512 .f32) (M : FVec Ideal S512x1 .f32) : FVec Ideal S512x1 .f32 :=
  maximumf M (shapeCast S512x1 (multiReduction .maximumf [1] S512 s 0xFF800000#32 reduces_S512x512_S512 (.inl rfl) rfl) shapeCasts_S512_S512x1)

/-- What the old sums are scaled by. -/
def alpha (M M' : FVec Ideal S512x1 .f32) : FVec Ideal S512x1 .f32 := exp (subf M M')

/-- The running sum of exponentials. -/
def newL (s : FVec Ideal S512x512 .f32) (M L : FVec Ideal S512x1 .f32) : FVec Ideal S512x1 .f32 :=
  k0_pay27 L s (newM s M) (alpha M (newM s M))

/-- The running weighted sum of the values. -/
def newO (s : FVec Ideal S512x512 .f32) (M : FVec Ideal S512x1 .f32) (O : FVec Ideal S512x128 .f32) (v : Vec Ideal S512x128 .bf16) :
    FVec Ideal S512x128 .f32 :=
  k0_pay28 O s (newM s M) (alpha M (newM s M)) v

/-- What the loop carries: maximum, sum and weighted sum, of either head. -/
abbrev Carry : Type := FVec Ideal S512x1 .f32 × FVec Ideal S512x1 .f32 × FVec Ideal S512x128 .f32 × FVec Ideal S512x1 .f32 × FVec Ideal S512x1 .f32 × FVec Ideal S512x128 .f32

/-- One block of keys, for both heads. -/
def step (s0 s1 : FVec Ideal S512x512 .f32) (v0 v1 : Vec Ideal S512x128 .bf16) (a : Carry) : Carry :=
  (newM s0 a.1, newL s0 a.1 a.2.1, newO s0 a.1 a.2.2.1 v0,
    newM s1 a.2.2.2.1, newL s1 a.2.2.2.1 a.2.2.2.2.1, newO s1 a.2.2.2.1 a.2.2.2.2.2 v1)

/-- The scores of the block on the diagonal: masked where the key comes after the query. -/
def maskS (b : BitVec 32) (s : FVec Ideal S512x512 .f32) : FVec Ideal S512x512 .f32 :=
  select (cmpi .sge (addi (iota .tc S512x512 32 [0] iota_S512x512_d0_w32) (broadcast S512x512 b)) (iota .tc S512x512 32 [1] iota_S512x512_d1_w32))
    s (broadcast S512x512 (Named.named κ "mask" 0xF149F2CA#32))

theorem sup_fold {n : ℕ} (f : Fin n → EReal) : (Finset.univ : Finset (Fin n)).fold max ⊥ f = top Finset.univ f := by
  unfold top Finset.sup; rfl

theorem newM_eq (s : FVec Ideal S512x512 .f32) (M : FVec Ideal S512x1 .f32) (r : Fin 512) :
    (newM s M (ix2 r 0) : EReal) = max (M (ix2 r 0) : EReal) (top Finset.univ fun c : Fin 512 => (s (ix2 r c) : EReal)) := by
  have h : (shapeCast S512x1 (multiReduction .maximumf [1] S512 s 0xFF800000#32 reduces_S512x512_S512 (.inl rfl) rfl) shapeCasts_S512_S512x1
      (ix2 r 0) : EReal) = top Finset.univ fun c : Fin 512 => (s (ix2 r c) : EReal) := by
    rw [shapeCast_apply _ _ _ (ix1 r) (by rfl)]
    refine (Ideal.multiReduction_maximumf_single _ _ _ _ _ _).trans ?_
    have hb : (FloatOps.ofBits (F := Ideal) .f32 0xFF800000#32 : EReal) = ⊥ := by
      simp [Ideal.ofBits_def, Ideal.ofBits, Ideal.ieee]
    rw [hb, ← sup_fold]
    refine congrArg (fun f : Fin 512 → EReal => Finset.univ.fold max ⊥ f) (funext fun c => ?_)
    exact congrArg s (by funext d; match d with | ⟨0, _⟩ => rfl | ⟨1, _⟩ => rfl)
  exact congrArg (fun y : EReal => max (M (ix2 r 0) : EReal) y) h

theorem alpha_eq (M M' : FVec Ideal S512x1 .f32) (r : Fin 512) :
    (alpha M M' (ix2 r 0) : EReal) = Ideal.exp ((M (ix2 r 0) : EReal) - (M' (ix2 r 0) : EReal)) := rfl

theorem pay26 (s : FVec Ideal S512x512 .f32) (M' : FVec Ideal S512x1 .f32) (r c : Fin 512) :
    (k0_pay26 (F := Ideal) s M' (ix2 r c) : EReal) = Ideal.exp ((s (ix2 r c) : EReal) - (M' (ix2 r 0) : EReal)) := by
  unfold k0_pay26
  pointwise

theorem pay27 (L : FVec Ideal S512x1 .f32) (s : FVec Ideal S512x512 .f32) (M' a : FVec Ideal S512x1 .f32) (r : Fin 512) :
    (k0_pay27 (F := Ideal) L s M' a (ix2 r 0) : EReal)
      = (a (ix2 r 0) : EReal) * (L (ix2 r 0) : EReal) + ∑ c : Fin 512, Ideal.exp ((s (ix2 r c) : EReal) - (M' (ix2 r 0) : EReal)) := by
  have h : (shapeCast S512x1 (multiReduction .add [1] S512 (k0_pay26 (F := Ideal) s M') 0x00000000#32 reduces_S512x512_S512 (.inl rfl) rfl) shapeCasts_S512_S512x1
      (ix2 r 0) : EReal) = ∑ c : Fin 512, Ideal.exp ((s (ix2 r c) : EReal) - (M' (ix2 r 0) : EReal)) := by
    rw [shapeCast_apply _ _ _ (ix1 r) (by rfl)]
    refine (Ideal.multiReduction_add_single _ _ _ _ _ _).trans ?_
    refine Finset.sum_congr rfl fun c _ => ?_
    exact (congrArg (k0_pay26 (F := Ideal) s M') (by funext d; match d with | ⟨0, _⟩ => rfl | ⟨1, _⟩ => rfl)).trans (pay26 s M' r c)
  exact congrArg (fun y : EReal => (a (ix2 r 0) : EReal) * (L (ix2 r 0) : EReal) + y) h

theorem pay28 (O : FVec Ideal S512x128 .f32) (s : FVec Ideal S512x512 .f32) (M' a : FVec Ideal S512x1 .f32) (v : Vec Ideal S512x128 .bf16)
    (r : Fin 512) (d : Fin 128) : (k0_pay28 (F := Ideal) O s M' a v (ix2 r d) : EReal)
      = (a (ix2 r 0) : EReal) * (O (ix2 r d) : EReal)
        + ∑ c : Fin 512, Ideal.exp ((s (ix2 r c) : EReal) - (M' (ix2 r 0) : EReal)) * (v (ix2 c d) : EReal) := by
  simp only [← pay26]
  unfold k0_pay28
  generalize k0_pay26 (F := Ideal) s M' = e
  pointwise

theorem pay2 (q k : Vec Ideal S512x256 .bf16) (r c : Fin 512) : (k0_pay2 (F := Ideal) q k (ix2 r c) : EReal)
    = (∑ e : Fin 256, (q (ix2 r e) : EReal) * (k (ix2 c e) : EReal)) * Ideal.ofBits .f32 0x3D93CD3A#32 := by
  unfold k0_pay2
  pointwise

theorem mask_bot : (Named.named (F := Ideal) κ "mask" (φ := .f32) 0xF149F2CA#32 : EReal) = ⊥ :=
  IdealRules.named_const.ideal_named_scalar _ _ _ _ rfl

theorem toInt_small (n : ℕ) (h : n < 8192) : (BitVec.ofNat 32 n).toInt = n := by
  have e : (BitVec.ofNat 32 n).toNat = n := by rw [BitVec.toNat_ofNat]; omega
  rw [BitVec.toInt_eq_toNat_cond, e]
  split <;> omega

/-- The comparison of two places. -/
theorem cmp_small (n k : ℕ) (hn : n < 8192) (hk : k < 8192) {α : Type} (x y : α) :
    Scalar.select (IntOp.cmpi .sle (BitVec.ofNat 32 k) (BitVec.ofNat 32 n)) x y = if k ≤ n then x else y := by
  unfold Scalar.select IntOp.cmpi
  simp only [BitVec.sle, toInt_small n hn, toInt_small k hk]
  by_cases h : k ≤ n
  · simp [h]
  · simp [h]

theorem maskS_eq (s : FVec Ideal S512x512 .f32) (r c : Fin 512) :
    (maskS 0#32 s (ix2 r c) : EReal) = if c.val ≤ r.val then (s (ix2 r c) : EReal) else ⊥ := by
  unfold maskS
  pointwise
  rw [mask_bot, ← cmp_small r.val c.val (by omega) (by omega)]
  show Scalar.select (IntOp.cmpi .sle (BitVec.ofNat 32 c.val) (BitVec.ofNat 32 r.val + 0#32)) _ _ = _
  rw [BitVec.add_zero]

/-! ## The running quantities, over the keys seen so far -/

/-- `M`, `L` and `O` are the maximum, the sum of exponentials and the weighted sum of values `w` over the keys in `A`, for scores
    `t` of 512 queries. -/
def Holds (A : Finset (Fin 8192)) (t : Fin 512 → Fin 8192 → EReal) (w : Fin 8192 → Fin 128 → EReal)
    (M L : FVec Ideal S512x1 .f32) (O : FVec Ideal S512x128 .f32) : Prop :=
  ∀ r : Fin 512, (M (ix2 r 0) : EReal) = top A (t r) ∧ (L (ix2 r 0) : EReal) = mass A (t r) (top A (t r))
    ∧ ∀ d : Fin 128, (O (ix2 r d) : EReal) = blend A (t r) (fun c => w c d) (top A (t r))

/-- Before the first block. -/
theorem holds_start (t : Fin 512 → Fin 8192 → EReal) (w : Fin 8192 → Fin 128 → EReal) :
    Holds ∅ t w (k0_pay20 (F := Ideal)) (k0_pay21 (F := Ideal)) (k0_pay22 (F := Ideal)) := by
  have z : (FloatOps.ofBits (F := Ideal) .f32 0x00000000#32 : EReal) = 0 := Ideal.ofBits_zero _
  exact fun r => ⟨mask_bot, z, fun d => z⟩

/-- The keys of block `n`. -/
def key (n : ℕ) (c : Fin 512) : Fin 8192 := ⟨n % 16 * 512 + c.val, by omega⟩

def keyEmb (n : ℕ) : Fin 512 ↪ Fin 8192 := ⟨key n, fun a b h => by
  have := congrArg Fin.val h
  simp only [key] at this
  exact Fin.ext (by omega)⟩

/-- The keys before block `n`. -/
def before (n : ℕ) : Finset (Fin 8192) := Finset.univ.filter fun c => c.val < n * 512

theorem before_zero : before 0 = ∅ := by
  unfold before; simp

theorem before_disjoint (n : ℕ) (h : n < 16) : Disjoint (before n) (Finset.univ.map (keyEmb n)) := by
  rw [Finset.disjoint_left]
  intro c hc hc'
  obtain ⟨k, -, rfl⟩ := Finset.mem_map.mp hc'
  have := (Finset.mem_filter.mp hc).2
  have e : (keyEmb n k).val = n % 16 * 512 + k.val := rfl
  omega

theorem before_succ (n : ℕ) (h : n < 16) : before n ∪ Finset.univ.map (keyEmb n) = before (n + 1) := by
  ext c
  simp only [before, Finset.mem_union, Finset.mem_filter, Finset.mem_univ, true_and, Finset.mem_map]
  constructor
  · rintro (hc | ⟨k, rfl⟩)
    · omega
    · show n % 16 * 512 + k.val < (n + 1) * 512
      omega
  · intro hc
    by_cases hc' : c.val < n * 512
    · exact Or.inl hc'
    · exact Or.inr ⟨⟨c.val - n * 512, by omega⟩, Fin.ext (by show n % 16 * 512 + (c.val - n * 512) = c.val; omega)⟩

/-- One block more. -/
theorem holds_step (n : ℕ) (hn : n < 16) (t : Fin 512 → Fin 8192 → EReal) (w : Fin 8192 → Fin 128 → EReal)
    (s : FVec Ideal S512x512 .f32) (v : Vec Ideal S512x128 .bf16) (M L : FVec Ideal S512x1 .f32) (O : FVec Ideal S512x128 .f32)
    (hs : ∀ r c, (s (ix2 r c) : EReal) = t r (key n c)) (hv : ∀ c d, (v (ix2 c d) : EReal) = w (key n c) d)
    (h : Holds (before n) t w M L O) : Holds (before (n + 1)) t w (newM s M) (newL s M L) (newO s M O v) := by
  intro r
  obtain ⟨hM, hL, hO⟩ := h r
  have eM : (newM s M (ix2 r 0) : EReal) = top (before (n + 1)) (t r) := by
    rw [newM_eq, hM, ← before_succ n hn, ← top_step]
    congr 1
    unfold top
    rw [Finset.sup_map]
    exact congrArg _ (funext fun c => hs r c)
  have hle : top (before n) (t r) ≤ top (before (n + 1)) (t r) := by
    rw [← before_succ n hn, ← top_step]; exact le_max_left _ _
  refine ⟨eM, ?_, fun d => ?_⟩
  · unfold newL
    rw [pay27, alpha_eq, eM, hM, hL]
    conv_rhs => rw [← before_succ n hn, ← mass_step (before_disjoint n hn) (t r) (M := top (before n ∪ _) (t r)) (by rw [before_succ n hn]; exact hle)]
    rw [before_succ n hn]
    congr 1
    unfold mass
    rw [Finset.sum_map]
    exact Finset.sum_congr rfl fun c _ => by rw [hs]; rfl
  · unfold newO
    rw [pay28, alpha_eq, eM, hM, hO]
    conv_rhs => rw [← before_succ n hn, ← blend_step (before_disjoint n hn) (t r) (fun c => w c d) (M := top (before n ∪ _) (t r)) (by rw [before_succ n hn]; exact hle)]
    rw [before_succ n hn]
    congr 1
    unfold blend
    rw [Finset.sum_map]
    exact Finset.sum_congr rfl fun c _ => by rw [hs, hv]; rfl

/-! ## What the body reads -/

def hcol (h : Fin 2) (e : Fin 256) : Fin 512 := ⟨h.val * 256 + e.val, by omega⟩
def dcol (h : Fin 2) (d : Fin 128) : Fin 256 := ⟨h.val * 128 + d.val, by omega⟩

/-- The part of head `h` in the block of queries, in block `n` of the keys and in block `n` of the values. -/
def qpart (x0 : Vec Ideal S512x512 .bf16) (h : Fin 2) : Vec Ideal S512x256 .bf16 := fun i => x0 (ix2 (i 0) (hcol h (i 1)))
def kpart (x1 : Vec Ideal S8192x512 .bf16) (h : Fin 2) (n : ℕ) : Vec Ideal S512x256 .bf16 := fun i => x1 (ix2 (key n (i 0)) (hcol h (i 1)))
def vpart (x2 : Vec Ideal S8192x256 .bf16) (h : Fin 2) (n : ℕ) : Vec Ideal S512x128 .bf16 := fun i => x2 (ix2 (key n (i 0)) (dcol h (i 1)))

theorem ld_q (x0 : Vec Ideal S512x512 .bf16) (h : Fin 2) (off : Fin 2 → ℕ) (e : off = ![0, h.val * 256])
    (inb : ∀ a, off a + S512x256.size a ≤ S512x512.size a) :
    View.ld (Val := Elt Ideal) (e' := .bf16) x0 (Rect.unit (s := S512x512) off S512x256.size inb) = qpart x0 h := by
  subst e
  funext i
  obtain ⟨r, c, rfl⟩ := idx2_eq (a := 512) (b := 256) i
  refine View.ld_unit_apply_of (Val := Elt Ideal) x0 _ _ inb (ix2 r c : S512x256.Idx) (ix2 r (hcol h c)) fun a => ?_
  match a with
  | ⟨0, _⟩ => show r.val = 0 + r.val; omega
  | ⟨1, _⟩ => rfl

theorem ld_k (x1 : Vec Ideal S8192x512 .bf16) (h : Fin 2) (n : ℕ) (hn : n < 16) (off : Fin 2 → ℕ) (e : off = ![n * 512, h.val * 256])
    (inb : ∀ a, off a + S512x256.size a ≤ S8192x512.size a) :
    View.ld (Val := Elt Ideal) (e' := .bf16) x1 (Rect.unit (s := S8192x512) off S512x256.size inb) = kpart x1 h n := by
  subst e
  funext i
  obtain ⟨r, c, rfl⟩ := idx2_eq (a := 512) (b := 256) i
  refine View.ld_unit_apply_of (Val := Elt Ideal) x1 _ _ inb (ix2 r c : S512x256.Idx) (ix2 (key n r) (hcol h c)) fun a => ?_
  match a with
  | ⟨0, _⟩ => show n % 16 * 512 + r.val = n * 512 + r.val; omega
  | ⟨1, _⟩ => rfl

theorem ld_v (x2 : Vec Ideal S8192x256 .bf16) (h : Fin 2) (n : ℕ) (hn : n < 16) (off : Fin 2 → ℕ) (e : off = ![n * 512, h.val * 128])
    (inb : ∀ a, off a + S512x128.size a ≤ S8192x256.size a) :
    View.ld (Val := Elt Ideal) (e' := .bf16) x2 (Rect.unit (s := S8192x256) off S512x128.size inb) = vpart x2 h n := by
  subst e
  funext i
  obtain ⟨r, c, rfl⟩ := idx2_eq (a := 512) (b := 128) i
  refine View.ld_unit_apply_of (Val := Elt Ideal) x2 _ _ inb (ix2 r c : S512x128.Idx) (ix2 (key n r) (dcol h c)) fun a => ?_
  match a with
  | ⟨0, _⟩ => show n % 16 * 512 + r.val = n * 512 + r.val; omega
  | ⟨1, _⟩ => rfl

theorem off1 : ∀ (i : grid0.Coords) (k : Fin (k0_t1_loop i).trips), k0_off1 i k = ![k.val * 512, 0] := by decide +kernel
theorem off2 : ∀ (i : grid0.Coords) (k : Fin (k0_t1_loop i).trips), k0_off2 i k = ![k.val * 512, 0] := by decide +kernel
theorem off3 : ∀ (i : grid0.Coords) (k : Fin (k0_t1_loop i).trips), k0_off3 i k = ![k.val * 512, 256] := by decide +kernel
theorem off4 : ∀ (i : grid0.Coords) (k : Fin (k0_t1_loop i).trips), k0_off4 i k = ![k.val * 512, 128] := by decide +kernel
theorem off9 : ∀ (i : grid0.Coords), k0_off9 i = ![(i 1).val * 512, 0] := by decide +kernel
theorem off10 : ∀ (i : grid0.Coords), k0_off10 i = ![(i 1).val * 512, 0] := by decide +kernel
theorem off11 : ∀ (i : grid0.Coords), k0_off11 i = ![(i 1).val * 512, 256] := by decide +kernel
theorem off12 : ∀ (i : grid0.Coords), k0_off12 i = ![(i 1).val * 512, 128] := by decide +kernel
theorem trips1 : ∀ (i : grid0.Coords), (k0_t1_loop i).trips = (i 1).val := by decide +kernel
theorem trips2 : ∀ (i : grid0.Coords), (k0_t2_loop i).trips = 0 := by decide +kernel
theorem diag : ∀ (i : grid0.Coords), Scalar.subi (Scalar.muli (BitVec.ofNat 32 (i 1).val) 512#32) (k0_mult3 i) = 0#32 := by decide +kernel

end Cert.Proof.Attend

end
-- ==== Proof.AttendBody.lean ====
/- What the body of `mla_fwd` stores for a pair of heads and a block of queries (at `Ideal`). -/
module

public import proofs.«01_k».proof.Proof.Attend

@[expose] public section

set_option maxHeartbeats 4000000
set_option maxRecDepth 16384

noncomputable section

namespace Cert.Proof.Attend

open Cert.Kernel15Ideal Cert.Kernel15Ideal.Gen Cert.Kernel15Ideal.Value Idealize.ShloMosaic Idealize.ShloMosaic.TcCoe Idealize.SL.Sem
open Cert.Proof.Online Cert.Proof.Pieces

/-- The scores of block `n` of the keys, for head `h` of the pair. -/
def score (x0 : Vec Ideal S512x512 .bf16) (x1 : Vec Ideal S8192x512 .bf16) (h : Fin 2) (n : ℕ) : FVec Ideal S512x512 .f32 :=
  k0_pay2 (qpart x0 h) (kpart x1 h n)

/-- A trip of the loop is one block of keys. -/
theorem trip_eq (𝒱 : Variants) (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S8192x256 .bf16) (harg4 : arg4.IsWhole) (arg5 : Memref sig .tc .vmem S512x256 .bf16) (harg5 : arg5.IsWhole) (arg6 : Memref sig .tc .vmem S2x512x128 .f32) (harg6 : arg6.IsWhole) (bd : Option 𝒱.V) (x0 : Vec Ideal S512x512 .bf16) (x1 : Vec Ideal S8192x512 .bf16) (x2 : Vec Ideal S8192x256 .bf16) (k : Fin (k0_t1_loop i).trips) (acc : Carry) :
    tripR_k0_t1 (F := Ideal) 𝒱 c bd i arg2 harg2 arg3 harg3 arg4 harg4 arg5 harg5 arg6 harg6 (harg2.unread x0) (harg3.unread x1) (harg4.unread x2) k acc
      = step (score x0 x1 0 k.val) (score x0 x1 1 k.val) (vpart x2 0 k.val) (vpart x2 1 k.val) acc := by
  have hk : k.val < 16 := by have h := k.isLt; have e := trips1 i; have b : (i 1).val < 16 := (i 1).isLt; omega
  unfold score
  rw [← ld_q x0 0 ![0, 0] rfl inb_S512x512_S512x256_0_0, ← ld_q x0 1 ![0, 256] rfl inb_S512x512_S512x256_0_256,
    ← ld_k x1 0 k.val hk _ (by rw [off1]; rfl) (k0_off1_inb i k), ← ld_k x1 1 k.val hk _ (by rw [off3]; rfl) (k0_off3_inb i k),
    ← ld_v x2 0 k.val hk _ (by rw [off2]; rfl) (k0_off2_inb i k), ← ld_v x2 1 k.val hk _ (by rw [off4]; rfl) (k0_off4_inb i k)]
  unfold tripR_k0_t1 trip_k0_t1
  dsimp only
  sl_unfold_words
  simp only [View.readAt_eq_ld, harg2.read_unread, harg3.read_unread, harg4.read_unread]
  rfl

/-- What is carried after `n` blocks. -/
def carried (x0 : Vec Ideal S512x512 .bf16) (x1 : Vec Ideal S8192x512 .bf16) (x2 : Vec Ideal S8192x256 .bf16) : ℕ → Carry
  | 0 => (k0_pay20, k0_pay21, k0_pay22, k0_pay20, k0_pay21, k0_pay22)
  | n + 1 => step (score x0 x1 0 n) (score x0 x1 1 n) (vpart x2 0 n) (vpart x2 1 n) (carried x0 x1 x2 n)

theorem state_eq (𝒱 : Variants) (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S8192x256 .bf16) (harg4 : arg4.IsWhole) (arg5 : Memref sig .tc .vmem S512x256 .bf16) (harg5 : arg5.IsWhole) (arg6 : Memref sig .tc .vmem S2x512x128 .f32) (harg6 : arg6.IsWhole) (bd : Option 𝒱.V) (x0 : Vec Ideal S512x512 .bf16) (x1 : Vec Ideal S8192x512 .bf16) (x2 : Vec Ideal S8192x256 .bf16) (n : ℕ) (hn : n ≤ (k0_t1_loop i).trips) :
    st_k0_t1 (F := Ideal) 𝒱 c bd i arg2 harg2 arg3 harg3 arg4 harg4 arg5 harg5 arg6 harg6 (harg2.unread x0) (harg3.unread x1) (harg4.unread x2) (k0_pay20, k0_pay21, k0_pay22, k0_pay20, k0_pay21, k0_pay22) n = carried x0 x1 x2 n := by
  induction n with
  | zero => rfl
  | succ n ih =>
    rw [st_k0_t1_succ 𝒱 c bd i arg2 harg2 arg3 harg3 arg4 harg4 arg5 harg5 arg6 harg6 (harg2.unread x0) (harg3.unread x1) (harg4.unread x2) _ ⟨n, hn⟩, trip_eq, ih (by omega)]
    rfl

/-- What is carried after the block on the diagonal. -/
def final (x0 : Vec Ideal S512x512 .bf16) (x1 : Vec Ideal S8192x512 .bf16) (x2 : Vec Ideal S8192x256 .bf16) (j : ℕ) : Carry :=
  step (maskS 0#32 (score x0 x1 0 j)) (maskS 0#32 (score x0 x1 1 j)) (vpart x2 0 j) (vpart x2 1 j) (carried x0 x1 x2 j)

/-- The loops together. -/
theorem loops_eq (𝒱 : Variants) (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S8192x256 .bf16) (harg4 : arg4.IsWhole) (arg5 : Memref sig .tc .vmem S512x256 .bf16) (harg5 : arg5.IsWhole) (arg6 : Memref sig .tc .vmem S2x512x128 .f32) (harg6 : arg6.IsWhole) (v : BitVec 32) (bd bd' : Option 𝒱.V) (x0 : Vec Ideal S512x512 .bf16) (x1 : Vec Ideal S8192x512 .bf16) (x2 : Vec Ideal S8192x256 .bf16) :
    st_k0_t2 (F := Ideal) 𝒱 c bd' i arg2 harg2 arg3 harg3 arg4 harg4 arg5 harg5 arg6 harg6 v (harg2.unread x0) (harg3.unread x1) (harg4.unread x2) (st_k0_t1 (F := Ideal) 𝒱 c bd i arg2 harg2 arg3 harg3 arg4 harg4 arg5 harg5 arg6 harg6 (harg2.unread x0) (harg3.unread x1) (harg4.unread x2) (k0_pay20, k0_pay21, k0_pay22, k0_pay20, k0_pay21, k0_pay22) (k0_t1_loop i).trips) (k0_t2_loop i).trips
      = carried x0 x1 x2 (i 1).val := by
  rw [trips2, st_k0_t2_zero, state_eq (hn := le_rfl), trips1]

theorem word_7 (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S8192x256 .bf16) (harg4 : arg4.IsWhole) (arg5 : Memref sig .tc .vmem S512x256 .bf16) (harg5 : arg5.IsWhole) (arg6 : Memref sig .tc .vmem S2x512x128 .f32) (harg6 : arg6.IsWhole) (x0 : Vec Ideal S512x512 .bf16) (x1 : Vec Ideal S8192x512 .bf16) (x2 : Vec Ideal S8192x256 .bf16) :
    kernelRun0_A.sl.r_7 (F := Ideal) c i arg2 harg2 arg3 harg3 arg4 harg4 arg5 harg5 arg6 harg6 x0 x1 x2 = (final x0 x1 x2 (i 1).val).1 := by
  have hi : (i 1).val < 16 := (i 1).isLt
  unfold final score
  rw [← diag i, ← ld_q x0 0 ![0, 0] rfl inb_S512x512_S512x256_0_0, ← ld_q x0 1 ![0, 256] rfl inb_S512x512_S512x256_0_256,
    ← ld_k x1 0 _ hi _ (off9 i) (k0_off9_inb i), ← ld_k x1 1 _ hi _ (off11 i) (k0_off11_inb i),
    ← ld_v x2 0 _ hi _ (off10 i) (k0_off10_inb i), ← ld_v x2 1 _ hi _ (off12 i) (k0_off12_inb i)]
  unfold kernelRun0_A.sl.r_7
  sl_unfold_words
  simp only [View.readAt_eq_ld, harg2.read_unread, harg3.read_unread, harg4.read_unread]
  erw [loops_eq]
  rfl

theorem word_8 (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S8192x256 .bf16) (harg4 : arg4.IsWhole) (arg5 : Memref sig .tc .vmem S512x256 .bf16) (harg5 : arg5.IsWhole) (arg6 : Memref sig .tc .vmem S2x512x128 .f32) (harg6 : arg6.IsWhole) (x0 : Vec Ideal S512x512 .bf16) (x1 : Vec Ideal S8192x512 .bf16) (x2 : Vec Ideal S8192x256 .bf16) :
    kernelRun0_A.sl.r_8 (F := Ideal) c i arg2 harg2 arg3 harg3 arg4 harg4 arg5 harg5 arg6 harg6 x0 x1 x2 = (final x0 x1 x2 (i 1).val).2.1 := by
  have hi : (i 1).val < 16 := (i 1).isLt
  unfold final score
  rw [← diag i, ← ld_q x0 0 ![0, 0] rfl inb_S512x512_S512x256_0_0, ← ld_q x0 1 ![0, 256] rfl inb_S512x512_S512x256_0_256,
    ← ld_k x1 0 _ hi _ (off9 i) (k0_off9_inb i), ← ld_k x1 1 _ hi _ (off11 i) (k0_off11_inb i),
    ← ld_v x2 0 _ hi _ (off10 i) (k0_off10_inb i), ← ld_v x2 1 _ hi _ (off12 i) (k0_off12_inb i)]
  unfold kernelRun0_A.sl.r_8
  sl_unfold_words
  simp only [View.readAt_eq_ld, harg2.read_unread, harg3.read_unread, harg4.read_unread]
  erw [loops_eq]
  rfl

theorem word_9 (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S8192x256 .bf16) (harg4 : arg4.IsWhole) (arg5 : Memref sig .tc .vmem S512x256 .bf16) (harg5 : arg5.IsWhole) (arg6 : Memref sig .tc .vmem S2x512x128 .f32) (harg6 : arg6.IsWhole) (x0 : Vec Ideal S512x512 .bf16) (x1 : Vec Ideal S8192x512 .bf16) (x2 : Vec Ideal S8192x256 .bf16) :
    kernelRun0_A.sl.r_9 (F := Ideal) c i arg2 harg2 arg3 harg3 arg4 harg4 arg5 harg5 arg6 harg6 x0 x1 x2 = (final x0 x1 x2 (i 1).val).2.2.1 := by
  have hi : (i 1).val < 16 := (i 1).isLt
  unfold final score
  rw [← diag i, ← ld_q x0 0 ![0, 0] rfl inb_S512x512_S512x256_0_0, ← ld_q x0 1 ![0, 256] rfl inb_S512x512_S512x256_0_256,
    ← ld_k x1 0 _ hi _ (off9 i) (k0_off9_inb i), ← ld_k x1 1 _ hi _ (off11 i) (k0_off11_inb i),
    ← ld_v x2 0 _ hi _ (off10 i) (k0_off10_inb i), ← ld_v x2 1 _ hi _ (off12 i) (k0_off12_inb i)]
  unfold kernelRun0_A.sl.r_9
  sl_unfold_words
  simp only [View.readAt_eq_ld, harg2.read_unread, harg3.read_unread, harg4.read_unread]
  erw [loops_eq]
  rfl

theorem word_11 (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S8192x256 .bf16) (harg4 : arg4.IsWhole) (arg5 : Memref sig .tc .vmem S512x256 .bf16) (harg5 : arg5.IsWhole) (arg6 : Memref sig .tc .vmem S2x512x128 .f32) (harg6 : arg6.IsWhole) (x0 : Vec Ideal S512x512 .bf16) (x1 : Vec Ideal S8192x512 .bf16) (x2 : Vec Ideal S8192x256 .bf16) :
    kernelRun0_A.sl.r_11 (F := Ideal) c i arg2 harg2 arg3 harg3 arg4 harg4 arg5 harg5 arg6 harg6 x0 x1 x2 = (final x0 x1 x2 (i 1).val).2.2.2.1 := by
  have hi : (i 1).val < 16 := (i 1).isLt
  unfold final score
  rw [← diag i, ← ld_q x0 0 ![0, 0] rfl inb_S512x512_S512x256_0_0, ← ld_q x0 1 ![0, 256] rfl inb_S512x512_S512x256_0_256,
    ← ld_k x1 0 _ hi _ (off9 i) (k0_off9_inb i), ← ld_k x1 1 _ hi _ (off11 i) (k0_off11_inb i),
    ← ld_v x2 0 _ hi _ (off10 i) (k0_off10_inb i), ← ld_v x2 1 _ hi _ (off12 i) (k0_off12_inb i)]
  unfold kernelRun0_A.sl.r_11
  sl_unfold_words
  simp only [View.readAt_eq_ld, harg2.read_unread, harg3.read_unread, harg4.read_unread]
  erw [loops_eq]
  rfl

theorem word_12 (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S8192x256 .bf16) (harg4 : arg4.IsWhole) (arg5 : Memref sig .tc .vmem S512x256 .bf16) (harg5 : arg5.IsWhole) (arg6 : Memref sig .tc .vmem S2x512x128 .f32) (harg6 : arg6.IsWhole) (x0 : Vec Ideal S512x512 .bf16) (x1 : Vec Ideal S8192x512 .bf16) (x2 : Vec Ideal S8192x256 .bf16) :
    kernelRun0_A.sl.r_12 (F := Ideal) c i arg2 harg2 arg3 harg3 arg4 harg4 arg5 harg5 arg6 harg6 x0 x1 x2 = (final x0 x1 x2 (i 1).val).2.2.2.2.1 := by
  have hi : (i 1).val < 16 := (i 1).isLt
  unfold final score
  rw [← diag i, ← ld_q x0 0 ![0, 0] rfl inb_S512x512_S512x256_0_0, ← ld_q x0 1 ![0, 256] rfl inb_S512x512_S512x256_0_256,
    ← ld_k x1 0 _ hi _ (off9 i) (k0_off9_inb i), ← ld_k x1 1 _ hi _ (off11 i) (k0_off11_inb i),
    ← ld_v x2 0 _ hi _ (off10 i) (k0_off10_inb i), ← ld_v x2 1 _ hi _ (off12 i) (k0_off12_inb i)]
  unfold kernelRun0_A.sl.r_12
  sl_unfold_words
  simp only [View.readAt_eq_ld, harg2.read_unread, harg3.read_unread, harg4.read_unread]
  erw [loops_eq]
  rfl

theorem word_13 (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S8192x256 .bf16) (harg4 : arg4.IsWhole) (arg5 : Memref sig .tc .vmem S512x256 .bf16) (harg5 : arg5.IsWhole) (arg6 : Memref sig .tc .vmem S2x512x128 .f32) (harg6 : arg6.IsWhole) (x0 : Vec Ideal S512x512 .bf16) (x1 : Vec Ideal S8192x512 .bf16) (x2 : Vec Ideal S8192x256 .bf16) :
    kernelRun0_A.sl.r_13 (F := Ideal) c i arg2 harg2 arg3 harg3 arg4 harg4 arg5 harg5 arg6 harg6 x0 x1 x2 = k0_pay45 (final x0 x1 x2 (i 1).val).2.2.2.2.1 (final x0 x1 x2 (i 1).val).2.2.2.2.2 := by
  have hi : (i 1).val < 16 := (i 1).isLt
  unfold final score
  rw [← diag i, ← ld_q x0 0 ![0, 0] rfl inb_S512x512_S512x256_0_0, ← ld_q x0 1 ![0, 256] rfl inb_S512x512_S512x256_0_256,
    ← ld_k x1 0 _ hi _ (off9 i) (k0_off9_inb i), ← ld_k x1 1 _ hi _ (off11 i) (k0_off11_inb i),
    ← ld_v x2 0 _ hi _ (off10 i) (k0_off10_inb i), ← ld_v x2 1 _ hi _ (off12 i) (k0_off12_inb i)]
  unfold kernelRun0_A.sl.r_13
  sl_unfold_words
  simp only [View.readAt_eq_ld, harg2.read_unread, harg3.read_unread, harg4.read_unread]
  erw [loops_eq]
  rfl

/-! ## The block of results -/

/-- The scores of the whole row of keys, for head `h` of the pair and the queries of block `j`: `⊥` where the key comes later. -/
def row (x0 : Vec Ideal S512x512 .bf16) (x1 : Vec Ideal S8192x512 .bf16) (h : Fin 2) (j : ℕ) (r : Fin 512) (c : Fin 8192) : EReal :=
  if c.val ≤ j * 512 + r.val then
    (∑ e : Fin 256, (x0 (ix2 r (hcol h e)) : EReal) * (x1 (ix2 c (hcol h e)) : EReal)) * Ideal.ofBits .f32 0x3D93CD3A#32
  else ⊥

/-- The values of head `h`. -/
def vals (x2 : Vec Ideal S8192x256 .bf16) (h : Fin 2) (c : Fin 8192) (d : Fin 128) : EReal := x2 (ix2 c (dcol h d))

theorem score_eq (x0 : Vec Ideal S512x512 .bf16) (x1 : Vec Ideal S8192x512 .bf16) (h : Fin 2) (n : ℕ) (r c : Fin 512) :
    (score x0 x1 h n (ix2 r c) : EReal)
      = (∑ e : Fin 256, (x0 (ix2 r (hcol h e)) : EReal) * (x1 (ix2 (key n c) (hcol h e)) : EReal)) * Ideal.ofBits .f32 0x3D93CD3A#32 := by
  unfold score
  rw [pay2]
  rfl

/-- Below the diagonal nothing is masked. -/
theorem score_row (x0 : Vec Ideal S512x512 .bf16) (x1 : Vec Ideal S8192x512 .bf16) (h : Fin 2) (n j : ℕ) (hn : n < j) (hj : j < 16)
    (r c : Fin 512) : (score x0 x1 h n (ix2 r c) : EReal) = row x0 x1 h j r (key n c) := by
  unfold row
  rw [score_eq, if_pos]
  show n % 16 * 512 + c.val ≤ j * 512 + r.val
  omega

/-- On the diagonal the comparison within the block is the comparison of the places. -/
theorem mask_row (x0 : Vec Ideal S512x512 .bf16) (x1 : Vec Ideal S8192x512 .bf16) (h : Fin 2) (j : ℕ) (hj : j < 16)
    (r c : Fin 512) : (maskS 0#32 (score x0 x1 h j) (ix2 r c) : EReal) = row x0 x1 h j r (key j c) := by
  unfold row
  rw [maskS_eq, score_eq]
  have e : (key j c).val = j % 16 * 512 + c.val := rfl
  by_cases hc : c.val ≤ r.val
  · rw [if_pos hc, if_pos (by omega)]
  · rw [if_neg hc, if_neg (by omega)]

/-- After `n` blocks below the diagonal. -/
theorem carried_holds (x0 : Vec Ideal S512x512 .bf16) (x1 : Vec Ideal S8192x512 .bf16) (x2 : Vec Ideal S8192x256 .bf16) (j : ℕ) (hj : j < 16)
    (n : ℕ) (hn : n ≤ j) :
    Holds (before n) (row x0 x1 0 j) (vals x2 0) (carried x0 x1 x2 n).1 (carried x0 x1 x2 n).2.1 (carried x0 x1 x2 n).2.2.1
      ∧ Holds (before n) (row x0 x1 1 j) (vals x2 1) (carried x0 x1 x2 n).2.2.2.1 (carried x0 x1 x2 n).2.2.2.2.1 (carried x0 x1 x2 n).2.2.2.2.2 := by
  induction n with
  | zero =>
    rw [before_zero]
    exact ⟨holds_start _ _, holds_start _ _⟩
  | succ n ih =>
    obtain ⟨h0, h1⟩ := ih (by omega)
    exact ⟨holds_step n (by omega) _ _ _ _ _ _ _ (fun r c => score_row x0 x1 0 n j hn hj r c) (fun c d => rfl) h0,
      holds_step n (by omega) _ _ _ _ _ _ _ (fun r c => score_row x0 x1 1 n j hn hj r c) (fun c d => rfl) h1⟩

/-- Keys that are all masked add nothing. -/
theorem holds_mono {A B : Finset (Fin 8192)} (h : A ⊆ B) {t : Fin 512 → Fin 8192 → EReal} {w : Fin 8192 → Fin 128 → EReal}
    {M L : FVec Ideal S512x1 .f32} {O : FVec Ideal S512x128 .f32} (h' : ∀ r, ∀ c ∈ B, c ∉ A → t r c = ⊥) (H : Holds A t w M L O) :
    Holds B t w M L O := by
  intro r
  obtain ⟨hM, hL, hO⟩ := H r
  rw [← top_mono h (t r) (h' r), ← mass_mono h (t r) _ (h' r)]
  exact ⟨hM, hL, fun d => by rw [← blend_mono h (t r) _ _ (h' r)]; exact hO d⟩

/-- After the diagonal block all keys are accounted for. -/
theorem final_holds (x0 : Vec Ideal S512x512 .bf16) (x1 : Vec Ideal S8192x512 .bf16) (x2 : Vec Ideal S8192x256 .bf16) (j : ℕ) (hj : j < 16) :
    Holds Finset.univ (row x0 x1 0 j) (vals x2 0) (final x0 x1 x2 j).1 (final x0 x1 x2 j).2.1 (final x0 x1 x2 j).2.2.1
      ∧ Holds Finset.univ (row x0 x1 1 j) (vals x2 1) (final x0 x1 x2 j).2.2.2.1 (final x0 x1 x2 j).2.2.2.2.1 (final x0 x1 x2 j).2.2.2.2.2 := by
  obtain ⟨h0, h1⟩ := carried_holds x0 x1 x2 j hj j le_rfl
  have late (h : Fin 2) (r : Fin 512) (c : Fin 8192) (_ : c ∈ Finset.univ) (hc : c ∉ before (j + 1)) : row x0 x1 h j r c = ⊥ := by
    unfold row
    refine if_neg fun hle => hc (Finset.mem_filter.mpr ⟨Finset.mem_univ _, ?_⟩)
    omega
  exact ⟨holds_mono (Finset.subset_univ _) (late 0) (holds_step j hj _ _ _ _ _ _ _ (fun r c => mask_row x0 x1 0 j hj r c) (fun c d => rfl) h0),
    holds_mono (Finset.subset_univ _) (late 1) (holds_step j hj _ _ _ _ _ _ _ (fun r c => mask_row x0 x1 1 j hj r c) (fun c d => rfl) h1)⟩

/-- The softmax-weighted mean of the values, for a row of scores. -/
def mean (t : Fin 8192 → EReal) (v : Fin 8192 → EReal) : EReal :=
  Ideal.div (blend Finset.univ t v (top Finset.univ t)) (mass Finset.univ t (top Finset.univ t))

/-- The logarithm of the sum of exponentials, for a row of scores. -/
def lse (t : Fin 8192 → EReal) : EReal := top Finset.univ t + Ideal.log (mass Finset.univ t (top Finset.univ t))

theorem pay45 (L : FVec Ideal S512x1 .f32) (O : FVec Ideal S512x128 .f32) (r : Fin 512) (d : Fin 128) :
    (k0_pay45 (F := Ideal) L O (ix2 r d) : EReal) = Ideal.div (O (ix2 r d) : EReal) (L (ix2 r 0) : EReal) := by
  unfold k0_pay45
  pointwise

theorem pay46 (M L : FVec Ideal S512x1 .f32) (r : Fin 512) (l : Fin 128) :
    (k0_pay46 (F := Ideal) M L (ix3 0 r l) : EReal) = (M (ix2 r 0) : EReal) + Ideal.log (L (ix2 r 0) : EReal) := by
  unfold k0_pay46
  pointwise

/-- A block of the attention, at row `r` and column `c`. -/
def blockO (x0 : Vec Ideal S512x512 .bf16) (x1 : Vec Ideal S8192x512 .bf16) (x2 : Vec Ideal S8192x256 .bf16) (j : ℕ) : Vec Ideal S512x256 .bf16 :=
  fun y => mean (row x0 x1 ⟨(y 1).val / 128, by have h : (y 1).val < 256 := (y 1).isLt; omega⟩ j (y 0)) fun c => x2 (ix2 c (y 1))

/-- A block of the logarithms. -/
def blockL (x0 : Vec Ideal S512x512 .bf16) (x1 : Vec Ideal S8192x512 .bf16) (j : ℕ) : Vec Ideal S2x512x128 .f32 :=
  fun y => lse (row x0 x1 (y 0) j (y 1))

theorem blockO_apply (x0 : Vec Ideal S512x512 .bf16) (x1 : Vec Ideal S8192x512 .bf16) (x2 : Vec Ideal S8192x256 .bf16) (j : ℕ)
    (h : Fin 2) (r : Fin 512) (d : Fin 128) :
    (blockO x0 x1 x2 j (ix2 r (dcol h d)) : EReal) = mean (row x0 x1 h j r) fun c => vals x2 h c d := by
  have e : (⟨(dcol h d).val / 128, by have h : (dcol h d).val < 256 := (dcol h d).isLt; omega⟩ : Fin 2) = h :=
    Fin.ext (by show (h.val * 128 + d.val) / 128 = h.val; omega)
  show mean (row x0 x1 ⟨(dcol h d).val / 128, _⟩ j r) _ = _
  rw [e]
  rfl

theorem emb_o (h : Fin 2) (off : Fin 2 → ℕ) (e : off = ![0, h.val * 128]) (inb : ∀ a, off a + S512x128.size a ≤ S512x256.size a)
    (r : Fin 512) (d : Fin 128) :
    (Rect.unit (s := S512x256) off S512x128.size inb).emb (ix2 r d : S512x128.Idx) = (ix2 r (dcol h d) : S512x256.Idx) := by
  subst e
  funext a; apply Fin.ext
  match a with
  | ⟨0, _⟩ => show 0 + 1 * r.val = r.val; omega
  | ⟨1, _⟩ => show h.val * 128 + 1 * d.val = h.val * 128 + d.val; omega

theorem emb_l (h : Fin 2) (off : Fin 3 → ℕ) (e : off = ![h.val, 0, 0]) (inb : ∀ a, off a + S1x512x128.size a ≤ S2x512x128.size a)
    (r : Fin 512) (l : Fin 128) :
    (Rect.unit (s := S2x512x128) off S1x512x128.size inb).emb (ix3 0 r l : S1x512x128.Idx) = (ix3 h r l : S2x512x128.Idx) := by
  subst e
  funext a; apply Fin.ext
  match a with
  | ⟨0, _⟩ => show h.val + 1 * 0 = h.val; omega
  | ⟨1, _⟩ => show 0 + 1 * r.val = r.val; omega
  | ⟨2, _⟩ => show 0 + 1 * l.val = l.val; omega

/-- What the body leaves in the block of the attention. -/
theorem out3_eq (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S8192x256 .bf16) (harg4 : arg4.IsWhole) (arg5 : Memref sig .tc .vmem S512x256 .bf16) (harg5 : arg5.IsWhole) (arg6 : Memref sig .tc .vmem S2x512x128 .f32) (harg6 : arg6.IsWhole) (x0 : Vec Ideal S512x512 .bf16) (x1 : Vec Ideal S8192x512 .bf16) (x2 : Vec Ideal S8192x256 .bf16) :
    out0_A_3 c i arg2 harg2 arg3 harg3 arg4 harg4 arg5 harg5 arg6 harg6 x0 x1 x2 = blockO x0 x1 x2 (i 1).val := by
  have hi : (i 1).val < 16 := (i 1).isLt
  obtain ⟨H0, H1⟩ := final_holds x0 x1 x2 (i 1).val hi
  unfold out0_A_3
  rw [View.read_writes_eq_canon _ _ _ (cover0_A_3 c i arg2 harg2 arg3 harg3 arg4 harg4 arg5 harg5 arg6 harg6 x0 x1 x2)]
  funext y
  refine canon_pieces (Val := Elt Ideal) (blockO x0 x1 x2 (i 1).val) _ ?_ y (cover0_A_3 c i arg2 harg2 arg3 harg3 arg4 harg4 arg5 harg5 arg6 harg6 x0 x1 x2 y)
  unfold kernelRun0_A
  dsimp only
  rw [word_8, word_9, word_13]
  refine ⟨fun x => ?_, fun x => ?_, trivial⟩
  · obtain ⟨r, d, rfl⟩ := idx2_eq (a := 512) (b := 128) x
    refine Eq.trans ?_ (congrArg (blockO x0 x1 x2 (i 1).val) (emb_o 1 _ rfl (by decide) r d)).symm
    refine (pay45 _ _ r d).trans (Eq.trans ?_ (blockO_apply _ _ _ _ 1 r d).symm)
    rw [(H1 r).2.1, (H1 r).2.2 d]
    rfl
  · obtain ⟨r, d, rfl⟩ := idx2_eq (a := 512) (b := 128) x
    refine Eq.trans ?_ (congrArg (blockO x0 x1 x2 (i 1).val) (emb_o 0 _ rfl (by decide) r d)).symm
    refine (pay45 _ _ r d).trans (Eq.trans ?_ (blockO_apply _ _ _ _ 0 r d).symm)
    rw [(H0 r).2.1, (H0 r).2.2 d]
    rfl

/-- What the body leaves in the block of the logarithms. -/
theorem out4_eq (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S8192x256 .bf16) (harg4 : arg4.IsWhole) (arg5 : Memref sig .tc .vmem S512x256 .bf16) (harg5 : arg5.IsWhole) (arg6 : Memref sig .tc .vmem S2x512x128 .f32) (harg6 : arg6.IsWhole) (x0 : Vec Ideal S512x512 .bf16) (x1 : Vec Ideal S8192x512 .bf16) (x2 : Vec Ideal S8192x256 .bf16) :
    out0_A_4 c i arg2 harg2 arg3 harg3 arg4 harg4 arg5 harg5 arg6 harg6 x0 x1 x2 = blockL x0 x1 (i 1).val := by
  have hi : (i 1).val < 16 := (i 1).isLt
  obtain ⟨H0, H1⟩ := final_holds x0 x1 x2 (i 1).val hi
  unfold out0_A_4
  rw [View.read_writes_eq_canon _ _ _ (cover0_A_4 c i arg2 harg2 arg3 harg3 arg4 harg4 arg5 harg5 arg6 harg6 x0 x1 x2)]
  funext y
  refine canon_pieces (Val := Elt Ideal) (blockL x0 x1 (i 1).val) _ ?_ y (cover0_A_4 c i arg2 harg2 arg3 harg3 arg4 harg4 arg5 harg5 arg6 harg6 x0 x1 x2 y)
  unfold kernelRun0_A
  dsimp only
  rw [word_7, word_8, word_11, word_12]
  refine ⟨fun x => ?_, fun x => ?_, trivial⟩
  · obtain ⟨z, r, l, rfl⟩ := idx3_eq (a := 1) (b := 512) (c := 128) x
    obtain rfl : z = 0 := Subsingleton.elim _ _
    refine Eq.trans ?_ (congrArg (blockL x0 x1 (i 1).val) (emb_l 1 _ rfl (by decide) r l)).symm
    refine (pay46 _ _ r l).trans ?_
    rw [(H1 r).2.1, (H1 r).1]
    rfl
  · obtain ⟨z, r, l, rfl⟩ := idx3_eq (a := 1) (b := 512) (c := 128) x
    obtain rfl : z = 0 := Subsingleton.elim _ _
    refine Eq.trans ?_ (congrArg (blockL x0 x1 (i 1).val) (emb_l 0 _ rfl (by decide) r l)).symm
    refine (pay46 _ _ r l).trans ?_
    rw [(H0 r).2.1, (H0 r).1]
    rfl

end Cert.Proof.Attend

end
-- ==== Proof.AttendRun.lean ====
/- The call `mla_fwd` as a whole (at `Ideal`): what the kernel is handed, which block a grid point reads and writes, and the two
   results as functions of the launched arguments. -/
module

public import proofs.«01_k».proof.Proof.AttendBody

@[expose] public section

set_option maxHeartbeats 4000000
set_option maxRecDepth 16384

noncomputable section

namespace Cert.Proof.Attend

open Cert.Kernel15Ideal Cert.Kernel15Ideal.Gen Cert.Kernel15Ideal.Value Idealize.ShloMosaic Idealize.ShloMosaic.TcCoe Idealize.SL.Sem
open Cert.Proof.Online Cert.Proof.Pieces

/-! ## The heads of queries and keys: two parts and padding -/

/-- Column `e` of head `h` in the wide matrix of queries or keys. -/
def wcol (h : Fin 8) (e : Fin 256) : Fin 2048 := ⟨h.val * 256 + e.val, by omega⟩

/-- Column `d` of head `h` among the values. -/
def vcol (h : Fin 8) (d : Fin 128) : Fin 1024 := ⟨h.val * 128 + d.val, by omega⟩

/-- Two parts of a head side by side, then zeros. -/
def join (a : Fin 128 → EReal) (b : Fin 64 → EReal) (e : Fin 256) : EReal :=
  if h : e.val < 128 then a ⟨e.val, h⟩ else if h' : e.val < 192 then b ⟨e.val - 128, by omega⟩ else 0

/-- The product of two such heads is the sum of the products of their parts. -/
theorem join_dot (a a' : Fin 128 → EReal) (b b' : Fin 64 → EReal) :
    ∑ e : Fin 256, join a b e * join a' b' e = ∑ e : Fin 128, a e * a' e + ∑ e : Fin 64, b e * b' e := by
  have l (e : Fin 128) (a : Fin 128 → EReal) (b : Fin 64 → EReal) : join a b (Fin.castAdd 128 e) = a e := by
    unfold join
    rw [dif_pos (by show e.val < 128; omega)]
    rfl
  have r (e : Fin 64) (a : Fin 128 → EReal) (b : Fin 64 → EReal) : join a b (Fin.natAdd 128 (Fin.castAdd 64 e)) = b e := by
    unfold join
    rw [dif_neg (by show ¬128 + e.val < 128; omega), dif_pos (by show 128 + e.val < 192; omega)]
    exact congrArg b (Fin.ext (by show 128 + e.val - 128 = e.val; omega))
  have z (e : Fin 64) (a : Fin 128 → EReal) (b : Fin 64 → EReal) : join a b (Fin.natAdd 128 (Fin.natAdd 64 e)) = 0 := by
    unfold join
    rw [dif_neg (by show ¬128 + (64 + e.val) < 128; omega), dif_neg (by show ¬128 + (64 + e.val) < 192; omega)]
  have s1 : ∑ e : Fin 256, join a b e * join a' b' e
      = ∑ e : Fin 128, join a b (Fin.castAdd 128 e) * join a' b' (Fin.castAdd 128 e)
        + ∑ e : Fin 128, join a b (Fin.natAdd 128 e) * join a' b' (Fin.natAdd 128 e) :=
    Fin.sum_univ_add (a := 128) (b := 128) fun e => join a b e * join a' b' e
  have s2 : ∑ e : Fin 128, join a b (Fin.natAdd 128 e) * join a' b' (Fin.natAdd 128 e)
      = ∑ e : Fin 64, join a b (Fin.natAdd 128 (Fin.castAdd 64 e)) * join a' b' (Fin.natAdd 128 (Fin.castAdd 64 e))
        + ∑ e : Fin 64, join a b (Fin.natAdd 128 (Fin.natAdd 64 e)) * join a' b' (Fin.natAdd 128 (Fin.natAdd 64 e)) :=
    Fin.sum_univ_add (a := 64) (b := 64) fun e => join a b (Fin.natAdd 128 e) * join a' b' (Fin.natAdd 128 e)
  rw [s1, s2]
  simp only [l, r, z, zero_mul, Finset.sum_const_zero, add_zero]

/-- The host's padding. -/
def pad : FVec Ideal S8192x8x64 .f32 := broadcastInDim S8192x8x64 ![] bcast_S_S8192x8x64 (constant (F := Ideal) S_ .f32 0x00000000#32)

theorem pad_eq (i : S8192x8x64.Idx) : (pad i : EReal) = 0 := by
  obtain ⟨r, h, e, rfl⟩ := idx3_eq (a := 8192) (b := 8) (c := 64) i
  unfold pad
  pointwise

/-- The host's side-by-side heads. -/
def wide (a : FVec Ideal S8192x8x128 .f32) (b : FVec Ideal S8192x8x64 .f32) : FVec Ideal S8192x8x256 .f32 :=
  concatenate S8192x8x256 2 [⟨S8192x8x128, a⟩, ⟨S8192x8x64, b⟩, ⟨S8192x8x64, pad⟩] concatenates_S8192x8x128_S8192x8x64_S8192x8x64_S8192x8x256_d2

theorem wide_eq (a : FVec Ideal S8192x8x128 .f32) (b : FVec Ideal S8192x8x64 .f32) (r : Fin 8192) (h : Fin 8) (e : Fin 256) :
    (wide a b (ix3 r h e) : EReal) = join (fun e => a (ix3 r h e)) (fun e => b (ix3 r h e)) e := by
  unfold wide join
  by_cases h1 : e.val < 128
  · rw [dif_pos h1]
    exact concatenate_apply_piece (t := S8192x8x256) 2 _ _ _ 0 (by show 0 < 3; omega) S8192x8x128 a rfl rfl 0 rfl (ix3 r h ⟨e.val, h1⟩)
      (fun d hd => match d with | ⟨0, _⟩ => rfl | ⟨1, _⟩ => rfl | ⟨2, _⟩ => absurd rfl hd) (by show 0 + e.val = e.val; omega)
  · rw [dif_neg h1]
    by_cases h2 : e.val < 192
    · rw [dif_pos h2]
      exact concatenate_apply_piece (t := S8192x8x256) 2 _ _ _ 1 (by show 1 < 3; omega) S8192x8x64 b rfl rfl 128 rfl (ix3 r h ⟨e.val - 128, by omega⟩)
        (fun d hd => match d with | ⟨0, _⟩ => rfl | ⟨1, _⟩ => rfl | ⟨2, _⟩ => absurd rfl hd) (by show 128 + (e.val - 128) = e.val; omega)
    · rw [dif_neg h2]
      exact (concatenate_apply_piece (t := S8192x8x256) 2 _ _ _ 2 (by show 2 < 3; omega) S8192x8x64 pad rfl rfl 192 rfl (ix3 r h ⟨e.val - 192, by omega⟩)
        (fun d hd => match d with | ⟨0, _⟩ => rfl | ⟨1, _⟩ => rfl | ⟨2, _⟩ => absurd rfl hd) (by show 192 + (e.val - 192) = e.val; omega)).trans (pad_eq _)

theorem flat_wide (x : FVec Ideal S8192x8x256 .f32) (r : Fin 8192) (h : Fin 8) (e : Fin 256) :
    (truncf (F := Ideal) .bf16 (shapeCast S8192x2048 x shapeCasts_S8192x8x256_S8192x2048) bitsLt_bf16_f32 (ix2 r (wcol h e)) : EReal) = x (ix3 r h e) := by
  refine shapeCast_apply _ _ _ (ix3 r h e) ?_
  rewrite [Shape.rowMajor_val_three, Shape.rowMajor_val_two]
  show (r.val * 8 + h.val) * 256 + e.val = r.val * 2048 + (h.val * 256 + e.val)
  omega

theorem flat_head (x : FVec Ideal S8192x8x128 .f32) (r : Fin 8192) (h : Fin 8) (d : Fin 128) :
    (shapeCast S8192x1024 x shapeCasts_S8192x8x128_S8192x1024 (ix2 r (vcol h d)) : EReal) = x (ix3 r h d) := by
  refine shapeCast_apply _ _ _ (ix3 r h d) ?_
  rewrite [Shape.rowMajor_val_three, Shape.rowMajor_val_two]
  show (r.val * 8 + h.val) * 128 + d.val = r.val * 1024 + (h.val * 128 + d.val)
  omega

variable (m : (ℓ : Loc nD τ sig) → Buf (Elt Ideal) ℓ) (ρ : Dev nD → PrngReg)

/-! ## What the kernel is handed -/

theorem entry_q (c : Dev nD) (r : Fin 8192) (h : Fin 8) (e : Fin 256) : ((V m c main_v5 : Vec Ideal S8192x2048 .bf16) (ix2 r (wcol h e)) : EReal)
    = join (fun e => (m ((c : Thread nD τ).loc main_arg0) : FVec Ideal S8192x8x128 .f32) (ix3 r h e))
        (fun e => (m ((c : Thread nD τ).loc main_arg1) : FVec Ideal S8192x8x64 .f32) (ix3 r h e)) e := by
  have h' : @Eq (Vec Ideal S8192x2048 .bf16) (V m c main_v5) (truncf (F := Ideal) .bf16 (shapeCast S8192x2048
      (wide (m ((c : Thread nD τ).loc main_arg0)) (m ((c : Thread nD τ).loc main_arg1))) shapeCasts_S8192x8x256_S8192x2048) bitsLt_bf16_f32) := by
    unfold wide pad; unfold_abbrev_sides; after_results; rfl
  rw [h', flat_wide, wide_eq]

theorem entry_k (c : Dev nD) (r : Fin 8192) (h : Fin 8) (e : Fin 256) : ((V m c main_v8 : Vec Ideal S8192x2048 .bf16) (ix2 r (wcol h e)) : EReal)
    = join (fun e => (m ((c : Thread nD τ).loc main_arg2) : FVec Ideal S8192x8x128 .f32) (ix3 r h e))
        (fun e => (m ((c : Thread nD τ).loc main_arg3) : FVec Ideal S8192x64 .f32) (ix2 r e)) e := by
  have h' : @Eq (Vec Ideal S8192x2048 .bf16) (V m c main_v8) (truncf (F := Ideal) .bf16 (shapeCast S8192x2048
      (wide (m ((c : Thread nD τ).loc main_arg2)) (broadcastInDim S8192x8x64 ![0, 1, 2] bcast_S8192x1x64_S8192x8x64_0_1_2
        (broadcastInDim S8192x1x64 ![0, 2] bcast_S8192x64_S8192x1x64_0_2 (m ((c : Thread nD τ).loc main_arg3) : FVec Ideal S8192x64 .f32))))
      shapeCasts_S8192x8x256_S8192x2048) bitsLt_bf16_f32) := by
    unfold wide pad; unfold_abbrev_sides; after_results; rfl
  rw [h', flat_wide, wide_eq]
  congr 1
  funext e
  pointwise

theorem entry_v (c : Dev nD) (r : Fin 8192) (h : Fin 8) (d : Fin 128) (k : Fin 2048) (hk : k.val = 1024 + (vcol h d).val) :
    ((V m c main_v12 : Vec Ideal S8192x2048 .bf16) (ix2 r k) : EReal)
    = (m ((c : Thread nD τ).loc main_arg4) : FVec Ideal S8192x8x128 .f32) (ix3 r h d) := by
  have h' : @Eq (Vec Ideal S8192x2048 .bf16) (V m c main_v12) (truncf (F := Ideal) .bf16 (concatenate S8192x2048 1
      [⟨S8192x1024, (shapeCast S8192x1024 (m ((c : Thread nD τ).loc main_arg2) : FVec Ideal S8192x8x128 .f32) shapeCasts_S8192x8x128_S8192x1024)⟩,
        ⟨S8192x1024, (shapeCast S8192x1024 (m ((c : Thread nD τ).loc main_arg4) : FVec Ideal S8192x8x128 .f32) shapeCasts_S8192x8x128_S8192x1024)⟩]
      concatenates_S8192x1024_S8192x1024_S8192x2048_d1) bitsLt_bf16_f32) := by
    unfold_abbrev_sides; after_results; rfl
  rw [h']
  refine (concatenate_pair_apply_right (s₁ := S8192x1024) (s₂ := S8192x1024) (t := S8192x2048) 1 _ _ concatenates_S8192x1024_S8192x1024_S8192x2048_d1 (ix2 r k) rfl rfl (ix2 r (vcol h d))
    (fun d h => match d with | ⟨0, _⟩ => rfl | ⟨1, _⟩ => absurd rfl h) (by show (vcol h d).val + 1024 = k.val; omega)).trans ?_
  exact flat_head _ r h d

/-! ## Which block a point reads and writes -/

def pair (t : Fin cfg0.N) : Fin 4 := ⟨t.val / 16, by have h : t.val < 64 := t.isLt; omega⟩
/-- The head of the pair. -/
def hd (t : Fin cfg0.N) (h : Fin 2) : Fin 8 := ⟨(pair t).val * 2 + h.val, by omega⟩
/-- The row of the block of queries. -/
def qrow (t : Fin cfg0.N) (r : Fin 512) : Fin 8192 := ⟨t.val % 16 * 512 + r.val, by omega⟩

theorem coord1 : ∀ t : Fin cfg0.N, (grid0.coords t 1).val = t.val % 16 := (by decide +kernel : ∀ t : Fin grid0.N, _)
theorem idx0 : ∀ t : Fin cfg0.N, win0_0.index t (0 : Fin 2) = t.val % 16 ∧ win0_0.index t (1 : Fin 2) = t.val / 16 :=
  (by decide +kernel : ∀ t : Fin grid0.N, _)
theorem idx1 : ∀ t : Fin cfg0.N, win0_1.index t (0 : Fin 2) = 0 ∧ win0_1.index t (1 : Fin 2) = t.val / 16 :=
  (by decide +kernel : ∀ t : Fin grid0.N, _)
theorem idx2 : ∀ t : Fin cfg0.N, win0_2.index t (0 : Fin 2) = 0 ∧ win0_2.index t (1 : Fin 2) = 4 + t.val / 16 :=
  (by decide +kernel : ∀ t : Fin grid0.N, _)
theorem idx3 : ∀ t : Fin cfg0.N, win0_3.index t (0 : Fin 2) = t.val % 16 ∧ win0_3.index t (1 : Fin 2) = t.val / 16 :=
  (by decide +kernel : ∀ t : Fin grid0.N, _)
theorem idx4 : ∀ t : Fin cfg0.N, win0_4.index t (0 : Fin 3) = t.val / 16 ∧ win0_4.index t (1 : Fin 3) = t.val % 16
    ∧ win0_4.index t (2 : Fin 3) = 0 := (by decide +kernel : ∀ t : Fin grid0.N, _)

theorem emb0 (t : Fin cfg0.N) (r : Fin 512) (h : Fin 2) (e : Fin 256) :
    ((cfg0.win 0).blk t).view.emb (ix2 r (hcol h e) : S512x512.Idx) = (ix2 (qrow t r) (wcol (hd t h) e) : S8192x2048.Idx) := by
  obtain ⟨e0, e1⟩ := idx0 t
  funext a; apply Fin.ext
  match a with
  | ⟨0, _⟩ => show win0_0.index t (0 : Fin 2) * 512 + 1 * r.val = t.val % 16 * 512 + r.val; omega
  | ⟨1, _⟩ => show win0_0.index t (1 : Fin 2) * 512 + 1 * (h.val * 256 + e.val) = (t.val / 16 * 2 + h.val) * 256 + e.val; omega

theorem emb1 (t : Fin cfg0.N) (r : Fin 8192) (h : Fin 2) (e : Fin 256) :
    ((cfg0.win 1).blk t).view.emb (ix2 r (hcol h e) : S8192x512.Idx) = (ix2 r (wcol (hd t h) e) : S8192x2048.Idx) := by
  obtain ⟨e0, e1⟩ := idx1 t
  funext a; apply Fin.ext
  match a with
  | ⟨0, _⟩ => show win0_1.index t (0 : Fin 2) * 8192 + 1 * r.val = r.val; omega
  | ⟨1, _⟩ => show win0_1.index t (1 : Fin 2) * 512 + 1 * (h.val * 256 + e.val) = (t.val / 16 * 2 + h.val) * 256 + e.val; omega

theorem emb2 (t : Fin cfg0.N) (r : Fin 8192) (h : Fin 2) (d : Fin 128) :
    ((cfg0.win 2).blk t).view.emb (ix2 r (dcol h d) : S8192x256.Idx)
    = (ix2 r (⟨1024 + (vcol (hd t h) d).val, by omega⟩ : Fin 2048) : S8192x2048.Idx) := by
  obtain ⟨e0, e1⟩ := idx2 t
  funext a; apply Fin.ext
  match a with
  | ⟨0, _⟩ => show win0_2.index t (0 : Fin 2) * 8192 + 1 * r.val = r.val; omega
  | ⟨1, _⟩ => show win0_2.index t (1 : Fin 2) * 256 + 1 * (h.val * 128 + d.val) = 1024 + ((t.val / 16 * 2 + h.val) * 128 + d.val); omega

theorem emb3 (t : Fin cfg0.N) (r : Fin 512) (h : Fin 2) (d : Fin 128) :
    ((cfg0.win 3).blk t).view.emb (ix2 r (dcol h d) : S512x256.Idx) = (ix2 (qrow t r) (vcol (hd t h) d) : S8192x1024.Idx) := by
  obtain ⟨e0, e1⟩ := idx3 t
  funext a; apply Fin.ext
  match a with
  | ⟨0, _⟩ => show win0_3.index t (0 : Fin 2) * 512 + 1 * r.val = t.val % 16 * 512 + r.val; omega
  | ⟨1, _⟩ => show win0_3.index t (1 : Fin 2) * 256 + 1 * (h.val * 128 + d.val) = (t.val / 16 * 2 + h.val) * 128 + d.val; omega

theorem emb4 (t : Fin cfg0.N) (h : Fin 2) (r : Fin 512) (l : Fin 128) :
    ((cfg0.win 4).blk t).view.emb (ix3 h r l : S2x512x128.Idx) = (ix3 (hd t h) (qrow t r) l : S8x8192x128.Idx) := by
  obtain ⟨e0, e1, e2⟩ := idx4 t
  funext a; apply Fin.ext
  match a with
  | ⟨0, _⟩ => show win0_4.index t (0 : Fin 3) * 2 + 1 * h.val = t.val / 16 * 2 + h.val; omega
  | ⟨1, _⟩ => show win0_4.index t (1 : Fin 3) * 512 + 1 * r.val = t.val % 16 * 512 + r.val; omega
  | ⟨2, _⟩ => show win0_4.index t (2 : Fin 3) * 128 + 1 * l.val = l.val; omega

/-! ## The results as functions of the launched arguments -/

/-- The scores of a query, over the keys that do not come later: `⊥` for the others. -/
def scores (qn : FVec Ideal S8192x8x128 .f32) (qr : FVec Ideal S8192x8x64 .f32) (kn : FVec Ideal S8192x8x128 .f32) (kr : FVec Ideal S8192x64 .f32)
    (h : Fin 8) (r c : Fin 8192) : EReal :=
  if c.val ≤ r.val then
    (∑ e : Fin 128, (qn (ix3 r h e) : EReal) * (kn (ix3 c h e) : EReal) + ∑ e : Fin 64, (qr (ix3 r h e) : EReal) * (kr (ix2 c e) : EReal))
      * Ideal.ofBits .f32 0x3D93CD3A#32
  else ⊥

/-- The attention, at row `r` and column `d` of head `h`. -/
def att (qn : FVec Ideal S8192x8x128 .f32) (qr : FVec Ideal S8192x8x64 .f32) (kn : FVec Ideal S8192x8x128 .f32) (kr : FVec Ideal S8192x64 .f32)
    (vv : FVec Ideal S8192x8x128 .f32) (r : Fin 8192) (h : Fin 8) (d : Fin 128) : EReal :=
  mean (scores qn qr kn kr h r) fun c => vv (ix3 c h d)

/-- The scores of a point's block are those of its head and its row. -/
theorem row_eq (c : Dev nD) (t : Fin cfg0.N) (h : Fin 2) (r : Fin 512) :
    row (iblk m c 0 t) (iblk m c 1 t) h (grid0.coords t 1).val r
    = scores (m ((c : Thread nD τ).loc main_arg0)) (m ((c : Thread nD τ).loc main_arg1)) (m ((c : Thread nD τ).loc main_arg2))
        (m ((c : Thread nD τ).loc main_arg3)) (hd t h) (qrow t r) := by
  funext k
  unfold row scores
  rw [coord1, ← join_dot (fun e => (m ((c : Thread nD τ).loc main_arg0) : FVec Ideal S8192x8x128 .f32) (ix3 (qrow t r) (hd t h) e))
    (fun e => (m ((c : Thread nD τ).loc main_arg2) : FVec Ideal S8192x8x128 .f32) (ix3 k (hd t h) e))
    (fun e => (m ((c : Thread nD τ).loc main_arg1) : FVec Ideal S8192x8x64 .f32) (ix3 (qrow t r) (hd t h) e))
    (fun e => (m ((c : Thread nD τ).loc main_arg3) : FVec Ideal S8192x64 .f32) (ix2 k e))]
  refine congrArg (fun y : EReal => if k.val ≤ t.val % 16 * 512 + r.val then y * Ideal.ofBits .f32 0x3D93CD3A#32 else ⊥)
    (Finset.sum_congr rfl fun e _ => ?_)
  have hq : ((iblk m c 0 t : Vec Ideal S512x512 .bf16) (ix2 r (hcol h e)) : EReal) = _ :=
    (congrArg (V m c main_v5 : Vec Ideal S8192x2048 .bf16) (emb0 t r h e)).trans (entry_q m c (qrow t r) (hd t h) e)
  have hk : ((iblk m c 1 t : Vec Ideal S8192x512 .bf16) (ix2 k (hcol h e)) : EReal) = _ :=
    (congrArg (V m c main_v8 : Vec Ideal S8192x2048 .bf16) (emb1 t k h e)).trans (entry_k m c k (hd t h) e)
  rw [hq, hk]

theorem vals_eq (c : Dev nD) (t : Fin cfg0.N) (h : Fin 2) (k : Fin 8192) (d : Fin 128) :
    vals (iblk m c 2 t) h k d = (m ((c : Thread nD τ).loc main_arg4) : FVec Ideal S8192x8x128 .f32) (ix3 k (hd t h) d) :=
  (congrArg (V m c main_v12 : Vec Ideal S8192x2048 .bf16) (emb2 t k h d)).trans (entry_v m c k (hd t h) d _ rfl)

/-- The attention as a function of the launched arguments. -/
def G3 (c : Dev nD) : Vec Ideal S8192x1024 .bf16 := fun i =>
  att (m ((c : Thread nD τ).loc main_arg0)) (m ((c : Thread nD τ).loc main_arg1)) (m ((c : Thread nD τ).loc main_arg2)) (m ((c : Thread nD τ).loc main_arg3))
    (m ((c : Thread nD τ).loc main_arg4)) (i 0) ⟨(i 1).val / 128, by have h : (i 1).val < 1024 := (i 1).isLt; omega⟩ ⟨(i 1).val % 128, by omega⟩

/-- The logarithms as a function of the launched arguments. -/
def G4 (c : Dev nD) : Vec Ideal S8x8192x128 .f32 := fun i =>
  lse (scores (m ((c : Thread nD τ).loc main_arg0)) (m ((c : Thread nD τ).loc main_arg1)) (m ((c : Thread nD τ).loc main_arg2))
    (m ((c : Thread nD τ).loc main_arg3)) (i 0) (i 1))

theorem G3_apply (c : Dev nD) (r : Fin 8192) (h : Fin 8) (d : Fin 128) : (G3 m c (ix2 r (vcol h d)) : EReal)
    = att (m ((c : Thread nD τ).loc main_arg0)) (m ((c : Thread nD τ).loc main_arg1)) (m ((c : Thread nD τ).loc main_arg2)) (m ((c : Thread nD τ).loc main_arg3))
      (m ((c : Thread nD τ).loc main_arg4)) r h d := by
  have e1 : (⟨(vcol h d).val / 128, by have h : (vcol h d).val < 1024 := (vcol h d).isLt; omega⟩ : Fin 8) = h :=
    Fin.ext (by show (h.val * 128 + d.val) / 128 = h.val; omega)
  have e2 : (⟨(vcol h d).val % 128, by omega⟩ : Fin 128) = d := Fin.ext (by show (h.val * 128 + d.val) % 128 = d.val; omega)
  show att _ _ _ _ _ r ⟨(vcol h d).val / 128, _⟩ ⟨(vcol h d).val % 128, _⟩ = _
  rw [e1, e2]

theorem dcol_of (y : Fin 256) : ∃ (h : Fin 2) (d : Fin 128), y = dcol h d :=
  ⟨⟨y.val / 128, by omega⟩, ⟨y.val % 128, by omega⟩, Fin.ext (by show y.val = y.val / 128 * 128 + y.val % 128; omega)⟩

/-- What a point writes back of the attention is its block of `G3`. -/
theorem flushed3_eq (c : Dev nD) (t : Fin cfg0.N) :
    (dats m 0 c).flushed 3 t = ((cfg0.win 3).blk t).view.read (Elt Ideal) (G3 m c) := by
  rw [Value.flushed3_A, out3_eq]
  funext y
  obtain ⟨r, d, rfl⟩ := idx2_eq (a := 512) (b := 256) y
  obtain ⟨h, d, rfl⟩ := dcol_of d
  show blockO (iblk m c 0 t) (iblk m c 1 t) (iblk m c 2 t) (grid0.coords t 1).val (ix2 r (dcol h d))
    = G3 m c (((cfg0.win 3).blk t).view.emb (ix2 r (dcol h d) : S512x256.Idx))
  rw [emb3, G3_apply, blockO_apply, row_eq]
  exact congrArg (mean _) (funext fun k => vals_eq m c t h k d)

/-- What a point writes back of the logarithms is its block of `G4`. -/
theorem flushed4_eq (c : Dev nD) (t : Fin cfg0.N) :
    (dats m 0 c).flushed 4 t = ((cfg0.win 4).blk t).view.read (Elt Ideal) (G4 m c) := by
  rw [Value.flushed4_A, out4_eq]
  funext y
  obtain ⟨h, r, l, rfl⟩ := idx3_eq (a := 2) (b := 512) (c := 128) y
  show lse (row (iblk m c 0 t) (iblk m c 1 t) h (grid0.coords t 1).val r)
    = G4 m c (((cfg0.win 4).blk t).view.emb (ix3 h r l : S2x512x128.Idx))
  rw [emb4, row_eq]
  rfl

/-! Every index lies in the block of one point. -/

theorem covered3 (i : S8192x1024.Idx) :
    ∃ t : Fin cfg0.N, (cfg0.win 3).flush t = true ∧ i ∈ ((cfg0.win 3).blk t).view.set := by
  have h0 : (i 0).val < 8192 := (i 0).isLt
  have h1 : (i 1).val < 1024 := (i 1).isLt
  let t : Fin cfg0.N := ⟨(i 1).val / 256 * 16 + (i 0).val / 512, by show _ < 64; omega⟩
  let r : Fin 512 := ⟨(i 0).val % 512, by omega⟩
  let h : Fin 2 := ⟨(i 1).val / 128 % 2, by omega⟩
  let d : Fin 128 := ⟨(i 1).val % 128, by omega⟩
  have e : i = (ix2 (qrow t r) (vcol (hd t h) d) : S8192x1024.Idx) := by
    funext a; apply Fin.ext
    match a with
    | ⟨0, _⟩ => show (i 0).val = ((i 1).val / 256 * 16 + (i 0).val / 512) % 16 * 512 + (i 0).val % 512; omega
    | ⟨1, _⟩ => show (i 1).val = (((i 1).val / 256 * 16 + (i 0).val / 512) / 16 * 2 + (i 1).val / 128 % 2) * 128 + (i 1).val % 128; omega
  refine ⟨t, flush0_3 t, ?_⟩
  rw [e, ← emb3 t r h d]
  exact ((cfg0.win 3).blk t).view.emb_mem_set _

theorem covered4 (i : S8x8192x128.Idx) :
    ∃ t : Fin cfg0.N, (cfg0.win 4).flush t = true ∧ i ∈ ((cfg0.win 4).blk t).view.set := by
  have h0 : (i 0).val < 8 := (i 0).isLt
  have h1 : (i 1).val < 8192 := (i 1).isLt
  let t : Fin cfg0.N := ⟨(i 0).val / 2 * 16 + (i 1).val / 512, by show _ < 64; omega⟩
  let r : Fin 512 := ⟨(i 1).val % 512, by omega⟩
  let h : Fin 2 := ⟨(i 0).val % 2, by omega⟩
  have e : i = (ix3 (hd t h) (qrow t r) (i 2) : S8x8192x128.Idx) := by
    funext a; apply Fin.ext
    match a with
    | ⟨0, _⟩ => show (i 0).val = ((i 0).val / 2 * 16 + (i 1).val / 512) / 16 * 2 + (i 0).val % 2; omega
    | ⟨1, _⟩ => show (i 1).val = ((i 0).val / 2 * 16 + (i 1).val / 512) % 16 * 512 + (i 1).val % 512; omega
    | ⟨2, _⟩ => rfl
  refine ⟨t, flush0_4 t, ?_⟩
  rw [e, ← emb4 t h r (i 2)]
  exact ((cfg0.win 4).blk t).view.emb_mem_set _

/-- The run with the two results at their functions of the arguments. -/
theorem run : θ_run defs (onTc (τ := τ) (main (F := Ideal))) ⟨m, fun _ => 0, ρ⟩ fun r => ∀ c : Dev nD,
      r.2.mem ((c : Thread nD τ).loc main_v13_0) = G3 m c
      ∧ r.2.mem ((c : Thread nD τ).loc main_v13_1) = G4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨(h c).1.trans ((dats m 0 c).arrAt_eq_of_cover 3 (G3 m c) (fun t _ => flushed3_eq m c t) covered3),
      (h c).2.1.trans ((dats m 0 c).arrAt_eq_of_cover 4 (G4 m c) (fun t _ => flushed4_eq m c t) covered4), (h c).2.2⟩)
    (Value.run_blocks m ρ)

end Cert.Proof.Attend

end
-- ==== Proof.AttendRef.lean ====
/- The call `mla_fwd`: the reference's two results index by index, and their equality with the kernel's. -/
module

public import proofs.«01_k».proof.Proof.AttendRun
public import proofs.«01_k».proof.Proof.Reals
public import proofs.«01_k».proof.Proof.Gen.Reference15Ideal.Run
public import proofs.«01_k».proof.Proof.Gen.Reference15Ideal.Read
public import proofs.«01_k».proof.Proof.Gen.Pre_scores_finite
public import proofs.«01_k».proof.Defs

@[expose] public section

set_option maxRecDepth 16384

noncomputable section

namespace Cert.Proof.Attend

open Idealize.ShloMosaic Idealize.ShloMosaic.TcCoe Idealize.SL.Sem
open Cert.Reference15Ideal Cert.Reference15Ideal.Gen Cert.Reference15Ideal.Value Cert.Proof.Reals Cert.Proof.Online Cert.Proof.Pieces

variable (x0 : Vec Ideal S8192x8x128 .f32) (x1 : Vec Ideal S8192x8x64 .f32) (x2 : Vec Ideal S8192x8x128 .f32) (x3 : Vec Ideal S8192x64 .f32)
  (x4 : Vec Ideal S8192x8x128 .f32)

theorem ofBits_bot : (Ideal.ofBits .f32 0xFF800000#32 : EReal) = ⊥ := by
  simp [Ideal.ofBits, Ideal.ieee]

/-- The reference's unmasked scores: the rotary part's factors stand the other way round. -/
theorem ref_dot (h : Fin 8) (r c : Fin 8192) : (Read.val_main_v5 (F := Ideal) x0 x1 x2 x3 (ix3 h r c) : EReal)
    = (∑ e : Fin 128, (x0 (ix3 r h e) : EReal) * (x2 (ix3 c h e) : EReal) + ∑ e : Fin 64, (x1 (ix3 r h e) : EReal) * (x3 (ix2 c e) : EReal))
      * Ideal.ofBits .f32 0x3D93CD3A#32 := by
  have e0 : (Read.val_main_v0 (F := Ideal) x0 x2 (ix3 h r c) : EReal) = ∑ e : Fin 128, (x0 (ix3 r h e) : EReal) * (x2 (ix3 c h e) : EReal) := by
    rw [Read.val_main_v0_apply]
    refine Finset.sum_congr rfl fun e _ => ?_
    have l : Read.lidx_main_v0 (ix3 h r c) e = ix3 r h e := by
      funext a; match a with | ⟨0, _⟩ => rfl | ⟨1, _⟩ => rfl | ⟨2, _⟩ => rfl
    have l' : Read.ridx_main_v0 (ix3 h r c) e = ix3 c h e := by
      funext a; match a with | ⟨0, _⟩ => rfl | ⟨1, _⟩ => rfl | ⟨2, _⟩ => rfl
    rw [l, l']
  have e1 : (Read.val_main_v2 (F := Ideal) x1 x3 (ix3 h r c) : EReal) = ∑ e : Fin 64, (x1 (ix3 r h e) : EReal) * (x3 (ix2 c e) : EReal) := by
    rw [Read.val_main_v2_apply, Read.val_main_v1_apply]
    refine Finset.sum_congr rfl fun e _ => ?_
    have l : Read.lidx_main_v1 (Read.idx_main_v2 (ix3 h r c)) e = ix2 c e := by
      funext a; match a with | ⟨0, _⟩ => rfl | ⟨1, _⟩ => rfl
    have l' : Read.ridx_main_v1 (Read.idx_main_v2 (ix3 h r c)) e = ix3 r h e := by
      funext a; match a with | ⟨0, _⟩ => rfl | ⟨1, _⟩ => rfl | ⟨2, _⟩ => rfl
    rw [l, l']
    exact mul_comm _ _
  have e2 : (Read.val_main_v4 (F := Ideal) (ix3 h r c) : EReal) = Ideal.ofBits .f32 0x3D93CD3A#32 := by
    rw [Read.val_main_v4_apply, Read.val_main_cst_apply]
    rfl
  rw [← e0, ← e1, ← e2]
  rfl

/-- The reference's masked scores. -/
theorem ref_scores (h : Fin 8) (r c : Fin 8192) :
    (Read.val_main_v13 (F := Ideal) x0 x1 x2 x3 (ix3 h r c) : EReal) = scores x0 x1 x2 x3 h r c := by
  have ec : Read.val_main_call0_v1 (F := Ideal) (ix3 h r c) = IntOp.cmpi .sle (BitVec.ofNat 32 c.val) (BitVec.ofNat 32 r.val) := by
    rw [Read.val_main_call0_v1_apply, Read.val_main_v12_apply, Read.val_main_v10_apply, Read.val_main_v11_apply, Read.val_main_v7_apply,
      Read.val_main_v9_apply, Read.val_main_v6_apply, Read.val_main_v8_apply]
    rfl
  have eb : (Read.val_main_call0_v2 (F := Ideal) (ix3 h r c) : EReal) = ⊥ := by
    rw [Read.val_main_call0_v2_apply, Read.val_main_call0_v0_apply, Read.val_main_cst_0_apply]
    exact ofBits_bot
  rw [Read.val_main_v13_apply, ec, cmp_small r.val c.val r.isLt c.isLt]
  unfold scores
  rw [← ref_dot, ← eb]

/-- The reference's maximum. -/
theorem ref_top (h : Fin 8) (r : Fin 8192) :
    (Read.val_main_v14 (F := Ideal) x0 x1 x2 x3 (ix2 h r) : EReal) = top Finset.univ (scores x0 x1 x2 x3 h r) := by
  have hs : scores x0 x1 x2 x3 h r = fun c => (Read.val_main_v13 (F := Ideal) x0 x1 x2 x3 (ix3 h r c) : EReal) :=
    funext fun c => (ref_scores x0 x1 x2 x3 h r c).symm
  rw [hs]
  unfold Read.val_main_v14
  generalize Read.val_main_v13 (F := Ideal) x0 x1 x2 x3 = y
  have hr : S8x8192x8192.Reduces [2] S8x8192 := by decide
  have e := Host.reduce_eq_fold_single (α := Ideal .f32) FloatOps.maximumf y (Read.val_main_cst_1 (F := Ideal))
    reducesTo_S8x8192x8192_S8x8192_d2 hr h_S_ (ix2 h r)
  have hb : (Read.val_main_cst_1 (F := Ideal) (Shape.Idx.first h_S_) : Ideal .f32) = (⊥ : EReal) := ofBits_bot
  rw [hb] at e
  refine e.trans (Eq.trans ?_ (sup_fold (n := 8192) fun c => (y (ix3 h r c) : EReal)))
  refine congrArg (fun f : Fin 8192 → EReal => Finset.univ.fold max ⊥ f) (funext fun c => ?_)
  exact congrArg y (by funext d; match d with | ⟨0, _⟩ => rfl | ⟨1, _⟩ => rfl | ⟨2, _⟩ => rfl)

/-- The reference's exponentials. -/
theorem ref_exp (h : Fin 8) (r c : Fin 8192) : (Read.val_main_v18 (F := Ideal) x0 x1 x2 x3 (ix3 h r c) : EReal)
    = Ideal.exp (scores x0 x1 x2 x3 h r c - top Finset.univ (scores x0 x1 x2 x3 h r)) := by
  have e : (Read.val_main_v16 (F := Ideal) x0 x1 x2 x3 (ix3 h r c) : EReal) = top Finset.univ (scores x0 x1 x2 x3 h r) := by
    rw [Read.val_main_v16_apply, Read.val_main_v15_apply, ← ref_top]
    exact congrArg (Read.val_main_v14 (F := Ideal) x0 x1 x2 x3) (by funext a; match a with | ⟨0, _⟩ => rfl | ⟨1, _⟩ => rfl)
  rw [← e, ← ref_scores]
  rfl

/-- The reference's sum of exponentials. -/
theorem ref_mass (h : Fin 8) (r : Fin 8192) : (Read.val_main_v19 (F := Ideal) x0 x1 x2 x3 (ix2 h r) : EReal)
    = mass Finset.univ (scores x0 x1 x2 x3 h r) (top Finset.univ (scores x0 x1 x2 x3 h r)) := by
  have hz : (Read.val_main_cst_2 (F := Ideal) (Shape.Idx.first h_S_) : EReal) = 0 := Ideal.ofBits_zero .f32
  rw [Read.val_main_v19_apply, hz, zero_add]
  refine Finset.sum_congr rfl fun c _ => ?_
  rw [← ref_exp]
  exact congrArg (Read.val_main_v18 (F := Ideal) x0 x1 x2 x3) (by funext a; match a with | ⟨0, _⟩ => rfl | ⟨1, _⟩ => rfl | ⟨2, _⟩ => rfl)

/-- The reference's shares. -/
theorem ref_share (h : Fin 8) (r c : Fin 8192) : (Read.val_main_v22 (F := Ideal) x0 x1 x2 x3 (ix3 h r c) : EReal)
    = Ideal.div (Ideal.exp (scores x0 x1 x2 x3 h r c - top Finset.univ (scores x0 x1 x2 x3 h r)))
      (mass Finset.univ (scores x0 x1 x2 x3 h r) (top Finset.univ (scores x0 x1 x2 x3 h r))) := by
  have e : (Read.val_main_v21 (F := Ideal) x0 x1 x2 x3 (ix3 h r c) : EReal)
      = mass Finset.univ (scores x0 x1 x2 x3 h r) (top Finset.univ (scores x0 x1 x2 x3 h r)) := by
    rw [Read.val_main_v21_apply, Read.val_main_v20_apply, ← ref_mass]
    exact congrArg (Read.val_main_v19 (F := Ideal) x0 x1 x2 x3) (by funext a; match a with | ⟨0, _⟩ => rfl | ⟨1, _⟩ => rfl)
  rw [← e, ← ref_exp]
  rfl

/-- The reference's logarithms are the kernel's, whatever the arguments. -/
theorem ref_lse (h : Fin 8) (r : Fin 8192) (l : Fin 128) : (Read.val_main_v27 (F := Ideal) x0 x1 x2 x3 (ix3 h r l) : EReal)
    = lse (scores x0 x1 x2 x3 h r) := by
  have i1 : Read.idx_main_v15 (Read.idx_main_v27 (ix3 h r l)) = ix2 h r := by
    funext a; match a with | ⟨0, _⟩ => rfl | ⟨1, _⟩ => rfl
  have i2 : Read.idx_main_v20 (Read.idx_main_v27 (ix3 h r l)) = ix2 h r := by
    funext a; match a with | ⟨0, _⟩ => rfl | ⟨1, _⟩ => rfl
  unfold lse
  rw [← ref_mass, ← ref_top, Read.val_main_v27_apply, Read.val_main_v26_apply, Read.val_main_v25_apply, Read.val_main_v15_apply,
    Read.val_main_v20_apply, i1, i2]
  rfl

/-- The reference's attention: the values weighted by the shares. -/
theorem ref_att (r : Fin 8192) (h : Fin 8) (d : Fin 128) : (Read.val_main_v29 (F := Ideal) x0 x1 x2 x3 x4 (ix2 r (vcol h d)) : EReal)
    = ∑ c : Fin 8192, Ideal.div (Ideal.exp (scores x0 x1 x2 x3 h r c - top Finset.univ (scores x0 x1 x2 x3 h r)))
        (mass Finset.univ (scores x0 x1 x2 x3 h r) (top Finset.univ (scores x0 x1 x2 x3 h r))) * (x4 (ix3 c h d) : EReal) := by
  have hi : Read.idx_main_v28 (ix2 r (vcol h d)) = ix3 r h d := by
    funext a; apply Fin.ext
    match a with
    | ⟨0, _⟩ => show (r.val * 1024 + (h.val * 128 + d.val)) / 1024 = r.val; omega
    | ⟨1, _⟩ => show (r.val * 1024 + (h.val * 128 + d.val)) / 128 % 8 = h.val; omega
    | ⟨2, _⟩ => show (r.val * 1024 + (h.val * 128 + d.val)) % 128 = d.val; omega
  have e : (Read.val_main_v29 (F := Ideal) x0 x1 x2 x3 x4 (ix2 r (vcol h d)) : EReal)
      = Read.val_main_v28 (F := Ideal) x0 x1 x2 x3 x4 (ix2 r (vcol h d)) := rfl
  rw [e, Read.val_main_v28_apply, hi, Read.val_main_v24_apply, Read.val_main_v23_apply]
  refine Finset.sum_congr rfl fun c _ => ?_
  have l : Read.lidx_main_v23 (Read.idx_main_v24 (ix3 r h d)) c = ix3 c h d := by
    funext a; match a with | ⟨0, _⟩ => rfl | ⟨1, _⟩ => rfl | ⟨2, _⟩ => rfl
  have l' : Read.ridx_main_v23 (Read.idx_main_v24 (ix3 r h d)) c = ix3 h r c := by
    funext a; match a with | ⟨0, _⟩ => rfl | ⟨1, _⟩ => rfl | ⟨2, _⟩ => rfl
  rw [l, l', ref_share]
  exact mul_comm _ _

/-- The constant the scores are scaled by is a real number. -/
theorem scale_real : Real' (Ideal.ofBits .f32 0x3D93CD3A#32) := by
  refine ⟨(Ideal.ofBits .f32 0x3D93CD3A#32).toReal, (EReal.coe_toReal ?_ ?_).symm⟩ <;>
    simp [Ideal.ofBits, Ideal.ieee] <;> norm_cast

variable {x0 x1 x2 x3}

/-- Where queries and keys are real numbers, so are the scores that are not masked. -/
theorem scores_real (h0 : ∀ i, Real' (x0 i)) (h1 : ∀ i, Real' (x1 i)) (h2 : ∀ i, Real' (x2 i)) (h3 : ∀ i, Real' (x3 i))
    (h : Fin 8) (r c : Fin 8192) : scores x0 x1 x2 x3 h r c ≠ ⊤ ∧ (c.val ≤ r.val → scores x0 x1 x2 x3 h r c ≠ ⊥) := by
  unfold scores
  by_cases hc : c.val ≤ r.val
  · rw [if_pos hc]
    obtain ⟨y, hy⟩ := ((Real'.sum Finset.univ _ fun e : Fin 128 => (h0 (ix3 r h e)).mul (h2 (ix3 c h e))).add
      (Real'.sum Finset.univ _ fun e : Fin 64 => (h1 (ix3 r h e)).mul (h3 (ix2 c e)))).mul scale_real
    rw [hy]
    exact ⟨EReal.coe_ne_top _, fun _ => EReal.coe_ne_bot _⟩
  · rw [if_neg hc]
    exact ⟨bot_ne_top, fun h => absurd h hc⟩

/-- Where queries and keys are real numbers, dividing at the end gives what the shares give. -/
theorem att_eq (h0 : ∀ i, Real' (x0 i)) (h1 : ∀ i, Real' (x1 i)) (h2 : ∀ i, Real' (x2 i)) (h3 : ∀ i, Real' (x3 i))
    (r : Fin 8192) (h : Fin 8) (d : Fin 128) :
    (Read.val_main_v29 (F := Ideal) x0 x1 x2 x3 x4 (ix2 r (vcol h d)) : EReal) = att x0 x1 x2 x3 x4 r h d := by
  obtain ⟨y, hy, e⟩ := mass_real (A := Finset.univ) (scores x0 x1 x2 x3 h r) (fun c _ => (scores_real h0 h1 h2 h3 h r c).1)
    ⟨r, Finset.mem_univ _, (scores_real h0 h1 h2 h3 h r r).2 le_rfl⟩
  rw [ref_att]
  exact (blend_div _ _ _ _ hy e).symm

variable (x0 x1 x2 x3)

/-- What the precondition says: queries and keys hold real numbers. -/
theorem pre_real (h : (Cert.Pre_scores_finite.fn (F := Ideal) x0 x1 x2 x3 x4).1 = (fun _ => 1#1)
      ∧ (Cert.Pre_scores_finite.fn (F := Ideal) x0 x1 x2 x3 x4).2.1 = (fun _ => 1#1)
      ∧ (Cert.Pre_scores_finite.fn (F := Ideal) x0 x1 x2 x3 x4).2.2.1 = (fun _ => 1#1)
      ∧ (Cert.Pre_scores_finite.fn (F := Ideal) x0 x1 x2 x3 x4).2.2.2 = (fun _ => 1#1)) :
    (∀ i, Real' (x0 i)) ∧ (∀ i, Real' (x1 i)) ∧ (∀ i, Real' (x2 i)) ∧ (∀ i, Real' (x3 i)) :=
  ⟨fun i => real_of_cmp _ (congrFun h.1 i), fun i => real_of_cmp _ (congrFun h.2.1 i), fun i => real_of_cmp _ (congrFun h.2.2.1 i),
    fun i => real_of_cmp _ (congrFun h.2.2.2 i)⟩

theorem vcol_of (y : Fin 1024) : ∃ (h : Fin 8) (d : Fin 128), y = vcol h d :=
  ⟨⟨y.val / 128, by omega⟩, ⟨y.val % 128, by omega⟩, Fin.ext (by show y.val = y.val / 128 * 128 + y.val % 128; omega)⟩

/-- Naming the mask's constant keeps the value it names. -/
theorem preserves : Cert.preserves_Kernel15_Kernel15Ideal :=
  IdealRules.named_const.statement Cert.Kernel15Ideal.κ "mask" .f32 0xF149F2CA#32 ⊥ rfl

/-- The attention by the kernel and by the reference: equal results on equal arguments, the arguments kept. -/
theorem algebraic : Cert.algebraic_Kernel15Ideal_Reference15Ideal_pre_scores_finite := by
  intro m g m' g' hpre hargs
  refine ⟨fun c => G3 m c, fun c => G4 m c, run m g, ?_⟩
  refine (θ_run _ _ _).mono (fun r h c => ?_) (Cert.Reference15Ideal.Value.run m' g')
  obtain ⟨e29, e27, ek⟩ := h c
  obtain ⟨a0, a1, a2, a3, a4⟩ := hargs c
  obtain ⟨f0, f1, f2, f3⟩ := pre_real _ _ _ _ _ (hpre c)
  refine ⟨e29.trans ?_, e27.trans ?_, ek⟩
  · rw [Read.val_main_v29_eq, a0, a1, a2, a3, a4]
    funext i
    obtain ⟨p, q, rfl⟩ := idx2_eq (a := 8192) (b := 1024) i
    obtain ⟨h, d, rfl⟩ := vcol_of q
    exact (att_eq _ f0 f1 f2 f3 p h d).trans (G3_apply m c p h d).symm
  · rw [Read.val_main_v27_eq, a0, a1, a2, a3]
    funext i
    obtain ⟨h, p, l, rfl⟩ := idx3_eq (a := 8) (b := 8192) (c := 128) i
    exact ref_lse _ _ _ _ h p l

end Cert.Proof.Attend

end
-- ==== Proof.Adam.lean ====
/- One step of the optimiser on one element of a weight, and on the weights of four layers at once, for any number of rows and columns:
   the gradient is the sum of the eight devices' parts, and the two moments and the step follow from it. -/
module

public import Idealize.ShloMosaic.Lib.Pointwise
public import Idealize.ShloMosaic.Lib.ValueIdxCore
public import Idealize.ShloMosaic.Lib.Pipeline.ReadBack
public import Idealize.ShloMosaic.Lib.Pipeline.ValueKit.Tiles
public import Idealize.ShloMosaic.PureOps.Ideal.Laws

@[expose] public section

noncomputable section

namespace Cert.Proof.Adam

open Idealize.ShloMosaic

/-- The first moment after the step: nine tenths of the moment before and a tenth of the gradient. -/
def moment (m g : EReal) : EReal := Ideal.ofBits .f32 0x3F666666#32 * m + Ideal.ofBits .f32 0x3DCCCCCD#32 * g

/-- The second moment after the step, from the gradient's square. -/
def square (v g : EReal) : EReal := Ideal.ofBits .f32 0x3F7FBE77#32 * v + Ideal.ofBits .f32 0x3A83126F#32 * (g * g)

/-- The step: the corrected first moment over the root of the corrected second, and the weight's decay. -/
def delta (w m v g : EReal) : EReal :=
  Ideal.ofBits .f32 0xBA83126F#32
    * (Ideal.div (Ideal.div (moment m g) (Ideal.ofBits .f32 0x3F26BD02#32))
        (Ideal.sqrt (Ideal.div (square v g) (Ideal.ofBits .f32 0x3C231ACC#32)) + Ideal.ofBits .f32 0x322BCC77#32)
      + Ideal.ofBits .f32 0x3C23D70A#32 * w)

section Arrays
variable {R C : ℕ}

/-- The gradient: the devices' parts added up. -/
def grad (p : Vec Ideal ⟨4, ![4, 8, R, C]⟩ .f32) : Vec Ideal ⟨3, ![4, R, C]⟩ .f32 := fun i =>
  (∑ k : Fin 8, p (ix4 (i 0) k (i 1) (i 2)) : EReal)

def newM (p : Vec Ideal ⟨4, ![4, 8, R, C]⟩ .f32) (m : Vec Ideal ⟨3, ![4, R, C]⟩ .f32) : Vec Ideal ⟨3, ![4, R, C]⟩ .f32 := fun i =>
  moment (m i) (grad p i)

def newV (p : Vec Ideal ⟨4, ![4, 8, R, C]⟩ .f32) (v : Vec Ideal ⟨3, ![4, R, C]⟩ .f32) : Vec Ideal ⟨3, ![4, R, C]⟩ .f32 := fun i =>
  square (v i) (grad p i)

def step (p : Vec Ideal ⟨4, ![4, 8, R, C]⟩ .f32) (w m v : Vec Ideal ⟨3, ![4, R, C]⟩ .f32) : Vec Ideal ⟨3, ![4, R, C]⟩ .f32 := fun i =>
  delta (w i) (m i) (v i) (grad p i)

end Arrays

section Blocks
variable {n C : ℕ}

/-- The parts of one block of rows added up. -/
def bgrad (x : Vec Ideal ⟨3, ![8, n, C]⟩ .bf16) : Vec Ideal ⟨3, ![1, n, C]⟩ .f32 := fun y =>
  (∑ k : Fin 8, x (ix3 k (y 1) (y 2)) : EReal)

def bnewM (x : Vec Ideal ⟨3, ![8, n, C]⟩ .bf16) (m : Vec Ideal ⟨3, ![1, n, C]⟩ .f32) : Vec Ideal ⟨3, ![1, n, C]⟩ .f32 := fun y =>
  moment (m y) (bgrad x y)

def bnewV (x : Vec Ideal ⟨3, ![8, n, C]⟩ .bf16) (v : Vec Ideal ⟨3, ![1, n, C]⟩ .f32) : Vec Ideal ⟨3, ![1, n, C]⟩ .f32 := fun y =>
  square (v y) (bgrad x y)

def bstep (x : Vec Ideal ⟨3, ![8, n, C]⟩ .bf16) (w m v : Vec Ideal ⟨3, ![1, n, C]⟩ .f32) : Vec Ideal ⟨3, ![1, n, C]⟩ .f32 := fun y =>
  delta (w y) (m y) (v y) (bgrad x y)

/-- The offset of a whole block. -/
theorem zero3 : (![0, 0, 0] : Fin 3 → Nat) = fun _ => 0 := funext fun a => by fin_cases a <;> rfl

/-- The `k`-th of the parts read from a block of eight. -/
theorem ld_part (x : Vec Ideal ⟨3, ![8, n, C]⟩ .bf16) (k : Fin 8)
    (inb : ∀ a, (![k.val, 0, 0] : Fin 3 → ℕ) a + (⟨3, ![1, n, C]⟩ : Shape).size a ≤ (⟨3, ![8, n, C]⟩ : Shape).size a)
    (z : Fin 1) (r : Fin n) (s : Fin C) :
    (View.ld (Val := Elt Ideal) (e' := .bf16) x (Rect.unit (s := ⟨3, ![8, n, C]⟩) ![k.val, 0, 0] (⟨3, ![1, n, C]⟩ : Shape).size inb) (ix3 z r s) : EReal)
    = x (ix3 k r s) := by
  refine View.ld_unit_apply_of (Val := Elt Ideal) x _ _ inb (ix3 z r s : (⟨3, ![1, n, C]⟩ : Shape).Idx) (ix3 k r s) fun a => ?_
  match a with
  | ⟨0, _⟩ => show k.val = k.val + z.val; omega
  | ⟨1, _⟩ => exact (Nat.zero_add _).symm
  | ⟨2, _⟩ => exact (Nat.zero_add _).symm

theorem idx_row (y : (⟨3, ![1, n, C]⟩ : Shape).Idx) : ∃ (r : Fin n) (s : Fin C), y = ix3 0 r s :=
  ⟨y 1, y 2, by funext d; match d with | ⟨0, _⟩ => exact Subsingleton.elim (α := Fin 1) _ _ | ⟨1, _⟩ => rfl | ⟨2, _⟩ => rfl⟩

end Blocks

end Cert.Proof.Adam

end
-- ==== Proof.AdamWide.lean ====
/- The optimiser's step on a weight of 2048 by 704 elements on each device, as the kernel `adamw` leaves it (at `Ideal`):
   a block of 128 rows of one layer at a point, the layer's parts chosen among the four arrays by the point's layer. -/
module

public import proofs.«01_k».proof.Proof.Gen.Kernel16Ideal.Value
public import proofs.«01_k».proof.Proof.Adam
public import proofs.«01_k».proof.Proof.Pieces
public import Idealize.ShloMosaic.Lib.IdealHost

@[expose] public section

set_option maxRecDepth 16384
set_option maxHeartbeats 1600000

noncomputable section

namespace Cert.Proof.AdamWide

open Cert.Kernel16Ideal Cert.Kernel16Ideal.Gen Idealize.ShloMosaic Idealize.ShloMosaic.TcCoe Idealize.SL.Sem
open Cert.Proof.Adam Cert.Proof.Pieces

/-! ## The body's stores -/

section Payloads
variable (x : Vec Ideal S8x128x704 .bf16) (w mm v : Vec Ideal S1x128x704 .f32)

/-- The `k`-th part of the block. -/
abbrev part (k : Fin 8) (inb : ∀ a, (![k.val, 0, 0] : Fin 3 → ℕ) a + S1x128x704.size a ≤ S8x128x704.size a) : Vec Ideal S1x128x704 .bf16 :=
  View.ld (Val := Elt Ideal) (e' := .bf16) x (Rect.unit (s := S8x128x704) ![k.val, 0, 0] S1x128x704.size inb)

/-- The sum of the eight parts that the body reads one after another. -/
def total : FVec Ideal S128x704 .f32 :=
  k0_pay9 (part x 0 inb_S8x128x704_S1x128x704_0_0_0) (part x 1 inb_S8x128x704_S1x128x704_1_0_0) (part x 2 inb_S8x128x704_S1x128x704_2_0_0)
    (part x 3 inb_S8x128x704_S1x128x704_3_0_0) (part x 4 inb_S8x128x704_S1x128x704_4_0_0) (part x 5 inb_S8x128x704_S1x128x704_5_0_0)
    (part x 6 inb_S8x128x704_S1x128x704_6_0_0) (part x 7 inb_S8x128x704_S1x128x704_7_0_0)

theorem add_parts (y : Fin 8 → Vec Ideal S1x128x704 .bf16) (r : Fin 128) (s : Fin 704) :
    (k0_pay9 (F := Ideal) (y 0) (y 1) (y 2) (y 3) (y 4) (y 5) (y 6) (y 7) (ix2 r s) : EReal) = ∑ k : Fin 8, y k (ix3 0 r s) := by
  rw [Fin.sum_univ_eight]
  unfold k0_pay9
  pointwise

theorem total_eq (r : Fin 128) (s : Fin 704) : (total x (ix2 r s) : EReal) = bgrad x (ix3 0 r s) :=
  (add_parts ![part x 0 inb_S8x128x704_S1x128x704_0_0_0, part x 1 inb_S8x128x704_S1x128x704_1_0_0, part x 2 inb_S8x128x704_S1x128x704_2_0_0,
    part x 3 inb_S8x128x704_S1x128x704_3_0_0, part x 4 inb_S8x128x704_S1x128x704_4_0_0, part x 5 inb_S8x128x704_S1x128x704_5_0_0,
    part x 6 inb_S8x128x704_S1x128x704_6_0_0, part x 7 inb_S8x128x704_S1x128x704_7_0_0] r s).trans
    (Finset.sum_congr rfl fun k _ => by fin_cases k <;> exact ld_part x _ _ 0 r s)

theorem pay_g : k0_pay13 (F := Ideal) (total x) = bgrad x := by
  funext y
  obtain ⟨r, s, rfl⟩ := idx_row y
  rw [← total_eq x r s]
  generalize total x = t
  unfold k0_pay13
  pointwise

theorem pay_m : k0_pay1 (F := Ideal) (k0_pay11 (total x) (k0_pay10 mm)) = bnewM x mm := by
  funext y
  obtain ⟨r, s, rfl⟩ := idx_row y
  show _ = moment (mm (ix3 0 r s)) (bgrad x (ix3 0 r s))
  rw [← total_eq x r s]
  generalize total x = t
  unfold moment k0_pay1 k0_pay11 k0_pay10
  pointwise

theorem pay_v : k0_pay2 (F := Ideal) (k0_pay12 (total x) v) = bnewV x v := by
  funext y
  obtain ⟨r, s, rfl⟩ := idx_row y
  show _ = square (v (ix3 0 r s)) (bgrad x (ix3 0 r s))
  rw [← total_eq x r s]
  generalize total x = t
  unfold square k0_pay2 k0_pay12
  pointwise

theorem pay_d : k0_pay14 (F := Ideal) (total x) (k0_pay10 mm) v w = bstep x w mm v := by
  funext y
  obtain ⟨r, s, rfl⟩ := idx_row y
  show _ = delta (w (ix3 0 r s)) (mm (ix3 0 r s)) (v (ix3 0 r s)) (bgrad x (ix3 0 r s))
  rw [← total_eq x r s]
  generalize total x = t
  unfold delta moment square k0_pay14 k0_pay11 k0_pay12 k0_pay10
  pointwise

end Payloads

variable (m : (ℓ : Loc nD τ sig) → Buf (Elt Ideal) ℓ) (ρ : Dev nD → PrngReg) (c : Dev nD)

/-- The parts of the gradients, the weights and the two moments, as they are launched. -/
abbrev ap : FVec Ideal S4x8x2048x704 .f32 := m ((c : Thread nD τ).loc main_arg0)
abbrev aw : FVec Ideal S4x2048x704 .f32 := m ((c : Thread nD τ).loc main_arg1)
abbrev am : FVec Ideal S4x2048x704 .f32 := m ((c : Thread nD τ).loc main_arg2)
abbrev av : FVec Ideal S4x2048x704 .f32 := m ((c : Thread nD τ).loc main_arg3)

/-! ## What the host lines hand to the call: one layer's parts in each of four arrays -/

theorem entry0 (k : Fin 8) (r : Fin 2048) (s : Fin 704) : ((V m c main_v8 : Vec Ideal S8x2048x704 .bf16) (ix3 k r s) : EReal) = ap m c (ix4 0 k r s) := by
  rw [(by unfold_abbrev_sides; after_results; rfl : @Eq (Vec Ideal S8x2048x704 .bf16) (V m c main_v8) (truncf (F := Ideal) .bf16 (shapeCast S8x2048x704
    (extractStridedSlice S1x8x2048x704 ![0, 0, 0, 0] (ap m c) slices_S4x8x2048x704_S1x8x2048x704_0_0_0_0) shapeCasts_S1x8x2048x704_S8x2048x704) bitsLt_bf16_f32))]
  pointwise

theorem entry1 (k : Fin 8) (r : Fin 2048) (s : Fin 704) : ((V m c main_v9 : Vec Ideal S8x2048x704 .bf16) (ix3 k r s) : EReal) = ap m c (ix4 1 k r s) := by
  rw [(by unfold_abbrev_sides; after_results; rfl : @Eq (Vec Ideal S8x2048x704 .bf16) (V m c main_v9) (truncf (F := Ideal) .bf16 (shapeCast S8x2048x704
    (extractStridedSlice S1x8x2048x704 ![1, 0, 0, 0] (ap m c) slices_S4x8x2048x704_S1x8x2048x704_1_0_0_0) shapeCasts_S1x8x2048x704_S8x2048x704) bitsLt_bf16_f32))]
  pointwise

theorem entry2 (k : Fin 8) (r : Fin 2048) (s : Fin 704) : ((V m c main_v10 : Vec Ideal S8x2048x704 .bf16) (ix3 k r s) : EReal) = ap m c (ix4 2 k r s) := by
  rw [(by unfold_abbrev_sides; after_results; rfl : @Eq (Vec Ideal S8x2048x704 .bf16) (V m c main_v10) (truncf (F := Ideal) .bf16 (shapeCast S8x2048x704
    (extractStridedSlice S1x8x2048x704 ![2, 0, 0, 0] (ap m c) slices_S4x8x2048x704_S1x8x2048x704_2_0_0_0) shapeCasts_S1x8x2048x704_S8x2048x704) bitsLt_bf16_f32))]
  pointwise

theorem entry3 (k : Fin 8) (r : Fin 2048) (s : Fin 704) : ((V m c main_v11 : Vec Ideal S8x2048x704 .bf16) (ix3 k r s) : EReal) = ap m c (ix4 3 k r s) := by
  rw [(by unfold_abbrev_sides; after_results; rfl : @Eq (Vec Ideal S8x2048x704 .bf16) (V m c main_v11) (truncf (F := Ideal) .bf16 (shapeCast S8x2048x704
    (extractStridedSlice S1x8x2048x704 ![3, 0, 0, 0] (ap m c) slices_S4x8x2048x704_S1x8x2048x704_3_0_0_0) shapeCasts_S1x8x2048x704_S8x2048x704) bitsLt_bf16_f32))]
  pointwise

/-! ## Where a block's element lies in its array -/

/-- The layer that point `t` works on, and row `r` of its 128 rows. -/
def layer (t : Fin cfg0.N) : Fin 4 := ⟨t.val / 16 % 4, by omega⟩
def row (t : Fin cfg0.N) (r : Fin 128) : Fin 2048 := ⟨t.val % 16 * 128 + r.val, by omega⟩

variable (t : Fin cfg0.N)

theorem emb0 (h : t.val / 16 % 4 = 0) (k : Fin 8) (r : Fin 128) (s : Fin 704) :
    ((cfg0.win 0).blk t).view.emb (ix3 k r s : S8x128x704.Idx) = (ix3 k (row t r) s : S8x2048x704.Idx) := by
  obtain ⟨e0, e1, e2⟩ := (by decide +kernel : ∀ t : Fin grid0.N, t.val / 16 % 4 = 0 →
    win0_0.index t (0 : Fin 3) = 0 ∧ win0_0.index t (1 : Fin 3) = t.val % 16 ∧ win0_0.index t (2 : Fin 3) = 0) t h
  funext a; apply Fin.ext
  match a with
  | ⟨0, _⟩ => show win0_0.index t (0 : Fin 3) * 8 + 1 * k.val = k.val; omega
  | ⟨1, _⟩ => show win0_0.index t (1 : Fin 3) * 128 + 1 * r.val = t.val % 16 * 128 + r.val; omega
  | ⟨2, _⟩ => show win0_0.index t (2 : Fin 3) * 704 + 1 * s.val = s.val; omega

theorem emb1 (h : t.val / 16 % 4 = 1) (k : Fin 8) (r : Fin 128) (s : Fin 704) :
    ((cfg0.win 1).blk t).view.emb (ix3 k r s : S8x128x704.Idx) = (ix3 k (row t r) s : S8x2048x704.Idx) := by
  obtain ⟨e0, e1, e2⟩ := (by decide +kernel : ∀ t : Fin grid0.N, t.val / 16 % 4 = 1 →
    win0_1.index t (0 : Fin 3) = 0 ∧ win0_1.index t (1 : Fin 3) = t.val % 16 ∧ win0_1.index t (2 : Fin 3) = 0) t h
  funext a; apply Fin.ext
  match a with
  | ⟨0, _⟩ => show win0_1.index t (0 : Fin 3) * 8 + 1 * k.val = k.val; omega
  | ⟨1, _⟩ => show win0_1.index t (1 : Fin 3) * 128 + 1 * r.val = t.val % 16 * 128 + r.val; omega
  | ⟨2, _⟩ => show win0_1.index t (2 : Fin 3) * 704 + 1 * s.val = s.val; omega

theorem emb2 (h : t.val / 16 % 4 = 2) (k : Fin 8) (r : Fin 128) (s : Fin 704) :
    ((cfg0.win 2).blk t).view.emb (ix3 k r s : S8x128x704.Idx) = (ix3 k (row t r) s : S8x2048x704.Idx) := by
  obtain ⟨e0, e1, e2⟩ := (by decide +kernel : ∀ t : Fin grid0.N, t.val / 16 % 4 = 2 →
    win0_2.index t (0 : Fin 3) = 0 ∧ win0_2.index t (1 : Fin 3) = t.val % 16 ∧ win0_2.index t (2 : Fin 3) = 0) t h
  funext a; apply Fin.ext
  match a with
  | ⟨0, _⟩ => show win0_2.index t (0 : Fin 3) * 8 + 1 * k.val = k.val; omega
  | ⟨1, _⟩ => show win0_2.index t (1 : Fin 3) * 128 + 1 * r.val = t.val % 16 * 128 + r.val; omega
  | ⟨2, _⟩ => show win0_2.index t (2 : Fin 3) * 704 + 1 * s.val = s.val; omega

theorem emb3 (h : t.val / 16 % 4 = 3) (k : Fin 8) (r : Fin 128) (s : Fin 704) :
    ((cfg0.win 3).blk t).view.emb (ix3 k r s : S8x128x704.Idx) = (ix3 k (row t r) s : S8x2048x704.Idx) := by
  obtain ⟨e0, e1, e2⟩ := (by decide +kernel : ∀ t : Fin grid0.N, t.val / 16 % 4 = 3 →
    win0_3.index t (0 : Fin 3) = 0 ∧ win0_3.index t (1 : Fin 3) = t.val % 16 ∧ win0_3.index t (2 : Fin 3) = 0) t h
  funext a; apply Fin.ext
  match a with
  | ⟨0, _⟩ => show win0_3.index t (0 : Fin 3) * 8 + 1 * k.val = k.val; omega
  | ⟨1, _⟩ => show win0_3.index t (1 : Fin 3) * 128 + 1 * r.val = t.val % 16 * 128 + r.val; omega
  | ⟨2, _⟩ => show win0_3.index t (2 : Fin 3) * 704 + 1 * s.val = s.val; omega

theorem emb4 (r : Fin 128) (s : Fin 704) :
    ((cfg0.win 4).blk t).view.emb (ix3 0 r s : S1x128x704.Idx) = (ix3 (layer t) (row t r) s : S4x2048x704.Idx) := by
  obtain ⟨e0, e1, e2⟩ := (by decide +kernel : ∀ t : Fin grid0.N,
    win0_4.index t (0 : Fin 3) = t.val / 16 % 4 ∧ win0_4.index t (1 : Fin 3) = t.val % 16 ∧ win0_4.index t (2 : Fin 3) = 0) t
  funext a; apply Fin.ext
  match a with
  | ⟨0, _⟩ => show win0_4.index t (0 : Fin 3) * 1 + 1 * 0 = t.val / 16 % 4; omega
  | ⟨1, _⟩ => show win0_4.index t (1 : Fin 3) * 128 + 1 * r.val = t.val % 16 * 128 + r.val; omega
  | ⟨2, _⟩ => show win0_4.index t (2 : Fin 3) * 704 + 1 * s.val = s.val; omega

theorem emb7 (r : Fin 128) (s : Fin 704) : ((cfg0.win 7).blk t).view.emb (ix3 0 r s : S1x128x704.Idx) = (ix3 (layer t) (row t r) s : S4x2048x704.Idx) := emb4 t r s
theorem emb8 (r : Fin 128) (s : Fin 704) : ((cfg0.win 8).blk t).view.emb (ix3 0 r s : S1x128x704.Idx) = (ix3 (layer t) (row t r) s : S4x2048x704.Idx) := emb4 t r s
theorem emb9 (r : Fin 128) (s : Fin 704) : ((cfg0.win 9).blk t).view.emb (ix3 0 r s : S1x128x704.Idx) = (ix3 (layer t) (row t r) s : S4x2048x704.Idx) := emb4 t r s
theorem emb10 (r : Fin 128) (s : Fin 704) : ((cfg0.win 10).blk t).view.emb (ix3 0 r s : S1x128x704.Idx) = (ix3 (layer t) (row t r) s : S4x2048x704.Idx) := emb4 t r s

/-- The block of the parts that point `t` works on, and the block of an array of the weight's shape. -/
def parts : Vec Ideal S8x128x704 .bf16 := fun y => ap m c (ix4 (layer t) (y 0) (row t (y 1)) (y 2))
def own (a : Vec Ideal S4x2048x704 .f32) : Vec Ideal S1x128x704 .f32 := fun y => a (ix3 (layer t) (row t (y 1)) (y 2))

theorem iblk0 (h : t.val / 16 % 4 = 0) : (iblk m c 0 t : Vec Ideal S8x128x704 .bf16) = parts m c t := by
  funext y
  obtain ⟨k, r, s, rfl⟩ := idx3_eq (a := 8) (b := 128) (c := 704) y
  refine ((congrArg (V m c main_v8 : Vec Ideal S8x2048x704 .bf16) (emb0 t h k r s)).trans (entry0 m c k (row t r) s)).trans ?_
  exact congrArg (fun l => ap m c (ix4 l k (row t r) s)) (Fin.ext h.symm)

theorem iblk1 (h : t.val / 16 % 4 = 1) : (iblk m c 1 t : Vec Ideal S8x128x704 .bf16) = parts m c t := by
  funext y
  obtain ⟨k, r, s, rfl⟩ := idx3_eq (a := 8) (b := 128) (c := 704) y
  refine ((congrArg (V m c main_v9 : Vec Ideal S8x2048x704 .bf16) (emb1 t h k r s)).trans (entry1 m c k (row t r) s)).trans ?_
  exact congrArg (fun l => ap m c (ix4 l k (row t r) s)) (Fin.ext h.symm)

theorem iblk2 (h : t.val / 16 % 4 = 2) : (iblk m c 2 t : Vec Ideal S8x128x704 .bf16) = parts m c t := by
  funext y
  obtain ⟨k, r, s, rfl⟩ := idx3_eq (a := 8) (b := 128) (c := 704) y
  refine ((congrArg (V m c main_v10 : Vec Ideal S8x2048x704 .bf16) (emb2 t h k r s)).trans (entry2 m c k (row t r) s)).trans ?_
  exact congrArg (fun l => ap m c (ix4 l k (row t r) s)) (Fin.ext h.symm)

theorem iblk3 (h : t.val / 16 % 4 = 3) : (iblk m c 3 t : Vec Ideal S8x128x704 .bf16) = parts m c t := by
  funext y
  obtain ⟨k, r, s, rfl⟩ := idx3_eq (a := 8) (b := 128) (c := 704) y
  refine ((congrArg (V m c main_v11 : Vec Ideal S8x2048x704 .bf16) (emb3 t h k r s)).trans (entry3 m c k (row t r) s)).trans ?_
  exact congrArg (fun l => ap m c (ix4 l k (row t r) s)) (Fin.ext h.symm)

theorem iblk4 : (iblk m c 4 t : Vec Ideal S1x128x704 .f32) = own t (aw m c) := by
  funext y
  obtain ⟨r, s, rfl⟩ := idx_row y
  refine (congrFun (by unfold_abbrev_sides; rfl : (V m c main_arg1 : Vec Ideal S4x2048x704 .f32) = aw m c) _).trans ?_
  exact congrArg (aw m c) (emb4 t r s)

theorem iblk5 : (iblk m c 5 t : Vec Ideal S1x128x704 .f32) = own t (am m c) := by
  funext y
  obtain ⟨r, s, rfl⟩ := idx_row y
  refine (congrFun (by unfold_abbrev_sides; rfl : (V m c main_arg2 : Vec Ideal S4x2048x704 .f32) = am m c) _).trans ?_
  exact congrArg (am m c) (emb4 t r s)

theorem iblk6 : (iblk m c 6 t : Vec Ideal S1x128x704 .f32) = own t (av m c) := by
  funext y
  obtain ⟨r, s, rfl⟩ := idx_row y
  refine (congrFun (by unfold_abbrev_sides; rfl : (V m c main_arg3 : Vec Ideal S4x2048x704 .f32) = av m c) _).trans ?_
  exact congrArg (av m c) (emb4 t r s)

/-! ## The results -/

/-- What a point stores, whatever its layer. -/
theorem stored :
    (dats m 0 c).flushed 7 t = (cfg0.win 7).cut (grid0.coords t) (bgrad (parts m c t)) ∧
    (dats m 0 c).flushed 8 t = (cfg0.win 8).cut (grid0.coords t) (bstep (parts m c t) (own t (aw m c)) (own t (am m c)) (own t (av m c))) ∧
    (dats m 0 c).flushed 9 t = (cfg0.win 9).cut (grid0.coords t) (bnewM (parts m c t) (own t (am m c))) ∧
    (dats m 0 c).flushed 10 t = (cfg0.win 10).cut (grid0.coords t) (bnewV (parts m c t) (own t (av m c))) := by
  have ht : t.val < 64 := t.isLt
  rcases (by omega : t.val / 16 % 4 = 0 ∨ t.val / 16 % 4 = 1 ∨ t.val / 16 % 4 = 2 ∨ t.val / 16 % 4 = 3) with h | h | h | h
  · rw [Value.flushed7_A m c t, Value.flushed8_A m c t, Value.flushed9_A m c t, Value.flushed10_A m c t, iblk0 m c t h, iblk4, iblk5, iblk6]
    all_goals try omega
    unfold out0_A_7 out0_A_8 out0_A_9 out0_A_10
    rw [View.read_writes_eq_canon, View.read_writes_eq_canon, View.read_writes_eq_canon, View.read_writes_eq_canon]
    rotate_left
    · exact fun y => cover0_A_10 ..
    · exact fun y => cover0_A_9 ..
    · exact fun y => cover0_A_8 ..
    · exact fun y => cover0_A_7 ..
    unfold kernelRun0_A
    dsimp only
    sl_unfold_words
    rw [View.canon_unit_zero zero3, View.canon_unit_zero zero3, View.canon_unit_zero zero3, View.canon_unit_zero zero3]
    simp only [View.readAt_eq_ld, (hs0_0 t).read_unread, (hs0_4 t).read_unread, (hs0_5 t).read_unread, (hs0_6 t).read_unread, View.ld_unit_zero (S := S1x128x704) zero3]
    exact ⟨congrArg _ (pay_g _), congrArg _ (pay_d _ _ _ _), congrArg _ (pay_m _ _), congrArg _ (pay_v _ _)⟩
  · rw [Value.flushed7_B m c t, Value.flushed8_B m c t, Value.flushed9_B m c t, Value.flushed10_B m c t, iblk1 m c t h, iblk4, iblk5, iblk6]
    all_goals try omega
    unfold out0_B_7 out0_B_8 out0_B_9 out0_B_10
    rw [View.read_writes_eq_canon, View.read_writes_eq_canon, View.read_writes_eq_canon, View.read_writes_eq_canon]
    rotate_left
    · exact fun y => cover0_B_10 ..
    · exact fun y => cover0_B_9 ..
    · exact fun y => cover0_B_8 ..
    · exact fun y => cover0_B_7 ..
    unfold kernelRun0_B
    dsimp only
    sl_unfold_words
    rw [View.canon_unit_zero zero3, View.canon_unit_zero zero3, View.canon_unit_zero zero3, View.canon_unit_zero zero3]
    simp only [View.readAt_eq_ld, (hs0_1 t).read_unread, (hs0_4 t).read_unread, (hs0_5 t).read_unread, (hs0_6 t).read_unread, View.ld_unit_zero (S := S1x128x704) zero3]
    exact ⟨congrArg _ (pay_g _), congrArg _ (pay_d _ _ _ _), congrArg _ (pay_m _ _), congrArg _ (pay_v _ _)⟩
  · rw [Value.flushed7_C m c t, Value.flushed8_C m c t, Value.flushed9_C m c t, Value.flushed10_C m c t, iblk2 m c t h, iblk4, iblk5, iblk6]
    all_goals try omega
    unfold out0_C_7 out0_C_8 out0_C_9 out0_C_10
    rw [View.read_writes_eq_canon, View.read_writes_eq_canon, View.read_writes_eq_canon, View.read_writes_eq_canon]
    rotate_left
    · exact fun y => cover0_C_10 ..
    · exact fun y => cover0_C_9 ..
    · exact fun y => cover0_C_8 ..
    · exact fun y => cover0_C_7 ..
    unfold kernelRun0_C
    dsimp only
    sl_unfold_words
    rw [View.canon_unit_zero zero3, View.canon_unit_zero zero3, View.canon_unit_zero zero3, View.canon_unit_zero zero3]
    simp only [View.readAt_eq_ld, (hs0_2 t).read_unread, (hs0_4 t).read_unread, (hs0_5 t).read_unread, (hs0_6 t).read_unread, View.ld_unit_zero (S := S1x128x704) zero3]
    exact ⟨congrArg _ (pay_g _), congrArg _ (pay_d _ _ _ _), congrArg _ (pay_m _ _), congrArg _ (pay_v _ _)⟩
  · rw [Value.flushed7_D m c t, Value.flushed8_D m c t, Value.flushed9_D m c t, Value.flushed10_D m c t, iblk3 m c t h, iblk4, iblk5, iblk6]
    all_goals try omega
    unfold out0_D_7 out0_D_8 out0_D_9 out0_D_10
    rw [View.read_writes_eq_canon, View.read_writes_eq_canon, View.read_writes_eq_canon, View.read_writes_eq_canon]
    rotate_left
    · exact fun y => cover0_D_10 ..
    · exact fun y => cover0_D_9 ..
    · exact fun y => cover0_D_8 ..
    · exact fun y => cover0_D_7 ..
    unfold kernelRun0_D
    dsimp only
    sl_unfold_words
    rw [View.canon_unit_zero zero3, View.canon_unit_zero zero3, View.canon_unit_zero zero3, View.canon_unit_zero zero3]
    simp only [View.readAt_eq_ld, (hs0_3 t).read_unread, (hs0_4 t).read_unread, (hs0_5 t).read_unread, (hs0_6 t).read_unread, View.ld_unit_zero (S := S1x128x704) zero3]
    exact ⟨congrArg _ (pay_g _), congrArg _ (pay_d _ _ _ _), congrArg _ (pay_m _ _), congrArg _ (pay_v _ _)⟩

/-- Each index of a result is in some point's block. -/
theorem at_point (i : S4x2048x704.Idx) : ∃ (t : Fin cfg0.N) (r : Fin 128) (s : Fin 704), i = ix3 (layer t) (row t r) s := by
  obtain ⟨l, p, k, rfl⟩ := idx3_eq (a := 4) (b := 2048) (c := 704) i
  refine ⟨⟨l.val * 16 + p.val / 128, by show _ < 64; omega⟩, ⟨p.val % 128, by omega⟩, k, congrArg₂ (fun a b => ix3 a b k) (Fin.ext ?_) (Fin.ext ?_)⟩
  · show l.val = (l.val * 16 + p.val / 128) / 16 % 4; omega
  · show p.val = (l.val * 16 + p.val / 128) % 16 * 128 + p.val % 128; omega

theorem result7 : (dats m 0 c).arrAt 7 cfg0.N = grad (ap m c) :=
  (dats m 0 c).arrAt_eq_of_cover 7 _ (fun t _ => (stored m c t).1.trans <| funext fun y => by
    obtain ⟨r, s, rfl⟩ := idx_row (n := 128) (C := 704) y
    exact (congrArg (grad (ap m c)) (emb7 t r s)).symm) fun i => by
    obtain ⟨t, r, s, rfl⟩ := at_point i
    exact ⟨t, flush0_7 t, emb7 t r s ▸ View.emb_mem_set _ _⟩

theorem result8 : (dats m 0 c).arrAt 8 cfg0.N = step (ap m c) (aw m c) (am m c) (av m c) :=
  (dats m 0 c).arrAt_eq_of_cover 8 _ (fun t _ => (stored m c t).2.1.trans <| funext fun y => by
    obtain ⟨r, s, rfl⟩ := idx_row (n := 128) (C := 704) y
    exact (congrArg (step (ap m c) (aw m c) (am m c) (av m c)) (emb8 t r s)).symm) fun i => by
    obtain ⟨t, r, s, rfl⟩ := at_point i
    exact ⟨t, flush0_8 t, emb8 t r s ▸ View.emb_mem_set _ _⟩

theorem result9 : (dats m 0 c).arrAt 9 cfg0.N = newM (ap m c) (am m c) :=
  (dats m 0 c).arrAt_eq_of_cover 9 _ (fun t _ => (stored m c t).2.2.1.trans <| funext fun y => by
    obtain ⟨r, s, rfl⟩ := idx_row (n := 128) (C := 704) y
    exact (congrArg (newM (ap m c) (am m c)) (emb9 t r s)).symm) fun i => by
    obtain ⟨t, r, s, rfl⟩ := at_point i
    exact ⟨t, flush0_9 t, emb9 t r s ▸ View.emb_mem_set _ _⟩

theorem result10 : (dats m 0 c).arrAt 10 cfg0.N = newV (ap m c) (av m c) :=
  (dats m 0 c).arrAt_eq_of_cover 10 _ (fun t _ => (stored m c t).2.2.2.trans <| funext fun y => by
    obtain ⟨r, s, rfl⟩ := idx_row (n := 128) (C := 704) y
    exact (congrArg (newV (ap m c) (av m c)) (emb10 t r s)).symm) fun i => by
    obtain ⟨t, r, s, rfl⟩ := at_point i
    exact ⟨t, flush0_10 t, emb10 t r s ▸ View.emb_mem_set _ _⟩

/-- The run with the four results at their functions of the arguments. -/
theorem run : θ_run defs (onTc (τ := τ) (main (F := Ideal))) ⟨m, fun _ => 0, ρ⟩ fun r => ∀ c : Dev nD,
      r.2.mem ((c : Thread nD τ).loc main_v12_0) = grad (ap m c)
      ∧ r.2.mem ((c : Thread nD τ).loc main_v12_1) = step (ap m c) (aw m c) (am m c) (av m c)
      ∧ r.2.mem ((c : Thread nD τ).loc main_v12_2) = newM (ap m c) (am m c)
      ∧ r.2.mem ((c : Thread nD τ).loc main_v12_3) = newV (ap m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result7 m c), (h c).2.1.trans (result8 m c), (h c).2.2.1.trans (result9 m c),
      (h c).2.2.2.1.trans (result10 m c), (h c).2.2.2.2⟩)
    (Value.run_blocks m ρ)

end Cert.Proof.AdamWide

end
-- ==== Proof.AdamWideRef.lean ====
/- The optimiser's step on a weight of 2048 by 704 elements: the reference's results index by index, and their equality with
   the kernel's. -/
module

public import proofs.«01_k».proof.Proof.AdamWide
public import proofs.«01_k».proof.Proof.Gen.Reference16Ideal.Run
public import proofs.«01_k».proof.Proof.Gen.Reference16Ideal.Read
public import proofs.«01_k».proof.Defs

@[expose] public section

set_option maxRecDepth 16384

noncomputable section

namespace Cert.Proof.AdamWide

open Idealize.ShloMosaic Idealize.ShloMosaic.TcCoe Idealize.SL.Sem
open Cert.Reference16Ideal Cert.Reference16Ideal.Gen Cert.Reference16Ideal.Value
open Cert.Proof.Adam Cert.Proof.Pieces

variable (x0 : Vec Ideal S4x8x2048x704 .f32) (x1 x2 x3 : Vec Ideal S4x2048x704 .f32)

/-- The reference's gradient is the kernel's. -/
theorem ref_grad : Read.val_main_v0 (F := Ideal) x0 = grad x0 := by
  funext i
  obtain ⟨l, r, s, rfl⟩ := idx3_eq (a := 4) (b := 2048) (c := 704) i
  rw [Read.val_main_v0_apply]
  show Ideal.ofBits .f32 0x00000000#32 + _ = (∑ k : Fin 8, x0 (ix4 l k r s) : EReal)
  rw [Ideal.ofBits_zero .f32, zero_add]
  refine Finset.sum_congr rfl fun k _ => congrArg x0 ?_
  funext a; match a with | ⟨0, _⟩ => rfl | ⟨1, _⟩ => rfl | ⟨2, _⟩ => rfl | ⟨3, _⟩ => rfl

theorem ref_moment : Read.val_main_v5 (F := Ideal) x0 x2 = newM x0 x2 := by
  funext i
  unfold newM
  rw [← ref_grad]
  unfold moment Read.val_main_v5 Read.val_main_v2 Read.val_main_v4 Read.val_main_v1 Read.val_main_v3 Read.val_main_cst_0 Read.val_main_cst_1
  generalize Read.val_main_v0 (F := Ideal) x0 = g
  pointwise

theorem ref_square : Read.val_main_v11 (F := Ideal) x0 x3 = newV x0 x3 := by
  funext i
  unfold newV
  rw [← ref_grad]
  unfold square Read.val_main_v11 Read.val_main_v7 Read.val_main_v10 Read.val_main_v6 Read.val_main_v8 Read.val_main_v9 Read.val_main_cst_2 Read.val_main_cst_3
  generalize Read.val_main_v0 (F := Ideal) x0 = g
  pointwise

theorem ref_step : Read.val_main_v24 (F := Ideal) x0 x1 x2 x3 = step x0 x1 x2 x3 := by
  funext i
  show _ = Ideal.ofBits .f32 0xBA83126F#32
    * (Ideal.div (Ideal.div (newM x0 x2 i) (Ideal.ofBits .f32 0x3F26BD02#32))
        (Ideal.sqrt (Ideal.div (newV x0 x3 i) (Ideal.ofBits .f32 0x3C231ACC#32)) + Ideal.ofBits .f32 0x322BCC77#32)
      + Ideal.ofBits .f32 0x3C23D70A#32 * x1 i)
  rw [← ref_moment, ← ref_square]
  unfold Read.val_main_v24 Read.val_main_v22 Read.val_main_v19 Read.val_main_v21 Read.val_main_v13 Read.val_main_v18 Read.val_main_v16
    Read.val_main_v15 Read.val_main_v23 Read.val_main_v20 Read.val_main_v17 Read.val_main_v14 Read.val_main_v12
    Read.val_main_cst_4 Read.val_main_cst_5 Read.val_main_cst_6 Read.val_main_cst_7 Read.val_main_cst_8
  generalize Read.val_main_v5 (F := Ideal) x0 x2 = a
  generalize Read.val_main_v11 (F := Ideal) x0 x3 = b
  pointwise

/-- The optimiser's step by the kernel and by the reference: equal results on equal arguments, the arguments kept. -/
theorem algebraic : Cert.algebraic_Kernel16Ideal_Reference16Ideal := by
  intro m g m' g' _ hargs
  refine ⟨fun c => grad (ap m c), fun c => step (ap m c) (aw m c) (am m c) (av m c), fun c => newM (ap m c) (am m c), fun c => newV (ap m c) (av m c), run m g, ?_⟩
  refine (θ_run _ _ _).mono (fun r h c => ?_) (Cert.Reference16Ideal.Value.run m' g')
  obtain ⟨e1, e2, e3, e4, ek⟩ := h c
  obtain ⟨a0, a1, a2, a3⟩ := hargs c
  refine ⟨e1.trans ?_, e2.trans ?_, e3.trans ?_, e4.trans ?_, ek⟩
  · rw [a0, Read.val_main_v0_eq]
    exact ref_grad _
  · rw [a0, a1, a2, a3, Read.val_main_v24_eq]
    exact ref_step _ _ _ _
  · rw [a0, a2, Read.val_main_v5_eq]
    exact ref_moment _ _
  · rw [a0, a3, Read.val_main_v11_eq]
    exact ref_square _ _

end Cert.Proof.AdamWide

end
-- ==== Proof.AdamDown.lean ====
/- The optimiser's step on a weight of 704 by 2048 elements on each device, as the kernel `adamw` leaves it (at `Ideal`):
   a block of 64 rows of one layer at a point, the layer's parts chosen among the four arrays by the point's layer. -/
module

public import proofs.«01_k».proof.Proof.Gen.Kernel17Ideal.Value
public import proofs.«01_k».proof.Proof.Adam
public import proofs.«01_k».proof.Proof.Pieces
public import Idealize.ShloMosaic.Lib.IdealHost

@[expose] public section

set_option maxRecDepth 16384
set_option maxHeartbeats 1600000

noncomputable section

namespace Cert.Proof.AdamDown

open Cert.Kernel17Ideal Cert.Kernel17Ideal.Gen Idealize.ShloMosaic Idealize.ShloMosaic.TcCoe Idealize.SL.Sem
open Cert.Proof.Adam Cert.Proof.Pieces

/-! ## The body's stores -/

section Payloads
variable (x : Vec Ideal S8x64x2048 .bf16) (w mm v : Vec Ideal S1x64x2048 .f32)

/-- The `k`-th part of the block. -/
abbrev part (k : Fin 8) (inb : ∀ a, (![k.val, 0, 0] : Fin 3 → ℕ) a + S1x64x2048.size a ≤ S8x64x2048.size a) : Vec Ideal S1x64x2048 .bf16 :=
  View.ld (Val := Elt Ideal) (e' := .bf16) x (Rect.unit (s := S8x64x2048) ![k.val, 0, 0] S1x64x2048.size inb)

/-- The sum of the eight parts that the body reads one after another. -/
def total : FVec Ideal S64x2048 .f32 :=
  k0_pay9 (part x 0 inb_S8x64x2048_S1x64x2048_0_0_0) (part x 1 inb_S8x64x2048_S1x64x2048_1_0_0) (part x 2 inb_S8x64x2048_S1x64x2048_2_0_0)
    (part x 3 inb_S8x64x2048_S1x64x2048_3_0_0) (part x 4 inb_S8x64x2048_S1x64x2048_4_0_0) (part x 5 inb_S8x64x2048_S1x64x2048_5_0_0)
    (part x 6 inb_S8x64x2048_S1x64x2048_6_0_0) (part x 7 inb_S8x64x2048_S1x64x2048_7_0_0)

theorem add_parts (y : Fin 8 → Vec Ideal S1x64x2048 .bf16) (r : Fin 64) (s : Fin 2048) :
    (k0_pay9 (F := Ideal) (y 0) (y 1) (y 2) (y 3) (y 4) (y 5) (y 6) (y 7) (ix2 r s) : EReal) = ∑ k : Fin 8, y k (ix3 0 r s) := by
  rw [Fin.sum_univ_eight]
  unfold k0_pay9
  pointwise

theorem total_eq (r : Fin 64) (s : Fin 2048) : (total x (ix2 r s) : EReal) = bgrad x (ix3 0 r s) :=
  (add_parts ![part x 0 inb_S8x64x2048_S1x64x2048_0_0_0, part x 1 inb_S8x64x2048_S1x64x2048_1_0_0, part x 2 inb_S8x64x2048_S1x64x2048_2_0_0,
    part x 3 inb_S8x64x2048_S1x64x2048_3_0_0, part x 4 inb_S8x64x2048_S1x64x2048_4_0_0, part x 5 inb_S8x64x2048_S1x64x2048_5_0_0,
    part x 6 inb_S8x64x2048_S1x64x2048_6_0_0, part x 7 inb_S8x64x2048_S1x64x2048_7_0_0] r s).trans
    (Finset.sum_congr rfl fun k _ => by fin_cases k <;> exact ld_part x _ _ 0 r s)

theorem pay_g : k0_pay13 (F := Ideal) (total x) = bgrad x := by
  funext y
  obtain ⟨r, s, rfl⟩ := idx_row y
  rw [← total_eq x r s]
  generalize total x = t
  unfold k0_pay13
  pointwise

theorem pay_m : k0_pay1 (F := Ideal) (k0_pay11 (total x) (k0_pay10 mm)) = bnewM x mm := by
  funext y
  obtain ⟨r, s, rfl⟩ := idx_row y
  show _ = moment (mm (ix3 0 r s)) (bgrad x (ix3 0 r s))
  rw [← total_eq x r s]
  generalize total x = t
  unfold moment k0_pay1 k0_pay11 k0_pay10
  pointwise

theorem pay_v : k0_pay2 (F := Ideal) (k0_pay12 (total x) v) = bnewV x v := by
  funext y
  obtain ⟨r, s, rfl⟩ := idx_row y
  show _ = square (v (ix3 0 r s)) (bgrad x (ix3 0 r s))
  rw [← total_eq x r s]
  generalize total x = t
  unfold square k0_pay2 k0_pay12
  pointwise

theorem pay_d : k0_pay14 (F := Ideal) (total x) (k0_pay10 mm) v w = bstep x w mm v := by
  funext y
  obtain ⟨r, s, rfl⟩ := idx_row y
  show _ = delta (w (ix3 0 r s)) (mm (ix3 0 r s)) (v (ix3 0 r s)) (bgrad x (ix3 0 r s))
  rw [← total_eq x r s]
  generalize total x = t
  unfold delta moment square k0_pay14 k0_pay11 k0_pay12 k0_pay10
  pointwise

end Payloads

variable (m : (ℓ : Loc nD τ sig) → Buf (Elt Ideal) ℓ) (ρ : Dev nD → PrngReg) (c : Dev nD)

/-- The parts of the gradients, the weights and the two moments, as they are launched. -/
abbrev ap : FVec Ideal S4x8x704x2048 .f32 := m ((c : Thread nD τ).loc main_arg0)
abbrev aw : FVec Ideal S4x704x2048 .f32 := m ((c : Thread nD τ).loc main_arg1)
abbrev am : FVec Ideal S4x704x2048 .f32 := m ((c : Thread nD τ).loc main_arg2)
abbrev av : FVec Ideal S4x704x2048 .f32 := m ((c : Thread nD τ).loc main_arg3)

/-! ## What the host lines hand to the call: one layer's parts in each of four arrays -/

theorem entry0 (k : Fin 8) (r : Fin 704) (s : Fin 2048) : ((V m c main_v8 : Vec Ideal S8x704x2048 .bf16) (ix3 k r s) : EReal) = ap m c (ix4 0 k r s) := by
  rw [(by unfold_abbrev_sides; after_results; rfl : @Eq (Vec Ideal S8x704x2048 .bf16) (V m c main_v8) (truncf (F := Ideal) .bf16 (shapeCast S8x704x2048
    (extractStridedSlice S1x8x704x2048 ![0, 0, 0, 0] (ap m c) slices_S4x8x704x2048_S1x8x704x2048_0_0_0_0) shapeCasts_S1x8x704x2048_S8x704x2048) bitsLt_bf16_f32))]
  pointwise

theorem entry1 (k : Fin 8) (r : Fin 704) (s : Fin 2048) : ((V m c main_v9 : Vec Ideal S8x704x2048 .bf16) (ix3 k r s) : EReal) = ap m c (ix4 1 k r s) := by
  rw [(by unfold_abbrev_sides; after_results; rfl : @Eq (Vec Ideal S8x704x2048 .bf16) (V m c main_v9) (truncf (F := Ideal) .bf16 (shapeCast S8x704x2048
    (extractStridedSlice S1x8x704x2048 ![1, 0, 0, 0] (ap m c) slices_S4x8x704x2048_S1x8x704x2048_1_0_0_0) shapeCasts_S1x8x704x2048_S8x704x2048) bitsLt_bf16_f32))]
  pointwise

theorem entry2 (k : Fin 8) (r : Fin 704) (s : Fin 2048) : ((V m c main_v10 : Vec Ideal S8x704x2048 .bf16) (ix3 k r s) : EReal) = ap m c (ix4 2 k r s) := by
  rw [(by unfold_abbrev_sides; after_results; rfl : @Eq (Vec Ideal S8x704x2048 .bf16) (V m c main_v10) (truncf (F := Ideal) .bf16 (shapeCast S8x704x2048
    (extractStridedSlice S1x8x704x2048 ![2, 0, 0, 0] (ap m c) slices_S4x8x704x2048_S1x8x704x2048_2_0_0_0) shapeCasts_S1x8x704x2048_S8x704x2048) bitsLt_bf16_f32))]
  pointwise

theorem entry3 (k : Fin 8) (r : Fin 704) (s : Fin 2048) : ((V m c main_v11 : Vec Ideal S8x704x2048 .bf16) (ix3 k r s) : EReal) = ap m c (ix4 3 k r s) := by
  rw [(by unfold_abbrev_sides; after_results; rfl : @Eq (Vec Ideal S8x704x2048 .bf16) (V m c main_v11) (truncf (F := Ideal) .bf16 (shapeCast S8x704x2048
    (extractStridedSlice S1x8x704x2048 ![3, 0, 0, 0] (ap m c) slices_S4x8x704x2048_S1x8x704x2048_3_0_0_0) shapeCasts_S1x8x704x2048_S8x704x2048) bitsLt_bf16_f32))]
  pointwise

/-! ## Where a block's element lies in its array -/

/-- The layer that point `t` works on, and row `r` of its 64 rows. -/
def layer (t : Fin cfg0.N) : Fin 4 := ⟨t.val / 11 % 4, by omega⟩
def row (t : Fin cfg0.N) (r : Fin 64) : Fin 704 := ⟨t.val % 11 * 64 + r.val, by omega⟩

variable (t : Fin cfg0.N)

theorem emb0 (h : t.val / 11 % 4 = 0) (k : Fin 8) (r : Fin 64) (s : Fin 2048) :
    ((cfg0.win 0).blk t).view.emb (ix3 k r s : S8x64x2048.Idx) = (ix3 k (row t r) s : S8x704x2048.Idx) := by
  obtain ⟨e0, e1, e2⟩ := (by decide +kernel : ∀ t : Fin grid0.N, t.val / 11 % 4 = 0 →
    win0_0.index t (0 : Fin 3) = 0 ∧ win0_0.index t (1 : Fin 3) = t.val % 11 ∧ win0_0.index t (2 : Fin 3) = 0) t h
  funext a; apply Fin.ext
  match a with
  | ⟨0, _⟩ => show win0_0.index t (0 : Fin 3) * 8 + 1 * k.val = k.val; omega
  | ⟨1, _⟩ => show win0_0.index t (1 : Fin 3) * 64 + 1 * r.val = t.val % 11 * 64 + r.val; omega
  | ⟨2, _⟩ => show win0_0.index t (2 : Fin 3) * 2048 + 1 * s.val = s.val; omega

theorem emb1 (h : t.val / 11 % 4 = 1) (k : Fin 8) (r : Fin 64) (s : Fin 2048) :
    ((cfg0.win 1).blk t).view.emb (ix3 k r s : S8x64x2048.Idx) = (ix3 k (row t r) s : S8x704x2048.Idx) := by
  obtain ⟨e0, e1, e2⟩ := (by decide +kernel : ∀ t : Fin grid0.N, t.val / 11 % 4 = 1 →
    win0_1.index t (0 : Fin 3) = 0 ∧ win0_1.index t (1 : Fin 3) = t.val % 11 ∧ win0_1.index t (2 : Fin 3) = 0) t h
  funext a; apply Fin.ext
  match a with
  | ⟨0, _⟩ => show win0_1.index t (0 : Fin 3) * 8 + 1 * k.val = k.val; omega
  | ⟨1, _⟩ => show win0_1.index t (1 : Fin 3) * 64 + 1 * r.val = t.val % 11 * 64 + r.val; omega
  | ⟨2, _⟩ => show win0_1.index t (2 : Fin 3) * 2048 + 1 * s.val = s.val; omega

theorem emb2 (h : t.val / 11 % 4 = 2) (k : Fin 8) (r : Fin 64) (s : Fin 2048) :
    ((cfg0.win 2).blk t).view.emb (ix3 k r s : S8x64x2048.Idx) = (ix3 k (row t r) s : S8x704x2048.Idx) := by
  obtain ⟨e0, e1, e2⟩ := (by decide +kernel : ∀ t : Fin grid0.N, t.val / 11 % 4 = 2 →
    win0_2.index t (0 : Fin 3) = 0 ∧ win0_2.index t (1 : Fin 3) = t.val % 11 ∧ win0_2.index t (2 : Fin 3) = 0) t h
  funext a; apply Fin.ext
  match a with
  | ⟨0, _⟩ => show win0_2.index t (0 : Fin 3) * 8 + 1 * k.val = k.val; omega
  | ⟨1, _⟩ => show win0_2.index t (1 : Fin 3) * 64 + 1 * r.val = t.val % 11 * 64 + r.val; omega
  | ⟨2, _⟩ => show win0_2.index t (2 : Fin 3) * 2048 + 1 * s.val = s.val; omega

theorem emb3 (h : t.val / 11 % 4 = 3) (k : Fin 8) (r : Fin 64) (s : Fin 2048) :
    ((cfg0.win 3).blk t).view.emb (ix3 k r s : S8x64x2048.Idx) = (ix3 k (row t r) s : S8x704x2048.Idx) := by
  obtain ⟨e0, e1, e2⟩ := (by decide +kernel : ∀ t : Fin grid0.N, t.val / 11 % 4 = 3 →
    win0_3.index t (0 : Fin 3) = 0 ∧ win0_3.index t (1 : Fin 3) = t.val % 11 ∧ win0_3.index t (2 : Fin 3) = 0) t h
  funext a; apply Fin.ext
  match a with
  | ⟨0, _⟩ => show win0_3.index t (0 : Fin 3) * 8 + 1 * k.val = k.val; omega
  | ⟨1, _⟩ => show win0_3.index t (1 : Fin 3) * 64 + 1 * r.val = t.val % 11 * 64 + r.val; omega
  | ⟨2, _⟩ => show win0_3.index t (2 : Fin 3) * 2048 + 1 * s.val = s.val; omega

theorem emb4 (r : Fin 64) (s : Fin 2048) :
    ((cfg0.win 4).blk t).view.emb (ix3 0 r s : S1x64x2048.Idx) = (ix3 (layer t) (row t r) s : S4x704x2048.Idx) := by
  obtain ⟨e0, e1, e2⟩ := (by decide +kernel : ∀ t : Fin grid0.N,
    win0_4.index t (0 : Fin 3) = t.val / 11 % 4 ∧ win0_4.index t (1 : Fin 3) = t.val % 11 ∧ win0_4.index t (2 : Fin 3) = 0) t
  funext a; apply Fin.ext
  match a with
  | ⟨0, _⟩ => show win0_4.index t (0 : Fin 3) * 1 + 1 * 0 = t.val / 11 % 4; omega
  | ⟨1, _⟩ => show win0_4.index t (1 : Fin 3) * 64 + 1 * r.val = t.val % 11 * 64 + r.val; omega
  | ⟨2, _⟩ => show win0_4.index t (2 : Fin 3) * 2048 + 1 * s.val = s.val; omega

theorem emb7 (r : Fin 64) (s : Fin 2048) : ((cfg0.win 7).blk t).view.emb (ix3 0 r s : S1x64x2048.Idx) = (ix3 (layer t) (row t r) s : S4x704x2048.Idx) := emb4 t r s
theorem emb8 (r : Fin 64) (s : Fin 2048) : ((cfg0.win 8).blk t).view.emb (ix3 0 r s : S1x64x2048.Idx) = (ix3 (layer t) (row t r) s : S4x704x2048.Idx) := emb4 t r s
theorem emb9 (r : Fin 64) (s : Fin 2048) : ((cfg0.win 9).blk t).view.emb (ix3 0 r s : S1x64x2048.Idx) = (ix3 (layer t) (row t r) s : S4x704x2048.Idx) := emb4 t r s
theorem emb10 (r : Fin 64) (s : Fin 2048) : ((cfg0.win 10).blk t).view.emb (ix3 0 r s : S1x64x2048.Idx) = (ix3 (layer t) (row t r) s : S4x704x2048.Idx) := emb4 t r s

/-- The block of the parts that point `t` works on, and the block of an array of the weight's shape. -/
def parts : Vec Ideal S8x64x2048 .bf16 := fun y => ap m c (ix4 (layer t) (y 0) (row t (y 1)) (y 2))
def own (a : Vec Ideal S4x704x2048 .f32) : Vec Ideal S1x64x2048 .f32 := fun y => a (ix3 (layer t) (row t (y 1)) (y 2))

theorem iblk0 (h : t.val / 11 % 4 = 0) : (iblk m c 0 t : Vec Ideal S8x64x2048 .bf16) = parts m c t := by
  funext y
  obtain ⟨k, r, s, rfl⟩ := idx3_eq (a := 8) (b := 64) (c := 2048) y
  refine ((congrArg (V m c main_v8 : Vec Ideal S8x704x2048 .bf16) (emb0 t h k r s)).trans (entry0 m c k (row t r) s)).trans ?_
  exact congrArg (fun l => ap m c (ix4 l k (row t r) s)) (Fin.ext h.symm)

theorem iblk1 (h : t.val / 11 % 4 = 1) : (iblk m c 1 t : Vec Ideal S8x64x2048 .bf16) = parts m c t := by
  funext y
  obtain ⟨k, r, s, rfl⟩ := idx3_eq (a := 8) (b := 64) (c := 2048) y
  refine ((congrArg (V m c main_v9 : Vec Ideal S8x704x2048 .bf16) (emb1 t h k r s)).trans (entry1 m c k (row t r) s)).trans ?_
  exact congrArg (fun l => ap m c (ix4 l k (row t r) s)) (Fin.ext h.symm)

theorem iblk2 (h : t.val / 11 % 4 = 2) : (iblk m c 2 t : Vec Ideal S8x64x2048 .bf16) = parts m c t := by
  funext y
  obtain ⟨k, r, s, rfl⟩ := idx3_eq (a := 8) (b := 64) (c := 2048) y
  refine ((congrArg (V m c main_v10 : Vec Ideal S8x704x2048 .bf16) (emb2 t h k r s)).trans (entry2 m c k (row t r) s)).trans ?_
  exact congrArg (fun l => ap m c (ix4 l k (row t r) s)) (Fin.ext h.symm)

theorem iblk3 (h : t.val / 11 % 4 = 3) : (iblk m c 3 t : Vec Ideal S8x64x2048 .bf16) = parts m c t := by
  funext y
  obtain ⟨k, r, s, rfl⟩ := idx3_eq (a := 8) (b := 64) (c := 2048) y
  refine ((congrArg (V m c main_v11 : Vec Ideal S8x704x2048 .bf16) (emb3 t h k r s)).trans (entry3 m c k (row t r) s)).trans ?_
  exact congrArg (fun l => ap m c (ix4 l k (row t r) s)) (Fin.ext h.symm)

theorem iblk4 : (iblk m c 4 t : Vec Ideal S1x64x2048 .f32) = own t (aw m c) := by
  funext y
  obtain ⟨r, s, rfl⟩ := idx_row y
  refine (congrFun (by unfold_abbrev_sides; rfl : (V m c main_arg1 : Vec Ideal S4x704x2048 .f32) = aw m c) _).trans ?_
  exact congrArg (aw m c) (emb4 t r s)

theorem iblk5 : (iblk m c 5 t : Vec Ideal S1x64x2048 .f32) = own t (am m c) := by
  funext y
  obtain ⟨r, s, rfl⟩ := idx_row y
  refine (congrFun (by unfold_abbrev_sides; rfl : (V m c main_arg2 : Vec Ideal S4x704x2048 .f32) = am m c) _).trans ?_
  exact congrArg (am m c) (emb4 t r s)

theorem iblk6 : (iblk m c 6 t : Vec Ideal S1x64x2048 .f32) = own t (av m c) := by
  funext y
  obtain ⟨r, s, rfl⟩ := idx_row y
  refine (congrFun (by unfold_abbrev_sides; rfl : (V m c main_arg3 : Vec Ideal S4x704x2048 .f32) = av m c) _).trans ?_
  exact congrArg (av m c) (emb4 t r s)

/-! ## The results -/

/-- What a point stores, whatever its layer. -/
theorem stored :
    (dats m 0 c).flushed 7 t = (cfg0.win 7).cut (grid0.coords t) (bgrad (parts m c t)) ∧
    (dats m 0 c).flushed 8 t = (cfg0.win 8).cut (grid0.coords t) (bstep (parts m c t) (own t (aw m c)) (own t (am m c)) (own t (av m c))) ∧
    (dats m 0 c).flushed 9 t = (cfg0.win 9).cut (grid0.coords t) (bnewM (parts m c t) (own t (am m c))) ∧
    (dats m 0 c).flushed 10 t = (cfg0.win 10).cut (grid0.coords t) (bnewV (parts m c t) (own t (av m c))) := by
  have ht : t.val < 44 := t.isLt
  rcases (by omega : t.val / 11 % 4 = 0 ∨ t.val / 11 % 4 = 1 ∨ t.val / 11 % 4 = 2 ∨ t.val / 11 % 4 = 3) with h | h | h | h
  · rw [Value.flushed7_A m c t, Value.flushed8_A m c t, Value.flushed9_A m c t, Value.flushed10_A m c t, iblk0 m c t h, iblk4, iblk5, iblk6]
    all_goals try omega
    unfold out0_A_7 out0_A_8 out0_A_9 out0_A_10
    rw [View.read_writes_eq_canon, View.read_writes_eq_canon, View.read_writes_eq_canon, View.read_writes_eq_canon]
    rotate_left
    · exact fun y => cover0_A_10 ..
    · exact fun y => cover0_A_9 ..
    · exact fun y => cover0_A_8 ..
    · exact fun y => cover0_A_7 ..
    unfold kernelRun0_A
    dsimp only
    sl_unfold_words
    rw [View.canon_unit_zero zero3, View.canon_unit_zero zero3, View.canon_unit_zero zero3, View.canon_unit_zero zero3]
    simp only [View.readAt_eq_ld, (hs0_0 t).read_unread, (hs0_4 t).read_unread, (hs0_5 t).read_unread, (hs0_6 t).read_unread, View.ld_unit_zero (S := S1x64x2048) zero3]
    exact ⟨congrArg _ (pay_g _), congrArg _ (pay_d _ _ _ _), congrArg _ (pay_m _ _), congrArg _ (pay_v _ _)⟩
  · rw [Value.flushed7_B m c t, Value.flushed8_B m c t, Value.flushed9_B m c t, Value.flushed10_B m c t, iblk1 m c t h, iblk4, iblk5, iblk6]
    all_goals try omega
    unfold out0_B_7 out0_B_8 out0_B_9 out0_B_10
    rw [View.read_writes_eq_canon, View.read_writes_eq_canon, View.read_writes_eq_canon, View.read_writes_eq_canon]
    rotate_left
    · exact fun y => cover0_B_10 ..
    · exact fun y => cover0_B_9 ..
    · exact fun y => cover0_B_8 ..
    · exact fun y => cover0_B_7 ..
    unfold kernelRun0_B
    dsimp only
    sl_unfold_words
    rw [View.canon_unit_zero zero3, View.canon_unit_zero zero3, View.canon_unit_zero zero3, View.canon_unit_zero zero3]
    simp only [View.readAt_eq_ld, (hs0_1 t).read_unread, (hs0_4 t).read_unread, (hs0_5 t).read_unread, (hs0_6 t).read_unread, View.ld_unit_zero (S := S1x64x2048) zero3]
    exact ⟨congrArg _ (pay_g _), congrArg _ (pay_d _ _ _ _), congrArg _ (pay_m _ _), congrArg _ (pay_v _ _)⟩
  · rw [Value.flushed7_C m c t, Value.flushed8_C m c t, Value.flushed9_C m c t, Value.flushed10_C m c t, iblk2 m c t h, iblk4, iblk5, iblk6]
    all_goals try omega
    unfold out0_C_7 out0_C_8 out0_C_9 out0_C_10
    rw [View.read_writes_eq_canon, View.read_writes_eq_canon, View.read_writes_eq_canon, View.read_writes_eq_canon]
    rotate_left
    · exact fun y => cover0_C_10 ..
    · exact fun y => cover0_C_9 ..
    · exact fun y => cover0_C_8 ..
    · exact fun y => cover0_C_7 ..
    unfold kernelRun0_C
    dsimp only
    sl_unfold_words
    rw [View.canon_unit_zero zero3, View.canon_unit_zero zero3, View.canon_unit_zero zero3, View.canon_unit_zero zero3]
    simp only [View.readAt_eq_ld, (hs0_2 t).read_unread, (hs0_4 t).read_unread, (hs0_5 t).read_unread, (hs0_6 t).read_unread, View.ld_unit_zero (S := S1x64x2048) zero3]
    exact ⟨congrArg _ (pay_g _), congrArg _ (pay_d _ _ _ _), congrArg _ (pay_m _ _), congrArg _ (pay_v _ _)⟩
  · rw [Value.flushed7_D m c t, Value.flushed8_D m c t, Value.flushed9_D m c t, Value.flushed10_D m c t, iblk3 m c t h, iblk4, iblk5, iblk6]
    all_goals try omega
    unfold out0_D_7 out0_D_8 out0_D_9 out0_D_10
    rw [View.read_writes_eq_canon, View.read_writes_eq_canon, View.read_writes_eq_canon, View.read_writes_eq_canon]
    rotate_left
    · exact fun y => cover0_D_10 ..
    · exact fun y => cover0_D_9 ..
    · exact fun y => cover0_D_8 ..
    · exact fun y => cover0_D_7 ..
    unfold kernelRun0_D
    dsimp only
    sl_unfold_words
    rw [View.canon_unit_zero zero3, View.canon_unit_zero zero3, View.canon_unit_zero zero3, View.canon_unit_zero zero3]
    simp only [View.readAt_eq_ld, (hs0_3 t).read_unread, (hs0_4 t).read_unread, (hs0_5 t).read_unread, (hs0_6 t).read_unread, View.ld_unit_zero (S := S1x64x2048) zero3]
    exact ⟨congrArg _ (pay_g _), congrArg _ (pay_d _ _ _ _), congrArg _ (pay_m _ _), congrArg _ (pay_v _ _)⟩

/-- Each index of a result is in some point's block. -/
theorem at_point (i : S4x704x2048.Idx) : ∃ (t : Fin cfg0.N) (r : Fin 64) (s : Fin 2048), i = ix3 (layer t) (row t r) s := by
  obtain ⟨l, p, k, rfl⟩ := idx3_eq (a := 4) (b := 704) (c := 2048) i
  refine ⟨⟨l.val * 11 + p.val / 64, by show _ < 44; omega⟩, ⟨p.val % 64, by omega⟩, k, congrArg₂ (fun a b => ix3 a b k) (Fin.ext ?_) (Fin.ext ?_)⟩
  · show l.val = (l.val * 11 + p.val / 64) / 11 % 4; omega
  · show p.val = (l.val * 11 + p.val / 64) % 11 * 64 + p.val % 64; omega

theorem result7 : (dats m 0 c).arrAt 7 cfg0.N = grad (ap m c) :=
  (dats m 0 c).arrAt_eq_of_cover 7 _ (fun t _ => (stored m c t).1.trans <| funext fun y => by
    obtain ⟨r, s, rfl⟩ := idx_row (n := 64) (C := 2048) y
    exact (congrArg (grad (ap m c)) (emb7 t r s)).symm) fun i => by
    obtain ⟨t, r, s, rfl⟩ := at_point i
    exact ⟨t, flush0_7 t, emb7 t r s ▸ View.emb_mem_set _ _⟩

theorem result8 : (dats m 0 c).arrAt 8 cfg0.N = step (ap m c) (aw m c) (am m c) (av m c) :=
  (dats m 0 c).arrAt_eq_of_cover 8 _ (fun t _ => (stored m c t).2.1.trans <| funext fun y => by
    obtain ⟨r, s, rfl⟩ := idx_row (n := 64) (C := 2048) y
    exact (congrArg (step (ap m c) (aw m c) (am m c) (av m c)) (emb8 t r s)).symm) fun i => by
    obtain ⟨t, r, s, rfl⟩ := at_point i
    exact ⟨t, flush0_8 t, emb8 t r s ▸ View.emb_mem_set _ _⟩

theorem result9 : (dats m 0 c).arrAt 9 cfg0.N = newM (ap m c) (am m c) :=
  (dats m 0 c).arrAt_eq_of_cover 9 _ (fun t _ => (stored m c t).2.2.1.trans <| funext fun y => by
    obtain ⟨r, s, rfl⟩ := idx_row (n := 64) (C := 2048) y
    exact (congrArg (newM (ap m c) (am m c)) (emb9 t r s)).symm) fun i => by
    obtain ⟨t, r, s, rfl⟩ := at_point i
    exact ⟨t, flush0_9 t, emb9 t r s ▸ View.emb_mem_set _ _⟩

theorem result10 : (dats m 0 c).arrAt 10 cfg0.N = newV (ap m c) (av m c) :=
  (dats m 0 c).arrAt_eq_of_cover 10 _ (fun t _ => (stored m c t).2.2.2.trans <| funext fun y => by
    obtain ⟨r, s, rfl⟩ := idx_row (n := 64) (C := 2048) y
    exact (congrArg (newV (ap m c) (av m c)) (emb10 t r s)).symm) fun i => by
    obtain ⟨t, r, s, rfl⟩ := at_point i
    exact ⟨t, flush0_10 t, emb10 t r s ▸ View.emb_mem_set _ _⟩

/-- The run with the four results at their functions of the arguments. -/
theorem run : θ_run defs (onTc (τ := τ) (main (F := Ideal))) ⟨m, fun _ => 0, ρ⟩ fun r => ∀ c : Dev nD,
      r.2.mem ((c : Thread nD τ).loc main_v12_0) = grad (ap m c)
      ∧ r.2.mem ((c : Thread nD τ).loc main_v12_1) = step (ap m c) (aw m c) (am m c) (av m c)
      ∧ r.2.mem ((c : Thread nD τ).loc main_v12_2) = newM (ap m c) (am m c)
      ∧ r.2.mem ((c : Thread nD τ).loc main_v12_3) = newV (ap m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result7 m c), (h c).2.1.trans (result8 m c), (h c).2.2.1.trans (result9 m c),
      (h c).2.2.2.1.trans (result10 m c), (h c).2.2.2.2⟩)
    (Value.run_blocks m ρ)

end Cert.Proof.AdamDown

end
-- ==== Proof.AdamDownRef.lean ====
/- The optimiser's step on a weight of 704 by 2048 elements: the reference's results index by index, and their equality with
   the kernel's. -/
module

public import proofs.«01_k».proof.Proof.AdamDown
public import proofs.«01_k».proof.Proof.Gen.Reference17Ideal.Run
public import proofs.«01_k».proof.Proof.Gen.Reference17Ideal.Read
public import proofs.«01_k».proof.Defs

@[expose] public section

set_option maxRecDepth 16384

noncomputable section

namespace Cert.Proof.AdamDown

open Idealize.ShloMosaic Idealize.ShloMosaic.TcCoe Idealize.SL.Sem
open Cert.Reference17Ideal Cert.Reference17Ideal.Gen Cert.Reference17Ideal.Value
open Cert.Proof.Adam Cert.Proof.Pieces

variable (x0 : Vec Ideal S4x8x704x2048 .f32) (x1 x2 x3 : Vec Ideal S4x704x2048 .f32)

/-- The reference's gradient is the kernel's. -/
theorem ref_grad : Read.val_main_v0 (F := Ideal) x0 = grad x0 := by
  funext i
  obtain ⟨l, r, s, rfl⟩ := idx3_eq (a := 4) (b := 704) (c := 2048) i
  rw [Read.val_main_v0_apply]
  show Ideal.ofBits .f32 0x00000000#32 + _ = (∑ k : Fin 8, x0 (ix4 l k r s) : EReal)
  rw [Ideal.ofBits_zero .f32, zero_add]
  refine Finset.sum_congr rfl fun k _ => congrArg x0 ?_
  funext a; match a with | ⟨0, _⟩ => rfl | ⟨1, _⟩ => rfl | ⟨2, _⟩ => rfl | ⟨3, _⟩ => rfl

theorem ref_moment : Read.val_main_v5 (F := Ideal) x0 x2 = newM x0 x2 := by
  funext i
  unfold newM
  rw [← ref_grad]
  unfold moment Read.val_main_v5 Read.val_main_v2 Read.val_main_v4 Read.val_main_v1 Read.val_main_v3 Read.val_main_cst_0 Read.val_main_cst_1
  generalize Read.val_main_v0 (F := Ideal) x0 = g
  pointwise

theorem ref_square : Read.val_main_v11 (F := Ideal) x0 x3 = newV x0 x3 := by
  funext i
  unfold newV
  rw [← ref_grad]
  unfold square Read.val_main_v11 Read.val_main_v7 Read.val_main_v10 Read.val_main_v6 Read.val_main_v8 Read.val_main_v9 Read.val_main_cst_2 Read.val_main_cst_3
  generalize Read.val_main_v0 (F := Ideal) x0 = g
  pointwise

theorem ref_step : Read.val_main_v24 (F := Ideal) x0 x1 x2 x3 = step x0 x1 x2 x3 := by
  funext i
  show _ = Ideal.ofBits .f32 0xBA83126F#32
    * (Ideal.div (Ideal.div (newM x0 x2 i) (Ideal.ofBits .f32 0x3F26BD02#32))
        (Ideal.sqrt (Ideal.div (newV x0 x3 i) (Ideal.ofBits .f32 0x3C231ACC#32)) + Ideal.ofBits .f32 0x322BCC77#32)
      + Ideal.ofBits .f32 0x3C23D70A#32 * x1 i)
  rw [← ref_moment, ← ref_square]
  unfold Read.val_main_v24 Read.val_main_v22 Read.val_main_v19 Read.val_main_v21 Read.val_main_v13 Read.val_main_v18 Read.val_main_v16
    Read.val_main_v15 Read.val_main_v23 Read.val_main_v20 Read.val_main_v17 Read.val_main_v14 Read.val_main_v12
    Read.val_main_cst_4 Read.val_main_cst_5 Read.val_main_cst_6 Read.val_main_cst_7 Read.val_main_cst_8
  generalize Read.val_main_v5 (F := Ideal) x0 x2 = a
  generalize Read.val_main_v11 (F := Ideal) x0 x3 = b
  pointwise

/-- The optimiser's step by the kernel and by the reference: equal results on equal arguments, the arguments kept. -/
theorem algebraic : Cert.algebraic_Kernel17Ideal_Reference17Ideal := by
  intro m g m' g' _ hargs
  refine ⟨fun c => grad (ap m c), fun c => step (ap m c) (aw m c) (am m c) (av m c), fun c => newM (ap m c) (am m c), fun c => newV (ap m c) (av m c), run m g, ?_⟩
  refine (θ_run _ _ _).mono (fun r h c => ?_) (Cert.Reference17Ideal.Value.run m' g')
  obtain ⟨e1, e2, e3, e4, ek⟩ := h c
  obtain ⟨a0, a1, a2, a3⟩ := hargs c
  refine ⟨e1.trans ?_, e2.trans ?_, e3.trans ?_, e4.trans ?_, ek⟩
  · rw [a0, Read.val_main_v0_eq]
    exact ref_grad _
  · rw [a0, a1, a2, a3, Read.val_main_v24_eq]
    exact ref_step _ _ _ _
  · rw [a0, a2, Read.val_main_v5_eq]
    exact ref_moment _ _
  · rw [a0, a3, Read.val_main_v11_eq]
    exact ref_square _ _

end Cert.Proof.AdamDown

end
-- ==== Proof.AdamIn.lean ====
/- The optimiser's step on a weight of 2048 by 520 elements on each device, as the kernel `adamw` leaves it (at `Ideal`):
   a block of 128 rows of one layer at a point, the layer's parts chosen among the four arrays by the point's layer. -/
module

public import proofs.«01_k».proof.Proof.Gen.Kernel18Ideal.Value
public import proofs.«01_k».proof.Proof.Adam
public import proofs.«01_k».proof.Proof.Pieces
public import Idealize.ShloMosaic.Lib.IdealHost

@[expose] public section

set_option maxRecDepth 16384
set_option maxHeartbeats 1600000

noncomputable section

namespace Cert.Proof.AdamIn

open Cert.Kernel18Ideal Cert.Kernel18Ideal.Gen Idealize.ShloMosaic Idealize.ShloMosaic.TcCoe Idealize.SL.Sem
open Cert.Proof.Adam Cert.Proof.Pieces

/-! ## The body's stores -/

section Payloads
variable (x : Vec Ideal S8x128x520 .bf16) (w mm v : Vec Ideal S1x128x520 .f32)

/-- The `k`-th part of the block. -/
abbrev part (k : Fin 8) (inb : ∀ a, (![k.val, 0, 0] : Fin 3 → ℕ) a + S1x128x520.size a ≤ S8x128x520.size a) : Vec Ideal S1x128x520 .bf16 :=
  View.ld (Val := Elt Ideal) (e' := .bf16) x (Rect.unit (s := S8x128x520) ![k.val, 0, 0] S1x128x520.size inb)

/-- The sum of the eight parts that the body reads one after another. -/
def total : FVec Ideal S128x520 .f32 :=
  k0_pay9 (part x 0 inb_S8x128x520_S1x128x520_0_0_0) (part x 1 inb_S8x128x520_S1x128x520_1_0_0) (part x 2 inb_S8x128x520_S1x128x520_2_0_0)
    (part x 3 inb_S8x128x520_S1x128x520_3_0_0) (part x 4 inb_S8x128x520_S1x128x520_4_0_0) (part x 5 inb_S8x128x520_S1x128x520_5_0_0)
    (part x 6 inb_S8x128x520_S1x128x520_6_0_0) (part x 7 inb_S8x128x520_S1x128x520_7_0_0)

theorem add_parts (y : Fin 8 → Vec Ideal S1x128x520 .bf16) (r : Fin 128) (s : Fin 520) :
    (k0_pay9 (F := Ideal) (y 0) (y 1) (y 2) (y 3) (y 4) (y 5) (y 6) (y 7) (ix2 r s) : EReal) = ∑ k : Fin 8, y k (ix3 0 r s) := by
  rw [Fin.sum_univ_eight]
  unfold k0_pay9
  pointwise

theorem total_eq (r : Fin 128) (s : Fin 520) : (total x (ix2 r s) : EReal) = bgrad x (ix3 0 r s) :=
  (add_parts ![part x 0 inb_S8x128x520_S1x128x520_0_0_0, part x 1 inb_S8x128x520_S1x128x520_1_0_0, part x 2 inb_S8x128x520_S1x128x520_2_0_0,
    part x 3 inb_S8x128x520_S1x128x520_3_0_0, part x 4 inb_S8x128x520_S1x128x520_4_0_0, part x 5 inb_S8x128x520_S1x128x520_5_0_0,
    part x 6 inb_S8x128x520_S1x128x520_6_0_0, part x 7 inb_S8x128x520_S1x128x520_7_0_0] r s).trans
    (Finset.sum_congr rfl fun k _ => by fin_cases k <;> exact ld_part x _ _ 0 r s)

theorem pay_g : k0_pay13 (F := Ideal) (total x) = bgrad x := by
  funext y
  obtain ⟨r, s, rfl⟩ := idx_row y
  rw [← total_eq x r s]
  generalize total x = t
  unfold k0_pay13
  pointwise

theorem pay_m : k0_pay1 (F := Ideal) (k0_pay11 (total x) (k0_pay10 mm)) = bnewM x mm := by
  funext y
  obtain ⟨r, s, rfl⟩ := idx_row y
  show _ = moment (mm (ix3 0 r s)) (bgrad x (ix3 0 r s))
  rw [← total_eq x r s]
  generalize total x = t
  unfold moment k0_pay1 k0_pay11 k0_pay10
  pointwise

theorem pay_v : k0_pay2 (F := Ideal) (k0_pay12 (total x) v) = bnewV x v := by
  funext y
  obtain ⟨r, s, rfl⟩ := idx_row y
  show _ = square (v (ix3 0 r s)) (bgrad x (ix3 0 r s))
  rw [← total_eq x r s]
  generalize total x = t
  unfold square k0_pay2 k0_pay12
  pointwise

theorem pay_d : k0_pay14 (F := Ideal) (total x) (k0_pay10 mm) v w = bstep x w mm v := by
  funext y
  obtain ⟨r, s, rfl⟩ := idx_row y
  show _ = delta (w (ix3 0 r s)) (mm (ix3 0 r s)) (v (ix3 0 r s)) (bgrad x (ix3 0 r s))
  rw [← total_eq x r s]
  generalize total x = t
  unfold delta moment square k0_pay14 k0_pay11 k0_pay12 k0_pay10
  pointwise

end Payloads

variable (m : (ℓ : Loc nD τ sig) → Buf (Elt Ideal) ℓ) (ρ : Dev nD → PrngReg) (c : Dev nD)

/-- The parts of the gradients, the weights and the two moments, as they are launched. -/
abbrev ap : FVec Ideal S4x8x2048x520 .f32 := m ((c : Thread nD τ).loc main_arg0)
abbrev aw : FVec Ideal S4x2048x520 .f32 := m ((c : Thread nD τ).loc main_arg1)
abbrev am : FVec Ideal S4x2048x520 .f32 := m ((c : Thread nD τ).loc main_arg2)
abbrev av : FVec Ideal S4x2048x520 .f32 := m ((c : Thread nD τ).loc main_arg3)

/-! ## What the host lines hand to the call: one layer's parts in each of four arrays -/

theorem entry0 (k : Fin 8) (r : Fin 2048) (s : Fin 520) : ((V m c main_v8 : Vec Ideal S8x2048x520 .bf16) (ix3 k r s) : EReal) = ap m c (ix4 0 k r s) := by
  rw [(by unfold_abbrev_sides; after_results; rfl : @Eq (Vec Ideal S8x2048x520 .bf16) (V m c main_v8) (truncf (F := Ideal) .bf16 (shapeCast S8x2048x520
    (extractStridedSlice S1x8x2048x520 ![0, 0, 0, 0] (ap m c) slices_S4x8x2048x520_S1x8x2048x520_0_0_0_0) shapeCasts_S1x8x2048x520_S8x2048x520) bitsLt_bf16_f32))]
  pointwise

theorem entry1 (k : Fin 8) (r : Fin 2048) (s : Fin 520) : ((V m c main_v9 : Vec Ideal S8x2048x520 .bf16) (ix3 k r s) : EReal) = ap m c (ix4 1 k r s) := by
  rw [(by unfold_abbrev_sides; after_results; rfl : @Eq (Vec Ideal S8x2048x520 .bf16) (V m c main_v9) (truncf (F := Ideal) .bf16 (shapeCast S8x2048x520
    (extractStridedSlice S1x8x2048x520 ![1, 0, 0, 0] (ap m c) slices_S4x8x2048x520_S1x8x2048x520_1_0_0_0) shapeCasts_S1x8x2048x520_S8x2048x520) bitsLt_bf16_f32))]
  pointwise

theorem entry2 (k : Fin 8) (r : Fin 2048) (s : Fin 520) : ((V m c main_v10 : Vec Ideal S8x2048x520 .bf16) (ix3 k r s) : EReal) = ap m c (ix4 2 k r s) := by
  rw [(by unfold_abbrev_sides; after_results; rfl : @Eq (Vec Ideal S8x2048x520 .bf16) (V m c main_v10) (truncf (F := Ideal) .bf16 (shapeCast S8x2048x520
    (extractStridedSlice S1x8x2048x520 ![2, 0, 0, 0] (ap m c) slices_S4x8x2048x520_S1x8x2048x520_2_0_0_0) shapeCasts_S1x8x2048x520_S8x2048x520) bitsLt_bf16_f32))]
  pointwise

theorem entry3 (k : Fin 8) (r : Fin 2048) (s : Fin 520) : ((V m c main_v11 : Vec Ideal S8x2048x520 .bf16) (ix3 k r s) : EReal) = ap m c (ix4 3 k r s) := by
  rw [(by unfold_abbrev_sides; after_results; rfl : @Eq (Vec Ideal S8x2048x520 .bf16) (V m c main_v11) (truncf (F := Ideal) .bf16 (shapeCast S8x2048x520
    (extractStridedSlice S1x8x2048x520 ![3, 0, 0, 0] (ap m c) slices_S4x8x2048x520_S1x8x2048x520_3_0_0_0) shapeCasts_S1x8x2048x520_S8x2048x520) bitsLt_bf16_f32))]
  pointwise

/-! ## Where a block's element lies in its array -/

/-- The layer that point `t` works on, and row `r` of its 128 rows. -/
def layer (t : Fin cfg0.N) : Fin 4 := ⟨t.val / 16 % 4, by omega⟩
def row (t : Fin cfg0.N) (r : Fin 128) : Fin 2048 := ⟨t.val % 16 * 128 + r.val, by omega⟩

variable (t : Fin cfg0.N)

theorem emb0 (h : t.val / 16 % 4 = 0) (k : Fin 8) (r : Fin 128) (s : Fin 520) :
    ((cfg0.win 0).blk t).view.emb (ix3 k r s : S8x128x520.Idx) = (ix3 k (row t r) s : S8x2048x520.Idx) := by
  obtain ⟨e0, e1, e2⟩ := (by decide +kernel : ∀ t : Fin grid0.N, t.val / 16 % 4 = 0 →
    win0_0.index t (0 : Fin 3) = 0 ∧ win0_0.index t (1 : Fin 3) = t.val % 16 ∧ win0_0.index t (2 : Fin 3) = 0) t h
  funext a; apply Fin.ext
  match a with
  | ⟨0, _⟩ => show win0_0.index t (0 : Fin 3) * 8 + 1 * k.val = k.val; omega
  | ⟨1, _⟩ => show win0_0.index t (1 : Fin 3) * 128 + 1 * r.val = t.val % 16 * 128 + r.val; omega
  | ⟨2, _⟩ => show win0_0.index t (2 : Fin 3) * 520 + 1 * s.val = s.val; omega

theorem emb1 (h : t.val / 16 % 4 = 1) (k : Fin 8) (r : Fin 128) (s : Fin 520) :
    ((cfg0.win 1).blk t).view.emb (ix3 k r s : S8x128x520.Idx) = (ix3 k (row t r) s : S8x2048x520.Idx) := by
  obtain ⟨e0, e1, e2⟩ := (by decide +kernel : ∀ t : Fin grid0.N, t.val / 16 % 4 = 1 →
    win0_1.index t (0 : Fin 3) = 0 ∧ win0_1.index t (1 : Fin 3) = t.val % 16 ∧ win0_1.index t (2 : Fin 3) = 0) t h
  funext a; apply Fin.ext
  match a with
  | ⟨0, _⟩ => show win0_1.index t (0 : Fin 3) * 8 + 1 * k.val = k.val; omega
  | ⟨1, _⟩ => show win0_1.index t (1 : Fin 3) * 128 + 1 * r.val = t.val % 16 * 128 + r.val; omega
  | ⟨2, _⟩ => show win0_1.index t (2 : Fin 3) * 520 + 1 * s.val = s.val; omega

theorem emb2 (h : t.val / 16 % 4 = 2) (k : Fin 8) (r : Fin 128) (s : Fin 520) :
    ((cfg0.win 2).blk t).view.emb (ix3 k r s : S8x128x520.Idx) = (ix3 k (row t r) s : S8x2048x520.Idx) := by
  obtain ⟨e0, e1, e2⟩ := (by decide +kernel : ∀ t : Fin grid0.N, t.val / 16 % 4 = 2 →
    win0_2.index t (0 : Fin 3) = 0 ∧ win0_2.index t (1 : Fin 3) = t.val % 16 ∧ win0_2.index t (2 : Fin 3) = 0) t h
  funext a; apply Fin.ext
  match a with
  | ⟨0, _⟩ => show win0_2.index t (0 : Fin 3) * 8 + 1 * k.val = k.val; omega
  | ⟨1, _⟩ => show win0_2.index t (1 : Fin 3) * 128 + 1 * r.val = t.val % 16 * 128 + r.val; omega
  | ⟨2, _⟩ => show win0_2.index t (2 : Fin 3) * 520 + 1 * s.val = s.val; omega

theorem emb3 (h : t.val / 16 % 4 = 3) (k : Fin 8) (r : Fin 128) (s : Fin 520) :
    ((cfg0.win 3).blk t).view.emb (ix3 k r s : S8x128x520.Idx) = (ix3 k (row t r) s : S8x2048x520.Idx) := by
  obtain ⟨e0, e1, e2⟩ := (by decide +kernel : ∀ t : Fin grid0.N, t.val / 16 % 4 = 3 →
    win0_3.index t (0 : Fin 3) = 0 ∧ win0_3.index t (1 : Fin 3) = t.val % 16 ∧ win0_3.index t (2 : Fin 3) = 0) t h
  funext a; apply Fin.ext
  match a with
  | ⟨0, _⟩ => show win0_3.index t (0 : Fin 3) * 8 + 1 * k.val = k.val; omega
  | ⟨1, _⟩ => show win0_3.index t (1 : Fin 3) * 128 + 1 * r.val = t.val % 16 * 128 + r.val; omega
  | ⟨2, _⟩ => show win0_3.index t (2 : Fin 3) * 520 + 1 * s.val = s.val; omega

theorem emb4 (r : Fin 128) (s : Fin 520) :
    ((cfg0.win 4).blk t).view.emb (ix3 0 r s : S1x128x520.Idx) = (ix3 (layer t) (row t r) s : S4x2048x520.Idx) := by
  obtain ⟨e0, e1, e2⟩ := (by decide +kernel : ∀ t : Fin grid0.N,
    win0_4.index t (0 : Fin 3) = t.val / 16 % 4 ∧ win0_4.index t (1 : Fin 3) = t.val % 16 ∧ win0_4.index t (2 : Fin 3) = 0) t
  funext a; apply Fin.ext
  match a with
  | ⟨0, _⟩ => show win0_4.index t (0 : Fin 3) * 1 + 1 * 0 = t.val / 16 % 4; omega
  | ⟨1, _⟩ => show win0_4.index t (1 : Fin 3) * 128 + 1 * r.val = t.val % 16 * 128 + r.val; omega
  | ⟨2, _⟩ => show win0_4.index t (2 : Fin 3) * 520 + 1 * s.val = s.val; omega

theorem emb7 (r : Fin 128) (s : Fin 520) : ((cfg0.win 7).blk t).view.emb (ix3 0 r s : S1x128x520.Idx) = (ix3 (layer t) (row t r) s : S4x2048x520.Idx) := emb4 t r s
theorem emb8 (r : Fin 128) (s : Fin 520) : ((cfg0.win 8).blk t).view.emb (ix3 0 r s : S1x128x520.Idx) = (ix3 (layer t) (row t r) s : S4x2048x520.Idx) := emb4 t r s
theorem emb9 (r : Fin 128) (s : Fin 520) : ((cfg0.win 9).blk t).view.emb (ix3 0 r s : S1x128x520.Idx) = (ix3 (layer t) (row t r) s : S4x2048x520.Idx) := emb4 t r s
theorem emb10 (r : Fin 128) (s : Fin 520) : ((cfg0.win 10).blk t).view.emb (ix3 0 r s : S1x128x520.Idx) = (ix3 (layer t) (row t r) s : S4x2048x520.Idx) := emb4 t r s

/-- The block of the parts that point `t` works on, and the block of an array of the weight's shape. -/
def parts : Vec Ideal S8x128x520 .bf16 := fun y => ap m c (ix4 (layer t) (y 0) (row t (y 1)) (y 2))
def own (a : Vec Ideal S4x2048x520 .f32) : Vec Ideal S1x128x520 .f32 := fun y => a (ix3 (layer t) (row t (y 1)) (y 2))

theorem iblk0 (h : t.val / 16 % 4 = 0) : (iblk m c 0 t : Vec Ideal S8x128x520 .bf16) = parts m c t := by
  funext y
  obtain ⟨k, r, s, rfl⟩ := idx3_eq (a := 8) (b := 128) (c := 520) y
  refine ((congrArg (V m c main_v8 : Vec Ideal S8x2048x520 .bf16) (emb0 t h k r s)).trans (entry0 m c k (row t r) s)).trans ?_
  exact congrArg (fun l => ap m c (ix4 l k (row t r) s)) (Fin.ext h.symm)

theorem iblk1 (h : t.val / 16 % 4 = 1) : (iblk m c 1 t : Vec Ideal S8x128x520 .bf16) = parts m c t := by
  funext y
  obtain ⟨k, r, s, rfl⟩ := idx3_eq (a := 8) (b := 128) (c := 520) y
  refine ((congrArg (V m c main_v9 : Vec Ideal S8x2048x520 .bf16) (emb1 t h k r s)).trans (entry1 m c k (row t r) s)).trans ?_
  exact congrArg (fun l => ap m c (ix4 l k (row t r) s)) (Fin.ext h.symm)

theorem iblk2 (h : t.val / 16 % 4 = 2) : (iblk m c 2 t : Vec Ideal S8x128x520 .bf16) = parts m c t := by
  funext y
  obtain ⟨k, r, s, rfl⟩ := idx3_eq (a := 8) (b := 128) (c := 520) y
  refine ((congrArg (V m c main_v10 : Vec Ideal S8x2048x520 .bf16) (emb2 t h k r s)).trans (entry2 m c k (row t r) s)).trans ?_
  exact congrArg (fun l => ap m c (ix4 l k (row t r) s)) (Fin.ext h.symm)

theorem iblk3 (h : t.val / 16 % 4 = 3) : (iblk m c 3 t : Vec Ideal S8x128x520 .bf16) = parts m c t := by
  funext y
  obtain ⟨k, r, s, rfl⟩ := idx3_eq (a := 8) (b := 128) (c := 520) y
  refine ((congrArg (V m c main_v11 : Vec Ideal S8x2048x520 .bf16) (emb3 t h k r s)).trans (entry3 m c k (row t r) s)).trans ?_
  exact congrArg (fun l => ap m c (ix4 l k (row t r) s)) (Fin.ext h.symm)

theorem iblk4 : (iblk m c 4 t : Vec Ideal S1x128x520 .f32) = own t (aw m c) := by
  funext y
  obtain ⟨r, s, rfl⟩ := idx_row y
  refine (congrFun (by unfold_abbrev_sides; rfl : (V m c main_arg1 : Vec Ideal S4x2048x520 .f32) = aw m c) _).trans ?_
  exact congrArg (aw m c) (emb4 t r s)

theorem iblk5 : (iblk m c 5 t : Vec Ideal S1x128x520 .f32) = own t (am m c) := by
  funext y
  obtain ⟨r, s, rfl⟩ := idx_row y
  refine (congrFun (by unfold_abbrev_sides; rfl : (V m c main_arg2 : Vec Ideal S4x2048x520 .f32) = am m c) _).trans ?_
  exact congrArg (am m c) (emb4 t r s)

theorem iblk6 : (iblk m c 6 t : Vec Ideal S1x128x520 .f32) = own t (av m c) := by
  funext y
  obtain ⟨r, s, rfl⟩ := idx_row y
  refine (congrFun (by unfold_abbrev_sides; rfl : (V m c main_arg3 : Vec Ideal S4x2048x520 .f32) = av m c) _).trans ?_
  exact congrArg (av m c) (emb4 t r s)

/-! ## The results -/

/-- What a point stores, whatever its layer. -/
theorem stored :
    (dats m 0 c).flushed 7 t = (cfg0.win 7).cut (grid0.coords t) (bgrad (parts m c t)) ∧
    (dats m 0 c).flushed 8 t = (cfg0.win 8).cut (grid0.coords t) (bstep (parts m c t) (own t (aw m c)) (own t (am m c)) (own t (av m c))) ∧
    (dats m 0 c).flushed 9 t = (cfg0.win 9).cut (grid0.coords t) (bnewM (parts m c t) (own t (am m c))) ∧
    (dats m 0 c).flushed 10 t = (cfg0.win 10).cut (grid0.coords t) (bnewV (parts m c t) (own t (av m c))) := by
  have ht : t.val < 64 := t.isLt
  rcases (by omega : t.val / 16 % 4 = 0 ∨ t.val / 16 % 4 = 1 ∨ t.val / 16 % 4 = 2 ∨ t.val / 16 % 4 = 3) with h | h | h | h
  · rw [Value.flushed7_A m c t, Value.flushed8_A m c t, Value.flushed9_A m c t, Value.flushed10_A m c t, iblk0 m c t h, iblk4, iblk5, iblk6]
    all_goals try omega
    unfold out0_A_7 out0_A_8 out0_A_9 out0_A_10
    rw [View.read_writes_eq_canon, View.read_writes_eq_canon, View.read_writes_eq_canon, View.read_writes_eq_canon]
    rotate_left
    · exact fun y => cover0_A_10 ..
    · exact fun y => cover0_A_9 ..
    · exact fun y => cover0_A_8 ..
    · exact fun y => cover0_A_7 ..
    unfold kernelRun0_A
    dsimp only
    sl_unfold_words
    rw [View.canon_unit_zero zero3, View.canon_unit_zero zero3, View.canon_unit_zero zero3, View.canon_unit_zero zero3]
    simp only [View.readAt_eq_ld, (hs0_0 t).read_unread, (hs0_4 t).read_unread, (hs0_5 t).read_unread, (hs0_6 t).read_unread, View.ld_unit_zero (S := S1x128x520) zero3]
    exact ⟨congrArg _ (pay_g _), congrArg _ (pay_d _ _ _ _), congrArg _ (pay_m _ _), congrArg _ (pay_v _ _)⟩
  · rw [Value.flushed7_B m c t, Value.flushed8_B m c t, Value.flushed9_B m c t, Value.flushed10_B m c t, iblk1 m c t h, iblk4, iblk5, iblk6]
    all_goals try omega
    unfold out0_B_7 out0_B_8 out0_B_9 out0_B_10
    rw [View.read_writes_eq_canon, View.read_writes_eq_canon, View.read_writes_eq_canon, View.read_writes_eq_canon]
    rotate_left
    · exact fun y => cover0_B_10 ..
    · exact fun y => cover0_B_9 ..
    · exact fun y => cover0_B_8 ..
    · exact fun y => cover0_B_7 ..
    unfold kernelRun0_B
    dsimp only
    sl_unfold_words
    rw [View.canon_unit_zero zero3, View.canon_unit_zero zero3, View.canon_unit_zero zero3, View.canon_unit_zero zero3]
    simp only [View.readAt_eq_ld, (hs0_1 t).read_unread, (hs0_4 t).read_unread, (hs0_5 t).read_unread, (hs0_6 t).read_unread, View.ld_unit_zero (S := S1x128x520) zero3]
    exact ⟨congrArg _ (pay_g _), congrArg _ (pay_d _ _ _ _), congrArg _ (pay_m _ _), congrArg _ (pay_v _ _)⟩
  · rw [Value.flushed7_C m c t, Value.flushed8_C m c t, Value.flushed9_C m c t, Value.flushed10_C m c t, iblk2 m c t h, iblk4, iblk5, iblk6]
    all_goals try omega
    unfold out0_C_7 out0_C_8 out0_C_9 out0_C_10
    rw [View.read_writes_eq_canon, View.read_writes_eq_canon, View.read_writes_eq_canon, View.read_writes_eq_canon]
    rotate_left
    · exact fun y => cover0_C_10 ..
    · exact fun y => cover0_C_9 ..
    · exact fun y => cover0_C_8 ..
    · exact fun y => cover0_C_7 ..
    unfold kernelRun0_C
    dsimp only
    sl_unfold_words
    rw [View.canon_unit_zero zero3, View.canon_unit_zero zero3, View.canon_unit_zero zero3, View.canon_unit_zero zero3]
    simp only [View.readAt_eq_ld, (hs0_2 t).read_unread, (hs0_4 t).read_unread, (hs0_5 t).read_unread, (hs0_6 t).read_unread, View.ld_unit_zero (S := S1x128x520) zero3]
    exact ⟨congrArg _ (pay_g _), congrArg _ (pay_d _ _ _ _), congrArg _ (pay_m _ _), congrArg _ (pay_v _ _)⟩
  · rw [Value.flushed7_D m c t, Value.flushed8_D m c t, Value.flushed9_D m c t, Value.flushed10_D m c t, iblk3 m c t h, iblk4, iblk5, iblk6]
    all_goals try omega
    unfold out0_D_7 out0_D_8 out0_D_9 out0_D_10
    rw [View.read_writes_eq_canon, View.read_writes_eq_canon, View.read_writes_eq_canon, View.read_writes_eq_canon]
    rotate_left
    · exact fun y => cover0_D_10 ..
    · exact fun y => cover0_D_9 ..
    · exact fun y => cover0_D_8 ..
    · exact fun y => cover0_D_7 ..
    unfold kernelRun0_D
    dsimp only
    sl_unfold_words
    rw [View.canon_unit_zero zero3, View.canon_unit_zero zero3, View.canon_unit_zero zero3, View.canon_unit_zero zero3]
    simp only [View.readAt_eq_ld, (hs0_3 t).read_unread, (hs0_4 t).read_unread, (hs0_5 t).read_unread, (hs0_6 t).read_unread, View.ld_unit_zero (S := S1x128x520) zero3]
    exact ⟨congrArg _ (pay_g _), congrArg _ (pay_d _ _ _ _), congrArg _ (pay_m _ _), congrArg _ (pay_v _ _)⟩

/-- Each index of a result is in some point's block. -/
theorem at_point (i : S4x2048x520.Idx) : ∃ (t : Fin cfg0.N) (r : Fin 128) (s : Fin 520), i = ix3 (layer t) (row t r) s := by
  obtain ⟨l, p, k, rfl⟩ := idx3_eq (a := 4) (b := 2048) (c := 520) i
  refine ⟨⟨l.val * 16 + p.val / 128, by show _ < 64; omega⟩, ⟨p.val % 128, by omega⟩, k, congrArg₂ (fun a b => ix3 a b k) (Fin.ext ?_) (Fin.ext ?_)⟩
  · show l.val = (l.val * 16 + p.val / 128) / 16 % 4; omega
  · show p.val = (l.val * 16 + p.val / 128) % 16 * 128 + p.val % 128; omega

theorem result7 : (dats m 0 c).arrAt 7 cfg0.N = grad (ap m c) :=
  (dats m 0 c).arrAt_eq_of_cover 7 _ (fun t _ => (stored m c t).1.trans <| funext fun y => by
    obtain ⟨r, s, rfl⟩ := idx_row (n := 128) (C := 520) y
    exact (congrArg (grad (ap m c)) (emb7 t r s)).symm) fun i => by
    obtain ⟨t, r, s, rfl⟩ := at_point i
    exact ⟨t, flush0_7 t, emb7 t r s ▸ View.emb_mem_set _ _⟩

theorem result8 : (dats m 0 c).arrAt 8 cfg0.N = step (ap m c) (aw m c) (am m c) (av m c) :=
  (dats m 0 c).arrAt_eq_of_cover 8 _ (fun t _ => (stored m c t).2.1.trans <| funext fun y => by
    obtain ⟨r, s, rfl⟩ := idx_row (n := 128) (C := 520) y
    exact (congrArg (step (ap m c) (aw m c) (am m c) (av m c)) (emb8 t r s)).symm) fun i => by
    obtain ⟨t, r, s, rfl⟩ := at_point i
    exact ⟨t, flush0_8 t, emb8 t r s ▸ View.emb_mem_set _ _⟩

theorem result9 : (dats m 0 c).arrAt 9 cfg0.N = newM (ap m c) (am m c) :=
  (dats m 0 c).arrAt_eq_of_cover 9 _ (fun t _ => (stored m c t).2.2.1.trans <| funext fun y => by
    obtain ⟨r, s, rfl⟩ := idx_row (n := 128) (C := 520) y
    exact (congrArg (newM (ap m c) (am m c)) (emb9 t r s)).symm) fun i => by
    obtain ⟨t, r, s, rfl⟩ := at_point i
    exact ⟨t, flush0_9 t, emb9 t r s ▸ View.emb_mem_set _ _⟩

theorem result10 : (dats m 0 c).arrAt 10 cfg0.N = newV (ap m c) (av m c) :=
  (dats m 0 c).arrAt_eq_of_cover 10 _ (fun t _ => (stored m c t).2.2.2.trans <| funext fun y => by
    obtain ⟨r, s, rfl⟩ := idx_row (n := 128) (C := 520) y
    exact (congrArg (newV (ap m c) (av m c)) (emb10 t r s)).symm) fun i => by
    obtain ⟨t, r, s, rfl⟩ := at_point i
    exact ⟨t, flush0_10 t, emb10 t r s ▸ View.emb_mem_set _ _⟩

/-- The run with the four results at their functions of the arguments. -/
theorem run : θ_run defs (onTc (τ := τ) (main (F := Ideal))) ⟨m, fun _ => 0, ρ⟩ fun r => ∀ c : Dev nD,
      r.2.mem ((c : Thread nD τ).loc main_v12_0) = grad (ap m c)
      ∧ r.2.mem ((c : Thread nD τ).loc main_v12_1) = step (ap m c) (aw m c) (am m c) (av m c)
      ∧ r.2.mem ((c : Thread nD τ).loc main_v12_2) = newM (ap m c) (am m c)
      ∧ r.2.mem ((c : Thread nD τ).loc main_v12_3) = newV (ap m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result7 m c), (h c).2.1.trans (result8 m c), (h c).2.2.1.trans (result9 m c),
      (h c).2.2.2.1.trans (result10 m c), (h c).2.2.2.2⟩)
    (Value.run_blocks m ρ)

end Cert.Proof.AdamIn

end
-- ==== Proof.AdamInRef.lean ====
/- The optimiser's step on a weight of 2048 by 520 elements: the reference's results index by index, and their equality with
   the kernel's. -/
module

public import proofs.«01_k».proof.Proof.AdamIn
public import proofs.«01_k».proof.Proof.Gen.Reference18Ideal.Run
public import proofs.«01_k».proof.Proof.Gen.Reference18Ideal.Read
public import proofs.«01_k».proof.Defs

@[expose] public section

set_option maxRecDepth 16384

noncomputable section

namespace Cert.Proof.AdamIn

open Idealize.ShloMosaic Idealize.ShloMosaic.TcCoe Idealize.SL.Sem
open Cert.Reference18Ideal Cert.Reference18Ideal.Gen Cert.Reference18Ideal.Value
open Cert.Proof.Adam Cert.Proof.Pieces

variable (x0 : Vec Ideal S4x8x2048x520 .f32) (x1 x2 x3 : Vec Ideal S4x2048x520 .f32)

/-- The reference's gradient is the kernel's. -/
theorem ref_grad : Read.val_main_v0 (F := Ideal) x0 = grad x0 := by
  funext i
  obtain ⟨l, r, s, rfl⟩ := idx3_eq (a := 4) (b := 2048) (c := 520) i
  rw [Read.val_main_v0_apply]
  show Ideal.ofBits .f32 0x00000000#32 + _ = (∑ k : Fin 8, x0 (ix4 l k r s) : EReal)
  rw [Ideal.ofBits_zero .f32, zero_add]
  refine Finset.sum_congr rfl fun k _ => congrArg x0 ?_
  funext a; match a with | ⟨0, _⟩ => rfl | ⟨1, _⟩ => rfl | ⟨2, _⟩ => rfl | ⟨3, _⟩ => rfl

theorem ref_moment : Read.val_main_v5 (F := Ideal) x0 x2 = newM x0 x2 := by
  funext i
  unfold newM
  rw [← ref_grad]
  unfold moment Read.val_main_v5 Read.val_main_v2 Read.val_main_v4 Read.val_main_v1 Read.val_main_v3 Read.val_main_cst_0 Read.val_main_cst_1
  generalize Read.val_main_v0 (F := Ideal) x0 = g
  pointwise

theorem ref_square : Read.val_main_v11 (F := Ideal) x0 x3 = newV x0 x3 := by
  funext i
  unfold newV
  rw [← ref_grad]
  unfold square Read.val_main_v11 Read.val_main_v7 Read.val_main_v10 Read.val_main_v6 Read.val_main_v8 Read.val_main_v9 Read.val_main_cst_2 Read.val_main_cst_3
  generalize Read.val_main_v0 (F := Ideal) x0 = g
  pointwise

theorem ref_step : Read.val_main_v24 (F := Ideal) x0 x1 x2 x3 = step x0 x1 x2 x3 := by
  funext i
  show _ = Ideal.ofBits .f32 0xBA83126F#32
    * (Ideal.div (Ideal.div (newM x0 x2 i) (Ideal.ofBits .f32 0x3F26BD02#32))
        (Ideal.sqrt (Ideal.div (newV x0 x3 i) (Ideal.ofBits .f32 0x3C231ACC#32)) + Ideal.ofBits .f32 0x322BCC77#32)
      + Ideal.ofBits .f32 0x3C23D70A#32 * x1 i)
  rw [← ref_moment, ← ref_square]
  unfold Read.val_main_v24 Read.val_main_v22 Read.val_main_v19 Read.val_main_v21 Read.val_main_v13 Read.val_main_v18 Read.val_main_v16
    Read.val_main_v15 Read.val_main_v23 Read.val_main_v20 Read.val_main_v17 Read.val_main_v14 Read.val_main_v12
    Read.val_main_cst_4 Read.val_main_cst_5 Read.val_main_cst_6 Read.val_main_cst_7 Read.val_main_cst_8
  generalize Read.val_main_v5 (F := Ideal) x0 x2 = a
  generalize Read.val_main_v11 (F := Ideal) x0 x3 = b
  pointwise

/-- The optimiser's step by the kernel and by the reference: equal results on equal arguments, the arguments kept. -/
theorem algebraic : Cert.algebraic_Kernel18Ideal_Reference18Ideal := by
  intro m g m' g' _ hargs
  refine ⟨fun c => grad (ap m c), fun c => step (ap m c) (aw m c) (am m c) (av m c), fun c => newM (ap m c) (am m c), fun c => newV (ap m c) (av m c), run m g, ?_⟩
  refine (θ_run _ _ _).mono (fun r h c => ?_) (Cert.Reference18Ideal.Value.run m' g')
  obtain ⟨e1, e2, e3, e4, ek⟩ := h c
  obtain ⟨a0, a1, a2, a3⟩ := hargs c
  refine ⟨e1.trans ?_, e2.trans ?_, e3.trans ?_, e4.trans ?_, ek⟩
  · rw [a0, Read.val_main_v0_eq]
    exact ref_grad _
  · rw [a0, a1, a2, a3, Read.val_main_v24_eq]
    exact ref_step _ _ _ _
  · rw [a0, a2, Read.val_main_v5_eq]
    exact ref_moment _ _
  · rw [a0, a3, Read.val_main_v11_eq]
    exact ref_square _ _

end Cert.Proof.AdamIn

end
-- ==== Proof.AdamQ.lean ====
/- The optimiser's step on a weight of 512 by 192 elements on each device, as the kernel `adamw` leaves it (at `Ideal`):
   a block of 512 rows of one layer at a point, the layer's parts chosen among the four arrays by the point's layer. -/
module

public import proofs.«01_k».proof.Proof.Gen.Kernel19Ideal.Value
public import proofs.«01_k».proof.Proof.Adam
public import proofs.«01_k».proof.Proof.Pieces
public import Idealize.ShloMosaic.Lib.IdealHost

@[expose] public section

set_option maxRecDepth 16384
set_option maxHeartbeats 1600000

noncomputable section

namespace Cert.Proof.AdamQ

open Cert.Kernel19Ideal Cert.Kernel19Ideal.Gen Idealize.ShloMosaic Idealize.ShloMosaic.TcCoe Idealize.SL.Sem
open Cert.Proof.Adam Cert.Proof.Pieces

/-! ## The body's stores -/

section Payloads
variable (x : Vec Ideal S8x512x192 .bf16) (w mm v : Vec Ideal S1x512x192 .f32)

/-- The `k`-th part of the block. -/
abbrev part (k : Fin 8) (inb : ∀ a, (![k.val, 0, 0] : Fin 3 → ℕ) a + S1x512x192.size a ≤ S8x512x192.size a) : Vec Ideal S1x512x192 .bf16 :=
  View.ld (Val := Elt Ideal) (e' := .bf16) x (Rect.unit (s := S8x512x192) ![k.val, 0, 0] S1x512x192.size inb)

/-- The sum of the eight parts that the body reads one after another. -/
def total : FVec Ideal S512x192 .f32 :=
  k0_pay9 (part x 0 inb_S8x512x192_S1x512x192_0_0_0) (part x 1 inb_S8x512x192_S1x512x192_1_0_0) (part x 2 inb_S8x512x192_S1x512x192_2_0_0)
    (part x 3 inb_S8x512x192_S1x512x192_3_0_0) (part x 4 inb_S8x512x192_S1x512x192_4_0_0) (part x 5 inb_S8x512x192_S1x512x192_5_0_0)
    (part x 6 inb_S8x512x192_S1x512x192_6_0_0) (part x 7 inb_S8x512x192_S1x512x192_7_0_0)

theorem add_parts (y : Fin 8 → Vec Ideal S1x512x192 .bf16) (r : Fin 512) (s : Fin 192) :
    (k0_pay9 (F := Ideal) (y 0) (y 1) (y 2) (y 3) (y 4) (y 5) (y 6) (y 7) (ix2 r s) : EReal) = ∑ k : Fin 8, y k (ix3 0 r s) := by
  rw [Fin.sum_univ_eight]
  unfold k0_pay9
  pointwise

theorem total_eq (r : Fin 512) (s : Fin 192) : (total x (ix2 r s) : EReal) = bgrad x (ix3 0 r s) :=
  (add_parts ![part x 0 inb_S8x512x192_S1x512x192_0_0_0, part x 1 inb_S8x512x192_S1x512x192_1_0_0, part x 2 inb_S8x512x192_S1x512x192_2_0_0,
    part x 3 inb_S8x512x192_S1x512x192_3_0_0, part x 4 inb_S8x512x192_S1x512x192_4_0_0, part x 5 inb_S8x512x192_S1x512x192_5_0_0,
    part x 6 inb_S8x512x192_S1x512x192_6_0_0, part x 7 inb_S8x512x192_S1x512x192_7_0_0] r s).trans
    (Finset.sum_congr rfl fun k _ => by fin_cases k <;> exact ld_part x _ _ 0 r s)

theorem pay_g : k0_pay13 (F := Ideal) (total x) = bgrad x := by
  funext y
  obtain ⟨r, s, rfl⟩ := idx_row y
  rw [← total_eq x r s]
  generalize total x = t
  unfold k0_pay13
  pointwise

theorem pay_m : k0_pay1 (F := Ideal) (k0_pay11 (total x) (k0_pay10 mm)) = bnewM x mm := by
  funext y
  obtain ⟨r, s, rfl⟩ := idx_row y
  show _ = moment (mm (ix3 0 r s)) (bgrad x (ix3 0 r s))
  rw [← total_eq x r s]
  generalize total x = t
  unfold moment k0_pay1 k0_pay11 k0_pay10
  pointwise

theorem pay_v : k0_pay2 (F := Ideal) (k0_pay12 (total x) v) = bnewV x v := by
  funext y
  obtain ⟨r, s, rfl⟩ := idx_row y
  show _ = square (v (ix3 0 r s)) (bgrad x (ix3 0 r s))
  rw [← total_eq x r s]
  generalize total x = t
  unfold square k0_pay2 k0_pay12
  pointwise

theorem pay_d : k0_pay14 (F := Ideal) (total x) (k0_pay10 mm) v w = bstep x w mm v := by
  funext y
  obtain ⟨r, s, rfl⟩ := idx_row y
  show _ = delta (w (ix3 0 r s)) (mm (ix3 0 r s)) (v (ix3 0 r s)) (bgrad x (ix3 0 r s))
  rw [← total_eq x r s]
  generalize total x = t
  unfold delta moment square k0_pay14 k0_pay11 k0_pay12 k0_pay10
  pointwise

end Payloads

variable (m : (ℓ : Loc nD τ sig) → Buf (Elt Ideal) ℓ) (ρ : Dev nD → PrngReg) (c : Dev nD)

/-- The parts of the gradients, the weights and the two moments, as they are launched. -/
abbrev ap : FVec Ideal S4x8x512x192 .f32 := m ((c : Thread nD τ).loc main_arg0)
abbrev aw : FVec Ideal S4x512x192 .f32 := m ((c : Thread nD τ).loc main_arg1)
abbrev am : FVec Ideal S4x512x192 .f32 := m ((c : Thread nD τ).loc main_arg2)
abbrev av : FVec Ideal S4x512x192 .f32 := m ((c : Thread nD τ).loc main_arg3)

/-! ## What the host lines hand to the call: one layer's parts in each of four arrays -/

theorem entry0 (k : Fin 8) (r : Fin 512) (s : Fin 192) : ((V m c main_v8 : Vec Ideal S8x512x192 .bf16) (ix3 k r s) : EReal) = ap m c (ix4 0 k r s) := by
  rw [(by unfold_abbrev_sides; after_results; rfl : @Eq (Vec Ideal S8x512x192 .bf16) (V m c main_v8) (truncf (F := Ideal) .bf16 (shapeCast S8x512x192
    (extractStridedSlice S1x8x512x192 ![0, 0, 0, 0] (ap m c) slices_S4x8x512x192_S1x8x512x192_0_0_0_0) shapeCasts_S1x8x512x192_S8x512x192) bitsLt_bf16_f32))]
  pointwise

theorem entry1 (k : Fin 8) (r : Fin 512) (s : Fin 192) : ((V m c main_v9 : Vec Ideal S8x512x192 .bf16) (ix3 k r s) : EReal) = ap m c (ix4 1 k r s) := by
  rw [(by unfold_abbrev_sides; after_results; rfl : @Eq (Vec Ideal S8x512x192 .bf16) (V m c main_v9) (truncf (F := Ideal) .bf16 (shapeCast S8x512x192
    (extractStridedSlice S1x8x512x192 ![1, 0, 0, 0] (ap m c) slices_S4x8x512x192_S1x8x512x192_1_0_0_0) shapeCasts_S1x8x512x192_S8x512x192) bitsLt_bf16_f32))]
  pointwise

theorem entry2 (k : Fin 8) (r : Fin 512) (s : Fin 192) : ((V m c main_v10 : Vec Ideal S8x512x192 .bf16) (ix3 k r s) : EReal) = ap m c (ix4 2 k r s) := by
  rw [(by unfold_abbrev_sides; after_results; rfl : @Eq (Vec Ideal S8x512x192 .bf16) (V m c main_v10) (truncf (F := Ideal) .bf16 (shapeCast S8x512x192
    (extractStridedSlice S1x8x512x192 ![2, 0, 0, 0] (ap m c) slices_S4x8x512x192_S1x8x512x192_2_0_0_0) shapeCasts_S1x8x512x192_S8x512x192) bitsLt_bf16_f32))]
  pointwise

theorem entry3 (k : Fin 8) (r : Fin 512) (s : Fin 192) : ((V m c main_v11 : Vec Ideal S8x512x192 .bf16) (ix3 k r s) : EReal) = ap m c (ix4 3 k r s) := by
  rw [(by unfold_abbrev_sides; after_results; rfl : @Eq (Vec Ideal S8x512x192 .bf16) (V m c main_v11) (truncf (F := Ideal) .bf16 (shapeCast S8x512x192
    (extractStridedSlice S1x8x512x192 ![3, 0, 0, 0] (ap m c) slices_S4x8x512x192_S1x8x512x192_3_0_0_0) shapeCasts_S1x8x512x192_S8x512x192) bitsLt_bf16_f32))]
  pointwise

/-! ## Where a block's element lies in its array -/

/-- The layer that point `t` works on, and row `r` of its 512 rows. -/
def layer (t : Fin cfg0.N) : Fin 4 := ⟨t.val / 1 % 4, by omega⟩
def row (t : Fin cfg0.N) (r : Fin 512) : Fin 512 := ⟨t.val % 1 * 512 + r.val, by omega⟩

variable (t : Fin cfg0.N)

theorem emb0 (h : t.val / 1 % 4 = 0) (k : Fin 8) (r : Fin 512) (s : Fin 192) :
    ((cfg0.win 0).blk t).view.emb (ix3 k r s : S8x512x192.Idx) = (ix3 k (row t r) s : S8x512x192.Idx) := by
  obtain ⟨e0, e1, e2⟩ := (by decide +kernel : ∀ t : Fin grid0.N, t.val / 1 % 4 = 0 →
    win0_0.index t (0 : Fin 3) = 0 ∧ win0_0.index t (1 : Fin 3) = t.val % 1 ∧ win0_0.index t (2 : Fin 3) = 0) t h
  funext a; apply Fin.ext
  match a with
  | ⟨0, _⟩ => show win0_0.index t (0 : Fin 3) * 8 + 1 * k.val = k.val; omega
  | ⟨1, _⟩ => show win0_0.index t (1 : Fin 3) * 512 + 1 * r.val = t.val % 1 * 512 + r.val; omega
  | ⟨2, _⟩ => show win0_0.index t (2 : Fin 3) * 192 + 1 * s.val = s.val; omega

theorem emb1 (h : t.val / 1 % 4 = 1) (k : Fin 8) (r : Fin 512) (s : Fin 192) :
    ((cfg0.win 1).blk t).view.emb (ix3 k r s : S8x512x192.Idx) = (ix3 k (row t r) s : S8x512x192.Idx) := by
  obtain ⟨e0, e1, e2⟩ := (by decide +kernel : ∀ t : Fin grid0.N, t.val / 1 % 4 = 1 →
    win0_1.index t (0 : Fin 3) = 0 ∧ win0_1.index t (1 : Fin 3) = t.val % 1 ∧ win0_1.index t (2 : Fin 3) = 0) t h
  funext a; apply Fin.ext
  match a with
  | ⟨0, _⟩ => show win0_1.index t (0 : Fin 3) * 8 + 1 * k.val = k.val; omega
  | ⟨1, _⟩ => show win0_1.index t (1 : Fin 3) * 512 + 1 * r.val = t.val % 1 * 512 + r.val; omega
  | ⟨2, _⟩ => show win0_1.index t (2 : Fin 3) * 192 + 1 * s.val = s.val; omega

theorem emb2 (h : t.val / 1 % 4 = 2) (k : Fin 8) (r : Fin 512) (s : Fin 192) :
    ((cfg0.win 2).blk t).view.emb (ix3 k r s : S8x512x192.Idx) = (ix3 k (row t r) s : S8x512x192.Idx) := by
  obtain ⟨e0, e1, e2⟩ := (by decide +kernel : ∀ t : Fin grid0.N, t.val / 1 % 4 = 2 →
    win0_2.index t (0 : Fin 3) = 0 ∧ win0_2.index t (1 : Fin 3) = t.val % 1 ∧ win0_2.index t (2 : Fin 3) = 0) t h
  funext a; apply Fin.ext
  match a with
  | ⟨0, _⟩ => show win0_2.index t (0 : Fin 3) * 8 + 1 * k.val = k.val; omega
  | ⟨1, _⟩ => show win0_2.index t (1 : Fin 3) * 512 + 1 * r.val = t.val % 1 * 512 + r.val; omega
  | ⟨2, _⟩ => show win0_2.index t (2 : Fin 3) * 192 + 1 * s.val = s.val; omega

theorem emb3 (h : t.val / 1 % 4 = 3) (k : Fin 8) (r : Fin 512) (s : Fin 192) :
    ((cfg0.win 3).blk t).view.emb (ix3 k r s : S8x512x192.Idx) = (ix3 k (row t r) s : S8x512x192.Idx) := by
  obtain ⟨e0, e1, e2⟩ := (by decide +kernel : ∀ t : Fin grid0.N, t.val / 1 % 4 = 3 →
    win0_3.index t (0 : Fin 3) = 0 ∧ win0_3.index t (1 : Fin 3) = t.val % 1 ∧ win0_3.index t (2 : Fin 3) = 0) t h
  funext a; apply Fin.ext
  match a with
  | ⟨0, _⟩ => show win0_3.index t (0 : Fin 3) * 8 + 1 * k.val = k.val; omega
  | ⟨1, _⟩ => show win0_3.index t (1 : Fin 3) * 512 + 1 * r.val = t.val % 1 * 512 + r.val; omega
  | ⟨2, _⟩ => show win0_3.index t (2 : Fin 3) * 192 + 1 * s.val = s.val; omega

theorem emb4 (r : Fin 512) (s : Fin 192) :
    ((cfg0.win 4).blk t).view.emb (ix3 0 r s : S1x512x192.Idx) = (ix3 (layer t) (row t r) s : S4x512x192.Idx) := by
  obtain ⟨e0, e1, e2⟩ := (by decide +kernel : ∀ t : Fin grid0.N,
    win0_4.index t (0 : Fin 3) = t.val / 1 % 4 ∧ win0_4.index t (1 : Fin 3) = t.val % 1 ∧ win0_4.index t (2 : Fin 3) = 0) t
  funext a; apply Fin.ext
  match a with
  | ⟨0, _⟩ => show win0_4.index t (0 : Fin 3) * 1 + 1 * 0 = t.val / 1 % 4; omega
  | ⟨1, _⟩ => show win0_4.index t (1 : Fin 3) * 512 + 1 * r.val = t.val % 1 * 512 + r.val; omega
  | ⟨2, _⟩ => show win0_4.index t (2 : Fin 3) * 192 + 1 * s.val = s.val; omega

theorem emb7 (r : Fin 512) (s : Fin 192) : ((cfg0.win 7).blk t).view.emb (ix3 0 r s : S1x512x192.Idx) = (ix3 (layer t) (row t r) s : S4x512x192.Idx) := emb4 t r s
theorem emb8 (r : Fin 512) (s : Fin 192) : ((cfg0.win 8).blk t).view.emb (ix3 0 r s : S1x512x192.Idx) = (ix3 (layer t) (row t r) s : S4x512x192.Idx) := emb4 t r s
theorem emb9 (r : Fin 512) (s : Fin 192) : ((cfg0.win 9).blk t).view.emb (ix3 0 r s : S1x512x192.Idx) = (ix3 (layer t) (row t r) s : S4x512x192.Idx) := emb4 t r s
theorem emb10 (r : Fin 512) (s : Fin 192) : ((cfg0.win 10).blk t).view.emb (ix3 0 r s : S1x512x192.Idx) = (ix3 (layer t) (row t r) s : S4x512x192.Idx) := emb4 t r s

/-- The block of the parts that point `t` works on, and the block of an array of the weight's shape. -/
def parts : Vec Ideal S8x512x192 .bf16 := fun y => ap m c (ix4 (layer t) (y 0) (row t (y 1)) (y 2))
def own (a : Vec Ideal S4x512x192 .f32) : Vec Ideal S1x512x192 .f32 := fun y => a (ix3 (layer t) (row t (y 1)) (y 2))

theorem iblk0 (h : t.val / 1 % 4 = 0) : (iblk m c 0 t : Vec Ideal S8x512x192 .bf16) = parts m c t := by
  funext y
  obtain ⟨k, r, s, rfl⟩ := idx3_eq (a := 8) (b := 512) (c := 192) y
  refine ((congrArg (V m c main_v8 : Vec Ideal S8x512x192 .bf16) (emb0 t h k r s)).trans (entry0 m c k (row t r) s)).trans ?_
  exact congrArg (fun l => ap m c (ix4 l k (row t r) s)) (Fin.ext h.symm)

theorem iblk1 (h : t.val / 1 % 4 = 1) : (iblk m c 1 t : Vec Ideal S8x512x192 .bf16) = parts m c t := by
  funext y
  obtain ⟨k, r, s, rfl⟩ := idx3_eq (a := 8) (b := 512) (c := 192) y
  refine ((congrArg (V m c main_v9 : Vec Ideal S8x512x192 .bf16) (emb1 t h k r s)).trans (entry1 m c k (row t r) s)).trans ?_
  exact congrArg (fun l => ap m c (ix4 l k (row t r) s)) (Fin.ext h.symm)

theorem iblk2 (h : t.val / 1 % 4 = 2) : (iblk m c 2 t : Vec Ideal S8x512x192 .bf16) = parts m c t := by
  funext y
  obtain ⟨k, r, s, rfl⟩ := idx3_eq (a := 8) (b := 512) (c := 192) y
  refine ((congrArg (V m c main_v10 : Vec Ideal S8x512x192 .bf16) (emb2 t h k r s)).trans (entry2 m c k (row t r) s)).trans ?_
  exact congrArg (fun l => ap m c (ix4 l k (row t r) s)) (Fin.ext h.symm)

theorem iblk3 (h : t.val / 1 % 4 = 3) : (iblk m c 3 t : Vec Ideal S8x512x192 .bf16) = parts m c t := by
  funext y
  obtain ⟨k, r, s, rfl⟩ := idx3_eq (a := 8) (b := 512) (c := 192) y
  refine ((congrArg (V m c main_v11 : Vec Ideal S8x512x192 .bf16) (emb3 t h k r s)).trans (entry3 m c k (row t r) s)).trans ?_
  exact congrArg (fun l => ap m c (ix4 l k (row t r) s)) (Fin.ext h.symm)

theorem iblk4 : (iblk m c 4 t : Vec Ideal S1x512x192 .f32) = own t (aw m c) := by
  funext y
  obtain ⟨r, s, rfl⟩ := idx_row y
  refine (congrFun (by unfold_abbrev_sides; rfl : (V m c main_arg1 : Vec Ideal S4x512x192 .f32) = aw m c) _).trans ?_
  exact congrArg (aw m c) (emb4 t r s)

theorem iblk5 : (iblk m c 5 t : Vec Ideal S1x512x192 .f32) = own t (am m c) := by
  funext y
  obtain ⟨r, s, rfl⟩ := idx_row y
  refine (congrFun (by unfold_abbrev_sides; rfl : (V m c main_arg2 : Vec Ideal S4x512x192 .f32) = am m c) _).trans ?_
  exact congrArg (am m c) (emb4 t r s)

theorem iblk6 : (iblk m c 6 t : Vec Ideal S1x512x192 .f32) = own t (av m c) := by
  funext y
  obtain ⟨r, s, rfl⟩ := idx_row y
  refine (congrFun (by unfold_abbrev_sides; rfl : (V m c main_arg3 : Vec Ideal S4x512x192 .f32) = av m c) _).trans ?_
  exact congrArg (av m c) (emb4 t r s)

/-! ## The results -/

/-- What a point stores, whatever its layer. -/
theorem stored :
    (dats m 0 c).flushed 7 t = (cfg0.win 7).cut (grid0.coords t) (bgrad (parts m c t)) ∧
    (dats m 0 c).flushed 8 t = (cfg0.win 8).cut (grid0.coords t) (bstep (parts m c t) (own t (aw m c)) (own t (am m c)) (own t (av m c))) ∧
    (dats m 0 c).flushed 9 t = (cfg0.win 9).cut (grid0.coords t) (bnewM (parts m c t) (own t (am m c))) ∧
    (dats m 0 c).flushed 10 t = (cfg0.win 10).cut (grid0.coords t) (bnewV (parts m c t) (own t (av m c))) := by
  have ht : t.val < 4 := t.isLt
  rcases (by omega : t.val / 1 % 4 = 0 ∨ t.val / 1 % 4 = 1 ∨ t.val / 1 % 4 = 2 ∨ t.val / 1 % 4 = 3) with h | h | h | h
  · rw [Value.flushed7_A m c t, Value.flushed8_A m c t, Value.flushed9_A m c t, Value.flushed10_A m c t, iblk0 m c t h, iblk4, iblk5, iblk6]
    all_goals try omega
    unfold out0_A_7 out0_A_8 out0_A_9 out0_A_10
    rw [View.read_writes_eq_canon, View.read_writes_eq_canon, View.read_writes_eq_canon, View.read_writes_eq_canon]
    rotate_left
    · exact fun y => cover0_A_10 ..
    · exact fun y => cover0_A_9 ..
    · exact fun y => cover0_A_8 ..
    · exact fun y => cover0_A_7 ..
    unfold kernelRun0_A
    dsimp only
    sl_unfold_words
    rw [View.canon_unit_zero zero3, View.canon_unit_zero zero3, View.canon_unit_zero zero3, View.canon_unit_zero zero3]
    simp only [View.readAt_eq_ld, (hs0_0 t).read_unread, (hs0_4 t).read_unread, (hs0_5 t).read_unread, (hs0_6 t).read_unread, View.ld_unit_zero (S := S1x512x192) zero3]
    exact ⟨congrArg _ (pay_g _), congrArg _ (pay_d _ _ _ _), congrArg _ (pay_m _ _), congrArg _ (pay_v _ _)⟩
  · rw [Value.flushed7_B m c t, Value.flushed8_B m c t, Value.flushed9_B m c t, Value.flushed10_B m c t, iblk1 m c t h, iblk4, iblk5, iblk6]
    all_goals try omega
    unfold out0_B_7 out0_B_8 out0_B_9 out0_B_10
    rw [View.read_writes_eq_canon, View.read_writes_eq_canon, View.read_writes_eq_canon, View.read_writes_eq_canon]
    rotate_left
    · exact fun y => cover0_B_10 ..
    · exact fun y => cover0_B_9 ..
    · exact fun y => cover0_B_8 ..
    · exact fun y => cover0_B_7 ..
    unfold kernelRun0_B
    dsimp only
    sl_unfold_words
    rw [View.canon_unit_zero zero3, View.canon_unit_zero zero3, View.canon_unit_zero zero3, View.canon_unit_zero zero3]
    simp only [View.readAt_eq_ld, (hs0_1 t).read_unread, (hs0_4 t).read_unread, (hs0_5 t).read_unread, (hs0_6 t).read_unread, View.ld_unit_zero (S := S1x512x192) zero3]
    exact ⟨congrArg _ (pay_g _), congrArg _ (pay_d _ _ _ _), congrArg _ (pay_m _ _), congrArg _ (pay_v _ _)⟩
  · rw [Value.flushed7_C m c t, Value.flushed8_C m c t, Value.flushed9_C m c t, Value.flushed10_C m c t, iblk2 m c t h, iblk4, iblk5, iblk6]
    all_goals try omega
    unfold out0_C_7 out0_C_8 out0_C_9 out0_C_10
    rw [View.read_writes_eq_canon, View.read_writes_eq_canon, View.read_writes_eq_canon, View.read_writes_eq_canon]
    rotate_left
    · exact fun y => cover0_C_10 ..
    · exact fun y => cover0_C_9 ..
    · exact fun y => cover0_C_8 ..
    · exact fun y => cover0_C_7 ..
    unfold kernelRun0_C
    dsimp only
    sl_unfold_words
    rw [View.canon_unit_zero zero3, View.canon_unit_zero zero3, View.canon_unit_zero zero3, View.canon_unit_zero zero3]
    simp only [View.readAt_eq_ld, (hs0_2 t).read_unread, (hs0_4 t).read_unread, (hs0_5 t).read_unread, (hs0_6 t).read_unread, View.ld_unit_zero (S := S1x512x192) zero3]
    exact ⟨congrArg _ (pay_g _), congrArg _ (pay_d _ _ _ _), congrArg _ (pay_m _ _), congrArg _ (pay_v _ _)⟩
  · rw [Value.flushed7_D m c t, Value.flushed8_D m c t, Value.flushed9_D m c t, Value.flushed10_D m c t, iblk3 m c t h, iblk4, iblk5, iblk6]
    all_goals try omega
    unfold out0_D_7 out0_D_8 out0_D_9 out0_D_10
    rw [View.read_writes_eq_canon, View.read_writes_eq_canon, View.read_writes_eq_canon, View.read_writes_eq_canon]
    rotate_left
    · exact fun y => cover0_D_10 ..
    · exact fun y => cover0_D_9 ..
    · exact fun y => cover0_D_8 ..
    · exact fun y => cover0_D_7 ..
    unfold kernelRun0_D
    dsimp only
    sl_unfold_words
    rw [View.canon_unit_zero zero3, View.canon_unit_zero zero3, View.canon_unit_zero zero3, View.canon_unit_zero zero3]
    simp only [View.readAt_eq_ld, (hs0_3 t).read_unread, (hs0_4 t).read_unread, (hs0_5 t).read_unread, (hs0_6 t).read_unread, View.ld_unit_zero (S := S1x512x192) zero3]
    exact ⟨congrArg _ (pay_g _), congrArg _ (pay_d _ _ _ _), congrArg _ (pay_m _ _), congrArg _ (pay_v _ _)⟩

/-- Each index of a result is in some point's block. -/
theorem at_point (i : S4x512x192.Idx) : ∃ (t : Fin cfg0.N) (r : Fin 512) (s : Fin 192), i = ix3 (layer t) (row t r) s := by
  obtain ⟨l, p, k, rfl⟩ := idx3_eq (a := 4) (b := 512) (c := 192) i
  refine ⟨⟨l.val * 1 + p.val / 512, by show _ < 4; omega⟩, ⟨p.val % 512, by omega⟩, k, congrArg₂ (fun a b => ix3 a b k) (Fin.ext ?_) (Fin.ext ?_)⟩
  · show l.val = (l.val * 1 + p.val / 512) / 1 % 4; omega
  · show p.val = (l.val * 1 + p.val / 512) % 1 * 512 + p.val % 512; omega

theorem result7 : (dats m 0 c).arrAt 7 cfg0.N = grad (ap m c) :=
  (dats m 0 c).arrAt_eq_of_cover 7 _ (fun t _ => (stored m c t).1.trans <| funext fun y => by
    obtain ⟨r, s, rfl⟩ := idx_row (n := 512) (C := 192) y
    exact (congrArg (grad (ap m c)) (emb7 t r s)).symm) fun i => by
    obtain ⟨t, r, s, rfl⟩ := at_point i
    exact ⟨t, flush0_7 t, emb7 t r s ▸ View.emb_mem_set _ _⟩

theorem result8 : (dats m 0 c).arrAt 8 cfg0.N = step (ap m c) (aw m c) (am m c) (av m c) :=
  (dats m 0 c).arrAt_eq_of_cover 8 _ (fun t _ => (stored m c t).2.1.trans <| funext fun y => by
    obtain ⟨r, s, rfl⟩ := idx_row (n := 512) (C := 192) y
    exact (congrArg (step (ap m c) (aw m c) (am m c) (av m c)) (emb8 t r s)).symm) fun i => by
    obtain ⟨t, r, s, rfl⟩ := at_point i
    exact ⟨t, flush0_8 t, emb8 t r s ▸ View.emb_mem_set _ _⟩

theorem result9 : (dats m 0 c).arrAt 9 cfg0.N = newM (ap m c) (am m c) :=
  (dats m 0 c).arrAt_eq_of_cover 9 _ (fun t _ => (stored m c t).2.2.1.trans <| funext fun y => by
    obtain ⟨r, s, rfl⟩ := idx_row (n := 512) (C := 192) y
    exact (congrArg (newM (ap m c) (am m c)) (emb9 t r s)).symm) fun i => by
    obtain ⟨t, r, s, rfl⟩ := at_point i
    exact ⟨t, flush0_9 t, emb9 t r s ▸ View.emb_mem_set _ _⟩

theorem result10 : (dats m 0 c).arrAt 10 cfg0.N = newV (ap m c) (av m c) :=
  (dats m 0 c).arrAt_eq_of_cover 10 _ (fun t _ => (stored m c t).2.2.2.trans <| funext fun y => by
    obtain ⟨r, s, rfl⟩ := idx_row (n := 512) (C := 192) y
    exact (congrArg (newV (ap m c) (av m c)) (emb10 t r s)).symm) fun i => by
    obtain ⟨t, r, s, rfl⟩ := at_point i
    exact ⟨t, flush0_10 t, emb10 t r s ▸ View.emb_mem_set _ _⟩

/-- The run with the four results at their functions of the arguments. -/
theorem run : θ_run defs (onTc (τ := τ) (main (F := Ideal))) ⟨m, fun _ => 0, ρ⟩ fun r => ∀ c : Dev nD,
      r.2.mem ((c : Thread nD τ).loc main_v12_0) = grad (ap m c)
      ∧ r.2.mem ((c : Thread nD τ).loc main_v12_1) = step (ap m c) (aw m c) (am m c) (av m c)
      ∧ r.2.mem ((c : Thread nD τ).loc main_v12_2) = newM (ap m c) (am m c)
      ∧ r.2.mem ((c : Thread nD τ).loc main_v12_3) = newV (ap m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result7 m c), (h c).2.1.trans (result8 m c), (h c).2.2.1.trans (result9 m c),
      (h c).2.2.2.1.trans (result10 m c), (h c).2.2.2.2⟩)
    (Value.run_blocks m ρ)

end Cert.Proof.AdamQ

end
-- ==== Proof.AdamQRef.lean ====
/- The optimiser's step on a weight of 512 by 192 elements: the reference's results index by index, and their equality with
   the kernel's. -/
module

public import proofs.«01_k».proof.Proof.AdamQ
public import proofs.«01_k».proof.Proof.Gen.Reference19Ideal.Run
public import proofs.«01_k».proof.Proof.Gen.Reference19Ideal.Read
public import proofs.«01_k».proof.Defs

@[expose] public section

set_option maxRecDepth 16384

noncomputable section

namespace Cert.Proof.AdamQ

open Idealize.ShloMosaic Idealize.ShloMosaic.TcCoe Idealize.SL.Sem
open Cert.Reference19Ideal Cert.Reference19Ideal.Gen Cert.Reference19Ideal.Value
open Cert.Proof.Adam Cert.Proof.Pieces

variable (x0 : Vec Ideal S4x8x512x192 .f32) (x1 x2 x3 : Vec Ideal S4x512x192 .f32)

/-- The reference's gradient is the kernel's. -/
theorem ref_grad : Read.val_main_v0 (F := Ideal) x0 = grad x0 := by
  funext i
  obtain ⟨l, r, s, rfl⟩ := idx3_eq (a := 4) (b := 512) (c := 192) i
  rw [Read.val_main_v0_apply]
  show Ideal.ofBits .f32 0x00000000#32 + _ = (∑ k : Fin 8, x0 (ix4 l k r s) : EReal)
  rw [Ideal.ofBits_zero .f32, zero_add]
  refine Finset.sum_congr rfl fun k _ => congrArg x0 ?_
  funext a; match a with | ⟨0, _⟩ => rfl | ⟨1, _⟩ => rfl | ⟨2, _⟩ => rfl | ⟨3, _⟩ => rfl

theorem ref_moment : Read.val_main_v5 (F := Ideal) x0 x2 = newM x0 x2 := by
  funext i
  unfold newM
  rw [← ref_grad]
  unfold moment Read.val_main_v5 Read.val_main_v2 Read.val_main_v4 Read.val_main_v1 Read.val_main_v3 Read.val_main_cst_0 Read.val_main_cst_1
  generalize Read.val_main_v0 (F := Ideal) x0 = g
  pointwise

theorem ref_square : Read.val_main_v11 (F := Ideal) x0 x3 = newV x0 x3 := by
  funext i
  unfold newV
  rw [← ref_grad]
  unfold square Read.val_main_v11 Read.val_main_v7 Read.val_main_v10 Read.val_main_v6 Read.val_main_v8 Read.val_main_v9 Read.val_main_cst_2 Read.val_main_cst_3
  generalize Read.val_main_v0 (F := Ideal) x0 = g
  pointwise

theorem ref_step : Read.val_main_v24 (F := Ideal) x0 x1 x2 x3 = step x0 x1 x2 x3 := by
  funext i
  show _ = Ideal.ofBits .f32 0xBA83126F#32
    * (Ideal.div (Ideal.div (newM x0 x2 i) (Ideal.ofBits .f32 0x3F26BD02#32))
        (Ideal.sqrt (Ideal.div (newV x0 x3 i) (Ideal.ofBits .f32 0x3C231ACC#32)) + Ideal.ofBits .f32 0x322BCC77#32)
      + Ideal.ofBits .f32 0x3C23D70A#32 * x1 i)
  rw [← ref_moment, ← ref_square]
  unfold Read.val_main_v24 Read.val_main_v22 Read.val_main_v19 Read.val_main_v21 Read.val_main_v13 Read.val_main_v18 Read.val_main_v16
    Read.val_main_v15 Read.val_main_v23 Read.val_main_v20 Read.val_main_v17 Read.val_main_v14 Read.val_main_v12
    Read.val_main_cst_4 Read.val_main_cst_5 Read.val_main_cst_6 Read.val_main_cst_7 Read.val_main_cst_8
  generalize Read.val_main_v5 (F := Ideal) x0 x2 = a
  generalize Read.val_main_v11 (F := Ideal) x0 x3 = b
  pointwise

/-- The optimiser's step by the kernel and by the reference: equal results on equal arguments, the arguments kept. -/
theorem algebraic : Cert.algebraic_Kernel19Ideal_Reference19Ideal := by
  intro m g m' g' _ hargs
  refine ⟨fun c => grad (ap m c), fun c => step (ap m c) (aw m c) (am m c) (av m c), fun c => newM (ap m c) (am m c), fun c => newV (ap m c) (av m c), run m g, ?_⟩
  refine (θ_run _ _ _).mono (fun r h c => ?_) (Cert.Reference19Ideal.Value.run m' g')
  obtain ⟨e1, e2, e3, e4, ek⟩ := h c
  obtain ⟨a0, a1, a2, a3⟩ := hargs c
  refine ⟨e1.trans ?_, e2.trans ?_, e3.trans ?_, e4.trans ?_, ek⟩
  · rw [a0, Read.val_main_v0_eq]
    exact ref_grad _
  · rw [a0, a1, a2, a3, Read.val_main_v24_eq]
    exact ref_step _ _ _ _
  · rw [a0, a2, Read.val_main_v5_eq]
    exact ref_moment _ _
  · rw [a0, a3, Read.val_main_v11_eq]
    exact ref_square _ _

end Cert.Proof.AdamQ

end
-- ==== Proof.AdamKV.lean ====
/- The optimiser's step on a weight of 512 by 256 elements on each device, as the kernel `adamw` leaves it (at `Ideal`):
   a block of 512 rows of one layer at a point, the layer's parts chosen among the four arrays by the point's layer. -/
module

public import proofs.«01_k».proof.Proof.Gen.Kernel20Ideal.Value
public import proofs.«01_k».proof.Proof.Adam
public import proofs.«01_k».proof.Proof.Pieces
public import Idealize.ShloMosaic.Lib.IdealHost

@[expose] public section

set_option maxRecDepth 16384
set_option maxHeartbeats 1600000

noncomputable section

namespace Cert.Proof.AdamKV

open Cert.Kernel20Ideal Cert.Kernel20Ideal.Gen Idealize.ShloMosaic Idealize.ShloMosaic.TcCoe Idealize.SL.Sem
open Cert.Proof.Adam Cert.Proof.Pieces

/-! ## The body's stores -/

section Payloads
variable (x : Vec Ideal S8x512x256 .bf16) (w mm v : Vec Ideal S1x512x256 .f32)

/-- The `k`-th part of the block. -/
abbrev part (k : Fin 8) (inb : ∀ a, (![k.val, 0, 0] : Fin 3 → ℕ) a + S1x512x256.size a ≤ S8x512x256.size a) : Vec Ideal S1x512x256 .bf16 :=
  View.ld (Val := Elt Ideal) (e' := .bf16) x (Rect.unit (s := S8x512x256) ![k.val, 0, 0] S1x512x256.size inb)

/-- The sum of the eight parts that the body reads one after another. -/
def total : FVec Ideal S512x256 .f32 :=
  k0_pay9 (part x 0 inb_S8x512x256_S1x512x256_0_0_0) (part x 1 inb_S8x512x256_S1x512x256_1_0_0) (part x 2 inb_S8x512x256_S1x512x256_2_0_0)
    (part x 3 inb_S8x512x256_S1x512x256_3_0_0) (part x 4 inb_S8x512x256_S1x512x256_4_0_0) (part x 5 inb_S8x512x256_S1x512x256_5_0_0)
    (part x 6 inb_S8x512x256_S1x512x256_6_0_0) (part x 7 inb_S8x512x256_S1x512x256_7_0_0)

theorem add_parts (y : Fin 8 → Vec Ideal S1x512x256 .bf16) (r : Fin 512) (s : Fin 256) :
    (k0_pay9 (F := Ideal) (y 0) (y 1) (y 2) (y 3) (y 4) (y 5) (y 6) (y 7) (ix2 r s) : EReal) = ∑ k : Fin 8, y k (ix3 0 r s) := by
  rw [Fin.sum_univ_eight]
  unfold k0_pay9
  pointwise

theorem total_eq (r : Fin 512) (s : Fin 256) : (total x (ix2 r s) : EReal) = bgrad x (ix3 0 r s) :=
  (add_parts ![part x 0 inb_S8x512x256_S1x512x256_0_0_0, part x 1 inb_S8x512x256_S1x512x256_1_0_0, part x 2 inb_S8x512x256_S1x512x256_2_0_0,
    part x 3 inb_S8x512x256_S1x512x256_3_0_0, part x 4 inb_S8x512x256_S1x512x256_4_0_0, part x 5 inb_S8x512x256_S1x512x256_5_0_0,
    part x 6 inb_S8x512x256_S1x512x256_6_0_0, part x 7 inb_S8x512x256_S1x512x256_7_0_0] r s).trans
    (Finset.sum_congr rfl fun k _ => by fin_cases k <;> exact ld_part x _ _ 0 r s)

theorem pay_g : k0_pay13 (F := Ideal) (total x) = bgrad x := by
  funext y
  obtain ⟨r, s, rfl⟩ := idx_row y
  rw [← total_eq x r s]
  generalize total x = t
  unfold k0_pay13
  pointwise

theorem pay_m : k0_pay1 (F := Ideal) (k0_pay11 (total x) (k0_pay10 mm)) = bnewM x mm := by
  funext y
  obtain ⟨r, s, rfl⟩ := idx_row y
  show _ = moment (mm (ix3 0 r s)) (bgrad x (ix3 0 r s))
  rw [← total_eq x r s]
  generalize total x = t
  unfold moment k0_pay1 k0_pay11 k0_pay10
  pointwise

theorem pay_v : k0_pay2 (F := Ideal) (k0_pay12 (total x) v) = bnewV x v := by
  funext y
  obtain ⟨r, s, rfl⟩ := idx_row y
  show _ = square (v (ix3 0 r s)) (bgrad x (ix3 0 r s))
  rw [← total_eq x r s]
  generalize total x = t
  unfold square k0_pay2 k0_pay12
  pointwise

theorem pay_d : k0_pay14 (F := Ideal) (total x) (k0_pay10 mm) v w = bstep x w mm v := by
  funext y
  obtain ⟨r, s, rfl⟩ := idx_row y
  show _ = delta (w (ix3 0 r s)) (mm (ix3 0 r s)) (v (ix3 0 r s)) (bgrad x (ix3 0 r s))
  rw [← total_eq x r s]
  generalize total x = t
  unfold delta moment square k0_pay14 k0_pay11 k0_pay12 k0_pay10
  pointwise

end Payloads

variable (m : (ℓ : Loc nD τ sig) → Buf (Elt Ideal) ℓ) (ρ : Dev nD → PrngReg) (c : Dev nD)

/-- The parts of the gradients, the weights and the two moments, as they are launched. -/
abbrev ap : FVec Ideal S4x8x512x256 .f32 := m ((c : Thread nD τ).loc main_arg0)
abbrev aw : FVec Ideal S4x512x256 .f32 := m ((c : Thread nD τ).loc main_arg1)
abbrev am : FVec Ideal S4x512x256 .f32 := m ((c : Thread nD τ).loc main_arg2)
abbrev av : FVec Ideal S4x512x256 .f32 := m ((c : Thread nD τ).loc main_arg3)

/-! ## What the host lines hand to the call: one layer's parts in each of four arrays -/

theorem entry0 (k : Fin 8) (r : Fin 512) (s : Fin 256) : ((V m c main_v8 : Vec Ideal S8x512x256 .bf16) (ix3 k r s) : EReal) = ap m c (ix4 0 k r s) := by
  rw [(by unfold_abbrev_sides; after_results; rfl : @Eq (Vec Ideal S8x512x256 .bf16) (V m c main_v8) (truncf (F := Ideal) .bf16 (shapeCast S8x512x256
    (extractStridedSlice S1x8x512x256 ![0, 0, 0, 0] (ap m c) slices_S4x8x512x256_S1x8x512x256_0_0_0_0) shapeCasts_S1x8x512x256_S8x512x256) bitsLt_bf16_f32))]
  pointwise

theorem entry1 (k : Fin 8) (r : Fin 512) (s : Fin 256) : ((V m c main_v9 : Vec Ideal S8x512x256 .bf16) (ix3 k r s) : EReal) = ap m c (ix4 1 k r s) := by
  rw [(by unfold_abbrev_sides; after_results; rfl : @Eq (Vec Ideal S8x512x256 .bf16) (V m c main_v9) (truncf (F := Ideal) .bf16 (shapeCast S8x512x256
    (extractStridedSlice S1x8x512x256 ![1, 0, 0, 0] (ap m c) slices_S4x8x512x256_S1x8x512x256_1_0_0_0) shapeCasts_S1x8x512x256_S8x512x256) bitsLt_bf16_f32))]
  pointwise

theorem entry2 (k : Fin 8) (r : Fin 512) (s : Fin 256) : ((V m c main_v10 : Vec Ideal S8x512x256 .bf16) (ix3 k r s) : EReal) = ap m c (ix4 2 k r s) := by
  rw [(by unfold_abbrev_sides; after_results; rfl : @Eq (Vec Ideal S8x512x256 .bf16) (V m c main_v10) (truncf (F := Ideal) .bf16 (shapeCast S8x512x256
    (extractStridedSlice S1x8x512x256 ![2, 0, 0, 0] (ap m c) slices_S4x8x512x256_S1x8x512x256_2_0_0_0) shapeCasts_S1x8x512x256_S8x512x256) bitsLt_bf16_f32))]
  pointwise

theorem entry3 (k : Fin 8) (r : Fin 512) (s : Fin 256) : ((V m c main_v11 : Vec Ideal S8x512x256 .bf16) (ix3 k r s) : EReal) = ap m c (ix4 3 k r s) := by
  rw [(by unfold_abbrev_sides; after_results; rfl : @Eq (Vec Ideal S8x512x256 .bf16) (V m c main_v11) (truncf (F := Ideal) .bf16 (shapeCast S8x512x256
    (extractStridedSlice S1x8x512x256 ![3, 0, 0, 0] (ap m c) slices_S4x8x512x256_S1x8x512x256_3_0_0_0) shapeCasts_S1x8x512x256_S8x512x256) bitsLt_bf16_f32))]
  pointwise

/-! ## Where a block's element lies in its array -/

/-- The layer that point `t` works on, and row `r` of its 512 rows. -/
def layer (t : Fin cfg0.N) : Fin 4 := ⟨t.val / 1 % 4, by omega⟩
def row (t : Fin cfg0.N) (r : Fin 512) : Fin 512 := ⟨t.val % 1 * 512 + r.val, by omega⟩

variable (t : Fin cfg0.N)

theorem emb0 (h : t.val / 1 % 4 = 0) (k : Fin 8) (r : Fin 512) (s : Fin 256) :
    ((cfg0.win 0).blk t).view.emb (ix3 k r s : S8x512x256.Idx) = (ix3 k (row t r) s : S8x512x256.Idx) := by
  obtain ⟨e0, e1, e2⟩ := (by decide +kernel : ∀ t : Fin grid0.N, t.val / 1 % 4 = 0 →
    win0_0.index t (0 : Fin 3) = 0 ∧ win0_0.index t (1 : Fin 3) = t.val % 1 ∧ win0_0.index t (2 : Fin 3) = 0) t h
  funext a; apply Fin.ext
  match a with
  | ⟨0, _⟩ => show win0_0.index t (0 : Fin 3) * 8 + 1 * k.val = k.val; omega
  | ⟨1, _⟩ => show win0_0.index t (1 : Fin 3) * 512 + 1 * r.val = t.val % 1 * 512 + r.val; omega
  | ⟨2, _⟩ => show win0_0.index t (2 : Fin 3) * 256 + 1 * s.val = s.val; omega

theorem emb1 (h : t.val / 1 % 4 = 1) (k : Fin 8) (r : Fin 512) (s : Fin 256) :
    ((cfg0.win 1).blk t).view.emb (ix3 k r s : S8x512x256.Idx) = (ix3 k (row t r) s : S8x512x256.Idx) := by
  obtain ⟨e0, e1, e2⟩ := (by decide +kernel : ∀ t : Fin grid0.N, t.val / 1 % 4 = 1 →
    win0_1.index t (0 : Fin 3) = 0 ∧ win0_1.index t (1 : Fin 3) = t.val % 1 ∧ win0_1.index t (2 : Fin 3) = 0) t h
  funext a; apply Fin.ext
  match a with
  | ⟨0, _⟩ => show win0_1.index t (0 : Fin 3) * 8 + 1 * k.val = k.val; omega
  | ⟨1, _⟩ => show win0_1.index t (1 : Fin 3) * 512 + 1 * r.val = t.val % 1 * 512 + r.val; omega
  | ⟨2, _⟩ => show win0_1.index t (2 : Fin 3) * 256 + 1 * s.val = s.val; omega

theorem emb2 (h : t.val / 1 % 4 = 2) (k : Fin 8) (r : Fin 512) (s : Fin 256) :
    ((cfg0.win 2).blk t).view.emb (ix3 k r s : S8x512x256.Idx) = (ix3 k (row t r) s : S8x512x256.Idx) := by
  obtain ⟨e0, e1, e2⟩ := (by decide +kernel : ∀ t : Fin grid0.N, t.val / 1 % 4 = 2 →
    win0_2.index t (0 : Fin 3) = 0 ∧ win0_2.index t (1 : Fin 3) = t.val % 1 ∧ win0_2.index t (2 : Fin 3) = 0) t h
  funext a; apply Fin.ext
  match a with
  | ⟨0, _⟩ => show win0_2.index t (0 : Fin 3) * 8 + 1 * k.val = k.val; omega
  | ⟨1, _⟩ => show win0_2.index t (1 : Fin 3) * 512 + 1 * r.val = t.val % 1 * 512 + r.val; omega
  | ⟨2, _⟩ => show win0_2.index t (2 : Fin 3) * 256 + 1 * s.val = s.val; omega

theorem emb3 (h : t.val / 1 % 4 = 3) (k : Fin 8) (r : Fin 512) (s : Fin 256) :
    ((cfg0.win 3).blk t).view.emb (ix3 k r s : S8x512x256.Idx) = (ix3 k (row t r) s : S8x512x256.Idx) := by
  obtain ⟨e0, e1, e2⟩ := (by decide +kernel : ∀ t : Fin grid0.N, t.val / 1 % 4 = 3 →
    win0_3.index t (0 : Fin 3) = 0 ∧ win0_3.index t (1 : Fin 3) = t.val % 1 ∧ win0_3.index t (2 : Fin 3) = 0) t h
  funext a; apply Fin.ext
  match a with
  | ⟨0, _⟩ => show win0_3.index t (0 : Fin 3) * 8 + 1 * k.val = k.val; omega
  | ⟨1, _⟩ => show win0_3.index t (1 : Fin 3) * 512 + 1 * r.val = t.val % 1 * 512 + r.val; omega
  | ⟨2, _⟩ => show win0_3.index t (2 : Fin 3) * 256 + 1 * s.val = s.val; omega

theorem emb4 (r : Fin 512) (s : Fin 256) :
    ((cfg0.win 4).blk t).view.emb (ix3 0 r s : S1x512x256.Idx) = (ix3 (layer t) (row t r) s : S4x512x256.Idx) := by
  obtain ⟨e0, e1, e2⟩ := (by decide +kernel : ∀ t : Fin grid0.N,
    win0_4.index t (0 : Fin 3) = t.val / 1 % 4 ∧ win0_4.index t (1 : Fin 3) = t.val % 1 ∧ win0_4.index t (2 : Fin 3) = 0) t
  funext a; apply Fin.ext
  match a with
  | ⟨0, _⟩ => show win0_4.index t (0 : Fin 3) * 1 + 1 * 0 = t.val / 1 % 4; omega
  | ⟨1, _⟩ => show win0_4.index t (1 : Fin 3) * 512 + 1 * r.val = t.val % 1 * 512 + r.val; omega
  | ⟨2, _⟩ => show win0_4.index t (2 : Fin 3) * 256 + 1 * s.val = s.val; omega

theorem emb7 (r : Fin 512) (s : Fin 256) : ((cfg0.win 7).blk t).view.emb (ix3 0 r s : S1x512x256.Idx) = (ix3 (layer t) (row t r) s : S4x512x256.Idx) := emb4 t r s
theorem emb8 (r : Fin 512) (s : Fin 256) : ((cfg0.win 8).blk t).view.emb (ix3 0 r s : S1x512x256.Idx) = (ix3 (layer t) (row t r) s : S4x512x256.Idx) := emb4 t r s
theorem emb9 (r : Fin 512) (s : Fin 256) : ((cfg0.win 9).blk t).view.emb (ix3 0 r s : S1x512x256.Idx) = (ix3 (layer t) (row t r) s : S4x512x256.Idx) := emb4 t r s
theorem emb10 (r : Fin 512) (s : Fin 256) : ((cfg0.win 10).blk t).view.emb (ix3 0 r s : S1x512x256.Idx) = (ix3 (layer t) (row t r) s : S4x512x256.Idx) := emb4 t r s

/-- The block of the parts that point `t` works on, and the block of an array of the weight's shape. -/
def parts : Vec Ideal S8x512x256 .bf16 := fun y => ap m c (ix4 (layer t) (y 0) (row t (y 1)) (y 2))
def own (a : Vec Ideal S4x512x256 .f32) : Vec Ideal S1x512x256 .f32 := fun y => a (ix3 (layer t) (row t (y 1)) (y 2))

theorem iblk0 (h : t.val / 1 % 4 = 0) : (iblk m c 0 t : Vec Ideal S8x512x256 .bf16) = parts m c t := by
  funext y
  obtain ⟨k, r, s, rfl⟩ := idx3_eq (a := 8) (b := 512) (c := 256) y
  refine ((congrArg (V m c main_v8 : Vec Ideal S8x512x256 .bf16) (emb0 t h k r s)).trans (entry0 m c k (row t r) s)).trans ?_
  exact congrArg (fun l => ap m c (ix4 l k (row t r) s)) (Fin.ext h.symm)

theorem iblk1 (h : t.val / 1 % 4 = 1) : (iblk m c 1 t : Vec Ideal S8x512x256 .bf16) = parts m c t := by
  funext y
  obtain ⟨k, r, s, rfl⟩ := idx3_eq (a := 8) (b := 512) (c := 256) y
  refine ((congrArg (V m c main_v9 : Vec Ideal S8x512x256 .bf16) (emb1 t h k r s)).trans (entry1 m c k (row t r) s)).trans ?_
  exact congrArg (fun l => ap m c (ix4 l k (row t r) s)) (Fin.ext h.symm)

theorem iblk2 (h : t.val / 1 % 4 = 2) : (iblk m c 2 t : Vec Ideal S8x512x256 .bf16) = parts m c t := by
  funext y
  obtain ⟨k, r, s, rfl⟩ := idx3_eq (a := 8) (b := 512) (c := 256) y
  refine ((congrArg (V m c main_v10 : Vec Ideal S8x512x256 .bf16) (emb2 t h k r s)).trans (entry2 m c k (row t r) s)).trans ?_
  exact congrArg (fun l => ap m c (ix4 l k (row t r) s)) (Fin.ext h.symm)

theorem iblk3 (h : t.val / 1 % 4 = 3) : (iblk m c 3 t : Vec Ideal S8x512x256 .bf16) = parts m c t := by
  funext y
  obtain ⟨k, r, s, rfl⟩ := idx3_eq (a := 8) (b := 512) (c := 256) y
  refine ((congrArg (V m c main_v11 : Vec Ideal S8x512x256 .bf16) (emb3 t h k r s)).trans (entry3 m c k (row t r) s)).trans ?_
  exact congrArg (fun l => ap m c (ix4 l k (row t r) s)) (Fin.ext h.symm)

theorem iblk4 : (iblk m c 4 t : Vec Ideal S1x512x256 .f32) = own t (aw m c) := by
  funext y
  obtain ⟨r, s, rfl⟩ := idx_row y
  refine (congrFun (by unfold_abbrev_sides; rfl : (V m c main_arg1 : Vec Ideal S4x512x256 .f32) = aw m c) _).trans ?_
  exact congrArg (aw m c) (emb4 t r s)

theorem iblk5 : (iblk m c 5 t : Vec Ideal S1x512x256 .f32) = own t (am m c) := by
  funext y
  obtain ⟨r, s, rfl⟩ := idx_row y
  refine (congrFun (by unfold_abbrev_sides; rfl : (V m c main_arg2 : Vec Ideal S4x512x256 .f32) = am m c) _).trans ?_
  exact congrArg (am m c) (emb4 t r s)

theorem iblk6 : (iblk m c 6 t : Vec Ideal S1x512x256 .f32) = own t (av m c) := by
  funext y
  obtain ⟨r, s, rfl⟩ := idx_row y
  refine (congrFun (by unfold_abbrev_sides; rfl : (V m c main_arg3 : Vec Ideal S4x512x256 .f32) = av m c) _).trans ?_
  exact congrArg (av m c) (emb4 t r s)

/-! ## The results -/

/-- What a point stores, whatever its layer. -/
theorem stored :
    (dats m 0 c).flushed 7 t = (cfg0.win 7).cut (grid0.coords t) (bgrad (parts m c t)) ∧
    (dats m 0 c).flushed 8 t = (cfg0.win 8).cut (grid0.coords t) (bstep (parts m c t) (own t (aw m c)) (own t (am m c)) (own t (av m c))) ∧
    (dats m 0 c).flushed 9 t = (cfg0.win 9).cut (grid0.coords t) (bnewM (parts m c t) (own t (am m c))) ∧
    (dats m 0 c).flushed 10 t = (cfg0.win 10).cut (grid0.coords t) (bnewV (parts m c t) (own t (av m c))) := by
  have ht : t.val < 4 := t.isLt
  rcases (by omega : t.val / 1 % 4 = 0 ∨ t.val / 1 % 4 = 1 ∨ t.val / 1 % 4 = 2 ∨ t.val / 1 % 4 = 3) with h | h | h | h
  · rw [Value.flushed7_A m c t, Value.flushed8_A m c t, Value.flushed9_A m c t, Value.flushed10_A m c t, iblk0 m c t h, iblk4, iblk5, iblk6]
    all_goals try omega
    unfold out0_A_7 out0_A_8 out0_A_9 out0_A_10
    rw [View.read_writes_eq_canon, View.read_writes_eq_canon, View.read_writes_eq_canon, View.read_writes_eq_canon]
    rotate_left
    · exact fun y => cover0_A_10 ..
    · exact fun y => cover0_A_9 ..
    · exact fun y => cover0_A_8 ..
    · exact fun y => cover0_A_7 ..
    unfold kernelRun0_A
    dsimp only
    sl_unfold_words
    rw [View.canon_unit_zero zero3, View.canon_unit_zero zero3, View.canon_unit_zero zero3, View.canon_unit_zero zero3]
    simp only [View.readAt_eq_ld, (hs0_0 t).read_unread, (hs0_4 t).read_unread, (hs0_5 t).read_unread, (hs0_6 t).read_unread, View.ld_unit_zero (S := S1x512x256) zero3]
    exact ⟨congrArg _ (pay_g _), congrArg _ (pay_d _ _ _ _), congrArg _ (pay_m _ _), congrArg _ (pay_v _ _)⟩
  · rw [Value.flushed7_B m c t, Value.flushed8_B m c t, Value.flushed9_B m c t, Value.flushed10_B m c t, iblk1 m c t h, iblk4, iblk5, iblk6]
    all_goals try omega
    unfold out0_B_7 out0_B_8 out0_B_9 out0_B_10
    rw [View.read_writes_eq_canon, View.read_writes_eq_canon, View.read_writes_eq_canon, View.read_writes_eq_canon]
    rotate_left
    · exact fun y => cover0_B_10 ..
    · exact fun y => cover0_B_9 ..
    · exact fun y => cover0_B_8 ..
    · exact fun y => cover0_B_7 ..
    unfold kernelRun0_B
    dsimp only
    sl_unfold_words
    rw [View.canon_unit_zero zero3, View.canon_unit_zero zero3, View.canon_unit_zero zero3, View.canon_unit_zero zero3]
    simp only [View.readAt_eq_ld, (hs0_1 t).read_unread, (hs0_4 t).read_unread, (hs0_5 t).read_unread, (hs0_6 t).read_unread, View.ld_unit_zero (S := S1x512x256) zero3]
    exact ⟨congrArg _ (pay_g _), congrArg _ (pay_d _ _ _ _), congrArg _ (pay_m _ _), congrArg _ (pay_v _ _)⟩
  · rw [Value.flushed7_C m c t, Value.flushed8_C m c t, Value.flushed9_C m c t, Value.flushed10_C m c t, iblk2 m c t h, iblk4, iblk5, iblk6]
    all_goals try omega
    unfold out0_C_7 out0_C_8 out0_C_9 out0_C_10
    rw [View.read_writes_eq_canon, View.read_writes_eq_canon, View.read_writes_eq_canon, View.read_writes_eq_canon]
    rotate_left
    · exact fun y => cover0_C_10 ..
    · exact fun y => cover0_C_9 ..
    · exact fun y => cover0_C_8 ..
    · exact fun y => cover0_C_7 ..
    unfold kernelRun0_C
    dsimp only
    sl_unfold_words
    rw [View.canon_unit_zero zero3, View.canon_unit_zero zero3, View.canon_unit_zero zero3, View.canon_unit_zero zero3]
    simp only [View.readAt_eq_ld, (hs0_2 t).read_unread, (hs0_4 t).read_unread, (hs0_5 t).read_unread, (hs0_6 t).read_unread, View.ld_unit_zero (S := S1x512x256) zero3]
    exact ⟨congrArg _ (pay_g _), congrArg _ (pay_d _ _ _ _), congrArg _ (pay_m _ _), congrArg _ (pay_v _ _)⟩
  · rw [Value.flushed7_D m c t, Value.flushed8_D m c t, Value.flushed9_D m c t, Value.flushed10_D m c t, iblk3 m c t h, iblk4, iblk5, iblk6]
    all_goals try omega
    unfold out0_D_7 out0_D_8 out0_D_9 out0_D_10
    rw [View.read_writes_eq_canon, View.read_writes_eq_canon, View.read_writes_eq_canon, View.read_writes_eq_canon]
    rotate_left
    · exact fun y => cover0_D_10 ..
    · exact fun y => cover0_D_9 ..
    · exact fun y => cover0_D_8 ..
    · exact fun y => cover0_D_7 ..
    unfold kernelRun0_D
    dsimp only
    sl_unfold_words
    rw [View.canon_unit_zero zero3, View.canon_unit_zero zero3, View.canon_unit_zero zero3, View.canon_unit_zero zero3]
    simp only [View.readAt_eq_ld, (hs0_3 t).read_unread, (hs0_4 t).read_unread, (hs0_5 t).read_unread, (hs0_6 t).read_unread, View.ld_unit_zero (S := S1x512x256) zero3]
    exact ⟨congrArg _ (pay_g _), congrArg _ (pay_d _ _ _ _), congrArg _ (pay_m _ _), congrArg _ (pay_v _ _)⟩

/-- Each index of a result is in some point's block. -/
theorem at_point (i : S4x512x256.Idx) : ∃ (t : Fin cfg0.N) (r : Fin 512) (s : Fin 256), i = ix3 (layer t) (row t r) s := by
  obtain ⟨l, p, k, rfl⟩ := idx3_eq (a := 4) (b := 512) (c := 256) i
  refine ⟨⟨l.val * 1 + p.val / 512, by show _ < 4; omega⟩, ⟨p.val % 512, by omega⟩, k, congrArg₂ (fun a b => ix3 a b k) (Fin.ext ?_) (Fin.ext ?_)⟩
  · show l.val = (l.val * 1 + p.val / 512) / 1 % 4; omega
  · show p.val = (l.val * 1 + p.val / 512) % 1 * 512 + p.val % 512; omega

theorem result7 : (dats m 0 c).arrAt 7 cfg0.N = grad (ap m c) :=
  (dats m 0 c).arrAt_eq_of_cover 7 _ (fun t _ => (stored m c t).1.trans <| funext fun y => by
    obtain ⟨r, s, rfl⟩ := idx_row (n := 512) (C := 256) y
    exact (congrArg (grad (ap m c)) (emb7 t r s)).symm) fun i => by
    obtain ⟨t, r, s, rfl⟩ := at_point i
    exact ⟨t, flush0_7 t, emb7 t r s ▸ View.emb_mem_set _ _⟩

theorem result8 : (dats m 0 c).arrAt 8 cfg0.N = step (ap m c) (aw m c) (am m c) (av m c) :=
  (dats m 0 c).arrAt_eq_of_cover 8 _ (fun t _ => (stored m c t).2.1.trans <| funext fun y => by
    obtain ⟨r, s, rfl⟩ := idx_row (n := 512) (C := 256) y
    exact (congrArg (step (ap m c) (aw m c) (am m c) (av m c)) (emb8 t r s)).symm) fun i => by
    obtain ⟨t, r, s, rfl⟩ := at_point i
    exact ⟨t, flush0_8 t, emb8 t r s ▸ View.emb_mem_set _ _⟩

theorem result9 : (dats m 0 c).arrAt 9 cfg0.N = newM (ap m c) (am m c) :=
  (dats m 0 c).arrAt_eq_of_cover 9 _ (fun t _ => (stored m c t).2.2.1.trans <| funext fun y => by
    obtain ⟨r, s, rfl⟩ := idx_row (n := 512) (C := 256) y
    exact (congrArg (newM (ap m c) (am m c)) (emb9 t r s)).symm) fun i => by
    obtain ⟨t, r, s, rfl⟩ := at_point i
    exact ⟨t, flush0_9 t, emb9 t r s ▸ View.emb_mem_set _ _⟩

theorem result10 : (dats m 0 c).arrAt 10 cfg0.N = newV (ap m c) (av m c) :=
  (dats m 0 c).arrAt_eq_of_cover 10 _ (fun t _ => (stored m c t).2.2.2.trans <| funext fun y => by
    obtain ⟨r, s, rfl⟩ := idx_row (n := 512) (C := 256) y
    exact (congrArg (newV (ap m c) (av m c)) (emb10 t r s)).symm) fun i => by
    obtain ⟨t, r, s, rfl⟩ := at_point i
    exact ⟨t, flush0_10 t, emb10 t r s ▸ View.emb_mem_set _ _⟩

/-- The run with the four results at their functions of the arguments. -/
theorem run : θ_run defs (onTc (τ := τ) (main (F := Ideal))) ⟨m, fun _ => 0, ρ⟩ fun r => ∀ c : Dev nD,
      r.2.mem ((c : Thread nD τ).loc main_v12_0) = grad (ap m c)
      ∧ r.2.mem ((c : Thread nD τ).loc main_v12_1) = step (ap m c) (aw m c) (am m c) (av m c)
      ∧ r.2.mem ((c : Thread nD τ).loc main_v12_2) = newM (ap m c) (am m c)
      ∧ r.2.mem ((c : Thread nD τ).loc main_v12_3) = newV (ap m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result7 m c), (h c).2.1.trans (result8 m c), (h c).2.2.1.trans (result9 m c),
      (h c).2.2.2.1.trans (result10 m c), (h c).2.2.2.2⟩)
    (Value.run_blocks m ρ)

end Cert.Proof.AdamKV

end
-- ==== Proof.AdamKVRef.lean ====
/- The optimiser's step on a weight of 512 by 256 elements: the reference's results index by index, and their equality with
   the kernel's. -/
module

public import proofs.«01_k».proof.Proof.AdamKV
public import proofs.«01_k».proof.Proof.Gen.Reference20Ideal.Run
public import proofs.«01_k».proof.Proof.Gen.Reference20Ideal.Read
public import proofs.«01_k».proof.Defs

@[expose] public section

set_option maxRecDepth 16384

noncomputable section

namespace Cert.Proof.AdamKV

open Idealize.ShloMosaic Idealize.ShloMosaic.TcCoe Idealize.SL.Sem
open Cert.Reference20Ideal Cert.Reference20Ideal.Gen Cert.Reference20Ideal.Value
open Cert.Proof.Adam Cert.Proof.Pieces

variable (x0 : Vec Ideal S4x8x512x256 .f32) (x1 x2 x3 : Vec Ideal S4x512x256 .f32)

/-- The reference's gradient is the kernel's. -/
theorem ref_grad : Read.val_main_v0 (F := Ideal) x0 = grad x0 := by
  funext i
  obtain ⟨l, r, s, rfl⟩ := idx3_eq (a := 4) (b := 512) (c := 256) i
  rw [Read.val_main_v0_apply]
  show Ideal.ofBits .f32 0x00000000#32 + _ = (∑ k : Fin 8, x0 (ix4 l k r s) : EReal)
  rw [Ideal.ofBits_zero .f32, zero_add]
  refine Finset.sum_congr rfl fun k _ => congrArg x0 ?_
  funext a; match a with | ⟨0, _⟩ => rfl | ⟨1, _⟩ => rfl | ⟨2, _⟩ => rfl | ⟨3, _⟩ => rfl

theorem ref_moment : Read.val_main_v5 (F := Ideal) x0 x2 = newM x0 x2 := by
  funext i
  unfold newM
  rw [← ref_grad]
  unfold moment Read.val_main_v5 Read.val_main_v2 Read.val_main_v4 Read.val_main_v1 Read.val_main_v3 Read.val_main_cst_0 Read.val_main_cst_1
  generalize Read.val_main_v0 (F := Ideal) x0 = g
  pointwise

theorem ref_square : Read.val_main_v11 (F := Ideal) x0 x3 = newV x0 x3 := by
  funext i
  unfold newV
  rw [← ref_grad]
  unfold square Read.val_main_v11 Read.val_main_v7 Read.val_main_v10 Read.val_main_v6 Read.val_main_v8 Read.val_main_v9 Read.val_main_cst_2 Read.val_main_cst_3
  generalize Read.val_main_v0 (F := Ideal) x0 = g
  pointwise

theorem ref_step : Read.val_main_v24 (F := Ideal) x0 x1 x2 x3 = step x0 x1 x2 x3 := by
  funext i
  show _ = Ideal.ofBits .f32 0xBA83126F#32
    * (Ideal.div (Ideal.div (newM x0 x2 i) (Ideal.ofBits .f32 0x3F26BD02#32))
        (Ideal.sqrt (Ideal.div (newV x0 x3 i) (Ideal.ofBits .f32 0x3C231ACC#32)) + Ideal.ofBits .f32 0x322BCC77#32)
      + Ideal.ofBits .f32 0x3C23D70A#32 * x1 i)
  rw [← ref_moment, ← ref_square]
  unfold Read.val_main_v24 Read.val_main_v22 Read.val_main_v19 Read.val_main_v21 Read.val_main_v13 Read.val_main_v18 Read.val_main_v16
    Read.val_main_v15 Read.val_main_v23 Read.val_main_v20 Read.val_main_v17 Read.val_main_v14 Read.val_main_v12
    Read.val_main_cst_4 Read.val_main_cst_5 Read.val_main_cst_6 Read.val_main_cst_7 Read.val_main_cst_8
  generalize Read.val_main_v5 (F := Ideal) x0 x2 = a
  generalize Read.val_main_v11 (F := Ideal) x0 x3 = b
  pointwise

/-- The optimiser's step by the kernel and by the reference: equal results on equal arguments, the arguments kept. -/
theorem algebraic : Cert.algebraic_Kernel20Ideal_Reference20Ideal := by
  intro m g m' g' _ hargs
  refine ⟨fun c => grad (ap m c), fun c => step (ap m c) (aw m c) (am m c) (av m c), fun c => newM (ap m c) (am m c), fun c => newV (ap m c) (av m c), run m g, ?_⟩
  refine (θ_run _ _ _).mono (fun r h c => ?_) (Cert.Reference20Ideal.Value.run m' g')
  obtain ⟨e1, e2, e3, e4, ek⟩ := h c
  obtain ⟨a0, a1, a2, a3⟩ := hargs c
  refine ⟨e1.trans ?_, e2.trans ?_, e3.trans ?_, e4.trans ?_, ek⟩
  · rw [a0, Read.val_main_v0_eq]
    exact ref_grad _
  · rw [a0, a1, a2, a3, Read.val_main_v24_eq]
    exact ref_step _ _ _ _
  · rw [a0, a2, Read.val_main_v5_eq]
    exact ref_moment _ _
  · rw [a0, a3, Read.val_main_v11_eq]
    exact ref_square _ _

end Cert.Proof.AdamKV

end
-- ==== Proof.AdamOut.lean ====
/- The optimiser's step on a weight of 256 by 2048 elements on each device, as the kernel `adamw` leaves it (at `Ideal`):
   a block of 64 rows of one layer at a point, the layer's parts chosen among the four arrays by the point's layer. -/
module

public import proofs.«01_k».proof.Proof.Gen.Kernel21Ideal.Value
public import proofs.«01_k».proof.Proof.Adam
public import proofs.«01_k».proof.Proof.Pieces
public import Idealize.ShloMosaic.Lib.IdealHost

@[expose] public section

set_option maxRecDepth 16384
set_option maxHeartbeats 1600000

noncomputable section

namespace Cert.Proof.AdamOut

open Cert.Kernel21Ideal Cert.Kernel21Ideal.Gen Idealize.ShloMosaic Idealize.ShloMosaic.TcCoe Idealize.SL.Sem
open Cert.Proof.Adam Cert.Proof.Pieces

/-! ## The body's stores -/

section Payloads
variable (x : Vec Ideal S8x64x2048 .bf16) (w mm v : Vec Ideal S1x64x2048 .f32)

/-- The `k`-th part of the block. -/
abbrev part (k : Fin 8) (inb : ∀ a, (![k.val, 0, 0] : Fin 3 → ℕ) a + S1x64x2048.size a ≤ S8x64x2048.size a) : Vec Ideal S1x64x2048 .bf16 :=
  View.ld (Val := Elt Ideal) (e' := .bf16) x (Rect.unit (s := S8x64x2048) ![k.val, 0, 0] S1x64x2048.size inb)

/-- The sum of the eight parts that the body reads one after another. -/
def total : FVec Ideal S64x2048 .f32 :=
  k0_pay9 (part x 0 inb_S8x64x2048_S1x64x2048_0_0_0) (part x 1 inb_S8x64x2048_S1x64x2048_1_0_0) (part x 2 inb_S8x64x2048_S1x64x2048_2_0_0)
    (part x 3 inb_S8x64x2048_S1x64x2048_3_0_0) (part x 4 inb_S8x64x2048_S1x64x2048_4_0_0) (part x 5 inb_S8x64x2048_S1x64x2048_5_0_0)
    (part x 6 inb_S8x64x2048_S1x64x2048_6_0_0) (part x 7 inb_S8x64x2048_S1x64x2048_7_0_0)

theorem add_parts (y : Fin 8 → Vec Ideal S1x64x2048 .bf16) (r : Fin 64) (s : Fin 2048) :
    (k0_pay9 (F := Ideal) (y 0) (y 1) (y 2) (y 3) (y 4) (y 5) (y 6) (y 7) (ix2 r s) : EReal) = ∑ k : Fin 8, y k (ix3 0 r s) := by
  rw [Fin.sum_univ_eight]
  unfold k0_pay9
  pointwise

theorem total_eq (r : Fin 64) (s : Fin 2048) : (total x (ix2 r s) : EReal) = bgrad x (ix3 0 r s) :=
  (add_parts ![part x 0 inb_S8x64x2048_S1x64x2048_0_0_0, part x 1 inb_S8x64x2048_S1x64x2048_1_0_0, part x 2 inb_S8x64x2048_S1x64x2048_2_0_0,
    part x 3 inb_S8x64x2048_S1x64x2048_3_0_0, part x 4 inb_S8x64x2048_S1x64x2048_4_0_0, part x 5 inb_S8x64x2048_S1x64x2048_5_0_0,
    part x 6 inb_S8x64x2048_S1x64x2048_6_0_0, part x 7 inb_S8x64x2048_S1x64x2048_7_0_0] r s).trans
    (Finset.sum_congr rfl fun k _ => by fin_cases k <;> exact ld_part x _ _ 0 r s)

theorem pay_g : k0_pay13 (F := Ideal) (total x) = bgrad x := by
  funext y
  obtain ⟨r, s, rfl⟩ := idx_row y
  rw [← total_eq x r s]
  generalize total x = t
  unfold k0_pay13
  pointwise

theorem pay_m : k0_pay1 (F := Ideal) (k0_pay11 (total x) (k0_pay10 mm)) = bnewM x mm := by
  funext y
  obtain ⟨r, s, rfl⟩ := idx_row y
  show _ = moment (mm (ix3 0 r s)) (bgrad x (ix3 0 r s))
  rw [← total_eq x r s]
  generalize total x = t
  unfold moment k0_pay1 k0_pay11 k0_pay10
  pointwise

theorem pay_v : k0_pay2 (F := Ideal) (k0_pay12 (total x) v) = bnewV x v := by
  funext y
  obtain ⟨r, s, rfl⟩ := idx_row y
  show _ = square (v (ix3 0 r s)) (bgrad x (ix3 0 r s))
  rw [← total_eq x r s]
  generalize total x = t
  unfold square k0_pay2 k0_pay12
  pointwise

theorem pay_d : k0_pay14 (F := Ideal) (total x) (k0_pay10 mm) v w = bstep x w mm v := by
  funext y
  obtain ⟨r, s, rfl⟩ := idx_row y
  show _ = delta (w (ix3 0 r s)) (mm (ix3 0 r s)) (v (ix3 0 r s)) (bgrad x (ix3 0 r s))
  rw [← total_eq x r s]
  generalize total x = t
  unfold delta moment square k0_pay14 k0_pay11 k0_pay12 k0_pay10
  pointwise

end Payloads

variable (m : (ℓ : Loc nD τ sig) → Buf (Elt Ideal) ℓ) (ρ : Dev nD → PrngReg) (c : Dev nD)

/-- The parts of the gradients, the weights and the two moments, as they are launched. -/
abbrev ap : FVec Ideal S4x8x256x2048 .f32 := m ((c : Thread nD τ).loc main_arg0)
abbrev aw : FVec Ideal S4x256x2048 .f32 := m ((c : Thread nD τ).loc main_arg1)
abbrev am : FVec Ideal S4x256x2048 .f32 := m ((c : Thread nD τ).loc main_arg2)
abbrev av : FVec Ideal S4x256x2048 .f32 := m ((c : Thread nD τ).loc main_arg3)

/-! ## What the host lines hand to the call: one layer's parts in each of four arrays -/

theorem entry0 (k : Fin 8) (r : Fin 256) (s : Fin 2048) : ((V m c main_v8 : Vec Ideal S8x256x2048 .bf16) (ix3 k r s) : EReal) = ap m c (ix4 0 k r s) := by
  rw [(by unfold_abbrev_sides; after_results; rfl : @Eq (Vec Ideal S8x256x2048 .bf16) (V m c main_v8) (truncf (F := Ideal) .bf16 (shapeCast S8x256x2048
    (extractStridedSlice S1x8x256x2048 ![0, 0, 0, 0] (ap m c) slices_S4x8x256x2048_S1x8x256x2048_0_0_0_0) shapeCasts_S1x8x256x2048_S8x256x2048) bitsLt_bf16_f32))]
  pointwise

theorem entry1 (k : Fin 8) (r : Fin 256) (s : Fin 2048) : ((V m c main_v9 : Vec Ideal S8x256x2048 .bf16) (ix3 k r s) : EReal) = ap m c (ix4 1 k r s) := by
  rw [(by unfold_abbrev_sides; after_results; rfl : @Eq (Vec Ideal S8x256x2048 .bf16) (V m c main_v9) (truncf (F := Ideal) .bf16 (shapeCast S8x256x2048
    (extractStridedSlice S1x8x256x2048 ![1, 0, 0, 0] (ap m c) slices_S4x8x256x2048_S1x8x256x2048_1_0_0_0) shapeCasts_S1x8x256x2048_S8x256x2048) bitsLt_bf16_f32))]
  pointwise

theorem entry2 (k : Fin 8) (r : Fin 256) (s : Fin 2048) : ((V m c main_v10 : Vec Ideal S8x256x2048 .bf16) (ix3 k r s) : EReal) = ap m c (ix4 2 k r s) := by
  rw [(by unfold_abbrev_sides; after_results; rfl : @Eq (Vec Ideal S8x256x2048 .bf16) (V m c main_v10) (truncf (F := Ideal) .bf16 (shapeCast S8x256x2048
    (extractStridedSlice S1x8x256x2048 ![2, 0, 0, 0] (ap m c) slices_S4x8x256x2048_S1x8x256x2048_2_0_0_0) shapeCasts_S1x8x256x2048_S8x256x2048) bitsLt_bf16_f32))]
  pointwise

theorem entry3 (k : Fin 8) (r : Fin 256) (s : Fin 2048) : ((V m c main_v11 : Vec Ideal S8x256x2048 .bf16) (ix3 k r s) : EReal) = ap m c (ix4 3 k r s) := by
  rw [(by unfold_abbrev_sides; after_results; rfl : @Eq (Vec Ideal S8x256x2048 .bf16) (V m c main_v11) (truncf (F := Ideal) .bf16 (shapeCast S8x256x2048
    (extractStridedSlice S1x8x256x2048 ![3, 0, 0, 0] (ap m c) slices_S4x8x256x2048_S1x8x256x2048_3_0_0_0) shapeCasts_S1x8x256x2048_S8x256x2048) bitsLt_bf16_f32))]
  pointwise

/-! ## Where a block's element lies in its array -/

/-- The layer that point `t` works on, and row `r` of its 64 rows. -/
def layer (t : Fin cfg0.N) : Fin 4 := ⟨t.val / 4 % 4, by omega⟩
def row (t : Fin cfg0.N) (r : Fin 64) : Fin 256 := ⟨t.val % 4 * 64 + r.val, by omega⟩

variable (t : Fin cfg0.N)

theorem emb0 (h : t.val / 4 % 4 = 0) (k : Fin 8) (r : Fin 64) (s : Fin 2048) :
    ((cfg0.win 0).blk t).view.emb (ix3 k r s : S8x64x2048.Idx) = (ix3 k (row t r) s : S8x256x2048.Idx) := by
  obtain ⟨e0, e1, e2⟩ := (by decide +kernel : ∀ t : Fin grid0.N, t.val / 4 % 4 = 0 →
    win0_0.index t (0 : Fin 3) = 0 ∧ win0_0.index t (1 : Fin 3) = t.val % 4 ∧ win0_0.index t (2 : Fin 3) = 0) t h
  funext a; apply Fin.ext
  match a with
  | ⟨0, _⟩ => show win0_0.index t (0 : Fin 3) * 8 + 1 * k.val = k.val; omega
  | ⟨1, _⟩ => show win0_0.index t (1 : Fin 3) * 64 + 1 * r.val = t.val % 4 * 64 + r.val; omega
  | ⟨2, _⟩ => show win0_0.index t (2 : Fin 3) * 2048 + 1 * s.val = s.val; omega

theorem emb1 (h : t.val / 4 % 4 = 1) (k : Fin 8) (r : Fin 64) (s : Fin 2048) :
    ((cfg0.win 1).blk t).view.emb (ix3 k r s : S8x64x2048.Idx) = (ix3 k (row t r) s : S8x256x2048.Idx) := by
  obtain ⟨e0, e1, e2⟩ := (by decide +kernel : ∀ t : Fin grid0.N, t.val / 4 % 4 = 1 →
    win0_1.index t (0 : Fin 3) = 0 ∧ win0_1.index t (1 : Fin 3) = t.val % 4 ∧ win0_1.index t (2 : Fin 3) = 0) t h
  funext a; apply Fin.ext
  match a with
  | ⟨0, _⟩ => show win0_1.index t (0 : Fin 3) * 8 + 1 * k.val = k.val; omega
  | ⟨1, _⟩ => show win0_1.index t (1 : Fin 3) * 64 + 1 * r.val = t.val % 4 * 64 + r.val; omega
  | ⟨2, _⟩ => show win0_1.index t (2 : Fin 3) * 2048 + 1 * s.val = s.val; omega

theorem emb2 (h : t.val / 4 % 4 = 2) (k : Fin 8) (r : Fin 64) (s : Fin 2048) :
    ((cfg0.win 2).blk t).view.emb (ix3 k r s : S8x64x2048.Idx) = (ix3 k (row t r) s : S8x256x2048.Idx) := by
  obtain ⟨e0, e1, e2⟩ := (by decide +kernel : ∀ t : Fin grid0.N, t.val / 4 % 4 = 2 →
    win0_2.index t (0 : Fin 3) = 0 ∧ win0_2.index t (1 : Fin 3) = t.val % 4 ∧ win0_2.index t (2 : Fin 3) = 0) t h
  funext a; apply Fin.ext
  match a with
  | ⟨0, _⟩ => show win0_2.index t (0 : Fin 3) * 8 + 1 * k.val = k.val; omega
  | ⟨1, _⟩ => show win0_2.index t (1 : Fin 3) * 64 + 1 * r.val = t.val % 4 * 64 + r.val; omega
  | ⟨2, _⟩ => show win0_2.index t (2 : Fin 3) * 2048 + 1 * s.val = s.val; omega

theorem emb3 (h : t.val / 4 % 4 = 3) (k : Fin 8) (r : Fin 64) (s : Fin 2048) :
    ((cfg0.win 3).blk t).view.emb (ix3 k r s : S8x64x2048.Idx) = (ix3 k (row t r) s : S8x256x2048.Idx) := by
  obtain ⟨e0, e1, e2⟩ := (by decide +kernel : ∀ t : Fin grid0.N, t.val / 4 % 4 = 3 →
    win0_3.index t (0 : Fin 3) = 0 ∧ win0_3.index t (1 : Fin 3) = t.val % 4 ∧ win0_3.index t (2 : Fin 3) = 0) t h
  funext a; apply Fin.ext
  match a with
  | ⟨0, _⟩ => show win0_3.index t (0 : Fin 3) * 8 + 1 * k.val = k.val; omega
  | ⟨1, _⟩ => show win0_3.index t (1 : Fin 3) * 64 + 1 * r.val = t.val % 4 * 64 + r.val; omega
  | ⟨2, _⟩ => show win0_3.index t (2 : Fin 3) * 2048 + 1 * s.val = s.val; omega

theorem emb4 (r : Fin 64) (s : Fin 2048) :
    ((cfg0.win 4).blk t).view.emb (ix3 0 r s : S1x64x2048.Idx) = (ix3 (layer t) (row t r) s : S4x256x2048.Idx) := by
  obtain ⟨e0, e1, e2⟩ := (by decide +kernel : ∀ t : Fin grid0.N,
    win0_4.index t (0 : Fin 3) = t.val / 4 % 4 ∧ win0_4.index t (1 : Fin 3) = t.val % 4 ∧ win0_4.index t (2 : Fin 3) = 0) t
  funext a; apply Fin.ext
  match a with
  | ⟨0, _⟩ => show win0_4.index t (0 : Fin 3) * 1 + 1 * 0 = t.val / 4 % 4; omega
  | ⟨1, _⟩ => show win0_4.index t (1 : Fin 3) * 64 + 1 * r.val = t.val % 4 * 64 + r.val; omega
  | ⟨2, _⟩ => show win0_4.index t (2 : Fin 3) * 2048 + 1 * s.val = s.val; omega

theorem emb7 (r : Fin 64) (s : Fin 2048) : ((cfg0.win 7).blk t).view.emb (ix3 0 r s : S1x64x2048.Idx) = (ix3 (layer t) (row t r) s : S4x256x2048.Idx) := emb4 t r s
theorem emb8 (r : Fin 64) (s : Fin 2048) : ((cfg0.win 8).blk t).view.emb (ix3 0 r s : S1x64x2048.Idx) = (ix3 (layer t) (row t r) s : S4x256x2048.Idx) := emb4 t r s
theorem emb9 (r : Fin 64) (s : Fin 2048) : ((cfg0.win 9).blk t).view.emb (ix3 0 r s : S1x64x2048.Idx) = (ix3 (layer t) (row t r) s : S4x256x2048.Idx) := emb4 t r s
theorem emb10 (r : Fin 64) (s : Fin 2048) : ((cfg0.win 10).blk t).view.emb (ix3 0 r s : S1x64x2048.Idx) = (ix3 (layer t) (row t r) s : S4x256x2048.Idx) := emb4 t r s

/-- The block of the parts that point `t` works on, and the block of an array of the weight's shape. -/
def parts : Vec Ideal S8x64x2048 .bf16 := fun y => ap m c (ix4 (layer t) (y 0) (row t (y 1)) (y 2))
def own (a : Vec Ideal S4x256x2048 .f32) : Vec Ideal S1x64x2048 .f32 := fun y => a (ix3 (layer t) (row t (y 1)) (y 2))

theorem iblk0 (h : t.val / 4 % 4 = 0) : (iblk m c 0 t : Vec Ideal S8x64x2048 .bf16) = parts m c t := by
  funext y
  obtain ⟨k, r, s, rfl⟩ := idx3_eq (a := 8) (b := 64) (c := 2048) y
  refine ((congrArg (V m c main_v8 : Vec Ideal S8x256x2048 .bf16) (emb0 t h k r s)).trans (entry0 m c k (row t r) s)).trans ?_
  exact congrArg (fun l => ap m c (ix4 l k (row t r) s)) (Fin.ext h.symm)

theorem iblk1 (h : t.val / 4 % 4 = 1) : (iblk m c 1 t : Vec Ideal S8x64x2048 .bf16) = parts m c t := by
  funext y
  obtain ⟨k, r, s, rfl⟩ := idx3_eq (a := 8) (b := 64) (c := 2048) y
  refine ((congrArg (V m c main_v9 : Vec Ideal S8x256x2048 .bf16) (emb1 t h k r s)).trans (entry1 m c k (row t r) s)).trans ?_
  exact congrArg (fun l => ap m c (ix4 l k (row t r) s)) (Fin.ext h.symm)

theorem iblk2 (h : t.val / 4 % 4 = 2) : (iblk m c 2 t : Vec Ideal S8x64x2048 .bf16) = parts m c t := by
  funext y
  obtain ⟨k, r, s, rfl⟩ := idx3_eq (a := 8) (b := 64) (c := 2048) y
  refine ((congrArg (V m c main_v10 : Vec Ideal S8x256x2048 .bf16) (emb2 t h k r s)).trans (entry2 m c k (row t r) s)).trans ?_
  exact congrArg (fun l => ap m c (ix4 l k (row t r) s)) (Fin.ext h.symm)

theorem iblk3 (h : t.val / 4 % 4 = 3) : (iblk m c 3 t : Vec Ideal S8x64x2048 .bf16) = parts m c t := by
  funext y
  obtain ⟨k, r, s, rfl⟩ := idx3_eq (a := 8) (b := 64) (c := 2048) y
  refine ((congrArg (V m c main_v11 : Vec Ideal S8x256x2048 .bf16) (emb3 t h k r s)).trans (entry3 m c k (row t r) s)).trans ?_
  exact congrArg (fun l => ap m c (ix4 l k (row t r) s)) (Fin.ext h.symm)

theorem iblk4 : (iblk m c 4 t : Vec Ideal S1x64x2048 .f32) = own t (aw m c) := by
  funext y
  obtain ⟨r, s, rfl⟩ := idx_row y
  refine (congrFun (by unfold_abbrev_sides; rfl : (V m c main_arg1 : Vec Ideal S4x256x2048 .f32) = aw m c) _).trans ?_
  exact congrArg (aw m c) (emb4 t r s)

theorem iblk5 : (iblk m c 5 t : Vec Ideal S1x64x2048 .f32) = own t (am m c) := by
  funext y
  obtain ⟨r, s, rfl⟩ := idx_row y
  refine (congrFun (by unfold_abbrev_sides; rfl : (V m c main_arg2 : Vec Ideal S4x256x2048 .f32) = am m c) _).trans ?_
  exact congrArg (am m c) (emb4 t r s)

theorem iblk6 : (iblk m c 6 t : Vec Ideal S1x64x2048 .f32) = own t (av m c) := by
  funext y
  obtain ⟨r, s, rfl⟩ := idx_row y
  refine (congrFun (by unfold_abbrev_sides; rfl : (V m c main_arg3 : Vec Ideal S4x256x2048 .f32) = av m c) _).trans ?_
  exact congrArg (av m c) (emb4 t r s)

/-! ## The results -/

/-- What a point stores, whatever its layer. -/
theorem stored :
    (dats m 0 c).flushed 7 t = (cfg0.win 7).cut (grid0.coords t) (bgrad (parts m c t)) ∧
    (dats m 0 c).flushed 8 t = (cfg0.win 8).cut (grid0.coords t) (bstep (parts m c t) (own t (aw m c)) (own t (am m c)) (own t (av m c))) ∧
    (dats m 0 c).flushed 9 t = (cfg0.win 9).cut (grid0.coords t) (bnewM (parts m c t) (own t (am m c))) ∧
    (dats m 0 c).flushed 10 t = (cfg0.win 10).cut (grid0.coords t) (bnewV (parts m c t) (own t (av m c))) := by
  have ht : t.val < 16 := t.isLt
  rcases (by omega : t.val / 4 % 4 = 0 ∨ t.val / 4 % 4 = 1 ∨ t.val / 4 % 4 = 2 ∨ t.val / 4 % 4 = 3) with h | h | h | h
  · rw [Value.flushed7_A m c t, Value.flushed8_A m c t, Value.flushed9_A m c t, Value.flushed10_A m c t, iblk0 m c t h, iblk4, iblk5, iblk6]
    all_goals try omega
    unfold out0_A_7 out0_A_8 out0_A_9 out0_A_10
    rw [View.read_writes_eq_canon, View.read_writes_eq_canon, View.read_writes_eq_canon, View.read_writes_eq_canon]
    rotate_left
    · exact fun y => cover0_A_10 ..
    · exact fun y => cover0_A_9 ..
    · exact fun y => cover0_A_8 ..
    · exact fun y => cover0_A_7 ..
    unfold kernelRun0_A
    dsimp only
    sl_unfold_words
    rw [View.canon_unit_zero zero3, View.canon_unit_zero zero3, View.canon_unit_zero zero3, View.canon_unit_zero zero3]
    simp only [View.readAt_eq_ld, (hs0_0 t).read_unread, (hs0_4 t).read_unread, (hs0_5 t).read_unread, (hs0_6 t).read_unread, View.ld_unit_zero (S := S1x64x2048) zero3]
    exact ⟨congrArg _ (pay_g _), congrArg _ (pay_d _ _ _ _), congrArg _ (pay_m _ _), congrArg _ (pay_v _ _)⟩
  · rw [Value.flushed7_B m c t, Value.flushed8_B m c t, Value.flushed9_B m c t, Value.flushed10_B m c t, iblk1 m c t h, iblk4, iblk5, iblk6]
    all_goals try omega
    unfold out0_B_7 out0_B_8 out0_B_9 out0_B_10
    rw [View.read_writes_eq_canon, View.read_writes_eq_canon, View.read_writes_eq_canon, View.read_writes_eq_canon]
    rotate_left
    · exact fun y => cover0_B_10 ..
    · exact fun y => cover0_B_9 ..
    · exact fun y => cover0_B_8 ..
    · exact fun y => cover0_B_7 ..
    unfold kernelRun0_B
    dsimp only
    sl_unfold_words
    rw [View.canon_unit_zero zero3, View.canon_unit_zero zero3, View.canon_unit_zero zero3, View.canon_unit_zero zero3]
    simp only [View.readAt_eq_ld, (hs0_1 t).read_unread, (hs0_4 t).read_unread, (hs0_5 t).read_unread, (hs0_6 t).read_unread, View.ld_unit_zero (S := S1x64x2048) zero3]
    exact ⟨congrArg _ (pay_g _), congrArg _ (pay_d _ _ _ _), congrArg _ (pay_m _ _), congrArg _ (pay_v _ _)⟩
  · rw [Value.flushed7_C m c t, Value.flushed8_C m c t, Value.flushed9_C m c t, Value.flushed10_C m c t, iblk2 m c t h, iblk4, iblk5, iblk6]
    all_goals try omega
    unfold out0_C_7 out0_C_8 out0_C_9 out0_C_10
    rw [View.read_writes_eq_canon, View.read_writes_eq_canon, View.read_writes_eq_canon, View.read_writes_eq_canon]
    rotate_left
    · exact fun y => cover0_C_10 ..
    · exact fun y => cover0_C_9 ..
    · exact fun y => cover0_C_8 ..
    · exact fun y => cover0_C_7 ..
    unfold kernelRun0_C
    dsimp only
    sl_unfold_words
    rw [View.canon_unit_zero zero3, View.canon_unit_zero zero3, View.canon_unit_zero zero3, View.canon_unit_zero zero3]
    simp only [View.readAt_eq_ld, (hs0_2 t).read_unread, (hs0_4 t).read_unread, (hs0_5 t).read_unread, (hs0_6 t).read_unread, View.ld_unit_zero (S := S1x64x2048) zero3]
    exact ⟨congrArg _ (pay_g _), congrArg _ (pay_d _ _ _ _), congrArg _ (pay_m _ _), congrArg _ (pay_v _ _)⟩
  · rw [Value.flushed7_D m c t, Value.flushed8_D m c t, Value.flushed9_D m c t, Value.flushed10_D m c t, iblk3 m c t h, iblk4, iblk5, iblk6]
    all_goals try omega
    unfold out0_D_7 out0_D_8 out0_D_9 out0_D_10
    rw [View.read_writes_eq_canon, View.read_writes_eq_canon, View.read_writes_eq_canon, View.read_writes_eq_canon]
    rotate_left
    · exact fun y => cover0_D_10 ..
    · exact fun y => cover0_D_9 ..
    · exact fun y => cover0_D_8 ..
    · exact fun y => cover0_D_7 ..
    unfold kernelRun0_D
    dsimp only
    sl_unfold_words
    rw [View.canon_unit_zero zero3, View.canon_unit_zero zero3, View.canon_unit_zero zero3, View.canon_unit_zero zero3]
    simp only [View.readAt_eq_ld, (hs0_3 t).read_unread, (hs0_4 t).read_unread, (hs0_5 t).read_unread, (hs0_6 t).read_unread, View.ld_unit_zero (S := S1x64x2048) zero3]
    exact ⟨congrArg _ (pay_g _), congrArg _ (pay_d _ _ _ _), congrArg _ (pay_m _ _), congrArg _ (pay_v _ _)⟩

/-- Each index of a result is in some point's block. -/
theorem at_point (i : S4x256x2048.Idx) : ∃ (t : Fin cfg0.N) (r : Fin 64) (s : Fin 2048), i = ix3 (layer t) (row t r) s := by
  obtain ⟨l, p, k, rfl⟩ := idx3_eq (a := 4) (b := 256) (c := 2048) i
  refine ⟨⟨l.val * 4 + p.val / 64, by show _ < 16; omega⟩, ⟨p.val % 64, by omega⟩, k, congrArg₂ (fun a b => ix3 a b k) (Fin.ext ?_) (Fin.ext ?_)⟩
  · show l.val = (l.val * 4 + p.val / 64) / 4 % 4; omega
  · show p.val = (l.val * 4 + p.val / 64) % 4 * 64 + p.val % 64; omega

theorem result7 : (dats m 0 c).arrAt 7 cfg0.N = grad (ap m c) :=
  (dats m 0 c).arrAt_eq_of_cover 7 _ (fun t _ => (stored m c t).1.trans <| funext fun y => by
    obtain ⟨r, s, rfl⟩ := idx_row (n := 64) (C := 2048) y
    exact (congrArg (grad (ap m c)) (emb7 t r s)).symm) fun i => by
    obtain ⟨t, r, s, rfl⟩ := at_point i
    exact ⟨t, flush0_7 t, emb7 t r s ▸ View.emb_mem_set _ _⟩

theorem result8 : (dats m 0 c).arrAt 8 cfg0.N = step (ap m c) (aw m c) (am m c) (av m c) :=
  (dats m 0 c).arrAt_eq_of_cover 8 _ (fun t _ => (stored m c t).2.1.trans <| funext fun y => by
    obtain ⟨r, s, rfl⟩ := idx_row (n := 64) (C := 2048) y
    exact (congrArg (step (ap m c) (aw m c) (am m c) (av m c)) (emb8 t r s)).symm) fun i => by
    obtain ⟨t, r, s, rfl⟩ := at_point i
    exact ⟨t, flush0_8 t, emb8 t r s ▸ View.emb_mem_set _ _⟩

theorem result9 : (dats m 0 c).arrAt 9 cfg0.N = newM (ap m c) (am m c) :=
  (dats m 0 c).arrAt_eq_of_cover 9 _ (fun t _ => (stored m c t).2.2.1.trans <| funext fun y => by
    obtain ⟨r, s, rfl⟩ := idx_row (n := 64) (C := 2048) y
    exact (congrArg (newM (ap m c) (am m c)) (emb9 t r s)).symm) fun i => by
    obtain ⟨t, r, s, rfl⟩ := at_point i
    exact ⟨t, flush0_9 t, emb9 t r s ▸ View.emb_mem_set _ _⟩

theorem result10 : (dats m 0 c).arrAt 10 cfg0.N = newV (ap m c) (av m c) :=
  (dats m 0 c).arrAt_eq_of_cover 10 _ (fun t _ => (stored m c t).2.2.2.trans <| funext fun y => by
    obtain ⟨r, s, rfl⟩ := idx_row (n := 64) (C := 2048) y
    exact (congrArg (newV (ap m c) (av m c)) (emb10 t r s)).symm) fun i => by
    obtain ⟨t, r, s, rfl⟩ := at_point i
    exact ⟨t, flush0_10 t, emb10 t r s ▸ View.emb_mem_set _ _⟩

/-- The run with the four results at their functions of the arguments. -/
theorem run : θ_run defs (onTc (τ := τ) (main (F := Ideal))) ⟨m, fun _ => 0, ρ⟩ fun r => ∀ c : Dev nD,
      r.2.mem ((c : Thread nD τ).loc main_v12_0) = grad (ap m c)
      ∧ r.2.mem ((c : Thread nD τ).loc main_v12_1) = step (ap m c) (aw m c) (am m c) (av m c)
      ∧ r.2.mem ((c : Thread nD τ).loc main_v12_2) = newM (ap m c) (am m c)
      ∧ r.2.mem ((c : Thread nD τ).loc main_v12_3) = newV (ap m c) (av m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result7 m c), (h c).2.1.trans (result8 m c), (h c).2.2.1.trans (result9 m c),
      (h c).2.2.2.1.trans (result10 m c), (h c).2.2.2.2⟩)
    (Value.run_blocks m ρ)

end Cert.Proof.AdamOut

end
-- ==== Proof.AdamOutRef.lean ====
/- The optimiser's step on a weight of 256 by 2048 elements: the reference's results index by index, and their equality with
   the kernel's. -/
module

public import proofs.«01_k».proof.Proof.AdamOut
public import proofs.«01_k».proof.Proof.Gen.Reference21Ideal.Run
public import proofs.«01_k».proof.Proof.Gen.Reference21Ideal.Read
public import proofs.«01_k».proof.Defs

@[expose] public section

set_option maxRecDepth 16384

noncomputable section

namespace Cert.Proof.AdamOut

open Idealize.ShloMosaic Idealize.ShloMosaic.TcCoe Idealize.SL.Sem
open Cert.Reference21Ideal Cert.Reference21Ideal.Gen Cert.Reference21Ideal.Value
open Cert.Proof.Adam Cert.Proof.Pieces

variable (x0 : Vec Ideal S4x8x256x2048 .f32) (x1 x2 x3 : Vec Ideal S4x256x2048 .f32)

/-- The reference's gradient is the kernel's. -/
theorem ref_grad : Read.val_main_v0 (F := Ideal) x0 = grad x0 := by
  funext i
  obtain ⟨l, r, s, rfl⟩ := idx3_eq (a := 4) (b := 256) (c := 2048) i
  rw [Read.val_main_v0_apply]
  show Ideal.ofBits .f32 0x00000000#32 + _ = (∑ k : Fin 8, x0 (ix4 l k r s) : EReal)
  rw [Ideal.ofBits_zero .f32, zero_add]
  refine Finset.sum_congr rfl fun k _ => congrArg x0 ?_
  funext a; match a with | ⟨0, _⟩ => rfl | ⟨1, _⟩ => rfl | ⟨2, _⟩ => rfl | ⟨3, _⟩ => rfl

theorem ref_moment : Read.val_main_v5 (F := Ideal) x0 x2 = newM x0 x2 := by
  funext i
  unfold newM
  rw [← ref_grad]
  unfold moment Read.val_main_v5 Read.val_main_v2 Read.val_main_v4 Read.val_main_v1 Read.val_main_v3 Read.val_main_cst_0 Read.val_main_cst_1
  generalize Read.val_main_v0 (F := Ideal) x0 = g
  pointwise

theorem ref_square : Read.val_main_v11 (F := Ideal) x0 x3 = newV x0 x3 := by
  funext i
  unfold newV
  rw [← ref_grad]
  unfold square Read.val_main_v11 Read.val_main_v7 Read.val_main_v10 Read.val_main_v6 Read.val_main_v8 Read.val_main_v9 Read.val_main_cst_2 Read.val_main_cst_3
  generalize Read.val_main_v0 (F := Ideal) x0 = g
  pointwise

theorem ref_step : Read.val_main_v24 (F := Ideal) x0 x1 x2 x3 = step x0 x1 x2 x3 := by
  funext i
  show _ = Ideal.ofBits .f32 0xBA83126F#32
    * (Ideal.div (Ideal.div (newM x0 x2 i) (Ideal.ofBits .f32 0x3F26BD02#32))
        (Ideal.sqrt (Ideal.div (newV x0 x3 i) (Ideal.ofBits .f32 0x3C231ACC#32)) + Ideal.ofBits .f32 0x322BCC77#32)
      + Ideal.ofBits .f32 0x3C23D70A#32 * x1 i)
  rw [← ref_moment, ← ref_square]
  unfold Read.val_main_v24 Read.val_main_v22 Read.val_main_v19 Read.val_main_v21 Read.val_main_v13 Read.val_main_v18 Read.val_main_v16
    Read.val_main_v15 Read.val_main_v23 Read.val_main_v20 Read.val_main_v17 Read.val_main_v14 Read.val_main_v12
    Read.val_main_cst_4 Read.val_main_cst_5 Read.val_main_cst_6 Read.val_main_cst_7 Read.val_main_cst_8
  generalize Read.val_main_v5 (F := Ideal) x0 x2 = a
  generalize Read.val_main_v11 (F := Ideal) x0 x3 = b
  pointwise

/-- The optimiser's step by the kernel and by the reference: equal results on equal arguments, the arguments kept. -/
theorem algebraic : Cert.algebraic_Kernel21Ideal_Reference21Ideal := by
  intro m g m' g' _ hargs
  refine ⟨fun c => grad (ap m c), fun c => step (ap m c) (aw m c) (am m c) (av m c), fun c => newM (ap m c) (am m c), fun c => newV (ap m c) (av m c), run m g, ?_⟩
  refine (θ_run _ _ _).mono (fun r h c => ?_) (Cert.Reference21Ideal.Value.run m' g')
  obtain ⟨e1, e2, e3, e4, ek⟩ := h c
  obtain ⟨a0, a1, a2, a3⟩ := hargs c
  refine ⟨e1.trans ?_, e2.trans ?_, e3.trans ?_, e4.trans ?_, ek⟩
  · rw [a0, Read.val_main_v0_eq]
    exact ref_grad _
  · rw [a0, a1, a2, a3, Read.val_main_v24_eq]
    exact ref_step _ _ _ _
  · rw [a0, a2, Read.val_main_v5_eq]
    exact ref_moment _ _
  · rw [a0, a3, Read.val_main_v11_eq]
    exact ref_square _ _

end Cert.Proof.AdamOut

end
-- ==== Proof.AdamGains.lean ====
/- The optimiser's step on the norms' gains, packed into one array of 32 rows, as the kernel `adamw_gains` leaves it (at `Ideal`): one point,
   whose blocks are the whole arrays. -/
module

public import proofs.«01_k».proof.Proof.Gen.Kernel22Ideal.Value
public import proofs.«01_k».proof.Proof.Adam
public import Idealize.ShloMosaic.Lib.IdealHost

@[expose] public section

set_option maxRecDepth 16384

noncomputable section

namespace Cert.Proof.AdamGains

open Cert.Kernel22Ideal Cert.Kernel22Ideal.Gen Idealize.ShloMosaic Idealize.ShloMosaic.TcCoe Idealize.SL.Sem
open Cert.Proof.Adam

/-! ## The body's stores -/

section Payloads
variable (g w mm v : Vec Ideal S1x32x2048 .f32)

/-- The two moments and the step, element by element. -/
def gainM : Vec Ideal S1x32x2048 .f32 := fun i => moment (mm i) (g i)
def gainV : Vec Ideal S1x32x2048 .f32 := fun i => square (v i) (g i)
def gainD : Vec Ideal S1x32x2048 .f32 := fun i => delta (w i) (mm i) (v i) (g i)

theorem pay_g : k0_pay7 (F := Ideal) g = g := by
  funext y
  obtain ⟨r, s, rfl⟩ := idx_row y
  unfold k0_pay7 k0_pay4
  pointwise

theorem pay_m : k0_pay2 (F := Ideal) (k0_pay5 g mm) = gainM g mm := by
  funext y
  obtain ⟨r, s, rfl⟩ := idx_row y
  unfold gainM moment k0_pay2 k0_pay5 k0_pay4
  pointwise

theorem pay_v : k0_pay3 (F := Ideal) (k0_pay6 g v) = gainV g v := by
  funext y
  obtain ⟨r, s, rfl⟩ := idx_row y
  unfold gainV square k0_pay3 k0_pay6 k0_pay4
  pointwise

theorem pay_d : k0_pay1 (F := Ideal) (k0_pay8 g mm v w) = gainD g w mm v := by
  funext y
  obtain ⟨r, s, rfl⟩ := idx_row y
  unfold gainD delta moment square k0_pay1 k0_pay8 k0_pay5 k0_pay6 k0_pay4
  pointwise

end Payloads

variable (m : (ℓ : Loc nD τ sig) → Buf (Elt Ideal) ℓ) (ρ : Dev nD → PrngReg) (c : Dev nD) (t : Fin cfg0.N)

/-- The gains' gradients, the gains and the two moments, as they are launched. -/
abbrev ag : Vec Ideal S1x32x2048 .f32 := m ((c : Thread nD τ).loc main_arg0)
abbrev aw : Vec Ideal S1x32x2048 .f32 := m ((c : Thread nD τ).loc main_arg1)
abbrev am : Vec Ideal S1x32x2048 .f32 := m ((c : Thread nD τ).loc main_arg2)
abbrev av : Vec Ideal S1x32x2048 .f32 := m ((c : Thread nD τ).loc main_arg3)

/-! ## Each block is its whole array -/

theorem emb0 (r : Fin 32) (s : Fin 2048) : ((cfg0.win 0).blk t).view.emb (ix3 0 r s : S1x32x2048.Idx) = (ix3 0 r s : S1x32x2048.Idx) := by
  obtain ⟨e0, e1, e2⟩ := (by decide +kernel : ∀ t : Fin grid0.N,
    win0_0.index t (0 : Fin 3) = 0 ∧ win0_0.index t (1 : Fin 3) = 0 ∧ win0_0.index t (2 : Fin 3) = 0) t
  funext a; apply Fin.ext
  match a with
  | ⟨0, _⟩ => show win0_0.index t (0 : Fin 3) * 1 + 1 * 0 = 0; omega
  | ⟨1, _⟩ => show win0_0.index t (1 : Fin 3) * 32 + 1 * r.val = r.val; omega
  | ⟨2, _⟩ => show win0_0.index t (2 : Fin 3) * 2048 + 1 * s.val = s.val; omega

theorem emb1 (r : Fin 32) (s : Fin 2048) : ((cfg0.win 1).blk t).view.emb (ix3 0 r s : S1x32x2048.Idx) = (ix3 0 r s : S1x32x2048.Idx) := by
  obtain ⟨e0, e1, e2⟩ := (by decide +kernel : ∀ t : Fin grid0.N,
    win0_1.index t (0 : Fin 3) = 0 ∧ win0_1.index t (1 : Fin 3) = 0 ∧ win0_1.index t (2 : Fin 3) = 0) t
  funext a; apply Fin.ext
  match a with
  | ⟨0, _⟩ => show win0_1.index t (0 : Fin 3) * 1 + 1 * 0 = 0; omega
  | ⟨1, _⟩ => show win0_1.index t (1 : Fin 3) * 32 + 1 * r.val = r.val; omega
  | ⟨2, _⟩ => show win0_1.index t (2 : Fin 3) * 2048 + 1 * s.val = s.val; omega

theorem emb4 (r : Fin 32) (s : Fin 2048) : ((cfg0.win 4).blk t).view.emb (ix3 0 r s : S1x32x2048.Idx) = (ix3 0 r s : S1x32x2048.Idx) := emb1 t r s
theorem emb5 (r : Fin 32) (s : Fin 2048) : ((cfg0.win 5).blk t).view.emb (ix3 0 r s : S1x32x2048.Idx) = (ix3 0 r s : S1x32x2048.Idx) := emb1 t r s
theorem emb6 (r : Fin 32) (s : Fin 2048) : ((cfg0.win 6).blk t).view.emb (ix3 0 r s : S1x32x2048.Idx) = (ix3 0 r s : S1x32x2048.Idx) := emb1 t r s
theorem emb7 (r : Fin 32) (s : Fin 2048) : ((cfg0.win 7).blk t).view.emb (ix3 0 r s : S1x32x2048.Idx) = (ix3 0 r s : S1x32x2048.Idx) := emb1 t r s

theorem iblk0 : (iblk m c 0 t : Vec Ideal S1x32x2048 .f32) = ag m c := by
  funext y
  obtain ⟨r, s, rfl⟩ := idx_row y
  refine (congrFun (by unfold_abbrev_sides; rfl : (V m c main_arg0 : Vec Ideal S1x32x2048 .f32) = ag m c) _).trans ?_
  exact congrArg (ag m c) (emb0 t r s)

theorem iblk1 : (iblk m c 1 t : Vec Ideal S1x32x2048 .f32) = aw m c := by
  funext y
  obtain ⟨r, s, rfl⟩ := idx_row y
  refine (congrFun (by unfold_abbrev_sides; rfl : (V m c main_arg1 : Vec Ideal S1x32x2048 .f32) = aw m c) _).trans ?_
  exact congrArg (aw m c) (emb1 t r s)

theorem iblk2 : (iblk m c 2 t : Vec Ideal S1x32x2048 .f32) = am m c := by
  funext y
  obtain ⟨r, s, rfl⟩ := idx_row y
  refine (congrFun (by unfold_abbrev_sides; rfl : (V m c main_arg2 : Vec Ideal S1x32x2048 .f32) = am m c) _).trans ?_
  exact congrArg (am m c) (emb1 t r s)

theorem iblk3 : (iblk m c 3 t : Vec Ideal S1x32x2048 .f32) = av m c := by
  funext y
  obtain ⟨r, s, rfl⟩ := idx_row y
  refine (congrFun (by unfold_abbrev_sides; rfl : (V m c main_arg3 : Vec Ideal S1x32x2048 .f32) = av m c) _).trans ?_
  exact congrArg (av m c) (emb1 t r s)

/-! ## The results -/

/-- What the point stores. -/
theorem stored :
    (dats m 0 c).flushed 4 t = (cfg0.win 4).cut (grid0.coords t) (ag m c) ∧
    (dats m 0 c).flushed 5 t = (cfg0.win 5).cut (grid0.coords t) (gainD (ag m c) (aw m c) (am m c) (av m c)) ∧
    (dats m 0 c).flushed 6 t = (cfg0.win 6).cut (grid0.coords t) (gainM (ag m c) (am m c)) ∧
    (dats m 0 c).flushed 7 t = (cfg0.win 7).cut (grid0.coords t) (gainV (ag m c) (av m c)) := by
  rw [Value.flushed4_A m c t, Value.flushed5_A m c t, Value.flushed6_A m c t, Value.flushed7_A m c t, iblk0, iblk1, iblk2, iblk3]
  unfold out0_A_4 out0_A_5 out0_A_6 out0_A_7
  rw [View.read_writes_eq_canon, View.read_writes_eq_canon, View.read_writes_eq_canon, View.read_writes_eq_canon]
  rotate_left
  · exact fun y => cover0_A_7 ..
  · exact fun y => cover0_A_6 ..
  · exact fun y => cover0_A_5 ..
  · exact fun y => cover0_A_4 ..
  unfold kernelRun0_A
  dsimp only
  sl_unfold_words
  rw [View.canon_unit_zero zero3, View.canon_unit_zero zero3, View.canon_unit_zero zero3, View.canon_unit_zero zero3]
  simp only [View.readAt_eq_ld, (hs0_0 t).read_unread, (hs0_1 t).read_unread, (hs0_2 t).read_unread, (hs0_3 t).read_unread,
    View.ld_unit_zero (S := S1x32x2048) zero3]
  exact ⟨congrArg _ (pay_g _), congrArg _ (pay_d _ _ _ _), congrArg _ (pay_m _ _), congrArg _ (pay_v _ _)⟩

theorem result4 : (dats m 0 c).arrAt 4 cfg0.N = (ag m c : Vec Ideal S1x32x2048 .f32) := by
  refine (dats m 0 c).arrAt_eq_of_cover 4 _ (fun t _ => ?_) fun i => ?_
  · rw [(stored m c t).1]
    funext y
    obtain ⟨r, s, rfl⟩ := idx_row (n := 32) (C := 2048) y
    exact (congrArg (ag m c : Vec Ideal S1x32x2048 .f32) (emb4 t r s)).symm
  · obtain ⟨r, s, rfl⟩ := idx_row (n := 32) (C := 2048) i
    let t : Fin cfg0.N := ⟨0, by decide⟩
    exact ⟨t, flush0_4 t, emb4 t r s ▸ View.emb_mem_set _ _⟩

theorem result5 : (dats m 0 c).arrAt 5 cfg0.N = (gainD (ag m c) (aw m c) (am m c) (av m c) : Vec Ideal S1x32x2048 .f32) := by
  refine (dats m 0 c).arrAt_eq_of_cover 5 _ (fun t _ => ?_) fun i => ?_
  · rw [(stored m c t).2.1]
    funext y
    obtain ⟨r, s, rfl⟩ := idx_row (n := 32) (C := 2048) y
    exact (congrArg (gainD (ag m c) (aw m c) (am m c) (av m c) : Vec Ideal S1x32x2048 .f32) (emb5 t r s)).symm
  · obtain ⟨r, s, rfl⟩ := idx_row (n := 32) (C := 2048) i
    let t : Fin cfg0.N := ⟨0, by decide⟩
    exact ⟨t, flush0_5 t, emb5 t r s ▸ View.emb_mem_set _ _⟩

theorem result6 : (dats m 0 c).arrAt 6 cfg0.N = (gainM (ag m c) (am m c) : Vec Ideal S1x32x2048 .f32) := by
  refine (dats m 0 c).arrAt_eq_of_cover 6 _ (fun t _ => ?_) fun i => ?_
  · rw [(stored m c t).2.2.1]
    funext y
    obtain ⟨r, s, rfl⟩ := idx_row (n := 32) (C := 2048) y
    exact (congrArg (gainM (ag m c) (am m c) : Vec Ideal S1x32x2048 .f32) (emb6 t r s)).symm
  · obtain ⟨r, s, rfl⟩ := idx_row (n := 32) (C := 2048) i
    let t : Fin cfg0.N := ⟨0, by decide⟩
    exact ⟨t, flush0_6 t, emb6 t r s ▸ View.emb_mem_set _ _⟩

theorem result7 : (dats m 0 c).arrAt 7 cfg0.N = (gainV (ag m c) (av m c) : Vec Ideal S1x32x2048 .f32) := by
  refine (dats m 0 c).arrAt_eq_of_cover 7 _ (fun t _ => ?_) fun i => ?_
  · rw [(stored m c t).2.2.2]
    funext y
    obtain ⟨r, s, rfl⟩ := idx_row (n := 32) (C := 2048) y
    exact (congrArg (gainV (ag m c) (av m c) : Vec Ideal S1x32x2048 .f32) (emb7 t r s)).symm
  · obtain ⟨r, s, rfl⟩ := idx_row (n := 32) (C := 2048) i
    let t : Fin cfg0.N := ⟨0, by decide⟩
    exact ⟨t, flush0_7 t, emb7 t r s ▸ View.emb_mem_set _ _⟩

/-- The run with the four results at their functions of the arguments. -/
theorem run : θ_run defs (onTc (τ := τ) (main (F := Ideal))) ⟨m, fun _ => 0, ρ⟩ fun r => ∀ c : Dev nD,
      r.2.mem ((c : Thread nD τ).loc main_v0_0) = (ag m c : Vec Ideal S1x32x2048 .f32)
      ∧ r.2.mem ((c : Thread nD τ).loc main_v0_1) = (gainD (ag m c) (aw m c) (am m c) (av m c) : Vec Ideal S1x32x2048 .f32)
      ∧ r.2.mem ((c : Thread nD τ).loc main_v0_2) = (gainM (ag m c) (am m c) : Vec Ideal S1x32x2048 .f32)
      ∧ r.2.mem ((c : Thread nD τ).loc main_v0_3) = (gainV (ag m c) (av m c) : Vec Ideal S1x32x2048 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result4 m c), (h c).2.1.trans (result5 m c), (h c).2.2.1.trans (result6 m c),
      (h c).2.2.2.1.trans (result7 m c), (h c).2.2.2.2⟩)
    (Value.run_blocks m ρ)

end Cert.Proof.AdamGains

end
-- ==== Proof.AdamGainsRef.lean ====
/- The optimiser's step on the norms' gains: the reference's results index by index, and their equality with the kernel's. -/
module

public import proofs.«01_k».proof.Proof.AdamGains
public import proofs.«01_k».proof.Proof.Gen.Reference22Ideal.Run
public import proofs.«01_k».proof.Proof.Gen.Reference22Ideal.Read
public import proofs.«01_k».proof.Defs

@[expose] public section

set_option maxRecDepth 16384

noncomputable section

namespace Cert.Proof.AdamGains

open Idealize.ShloMosaic Idealize.ShloMosaic.TcCoe Idealize.SL.Sem
open Cert.Reference22Ideal Cert.Reference22Ideal.Gen Cert.Reference22Ideal.Value
open Cert.Proof.Adam

variable (x0 x1 x2 x3 : Vec Ideal S1x32x2048 .f32)

theorem ref_moment : Read.val_main_v4 (F := Ideal) x0 x2 = gainM x0 x2 := by
  funext i
  unfold gainM moment Read.val_main_v4 Read.val_main_v1 Read.val_main_v3 Read.val_main_v0 Read.val_main_v2 Read.val_main_cst Read.val_main_cst_0
  pointwise

theorem ref_square : Read.val_main_v10 (F := Ideal) x0 x3 = gainV x0 x3 := by
  funext i
  unfold gainV square Read.val_main_v10 Read.val_main_v6 Read.val_main_v9 Read.val_main_v5 Read.val_main_v7 Read.val_main_v8 Read.val_main_cst_1 Read.val_main_cst_2
  pointwise

theorem ref_step : Read.val_main_v23 (F := Ideal) x0 x1 x2 x3 = gainD x0 x1 x2 x3 := by
  funext i
  show _ = Ideal.ofBits .f32 0xBA83126F#32
    * (Ideal.div (Ideal.div (gainM x0 x2 i) (Ideal.ofBits .f32 0x3F26BD02#32))
        (Ideal.sqrt (Ideal.div (gainV x0 x3 i) (Ideal.ofBits .f32 0x3C231ACC#32)) + Ideal.ofBits .f32 0x322BCC77#32)
      + Ideal.ofBits .f32 0x3C23D70A#32 * x1 i)
  rw [← ref_moment, ← ref_square]
  unfold Read.val_main_v23 Read.val_main_v21 Read.val_main_v18 Read.val_main_v20 Read.val_main_v12 Read.val_main_v17 Read.val_main_v15
    Read.val_main_v14 Read.val_main_v22 Read.val_main_v19 Read.val_main_v16 Read.val_main_v13 Read.val_main_v11
    Read.val_main_cst_3 Read.val_main_cst_4 Read.val_main_cst_5 Read.val_main_cst_6 Read.val_main_cst_7
  generalize Read.val_main_v4 (F := Ideal) x0 x2 = a
  generalize Read.val_main_v10 (F := Ideal) x0 x3 = b
  pointwise

/-- The optimiser's step by the kernel and by the reference: equal results on equal arguments, the arguments kept. -/
theorem algebraic : Cert.algebraic_Kernel22Ideal_Reference22Ideal := by
  intro m g m' g' _ hargs
  refine ⟨fun c => ag m c, fun c => gainD (ag m c) (aw m c) (am m c) (av m c), fun c => gainM (ag m c) (am m c), fun c => gainV (ag m c) (av m c), run m g, ?_⟩
  refine (θ_run _ _ _).mono (fun r h c => ?_) (Cert.Reference22Ideal.Value.run m' g')
  obtain ⟨e1, e2, e3, e4, ek⟩ := h c
  obtain ⟨a0, a1, a2, a3⟩ := hargs c
  refine ⟨e1.trans a0, e2.trans ?_, e3.trans ?_, e4.trans ?_, ek⟩
  · rw [a0, a1, a2, a3, Read.val_main_v23_eq]
    exact ref_step _ _ _ _
  · rw [a0, a2, Read.val_main_v4_eq]
    exact ref_moment _ _
  · rw [a0, a3, Read.val_main_v10_eq]
    exact ref_square _ _

end Cert.Proof.AdamGains

end
-- ==== Proof.lean ====
/- The proof of every claim that Defs.lean states of the twenty-two programs and of their references: the frames, that each
   kernel's extended-real reading is the kernel itself, and that each kernel computes its reference. The frames of the
   kernels are the generated ones; the frames of the references follow from their generated runs; each equality of results
   is proved in a module of its own, named in its conjunct below. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Pre_gate_finite
public import Idealize.ShloMosaic.Adequacy
public import Idealize.ShloMosaic.Init
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Kernel7Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference5Ideal.Run
public import proofs.«01_k».proof.Proof.Gen.Reference5Ideal.Read
public import proofs.«01_k».proof.Proof.Gen.Reference6Ideal.Run
public import proofs.«01_k».proof.Proof.Gen.Reference6Ideal.Read
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Kernel9Ideal.Value
public import proofs.«01_k».proof.Proof.Gen.Kernel10Ideal.Value
public import proofs.«01_k».proof.Proof.Gen.Kernel11Ideal.Value
public import proofs.«01_k».proof.Proof.Gen.Kernel12Ideal.Value
public import proofs.«01_k».proof.Proof.Gen.Kernel13Ideal.Value
public import proofs.«01_k».proof.Proof.Gen.Kernel14Ideal.Value
public import proofs.«01_k».proof.Proof.Gen.Reference8Ideal.Run
public import proofs.«01_k».proof.Proof.Gen.Reference8Ideal.Read
public import proofs.«01_k».proof.Proof.Gen.Reference9Ideal.Run
public import proofs.«01_k».proof.Proof.Gen.Reference9Ideal.Read
public import proofs.«01_k».proof.Proof.Gen.Reference10Ideal.Run
public import proofs.«01_k».proof.Proof.Gen.Reference10Ideal.Read
public import proofs.«01_k».proof.Proof.Gen.Reference11Ideal.Run
public import proofs.«01_k».proof.Proof.Gen.Reference11Ideal.Read
public import proofs.«01_k».proof.Proof.Gen.Reference12Ideal.Run
public import proofs.«01_k».proof.Proof.Gen.Reference12Ideal.Read
public import proofs.«01_k».proof.Proof.Gen.Reference13Ideal.Run
public import proofs.«01_k».proof.Proof.Gen.Reference13Ideal.Read
public import proofs.«01_k».proof.Proof.Gen.Reference14Ideal.Run
public import proofs.«01_k».proof.Proof.Gen.Reference14Ideal.Read
public import proofs.«01_k».proof.Proof.GateRef
public import proofs.«01_k».proof.Proof.DownRef
public import proofs.«01_k».proof.Proof.WideRef
public import proofs.«01_k».proof.Proof.UpRef
public import proofs.«01_k».proof.Proof.InputRef
public import proofs.«01_k».proof.Proof.FrontRef
public import proofs.«01_k».proof.Proof.BackRef
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.MixProjRef
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.MixInputRef
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.MixWeightRef
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.HeadUpperRef
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.HeadLowerRef
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.OutWeightRef
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.MixOutputRef
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel15.Loops
public import proofs.«01_k».proof.Proof.Gen.Kernel15Ideal.Loops
public import proofs.«01_k».proof.Proof.Gen.Pre_scores_finite
public import proofs.«01_k».proof.Proof.AttendRef
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.AdamWideRef
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Reference17Ideal.Read
public import proofs.«01_k».proof.Proof.AdamDownRef
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Reference18Ideal.Read
public import proofs.«01_k».proof.Proof.AdamInRef
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.Gen.Reference19Ideal.Read
public import proofs.«01_k».proof.Proof.AdamQRef
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Gen.Reference20Ideal.Read
public import proofs.«01_k».proof.Proof.AdamKVRef
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.Gen.Reference21Ideal.Read
public import proofs.«01_k».proof.Proof.AdamOutRef
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel22Ideal.Value
public import proofs.«01_k».proof.Proof.Gen.Reference22Ideal.Run
public import proofs.«01_k».proof.Proof.Gen.Reference22Ideal.Read
public import proofs.«01_k».proof.Proof.AdamGainsRef

@[expose] public section

noncomputable section

namespace Cert.Proof

open Idealize.ShloMosaic Idealize.SL.Sem

/-- The reference of the gradients of the gate half ends, leaves its arguments as they were and every counter at zero: its generated
    run read at the arguments; it declares no counter. -/
theorem frame_reference : Cert.quiescent_ReferenceIdeal := by
  intro m ρ _
  exact (θ_run Cert.ReferenceIdeal.defs _ _).mono (fun r h => ⟨fun c => ⟨(h c).2.2.1, (h c).2.2.2.1, (h c).2.2.2.2.1, (h c).2.2.2.2.2⟩,
      sem_eq_zero_of_no_sems (by decide) r.2⟩)
    (Cert.ReferenceIdeal.Value.run (F := Ideal) m ρ)

/-- The reference of the gradient of the down matrix ends, leaves its arguments as they were and every counter at zero: its generated
    run read at the arguments; it declares no counter. -/
theorem frame_reference2 : Cert.quiescent_Reference2Ideal := by
  intro m ρ _
  exact (θ_run Cert.Reference2Ideal.defs _ _).mono (fun r h => ⟨fun c => ⟨(h c).2.1, (h c).2.2.1, (h c).2.2.2⟩,
      sem_eq_zero_of_no_sems (by decide) r.2⟩)
    (Cert.Reference2Ideal.Value.run (F := Ideal) m ρ)

/-- The reference of the gradient of one of the two up matrices ends, leaves its arguments as they were and every counter at zero: its generated
    run read at the arguments; it declares no counter. -/
theorem frame_reference3 : Cert.quiescent_Reference3Ideal := by
  intro m ρ _
  exact (θ_run Cert.Reference3Ideal.defs _ _).mono (fun r h => ⟨fun c => ⟨(h c).2.1, (h c).2.2.1, (h c).2.2.2⟩,
      sem_eq_zero_of_no_sems (by decide) r.2⟩)
    (Cert.Reference3Ideal.Value.run (F := Ideal) m ρ)

/-- The reference of the gradients of the input and of the gain ends, leaves its arguments as they were and every counter at zero: its generated
    run read at the arguments; it declares no counter. -/
theorem frame_reference5 : Cert.quiescent_Reference5Ideal := by
  intro m ρ _
  exact (θ_run Cert.Reference5Ideal.defs _ _).mono (fun r h => ⟨fun c => ⟨(h c).2.2.1, (h c).2.2.2.1, (h c).2.2.2.2.1, (h c).2.2.2.2.2.1, (h c).2.2.2.2.2.2.1, (h c).2.2.2.2.2.2.2.1, (h c).2.2.2.2.2.2.2.2⟩,
      sem_eq_zero_of_no_sems (by decide) r.2⟩)
    (Cert.Reference5Ideal.Value.run (F := Ideal) m ρ)

/-- The reference of the forward step into the wide layer ends, leaves its arguments as they were and every counter at zero: its generated
    run read at the arguments; it declares no counter. -/
theorem frame_reference6 : Cert.quiescent_Reference6Ideal := by
  intro m ρ _
  exact (θ_run Cert.Reference6Ideal.defs _ _).mono (fun r h => ⟨fun c => ⟨(h c).2.2.2.1, (h c).2.2.2.2.1, (h c).2.2.2.2.2.1, (h c).2.2.2.2.2.2⟩,
      sem_eq_zero_of_no_sems (by decide) r.2⟩)
    (Cert.Reference6Ideal.Value.run (F := Ideal) m ρ)

/-- The reference of the forward step out of the wide layer ends, leaves its arguments as they were and every counter at zero: its generated
    run read at the arguments; it declares no counter. -/
theorem frame_reference7 : Cert.quiescent_Reference7Ideal := by
  intro m ρ _
  exact (θ_run Cert.Reference7Ideal.defs _ _).mono (fun r h => ⟨fun c => ⟨(h c).2.2.1, (h c).2.2.2.1, (h c).2.2.2.2.1, (h c).2.2.2.2.2.1, (h c).2.2.2.2.2.2⟩,
      sem_eq_zero_of_no_sems (by decide) r.2⟩)
    (Cert.Reference7Ideal.Value.run (F := Ideal) m ρ)

/-- The reference of the input projection of the mixing layer ends, leaves its arguments as they were and every counter at zero: its generated
    run read at the arguments; it declares no counter. -/
theorem frame_reference8 : Cert.quiescent_Reference8Ideal := by
  intro m ρ _
  exact (θ_run Cert.Reference8Ideal.defs _ _).mono (fun r h => ⟨fun c => ⟨(h c).2.1, (h c).2.2.1, (h c).2.2.2⟩,
      sem_eq_zero_of_no_sems (by decide) r.2⟩)
    (Cert.Reference8Ideal.Value.run (F := Ideal) m ρ)

/-- The reference of the gradient of the mixing layer's normed input ends, leaves its arguments as they were and every counter at zero: its generated
    run read at the arguments; it declares no counter. -/
theorem frame_reference9 : Cert.quiescent_Reference9Ideal := by
  intro m ρ _
  exact (θ_run Cert.Reference9Ideal.defs _ _).mono (fun r h => ⟨fun c => ⟨(h c).2.1, (h c).2.2⟩,
      sem_eq_zero_of_no_sems (by decide) r.2⟩)
    (Cert.Reference9Ideal.Value.run (F := Ideal) m ρ)

/-- The reference of the gradient of the mixing layer's input projection ends, leaves its arguments as they were and every counter at zero: its generated
    run read at the arguments; it declares no counter. -/
theorem frame_reference10 : Cert.quiescent_Reference10Ideal := by
  intro m ρ _
  exact (θ_run Cert.Reference10Ideal.defs _ _).mono (fun r h => ⟨fun c => ⟨(h c).2.1, (h c).2.2.1, (h c).2.2.2⟩,
      sem_eq_zero_of_no_sems (by decide) r.2⟩)
    (Cert.Reference10Ideal.Value.run (F := Ideal) m ρ)

/-- The reference of the gradient of the first half of the heads' outputs ends, leaves its arguments as they were and every counter at zero: its generated
    run read at the arguments; it declares no counter. -/
theorem frame_reference11 : Cert.quiescent_Reference11Ideal := by
  intro m ρ _
  exact (θ_run Cert.Reference11Ideal.defs _ _).mono (fun r h => ⟨fun c => ⟨(h c).2.1, (h c).2.2⟩,
      sem_eq_zero_of_no_sems (by decide) r.2⟩)
    (Cert.Reference11Ideal.Value.run (F := Ideal) m ρ)

/-- The reference of the gradient of the second half of the heads' outputs ends, leaves its arguments as they were and every counter at zero: its generated
    run read at the arguments; it declares no counter. -/
theorem frame_reference12 : Cert.quiescent_Reference12Ideal := by
  intro m ρ _
  exact (θ_run Cert.Reference12Ideal.defs _ _).mono (fun r h => ⟨fun c => ⟨(h c).2.1, (h c).2.2⟩,
      sem_eq_zero_of_no_sems (by decide) r.2⟩)
    (Cert.Reference12Ideal.Value.run (F := Ideal) m ρ)

/-- The reference of the gradient of the mixing layer's output projection ends, leaves its arguments as they were and every counter at zero: its generated
    run read at the arguments; it declares no counter. -/
theorem frame_reference13 : Cert.quiescent_Reference13Ideal := by
  intro m ρ _
  exact (θ_run Cert.Reference13Ideal.defs _ _).mono (fun r h => ⟨fun c => ⟨(h c).2.1, (h c).2.2.1, (h c).2.2.2⟩,
      sem_eq_zero_of_no_sems (by decide) r.2⟩)
    (Cert.Reference13Ideal.Value.run (F := Ideal) m ρ)

/-- The reference of the output projection of the mixing layer ends, leaves its arguments as they were and every counter at zero: its generated
    run read at the arguments; it declares no counter. -/
theorem frame_reference14 : Cert.quiescent_Reference14Ideal := by
  intro m ρ _
  exact (θ_run Cert.Reference14Ideal.defs _ _).mono (fun r h => ⟨fun c => ⟨(h c).2.2.1, (h c).2.2.2.1, (h c).2.2.2.2.1, (h c).2.2.2.2.2.1, (h c).2.2.2.2.2.2⟩,
      sem_eq_zero_of_no_sems (by decide) r.2⟩)
    (Cert.Reference14Ideal.Value.run (F := Ideal) m ρ)

/-- The reference of the attention ends, leaves its arguments as they were and every counter at zero: its generated
    run read at the arguments; it declares no counter. -/
theorem frame_reference15 : Cert.quiescent_Reference15Ideal := by
  intro m ρ _
  exact (θ_run Cert.Reference15Ideal.defs _ _).mono (fun r h => ⟨fun c => ⟨(h c).2.2.1, (h c).2.2.2.1, (h c).2.2.2.2.1, (h c).2.2.2.2.2.1, (h c).2.2.2.2.2.2⟩,
      sem_eq_zero_of_no_sems (by decide) r.2⟩)
    (Cert.Reference15Ideal.Value.run (F := Ideal) m ρ)

/-- The reference of the optimiser's step on `w_gate` and `w_up` ends, leaves its arguments as they were and every counter at zero. -/
theorem frame_reference16 : Cert.quiescent_Reference16Ideal := by
  intro m ρ _
  exact (θ_run Cert.Reference16Ideal.defs _ _).mono (fun r h => ⟨fun c => (h c).2.2.2.2, sem_eq_zero_of_no_sems (by decide) r.2⟩)
    (Cert.Reference16Ideal.Value.run (F := Ideal) m ρ)

/-- The reference of the optimiser's step on `w_down` ends, leaves its arguments as they were and every counter at zero. -/
theorem frame_reference17 : Cert.quiescent_Reference17Ideal := by
  intro m ρ _
  exact (θ_run Cert.Reference17Ideal.defs _ _).mono (fun r h => ⟨fun c => (h c).2.2.2.2, sem_eq_zero_of_no_sems (by decide) r.2⟩)
    (Cert.Reference17Ideal.Value.run (F := Ideal) m ρ)

/-- The reference of the optimiser's step on `w_in` ends, leaves its arguments as they were and every counter at zero. -/
theorem frame_reference18 : Cert.quiescent_Reference18Ideal := by
  intro m ρ _
  exact (θ_run Cert.Reference18Ideal.defs _ _).mono (fun r h => ⟨fun c => (h c).2.2.2.2, sem_eq_zero_of_no_sems (by decide) r.2⟩)
    (Cert.Reference18Ideal.Value.run (F := Ideal) m ρ)

/-- The reference of the optimiser's step on `mla_w_uq` ends, leaves its arguments as they were and every counter at zero. -/
theorem frame_reference19 : Cert.quiescent_Reference19Ideal := by
  intro m ρ _
  exact (θ_run Cert.Reference19Ideal.defs _ _).mono (fun r h => ⟨fun c => (h c).2.2.2.2, sem_eq_zero_of_no_sems (by decide) r.2⟩)
    (Cert.Reference19Ideal.Value.run (F := Ideal) m ρ)

/-- The reference of the optimiser's step on `mla_w_ukv` ends, leaves its arguments as they were and every counter at zero. -/
theorem frame_reference20 : Cert.quiescent_Reference20Ideal := by
  intro m ρ _
  exact (θ_run Cert.Reference20Ideal.defs _ _).mono (fun r h => ⟨fun c => (h c).2.2.2.2, sem_eq_zero_of_no_sems (by decide) r.2⟩)
    (Cert.Reference20Ideal.Value.run (F := Ideal) m ρ)

/-- The reference of the optimiser's step on `w_o` ends, leaves its arguments as they were and every counter at zero. -/
theorem frame_reference21 : Cert.quiescent_Reference21Ideal := by
  intro m ρ _
  exact (θ_run Cert.Reference21Ideal.defs _ _).mono (fun r h => ⟨fun c => (h c).2.2.2.2, sem_eq_zero_of_no_sems (by decide) r.2⟩)
    (Cert.Reference21Ideal.Value.run (F := Ideal) m ρ)

/-- The reference of the optimiser's step on the norms' gains likewise. -/
theorem frame_reference22 : Cert.quiescent_Reference22Ideal := by
  intro m ρ _
  exact (θ_run Cert.Reference22Ideal.defs _ _).mono (fun r h => ⟨fun c => (h c).2.2.2.2, sem_eq_zero_of_no_sems (by decide) r.2⟩)
    (Cert.Reference22Ideal.Value.run (F := Ideal) m ρ)

/-- All the claims, in the order in which they are stated. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Pre_gate_finite.Gen.facts, Cert.Pre_scores_finite.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    fun m ρ _ => Cert.Kernel10.Gen.frame m ρ,
    fun m ρ _ => Cert.Kernel10Ideal.Gen.frame m ρ,
    frame_reference10,
    fun m ρ _ => Cert.Kernel11.Gen.frame m ρ,
    fun m ρ _ => Cert.Kernel11Ideal.Gen.frame m ρ,
    frame_reference11,
    fun m ρ _ => Cert.Kernel12.Gen.frame m ρ,
    fun m ρ _ => Cert.Kernel12Ideal.Gen.frame m ρ,
    frame_reference12,
    fun m ρ _ => Cert.Kernel13.Gen.frame m ρ,
    fun m ρ _ => Cert.Kernel13Ideal.Gen.frame m ρ,
    frame_reference13,
    fun m ρ _ => Cert.Kernel14.Gen.frame m ρ,
    fun m ρ _ => Cert.Kernel14Ideal.Gen.frame m ρ,
    frame_reference14,
    fun m ρ _ => Cert.Kernel15.Gen.frame m ρ,
    fun m ρ _ => Cert.Kernel15Ideal.Gen.frame m ρ,
    fun m ρ _ => Cert.Kernel15Ideal.Gen.frame m ρ,
    frame_reference15,
    fun m ρ _ => frame_reference15 m ρ trivial,
    fun m ρ _ => Cert.Kernel16.Gen.frame m ρ,
    fun m ρ _ => Cert.Kernel16Ideal.Gen.frame m ρ,
    frame_reference16,
    fun m ρ _ => Cert.Kernel17.Gen.frame m ρ,
    fun m ρ _ => Cert.Kernel17Ideal.Gen.frame m ρ,
    frame_reference17,
    fun m ρ _ => Cert.Kernel18.Gen.frame m ρ,
    fun m ρ _ => Cert.Kernel18Ideal.Gen.frame m ρ,
    frame_reference18,
    fun m ρ _ => Cert.Kernel19.Gen.frame m ρ,
    fun m ρ _ => Cert.Kernel19Ideal.Gen.frame m ρ,
    frame_reference19,
    fun m ρ _ => Cert.Kernel20.Gen.frame m ρ,
    fun m ρ _ => Cert.Kernel20Ideal.Gen.frame m ρ,
    frame_reference20,
    fun m ρ _ => Cert.Kernel21.Gen.frame m ρ,
    fun m ρ _ => Cert.Kernel21Ideal.Gen.frame m ρ,
    frame_reference21,
    fun m ρ _ => Cert.Kernel22.Gen.frame m ρ,
    fun m ρ _ => Cert.Kernel22Ideal.Gen.frame m ρ,
    frame_reference22,
    trivial,
    Cert.Proof.Gate.algebraic,
    trivial,
    Cert.Proof.Down.algebraic,
    trivial,
    Cert.Proof.Wide.algebraic,
    trivial,
    Cert.Proof.Up.algebraic,
    trivial,
    Cert.Proof.Input.algebraic,
    trivial,
    Cert.Proof.Front.algebraic,
    trivial,
    Cert.Proof.Back.algebraic,
    trivial,
    Cert.Proof.MixProj.algebraic,
    trivial,
    Cert.Proof.MixInput.algebraic,
    trivial,
    Cert.Proof.MixWeight.algebraic,
    trivial,
    Cert.Proof.HeadUpper.algebraic,
    trivial,
    Cert.Proof.HeadLower.algebraic,
    trivial,
    Cert.Proof.OutWeight.algebraic,
    trivial,
    Cert.Proof.MixOutput.algebraic,
    Cert.Proof.Attend.preserves,
    Cert.Proof.Attend.algebraic,
    trivial,
    Cert.Proof.AdamWide.algebraic,
    trivial,
    Cert.Proof.AdamDown.algebraic,
    trivial,
    Cert.Proof.AdamIn.algebraic,
    trivial,
    Cert.Proof.AdamQ.algebraic,
    trivial,
    Cert.Proof.AdamKV.algebraic,
    trivial,
    Cert.Proof.AdamOut.algebraic,
    trivial,
    Cert.Proof.AdamGains.algebraic⟩

end Cert.Proof

end
